-- ==== Defs.lean ====
def Pre_ConvPost (m : (ℓ : Loc Cert.ConvPost.nD Cert.ConvPost.τ Cert.ConvPost.sig) → Buf (Elt Bits) ℓ) : Prop :=
  True

def Pre_ConvPostIdeal (m : (ℓ : Loc Cert.ConvPostIdeal.nD Cert.ConvPostIdeal.τ Cert.ConvPostIdeal.sig) → Buf (Elt Ideal) ℓ) : Prop :=
  True

def Pre_ConvPostIdeal_conv_post_finite [hPre_conv_post_finite : Cert.Pre_conv_post_finite.Facts] (m : (ℓ : Loc Cert.ConvPostIdeal.nD Cert.ConvPostIdeal.τ Cert.ConvPostIdeal.sig) → Buf (Elt Ideal) ℓ) : Prop :=
  ∀ c : Dev Cert.ConvPostIdeal.nD,
    (Cert.Pre_conv_post_finite.fn (F := Ideal) (m ((c.tc : Thread Cert.ConvPostIdeal.nD Cert.ConvPostIdeal.τ).loc Cert.ConvPostIdeal.main_arg0)) (m ((c.tc : Thread Cert.ConvPostIdeal.nD Cert.ConvPostIdeal.τ).loc Cert.ConvPostIdeal.main_arg1)) (m ((c.tc : Thread Cert.ConvPostIdeal.nD Cert.ConvPostIdeal.τ).loc Cert.ConvPostIdeal.main_arg2)) (m ((c.tc : Thread Cert.ConvPostIdeal.nD Cert.ConvPostIdeal.τ).loc Cert.ConvPostIdeal.main_arg3))) = (fun _ => 1#1)

def Pre_ConvPostRefIdeal (m : (ℓ : Loc Cert.ConvPostRefIdeal.nD Cert.ConvPostRefIdeal.τ Cert.ConvPostRefIdeal.sig) → Buf (Elt Ideal) ℓ) : Prop :=
  True

def Pre_ConvPostRefIdeal_conv_post_finite [hPre_conv_post_finite : Cert.Pre_conv_post_finite.Facts] (m : (ℓ : Loc Cert.ConvPostRefIdeal.nD Cert.ConvPostRefIdeal.τ Cert.ConvPostRefIdeal.sig) → Buf (Elt Ideal) ℓ) : Prop :=
  ∀ c : Dev Cert.ConvPostRefIdeal.nD,
    (Cert.Pre_conv_post_finite.fn (F := Ideal) (m ((c.tc : Thread Cert.ConvPostRefIdeal.nD Cert.ConvPostRefIdeal.τ).loc Cert.ConvPostRefIdeal.main_arg0)) (m ((c.tc : Thread Cert.ConvPostRefIdeal.nD Cert.ConvPostRefIdeal.τ).loc Cert.ConvPostRefIdeal.main_arg1)) (m ((c.tc : Thread Cert.ConvPostRefIdeal.nD Cert.ConvPostRefIdeal.τ).loc Cert.ConvPostRefIdeal.main_arg2)) (m ((c.tc : Thread Cert.ConvPostRefIdeal.nD Cert.ConvPostRefIdeal.τ).loc Cert.ConvPostRefIdeal.main_arg3))) = (fun _ => 1#1)

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradInOne (m : (ℓ : Loc Cert.GradInOne.nD Cert.GradInOne.τ Cert.GradInOne.sig) → Buf (Elt Bits) ℓ) : Prop :=
  True

def Pre_GradInOneIdeal (m : (ℓ : Loc Cert.GradInOneIdeal.nD Cert.GradInOneIdeal.τ Cert.GradInOneIdeal.sig) → Buf (Elt Ideal) ℓ) : Prop :=
  True

def Pre_GradInOneRefIdeal (m : (ℓ : Loc Cert.GradInOneRefIdeal.nD Cert.GradInOneRefIdeal.τ Cert.GradInOneRefIdeal.sig) → Buf (Elt Ideal) ℓ) : Prop :=
  True

def Pre_GradInThree (m : (ℓ : Loc Cert.GradInThree.nD Cert.GradInThree.τ Cert.GradInThree.sig) → Buf (Elt Bits) ℓ) : Prop :=
  True

def Pre_GradInThreeIdeal (m : (ℓ : Loc Cert.GradInThreeIdeal.nD Cert.GradInThreeIdeal.τ Cert.GradInThreeIdeal.sig) → Buf (Elt Ideal) ℓ) : Prop :=
  True

def Pre_GradInThreeRefIdeal (m : (ℓ : Loc Cert.GradInThreeRefIdeal.nD Cert.GradInThreeRefIdeal.τ Cert.GradInThreeRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackIdeal_ffn_back_finite [hPre_ffn_back_finite : Cert.Pre_ffn_back_finite.Facts] (m : (ℓ : Loc Cert.FfnBackIdeal.nD Cert.FfnBackIdeal.τ Cert.FfnBackIdeal.sig) → Buf (Elt Ideal) ℓ) : Prop :=
  ∀ c : Dev Cert.FfnBackIdeal.nD,
    (Cert.Pre_ffn_back_finite.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3)) (m ((c.tc : Thread Cert.FfnBackIdeal.nD Cert.FfnBackIdeal.τ).loc Cert.FfnBackIdeal.main_arg4)) (m ((c.tc : Thread Cert.FfnBackIdeal.nD Cert.FfnBackIdeal.τ).loc Cert.FfnBackIdeal.main_arg5))) = (fun _ => 1#1)

def Pre_FfnBackRefIdeal (m : (ℓ : Loc Cert.FfnBackRefIdeal.nD Cert.FfnBackRefIdeal.τ Cert.FfnBackRefIdeal.sig) → Buf (Elt Ideal) ℓ) : Prop :=
  True

def Pre_FfnBackRefIdeal_ffn_back_finite [hPre_ffn_back_finite : Cert.Pre_ffn_back_finite.Facts] (m : (ℓ : Loc Cert.FfnBackRefIdeal.nD Cert.FfnBackRefIdeal.τ Cert.FfnBackRefIdeal.sig) → Buf (Elt Ideal) ℓ) : Prop :=
  ∀ c : Dev Cert.FfnBackRefIdeal.nD,
    (Cert.Pre_ffn_back_finite.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3)) (m ((c.tc : Thread Cert.FfnBackRefIdeal.nD Cert.FfnBackRefIdeal.τ).loc Cert.FfnBackRefIdeal.main_arg4)) (m ((c.tc : Thread Cert.FfnBackRefIdeal.nD Cert.FfnBackRefIdeal.τ).loc Cert.FfnBackRefIdeal.main_arg5))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_GradConvIn (m : (ℓ : Loc Cert.GradConvIn.nD Cert.GradConvIn.τ Cert.GradConvIn.sig) → Buf (Elt Bits) ℓ) : Prop :=
  True

def Pre_GradConvInIdeal (m : (ℓ : Loc Cert.GradConvInIdeal.nD Cert.GradConvInIdeal.τ Cert.GradConvInIdeal.sig) → Buf (Elt Ideal) ℓ) : Prop :=
  True

def Pre_GradConvInRefIdeal (m : (ℓ : Loc Cert.GradConvInRefIdeal.nD Cert.GradConvInRefIdeal.τ Cert.GradConvInRefIdeal.sig) → Buf (Elt Ideal) ℓ) : Prop :=
  True

def Pre_GradConvOut (m : (ℓ : Loc Cert.GradConvOut.nD Cert.GradConvOut.τ Cert.GradConvOut.sig) → Buf (Elt Bits) ℓ) : Prop :=
  True

def Pre_GradConvOutIdeal (m : (ℓ : Loc Cert.GradConvOutIdeal.nD Cert.GradConvOutIdeal.τ Cert.GradConvOutIdeal.sig) → Buf (Elt Ideal) ℓ) : Prop :=
  True

def Pre_GradConvOutRefIdeal (m : (ℓ : Loc Cert.GradConvOutRefIdeal.nD Cert.GradConvOutRefIdeal.τ Cert.GradConvOutRefIdeal.sig) → Buf (Elt Ideal) ℓ) : Prop :=
  True

def Pre_GradAttnOut (m : (ℓ : Loc Cert.GradAttnOut.nD Cert.GradAttnOut.τ Cert.GradAttnOut.sig) → Buf (Elt Bits) ℓ) : Prop :=
  True

def Pre_GradAttnOutIdeal (m : (ℓ : Loc Cert.GradAttnOutIdeal.nD Cert.GradAttnOutIdeal.τ Cert.GradAttnOutIdeal.sig) → Buf (Elt Ideal) ℓ) : Prop :=
  True

def Pre_GradAttnOutRefIdeal (m : (ℓ : Loc Cert.GradAttnOutRefIdeal.nD Cert.GradAttnOutRefIdeal.τ Cert.GradAttnOutRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradUpQ (m : (ℓ : Loc Cert.GradUpQ.nD Cert.GradUpQ.τ Cert.GradUpQ.sig) → Buf (Elt Bits) ℓ) : Prop :=
  True

def Pre_GradUpQIdeal (m : (ℓ : Loc Cert.GradUpQIdeal.nD Cert.GradUpQIdeal.τ Cert.GradUpQIdeal.sig) → Buf (Elt Ideal) ℓ) : Prop :=
  True

def Pre_GradUpQRefIdeal (m : (ℓ : Loc Cert.GradUpQRefIdeal.nD Cert.GradUpQRefIdeal.τ Cert.GradUpQRefIdeal.sig) → Buf (Elt Ideal) ℓ) : Prop :=
  True

def Pre_GradUpKv (m : (ℓ : Loc Cert.GradUpKv.nD Cert.GradUpKv.τ Cert.GradUpKv.sig) → Buf (Elt Bits) ℓ) : Prop :=
  True

def Pre_GradUpKvIdeal (m : (ℓ : Loc Cert.GradUpKvIdeal.nD Cert.GradUpKvIdeal.τ Cert.GradUpKvIdeal.sig) → Buf (Elt Ideal) ℓ) : Prop :=
  True

def Pre_GradUpKvRefIdeal (m : (ℓ : Loc Cert.GradUpKvRefIdeal.nD Cert.GradUpKvRefIdeal.τ Cert.GradUpKvRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnOutBack (m : (ℓ : Loc Cert.AttnOutBack.nD Cert.AttnOutBack.τ Cert.AttnOutBack.sig) → Buf (Elt Bits) ℓ) : Prop :=
  True

def Pre_AttnOutBackIdeal (m : (ℓ : Loc Cert.AttnOutBackIdeal.nD Cert.AttnOutBackIdeal.τ Cert.AttnOutBackIdeal.sig) → Buf (Elt Ideal) ℓ) : Prop :=
  True

def Pre_AttnOutBackRefIdeal (m : (ℓ : Loc Cert.AttnOutBackRefIdeal.nD Cert.AttnOutBackRefIdeal.τ Cert.AttnOutBackRefIdeal.sig) → Buf (Elt Ideal) ℓ) : Prop :=
  True

def Pre_ConvPre (m : (ℓ : Loc Cert.ConvPre.nD Cert.ConvPre.τ Cert.ConvPre.sig) → Buf (Elt Bits) ℓ) : Prop :=
  True

def Pre_ConvPreIdeal (m : (ℓ : Loc Cert.ConvPreIdeal.nD Cert.ConvPreIdeal.τ Cert.ConvPreIdeal.sig) → Buf (Elt Ideal) ℓ) : Prop :=
  True

def Pre_ConvPreRefIdeal (m : (ℓ : Loc Cert.ConvPreRefIdeal.nD Cert.ConvPreRefIdeal.τ Cert.ConvPreRefIdeal.sig) → Buf (Elt Ideal) ℓ) : Prop :=
  True

def Pre_MlaPre (m : (ℓ : Loc Cert.MlaPre.nD Cert.MlaPre.τ Cert.MlaPre.sig) → Buf (Elt Bits) ℓ) : Prop :=
  True

def Pre_MlaPreIdeal (m : (ℓ : Loc Cert.MlaPreIdeal.nD Cert.MlaPreIdeal.τ Cert.MlaPreIdeal.sig) → Buf (Elt Ideal) ℓ) : Prop :=
  True

def Pre_MlaPreRefIdeal (m : (ℓ : Loc Cert.MlaPreRefIdeal.nD Cert.MlaPreRefIdeal.τ Cert.MlaPreRefIdeal.sig) → Buf (Elt Ideal) ℓ) : Prop :=
  True

def Pre_AdamConvIn (m : (ℓ : Loc Cert.AdamConvIn.nD Cert.AdamConvIn.τ Cert.AdamConvIn.sig) → Buf (Elt Bits) ℓ) : Prop :=
  True

def Pre_AdamConvInIdeal (m : (ℓ : Loc Cert.AdamConvInIdeal.nD Cert.AdamConvInIdeal.τ Cert.AdamConvInIdeal.sig) → Buf (Elt Ideal) ℓ) : Prop :=
  True

def Pre_AdamConvInRefIdeal (m : (ℓ : Loc Cert.AdamConvInRefIdeal.nD Cert.AdamConvInRefIdeal.τ Cert.AdamConvInRefIdeal.sig) → Buf (Elt Ideal) ℓ) : Prop :=
  True

def Pre_AdamConvOut (m : (ℓ : Loc Cert.AdamConvOut.nD Cert.AdamConvOut.τ Cert.AdamConvOut.sig) → Buf (Elt Bits) ℓ) : Prop :=
  True

def Pre_AdamConvOutIdeal (m : (ℓ : Loc Cert.AdamConvOutIdeal.nD Cert.AdamConvOutIdeal.τ Cert.AdamConvOutIdeal.sig) → Buf (Elt Ideal) ℓ) : Prop :=
  True

def Pre_AdamConvOutRefIdeal (m : (ℓ : Loc Cert.AdamConvOutRefIdeal.nD Cert.AdamConvOutRefIdeal.τ Cert.AdamConvOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamUpKv (m : (ℓ : Loc Cert.AdamUpKv.nD Cert.AdamUpKv.τ Cert.AdamUpKv.sig) → Buf (Elt Bits) ℓ) : Prop :=
  True

def Pre_AdamUpKvIdeal (m : (ℓ : Loc Cert.AdamUpKvIdeal.nD Cert.AdamUpKvIdeal.τ Cert.AdamUpKvIdeal.sig) → Buf (Elt Ideal) ℓ) : Prop :=
  True

def Pre_AdamUpKvRefIdeal (m : (ℓ : Loc Cert.AdamUpKvRefIdeal.nD Cert.AdamUpKvRefIdeal.τ Cert.AdamUpKvRefIdeal.sig) → Buf (Elt Ideal) ℓ) : Prop :=
  True

def Pre_AdamUpQ (m : (ℓ : Loc Cert.AdamUpQ.nD Cert.AdamUpQ.τ Cert.AdamUpQ.sig) → Buf (Elt Bits) ℓ) : Prop :=
  True

def Pre_AdamUpQIdeal (m : (ℓ : Loc Cert.AdamUpQIdeal.nD Cert.AdamUpQIdeal.τ Cert.AdamUpQIdeal.sig) → Buf (Elt Ideal) ℓ) : Prop :=
  True

def Pre_AdamUpQRefIdeal (m : (ℓ : Loc Cert.AdamUpQRefIdeal.nD Cert.AdamUpQRefIdeal.τ Cert.AdamUpQRefIdeal.sig) → Buf (Elt Ideal) ℓ) : Prop :=
  True

def quiescent_ConvPost [hConvPost : Cert.ConvPost.Facts] : Prop :=
  ∀ (m : (ℓ : Loc Cert.ConvPost.nD Cert.ConvPost.τ Cert.ConvPost.sig) → Buf (Elt Bits) ℓ) (g : Dev Cert.ConvPost.nD → PrngReg), Pre_ConvPost m →
    θ_run (Cert.ConvPost.defs (F := Bits)) (onTc (τ := Cert.ConvPost.τ) (Cert.ConvPost.main (F := Bits))) ⟨m, fun _ => 0, g⟩ (fun r => (∀ c : Dev Cert.ConvPost.nD,
      r.2.mem ((c.tc : Thread Cert.ConvPost.nD Cert.ConvPost.τ).loc Cert.ConvPost.main_arg0) = m ((c.tc : Thread Cert.ConvPost.nD Cert.ConvPost.τ).loc Cert.ConvPost.main_arg0)
      ∧ r.2.mem ((c.tc : Thread Cert.ConvPost.nD Cert.ConvPost.τ).loc Cert.ConvPost.main_arg1) = m ((c.tc : Thread Cert.ConvPost.nD Cert.ConvPost.τ).loc Cert.ConvPost.main_arg1)
      ∧ r.2.mem ((c.tc : Thread Cert.ConvPost.nD Cert.ConvPost.τ).loc Cert.ConvPost.main_arg2) = m ((c.tc : Thread Cert.ConvPost.nD Cert.ConvPost.τ).loc Cert.ConvPost.main_arg2)
      ∧ r.2.mem ((c.tc : Thread Cert.ConvPost.nD Cert.ConvPost.τ).loc Cert.ConvPost.main_arg3) = m ((c.tc : Thread Cert.ConvPost.nD Cert.ConvPost.τ).loc Cert.ConvPost.main_arg3))
      ∧ r.2.sem = fun _ => 0)

def quiescent_ConvPostIdeal [hConvPostIdeal : Cert.ConvPostIdeal.Facts] : Prop :=
  ∀ (m : (ℓ : Loc Cert.ConvPostIdeal.nD Cert.ConvPostIdeal.τ Cert.ConvPostIdeal.sig) → Buf (Elt Ideal) ℓ) (g : Dev Cert.ConvPostIdeal.nD → PrngReg), Pre_ConvPostIdeal m →
    θ_run (Cert.ConvPostIdeal.defs (F := Ideal)) (onTc (τ := Cert.ConvPostIdeal.τ) (Cert.ConvPostIdeal.main (F := Ideal))) ⟨m, fun _ => 0, g⟩ (fun r => (∀ c : Dev Cert.ConvPostIdeal.nD,
      r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
      ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
      ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
      ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3))
      ∧ r.2.sem = fun _ => 0)

def quiescent_ConvPostIdeal_pre_conv_post_finite [hConvPostIdeal : Cert.ConvPostIdeal.Facts] [hPre_conv_post_finite : Cert.Pre_conv_post_finite.Facts] : Prop :=
  ∀ (m : (ℓ : Loc Cert.ConvPostIdeal.nD Cert.ConvPostIdeal.τ Cert.ConvPostIdeal.sig) → Buf (Elt Ideal) ℓ) (g : Dev Cert.ConvPostIdeal.nD → PrngReg), Pre_ConvPostIdeal_conv_post_finite m →
    θ_run (Cert.ConvPostIdeal.defs (F := Ideal)) (onTc (τ := Cert.ConvPostIdeal.τ) (Cert.ConvPostIdeal.main (F := Ideal))) ⟨m, fun _ => 0, g⟩ (fun r => (∀ c : Dev Cert.ConvPostIdeal.nD,
      r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
      ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
      ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
      ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3))
      ∧ r.2.sem = fun _ => 0)

def quiescent_ConvPostRefIdeal [hConvPostRefIdeal : Cert.ConvPostRefIdeal.Facts] : Prop :=
  ∀ (m : (ℓ : Loc Cert.ConvPostRefIdeal.nD Cert.ConvPostRefIdeal.τ Cert.ConvPostRefIdeal.sig) → Buf (Elt Ideal) ℓ) (g : Dev Cert.ConvPostRefIdeal.nD → PrngReg), Pre_ConvPostRefIdeal m →
    θ_run (Cert.ConvPostRefIdeal.defs (F := Ideal)) (onTc (τ := Cert.ConvPostRefIdeal.τ) (Cert.ConvPostRefIdeal.main (F := Ideal))) ⟨m, fun _ => 0, g⟩ (fun r => (∀ c : Dev Cert.ConvPostRefIdeal.nD,
      r.2.mem ((c.tc : Thread Cert.ConvPostRefIdeal.nD Cert.ConvPostRefIdeal.τ).loc Cert.ConvPostRefIdeal.main_arg0) = m ((c.tc : Thread Cert.ConvPostRefIdeal.nD Cert.ConvPostRefIdeal.τ).loc Cert.ConvPostRefIdeal.main_arg0)
      ∧ r.2.mem ((c.tc : Thread Cert.ConvPostRefIdeal.nD Cert.ConvPostRefIdeal.τ).loc Cert.ConvPostRefIdeal.main_arg1) = m ((c.tc : Thread Cert.ConvPostRefIdeal.nD Cert.ConvPostRefIdeal.τ).loc Cert.ConvPostRefIdeal.main_arg1)
      ∧ r.2.mem ((c.tc : Thread Cert.ConvPostRefIdeal.nD Cert.ConvPostRefIdeal.τ).loc Cert.ConvPostRefIdeal.main_arg2) = m ((c.tc : Thread Cert.ConvPostRefIdeal.nD Cert.ConvPostRefIdeal.τ).loc Cert.ConvPostRefIdeal.main_arg2)
      ∧ r.2.mem ((c.tc : Thread Cert.ConvPostRefIdeal.nD Cert.ConvPostRefIdeal.τ).loc Cert.ConvPostRefIdeal.main_arg3) = m ((c.tc : Thread Cert.ConvPostRefIdeal.nD Cert.ConvPostRefIdeal.τ).loc Cert.ConvPostRefIdeal.main_arg3))
      ∧ r.2.sem = fun _ => 0)

def quiescent_ConvPostRefIdeal_pre_conv_post_finite [hConvPostRefIdeal : Cert.ConvPostRefIdeal.Facts] [hPre_conv_post_finite : Cert.Pre_conv_post_finite.Facts] : Prop :=
  ∀ (m : (ℓ : Loc Cert.ConvPostRefIdeal.nD Cert.ConvPostRefIdeal.τ Cert.ConvPostRefIdeal.sig) → Buf (Elt Ideal) ℓ) (g : Dev Cert.ConvPostRefIdeal.nD → PrngReg), Pre_ConvPostRefIdeal_conv_post_finite m →
    θ_run (Cert.ConvPostRefIdeal.defs (F := Ideal)) (onTc (τ := Cert.ConvPostRefIdeal.τ) (Cert.ConvPostRefIdeal.main (F := Ideal))) ⟨m, fun _ => 0, g⟩ (fun r => (∀ c : Dev Cert.ConvPostRefIdeal.nD,
      r.2.mem ((c.tc : Thread Cert.ConvPostRefIdeal.nD Cert.ConvPostRefIdeal.τ).loc Cert.ConvPostRefIdeal.main_arg0) = m ((c.tc : Thread Cert.ConvPostRefIdeal.nD Cert.ConvPostRefIdeal.τ).loc Cert.ConvPostRefIdeal.main_arg0)
      ∧ r.2.mem ((c.tc : Thread Cert.ConvPostRefIdeal.nD Cert.ConvPostRefIdeal.τ).loc Cert.ConvPostRefIdeal.main_arg1) = m ((c.tc : Thread Cert.ConvPostRefIdeal.nD Cert.ConvPostRefIdeal.τ).loc Cert.ConvPostRefIdeal.main_arg1)
      ∧ r.2.mem ((c.tc : Thread Cert.ConvPostRefIdeal.nD Cert.ConvPostRefIdeal.τ).loc Cert.ConvPostRefIdeal.main_arg2) = m ((c.tc : Thread Cert.ConvPostRefIdeal.nD Cert.ConvPostRefIdeal.τ).loc Cert.ConvPostRefIdeal.main_arg2)
      ∧ r.2.mem ((c.tc : Thread Cert.ConvPostRefIdeal.nD Cert.ConvPostRefIdeal.τ).loc Cert.ConvPostRefIdeal.main_arg3) = m ((c.tc : Thread Cert.ConvPostRefIdeal.nD Cert.ConvPostRefIdeal.τ).loc Cert.ConvPostRefIdeal.main_arg3))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3)
      ∧ r.2.mem ((c.tc : Thread Cert.GradIn.nD Cert.GradIn.τ).loc Cert.GradIn.main_arg4) = m ((c.tc : Thread Cert.GradIn.nD Cert.GradIn.τ).loc Cert.GradIn.main_arg4))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
      ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1)
      ∧ r.2.mem ((c.tc : Thread Cert.GradInRefIdeal.nD Cert.GradInRefIdeal.τ).loc Cert.GradInRefIdeal.main_arg2) = m ((c.tc : Thread Cert.GradInRefIdeal.nD Cert.GradInRefIdeal.τ).loc Cert.GradInRefIdeal.main_arg2)
      ∧ r.2.mem ((c.tc : Thread Cert.GradInRefIdeal.nD Cert.GradInRefIdeal.τ).loc Cert.GradInRefIdeal.main_arg3) = m ((c.tc : Thread Cert.GradInRefIdeal.nD Cert.GradInRefIdeal.τ).loc Cert.GradInRefIdeal.main_arg3)
      ∧ r.2.mem ((c.tc : Thread Cert.GradInRefIdeal.nD Cert.GradInRefIdeal.τ).loc Cert.GradInRefIdeal.main_arg4) = m ((c.tc : Thread Cert.GradInRefIdeal.nD Cert.GradInRefIdeal.τ).loc Cert.GradInRefIdeal.main_arg4))
      ∧ r.2.sem = fun _ => 0)

def quiescent_GradInOne [hGradInOne : Cert.GradInOne.Facts] : Prop :=
  ∀ (m : (ℓ : Loc Cert.GradInOne.nD Cert.GradInOne.τ Cert.GradInOne.sig) → Buf (Elt Bits) ℓ) (g : Dev Cert.GradInOne.nD → PrngReg), Pre_GradInOne m →
    θ_run (Cert.GradInOne.defs (F := Bits)) (onTc (τ := Cert.GradInOne.τ) (Cert.GradInOne.main (F := Bits))) ⟨m, fun _ => 0, g⟩ (fun r => (∀ c : Dev Cert.GradInOne.nD,
      r.2.mem ((c.tc : Thread Cert.GradInOne.nD Cert.GradInOne.τ).loc Cert.GradInOne.main_arg0) = m ((c.tc : Thread Cert.GradInOne.nD Cert.GradInOne.τ).loc Cert.GradInOne.main_arg0)
      ∧ r.2.mem ((c.tc : Thread Cert.GradInOne.nD Cert.GradInOne.τ).loc Cert.GradInOne.main_arg1) = m ((c.tc : Thread Cert.GradInOne.nD Cert.GradInOne.τ).loc Cert.GradInOne.main_arg1)
      ∧ r.2.mem ((c.tc : Thread Cert.GradInOne.nD Cert.GradInOne.τ).loc Cert.GradInOne.main_arg2) = m ((c.tc : Thread Cert.GradInOne.nD Cert.GradInOne.τ).loc Cert.GradInOne.main_arg2)
      ∧ r.2.mem ((c.tc : Thread Cert.GradInOne.nD Cert.GradInOne.τ).loc Cert.GradInOne.main_arg3) = m ((c.tc : Thread Cert.GradInOne.nD Cert.GradInOne.τ).loc Cert.GradInOne.main_arg3)
      ∧ r.2.mem ((c.tc : Thread Cert.GradInOne.nD Cert.GradInOne.τ).loc Cert.GradInOne.main_arg4) = m ((c.tc : Thread Cert.GradInOne.nD Cert.GradInOne.τ).loc Cert.GradInOne.main_arg4))
      ∧ r.2.sem = fun _ => 0)

def quiescent_GradInOneIdeal [hGradInOneIdeal : Cert.GradInOneIdeal.Facts] : Prop :=
  ∀ (m : (ℓ : Loc Cert.GradInOneIdeal.nD Cert.GradInOneIdeal.τ Cert.GradInOneIdeal.sig) → Buf (Elt Ideal) ℓ) (g : Dev Cert.GradInOneIdeal.nD → PrngReg), Pre_GradInOneIdeal m →
    θ_run (Cert.GradInOneIdeal.defs (F := Ideal)) (onTc (τ := Cert.GradInOneIdeal.τ) (Cert.GradInOneIdeal.main (F := Ideal))) ⟨m, fun _ => 0, g⟩ (fun r => (∀ c : Dev Cert.GradInOneIdeal.nD,
      r.2.mem ((c.tc : Thread Cert.GradInOneIdeal.nD Cert.GradInOneIdeal.τ).loc Cert.GradInOneIdeal.main_arg0) = m ((c.tc : Thread Cert.GradInOneIdeal.nD Cert.GradInOneIdeal.τ).loc Cert.GradInOneIdeal.main_arg0)
      ∧ r.2.mem ((c.tc : Thread Cert.GradInOneIdeal.nD Cert.GradInOneIdeal.τ).loc Cert.GradInOneIdeal.main_arg1) = m ((c.tc : Thread Cert.GradInOneIdeal.nD Cert.GradInOneIdeal.τ).loc Cert.GradInOneIdeal.main_arg1)
      ∧ r.2.mem ((c.tc : Thread Cert.GradInOneIdeal.nD Cert.GradInOneIdeal.τ).loc Cert.GradInOneIdeal.main_arg2) = m ((c.tc : Thread Cert.GradInOneIdeal.nD Cert.GradInOneIdeal.τ).loc Cert.GradInOneIdeal.main_arg2)
      ∧ r.2.mem ((c.tc : Thread Cert.GradInOneIdeal.nD Cert.GradInOneIdeal.τ).loc Cert.GradInOneIdeal.main_arg3) = m ((c.tc : Thread Cert.GradInOneIdeal.nD Cert.GradInOneIdeal.τ).loc Cert.GradInOneIdeal.main_arg3)
      ∧ r.2.mem ((c.tc : Thread Cert.GradInOneIdeal.nD Cert.GradInOneIdeal.τ).loc Cert.GradInOneIdeal.main_arg4) = m ((c.tc : Thread Cert.GradInOneIdeal.nD Cert.GradInOneIdeal.τ).loc Cert.GradInOneIdeal.main_arg4))
      ∧ r.2.sem = fun _ => 0)

def quiescent_GradInOneRefIdeal [hGradInOneRefIdeal : Cert.GradInOneRefIdeal.Facts] : Prop :=
  ∀ (m : (ℓ : Loc Cert.GradInOneRefIdeal.nD Cert.GradInOneRefIdeal.τ Cert.GradInOneRefIdeal.sig) → Buf (Elt Ideal) ℓ) (g : Dev Cert.GradInOneRefIdeal.nD → PrngReg), Pre_GradInOneRefIdeal m →
    θ_run (Cert.GradInOneRefIdeal.defs (F := Ideal)) (onTc (τ := Cert.GradInOneRefIdeal.τ) (Cert.GradInOneRefIdeal.main (F := Ideal))) ⟨m, fun _ => 0, g⟩ (fun r => (∀ c : Dev Cert.GradInOneRefIdeal.nD,
      r.2.mem ((c.tc : Thread Cert.GradInOneRefIdeal.nD Cert.GradInOneRefIdeal.τ).loc Cert.GradInOneRefIdeal.main_arg0) = m ((c.tc : Thread Cert.GradInOneRefIdeal.nD Cert.GradInOneRefIdeal.τ).loc Cert.GradInOneRefIdeal.main_arg0)
      ∧ r.2.mem ((c.tc : Thread Cert.GradInOneRefIdeal.nD Cert.GradInOneRefIdeal.τ).loc Cert.GradInOneRefIdeal.main_arg1) = m ((c.tc : Thread Cert.GradInOneRefIdeal.nD Cert.GradInOneRefIdeal.τ).loc Cert.GradInOneRefIdeal.main_arg1)
      ∧ r.2.mem ((c.tc : Thread Cert.GradInOneRefIdeal.nD Cert.GradInOneRefIdeal.τ).loc Cert.GradInOneRefIdeal.main_arg2) = m ((c.tc : Thread Cert.GradInOneRefIdeal.nD Cert.GradInOneRefIdeal.τ).loc Cert.GradInOneRefIdeal.main_arg2)
      ∧ r.2.mem ((c.tc : Thread Cert.GradInOneRefIdeal.nD Cert.GradInOneRefIdeal.τ).loc Cert.GradInOneRefIdeal.main_arg3) = m ((c.tc : Thread Cert.GradInOneRefIdeal.nD Cert.GradInOneRefIdeal.τ).loc Cert.GradInOneRefIdeal.main_arg3)
      ∧ r.2.mem ((c.tc : Thread Cert.GradInOneRefIdeal.nD Cert.GradInOneRefIdeal.τ).loc Cert.GradInOneRefIdeal.main_arg4) = m ((c.tc : Thread Cert.GradInOneRefIdeal.nD Cert.GradInOneRefIdeal.τ).loc Cert.GradInOneRefIdeal.main_arg4))
      ∧ r.2.sem = fun _ => 0)

def quiescent_GradInThree [hGradInThree : Cert.GradInThree.Facts] : Prop :=
  ∀ (m : (ℓ : Loc Cert.GradInThree.nD Cert.GradInThree.τ Cert.GradInThree.sig) → Buf (Elt Bits) ℓ) (g : Dev Cert.GradInThree.nD → PrngReg), Pre_GradInThree m →
    θ_run (Cert.GradInThree.defs (F := Bits)) (onTc (τ := Cert.GradInThree.τ) (Cert.GradInThree.main (F := Bits))) ⟨m, fun _ => 0, g⟩ (fun r => (∀ c : Dev Cert.GradInThree.nD,
      r.2.mem ((c.tc : Thread Cert.GradInThree.nD Cert.GradInThree.τ).loc Cert.GradInThree.main_arg0) = m ((c.tc : Thread Cert.GradInThree.nD Cert.GradInThree.τ).loc Cert.GradInThree.main_arg0)
      ∧ r.2.mem ((c.tc : Thread Cert.GradInThree.nD Cert.GradInThree.τ).loc Cert.GradInThree.main_arg1) = m ((c.tc : Thread Cert.GradInThree.nD Cert.GradInThree.τ).loc Cert.GradInThree.main_arg1)
      ∧ r.2.mem ((c.tc : Thread Cert.GradInThree.nD Cert.GradInThree.τ).loc Cert.GradInThree.main_arg2) = m ((c.tc : Thread Cert.GradInThree.nD Cert.GradInThree.τ).loc Cert.GradInThree.main_arg2)
      ∧ r.2.mem ((c.tc : Thread Cert.GradInThree.nD Cert.GradInThree.τ).loc Cert.GradInThree.main_arg3) = m ((c.tc : Thread Cert.GradInThree.nD Cert.GradInThree.τ).loc Cert.GradInThree.main_arg3)
      ∧ r.2.mem ((c.tc : Thread Cert.GradInThree.nD Cert.GradInThree.τ).loc Cert.GradInThree.main_arg4) = m ((c.tc : Thread Cert.GradInThree.nD Cert.GradInThree.τ).loc Cert.GradInThree.main_arg4))
      ∧ r.2.sem = fun _ => 0)

def quiescent_GradInThreeIdeal [hGradInThreeIdeal : Cert.GradInThreeIdeal.Facts] : Prop :=
  ∀ (m : (ℓ : Loc Cert.GradInThreeIdeal.nD Cert.GradInThreeIdeal.τ Cert.GradInThreeIdeal.sig) → Buf (Elt Ideal) ℓ) (g : Dev Cert.GradInThreeIdeal.nD → PrngReg), Pre_GradInThreeIdeal m →
    θ_run (Cert.GradInThreeIdeal.defs (F := Ideal)) (onTc (τ := Cert.GradInThreeIdeal.τ) (Cert.GradInThreeIdeal.main (F := Ideal))) ⟨m, fun _ => 0, g⟩ (fun r => (∀ c : Dev Cert.GradInThreeIdeal.nD,
      r.2.mem ((c.tc : Thread Cert.GradInThreeIdeal.nD Cert.GradInThreeIdeal.τ).loc Cert.GradInThreeIdeal.main_arg0) = m ((c.tc : Thread Cert.GradInThreeIdeal.nD Cert.GradInThreeIdeal.τ).loc Cert.GradInThreeIdeal.main_arg0)
      ∧ r.2.mem ((c.tc : Thread Cert.GradInThreeIdeal.nD Cert.GradInThreeIdeal.τ).loc Cert.GradInThreeIdeal.main_arg1) = m ((c.tc : Thread Cert.GradInThreeIdeal.nD Cert.GradInThreeIdeal.τ).loc Cert.GradInThreeIdeal.main_arg1)
      ∧ r.2.mem ((c.tc : Thread Cert.GradInThreeIdeal.nD Cert.GradInThreeIdeal.τ).loc Cert.GradInThreeIdeal.main_arg2) = m ((c.tc : Thread Cert.GradInThreeIdeal.nD Cert.GradInThreeIdeal.τ).loc Cert.GradInThreeIdeal.main_arg2)
      ∧ r.2.mem ((c.tc : Thread Cert.GradInThreeIdeal.nD Cert.GradInThreeIdeal.τ).loc Cert.GradInThreeIdeal.main_arg3) = m ((c.tc : Thread Cert.GradInThreeIdeal.nD Cert.GradInThreeIdeal.τ).loc Cert.GradInThreeIdeal.main_arg3)
      ∧ r.2.mem ((c.tc : Thread Cert.GradInThreeIdeal.nD Cert.GradInThreeIdeal.τ).loc Cert.GradInThreeIdeal.main_arg4) = m ((c.tc : Thread Cert.GradInThreeIdeal.nD Cert.GradInThreeIdeal.τ).loc Cert.GradInThreeIdeal.main_arg4))
      ∧ r.2.sem = fun _ => 0)

def quiescent_GradInThreeRefIdeal [hGradInThreeRefIdeal : Cert.GradInThreeRefIdeal.Facts] : Prop :=
  ∀ (m : (ℓ : Loc Cert.GradInThreeRefIdeal.nD Cert.GradInThreeRefIdeal.τ Cert.GradInThreeRefIdeal.sig) → Buf (Elt Ideal) ℓ) (g : Dev Cert.GradInThreeRefIdeal.nD → PrngReg), Pre_GradInThreeRefIdeal m →
    θ_run (Cert.GradInThreeRefIdeal.defs (F := Ideal)) (onTc (τ := Cert.GradInThreeRefIdeal.τ) (Cert.GradInThreeRefIdeal.main (F := Ideal))) ⟨m, fun _ => 0, g⟩ (fun r => (∀ c : Dev Cert.GradInThreeRefIdeal.nD,
      r.2.mem ((c.tc : Thread Cert.GradInThreeRefIdeal.nD Cert.GradInThreeRefIdeal.τ).loc Cert.GradInThreeRefIdeal.main_arg0) = m ((c.tc : Thread Cert.GradInThreeRefIdeal.nD Cert.GradInThreeRefIdeal.τ).loc Cert.GradInThreeRefIdeal.main_arg0)
      ∧ r.2.mem ((c.tc : Thread Cert.GradInThreeRefIdeal.nD Cert.GradInThreeRefIdeal.τ).loc Cert.GradInThreeRefIdeal.main_arg1) = m ((c.tc : Thread Cert.GradInThreeRefIdeal.nD Cert.GradInThreeRefIdeal.τ).loc Cert.GradInThreeRefIdeal.main_arg1)
      ∧ r.2.mem ((c.tc : Thread Cert.GradInThreeRefIdeal.nD Cert.GradInThreeRefIdeal.τ).loc Cert.GradInThreeRefIdeal.main_arg2) = m ((c.tc : Thread Cert.GradInThreeRefIdeal.nD Cert.GradInThreeRefIdeal.τ).loc Cert.GradInThreeRefIdeal.main_arg2)
      ∧ r.2.mem ((c.tc : Thread Cert.GradInThreeRefIdeal.nD Cert.GradInThreeRefIdeal.τ).loc Cert.GradInThreeRefIdeal.main_arg3) = m ((c.tc : Thread Cert.GradInThreeRefIdeal.nD Cert.GradInThreeRefIdeal.τ).loc Cert.GradInThreeRefIdeal.main_arg3)
      ∧ r.2.mem ((c.tc : Thread Cert.GradInThreeRefIdeal.nD Cert.GradInThreeRefIdeal.τ).loc Cert.GradInThreeRefIdeal.main_arg4) = m ((c.tc : Thread Cert.GradInThreeRefIdeal.nD Cert.GradInThreeRefIdeal.τ).loc Cert.GradInThreeRefIdeal.main_arg4))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1)
      ∧ r.2.mem ((c.tc : Thread Cert.GradOutRefIdeal.nD Cert.GradOutRefIdeal.τ).loc Cert.GradOutRefIdeal.main_arg2) = m ((c.tc : Thread Cert.GradOutRefIdeal.nD Cert.GradOutRefIdeal.τ).loc Cert.GradOutRefIdeal.main_arg2))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3)
      ∧ r.2.mem ((c.tc : Thread Cert.FfnBack.nD Cert.FfnBack.τ).loc Cert.FfnBack.main_arg4) = m ((c.tc : Thread Cert.FfnBack.nD Cert.FfnBack.τ).loc Cert.FfnBack.main_arg4)
      ∧ r.2.mem ((c.tc : Thread Cert.FfnBack.nD Cert.FfnBack.τ).loc Cert.FfnBack.main_arg5) = m ((c.tc : Thread Cert.FfnBack.nD Cert.FfnBack.τ).loc Cert.FfnBack.main_arg5))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5))
      ∧ r.2.sem = fun _ => 0)

def quiescent_FfnBackIdeal_pre_ffn_back_finite [hFfnBackIdeal : Cert.FfnBackIdeal.Facts] [hPre_ffn_back_finite : Cert.Pre_ffn_back_finite.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal_ffn_back_finite m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5))
      ∧ r.2.sem = fun _ => 0)

def quiescent_FfnBackRefIdeal_pre_ffn_back_finite [hFfnBackRefIdeal : Cert.FfnBackRefIdeal.Facts] [hPre_ffn_back_finite : Cert.Pre_ffn_back_finite.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal_ffn_back_finite m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_GradConvIn [hGradConvIn : Cert.GradConvIn.Facts] : Prop :=
  ∀ (m : (ℓ : Loc Cert.GradConvIn.nD Cert.GradConvIn.τ Cert.GradConvIn.sig) → Buf (Elt Bits) ℓ) (g : Dev Cert.GradConvIn.nD → PrngReg), Pre_GradConvIn m →
    θ_run (Cert.GradConvIn.defs (F := Bits)) (onTc (τ := Cert.GradConvIn.τ) (Cert.GradConvIn.main (F := Bits))) ⟨m, fun _ => 0, g⟩ (fun r => (∀ c : Dev Cert.GradConvIn.nD,
      r.2.mem ((c.tc : Thread Cert.GradConvIn.nD Cert.GradConvIn.τ).loc Cert.GradConvIn.main_arg0) = m ((c.tc : Thread Cert.GradConvIn.nD Cert.GradConvIn.τ).loc Cert.GradConvIn.main_arg0)
      ∧ r.2.mem ((c.tc : Thread Cert.GradConvIn.nD Cert.GradConvIn.τ).loc Cert.GradConvIn.main_arg1) = m ((c.tc : Thread Cert.GradConvIn.nD Cert.GradConvIn.τ).loc Cert.GradConvIn.main_arg1)
      ∧ r.2.mem ((c.tc : Thread Cert.GradConvIn.nD Cert.GradConvIn.τ).loc Cert.GradConvIn.main_arg2) = m ((c.tc : Thread Cert.GradConvIn.nD Cert.GradConvIn.τ).loc Cert.GradConvIn.main_arg2))
      ∧ r.2.sem = fun _ => 0)

def quiescent_GradConvInIdeal [hGradConvInIdeal : Cert.GradConvInIdeal.Facts] : Prop :=
  ∀ (m : (ℓ : Loc Cert.GradConvInIdeal.nD Cert.GradConvInIdeal.τ Cert.GradConvInIdeal.sig) → Buf (Elt Ideal) ℓ) (g : Dev Cert.GradConvInIdeal.nD → PrngReg), Pre_GradConvInIdeal m →
    θ_run (Cert.GradConvInIdeal.defs (F := Ideal)) (onTc (τ := Cert.GradConvInIdeal.τ) (Cert.GradConvInIdeal.main (F := Ideal))) ⟨m, fun _ => 0, g⟩ (fun r => (∀ c : Dev Cert.GradConvInIdeal.nD,
      r.2.mem ((c.tc : Thread Cert.GradConvInIdeal.nD Cert.GradConvInIdeal.τ).loc Cert.GradConvInIdeal.main_arg0) = m ((c.tc : Thread Cert.GradConvInIdeal.nD Cert.GradConvInIdeal.τ).loc Cert.GradConvInIdeal.main_arg0)
      ∧ r.2.mem ((c.tc : Thread Cert.GradConvInIdeal.nD Cert.GradConvInIdeal.τ).loc Cert.GradConvInIdeal.main_arg1) = m ((c.tc : Thread Cert.GradConvInIdeal.nD Cert.GradConvInIdeal.τ).loc Cert.GradConvInIdeal.main_arg1)
      ∧ r.2.mem ((c.tc : Thread Cert.GradConvInIdeal.nD Cert.GradConvInIdeal.τ).loc Cert.GradConvInIdeal.main_arg2) = m ((c.tc : Thread Cert.GradConvInIdeal.nD Cert.GradConvInIdeal.τ).loc Cert.GradConvInIdeal.main_arg2))
      ∧ r.2.sem = fun _ => 0)

def quiescent_GradConvInRefIdeal [hGradConvInRefIdeal : Cert.GradConvInRefIdeal.Facts] : Prop :=
  ∀ (m : (ℓ : Loc Cert.GradConvInRefIdeal.nD Cert.GradConvInRefIdeal.τ Cert.GradConvInRefIdeal.sig) → Buf (Elt Ideal) ℓ) (g : Dev Cert.GradConvInRefIdeal.nD → PrngReg), Pre_GradConvInRefIdeal m →
    θ_run (Cert.GradConvInRefIdeal.defs (F := Ideal)) (onTc (τ := Cert.GradConvInRefIdeal.τ) (Cert.GradConvInRefIdeal.main (F := Ideal))) ⟨m, fun _ => 0, g⟩ (fun r => (∀ c : Dev Cert.GradConvInRefIdeal.nD,
      r.2.mem ((c.tc : Thread Cert.GradConvInRefIdeal.nD Cert.GradConvInRefIdeal.τ).loc Cert.GradConvInRefIdeal.main_arg0) = m ((c.tc : Thread Cert.GradConvInRefIdeal.nD Cert.GradConvInRefIdeal.τ).loc Cert.GradConvInRefIdeal.main_arg0)
      ∧ r.2.mem ((c.tc : Thread Cert.GradConvInRefIdeal.nD Cert.GradConvInRefIdeal.τ).loc Cert.GradConvInRefIdeal.main_arg1) = m ((c.tc : Thread Cert.GradConvInRefIdeal.nD Cert.GradConvInRefIdeal.τ).loc Cert.GradConvInRefIdeal.main_arg1)
      ∧ r.2.mem ((c.tc : Thread Cert.GradConvInRefIdeal.nD Cert.GradConvInRefIdeal.τ).loc Cert.GradConvInRefIdeal.main_arg2) = m ((c.tc : Thread Cert.GradConvInRefIdeal.nD Cert.GradConvInRefIdeal.τ).loc Cert.GradConvInRefIdeal.main_arg2))
      ∧ r.2.sem = fun _ => 0)

def quiescent_GradConvOut [hGradConvOut : Cert.GradConvOut.Facts] : Prop :=
  ∀ (m : (ℓ : Loc Cert.GradConvOut.nD Cert.GradConvOut.τ Cert.GradConvOut.sig) → Buf (Elt Bits) ℓ) (g : Dev Cert.GradConvOut.nD → PrngReg), Pre_GradConvOut m →
    θ_run (Cert.GradConvOut.defs (F := Bits)) (onTc (τ := Cert.GradConvOut.τ) (Cert.GradConvOut.main (F := Bits))) ⟨m, fun _ => 0, g⟩ (fun r => (∀ c : Dev Cert.GradConvOut.nD,
      r.2.mem ((c.tc : Thread Cert.GradConvOut.nD Cert.GradConvOut.τ).loc Cert.GradConvOut.main_arg0) = m ((c.tc : Thread Cert.GradConvOut.nD Cert.GradConvOut.τ).loc Cert.GradConvOut.main_arg0)
      ∧ r.2.mem ((c.tc : Thread Cert.GradConvOut.nD Cert.GradConvOut.τ).loc Cert.GradConvOut.main_arg1) = m ((c.tc : Thread Cert.GradConvOut.nD Cert.GradConvOut.τ).loc Cert.GradConvOut.main_arg1)
      ∧ r.2.mem ((c.tc : Thread Cert.GradConvOut.nD Cert.GradConvOut.τ).loc Cert.GradConvOut.main_arg2) = m ((c.tc : Thread Cert.GradConvOut.nD Cert.GradConvOut.τ).loc Cert.GradConvOut.main_arg2))
      ∧ r.2.sem = fun _ => 0)

def quiescent_GradConvOutIdeal [hGradConvOutIdeal : Cert.GradConvOutIdeal.Facts] : Prop :=
  ∀ (m : (ℓ : Loc Cert.GradConvOutIdeal.nD Cert.GradConvOutIdeal.τ Cert.GradConvOutIdeal.sig) → Buf (Elt Ideal) ℓ) (g : Dev Cert.GradConvOutIdeal.nD → PrngReg), Pre_GradConvOutIdeal m →
    θ_run (Cert.GradConvOutIdeal.defs (F := Ideal)) (onTc (τ := Cert.GradConvOutIdeal.τ) (Cert.GradConvOutIdeal.main (F := Ideal))) ⟨m, fun _ => 0, g⟩ (fun r => (∀ c : Dev Cert.GradConvOutIdeal.nD,
      r.2.mem ((c.tc : Thread Cert.GradConvOutIdeal.nD Cert.GradConvOutIdeal.τ).loc Cert.GradConvOutIdeal.main_arg0) = m ((c.tc : Thread Cert.GradConvOutIdeal.nD Cert.GradConvOutIdeal.τ).loc Cert.GradConvOutIdeal.main_arg0)
      ∧ r.2.mem ((c.tc : Thread Cert.GradConvOutIdeal.nD Cert.GradConvOutIdeal.τ).loc Cert.GradConvOutIdeal.main_arg1) = m ((c.tc : Thread Cert.GradConvOutIdeal.nD Cert.GradConvOutIdeal.τ).loc Cert.GradConvOutIdeal.main_arg1)
      ∧ r.2.mem ((c.tc : Thread Cert.GradConvOutIdeal.nD Cert.GradConvOutIdeal.τ).loc Cert.GradConvOutIdeal.main_arg2) = m ((c.tc : Thread Cert.GradConvOutIdeal.nD Cert.GradConvOutIdeal.τ).loc Cert.GradConvOutIdeal.main_arg2))
      ∧ r.2.sem = fun _ => 0)

def quiescent_GradConvOutRefIdeal [hGradConvOutRefIdeal : Cert.GradConvOutRefIdeal.Facts] : Prop :=
  ∀ (m : (ℓ : Loc Cert.GradConvOutRefIdeal.nD Cert.GradConvOutRefIdeal.τ Cert.GradConvOutRefIdeal.sig) → Buf (Elt Ideal) ℓ) (g : Dev Cert.GradConvOutRefIdeal.nD → PrngReg), Pre_GradConvOutRefIdeal m →
    θ_run (Cert.GradConvOutRefIdeal.defs (F := Ideal)) (onTc (τ := Cert.GradConvOutRefIdeal.τ) (Cert.GradConvOutRefIdeal.main (F := Ideal))) ⟨m, fun _ => 0, g⟩ (fun r => (∀ c : Dev Cert.GradConvOutRefIdeal.nD,
      r.2.mem ((c.tc : Thread Cert.GradConvOutRefIdeal.nD Cert.GradConvOutRefIdeal.τ).loc Cert.GradConvOutRefIdeal.main_arg0) = m ((c.tc : Thread Cert.GradConvOutRefIdeal.nD Cert.GradConvOutRefIdeal.τ).loc Cert.GradConvOutRefIdeal.main_arg0)
      ∧ r.2.mem ((c.tc : Thread Cert.GradConvOutRefIdeal.nD Cert.GradConvOutRefIdeal.τ).loc Cert.GradConvOutRefIdeal.main_arg1) = m ((c.tc : Thread Cert.GradConvOutRefIdeal.nD Cert.GradConvOutRefIdeal.τ).loc Cert.GradConvOutRefIdeal.main_arg1)
      ∧ r.2.mem ((c.tc : Thread Cert.GradConvOutRefIdeal.nD Cert.GradConvOutRefIdeal.τ).loc Cert.GradConvOutRefIdeal.main_arg2) = m ((c.tc : Thread Cert.GradConvOutRefIdeal.nD Cert.GradConvOutRefIdeal.τ).loc Cert.GradConvOutRefIdeal.main_arg2))
      ∧ r.2.sem = fun _ => 0)

def quiescent_GradAttnOut [hGradAttnOut : Cert.GradAttnOut.Facts] : Prop :=
  ∀ (m : (ℓ : Loc Cert.GradAttnOut.nD Cert.GradAttnOut.τ Cert.GradAttnOut.sig) → Buf (Elt Bits) ℓ) (g : Dev Cert.GradAttnOut.nD → PrngReg), Pre_GradAttnOut m →
    θ_run (Cert.GradAttnOut.defs (F := Bits)) (onTc (τ := Cert.GradAttnOut.τ) (Cert.GradAttnOut.main (F := Bits))) ⟨m, fun _ => 0, g⟩ (fun r => (∀ c : Dev Cert.GradAttnOut.nD,
      r.2.mem ((c.tc : Thread Cert.GradAttnOut.nD Cert.GradAttnOut.τ).loc Cert.GradAttnOut.main_arg0) = m ((c.tc : Thread Cert.GradAttnOut.nD Cert.GradAttnOut.τ).loc Cert.GradAttnOut.main_arg0)
      ∧ r.2.mem ((c.tc : Thread Cert.GradAttnOut.nD Cert.GradAttnOut.τ).loc Cert.GradAttnOut.main_arg1) = m ((c.tc : Thread Cert.GradAttnOut.nD Cert.GradAttnOut.τ).loc Cert.GradAttnOut.main_arg1)
      ∧ r.2.mem ((c.tc : Thread Cert.GradAttnOut.nD Cert.GradAttnOut.τ).loc Cert.GradAttnOut.main_arg2) = m ((c.tc : Thread Cert.GradAttnOut.nD Cert.GradAttnOut.τ).loc Cert.GradAttnOut.main_arg2))
      ∧ r.2.sem = fun _ => 0)

def quiescent_GradAttnOutIdeal [hGradAttnOutIdeal : Cert.GradAttnOutIdeal.Facts] : Prop :=
  ∀ (m : (ℓ : Loc Cert.GradAttnOutIdeal.nD Cert.GradAttnOutIdeal.τ Cert.GradAttnOutIdeal.sig) → Buf (Elt Ideal) ℓ) (g : Dev Cert.GradAttnOutIdeal.nD → PrngReg), Pre_GradAttnOutIdeal m →
    θ_run (Cert.GradAttnOutIdeal.defs (F := Ideal)) (onTc (τ := Cert.GradAttnOutIdeal.τ) (Cert.GradAttnOutIdeal.main (F := Ideal))) ⟨m, fun _ => 0, g⟩ (fun r => (∀ c : Dev Cert.GradAttnOutIdeal.nD,
      r.2.mem ((c.tc : Thread Cert.GradAttnOutIdeal.nD Cert.GradAttnOutIdeal.τ).loc Cert.GradAttnOutIdeal.main_arg0) = m ((c.tc : Thread Cert.GradAttnOutIdeal.nD Cert.GradAttnOutIdeal.τ).loc Cert.GradAttnOutIdeal.main_arg0)
      ∧ r.2.mem ((c.tc : Thread Cert.GradAttnOutIdeal.nD Cert.GradAttnOutIdeal.τ).loc Cert.GradAttnOutIdeal.main_arg1) = m ((c.tc : Thread Cert.GradAttnOutIdeal.nD Cert.GradAttnOutIdeal.τ).loc Cert.GradAttnOutIdeal.main_arg1)
      ∧ r.2.mem ((c.tc : Thread Cert.GradAttnOutIdeal.nD Cert.GradAttnOutIdeal.τ).loc Cert.GradAttnOutIdeal.main_arg2) = m ((c.tc : Thread Cert.GradAttnOutIdeal.nD Cert.GradAttnOutIdeal.τ).loc Cert.GradAttnOutIdeal.main_arg2))
      ∧ r.2.sem = fun _ => 0)

def quiescent_GradAttnOutRefIdeal [hGradAttnOutRefIdeal : Cert.GradAttnOutRefIdeal.Facts] : Prop :=
  ∀ (m : (ℓ : Loc Cert.GradAttnOutRefIdeal.nD Cert.GradAttnOutRefIdeal.τ Cert.GradAttnOutRefIdeal.sig) → Buf (Elt Ideal) ℓ) (g : Dev Cert.GradAttnOutRefIdeal.nD → PrngReg), Pre_GradAttnOutRefIdeal m →
    θ_run (Cert.GradAttnOutRefIdeal.defs (F := Ideal)) (onTc (τ := Cert.GradAttnOutRefIdeal.τ) (Cert.GradAttnOutRefIdeal.main (F := Ideal))) ⟨m, fun _ => 0, g⟩ (fun r => (∀ c : Dev Cert.GradAttnOutRefIdeal.nD,
      r.2.mem ((c.tc : Thread Cert.GradAttnOutRefIdeal.nD Cert.GradAttnOutRefIdeal.τ).loc Cert.GradAttnOutRefIdeal.main_arg0) = m ((c.tc : Thread Cert.GradAttnOutRefIdeal.nD Cert.GradAttnOutRefIdeal.τ).loc Cert.GradAttnOutRefIdeal.main_arg0)
      ∧ r.2.mem ((c.tc : Thread Cert.GradAttnOutRefIdeal.nD Cert.GradAttnOutRefIdeal.τ).loc Cert.GradAttnOutRefIdeal.main_arg1) = m ((c.tc : Thread Cert.GradAttnOutRefIdeal.nD Cert.GradAttnOutRefIdeal.τ).loc Cert.GradAttnOutRefIdeal.main_arg1)
      ∧ r.2.mem ((c.tc : Thread Cert.GradAttnOutRefIdeal.nD Cert.GradAttnOutRefIdeal.τ).loc Cert.GradAttnOutRefIdeal.main_arg2) = m ((c.tc : Thread Cert.GradAttnOutRefIdeal.nD Cert.GradAttnOutRefIdeal.τ).loc Cert.GradAttnOutRefIdeal.main_arg2))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1)
      ∧ r.2.mem ((c.tc : Thread Cert.GradDown.nD Cert.GradDown.τ).loc Cert.GradDown.main_arg2) = m ((c.tc : Thread Cert.GradDown.nD Cert.GradDown.τ).loc Cert.GradDown.main_arg2))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
      ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1)
      ∧ r.2.mem ((c.tc : Thread Cert.GradDownRefIdeal.nD Cert.GradDownRefIdeal.τ).loc Cert.GradDownRefIdeal.main_arg2) = m ((c.tc : Thread Cert.GradDownRefIdeal.nD Cert.GradDownRefIdeal.τ).loc Cert.GradDownRefIdeal.main_arg2))
      ∧ r.2.sem = fun _ => 0)

def quiescent_GradUpQ [hGradUpQ : Cert.GradUpQ.Facts] : Prop :=
  ∀ (m : (ℓ : Loc Cert.GradUpQ.nD Cert.GradUpQ.τ Cert.GradUpQ.sig) → Buf (Elt Bits) ℓ) (g : Dev Cert.GradUpQ.nD → PrngReg), Pre_GradUpQ m →
    θ_run (Cert.GradUpQ.defs (F := Bits)) (onTc (τ := Cert.GradUpQ.τ) (Cert.GradUpQ.main (F := Bits))) ⟨m, fun _ => 0, g⟩ (fun r => (∀ c : Dev Cert.GradUpQ.nD,
      r.2.mem ((c.tc : Thread Cert.GradUpQ.nD Cert.GradUpQ.τ).loc Cert.GradUpQ.main_arg0) = m ((c.tc : Thread Cert.GradUpQ.nD Cert.GradUpQ.τ).loc Cert.GradUpQ.main_arg0)
      ∧ r.2.mem ((c.tc : Thread Cert.GradUpQ.nD Cert.GradUpQ.τ).loc Cert.GradUpQ.main_arg1) = m ((c.tc : Thread Cert.GradUpQ.nD Cert.GradUpQ.τ).loc Cert.GradUpQ.main_arg1)
      ∧ r.2.mem ((c.tc : Thread Cert.GradUpQ.nD Cert.GradUpQ.τ).loc Cert.GradUpQ.main_arg2) = m ((c.tc : Thread Cert.GradUpQ.nD Cert.GradUpQ.τ).loc Cert.GradUpQ.main_arg2))
      ∧ r.2.sem = fun _ => 0)

def quiescent_GradUpQIdeal [hGradUpQIdeal : Cert.GradUpQIdeal.Facts] : Prop :=
  ∀ (m : (ℓ : Loc Cert.GradUpQIdeal.nD Cert.GradUpQIdeal.τ Cert.GradUpQIdeal.sig) → Buf (Elt Ideal) ℓ) (g : Dev Cert.GradUpQIdeal.nD → PrngReg), Pre_GradUpQIdeal m →
    θ_run (Cert.GradUpQIdeal.defs (F := Ideal)) (onTc (τ := Cert.GradUpQIdeal.τ) (Cert.GradUpQIdeal.main (F := Ideal))) ⟨m, fun _ => 0, g⟩ (fun r => (∀ c : Dev Cert.GradUpQIdeal.nD,
      r.2.mem ((c.tc : Thread Cert.GradUpQIdeal.nD Cert.GradUpQIdeal.τ).loc Cert.GradUpQIdeal.main_arg0) = m ((c.tc : Thread Cert.GradUpQIdeal.nD Cert.GradUpQIdeal.τ).loc Cert.GradUpQIdeal.main_arg0)
      ∧ r.2.mem ((c.tc : Thread Cert.GradUpQIdeal.nD Cert.GradUpQIdeal.τ).loc Cert.GradUpQIdeal.main_arg1) = m ((c.tc : Thread Cert.GradUpQIdeal.nD Cert.GradUpQIdeal.τ).loc Cert.GradUpQIdeal.main_arg1)
      ∧ r.2.mem ((c.tc : Thread Cert.GradUpQIdeal.nD Cert.GradUpQIdeal.τ).loc Cert.GradUpQIdeal.main_arg2) = m ((c.tc : Thread Cert.GradUpQIdeal.nD Cert.GradUpQIdeal.τ).loc Cert.GradUpQIdeal.main_arg2))
      ∧ r.2.sem = fun _ => 0)

def quiescent_GradUpQRefIdeal [hGradUpQRefIdeal : Cert.GradUpQRefIdeal.Facts] : Prop :=
  ∀ (m : (ℓ : Loc Cert.GradUpQRefIdeal.nD Cert.GradUpQRefIdeal.τ Cert.GradUpQRefIdeal.sig) → Buf (Elt Ideal) ℓ) (g : Dev Cert.GradUpQRefIdeal.nD → PrngReg), Pre_GradUpQRefIdeal m →
    θ_run (Cert.GradUpQRefIdeal.defs (F := Ideal)) (onTc (τ := Cert.GradUpQRefIdeal.τ) (Cert.GradUpQRefIdeal.main (F := Ideal))) ⟨m, fun _ => 0, g⟩ (fun r => (∀ c : Dev Cert.GradUpQRefIdeal.nD,
      r.2.mem ((c.tc : Thread Cert.GradUpQRefIdeal.nD Cert.GradUpQRefIdeal.τ).loc Cert.GradUpQRefIdeal.main_arg0) = m ((c.tc : Thread Cert.GradUpQRefIdeal.nD Cert.GradUpQRefIdeal.τ).loc Cert.GradUpQRefIdeal.main_arg0)
      ∧ r.2.mem ((c.tc : Thread Cert.GradUpQRefIdeal.nD Cert.GradUpQRefIdeal.τ).loc Cert.GradUpQRefIdeal.main_arg1) = m ((c.tc : Thread Cert.GradUpQRefIdeal.nD Cert.GradUpQRefIdeal.τ).loc Cert.GradUpQRefIdeal.main_arg1)
      ∧ r.2.mem ((c.tc : Thread Cert.GradUpQRefIdeal.nD Cert.GradUpQRefIdeal.τ).loc Cert.GradUpQRefIdeal.main_arg2) = m ((c.tc : Thread Cert.GradUpQRefIdeal.nD Cert.GradUpQRefIdeal.τ).loc Cert.GradUpQRefIdeal.main_arg2))
      ∧ r.2.sem = fun _ => 0)

def quiescent_GradUpKv [hGradUpKv : Cert.GradUpKv.Facts] : Prop :=
  ∀ (m : (ℓ : Loc Cert.GradUpKv.nD Cert.GradUpKv.τ Cert.GradUpKv.sig) → Buf (Elt Bits) ℓ) (g : Dev Cert.GradUpKv.nD → PrngReg), Pre_GradUpKv m →
    θ_run (Cert.GradUpKv.defs (F := Bits)) (onTc (τ := Cert.GradUpKv.τ) (Cert.GradUpKv.main (F := Bits))) ⟨m, fun _ => 0, g⟩ (fun r => (∀ c : Dev Cert.GradUpKv.nD,
      r.2.mem ((c.tc : Thread Cert.GradUpKv.nD Cert.GradUpKv.τ).loc Cert.GradUpKv.main_arg0) = m ((c.tc : Thread Cert.GradUpKv.nD Cert.GradUpKv.τ).loc Cert.GradUpKv.main_arg0)
      ∧ r.2.mem ((c.tc : Thread Cert.GradUpKv.nD Cert.GradUpKv.τ).loc Cert.GradUpKv.main_arg1) = m ((c.tc : Thread Cert.GradUpKv.nD Cert.GradUpKv.τ).loc Cert.GradUpKv.main_arg1)
      ∧ r.2.mem ((c.tc : Thread Cert.GradUpKv.nD Cert.GradUpKv.τ).loc Cert.GradUpKv.main_arg2) = m ((c.tc : Thread Cert.GradUpKv.nD Cert.GradUpKv.τ).loc Cert.GradUpKv.main_arg2))
      ∧ r.2.sem = fun _ => 0)

def quiescent_GradUpKvIdeal [hGradUpKvIdeal : Cert.GradUpKvIdeal.Facts] : Prop :=
  ∀ (m : (ℓ : Loc Cert.GradUpKvIdeal.nD Cert.GradUpKvIdeal.τ Cert.GradUpKvIdeal.sig) → Buf (Elt Ideal) ℓ) (g : Dev Cert.GradUpKvIdeal.nD → PrngReg), Pre_GradUpKvIdeal m →
    θ_run (Cert.GradUpKvIdeal.defs (F := Ideal)) (onTc (τ := Cert.GradUpKvIdeal.τ) (Cert.GradUpKvIdeal.main (F := Ideal))) ⟨m, fun _ => 0, g⟩ (fun r => (∀ c : Dev Cert.GradUpKvIdeal.nD,
      r.2.mem ((c.tc : Thread Cert.GradUpKvIdeal.nD Cert.GradUpKvIdeal.τ).loc Cert.GradUpKvIdeal.main_arg0) = m ((c.tc : Thread Cert.GradUpKvIdeal.nD Cert.GradUpKvIdeal.τ).loc Cert.GradUpKvIdeal.main_arg0)
      ∧ r.2.mem ((c.tc : Thread Cert.GradUpKvIdeal.nD Cert.GradUpKvIdeal.τ).loc Cert.GradUpKvIdeal.main_arg1) = m ((c.tc : Thread Cert.GradUpKvIdeal.nD Cert.GradUpKvIdeal.τ).loc Cert.GradUpKvIdeal.main_arg1)
      ∧ r.2.mem ((c.tc : Thread Cert.GradUpKvIdeal.nD Cert.GradUpKvIdeal.τ).loc Cert.GradUpKvIdeal.main_arg2) = m ((c.tc : Thread Cert.GradUpKvIdeal.nD Cert.GradUpKvIdeal.τ).loc Cert.GradUpKvIdeal.main_arg2))
      ∧ r.2.sem = fun _ => 0)

def quiescent_GradUpKvRefIdeal [hGradUpKvRefIdeal : Cert.GradUpKvRefIdeal.Facts] : Prop :=
  ∀ (m : (ℓ : Loc Cert.GradUpKvRefIdeal.nD Cert.GradUpKvRefIdeal.τ Cert.GradUpKvRefIdeal.sig) → Buf (Elt Ideal) ℓ) (g : Dev Cert.GradUpKvRefIdeal.nD → PrngReg), Pre_GradUpKvRefIdeal m →
    θ_run (Cert.GradUpKvRefIdeal.defs (F := Ideal)) (onTc (τ := Cert.GradUpKvRefIdeal.τ) (Cert.GradUpKvRefIdeal.main (F := Ideal))) ⟨m, fun _ => 0, g⟩ (fun r => (∀ c : Dev Cert.GradUpKvRefIdeal.nD,
      r.2.mem ((c.tc : Thread Cert.GradUpKvRefIdeal.nD Cert.GradUpKvRefIdeal.τ).loc Cert.GradUpKvRefIdeal.main_arg0) = m ((c.tc : Thread Cert.GradUpKvRefIdeal.nD Cert.GradUpKvRefIdeal.τ).loc Cert.GradUpKvRefIdeal.main_arg0)
      ∧ r.2.mem ((c.tc : Thread Cert.GradUpKvRefIdeal.nD Cert.GradUpKvRefIdeal.τ).loc Cert.GradUpKvRefIdeal.main_arg1) = m ((c.tc : Thread Cert.GradUpKvRefIdeal.nD Cert.GradUpKvRefIdeal.τ).loc Cert.GradUpKvRefIdeal.main_arg1)
      ∧ r.2.mem ((c.tc : Thread Cert.GradUpKvRefIdeal.nD Cert.GradUpKvRefIdeal.τ).loc Cert.GradUpKvRefIdeal.main_arg2) = m ((c.tc : Thread Cert.GradUpKvRefIdeal.nD Cert.GradUpKvRefIdeal.τ).loc Cert.GradUpKvRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def quiescent_AttnOutBack [hAttnOutBack : Cert.AttnOutBack.Facts] : Prop :=
  ∀ (m : (ℓ : Loc Cert.AttnOutBack.nD Cert.AttnOutBack.τ Cert.AttnOutBack.sig) → Buf (Elt Bits) ℓ) (g : Dev Cert.AttnOutBack.nD → PrngReg), Pre_AttnOutBack m →
    θ_run (Cert.AttnOutBack.defs (F := Bits)) (onTc (τ := Cert.AttnOutBack.τ) (Cert.AttnOutBack.main (F := Bits))) ⟨m, fun _ => 0, g⟩ (fun r => (∀ c : Dev Cert.AttnOutBack.nD,
      r.2.mem ((c.tc : Thread Cert.AttnOutBack.nD Cert.AttnOutBack.τ).loc Cert.AttnOutBack.main_arg0) = m ((c.tc : Thread Cert.AttnOutBack.nD Cert.AttnOutBack.τ).loc Cert.AttnOutBack.main_arg0)
      ∧ r.2.mem ((c.tc : Thread Cert.AttnOutBack.nD Cert.AttnOutBack.τ).loc Cert.AttnOutBack.main_arg1) = m ((c.tc : Thread Cert.AttnOutBack.nD Cert.AttnOutBack.τ).loc Cert.AttnOutBack.main_arg1)
      ∧ r.2.mem ((c.tc : Thread Cert.AttnOutBack.nD Cert.AttnOutBack.τ).loc Cert.AttnOutBack.main_arg2) = m ((c.tc : Thread Cert.AttnOutBack.nD Cert.AttnOutBack.τ).loc Cert.AttnOutBack.main_arg2))
      ∧ r.2.sem = fun _ => 0)

def quiescent_AttnOutBackIdeal [hAttnOutBackIdeal : Cert.AttnOutBackIdeal.Facts] : Prop :=
  ∀ (m : (ℓ : Loc Cert.AttnOutBackIdeal.nD Cert.AttnOutBackIdeal.τ Cert.AttnOutBackIdeal.sig) → Buf (Elt Ideal) ℓ) (g : Dev Cert.AttnOutBackIdeal.nD → PrngReg), Pre_AttnOutBackIdeal m →
    θ_run (Cert.AttnOutBackIdeal.defs (F := Ideal)) (onTc (τ := Cert.AttnOutBackIdeal.τ) (Cert.AttnOutBackIdeal.main (F := Ideal))) ⟨m, fun _ => 0, g⟩ (fun r => (∀ c : Dev Cert.AttnOutBackIdeal.nD,
      r.2.mem ((c.tc : Thread Cert.AttnOutBackIdeal.nD Cert.AttnOutBackIdeal.τ).loc Cert.AttnOutBackIdeal.main_arg0) = m ((c.tc : Thread Cert.AttnOutBackIdeal.nD Cert.AttnOutBackIdeal.τ).loc Cert.AttnOutBackIdeal.main_arg0)
      ∧ r.2.mem ((c.tc : Thread Cert.AttnOutBackIdeal.nD Cert.AttnOutBackIdeal.τ).loc Cert.AttnOutBackIdeal.main_arg1) = m ((c.tc : Thread Cert.AttnOutBackIdeal.nD Cert.AttnOutBackIdeal.τ).loc Cert.AttnOutBackIdeal.main_arg1)
      ∧ r.2.mem ((c.tc : Thread Cert.AttnOutBackIdeal.nD Cert.AttnOutBackIdeal.τ).loc Cert.AttnOutBackIdeal.main_arg2) = m ((c.tc : Thread Cert.AttnOutBackIdeal.nD Cert.AttnOutBackIdeal.τ).loc Cert.AttnOutBackIdeal.main_arg2))
      ∧ r.2.sem = fun _ => 0)

def quiescent_AttnOutBackRefIdeal [hAttnOutBackRefIdeal : Cert.AttnOutBackRefIdeal.Facts] : Prop :=
  ∀ (m : (ℓ : Loc Cert.AttnOutBackRefIdeal.nD Cert.AttnOutBackRefIdeal.τ Cert.AttnOutBackRefIdeal.sig) → Buf (Elt Ideal) ℓ) (g : Dev Cert.AttnOutBackRefIdeal.nD → PrngReg), Pre_AttnOutBackRefIdeal m →
    θ_run (Cert.AttnOutBackRefIdeal.defs (F := Ideal)) (onTc (τ := Cert.AttnOutBackRefIdeal.τ) (Cert.AttnOutBackRefIdeal.main (F := Ideal))) ⟨m, fun _ => 0, g⟩ (fun r => (∀ c : Dev Cert.AttnOutBackRefIdeal.nD,
      r.2.mem ((c.tc : Thread Cert.AttnOutBackRefIdeal.nD Cert.AttnOutBackRefIdeal.τ).loc Cert.AttnOutBackRefIdeal.main_arg0) = m ((c.tc : Thread Cert.AttnOutBackRefIdeal.nD Cert.AttnOutBackRefIdeal.τ).loc Cert.AttnOutBackRefIdeal.main_arg0)
      ∧ r.2.mem ((c.tc : Thread Cert.AttnOutBackRefIdeal.nD Cert.AttnOutBackRefIdeal.τ).loc Cert.AttnOutBackRefIdeal.main_arg1) = m ((c.tc : Thread Cert.AttnOutBackRefIdeal.nD Cert.AttnOutBackRefIdeal.τ).loc Cert.AttnOutBackRefIdeal.main_arg1)
      ∧ r.2.mem ((c.tc : Thread Cert.AttnOutBackRefIdeal.nD Cert.AttnOutBackRefIdeal.τ).loc Cert.AttnOutBackRefIdeal.main_arg2) = m ((c.tc : Thread Cert.AttnOutBackRefIdeal.nD Cert.AttnOutBackRefIdeal.τ).loc Cert.AttnOutBackRefIdeal.main_arg2))
      ∧ r.2.sem = fun _ => 0)

def quiescent_ConvPre [hConvPre : Cert.ConvPre.Facts] : Prop :=
  ∀ (m : (ℓ : Loc Cert.ConvPre.nD Cert.ConvPre.τ Cert.ConvPre.sig) → Buf (Elt Bits) ℓ) (g : Dev Cert.ConvPre.nD → PrngReg), Pre_ConvPre m →
    θ_run (Cert.ConvPre.defs (F := Bits)) (onTc (τ := Cert.ConvPre.τ) (Cert.ConvPre.main (F := Bits))) ⟨m, fun _ => 0, g⟩ (fun r => (∀ c : Dev Cert.ConvPre.nD,
      r.2.mem ((c.tc : Thread Cert.ConvPre.nD Cert.ConvPre.τ).loc Cert.ConvPre.main_arg0) = m ((c.tc : Thread Cert.ConvPre.nD Cert.ConvPre.τ).loc Cert.ConvPre.main_arg0)
      ∧ r.2.mem ((c.tc : Thread Cert.ConvPre.nD Cert.ConvPre.τ).loc Cert.ConvPre.main_arg1) = m ((c.tc : Thread Cert.ConvPre.nD Cert.ConvPre.τ).loc Cert.ConvPre.main_arg1)
      ∧ r.2.mem ((c.tc : Thread Cert.ConvPre.nD Cert.ConvPre.τ).loc Cert.ConvPre.main_arg2) = m ((c.tc : Thread Cert.ConvPre.nD Cert.ConvPre.τ).loc Cert.ConvPre.main_arg2))
      ∧ r.2.sem = fun _ => 0)

def quiescent_ConvPreIdeal [hConvPreIdeal : Cert.ConvPreIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2))
      ∧ r.2.sem = fun _ => 0)

def quiescent_ConvPreRefIdeal [hConvPreRefIdeal : Cert.ConvPreRefIdeal.Facts] : Prop :=
  ∀ (m : (ℓ : Loc Cert.ConvPreRefIdeal.nD Cert.ConvPreRefIdeal.τ Cert.ConvPreRefIdeal.sig) → Buf (Elt Ideal) ℓ) (g : Dev Cert.ConvPreRefIdeal.nD → PrngReg), Pre_ConvPreRefIdeal m →
    θ_run (Cert.ConvPreRefIdeal.defs (F := Ideal)) (onTc (τ := Cert.ConvPreRefIdeal.τ) (Cert.ConvPreRefIdeal.main (F := Ideal))) ⟨m, fun _ => 0, g⟩ (fun r => (∀ c : Dev Cert.ConvPreRefIdeal.nD,
      r.2.mem ((c.tc : Thread Cert.ConvPreRefIdeal.nD Cert.ConvPreRefIdeal.τ).loc Cert.ConvPreRefIdeal.main_arg0) = m ((c.tc : Thread Cert.ConvPreRefIdeal.nD Cert.ConvPreRefIdeal.τ).loc Cert.ConvPreRefIdeal.main_arg0)
      ∧ r.2.mem ((c.tc : Thread Cert.ConvPreRefIdeal.nD Cert.ConvPreRefIdeal.τ).loc Cert.ConvPreRefIdeal.main_arg1) = m ((c.tc : Thread Cert.ConvPreRefIdeal.nD Cert.ConvPreRefIdeal.τ).loc Cert.ConvPreRefIdeal.main_arg1)
      ∧ r.2.mem ((c.tc : Thread Cert.ConvPreRefIdeal.nD Cert.ConvPreRefIdeal.τ).loc Cert.ConvPreRefIdeal.main_arg2) = m ((c.tc : Thread Cert.ConvPreRefIdeal.nD Cert.ConvPreRefIdeal.τ).loc Cert.ConvPreRefIdeal.main_arg2))
      ∧ r.2.sem = fun _ => 0)

def quiescent_MlaPre [hMlaPre : Cert.MlaPre.Facts] : Prop :=
  ∀ (m : (ℓ : Loc Cert.MlaPre.nD Cert.MlaPre.τ Cert.MlaPre.sig) → Buf (Elt Bits) ℓ) (g : Dev Cert.MlaPre.nD → PrngReg), Pre_MlaPre m →
    θ_run (Cert.MlaPre.defs (F := Bits)) (onTc (τ := Cert.MlaPre.τ) (Cert.MlaPre.main (F := Bits))) ⟨m, fun _ => 0, g⟩ (fun r => (∀ c : Dev Cert.MlaPre.nD,
      r.2.mem ((c.tc : Thread Cert.MlaPre.nD Cert.MlaPre.τ).loc Cert.MlaPre.main_arg0) = m ((c.tc : Thread Cert.MlaPre.nD Cert.MlaPre.τ).loc Cert.MlaPre.main_arg0)
      ∧ r.2.mem ((c.tc : Thread Cert.MlaPre.nD Cert.MlaPre.τ).loc Cert.MlaPre.main_arg1) = m ((c.tc : Thread Cert.MlaPre.nD Cert.MlaPre.τ).loc Cert.MlaPre.main_arg1)
      ∧ r.2.mem ((c.tc : Thread Cert.MlaPre.nD Cert.MlaPre.τ).loc Cert.MlaPre.main_arg2) = m ((c.tc : Thread Cert.MlaPre.nD Cert.MlaPre.τ).loc Cert.MlaPre.main_arg2)
      ∧ r.2.mem ((c.tc : Thread Cert.MlaPre.nD Cert.MlaPre.τ).loc Cert.MlaPre.main_arg3) = m ((c.tc : Thread Cert.MlaPre.nD Cert.MlaPre.τ).loc Cert.MlaPre.main_arg3)
      ∧ r.2.mem ((c.tc : Thread Cert.MlaPre.nD Cert.MlaPre.τ).loc Cert.MlaPre.main_arg4) = m ((c.tc : Thread Cert.MlaPre.nD Cert.MlaPre.τ).loc Cert.MlaPre.main_arg4)
      ∧ r.2.mem ((c.tc : Thread Cert.MlaPre.nD Cert.MlaPre.τ).loc Cert.MlaPre.main_arg5) = m ((c.tc : Thread Cert.MlaPre.nD Cert.MlaPre.τ).loc Cert.MlaPre.main_arg5)
      ∧ r.2.mem ((c.tc : Thread Cert.MlaPre.nD Cert.MlaPre.τ).loc Cert.MlaPre.main_arg6) = m ((c.tc : Thread Cert.MlaPre.nD Cert.MlaPre.τ).loc Cert.MlaPre.main_arg6)
      ∧ r.2.mem ((c.tc : Thread Cert.MlaPre.nD Cert.MlaPre.τ).loc Cert.MlaPre.main_arg7) = m ((c.tc : Thread Cert.MlaPre.nD Cert.MlaPre.τ).loc Cert.MlaPre.main_arg7))
      ∧ r.2.sem = fun _ => 0)

def quiescent_MlaPreIdeal [hMlaPreIdeal : Cert.MlaPreIdeal.Facts] : Prop :=
  ∀ (m : (ℓ : Loc Cert.MlaPreIdeal.nD Cert.MlaPreIdeal.τ Cert.MlaPreIdeal.sig) → Buf (Elt Ideal) ℓ) (g : Dev Cert.MlaPreIdeal.nD → PrngReg), Pre_MlaPreIdeal m →
    θ_run (Cert.MlaPreIdeal.defs (F := Ideal)) (onTc (τ := Cert.MlaPreIdeal.τ) (Cert.MlaPreIdeal.main (F := Ideal))) ⟨m, fun _ => 0, g⟩ (fun r => (∀ c : Dev Cert.MlaPreIdeal.nD,
      r.2.mem ((c.tc : Thread Cert.MlaPreIdeal.nD Cert.MlaPreIdeal.τ).loc Cert.MlaPreIdeal.main_arg0) = m ((c.tc : Thread Cert.MlaPreIdeal.nD Cert.MlaPreIdeal.τ).loc Cert.MlaPreIdeal.main_arg0)
      ∧ r.2.mem ((c.tc : Thread Cert.MlaPreIdeal.nD Cert.MlaPreIdeal.τ).loc Cert.MlaPreIdeal.main_arg1) = m ((c.tc : Thread Cert.MlaPreIdeal.nD Cert.MlaPreIdeal.τ).loc Cert.MlaPreIdeal.main_arg1)
      ∧ r.2.mem ((c.tc : Thread Cert.MlaPreIdeal.nD Cert.MlaPreIdeal.τ).loc Cert.MlaPreIdeal.main_arg2) = m ((c.tc : Thread Cert.MlaPreIdeal.nD Cert.MlaPreIdeal.τ).loc Cert.MlaPreIdeal.main_arg2)
      ∧ r.2.mem ((c.tc : Thread Cert.MlaPreIdeal.nD Cert.MlaPreIdeal.τ).loc Cert.MlaPreIdeal.main_arg3) = m ((c.tc : Thread Cert.MlaPreIdeal.nD Cert.MlaPreIdeal.τ).loc Cert.MlaPreIdeal.main_arg3)
      ∧ r.2.mem ((c.tc : Thread Cert.MlaPreIdeal.nD Cert.MlaPreIdeal.τ).loc Cert.MlaPreIdeal.main_arg4) = m ((c.tc : Thread Cert.MlaPreIdeal.nD Cert.MlaPreIdeal.τ).loc Cert.MlaPreIdeal.main_arg4)
      ∧ r.2.mem ((c.tc : Thread Cert.MlaPreIdeal.nD Cert.MlaPreIdeal.τ).loc Cert.MlaPreIdeal.main_arg5) = m ((c.tc : Thread Cert.MlaPreIdeal.nD Cert.MlaPreIdeal.τ).loc Cert.MlaPreIdeal.main_arg5)
      ∧ r.2.mem ((c.tc : Thread Cert.MlaPreIdeal.nD Cert.MlaPreIdeal.τ).loc Cert.MlaPreIdeal.main_arg6) = m ((c.tc : Thread Cert.MlaPreIdeal.nD Cert.MlaPreIdeal.τ).loc Cert.MlaPreIdeal.main_arg6)
      ∧ r.2.mem ((c.tc : Thread Cert.MlaPreIdeal.nD Cert.MlaPreIdeal.τ).loc Cert.MlaPreIdeal.main_arg7) = m ((c.tc : Thread Cert.MlaPreIdeal.nD Cert.MlaPreIdeal.τ).loc Cert.MlaPreIdeal.main_arg7))
      ∧ r.2.sem = fun _ => 0)

def quiescent_MlaPreRefIdeal [hMlaPreRefIdeal : Cert.MlaPreRefIdeal.Facts] : Prop :=
  ∀ (m : (ℓ : Loc Cert.MlaPreRefIdeal.nD Cert.MlaPreRefIdeal.τ Cert.MlaPreRefIdeal.sig) → Buf (Elt Ideal) ℓ) (g : Dev Cert.MlaPreRefIdeal.nD → PrngReg), Pre_MlaPreRefIdeal m →
    θ_run (Cert.MlaPreRefIdeal.defs (F := Ideal)) (onTc (τ := Cert.MlaPreRefIdeal.τ) (Cert.MlaPreRefIdeal.main (F := Ideal))) ⟨m, fun _ => 0, g⟩ (fun r => (∀ c : Dev Cert.MlaPreRefIdeal.nD,
      r.2.mem ((c.tc : Thread Cert.MlaPreRefIdeal.nD Cert.MlaPreRefIdeal.τ).loc Cert.MlaPreRefIdeal.main_arg0) = m ((c.tc : Thread Cert.MlaPreRefIdeal.nD Cert.MlaPreRefIdeal.τ).loc Cert.MlaPreRefIdeal.main_arg0)
      ∧ r.2.mem ((c.tc : Thread Cert.MlaPreRefIdeal.nD Cert.MlaPreRefIdeal.τ).loc Cert.MlaPreRefIdeal.main_arg1) = m ((c.tc : Thread Cert.MlaPreRefIdeal.nD Cert.MlaPreRefIdeal.τ).loc Cert.MlaPreRefIdeal.main_arg1)
      ∧ r.2.mem ((c.tc : Thread Cert.MlaPreRefIdeal.nD Cert.MlaPreRefIdeal.τ).loc Cert.MlaPreRefIdeal.main_arg2) = m ((c.tc : Thread Cert.MlaPreRefIdeal.nD Cert.MlaPreRefIdeal.τ).loc Cert.MlaPreRefIdeal.main_arg2)
      ∧ r.2.mem ((c.tc : Thread Cert.MlaPreRefIdeal.nD Cert.MlaPreRefIdeal.τ).loc Cert.MlaPreRefIdeal.main_arg3) = m ((c.tc : Thread Cert.MlaPreRefIdeal.nD Cert.MlaPreRefIdeal.τ).loc Cert.MlaPreRefIdeal.main_arg3)
      ∧ r.2.mem ((c.tc : Thread Cert.MlaPreRefIdeal.nD Cert.MlaPreRefIdeal.τ).loc Cert.MlaPreRefIdeal.main_arg4) = m ((c.tc : Thread Cert.MlaPreRefIdeal.nD Cert.MlaPreRefIdeal.τ).loc Cert.MlaPreRefIdeal.main_arg4)
      ∧ r.2.mem ((c.tc : Thread Cert.MlaPreRefIdeal.nD Cert.MlaPreRefIdeal.τ).loc Cert.MlaPreRefIdeal.main_arg5) = m ((c.tc : Thread Cert.MlaPreRefIdeal.nD Cert.MlaPreRefIdeal.τ).loc Cert.MlaPreRefIdeal.main_arg5)
      ∧ r.2.mem ((c.tc : Thread Cert.MlaPreRefIdeal.nD Cert.MlaPreRefIdeal.τ).loc Cert.MlaPreRefIdeal.main_arg6) = m ((c.tc : Thread Cert.MlaPreRefIdeal.nD Cert.MlaPreRefIdeal.τ).loc Cert.MlaPreRefIdeal.main_arg6)
      ∧ r.2.mem ((c.tc : Thread Cert.MlaPreRefIdeal.nD Cert.MlaPreRefIdeal.τ).loc Cert.MlaPreRefIdeal.main_arg7) = m ((c.tc : Thread Cert.MlaPreRefIdeal.nD Cert.MlaPreRefIdeal.τ).loc Cert.MlaPreRefIdeal.main_arg7))
      ∧ r.2.sem = fun _ => 0)

def quiescent_AdamConvIn [hAdamConvIn : Cert.AdamConvIn.Facts] : Prop :=
  ∀ (m : (ℓ : Loc Cert.AdamConvIn.nD Cert.AdamConvIn.τ Cert.AdamConvIn.sig) → Buf (Elt Bits) ℓ) (g : Dev Cert.AdamConvIn.nD → PrngReg), Pre_AdamConvIn m →
    θ_run (Cert.AdamConvIn.defs (F := Bits)) (onTc (τ := Cert.AdamConvIn.τ) (Cert.AdamConvIn.main (F := Bits))) ⟨m, fun _ => 0, g⟩ (fun r => (∀ c : Dev Cert.AdamConvIn.nD,
      r.2.mem ((c.tc : Thread Cert.AdamConvIn.nD Cert.AdamConvIn.τ).loc Cert.AdamConvIn.main_arg0) = m ((c.tc : Thread Cert.AdamConvIn.nD Cert.AdamConvIn.τ).loc Cert.AdamConvIn.main_arg0)
      ∧ r.2.mem ((c.tc : Thread Cert.AdamConvIn.nD Cert.AdamConvIn.τ).loc Cert.AdamConvIn.main_arg1) = m ((c.tc : Thread Cert.AdamConvIn.nD Cert.AdamConvIn.τ).loc Cert.AdamConvIn.main_arg1)
      ∧ r.2.mem ((c.tc : Thread Cert.AdamConvIn.nD Cert.AdamConvIn.τ).loc Cert.AdamConvIn.main_arg2) = m ((c.tc : Thread Cert.AdamConvIn.nD Cert.AdamConvIn.τ).loc Cert.AdamConvIn.main_arg2)
      ∧ r.2.mem ((c.tc : Thread Cert.AdamConvIn.nD Cert.AdamConvIn.τ).loc Cert.AdamConvIn.main_arg3) = m ((c.tc : Thread Cert.AdamConvIn.nD Cert.AdamConvIn.τ).loc Cert.AdamConvIn.main_arg3))
      ∧ r.2.sem = fun _ => 0)

def quiescent_AdamConvInIdeal [hAdamConvInIdeal : Cert.AdamConvInIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg), Pre_AdamConvInIdeal m →
    θ_run (Cert.AdamConvInIdeal.defs (F := Ideal)) (onTc (τ := Cert.AdamConvInIdeal.τ) (Cert.AdamConvInIdeal.main (F := Ideal))) ⟨m, fun _ => 0, g⟩ (fun r => (∀ c : Dev Cert.AdamConvInIdeal.nD,
      r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
      ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
      ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
      ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ r.2.sem = fun _ => 0)

def quiescent_AdamConvInRefIdeal [hAdamConvInRefIdeal : Cert.AdamConvInRefIdeal.Facts] : Prop :=
  ∀ (m : (ℓ : Loc Cert.AdamConvInRefIdeal.nD Cert.AdamConvInRefIdeal.τ Cert.AdamConvInRefIdeal.sig) → Buf (Elt Ideal) ℓ) (g : Dev Cert.AdamConvInRefIdeal.nD → PrngReg), Pre_AdamConvInRefIdeal m →
    θ_run (Cert.AdamConvInRefIdeal.defs (F := Ideal)) (onTc (τ := Cert.AdamConvInRefIdeal.τ) (Cert.AdamConvInRefIdeal.main (F := Ideal))) ⟨m, fun _ => 0, g⟩ (fun r => (∀ c : Dev Cert.AdamConvInRefIdeal.nD,
      r.2.mem ((c.tc : Thread Cert.AdamConvInRefIdeal.nD Cert.AdamConvInRefIdeal.τ).loc Cert.AdamConvInRefIdeal.main_arg0) = m ((c.tc : Thread Cert.AdamConvInRefIdeal.nD Cert.AdamConvInRefIdeal.τ).loc Cert.AdamConvInRefIdeal.main_arg0)
      ∧ r.2.mem ((c.tc : Thread Cert.AdamConvInRefIdeal.nD Cert.AdamConvInRefIdeal.τ).loc Cert.AdamConvInRefIdeal.main_arg1) = m ((c.tc : Thread Cert.AdamConvInRefIdeal.nD Cert.AdamConvInRefIdeal.τ).loc Cert.AdamConvInRefIdeal.main_arg1)
      ∧ r.2.mem ((c.tc : Thread Cert.AdamConvInRefIdeal.nD Cert.AdamConvInRefIdeal.τ).loc Cert.AdamConvInRefIdeal.main_arg2) = m ((c.tc : Thread Cert.AdamConvInRefIdeal.nD Cert.AdamConvInRefIdeal.τ).loc Cert.AdamConvInRefIdeal.main_arg2)
      ∧ r.2.mem ((c.tc : Thread Cert.AdamConvInRefIdeal.nD Cert.AdamConvInRefIdeal.τ).loc Cert.AdamConvInRefIdeal.main_arg3) = m ((c.tc : Thread Cert.AdamConvInRefIdeal.nD Cert.AdamConvInRefIdeal.τ).loc Cert.AdamConvInRefIdeal.main_arg3))
      ∧ r.2.sem = fun _ => 0)

def quiescent_AdamConvOut [hAdamConvOut : Cert.AdamConvOut.Facts] : Prop :=
  ∀ (m : (ℓ : Loc Cert.AdamConvOut.nD Cert.AdamConvOut.τ Cert.AdamConvOut.sig) → Buf (Elt Bits) ℓ) (g : Dev Cert.AdamConvOut.nD → PrngReg), Pre_AdamConvOut m →
    θ_run (Cert.AdamConvOut.defs (F := Bits)) (onTc (τ := Cert.AdamConvOut.τ) (Cert.AdamConvOut.main (F := Bits))) ⟨m, fun _ => 0, g⟩ (fun r => (∀ c : Dev Cert.AdamConvOut.nD,
      r.2.mem ((c.tc : Thread Cert.AdamConvOut.nD Cert.AdamConvOut.τ).loc Cert.AdamConvOut.main_arg0) = m ((c.tc : Thread Cert.AdamConvOut.nD Cert.AdamConvOut.τ).loc Cert.AdamConvOut.main_arg0)
      ∧ r.2.mem ((c.tc : Thread Cert.AdamConvOut.nD Cert.AdamConvOut.τ).loc Cert.AdamConvOut.main_arg1) = m ((c.tc : Thread Cert.AdamConvOut.nD Cert.AdamConvOut.τ).loc Cert.AdamConvOut.main_arg1)
      ∧ r.2.mem ((c.tc : Thread Cert.AdamConvOut.nD Cert.AdamConvOut.τ).loc Cert.AdamConvOut.main_arg2) = m ((c.tc : Thread Cert.AdamConvOut.nD Cert.AdamConvOut.τ).loc Cert.AdamConvOut.main_arg2)
      ∧ r.2.mem ((c.tc : Thread Cert.AdamConvOut.nD Cert.AdamConvOut.τ).loc Cert.AdamConvOut.main_arg3) = m ((c.tc : Thread Cert.AdamConvOut.nD Cert.AdamConvOut.τ).loc Cert.AdamConvOut.main_arg3))
      ∧ r.2.sem = fun _ => 0)

def quiescent_AdamConvOutIdeal [hAdamConvOutIdeal : Cert.AdamConvOutIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg), Pre_AdamConvOutIdeal m →
    θ_run (Cert.AdamConvOutIdeal.defs (F := Ideal)) (onTc (τ := Cert.AdamConvOutIdeal.τ) (Cert.AdamConvOutIdeal.main (F := Ideal))) ⟨m, fun _ => 0, g⟩ (fun r => (∀ c : Dev Cert.AdamConvOutIdeal.nD,
      r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
      ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
      ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
      ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ r.2.sem = fun _ => 0)

def quiescent_AdamConvOutRefIdeal [hAdamConvOutRefIdeal : Cert.AdamConvOutRefIdeal.Facts] : Prop :=
  ∀ (m : (ℓ : Loc Cert.AdamConvOutRefIdeal.nD Cert.AdamConvOutRefIdeal.τ Cert.AdamConvOutRefIdeal.sig) → Buf (Elt Ideal) ℓ) (g : Dev Cert.AdamConvOutRefIdeal.nD → PrngReg), Pre_AdamConvOutRefIdeal m →
    θ_run (Cert.AdamConvOutRefIdeal.defs (F := Ideal)) (onTc (τ := Cert.AdamConvOutRefIdeal.τ) (Cert.AdamConvOutRefIdeal.main (F := Ideal))) ⟨m, fun _ => 0, g⟩ (fun r => (∀ c : Dev Cert.AdamConvOutRefIdeal.nD,
      r.2.mem ((c.tc : Thread Cert.AdamConvOutRefIdeal.nD Cert.AdamConvOutRefIdeal.τ).loc Cert.AdamConvOutRefIdeal.main_arg0) = m ((c.tc : Thread Cert.AdamConvOutRefIdeal.nD Cert.AdamConvOutRefIdeal.τ).loc Cert.AdamConvOutRefIdeal.main_arg0)
      ∧ r.2.mem ((c.tc : Thread Cert.AdamConvOutRefIdeal.nD Cert.AdamConvOutRefIdeal.τ).loc Cert.AdamConvOutRefIdeal.main_arg1) = m ((c.tc : Thread Cert.AdamConvOutRefIdeal.nD Cert.AdamConvOutRefIdeal.τ).loc Cert.AdamConvOutRefIdeal.main_arg1)
      ∧ r.2.mem ((c.tc : Thread Cert.AdamConvOutRefIdeal.nD Cert.AdamConvOutRefIdeal.τ).loc Cert.AdamConvOutRefIdeal.main_arg2) = m ((c.tc : Thread Cert.AdamConvOutRefIdeal.nD Cert.AdamConvOutRefIdeal.τ).loc Cert.AdamConvOutRefIdeal.main_arg2)
      ∧ r.2.mem ((c.tc : Thread Cert.AdamConvOutRefIdeal.nD Cert.AdamConvOutRefIdeal.τ).loc Cert.AdamConvOutRefIdeal.main_arg3) = m ((c.tc : Thread Cert.AdamConvOutRefIdeal.nD Cert.AdamConvOutRefIdeal.τ).loc Cert.AdamConvOutRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamUpKv [hAdamUpKv : Cert.AdamUpKv.Facts] : Prop :=
  ∀ (m : (ℓ : Loc Cert.AdamUpKv.nD Cert.AdamUpKv.τ Cert.AdamUpKv.sig) → Buf (Elt Bits) ℓ) (g : Dev Cert.AdamUpKv.nD → PrngReg), Pre_AdamUpKv m →
    θ_run (Cert.AdamUpKv.defs (F := Bits)) (onTc (τ := Cert.AdamUpKv.τ) (Cert.AdamUpKv.main (F := Bits))) ⟨m, fun _ => 0, g⟩ (fun r => (∀ c : Dev Cert.AdamUpKv.nD,
      r.2.mem ((c.tc : Thread Cert.AdamUpKv.nD Cert.AdamUpKv.τ).loc Cert.AdamUpKv.main_arg0) = m ((c.tc : Thread Cert.AdamUpKv.nD Cert.AdamUpKv.τ).loc Cert.AdamUpKv.main_arg0)
      ∧ r.2.mem ((c.tc : Thread Cert.AdamUpKv.nD Cert.AdamUpKv.τ).loc Cert.AdamUpKv.main_arg1) = m ((c.tc : Thread Cert.AdamUpKv.nD Cert.AdamUpKv.τ).loc Cert.AdamUpKv.main_arg1)
      ∧ r.2.mem ((c.tc : Thread Cert.AdamUpKv.nD Cert.AdamUpKv.τ).loc Cert.AdamUpKv.main_arg2) = m ((c.tc : Thread Cert.AdamUpKv.nD Cert.AdamUpKv.τ).loc Cert.AdamUpKv.main_arg2)
      ∧ r.2.mem ((c.tc : Thread Cert.AdamUpKv.nD Cert.AdamUpKv.τ).loc Cert.AdamUpKv.main_arg3) = m ((c.tc : Thread Cert.AdamUpKv.nD Cert.AdamUpKv.τ).loc Cert.AdamUpKv.main_arg3))
      ∧ r.2.sem = fun _ => 0)

def quiescent_AdamUpKvIdeal [hAdamUpKvIdeal : Cert.AdamUpKvIdeal.Facts] : Prop :=
  ∀ (m : (ℓ : Loc Cert.AdamUpKvIdeal.nD Cert.AdamUpKvIdeal.τ Cert.AdamUpKvIdeal.sig) → Buf (Elt Ideal) ℓ) (g : Dev Cert.AdamUpKvIdeal.nD → PrngReg), Pre_AdamUpKvIdeal m →
    θ_run (Cert.AdamUpKvIdeal.defs (F := Ideal)) (onTc (τ := Cert.AdamUpKvIdeal.τ) (Cert.AdamUpKvIdeal.main (F := Ideal))) ⟨m, fun _ => 0, g⟩ (fun r => (∀ c : Dev Cert.AdamUpKvIdeal.nD,
      r.2.mem ((c.tc : Thread Cert.AdamUpKvIdeal.nD Cert.AdamUpKvIdeal.τ).loc Cert.AdamUpKvIdeal.main_arg0) = m ((c.tc : Thread Cert.AdamUpKvIdeal.nD Cert.AdamUpKvIdeal.τ).loc Cert.AdamUpKvIdeal.main_arg0)
      ∧ r.2.mem ((c.tc : Thread Cert.AdamUpKvIdeal.nD Cert.AdamUpKvIdeal.τ).loc Cert.AdamUpKvIdeal.main_arg1) = m ((c.tc : Thread Cert.AdamUpKvIdeal.nD Cert.AdamUpKvIdeal.τ).loc Cert.AdamUpKvIdeal.main_arg1)
      ∧ r.2.mem ((c.tc : Thread Cert.AdamUpKvIdeal.nD Cert.AdamUpKvIdeal.τ).loc Cert.AdamUpKvIdeal.main_arg2) = m ((c.tc : Thread Cert.AdamUpKvIdeal.nD Cert.AdamUpKvIdeal.τ).loc Cert.AdamUpKvIdeal.main_arg2)
      ∧ r.2.mem ((c.tc : Thread Cert.AdamUpKvIdeal.nD Cert.AdamUpKvIdeal.τ).loc Cert.AdamUpKvIdeal.main_arg3) = m ((c.tc : Thread Cert.AdamUpKvIdeal.nD Cert.AdamUpKvIdeal.τ).loc Cert.AdamUpKvIdeal.main_arg3))
      ∧ r.2.sem = fun _ => 0)

def quiescent_AdamUpKvRefIdeal [hAdamUpKvRefIdeal : Cert.AdamUpKvRefIdeal.Facts] : Prop :=
  ∀ (m : (ℓ : Loc Cert.AdamUpKvRefIdeal.nD Cert.AdamUpKvRefIdeal.τ Cert.AdamUpKvRefIdeal.sig) → Buf (Elt Ideal) ℓ) (g : Dev Cert.AdamUpKvRefIdeal.nD → PrngReg), Pre_AdamUpKvRefIdeal m →
    θ_run (Cert.AdamUpKvRefIdeal.defs (F := Ideal)) (onTc (τ := Cert.AdamUpKvRefIdeal.τ) (Cert.AdamUpKvRefIdeal.main (F := Ideal))) ⟨m, fun _ => 0, g⟩ (fun r => (∀ c : Dev Cert.AdamUpKvRefIdeal.nD,
      r.2.mem ((c.tc : Thread Cert.AdamUpKvRefIdeal.nD Cert.AdamUpKvRefIdeal.τ).loc Cert.AdamUpKvRefIdeal.main_arg0) = m ((c.tc : Thread Cert.AdamUpKvRefIdeal.nD Cert.AdamUpKvRefIdeal.τ).loc Cert.AdamUpKvRefIdeal.main_arg0)
      ∧ r.2.mem ((c.tc : Thread Cert.AdamUpKvRefIdeal.nD Cert.AdamUpKvRefIdeal.τ).loc Cert.AdamUpKvRefIdeal.main_arg1) = m ((c.tc : Thread Cert.AdamUpKvRefIdeal.nD Cert.AdamUpKvRefIdeal.τ).loc Cert.AdamUpKvRefIdeal.main_arg1)
      ∧ r.2.mem ((c.tc : Thread Cert.AdamUpKvRefIdeal.nD Cert.AdamUpKvRefIdeal.τ).loc Cert.AdamUpKvRefIdeal.main_arg2) = m ((c.tc : Thread Cert.AdamUpKvRefIdeal.nD Cert.AdamUpKvRefIdeal.τ).loc Cert.AdamUpKvRefIdeal.main_arg2)
      ∧ r.2.mem ((c.tc : Thread Cert.AdamUpKvRefIdeal.nD Cert.AdamUpKvRefIdeal.τ).loc Cert.AdamUpKvRefIdeal.main_arg3) = m ((c.tc : Thread Cert.AdamUpKvRefIdeal.nD Cert.AdamUpKvRefIdeal.τ).loc Cert.AdamUpKvRefIdeal.main_arg3))
      ∧ r.2.sem = fun _ => 0)

def quiescent_AdamUpQ [hAdamUpQ : Cert.AdamUpQ.Facts] : Prop :=
  ∀ (m : (ℓ : Loc Cert.AdamUpQ.nD Cert.AdamUpQ.τ Cert.AdamUpQ.sig) → Buf (Elt Bits) ℓ) (g : Dev Cert.AdamUpQ.nD → PrngReg), Pre_AdamUpQ m →
    θ_run (Cert.AdamUpQ.defs (F := Bits)) (onTc (τ := Cert.AdamUpQ.τ) (Cert.AdamUpQ.main (F := Bits))) ⟨m, fun _ => 0, g⟩ (fun r => (∀ c : Dev Cert.AdamUpQ.nD,
      r.2.mem ((c.tc : Thread Cert.AdamUpQ.nD Cert.AdamUpQ.τ).loc Cert.AdamUpQ.main_arg0) = m ((c.tc : Thread Cert.AdamUpQ.nD Cert.AdamUpQ.τ).loc Cert.AdamUpQ.main_arg0)
      ∧ r.2.mem ((c.tc : Thread Cert.AdamUpQ.nD Cert.AdamUpQ.τ).loc Cert.AdamUpQ.main_arg1) = m ((c.tc : Thread Cert.AdamUpQ.nD Cert.AdamUpQ.τ).loc Cert.AdamUpQ.main_arg1)
      ∧ r.2.mem ((c.tc : Thread Cert.AdamUpQ.nD Cert.AdamUpQ.τ).loc Cert.AdamUpQ.main_arg2) = m ((c.tc : Thread Cert.AdamUpQ.nD Cert.AdamUpQ.τ).loc Cert.AdamUpQ.main_arg2)
      ∧ r.2.mem ((c.tc : Thread Cert.AdamUpQ.nD Cert.AdamUpQ.τ).loc Cert.AdamUpQ.main_arg3) = m ((c.tc : Thread Cert.AdamUpQ.nD Cert.AdamUpQ.τ).loc Cert.AdamUpQ.main_arg3))
      ∧ r.2.sem = fun _ => 0)

def quiescent_AdamUpQIdeal [hAdamUpQIdeal : Cert.AdamUpQIdeal.Facts] : Prop :=
  ∀ (m : (ℓ : Loc Cert.AdamUpQIdeal.nD Cert.AdamUpQIdeal.τ Cert.AdamUpQIdeal.sig) → Buf (Elt Ideal) ℓ) (g : Dev Cert.AdamUpQIdeal.nD → PrngReg), Pre_AdamUpQIdeal m →
    θ_run (Cert.AdamUpQIdeal.defs (F := Ideal)) (onTc (τ := Cert.AdamUpQIdeal.τ) (Cert.AdamUpQIdeal.main (F := Ideal))) ⟨m, fun _ => 0, g⟩ (fun r => (∀ c : Dev Cert.AdamUpQIdeal.nD,
      r.2.mem ((c.tc : Thread Cert.AdamUpQIdeal.nD Cert.AdamUpQIdeal.τ).loc Cert.AdamUpQIdeal.main_arg0) = m ((c.tc : Thread Cert.AdamUpQIdeal.nD Cert.AdamUpQIdeal.τ).loc Cert.AdamUpQIdeal.main_arg0)
      ∧ r.2.mem ((c.tc : Thread Cert.AdamUpQIdeal.nD Cert.AdamUpQIdeal.τ).loc Cert.AdamUpQIdeal.main_arg1) = m ((c.tc : Thread Cert.AdamUpQIdeal.nD Cert.AdamUpQIdeal.τ).loc Cert.AdamUpQIdeal.main_arg1)
      ∧ r.2.mem ((c.tc : Thread Cert.AdamUpQIdeal.nD Cert.AdamUpQIdeal.τ).loc Cert.AdamUpQIdeal.main_arg2) = m ((c.tc : Thread Cert.AdamUpQIdeal.nD Cert.AdamUpQIdeal.τ).loc Cert.AdamUpQIdeal.main_arg2)
      ∧ r.2.mem ((c.tc : Thread Cert.AdamUpQIdeal.nD Cert.AdamUpQIdeal.τ).loc Cert.AdamUpQIdeal.main_arg3) = m ((c.tc : Thread Cert.AdamUpQIdeal.nD Cert.AdamUpQIdeal.τ).loc Cert.AdamUpQIdeal.main_arg3))
      ∧ r.2.sem = fun _ => 0)

def quiescent_AdamUpQRefIdeal [hAdamUpQRefIdeal : Cert.AdamUpQRefIdeal.Facts] : Prop :=
  ∀ (m : (ℓ : Loc Cert.AdamUpQRefIdeal.nD Cert.AdamUpQRefIdeal.τ Cert.AdamUpQRefIdeal.sig) → Buf (Elt Ideal) ℓ) (g : Dev Cert.AdamUpQRefIdeal.nD → PrngReg), Pre_AdamUpQRefIdeal m →
    θ_run (Cert.AdamUpQRefIdeal.defs (F := Ideal)) (onTc (τ := Cert.AdamUpQRefIdeal.τ) (Cert.AdamUpQRefIdeal.main (F := Ideal))) ⟨m, fun _ => 0, g⟩ (fun r => (∀ c : Dev Cert.AdamUpQRefIdeal.nD,
      r.2.mem ((c.tc : Thread Cert.AdamUpQRefIdeal.nD Cert.AdamUpQRefIdeal.τ).loc Cert.AdamUpQRefIdeal.main_arg0) = m ((c.tc : Thread Cert.AdamUpQRefIdeal.nD Cert.AdamUpQRefIdeal.τ).loc Cert.AdamUpQRefIdeal.main_arg0)
      ∧ r.2.mem ((c.tc : Thread Cert.AdamUpQRefIdeal.nD Cert.AdamUpQRefIdeal.τ).loc Cert.AdamUpQRefIdeal.main_arg1) = m ((c.tc : Thread Cert.AdamUpQRefIdeal.nD Cert.AdamUpQRefIdeal.τ).loc Cert.AdamUpQRefIdeal.main_arg1)
      ∧ r.2.mem ((c.tc : Thread Cert.AdamUpQRefIdeal.nD Cert.AdamUpQRefIdeal.τ).loc Cert.AdamUpQRefIdeal.main_arg2) = m ((c.tc : Thread Cert.AdamUpQRefIdeal.nD Cert.AdamUpQRefIdeal.τ).loc Cert.AdamUpQRefIdeal.main_arg2)
      ∧ r.2.mem ((c.tc : Thread Cert.AdamUpQRefIdeal.nD Cert.AdamUpQRefIdeal.τ).loc Cert.AdamUpQRefIdeal.main_arg3) = m ((c.tc : Thread Cert.AdamUpQRefIdeal.nD Cert.AdamUpQRefIdeal.τ).loc Cert.AdamUpQRefIdeal.main_arg3))
      ∧ r.2.sem = fun _ => 0)

def preserves_ConvPost_ConvPostIdeal : Prop :=
  True

def algebraic_ConvPostIdeal_ConvPostRefIdeal_pre_conv_post_finite [hConvPostIdeal : Cert.ConvPostIdeal.Facts] [hConvPostRefIdeal : Cert.ConvPostRefIdeal.Facts] [hPre_conv_post_finite : Cert.Pre_conv_post_finite.Facts] : Prop :=
  ∀ (m : (ℓ : Loc Cert.ConvPostIdeal.nD Cert.ConvPostIdeal.τ Cert.ConvPostIdeal.sig) → Buf (Elt Ideal) ℓ) (g : Dev Cert.ConvPostIdeal.nD → PrngReg)
    (m' : (ℓ : Loc Cert.ConvPostRefIdeal.nD Cert.ConvPostRefIdeal.τ Cert.ConvPostRefIdeal.sig) → Buf (Elt Ideal) ℓ) (g' : Dev Cert.ConvPostRefIdeal.nD → PrngReg), Pre_ConvPostIdeal_conv_post_finite m →
    (∀ c : Dev Cert.ConvPostIdeal.nD,
      m' ((c.tc : Thread Cert.ConvPostRefIdeal.nD Cert.ConvPostRefIdeal.τ).loc Cert.ConvPostRefIdeal.main_arg0) = m ((c.tc : Thread Cert.ConvPostIdeal.nD Cert.ConvPostIdeal.τ).loc Cert.ConvPostIdeal.main_arg0)
      ∧ m' ((c.tc : Thread Cert.ConvPostRefIdeal.nD Cert.ConvPostRefIdeal.τ).loc Cert.ConvPostRefIdeal.main_arg1) = m ((c.tc : Thread Cert.ConvPostIdeal.nD Cert.ConvPostIdeal.τ).loc Cert.ConvPostIdeal.main_arg1)
      ∧ m' ((c.tc : Thread Cert.ConvPostRefIdeal.nD Cert.ConvPostRefIdeal.τ).loc Cert.ConvPostRefIdeal.main_arg2) = m ((c.tc : Thread Cert.ConvPostIdeal.nD Cert.ConvPostIdeal.τ).loc Cert.ConvPostIdeal.main_arg2)
      ∧ m' ((c.tc : Thread Cert.ConvPostRefIdeal.nD Cert.ConvPostRefIdeal.τ).loc Cert.ConvPostRefIdeal.main_arg3) = m ((c.tc : Thread Cert.ConvPostIdeal.nD Cert.ConvPostIdeal.τ).loc Cert.ConvPostIdeal.main_arg3)) →
    ∃ (v0 : (c : Dev Cert.ConvPostIdeal.nD) → Buf (Elt Ideal) ((c.tc : Thread Cert.ConvPostIdeal.nD Cert.ConvPostIdeal.τ).loc Cert.ConvPostIdeal.main_v2_0)) (v1 : (c : Dev Cert.ConvPostIdeal.nD) → Buf (Elt Ideal) ((c.tc : Thread Cert.ConvPostIdeal.nD Cert.ConvPostIdeal.τ).loc Cert.ConvPostIdeal.main_v2_1)),
      θ_run (Cert.ConvPostIdeal.defs (F := Ideal)) (onTc (τ := Cert.ConvPostIdeal.τ) (Cert.ConvPostIdeal.main (F := Ideal))) ⟨m, fun _ => 0, g⟩ (fun r => ∀ c : Dev Cert.ConvPostIdeal.nD,
          r.2.mem ((c.tc : Thread Cert.ConvPostIdeal.nD Cert.ConvPostIdeal.τ).loc Cert.ConvPostIdeal.main_v2_0) = v0 c
          ∧ r.2.mem ((c.tc : Thread Cert.ConvPostIdeal.nD Cert.ConvPostIdeal.τ).loc Cert.ConvPostIdeal.main_v2_1) = v1 c
          ∧ r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
          ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
          ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
          ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3))
      ∧ θ_run (Cert.ConvPostRefIdeal.defs (F := Ideal)) (onTc (τ := Cert.ConvPostRefIdeal.τ) (Cert.ConvPostRefIdeal.main (F := Ideal))) ⟨m', fun _ => 0, g'⟩ (fun r => ∀ c : Dev Cert.ConvPostRefIdeal.nD,
          r.2.mem ((c.tc : Thread Cert.ConvPostRefIdeal.nD Cert.ConvPostRefIdeal.τ).loc Cert.ConvPostRefIdeal.main_v39) = v0 c
          ∧ r.2.mem ((c.tc : Thread Cert.ConvPostRefIdeal.nD Cert.ConvPostRefIdeal.τ).loc Cert.ConvPostRefIdeal.main_v40) = v1 c
          ∧ r.2.mem ((c.tc : Thread Cert.ConvPostRefIdeal.nD Cert.ConvPostRefIdeal.τ).loc Cert.ConvPostRefIdeal.main_arg0) = m' ((c.tc : Thread Cert.ConvPostRefIdeal.nD Cert.ConvPostRefIdeal.τ).loc Cert.ConvPostRefIdeal.main_arg0)
          ∧ r.2.mem ((c.tc : Thread Cert.ConvPostRefIdeal.nD Cert.ConvPostRefIdeal.τ).loc Cert.ConvPostRefIdeal.main_arg1) = m' ((c.tc : Thread Cert.ConvPostRefIdeal.nD Cert.ConvPostRefIdeal.τ).loc Cert.ConvPostRefIdeal.main_arg1)
          ∧ r.2.mem ((c.tc : Thread Cert.ConvPostRefIdeal.nD Cert.ConvPostRefIdeal.τ).loc Cert.ConvPostRefIdeal.main_arg2) = m' ((c.tc : Thread Cert.ConvPostRefIdeal.nD Cert.ConvPostRefIdeal.τ).loc Cert.ConvPostRefIdeal.main_arg2)
          ∧ r.2.mem ((c.tc : Thread Cert.ConvPostRefIdeal.nD Cert.ConvPostRefIdeal.τ).loc Cert.ConvPostRefIdeal.main_arg3) = m' ((c.tc : Thread Cert.ConvPostRefIdeal.nD Cert.ConvPostRefIdeal.τ).loc Cert.ConvPostRefIdeal.main_arg3))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)
      ∧ m' ((c.tc : Thread Cert.GradInRefIdeal.nD Cert.GradInRefIdeal.τ).loc Cert.GradInRefIdeal.main_arg2) = m ((c.tc : Thread Cert.GradInIdeal.nD Cert.GradInIdeal.τ).loc Cert.GradInIdeal.main_arg2)
      ∧ m' ((c.tc : Thread Cert.GradInRefIdeal.nD Cert.GradInRefIdeal.τ).loc Cert.GradInRefIdeal.main_arg3) = m ((c.tc : Thread Cert.GradInIdeal.nD Cert.GradInIdeal.τ).loc Cert.GradInIdeal.main_arg3)
      ∧ m' ((c.tc : Thread Cert.GradInRefIdeal.nD Cert.GradInRefIdeal.τ).loc Cert.GradInRefIdeal.main_arg4) = m ((c.tc : Thread Cert.GradInIdeal.nD Cert.GradInIdeal.τ).loc Cert.GradInIdeal.main_arg4)) →
    ∃ (v0 : (c : Dev Cert.GradInIdeal.nD) → Buf (Elt Ideal) ((c.tc : Thread Cert.GradInIdeal.nD Cert.GradInIdeal.τ).loc Cert.GradInIdeal.main_v12)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v12) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
          ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v15) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1)
          ∧ r.2.mem ((c.tc : Thread Cert.GradInRefIdeal.nD Cert.GradInRefIdeal.τ).loc Cert.GradInRefIdeal.main_arg2) = m' ((c.tc : Thread Cert.GradInRefIdeal.nD Cert.GradInRefIdeal.τ).loc Cert.GradInRefIdeal.main_arg2)
          ∧ r.2.mem ((c.tc : Thread Cert.GradInRefIdeal.nD Cert.GradInRefIdeal.τ).loc Cert.GradInRefIdeal.main_arg3) = m' ((c.tc : Thread Cert.GradInRefIdeal.nD Cert.GradInRefIdeal.τ).loc Cert.GradInRefIdeal.main_arg3)
          ∧ r.2.mem ((c.tc : Thread Cert.GradInRefIdeal.nD Cert.GradInRefIdeal.τ).loc Cert.GradInRefIdeal.main_arg4) = m' ((c.tc : Thread Cert.GradInRefIdeal.nD Cert.GradInRefIdeal.τ).loc Cert.GradInRefIdeal.main_arg4))

def preserves_GradInOne_GradInOneIdeal : Prop :=
  True

def algebraic_GradInOneIdeal_GradInOneRefIdeal [hGradInOneIdeal : Cert.GradInOneIdeal.Facts] [hGradInOneRefIdeal : Cert.GradInOneRefIdeal.Facts] : Prop :=
  ∀ (m : (ℓ : Loc Cert.GradInOneIdeal.nD Cert.GradInOneIdeal.τ Cert.GradInOneIdeal.sig) → Buf (Elt Ideal) ℓ) (g : Dev Cert.GradInOneIdeal.nD → PrngReg)
    (m' : (ℓ : Loc Cert.GradInOneRefIdeal.nD Cert.GradInOneRefIdeal.τ Cert.GradInOneRefIdeal.sig) → Buf (Elt Ideal) ℓ) (g' : Dev Cert.GradInOneRefIdeal.nD → PrngReg), Pre_GradInOneIdeal m →
    (∀ c : Dev Cert.GradInOneIdeal.nD,
      m' ((c.tc : Thread Cert.GradInOneRefIdeal.nD Cert.GradInOneRefIdeal.τ).loc Cert.GradInOneRefIdeal.main_arg0) = m ((c.tc : Thread Cert.GradInOneIdeal.nD Cert.GradInOneIdeal.τ).loc Cert.GradInOneIdeal.main_arg0)
      ∧ m' ((c.tc : Thread Cert.GradInOneRefIdeal.nD Cert.GradInOneRefIdeal.τ).loc Cert.GradInOneRefIdeal.main_arg1) = m ((c.tc : Thread Cert.GradInOneIdeal.nD Cert.GradInOneIdeal.τ).loc Cert.GradInOneIdeal.main_arg1)
      ∧ m' ((c.tc : Thread Cert.GradInOneRefIdeal.nD Cert.GradInOneRefIdeal.τ).loc Cert.GradInOneRefIdeal.main_arg2) = m ((c.tc : Thread Cert.GradInOneIdeal.nD Cert.GradInOneIdeal.τ).loc Cert.GradInOneIdeal.main_arg2)
      ∧ m' ((c.tc : Thread Cert.GradInOneRefIdeal.nD Cert.GradInOneRefIdeal.τ).loc Cert.GradInOneRefIdeal.main_arg3) = m ((c.tc : Thread Cert.GradInOneIdeal.nD Cert.GradInOneIdeal.τ).loc Cert.GradInOneIdeal.main_arg3)
      ∧ m' ((c.tc : Thread Cert.GradInOneRefIdeal.nD Cert.GradInOneRefIdeal.τ).loc Cert.GradInOneRefIdeal.main_arg4) = m ((c.tc : Thread Cert.GradInOneIdeal.nD Cert.GradInOneIdeal.τ).loc Cert.GradInOneIdeal.main_arg4)) →
    ∃ (v0 : (c : Dev Cert.GradInOneIdeal.nD) → Buf (Elt Ideal) ((c.tc : Thread Cert.GradInOneIdeal.nD Cert.GradInOneIdeal.τ).loc Cert.GradInOneIdeal.main_v12)),
      θ_run (Cert.GradInOneIdeal.defs (F := Ideal)) (onTc (τ := Cert.GradInOneIdeal.τ) (Cert.GradInOneIdeal.main (F := Ideal))) ⟨m, fun _ => 0, g⟩ (fun r => ∀ c : Dev Cert.GradInOneIdeal.nD,
          r.2.mem ((c.tc : Thread Cert.GradInOneIdeal.nD Cert.GradInOneIdeal.τ).loc Cert.GradInOneIdeal.main_v12) = v0 c
          ∧ r.2.mem ((c.tc : Thread Cert.GradInOneIdeal.nD Cert.GradInOneIdeal.τ).loc Cert.GradInOneIdeal.main_arg0) = m ((c.tc : Thread Cert.GradInOneIdeal.nD Cert.GradInOneIdeal.τ).loc Cert.GradInOneIdeal.main_arg0)
          ∧ r.2.mem ((c.tc : Thread Cert.GradInOneIdeal.nD Cert.GradInOneIdeal.τ).loc Cert.GradInOneIdeal.main_arg1) = m ((c.tc : Thread Cert.GradInOneIdeal.nD Cert.GradInOneIdeal.τ).loc Cert.GradInOneIdeal.main_arg1)
          ∧ r.2.mem ((c.tc : Thread Cert.GradInOneIdeal.nD Cert.GradInOneIdeal.τ).loc Cert.GradInOneIdeal.main_arg2) = m ((c.tc : Thread Cert.GradInOneIdeal.nD Cert.GradInOneIdeal.τ).loc Cert.GradInOneIdeal.main_arg2)
          ∧ r.2.mem ((c.tc : Thread Cert.GradInOneIdeal.nD Cert.GradInOneIdeal.τ).loc Cert.GradInOneIdeal.main_arg3) = m ((c.tc : Thread Cert.GradInOneIdeal.nD Cert.GradInOneIdeal.τ).loc Cert.GradInOneIdeal.main_arg3)
          ∧ r.2.mem ((c.tc : Thread Cert.GradInOneIdeal.nD Cert.GradInOneIdeal.τ).loc Cert.GradInOneIdeal.main_arg4) = m ((c.tc : Thread Cert.GradInOneIdeal.nD Cert.GradInOneIdeal.τ).loc Cert.GradInOneIdeal.main_arg4))
      ∧ θ_run (Cert.GradInOneRefIdeal.defs (F := Ideal)) (onTc (τ := Cert.GradInOneRefIdeal.τ) (Cert.GradInOneRefIdeal.main (F := Ideal))) ⟨m', fun _ => 0, g'⟩ (fun r => ∀ c : Dev Cert.GradInOneRefIdeal.nD,
          r.2.mem ((c.tc : Thread Cert.GradInOneRefIdeal.nD Cert.GradInOneRefIdeal.τ).loc Cert.GradInOneRefIdeal.main_v9) = v0 c
          ∧ r.2.mem ((c.tc : Thread Cert.GradInOneRefIdeal.nD Cert.GradInOneRefIdeal.τ).loc Cert.GradInOneRefIdeal.main_arg0) = m' ((c.tc : Thread Cert.GradInOneRefIdeal.nD Cert.GradInOneRefIdeal.τ).loc Cert.GradInOneRefIdeal.main_arg0)
          ∧ r.2.mem ((c.tc : Thread Cert.GradInOneRefIdeal.nD Cert.GradInOneRefIdeal.τ).loc Cert.GradInOneRefIdeal.main_arg1) = m' ((c.tc : Thread Cert.GradInOneRefIdeal.nD Cert.GradInOneRefIdeal.τ).loc Cert.GradInOneRefIdeal.main_arg1)
          ∧ r.2.mem ((c.tc : Thread Cert.GradInOneRefIdeal.nD Cert.GradInOneRefIdeal.τ).loc Cert.GradInOneRefIdeal.main_arg2) = m' ((c.tc : Thread Cert.GradInOneRefIdeal.nD Cert.GradInOneRefIdeal.τ).loc Cert.GradInOneRefIdeal.main_arg2)
          ∧ r.2.mem ((c.tc : Thread Cert.GradInOneRefIdeal.nD Cert.GradInOneRefIdeal.τ).loc Cert.GradInOneRefIdeal.main_arg3) = m' ((c.tc : Thread Cert.GradInOneRefIdeal.nD Cert.GradInOneRefIdeal.τ).loc Cert.GradInOneRefIdeal.main_arg3)
          ∧ r.2.mem ((c.tc : Thread Cert.GradInOneRefIdeal.nD Cert.GradInOneRefIdeal.τ).loc Cert.GradInOneRefIdeal.main_arg4) = m' ((c.tc : Thread Cert.GradInOneRefIdeal.nD Cert.GradInOneRefIdeal.τ).loc Cert.GradInOneRefIdeal.main_arg4))

def preserves_GradInThree_GradInThreeIdeal : Prop :=
  True

def algebraic_GradInThreeIdeal_GradInThreeRefIdeal [hGradInThreeIdeal : Cert.GradInThreeIdeal.Facts] [hGradInThreeRefIdeal : Cert.GradInThreeRefIdeal.Facts] : Prop :=
  ∀ (m : (ℓ : Loc Cert.GradInThreeIdeal.nD Cert.GradInThreeIdeal.τ Cert.GradInThreeIdeal.sig) → Buf (Elt Ideal) ℓ) (g : Dev Cert.GradInThreeIdeal.nD → PrngReg)
    (m' : (ℓ : Loc Cert.GradInThreeRefIdeal.nD Cert.GradInThreeRefIdeal.τ Cert.GradInThreeRefIdeal.sig) → Buf (Elt Ideal) ℓ) (g' : Dev Cert.GradInThreeRefIdeal.nD → PrngReg), Pre_GradInThreeIdeal m →
    (∀ c : Dev Cert.GradInThreeIdeal.nD,
      m' ((c.tc : Thread Cert.GradInThreeRefIdeal.nD Cert.GradInThreeRefIdeal.τ).loc Cert.GradInThreeRefIdeal.main_arg0) = m ((c.tc : Thread Cert.GradInThreeIdeal.nD Cert.GradInThreeIdeal.τ).loc Cert.GradInThreeIdeal.main_arg0)
      ∧ m' ((c.tc : Thread Cert.GradInThreeRefIdeal.nD Cert.GradInThreeRefIdeal.τ).loc Cert.GradInThreeRefIdeal.main_arg1) = m ((c.tc : Thread Cert.GradInThreeIdeal.nD Cert.GradInThreeIdeal.τ).loc Cert.GradInThreeIdeal.main_arg1)
      ∧ m' ((c.tc : Thread Cert.GradInThreeRefIdeal.nD Cert.GradInThreeRefIdeal.τ).loc Cert.GradInThreeRefIdeal.main_arg2) = m ((c.tc : Thread Cert.GradInThreeIdeal.nD Cert.GradInThreeIdeal.τ).loc Cert.GradInThreeIdeal.main_arg2)
      ∧ m' ((c.tc : Thread Cert.GradInThreeRefIdeal.nD Cert.GradInThreeRefIdeal.τ).loc Cert.GradInThreeRefIdeal.main_arg3) = m ((c.tc : Thread Cert.GradInThreeIdeal.nD Cert.GradInThreeIdeal.τ).loc Cert.GradInThreeIdeal.main_arg3)
      ∧ m' ((c.tc : Thread Cert.GradInThreeRefIdeal.nD Cert.GradInThreeRefIdeal.τ).loc Cert.GradInThreeRefIdeal.main_arg4) = m ((c.tc : Thread Cert.GradInThreeIdeal.nD Cert.GradInThreeIdeal.τ).loc Cert.GradInThreeIdeal.main_arg4)) →
    ∃ (v0 : (c : Dev Cert.GradInThreeIdeal.nD) → Buf (Elt Ideal) ((c.tc : Thread Cert.GradInThreeIdeal.nD Cert.GradInThreeIdeal.τ).loc Cert.GradInThreeIdeal.main_v12)),
      θ_run (Cert.GradInThreeIdeal.defs (F := Ideal)) (onTc (τ := Cert.GradInThreeIdeal.τ) (Cert.GradInThreeIdeal.main (F := Ideal))) ⟨m, fun _ => 0, g⟩ (fun r => ∀ c : Dev Cert.GradInThreeIdeal.nD,
          r.2.mem ((c.tc : Thread Cert.GradInThreeIdeal.nD Cert.GradInThreeIdeal.τ).loc Cert.GradInThreeIdeal.main_v12) = v0 c
          ∧ r.2.mem ((c.tc : Thread Cert.GradInThreeIdeal.nD Cert.GradInThreeIdeal.τ).loc Cert.GradInThreeIdeal.main_arg0) = m ((c.tc : Thread Cert.GradInThreeIdeal.nD Cert.GradInThreeIdeal.τ).loc Cert.GradInThreeIdeal.main_arg0)
          ∧ r.2.mem ((c.tc : Thread Cert.GradInThreeIdeal.nD Cert.GradInThreeIdeal.τ).loc Cert.GradInThreeIdeal.main_arg1) = m ((c.tc : Thread Cert.GradInThreeIdeal.nD Cert.GradInThreeIdeal.τ).loc Cert.GradInThreeIdeal.main_arg1)
          ∧ r.2.mem ((c.tc : Thread Cert.GradInThreeIdeal.nD Cert.GradInThreeIdeal.τ).loc Cert.GradInThreeIdeal.main_arg2) = m ((c.tc : Thread Cert.GradInThreeIdeal.nD Cert.GradInThreeIdeal.τ).loc Cert.GradInThreeIdeal.main_arg2)
          ∧ r.2.mem ((c.tc : Thread Cert.GradInThreeIdeal.nD Cert.GradInThreeIdeal.τ).loc Cert.GradInThreeIdeal.main_arg3) = m ((c.tc : Thread Cert.GradInThreeIdeal.nD Cert.GradInThreeIdeal.τ).loc Cert.GradInThreeIdeal.main_arg3)
          ∧ r.2.mem ((c.tc : Thread Cert.GradInThreeIdeal.nD Cert.GradInThreeIdeal.τ).loc Cert.GradInThreeIdeal.main_arg4) = m ((c.tc : Thread Cert.GradInThreeIdeal.nD Cert.GradInThreeIdeal.τ).loc Cert.GradInThreeIdeal.main_arg4))
      ∧ θ_run (Cert.GradInThreeRefIdeal.defs (F := Ideal)) (onTc (τ := Cert.GradInThreeRefIdeal.τ) (Cert.GradInThreeRefIdeal.main (F := Ideal))) ⟨m', fun _ => 0, g'⟩ (fun r => ∀ c : Dev Cert.GradInThreeRefIdeal.nD,
          r.2.mem ((c.tc : Thread Cert.GradInThreeRefIdeal.nD Cert.GradInThreeRefIdeal.τ).loc Cert.GradInThreeRefIdeal.main_v9) = v0 c
          ∧ r.2.mem ((c.tc : Thread Cert.GradInThreeRefIdeal.nD Cert.GradInThreeRefIdeal.τ).loc Cert.GradInThreeRefIdeal.main_arg0) = m' ((c.tc : Thread Cert.GradInThreeRefIdeal.nD Cert.GradInThreeRefIdeal.τ).loc Cert.GradInThreeRefIdeal.main_arg0)
          ∧ r.2.mem ((c.tc : Thread Cert.GradInThreeRefIdeal.nD Cert.GradInThreeRefIdeal.τ).loc Cert.GradInThreeRefIdeal.main_arg1) = m' ((c.tc : Thread Cert.GradInThreeRefIdeal.nD Cert.GradInThreeRefIdeal.τ).loc Cert.GradInThreeRefIdeal.main_arg1)
          ∧ r.2.mem ((c.tc : Thread Cert.GradInThreeRefIdeal.nD Cert.GradInThreeRefIdeal.τ).loc Cert.GradInThreeRefIdeal.main_arg2) = m' ((c.tc : Thread Cert.GradInThreeRefIdeal.nD Cert.GradInThreeRefIdeal.τ).loc Cert.GradInThreeRefIdeal.main_arg2)
          ∧ r.2.mem ((c.tc : Thread Cert.GradInThreeRefIdeal.nD Cert.GradInThreeRefIdeal.τ).loc Cert.GradInThreeRefIdeal.main_arg3) = m' ((c.tc : Thread Cert.GradInThreeRefIdeal.nD Cert.GradInThreeRefIdeal.τ).loc Cert.GradInThreeRefIdeal.main_arg3)
          ∧ r.2.mem ((c.tc : Thread Cert.GradInThreeRefIdeal.nD Cert.GradInThreeRefIdeal.τ).loc Cert.GradInThreeRefIdeal.main_arg4) = m' ((c.tc : Thread Cert.GradInThreeRefIdeal.nD Cert.GradInThreeRefIdeal.τ).loc Cert.GradInThreeRefIdeal.main_arg4))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)
      ∧ m' ((c.tc : Thread Cert.GradOutRefIdeal.nD Cert.GradOutRefIdeal.τ).loc Cert.GradOutRefIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v7)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v7) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v10) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1)
          ∧ r.2.mem ((c.tc : Thread Cert.GradOutRefIdeal.nD Cert.GradOutRefIdeal.τ).loc Cert.GradOutRefIdeal.main_arg2) = m' ((c.tc : Thread Cert.GradOutRefIdeal.nD Cert.GradOutRefIdeal.τ).loc Cert.GradOutRefIdeal.main_arg2))

def preserves_FfnBack_FfnBackIdeal : Prop :=
  True

def algebraic_FfnBackIdeal_FfnBackRefIdeal_pre_ffn_back_finite [hFfnBackIdeal : Cert.FfnBackIdeal.Facts] [hFfnBackRefIdeal : Cert.FfnBackRefIdeal.Facts] [hPre_ffn_back_finite : Cert.Pre_ffn_back_finite.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal_ffn_back_finite m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)
      ∧ m' ((c.tc : Thread Cert.FfnBackRefIdeal.nD Cert.FfnBackRefIdeal.τ).loc Cert.FfnBackRefIdeal.main_arg4) = m ((c.tc : Thread Cert.FfnBackIdeal.nD Cert.FfnBackIdeal.τ).loc Cert.FfnBackIdeal.main_arg4)
      ∧ m' ((c.tc : Thread Cert.FfnBackRefIdeal.nD Cert.FfnBackRefIdeal.τ).loc Cert.FfnBackRefIdeal.main_arg5) = m ((c.tc : Thread Cert.FfnBackIdeal.nD Cert.FfnBackIdeal.τ).loc Cert.FfnBackIdeal.main_arg5)) →
    ∃ (v0 : (c : Dev Cert.FfnBackIdeal.nD) → Buf (Elt Ideal) ((c.tc : Thread Cert.FfnBackIdeal.nD Cert.FfnBackIdeal.τ).loc Cert.FfnBackIdeal.main_v39_0)) (v1 : (c : Dev Cert.FfnBackIdeal.nD) → Buf (Elt Ideal) ((c.tc : Thread Cert.FfnBackIdeal.nD Cert.FfnBackIdeal.τ).loc Cert.FfnBackIdeal.main_v39_1)) (v2 : (c : Dev Cert.FfnBackIdeal.nD) → Buf (Elt Ideal) ((c.tc : Thread Cert.FfnBackIdeal.nD Cert.FfnBackIdeal.τ).loc Cert.FfnBackIdeal.main_v39_2)) (v3 : (c : Dev Cert.FfnBackIdeal.nD) → Buf (Elt Ideal) ((c.tc : Thread Cert.FfnBackIdeal.nD Cert.FfnBackIdeal.τ).loc Cert.FfnBackIdeal.main_v39_3)) (v4 : (c : Dev Cert.FfnBackIdeal.nD) → Buf (Elt Ideal) ((c.tc : Thread Cert.FfnBackIdeal.nD Cert.FfnBackIdeal.τ).loc Cert.FfnBackIdeal.main_v39_4)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v39_0) = v0 c
          ∧ r.2.mem ((c.tc : Thread Cert.FfnBackIdeal.nD Cert.FfnBackIdeal.τ).loc Cert.FfnBackIdeal.main_v39_1) = v1 c
          ∧ r.2.mem ((c.tc : Thread Cert.FfnBackIdeal.nD Cert.FfnBackIdeal.τ).loc Cert.FfnBackIdeal.main_v39_2) = v2 c
          ∧ r.2.mem ((c.tc : Thread Cert.FfnBackIdeal.nD Cert.FfnBackIdeal.τ).loc Cert.FfnBackIdeal.main_v39_3) = v3 c
          ∧ r.2.mem ((c.tc : Thread Cert.FfnBackIdeal.nD Cert.FfnBackIdeal.τ).loc Cert.FfnBackIdeal.main_v39_4) = v4 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
          ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
          ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v52) = v0 c
          ∧ r.2.mem ((c.tc : Thread Cert.FfnBackRefIdeal.nD Cert.FfnBackRefIdeal.τ).loc Cert.FfnBackRefIdeal.main_v55) = v1 c
          ∧ r.2.mem ((c.tc : Thread Cert.FfnBackRefIdeal.nD Cert.FfnBackRefIdeal.τ).loc Cert.FfnBackRefIdeal.main_v59) = v2 c
          ∧ r.2.mem ((c.tc : Thread Cert.FfnBackRefIdeal.nD Cert.FfnBackRefIdeal.τ).loc Cert.FfnBackRefIdeal.main_v69) = v3 c
          ∧ r.2.mem ((c.tc : Thread Cert.FfnBackRefIdeal.nD Cert.FfnBackRefIdeal.τ).loc Cert.FfnBackRefIdeal.main_v70) = v4 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3)
          ∧ r.2.mem ((c.tc : Thread Cert.FfnBackRefIdeal.nD Cert.FfnBackRefIdeal.τ).loc Cert.FfnBackRefIdeal.main_arg4) = m' ((c.tc : Thread Cert.FfnBackRefIdeal.nD Cert.FfnBackRefIdeal.τ).loc Cert.FfnBackRefIdeal.main_arg4)
          ∧ r.2.mem ((c.tc : Thread Cert.FfnBackRefIdeal.nD Cert.FfnBackRefIdeal.τ).loc Cert.FfnBackRefIdeal.main_arg5) = m' ((c.tc : Thread Cert.FfnBackRefIdeal.nD Cert.FfnBackRefIdeal.τ).loc Cert.FfnBackRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v16_0)) (v1 : (c : Dev Cert.FfnFwdIdeal.nD) → Buf (Elt Ideal) ((c.tc : Thread Cert.FfnFwdIdeal.nD Cert.FfnFwdIdeal.τ).loc Cert.FfnFwdIdeal.main_v16_1)) (v2 : (c : Dev Cert.FfnFwdIdeal.nD) → Buf (Elt Ideal) ((c.tc : Thread Cert.FfnFwdIdeal.nD Cert.FfnFwdIdeal.τ).loc Cert.FfnFwdIdeal.main_v16_2)) (v3 : (c : Dev Cert.FfnFwdIdeal.nD) → Buf (Elt Ideal) ((c.tc : Thread Cert.FfnFwdIdeal.nD Cert.FfnFwdIdeal.τ).loc Cert.FfnFwdIdeal.main_v16_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v16_0) = v0 c
          ∧ r.2.mem ((c.tc : Thread Cert.FfnFwdIdeal.nD Cert.FfnFwdIdeal.τ).loc Cert.FfnFwdIdeal.main_v16_1) = v1 c
          ∧ r.2.mem ((c.tc : Thread Cert.FfnFwdIdeal.nD Cert.FfnFwdIdeal.τ).loc Cert.FfnFwdIdeal.main_v16_2) = v2 c
          ∧ r.2.mem ((c.tc : Thread Cert.FfnFwdIdeal.nD Cert.FfnFwdIdeal.τ).loc Cert.FfnFwdIdeal.main_v16_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_v21) = v1 c
          ∧ r.2.mem ((c.tc : Thread Cert.FfnFwdRefIdeal.nD Cert.FfnFwdRefIdeal.τ).loc Cert.FfnFwdRefIdeal.main_v25) = v2 c
          ∧ r.2.mem ((c.tc : Thread Cert.FfnFwdRefIdeal.nD Cert.FfnFwdRefIdeal.τ).loc Cert.FfnFwdRefIdeal.main_v29) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_GradConvIn_GradConvInIdeal : Prop :=
  True

def algebraic_GradConvInIdeal_GradConvInRefIdeal [hGradConvInIdeal : Cert.GradConvInIdeal.Facts] [hGradConvInRefIdeal : Cert.GradConvInRefIdeal.Facts] : Prop :=
  ∀ (m : (ℓ : Loc Cert.GradConvInIdeal.nD Cert.GradConvInIdeal.τ Cert.GradConvInIdeal.sig) → Buf (Elt Ideal) ℓ) (g : Dev Cert.GradConvInIdeal.nD → PrngReg)
    (m' : (ℓ : Loc Cert.GradConvInRefIdeal.nD Cert.GradConvInRefIdeal.τ Cert.GradConvInRefIdeal.sig) → Buf (Elt Ideal) ℓ) (g' : Dev Cert.GradConvInRefIdeal.nD → PrngReg), Pre_GradConvInIdeal m →
    (∀ c : Dev Cert.GradConvInIdeal.nD,
      m' ((c.tc : Thread Cert.GradConvInRefIdeal.nD Cert.GradConvInRefIdeal.τ).loc Cert.GradConvInRefIdeal.main_arg0) = m ((c.tc : Thread Cert.GradConvInIdeal.nD Cert.GradConvInIdeal.τ).loc Cert.GradConvInIdeal.main_arg0)
      ∧ m' ((c.tc : Thread Cert.GradConvInRefIdeal.nD Cert.GradConvInRefIdeal.τ).loc Cert.GradConvInRefIdeal.main_arg1) = m ((c.tc : Thread Cert.GradConvInIdeal.nD Cert.GradConvInIdeal.τ).loc Cert.GradConvInIdeal.main_arg1)
      ∧ m' ((c.tc : Thread Cert.GradConvInRefIdeal.nD Cert.GradConvInRefIdeal.τ).loc Cert.GradConvInRefIdeal.main_arg2) = m ((c.tc : Thread Cert.GradConvInIdeal.nD Cert.GradConvInIdeal.τ).loc Cert.GradConvInIdeal.main_arg2)) →
    ∃ (v0 : (c : Dev Cert.GradConvInIdeal.nD) → Buf (Elt Ideal) ((c.tc : Thread Cert.GradConvInIdeal.nD Cert.GradConvInIdeal.τ).loc Cert.GradConvInIdeal.main_v2)),
      θ_run (Cert.GradConvInIdeal.defs (F := Ideal)) (onTc (τ := Cert.GradConvInIdeal.τ) (Cert.GradConvInIdeal.main (F := Ideal))) ⟨m, fun _ => 0, g⟩ (fun r => ∀ c : Dev Cert.GradConvInIdeal.nD,
          r.2.mem ((c.tc : Thread Cert.GradConvInIdeal.nD Cert.GradConvInIdeal.τ).loc Cert.GradConvInIdeal.main_v2) = v0 c
          ∧ r.2.mem ((c.tc : Thread Cert.GradConvInIdeal.nD Cert.GradConvInIdeal.τ).loc Cert.GradConvInIdeal.main_arg0) = m ((c.tc : Thread Cert.GradConvInIdeal.nD Cert.GradConvInIdeal.τ).loc Cert.GradConvInIdeal.main_arg0)
          ∧ r.2.mem ((c.tc : Thread Cert.GradConvInIdeal.nD Cert.GradConvInIdeal.τ).loc Cert.GradConvInIdeal.main_arg1) = m ((c.tc : Thread Cert.GradConvInIdeal.nD Cert.GradConvInIdeal.τ).loc Cert.GradConvInIdeal.main_arg1)
          ∧ r.2.mem ((c.tc : Thread Cert.GradConvInIdeal.nD Cert.GradConvInIdeal.τ).loc Cert.GradConvInIdeal.main_arg2) = m ((c.tc : Thread Cert.GradConvInIdeal.nD Cert.GradConvInIdeal.τ).loc Cert.GradConvInIdeal.main_arg2))
      ∧ θ_run (Cert.GradConvInRefIdeal.defs (F := Ideal)) (onTc (τ := Cert.GradConvInRefIdeal.τ) (Cert.GradConvInRefIdeal.main (F := Ideal))) ⟨m', fun _ => 0, g'⟩ (fun r => ∀ c : Dev Cert.GradConvInRefIdeal.nD,
          r.2.mem ((c.tc : Thread Cert.GradConvInRefIdeal.nD Cert.GradConvInRefIdeal.τ).loc Cert.GradConvInRefIdeal.main_v3) = v0 c
          ∧ r.2.mem ((c.tc : Thread Cert.GradConvInRefIdeal.nD Cert.GradConvInRefIdeal.τ).loc Cert.GradConvInRefIdeal.main_arg0) = m' ((c.tc : Thread Cert.GradConvInRefIdeal.nD Cert.GradConvInRefIdeal.τ).loc Cert.GradConvInRefIdeal.main_arg0)
          ∧ r.2.mem ((c.tc : Thread Cert.GradConvInRefIdeal.nD Cert.GradConvInRefIdeal.τ).loc Cert.GradConvInRefIdeal.main_arg1) = m' ((c.tc : Thread Cert.GradConvInRefIdeal.nD Cert.GradConvInRefIdeal.τ).loc Cert.GradConvInRefIdeal.main_arg1)
          ∧ r.2.mem ((c.tc : Thread Cert.GradConvInRefIdeal.nD Cert.GradConvInRefIdeal.τ).loc Cert.GradConvInRefIdeal.main_arg2) = m' ((c.tc : Thread Cert.GradConvInRefIdeal.nD Cert.GradConvInRefIdeal.τ).loc Cert.GradConvInRefIdeal.main_arg2))

def preserves_GradConvOut_GradConvOutIdeal : Prop :=
  True

def algebraic_GradConvOutIdeal_GradConvOutRefIdeal [hGradConvOutIdeal : Cert.GradConvOutIdeal.Facts] [hGradConvOutRefIdeal : Cert.GradConvOutRefIdeal.Facts] : Prop :=
  ∀ (m : (ℓ : Loc Cert.GradConvOutIdeal.nD Cert.GradConvOutIdeal.τ Cert.GradConvOutIdeal.sig) → Buf (Elt Ideal) ℓ) (g : Dev Cert.GradConvOutIdeal.nD → PrngReg)
    (m' : (ℓ : Loc Cert.GradConvOutRefIdeal.nD Cert.GradConvOutRefIdeal.τ Cert.GradConvOutRefIdeal.sig) → Buf (Elt Ideal) ℓ) (g' : Dev Cert.GradConvOutRefIdeal.nD → PrngReg), Pre_GradConvOutIdeal m →
    (∀ c : Dev Cert.GradConvOutIdeal.nD,
      m' ((c.tc : Thread Cert.GradConvOutRefIdeal.nD Cert.GradConvOutRefIdeal.τ).loc Cert.GradConvOutRefIdeal.main_arg0) = m ((c.tc : Thread Cert.GradConvOutIdeal.nD Cert.GradConvOutIdeal.τ).loc Cert.GradConvOutIdeal.main_arg0)
      ∧ m' ((c.tc : Thread Cert.GradConvOutRefIdeal.nD Cert.GradConvOutRefIdeal.τ).loc Cert.GradConvOutRefIdeal.main_arg1) = m ((c.tc : Thread Cert.GradConvOutIdeal.nD Cert.GradConvOutIdeal.τ).loc Cert.GradConvOutIdeal.main_arg1)
      ∧ m' ((c.tc : Thread Cert.GradConvOutRefIdeal.nD Cert.GradConvOutRefIdeal.τ).loc Cert.GradConvOutRefIdeal.main_arg2) = m ((c.tc : Thread Cert.GradConvOutIdeal.nD Cert.GradConvOutIdeal.τ).loc Cert.GradConvOutIdeal.main_arg2)) →
    ∃ (v0 : (c : Dev Cert.GradConvOutIdeal.nD) → Buf (Elt Ideal) ((c.tc : Thread Cert.GradConvOutIdeal.nD Cert.GradConvOutIdeal.τ).loc Cert.GradConvOutIdeal.main_v1)),
      θ_run (Cert.GradConvOutIdeal.defs (F := Ideal)) (onTc (τ := Cert.GradConvOutIdeal.τ) (Cert.GradConvOutIdeal.main (F := Ideal))) ⟨m, fun _ => 0, g⟩ (fun r => ∀ c : Dev Cert.GradConvOutIdeal.nD,
          r.2.mem ((c.tc : Thread Cert.GradConvOutIdeal.nD Cert.GradConvOutIdeal.τ).loc Cert.GradConvOutIdeal.main_v1) = v0 c
          ∧ r.2.mem ((c.tc : Thread Cert.GradConvOutIdeal.nD Cert.GradConvOutIdeal.τ).loc Cert.GradConvOutIdeal.main_arg0) = m ((c.tc : Thread Cert.GradConvOutIdeal.nD Cert.GradConvOutIdeal.τ).loc Cert.GradConvOutIdeal.main_arg0)
          ∧ r.2.mem ((c.tc : Thread Cert.GradConvOutIdeal.nD Cert.GradConvOutIdeal.τ).loc Cert.GradConvOutIdeal.main_arg1) = m ((c.tc : Thread Cert.GradConvOutIdeal.nD Cert.GradConvOutIdeal.τ).loc Cert.GradConvOutIdeal.main_arg1)
          ∧ r.2.mem ((c.tc : Thread Cert.GradConvOutIdeal.nD Cert.GradConvOutIdeal.τ).loc Cert.GradConvOutIdeal.main_arg2) = m ((c.tc : Thread Cert.GradConvOutIdeal.nD Cert.GradConvOutIdeal.τ).loc Cert.GradConvOutIdeal.main_arg2))
      ∧ θ_run (Cert.GradConvOutRefIdeal.defs (F := Ideal)) (onTc (τ := Cert.GradConvOutRefIdeal.τ) (Cert.GradConvOutRefIdeal.main (F := Ideal))) ⟨m', fun _ => 0, g'⟩ (fun r => ∀ c : Dev Cert.GradConvOutRefIdeal.nD,
          r.2.mem ((c.tc : Thread Cert.GradConvOutRefIdeal.nD Cert.GradConvOutRefIdeal.τ).loc Cert.GradConvOutRefIdeal.main_v3) = v0 c
          ∧ r.2.mem ((c.tc : Thread Cert.GradConvOutRefIdeal.nD Cert.GradConvOutRefIdeal.τ).loc Cert.GradConvOutRefIdeal.main_arg0) = m' ((c.tc : Thread Cert.GradConvOutRefIdeal.nD Cert.GradConvOutRefIdeal.τ).loc Cert.GradConvOutRefIdeal.main_arg0)
          ∧ r.2.mem ((c.tc : Thread Cert.GradConvOutRefIdeal.nD Cert.GradConvOutRefIdeal.τ).loc Cert.GradConvOutRefIdeal.main_arg1) = m' ((c.tc : Thread Cert.GradConvOutRefIdeal.nD Cert.GradConvOutRefIdeal.τ).loc Cert.GradConvOutRefIdeal.main_arg1)
          ∧ r.2.mem ((c.tc : Thread Cert.GradConvOutRefIdeal.nD Cert.GradConvOutRefIdeal.τ).loc Cert.GradConvOutRefIdeal.main_arg2) = m' ((c.tc : Thread Cert.GradConvOutRefIdeal.nD Cert.GradConvOutRefIdeal.τ).loc Cert.GradConvOutRefIdeal.main_arg2))

def preserves_GradAttnOut_GradAttnOutIdeal : Prop :=
  True

def algebraic_GradAttnOutIdeal_GradAttnOutRefIdeal [hGradAttnOutIdeal : Cert.GradAttnOutIdeal.Facts] [hGradAttnOutRefIdeal : Cert.GradAttnOutRefIdeal.Facts] : Prop :=
  ∀ (m : (ℓ : Loc Cert.GradAttnOutIdeal.nD Cert.GradAttnOutIdeal.τ Cert.GradAttnOutIdeal.sig) → Buf (Elt Ideal) ℓ) (g : Dev Cert.GradAttnOutIdeal.nD → PrngReg)
    (m' : (ℓ : Loc Cert.GradAttnOutRefIdeal.nD Cert.GradAttnOutRefIdeal.τ Cert.GradAttnOutRefIdeal.sig) → Buf (Elt Ideal) ℓ) (g' : Dev Cert.GradAttnOutRefIdeal.nD → PrngReg), Pre_GradAttnOutIdeal m →
    (∀ c : Dev Cert.GradAttnOutIdeal.nD,
      m' ((c.tc : Thread Cert.GradAttnOutRefIdeal.nD Cert.GradAttnOutRefIdeal.τ).loc Cert.GradAttnOutRefIdeal.main_arg0) = m ((c.tc : Thread Cert.GradAttnOutIdeal.nD Cert.GradAttnOutIdeal.τ).loc Cert.GradAttnOutIdeal.main_arg0)
      ∧ m' ((c.tc : Thread Cert.GradAttnOutRefIdeal.nD Cert.GradAttnOutRefIdeal.τ).loc Cert.GradAttnOutRefIdeal.main_arg1) = m ((c.tc : Thread Cert.GradAttnOutIdeal.nD Cert.GradAttnOutIdeal.τ).loc Cert.GradAttnOutIdeal.main_arg1)
      ∧ m' ((c.tc : Thread Cert.GradAttnOutRefIdeal.nD Cert.GradAttnOutRefIdeal.τ).loc Cert.GradAttnOutRefIdeal.main_arg2) = m ((c.tc : Thread Cert.GradAttnOutIdeal.nD Cert.GradAttnOutIdeal.τ).loc Cert.GradAttnOutIdeal.main_arg2)) →
    ∃ (v0 : (c : Dev Cert.GradAttnOutIdeal.nD) → Buf (Elt Ideal) ((c.tc : Thread Cert.GradAttnOutIdeal.nD Cert.GradAttnOutIdeal.τ).loc Cert.GradAttnOutIdeal.main_v0)),
      θ_run (Cert.GradAttnOutIdeal.defs (F := Ideal)) (onTc (τ := Cert.GradAttnOutIdeal.τ) (Cert.GradAttnOutIdeal.main (F := Ideal))) ⟨m, fun _ => 0, g⟩ (fun r => ∀ c : Dev Cert.GradAttnOutIdeal.nD,
          r.2.mem ((c.tc : Thread Cert.GradAttnOutIdeal.nD Cert.GradAttnOutIdeal.τ).loc Cert.GradAttnOutIdeal.main_v0) = v0 c
          ∧ r.2.mem ((c.tc : Thread Cert.GradAttnOutIdeal.nD Cert.GradAttnOutIdeal.τ).loc Cert.GradAttnOutIdeal.main_arg0) = m ((c.tc : Thread Cert.GradAttnOutIdeal.nD Cert.GradAttnOutIdeal.τ).loc Cert.GradAttnOutIdeal.main_arg0)
          ∧ r.2.mem ((c.tc : Thread Cert.GradAttnOutIdeal.nD Cert.GradAttnOutIdeal.τ).loc Cert.GradAttnOutIdeal.main_arg1) = m ((c.tc : Thread Cert.GradAttnOutIdeal.nD Cert.GradAttnOutIdeal.τ).loc Cert.GradAttnOutIdeal.main_arg1)
          ∧ r.2.mem ((c.tc : Thread Cert.GradAttnOutIdeal.nD Cert.GradAttnOutIdeal.τ).loc Cert.GradAttnOutIdeal.main_arg2) = m ((c.tc : Thread Cert.GradAttnOutIdeal.nD Cert.GradAttnOutIdeal.τ).loc Cert.GradAttnOutIdeal.main_arg2))
      ∧ θ_run (Cert.GradAttnOutRefIdeal.defs (F := Ideal)) (onTc (τ := Cert.GradAttnOutRefIdeal.τ) (Cert.GradAttnOutRefIdeal.main (F := Ideal))) ⟨m', fun _ => 0, g'⟩ (fun r => ∀ c : Dev Cert.GradAttnOutRefIdeal.nD,
          r.2.mem ((c.tc : Thread Cert.GradAttnOutRefIdeal.nD Cert.GradAttnOutRefIdeal.τ).loc Cert.GradAttnOutRefIdeal.main_v3) = v0 c
          ∧ r.2.mem ((c.tc : Thread Cert.GradAttnOutRefIdeal.nD Cert.GradAttnOutRefIdeal.τ).loc Cert.GradAttnOutRefIdeal.main_arg0) = m' ((c.tc : Thread Cert.GradAttnOutRefIdeal.nD Cert.GradAttnOutRefIdeal.τ).loc Cert.GradAttnOutRefIdeal.main_arg0)
          ∧ r.2.mem ((c.tc : Thread Cert.GradAttnOutRefIdeal.nD Cert.GradAttnOutRefIdeal.τ).loc Cert.GradAttnOutRefIdeal.main_arg1) = m' ((c.tc : Thread Cert.GradAttnOutRefIdeal.nD Cert.GradAttnOutRefIdeal.τ).loc Cert.GradAttnOutRefIdeal.main_arg1)
          ∧ r.2.mem ((c.tc : Thread Cert.GradAttnOutRefIdeal.nD Cert.GradAttnOutRefIdeal.τ).loc Cert.GradAttnOutRefIdeal.main_arg2) = m' ((c.tc : Thread Cert.GradAttnOutRefIdeal.nD Cert.GradAttnOutRefIdeal.τ).loc Cert.GradAttnOutRefIdeal.main_arg2))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)
      ∧ m' ((c.tc : Thread Cert.GradDownRefIdeal.nD Cert.GradDownRefIdeal.τ).loc Cert.GradDownRefIdeal.main_arg2) = m ((c.tc : Thread Cert.GradDownIdeal.nD Cert.GradDownIdeal.τ).loc Cert.GradDownIdeal.main_arg2)) →
    ∃ (v0 : (c : Dev Cert.GradDownIdeal.nD) → Buf (Elt Ideal) ((c.tc : Thread Cert.GradDownIdeal.nD Cert.GradDownIdeal.τ).loc Cert.GradDownIdeal.main_v3)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v3) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
          ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v4) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1)
          ∧ r.2.mem ((c.tc : Thread Cert.GradDownRefIdeal.nD Cert.GradDownRefIdeal.τ).loc Cert.GradDownRefIdeal.main_arg2) = m' ((c.tc : Thread Cert.GradDownRefIdeal.nD Cert.GradDownRefIdeal.τ).loc Cert.GradDownRefIdeal.main_arg2))

def preserves_GradUpQ_GradUpQIdeal : Prop :=
  True

def algebraic_GradUpQIdeal_GradUpQRefIdeal [hGradUpQIdeal : Cert.GradUpQIdeal.Facts] [hGradUpQRefIdeal : Cert.GradUpQRefIdeal.Facts] : Prop :=
  ∀ (m : (ℓ : Loc Cert.GradUpQIdeal.nD Cert.GradUpQIdeal.τ Cert.GradUpQIdeal.sig) → Buf (Elt Ideal) ℓ) (g : Dev Cert.GradUpQIdeal.nD → PrngReg)
    (m' : (ℓ : Loc Cert.GradUpQRefIdeal.nD Cert.GradUpQRefIdeal.τ Cert.GradUpQRefIdeal.sig) → Buf (Elt Ideal) ℓ) (g' : Dev Cert.GradUpQRefIdeal.nD → PrngReg), Pre_GradUpQIdeal m →
    (∀ c : Dev Cert.GradUpQIdeal.nD,
      m' ((c.tc : Thread Cert.GradUpQRefIdeal.nD Cert.GradUpQRefIdeal.τ).loc Cert.GradUpQRefIdeal.main_arg0) = m ((c.tc : Thread Cert.GradUpQIdeal.nD Cert.GradUpQIdeal.τ).loc Cert.GradUpQIdeal.main_arg0)
      ∧ m' ((c.tc : Thread Cert.GradUpQRefIdeal.nD Cert.GradUpQRefIdeal.τ).loc Cert.GradUpQRefIdeal.main_arg1) = m ((c.tc : Thread Cert.GradUpQIdeal.nD Cert.GradUpQIdeal.τ).loc Cert.GradUpQIdeal.main_arg1)
      ∧ m' ((c.tc : Thread Cert.GradUpQRefIdeal.nD Cert.GradUpQRefIdeal.τ).loc Cert.GradUpQRefIdeal.main_arg2) = m ((c.tc : Thread Cert.GradUpQIdeal.nD Cert.GradUpQIdeal.τ).loc Cert.GradUpQIdeal.main_arg2)) →
    ∃ (v0 : (c : Dev Cert.GradUpQIdeal.nD) → Buf (Elt Ideal) ((c.tc : Thread Cert.GradUpQIdeal.nD Cert.GradUpQIdeal.τ).loc Cert.GradUpQIdeal.main_v4)),
      θ_run (Cert.GradUpQIdeal.defs (F := Ideal)) (onTc (τ := Cert.GradUpQIdeal.τ) (Cert.GradUpQIdeal.main (F := Ideal))) ⟨m, fun _ => 0, g⟩ (fun r => ∀ c : Dev Cert.GradUpQIdeal.nD,
          r.2.mem ((c.tc : Thread Cert.GradUpQIdeal.nD Cert.GradUpQIdeal.τ).loc Cert.GradUpQIdeal.main_v4) = v0 c
          ∧ r.2.mem ((c.tc : Thread Cert.GradUpQIdeal.nD Cert.GradUpQIdeal.τ).loc Cert.GradUpQIdeal.main_arg0) = m ((c.tc : Thread Cert.GradUpQIdeal.nD Cert.GradUpQIdeal.τ).loc Cert.GradUpQIdeal.main_arg0)
          ∧ r.2.mem ((c.tc : Thread Cert.GradUpQIdeal.nD Cert.GradUpQIdeal.τ).loc Cert.GradUpQIdeal.main_arg1) = m ((c.tc : Thread Cert.GradUpQIdeal.nD Cert.GradUpQIdeal.τ).loc Cert.GradUpQIdeal.main_arg1)
          ∧ r.2.mem ((c.tc : Thread Cert.GradUpQIdeal.nD Cert.GradUpQIdeal.τ).loc Cert.GradUpQIdeal.main_arg2) = m ((c.tc : Thread Cert.GradUpQIdeal.nD Cert.GradUpQIdeal.τ).loc Cert.GradUpQIdeal.main_arg2))
      ∧ θ_run (Cert.GradUpQRefIdeal.defs (F := Ideal)) (onTc (τ := Cert.GradUpQRefIdeal.τ) (Cert.GradUpQRefIdeal.main (F := Ideal))) ⟨m', fun _ => 0, g'⟩ (fun r => ∀ c : Dev Cert.GradUpQRefIdeal.nD,
          r.2.mem ((c.tc : Thread Cert.GradUpQRefIdeal.nD Cert.GradUpQRefIdeal.τ).loc Cert.GradUpQRefIdeal.main_v5) = v0 c
          ∧ r.2.mem ((c.tc : Thread Cert.GradUpQRefIdeal.nD Cert.GradUpQRefIdeal.τ).loc Cert.GradUpQRefIdeal.main_arg0) = m' ((c.tc : Thread Cert.GradUpQRefIdeal.nD Cert.GradUpQRefIdeal.τ).loc Cert.GradUpQRefIdeal.main_arg0)
          ∧ r.2.mem ((c.tc : Thread Cert.GradUpQRefIdeal.nD Cert.GradUpQRefIdeal.τ).loc Cert.GradUpQRefIdeal.main_arg1) = m' ((c.tc : Thread Cert.GradUpQRefIdeal.nD Cert.GradUpQRefIdeal.τ).loc Cert.GradUpQRefIdeal.main_arg1)
          ∧ r.2.mem ((c.tc : Thread Cert.GradUpQRefIdeal.nD Cert.GradUpQRefIdeal.τ).loc Cert.GradUpQRefIdeal.main_arg2) = m' ((c.tc : Thread Cert.GradUpQRefIdeal.nD Cert.GradUpQRefIdeal.τ).loc Cert.GradUpQRefIdeal.main_arg2))

def preserves_GradUpKv_GradUpKvIdeal : Prop :=
  True

def algebraic_GradUpKvIdeal_GradUpKvRefIdeal [hGradUpKvIdeal : Cert.GradUpKvIdeal.Facts] [hGradUpKvRefIdeal : Cert.GradUpKvRefIdeal.Facts] : Prop :=
  ∀ (m : (ℓ : Loc Cert.GradUpKvIdeal.nD Cert.GradUpKvIdeal.τ Cert.GradUpKvIdeal.sig) → Buf (Elt Ideal) ℓ) (g : Dev Cert.GradUpKvIdeal.nD → PrngReg)
    (m' : (ℓ : Loc Cert.GradUpKvRefIdeal.nD Cert.GradUpKvRefIdeal.τ Cert.GradUpKvRefIdeal.sig) → Buf (Elt Ideal) ℓ) (g' : Dev Cert.GradUpKvRefIdeal.nD → PrngReg), Pre_GradUpKvIdeal m →
    (∀ c : Dev Cert.GradUpKvIdeal.nD,
      m' ((c.tc : Thread Cert.GradUpKvRefIdeal.nD Cert.GradUpKvRefIdeal.τ).loc Cert.GradUpKvRefIdeal.main_arg0) = m ((c.tc : Thread Cert.GradUpKvIdeal.nD Cert.GradUpKvIdeal.τ).loc Cert.GradUpKvIdeal.main_arg0)
      ∧ m' ((c.tc : Thread Cert.GradUpKvRefIdeal.nD Cert.GradUpKvRefIdeal.τ).loc Cert.GradUpKvRefIdeal.main_arg1) = m ((c.tc : Thread Cert.GradUpKvIdeal.nD Cert.GradUpKvIdeal.τ).loc Cert.GradUpKvIdeal.main_arg1)
      ∧ m' ((c.tc : Thread Cert.GradUpKvRefIdeal.nD Cert.GradUpKvRefIdeal.τ).loc Cert.GradUpKvRefIdeal.main_arg2) = m ((c.tc : Thread Cert.GradUpKvIdeal.nD Cert.GradUpKvIdeal.τ).loc Cert.GradUpKvIdeal.main_arg2)) →
    ∃ (v0 : (c : Dev Cert.GradUpKvIdeal.nD) → Buf (Elt Ideal) ((c.tc : Thread Cert.GradUpKvIdeal.nD Cert.GradUpKvIdeal.τ).loc Cert.GradUpKvIdeal.main_v3)),
      θ_run (Cert.GradUpKvIdeal.defs (F := Ideal)) (onTc (τ := Cert.GradUpKvIdeal.τ) (Cert.GradUpKvIdeal.main (F := Ideal))) ⟨m, fun _ => 0, g⟩ (fun r => ∀ c : Dev Cert.GradUpKvIdeal.nD,
          r.2.mem ((c.tc : Thread Cert.GradUpKvIdeal.nD Cert.GradUpKvIdeal.τ).loc Cert.GradUpKvIdeal.main_v3) = v0 c
          ∧ r.2.mem ((c.tc : Thread Cert.GradUpKvIdeal.nD Cert.GradUpKvIdeal.τ).loc Cert.GradUpKvIdeal.main_arg0) = m ((c.tc : Thread Cert.GradUpKvIdeal.nD Cert.GradUpKvIdeal.τ).loc Cert.GradUpKvIdeal.main_arg0)
          ∧ r.2.mem ((c.tc : Thread Cert.GradUpKvIdeal.nD Cert.GradUpKvIdeal.τ).loc Cert.GradUpKvIdeal.main_arg1) = m ((c.tc : Thread Cert.GradUpKvIdeal.nD Cert.GradUpKvIdeal.τ).loc Cert.GradUpKvIdeal.main_arg1)
          ∧ r.2.mem ((c.tc : Thread Cert.GradUpKvIdeal.nD Cert.GradUpKvIdeal.τ).loc Cert.GradUpKvIdeal.main_arg2) = m ((c.tc : Thread Cert.GradUpKvIdeal.nD Cert.GradUpKvIdeal.τ).loc Cert.GradUpKvIdeal.main_arg2))
      ∧ θ_run (Cert.GradUpKvRefIdeal.defs (F := Ideal)) (onTc (τ := Cert.GradUpKvRefIdeal.τ) (Cert.GradUpKvRefIdeal.main (F := Ideal))) ⟨m', fun _ => 0, g'⟩ (fun r => ∀ c : Dev Cert.GradUpKvRefIdeal.nD,
          r.2.mem ((c.tc : Thread Cert.GradUpKvRefIdeal.nD Cert.GradUpKvRefIdeal.τ).loc Cert.GradUpKvRefIdeal.main_v4) = v0 c
          ∧ r.2.mem ((c.tc : Thread Cert.GradUpKvRefIdeal.nD Cert.GradUpKvRefIdeal.τ).loc Cert.GradUpKvRefIdeal.main_arg0) = m' ((c.tc : Thread Cert.GradUpKvRefIdeal.nD Cert.GradUpKvRefIdeal.τ).loc Cert.GradUpKvRefIdeal.main_arg0)
          ∧ r.2.mem ((c.tc : Thread Cert.GradUpKvRefIdeal.nD Cert.GradUpKvRefIdeal.τ).loc Cert.GradUpKvRefIdeal.main_arg1) = m' ((c.tc : Thread Cert.GradUpKvRefIdeal.nD Cert.GradUpKvRefIdeal.τ).loc Cert.GradUpKvRefIdeal.main_arg1)
          ∧ r.2.mem ((c.tc : Thread Cert.GradUpKvRefIdeal.nD Cert.GradUpKvRefIdeal.τ).loc Cert.GradUpKvRefIdeal.main_arg2) = m' ((c.tc : Thread Cert.GradUpKvRefIdeal.nD Cert.GradUpKvRefIdeal.τ).loc Cert.GradUpKvRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v1) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v1) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def preserves_AttnOutBack_AttnOutBackIdeal : Prop :=
  True

def algebraic_AttnOutBackIdeal_AttnOutBackRefIdeal [hAttnOutBackIdeal : Cert.AttnOutBackIdeal.Facts] [hAttnOutBackRefIdeal : Cert.AttnOutBackRefIdeal.Facts] : Prop :=
  ∀ (m : (ℓ : Loc Cert.AttnOutBackIdeal.nD Cert.AttnOutBackIdeal.τ Cert.AttnOutBackIdeal.sig) → Buf (Elt Ideal) ℓ) (g : Dev Cert.AttnOutBackIdeal.nD → PrngReg)
    (m' : (ℓ : Loc Cert.AttnOutBackRefIdeal.nD Cert.AttnOutBackRefIdeal.τ Cert.AttnOutBackRefIdeal.sig) → Buf (Elt Ideal) ℓ) (g' : Dev Cert.AttnOutBackRefIdeal.nD → PrngReg), Pre_AttnOutBackIdeal m →
    (∀ c : Dev Cert.AttnOutBackIdeal.nD,
      m' ((c.tc : Thread Cert.AttnOutBackRefIdeal.nD Cert.AttnOutBackRefIdeal.τ).loc Cert.AttnOutBackRefIdeal.main_arg0) = m ((c.tc : Thread Cert.AttnOutBackIdeal.nD Cert.AttnOutBackIdeal.τ).loc Cert.AttnOutBackIdeal.main_arg0)
      ∧ m' ((c.tc : Thread Cert.AttnOutBackRefIdeal.nD Cert.AttnOutBackRefIdeal.τ).loc Cert.AttnOutBackRefIdeal.main_arg1) = m ((c.tc : Thread Cert.AttnOutBackIdeal.nD Cert.AttnOutBackIdeal.τ).loc Cert.AttnOutBackIdeal.main_arg1)
      ∧ m' ((c.tc : Thread Cert.AttnOutBackRefIdeal.nD Cert.AttnOutBackRefIdeal.τ).loc Cert.AttnOutBackRefIdeal.main_arg2) = m ((c.tc : Thread Cert.AttnOutBackIdeal.nD Cert.AttnOutBackIdeal.τ).loc Cert.AttnOutBackIdeal.main_arg2)) →
    ∃ (v0 : (c : Dev Cert.AttnOutBackIdeal.nD) → Buf (Elt Ideal) ((c.tc : Thread Cert.AttnOutBackIdeal.nD Cert.AttnOutBackIdeal.τ).loc Cert.AttnOutBackIdeal.main_v1_0)) (v1 : (c : Dev Cert.AttnOutBackIdeal.nD) → Buf (Elt Ideal) ((c.tc : Thread Cert.AttnOutBackIdeal.nD Cert.AttnOutBackIdeal.τ).loc Cert.AttnOutBackIdeal.main_v1_1)),
      θ_run (Cert.AttnOutBackIdeal.defs (F := Ideal)) (onTc (τ := Cert.AttnOutBackIdeal.τ) (Cert.AttnOutBackIdeal.main (F := Ideal))) ⟨m, fun _ => 0, g⟩ (fun r => ∀ c : Dev Cert.AttnOutBackIdeal.nD,
          r.2.mem ((c.tc : Thread Cert.AttnOutBackIdeal.nD Cert.AttnOutBackIdeal.τ).loc Cert.AttnOutBackIdeal.main_v1_0) = v0 c
          ∧ r.2.mem ((c.tc : Thread Cert.AttnOutBackIdeal.nD Cert.AttnOutBackIdeal.τ).loc Cert.AttnOutBackIdeal.main_v1_1) = v1 c
          ∧ r.2.mem ((c.tc : Thread Cert.AttnOutBackIdeal.nD Cert.AttnOutBackIdeal.τ).loc Cert.AttnOutBackIdeal.main_arg0) = m ((c.tc : Thread Cert.AttnOutBackIdeal.nD Cert.AttnOutBackIdeal.τ).loc Cert.AttnOutBackIdeal.main_arg0)
          ∧ r.2.mem ((c.tc : Thread Cert.AttnOutBackIdeal.nD Cert.AttnOutBackIdeal.τ).loc Cert.AttnOutBackIdeal.main_arg1) = m ((c.tc : Thread Cert.AttnOutBackIdeal.nD Cert.AttnOutBackIdeal.τ).loc Cert.AttnOutBackIdeal.main_arg1)
          ∧ r.2.mem ((c.tc : Thread Cert.AttnOutBackIdeal.nD Cert.AttnOutBackIdeal.τ).loc Cert.AttnOutBackIdeal.main_arg2) = m ((c.tc : Thread Cert.AttnOutBackIdeal.nD Cert.AttnOutBackIdeal.τ).loc Cert.AttnOutBackIdeal.main_arg2))
      ∧ θ_run (Cert.AttnOutBackRefIdeal.defs (F := Ideal)) (onTc (τ := Cert.AttnOutBackRefIdeal.τ) (Cert.AttnOutBackRefIdeal.main (F := Ideal))) ⟨m', fun _ => 0, g'⟩ (fun r => ∀ c : Dev Cert.AttnOutBackRefIdeal.nD,
          r.2.mem ((c.tc : Thread Cert.AttnOutBackRefIdeal.nD Cert.AttnOutBackRefIdeal.τ).loc Cert.AttnOutBackRefIdeal.main_v6) = v0 c
          ∧ r.2.mem ((c.tc : Thread Cert.AttnOutBackRefIdeal.nD Cert.AttnOutBackRefIdeal.τ).loc Cert.AttnOutBackRefIdeal.main_v8) = v1 c
          ∧ r.2.mem ((c.tc : Thread Cert.AttnOutBackRefIdeal.nD Cert.AttnOutBackRefIdeal.τ).loc Cert.AttnOutBackRefIdeal.main_arg0) = m' ((c.tc : Thread Cert.AttnOutBackRefIdeal.nD Cert.AttnOutBackRefIdeal.τ).loc Cert.AttnOutBackRefIdeal.main_arg0)
          ∧ r.2.mem ((c.tc : Thread Cert.AttnOutBackRefIdeal.nD Cert.AttnOutBackRefIdeal.τ).loc Cert.AttnOutBackRefIdeal.main_arg1) = m' ((c.tc : Thread Cert.AttnOutBackRefIdeal.nD Cert.AttnOutBackRefIdeal.τ).loc Cert.AttnOutBackRefIdeal.main_arg1)
          ∧ r.2.mem ((c.tc : Thread Cert.AttnOutBackRefIdeal.nD Cert.AttnOutBackRefIdeal.τ).loc Cert.AttnOutBackRefIdeal.main_arg2) = m' ((c.tc : Thread Cert.AttnOutBackRefIdeal.nD Cert.AttnOutBackRefIdeal.τ).loc Cert.AttnOutBackRefIdeal.main_arg2))

def preserves_ConvPre_ConvPreIdeal : Prop :=
  True

def algebraic_ConvPreIdeal_ConvPreRefIdeal [hConvPreIdeal : Cert.ConvPreIdeal.Facts] [hConvPreRefIdeal : Cert.ConvPreRefIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg)
    (m' : (ℓ : Loc Cert.ConvPreRefIdeal.nD Cert.ConvPreRefIdeal.τ Cert.ConvPreRefIdeal.sig) → Buf (Elt Ideal) ℓ) (g' : Dev Cert.ConvPreRefIdeal.nD → PrngReg), Pre_ConvPreIdeal m →
    (∀ c : Dev Cert.ConvPreIdeal.nD,
      m' ((c.tc : Thread Cert.ConvPreRefIdeal.nD Cert.ConvPreRefIdeal.τ).loc Cert.ConvPreRefIdeal.main_arg0) = m ((c.tc : Thread Cert.ConvPreIdeal.nD Cert.ConvPreIdeal.τ).loc Cert.ConvPreIdeal.main_arg0)
      ∧ m' ((c.tc : Thread Cert.ConvPreRefIdeal.nD Cert.ConvPreRefIdeal.τ).loc Cert.ConvPreRefIdeal.main_arg1) = m ((c.tc : Thread Cert.ConvPreIdeal.nD Cert.ConvPreIdeal.τ).loc Cert.ConvPreIdeal.main_arg1)
      ∧ m' ((c.tc : Thread Cert.ConvPreRefIdeal.nD Cert.ConvPreRefIdeal.τ).loc Cert.ConvPreRefIdeal.main_arg2) = m ((c.tc : Thread Cert.ConvPreIdeal.nD Cert.ConvPreIdeal.τ).loc Cert.ConvPreIdeal.main_arg2)) →
    ∃ (v0 : (c : Dev Cert.ConvPreIdeal.nD) → Buf (Elt Ideal) ((c.tc : Thread Cert.ConvPreIdeal.nD Cert.ConvPreIdeal.τ).loc Cert.ConvPreIdeal.main_v2_0)) (v1 : (c : Dev Cert.ConvPreIdeal.nD) → Buf (Elt Ideal) ((c.tc : Thread Cert.ConvPreIdeal.nD Cert.ConvPreIdeal.τ).loc Cert.ConvPreIdeal.main_v2_1)) (v2 : (c : Dev Cert.ConvPreIdeal.nD) → Buf (Elt Ideal) ((c.tc : Thread Cert.ConvPreIdeal.nD Cert.ConvPreIdeal.τ).loc Cert.ConvPreIdeal.main_v2_2)),
      θ_run (Cert.ConvPreIdeal.defs (F := Ideal)) (onTc (τ := Cert.ConvPreIdeal.τ) (Cert.ConvPreIdeal.main (F := Ideal))) ⟨m, fun _ => 0, g⟩ (fun r => ∀ c : Dev Cert.ConvPreIdeal.nD,
          r.2.mem ((c.tc : Thread Cert.ConvPreIdeal.nD Cert.ConvPreIdeal.τ).loc Cert.ConvPreIdeal.main_v2_0) = v0 c
          ∧ r.2.mem ((c.tc : Thread Cert.ConvPreIdeal.nD Cert.ConvPreIdeal.τ).loc Cert.ConvPreIdeal.main_v2_1) = v1 c
          ∧ r.2.mem ((c.tc : Thread Cert.ConvPreIdeal.nD Cert.ConvPreIdeal.τ).loc Cert.ConvPreIdeal.main_v2_2) = v2 c
          ∧ r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
          ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
          ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2))
      ∧ θ_run (Cert.ConvPreRefIdeal.defs (F := Ideal)) (onTc (τ := Cert.ConvPreRefIdeal.τ) (Cert.ConvPreRefIdeal.main (F := Ideal))) ⟨m', fun _ => 0, g'⟩ (fun r => ∀ c : Dev Cert.ConvPreRefIdeal.nD,
          r.2.mem ((c.tc : Thread Cert.ConvPreRefIdeal.nD Cert.ConvPreRefIdeal.τ).loc Cert.ConvPreRefIdeal.main_v16) = v0 c
          ∧ r.2.mem ((c.tc : Thread Cert.ConvPreRefIdeal.nD Cert.ConvPreRefIdeal.τ).loc Cert.ConvPreRefIdeal.main_v13) = v1 c
          ∧ r.2.mem ((c.tc : Thread Cert.ConvPreRefIdeal.nD Cert.ConvPreRefIdeal.τ).loc Cert.ConvPreRefIdeal.main_v23) = v2 c
          ∧ r.2.mem ((c.tc : Thread Cert.ConvPreRefIdeal.nD Cert.ConvPreRefIdeal.τ).loc Cert.ConvPreRefIdeal.main_arg0) = m' ((c.tc : Thread Cert.ConvPreRefIdeal.nD Cert.ConvPreRefIdeal.τ).loc Cert.ConvPreRefIdeal.main_arg0)
          ∧ r.2.mem ((c.tc : Thread Cert.ConvPreRefIdeal.nD Cert.ConvPreRefIdeal.τ).loc Cert.ConvPreRefIdeal.main_arg1) = m' ((c.tc : Thread Cert.ConvPreRefIdeal.nD Cert.ConvPreRefIdeal.τ).loc Cert.ConvPreRefIdeal.main_arg1)
          ∧ r.2.mem ((c.tc : Thread Cert.ConvPreRefIdeal.nD Cert.ConvPreRefIdeal.τ).loc Cert.ConvPreRefIdeal.main_arg2) = m' ((c.tc : Thread Cert.ConvPreRefIdeal.nD Cert.ConvPreRefIdeal.τ).loc Cert.ConvPreRefIdeal.main_arg2))

def preserves_MlaPre_MlaPreIdeal : Prop :=
  True

def algebraic_MlaPreIdeal_MlaPreRefIdeal [hMlaPreIdeal : Cert.MlaPreIdeal.Facts] [hMlaPreRefIdeal : Cert.MlaPreRefIdeal.Facts] : Prop :=
  ∀ (m : (ℓ : Loc Cert.MlaPreIdeal.nD Cert.MlaPreIdeal.τ Cert.MlaPreIdeal.sig) → Buf (Elt Ideal) ℓ) (g : Dev Cert.MlaPreIdeal.nD → PrngReg)
    (m' : (ℓ : Loc Cert.MlaPreRefIdeal.nD Cert.MlaPreRefIdeal.τ Cert.MlaPreRefIdeal.sig) → Buf (Elt Ideal) ℓ) (g' : Dev Cert.MlaPreRefIdeal.nD → PrngReg), Pre_MlaPreIdeal m →
    (∀ c : Dev Cert.MlaPreIdeal.nD,
      m' ((c.tc : Thread Cert.MlaPreRefIdeal.nD Cert.MlaPreRefIdeal.τ).loc Cert.MlaPreRefIdeal.main_arg0) = m ((c.tc : Thread Cert.MlaPreIdeal.nD Cert.MlaPreIdeal.τ).loc Cert.MlaPreIdeal.main_arg0)
      ∧ m' ((c.tc : Thread Cert.MlaPreRefIdeal.nD Cert.MlaPreRefIdeal.τ).loc Cert.MlaPreRefIdeal.main_arg1) = m ((c.tc : Thread Cert.MlaPreIdeal.nD Cert.MlaPreIdeal.τ).loc Cert.MlaPreIdeal.main_arg1)
      ∧ m' ((c.tc : Thread Cert.MlaPreRefIdeal.nD Cert.MlaPreRefIdeal.τ).loc Cert.MlaPreRefIdeal.main_arg2) = m ((c.tc : Thread Cert.MlaPreIdeal.nD Cert.MlaPreIdeal.τ).loc Cert.MlaPreIdeal.main_arg2)
      ∧ m' ((c.tc : Thread Cert.MlaPreRefIdeal.nD Cert.MlaPreRefIdeal.τ).loc Cert.MlaPreRefIdeal.main_arg3) = m ((c.tc : Thread Cert.MlaPreIdeal.nD Cert.MlaPreIdeal.τ).loc Cert.MlaPreIdeal.main_arg3)
      ∧ m' ((c.tc : Thread Cert.MlaPreRefIdeal.nD Cert.MlaPreRefIdeal.τ).loc Cert.MlaPreRefIdeal.main_arg4) = m ((c.tc : Thread Cert.MlaPreIdeal.nD Cert.MlaPreIdeal.τ).loc Cert.MlaPreIdeal.main_arg4)
      ∧ m' ((c.tc : Thread Cert.MlaPreRefIdeal.nD Cert.MlaPreRefIdeal.τ).loc Cert.MlaPreRefIdeal.main_arg5) = m ((c.tc : Thread Cert.MlaPreIdeal.nD Cert.MlaPreIdeal.τ).loc Cert.MlaPreIdeal.main_arg5)
      ∧ m' ((c.tc : Thread Cert.MlaPreRefIdeal.nD Cert.MlaPreRefIdeal.τ).loc Cert.MlaPreRefIdeal.main_arg6) = m ((c.tc : Thread Cert.MlaPreIdeal.nD Cert.MlaPreIdeal.τ).loc Cert.MlaPreIdeal.main_arg6)
      ∧ m' ((c.tc : Thread Cert.MlaPreRefIdeal.nD Cert.MlaPreRefIdeal.τ).loc Cert.MlaPreRefIdeal.main_arg7) = m ((c.tc : Thread Cert.MlaPreIdeal.nD Cert.MlaPreIdeal.τ).loc Cert.MlaPreIdeal.main_arg7)) →
    ∃ (v0 : (c : Dev Cert.MlaPreIdeal.nD) → Buf (Elt Ideal) ((c.tc : Thread Cert.MlaPreIdeal.nD Cert.MlaPreIdeal.τ).loc Cert.MlaPreIdeal.main_v29_0)) (v1 : (c : Dev Cert.MlaPreIdeal.nD) → Buf (Elt Ideal) ((c.tc : Thread Cert.MlaPreIdeal.nD Cert.MlaPreIdeal.τ).loc Cert.MlaPreIdeal.main_v29_1)) (v2 : (c : Dev Cert.MlaPreIdeal.nD) → Buf (Elt Ideal) ((c.tc : Thread Cert.MlaPreIdeal.nD Cert.MlaPreIdeal.τ).loc Cert.MlaPreIdeal.main_v29_2)) (v3 : (c : Dev Cert.MlaPreIdeal.nD) → Buf (Elt Ideal) ((c.tc : Thread Cert.MlaPreIdeal.nD Cert.MlaPreIdeal.τ).loc Cert.MlaPreIdeal.main_v29_3)) (v4 : (c : Dev Cert.MlaPreIdeal.nD) → Buf (Elt Ideal) ((c.tc : Thread Cert.MlaPreIdeal.nD Cert.MlaPreIdeal.τ).loc Cert.MlaPreIdeal.main_v29_4)) (v5 : (c : Dev Cert.MlaPreIdeal.nD) → Buf (Elt Ideal) ((c.tc : Thread Cert.MlaPreIdeal.nD Cert.MlaPreIdeal.τ).loc Cert.MlaPreIdeal.main_v29_5)) (v6 : (c : Dev Cert.MlaPreIdeal.nD) → Buf (Elt Ideal) ((c.tc : Thread Cert.MlaPreIdeal.nD Cert.MlaPreIdeal.τ).loc Cert.MlaPreIdeal.main_v29_6)),
      θ_run (Cert.MlaPreIdeal.defs (F := Ideal)) (onTc (τ := Cert.MlaPreIdeal.τ) (Cert.MlaPreIdeal.main (F := Ideal))) ⟨m, fun _ => 0, g⟩ (fun r => ∀ c : Dev Cert.MlaPreIdeal.nD,
          r.2.mem ((c.tc : Thread Cert.MlaPreIdeal.nD Cert.MlaPreIdeal.τ).loc Cert.MlaPreIdeal.main_v29_0) = v0 c
          ∧ r.2.mem ((c.tc : Thread Cert.MlaPreIdeal.nD Cert.MlaPreIdeal.τ).loc Cert.MlaPreIdeal.main_v29_1) = v1 c
          ∧ r.2.mem ((c.tc : Thread Cert.MlaPreIdeal.nD Cert.MlaPreIdeal.τ).loc Cert.MlaPreIdeal.main_v29_2) = v2 c
          ∧ r.2.mem ((c.tc : Thread Cert.MlaPreIdeal.nD Cert.MlaPreIdeal.τ).loc Cert.MlaPreIdeal.main_v29_3) = v3 c
          ∧ r.2.mem ((c.tc : Thread Cert.MlaPreIdeal.nD Cert.MlaPreIdeal.τ).loc Cert.MlaPreIdeal.main_v29_4) = v4 c
          ∧ r.2.mem ((c.tc : Thread Cert.MlaPreIdeal.nD Cert.MlaPreIdeal.τ).loc Cert.MlaPreIdeal.main_v29_5) = v5 c
          ∧ r.2.mem ((c.tc : Thread Cert.MlaPreIdeal.nD Cert.MlaPreIdeal.τ).loc Cert.MlaPreIdeal.main_v29_6) = v6 c
          ∧ r.2.mem ((c.tc : Thread Cert.MlaPreIdeal.nD Cert.MlaPreIdeal.τ).loc Cert.MlaPreIdeal.main_arg0) = m ((c.tc : Thread Cert.MlaPreIdeal.nD Cert.MlaPreIdeal.τ).loc Cert.MlaPreIdeal.main_arg0)
          ∧ r.2.mem ((c.tc : Thread Cert.MlaPreIdeal.nD Cert.MlaPreIdeal.τ).loc Cert.MlaPreIdeal.main_arg1) = m ((c.tc : Thread Cert.MlaPreIdeal.nD Cert.MlaPreIdeal.τ).loc Cert.MlaPreIdeal.main_arg1)
          ∧ r.2.mem ((c.tc : Thread Cert.MlaPreIdeal.nD Cert.MlaPreIdeal.τ).loc Cert.MlaPreIdeal.main_arg2) = m ((c.tc : Thread Cert.MlaPreIdeal.nD Cert.MlaPreIdeal.τ).loc Cert.MlaPreIdeal.main_arg2)
          ∧ r.2.mem ((c.tc : Thread Cert.MlaPreIdeal.nD Cert.MlaPreIdeal.τ).loc Cert.MlaPreIdeal.main_arg3) = m ((c.tc : Thread Cert.MlaPreIdeal.nD Cert.MlaPreIdeal.τ).loc Cert.MlaPreIdeal.main_arg3)
          ∧ r.2.mem ((c.tc : Thread Cert.MlaPreIdeal.nD Cert.MlaPreIdeal.τ).loc Cert.MlaPreIdeal.main_arg4) = m ((c.tc : Thread Cert.MlaPreIdeal.nD Cert.MlaPreIdeal.τ).loc Cert.MlaPreIdeal.main_arg4)
          ∧ r.2.mem ((c.tc : Thread Cert.MlaPreIdeal.nD Cert.MlaPreIdeal.τ).loc Cert.MlaPreIdeal.main_arg5) = m ((c.tc : Thread Cert.MlaPreIdeal.nD Cert.MlaPreIdeal.τ).loc Cert.MlaPreIdeal.main_arg5)
          ∧ r.2.mem ((c.tc : Thread Cert.MlaPreIdeal.nD Cert.MlaPreIdeal.τ).loc Cert.MlaPreIdeal.main_arg6) = m ((c.tc : Thread Cert.MlaPreIdeal.nD Cert.MlaPreIdeal.τ).loc Cert.MlaPreIdeal.main_arg6)
          ∧ r.2.mem ((c.tc : Thread Cert.MlaPreIdeal.nD Cert.MlaPreIdeal.τ).loc Cert.MlaPreIdeal.main_arg7) = m ((c.tc : Thread Cert.MlaPreIdeal.nD Cert.MlaPreIdeal.τ).loc Cert.MlaPreIdeal.main_arg7))
      ∧ θ_run (Cert.MlaPreRefIdeal.defs (F := Ideal)) (onTc (τ := Cert.MlaPreRefIdeal.τ) (Cert.MlaPreRefIdeal.main (F := Ideal))) ⟨m', fun _ => 0, g'⟩ (fun r => ∀ c : Dev Cert.MlaPreRefIdeal.nD,
          r.2.mem ((c.tc : Thread Cert.MlaPreRefIdeal.nD Cert.MlaPreRefIdeal.τ).loc Cert.MlaPreRefIdeal.main_v93) = v0 c
          ∧ r.2.mem ((c.tc : Thread Cert.MlaPreRefIdeal.nD Cert.MlaPreRefIdeal.τ).loc Cert.MlaPreRefIdeal.main_v94) = v1 c
          ∧ r.2.mem ((c.tc : Thread Cert.MlaPreRefIdeal.nD Cert.MlaPreRefIdeal.τ).loc Cert.MlaPreRefIdeal.main_v95) = v2 c
          ∧ r.2.mem ((c.tc : Thread Cert.MlaPreRefIdeal.nD Cert.MlaPreRefIdeal.τ).loc Cert.MlaPreRefIdeal.main_v96) = v3 c
          ∧ r.2.mem ((c.tc : Thread Cert.MlaPreRefIdeal.nD Cert.MlaPreRefIdeal.τ).loc Cert.MlaPreRefIdeal.main_v99) = v4 c
          ∧ r.2.mem ((c.tc : Thread Cert.MlaPreRefIdeal.nD Cert.MlaPreRefIdeal.τ).loc Cert.MlaPreRefIdeal.main_v102) = v5 c
          ∧ r.2.mem ((c.tc : Thread Cert.MlaPreRefIdeal.nD Cert.MlaPreRefIdeal.τ).loc Cert.MlaPreRefIdeal.main_v105) = v6 c
          ∧ r.2.mem ((c.tc : Thread Cert.MlaPreRefIdeal.nD Cert.MlaPreRefIdeal.τ).loc Cert.MlaPreRefIdeal.main_arg0) = m' ((c.tc : Thread Cert.MlaPreRefIdeal.nD Cert.MlaPreRefIdeal.τ).loc Cert.MlaPreRefIdeal.main_arg0)
          ∧ r.2.mem ((c.tc : Thread Cert.MlaPreRefIdeal.nD Cert.MlaPreRefIdeal.τ).loc Cert.MlaPreRefIdeal.main_arg1) = m' ((c.tc : Thread Cert.MlaPreRefIdeal.nD Cert.MlaPreRefIdeal.τ).loc Cert.MlaPreRefIdeal.main_arg1)
          ∧ r.2.mem ((c.tc : Thread Cert.MlaPreRefIdeal.nD Cert.MlaPreRefIdeal.τ).loc Cert.MlaPreRefIdeal.main_arg2) = m' ((c.tc : Thread Cert.MlaPreRefIdeal.nD Cert.MlaPreRefIdeal.τ).loc Cert.MlaPreRefIdeal.main_arg2)
          ∧ r.2.mem ((c.tc : Thread Cert.MlaPreRefIdeal.nD Cert.MlaPreRefIdeal.τ).loc Cert.MlaPreRefIdeal.main_arg3) = m' ((c.tc : Thread Cert.MlaPreRefIdeal.nD Cert.MlaPreRefIdeal.τ).loc Cert.MlaPreRefIdeal.main_arg3)
          ∧ r.2.mem ((c.tc : Thread Cert.MlaPreRefIdeal.nD Cert.MlaPreRefIdeal.τ).loc Cert.MlaPreRefIdeal.main_arg4) = m' ((c.tc : Thread Cert.MlaPreRefIdeal.nD Cert.MlaPreRefIdeal.τ).loc Cert.MlaPreRefIdeal.main_arg4)
          ∧ r.2.mem ((c.tc : Thread Cert.MlaPreRefIdeal.nD Cert.MlaPreRefIdeal.τ).loc Cert.MlaPreRefIdeal.main_arg5) = m' ((c.tc : Thread Cert.MlaPreRefIdeal.nD Cert.MlaPreRefIdeal.τ).loc Cert.MlaPreRefIdeal.main_arg5)
          ∧ r.2.mem ((c.tc : Thread Cert.MlaPreRefIdeal.nD Cert.MlaPreRefIdeal.τ).loc Cert.MlaPreRefIdeal.main_arg6) = m' ((c.tc : Thread Cert.MlaPreRefIdeal.nD Cert.MlaPreRefIdeal.τ).loc Cert.MlaPreRefIdeal.main_arg6)
          ∧ r.2.mem ((c.tc : Thread Cert.MlaPreRefIdeal.nD Cert.MlaPreRefIdeal.τ).loc Cert.MlaPreRefIdeal.main_arg7) = m' ((c.tc : Thread Cert.MlaPreRefIdeal.nD Cert.MlaPreRefIdeal.τ).loc Cert.MlaPreRefIdeal.main_arg7))

def preserves_AdamConvIn_AdamConvInIdeal : Prop :=
  True

def algebraic_AdamConvInIdeal_AdamConvInRefIdeal [hAdamConvInIdeal : Cert.AdamConvInIdeal.Facts] [hAdamConvInRefIdeal : Cert.AdamConvInRefIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg)
    (m' : (ℓ : Loc Cert.AdamConvInRefIdeal.nD Cert.AdamConvInRefIdeal.τ Cert.AdamConvInRefIdeal.sig) → Buf (Elt Ideal) ℓ) (g' : Dev Cert.AdamConvInRefIdeal.nD → PrngReg), Pre_AdamConvInIdeal m →
    (∀ c : Dev Cert.AdamConvInIdeal.nD,
      m' ((c.tc : Thread Cert.AdamConvInRefIdeal.nD Cert.AdamConvInRefIdeal.τ).loc Cert.AdamConvInRefIdeal.main_arg0) = m ((c.tc : Thread Cert.AdamConvInIdeal.nD Cert.AdamConvInIdeal.τ).loc Cert.AdamConvInIdeal.main_arg0)
      ∧ m' ((c.tc : Thread Cert.AdamConvInRefIdeal.nD Cert.AdamConvInRefIdeal.τ).loc Cert.AdamConvInRefIdeal.main_arg1) = m ((c.tc : Thread Cert.AdamConvInIdeal.nD Cert.AdamConvInIdeal.τ).loc Cert.AdamConvInIdeal.main_arg1)
      ∧ m' ((c.tc : Thread Cert.AdamConvInRefIdeal.nD Cert.AdamConvInRefIdeal.τ).loc Cert.AdamConvInRefIdeal.main_arg2) = m ((c.tc : Thread Cert.AdamConvInIdeal.nD Cert.AdamConvInIdeal.τ).loc Cert.AdamConvInIdeal.main_arg2)
      ∧ m' ((c.tc : Thread Cert.AdamConvInRefIdeal.nD Cert.AdamConvInRefIdeal.τ).loc Cert.AdamConvInRefIdeal.main_arg3) = m ((c.tc : Thread Cert.AdamConvInIdeal.nD Cert.AdamConvInIdeal.τ).loc Cert.AdamConvInIdeal.main_arg3)) →
    ∃ (v0 : (c : Dev Cert.AdamConvInIdeal.nD) → Buf (Elt Ideal) ((c.tc : Thread Cert.AdamConvInIdeal.nD Cert.AdamConvInIdeal.τ).loc Cert.AdamConvInIdeal.main_v1_0)) (v1 : (c : Dev Cert.AdamConvInIdeal.nD) → Buf (Elt Ideal) ((c.tc : Thread Cert.AdamConvInIdeal.nD Cert.AdamConvInIdeal.τ).loc Cert.AdamConvInIdeal.main_v1_1)) (v2 : (c : Dev Cert.AdamConvInIdeal.nD) → Buf (Elt Ideal) ((c.tc : Thread Cert.AdamConvInIdeal.nD Cert.AdamConvInIdeal.τ).loc Cert.AdamConvInIdeal.main_v1_2)) (v3 : (c : Dev Cert.AdamConvInIdeal.nD) → Buf (Elt Ideal) ((c.tc : Thread Cert.AdamConvInIdeal.nD Cert.AdamConvInIdeal.τ).loc Cert.AdamConvInIdeal.main_v1_3)),
      θ_run (Cert.AdamConvInIdeal.defs (F := Ideal)) (onTc (τ := Cert.AdamConvInIdeal.τ) (Cert.AdamConvInIdeal.main (F := Ideal))) ⟨m, fun _ => 0, g⟩ (fun r => ∀ c : Dev Cert.AdamConvInIdeal.nD,
          r.2.mem ((c.tc : Thread Cert.AdamConvInIdeal.nD Cert.AdamConvInIdeal.τ).loc Cert.AdamConvInIdeal.main_v1_0) = v0 c
          ∧ r.2.mem ((c.tc : Thread Cert.AdamConvInIdeal.nD Cert.AdamConvInIdeal.τ).loc Cert.AdamConvInIdeal.main_v1_1) = v1 c
          ∧ r.2.mem ((c.tc : Thread Cert.AdamConvInIdeal.nD Cert.AdamConvInIdeal.τ).loc Cert.AdamConvInIdeal.main_v1_2) = v2 c
          ∧ r.2.mem ((c.tc : Thread Cert.AdamConvInIdeal.nD Cert.AdamConvInIdeal.τ).loc Cert.AdamConvInIdeal.main_v1_3) = v3 c
          ∧ r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
          ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
          ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
          ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ θ_run (Cert.AdamConvInRefIdeal.defs (F := Ideal)) (onTc (τ := Cert.AdamConvInRefIdeal.τ) (Cert.AdamConvInRefIdeal.main (F := Ideal))) ⟨m', fun _ => 0, g'⟩ (fun r => ∀ c : Dev Cert.AdamConvInRefIdeal.nD,
          r.2.mem ((c.tc : Thread Cert.AdamConvInRefIdeal.nD Cert.AdamConvInRefIdeal.τ).loc Cert.AdamConvInRefIdeal.main_v1) = v0 c
          ∧ r.2.mem ((c.tc : Thread Cert.AdamConvInRefIdeal.nD Cert.AdamConvInRefIdeal.τ).loc Cert.AdamConvInRefIdeal.main_v25) = v1 c
          ∧ r.2.mem ((c.tc : Thread Cert.AdamConvInRefIdeal.nD Cert.AdamConvInRefIdeal.τ).loc Cert.AdamConvInRefIdeal.main_v6) = v2 c
          ∧ r.2.mem ((c.tc : Thread Cert.AdamConvInRefIdeal.nD Cert.AdamConvInRefIdeal.τ).loc Cert.AdamConvInRefIdeal.main_v12) = v3 c
          ∧ r.2.mem ((c.tc : Thread Cert.AdamConvInRefIdeal.nD Cert.AdamConvInRefIdeal.τ).loc Cert.AdamConvInRefIdeal.main_arg0) = m' ((c.tc : Thread Cert.AdamConvInRefIdeal.nD Cert.AdamConvInRefIdeal.τ).loc Cert.AdamConvInRefIdeal.main_arg0)
          ∧ r.2.mem ((c.tc : Thread Cert.AdamConvInRefIdeal.nD Cert.AdamConvInRefIdeal.τ).loc Cert.AdamConvInRefIdeal.main_arg1) = m' ((c.tc : Thread Cert.AdamConvInRefIdeal.nD Cert.AdamConvInRefIdeal.τ).loc Cert.AdamConvInRefIdeal.main_arg1)
          ∧ r.2.mem ((c.tc : Thread Cert.AdamConvInRefIdeal.nD Cert.AdamConvInRefIdeal.τ).loc Cert.AdamConvInRefIdeal.main_arg2) = m' ((c.tc : Thread Cert.AdamConvInRefIdeal.nD Cert.AdamConvInRefIdeal.τ).loc Cert.AdamConvInRefIdeal.main_arg2)
          ∧ r.2.mem ((c.tc : Thread Cert.AdamConvInRefIdeal.nD Cert.AdamConvInRefIdeal.τ).loc Cert.AdamConvInRefIdeal.main_arg3) = m' ((c.tc : Thread Cert.AdamConvInRefIdeal.nD Cert.AdamConvInRefIdeal.τ).loc Cert.AdamConvInRefIdeal.main_arg3))

def preserves_AdamConvOut_AdamConvOutIdeal : Prop :=
  True

def algebraic_AdamConvOutIdeal_AdamConvOutRefIdeal [hAdamConvOutIdeal : Cert.AdamConvOutIdeal.Facts] [hAdamConvOutRefIdeal : Cert.AdamConvOutRefIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg)
    (m' : (ℓ : Loc Cert.AdamConvOutRefIdeal.nD Cert.AdamConvOutRefIdeal.τ Cert.AdamConvOutRefIdeal.sig) → Buf (Elt Ideal) ℓ) (g' : Dev Cert.AdamConvOutRefIdeal.nD → PrngReg), Pre_AdamConvOutIdeal m →
    (∀ c : Dev Cert.AdamConvOutIdeal.nD,
      m' ((c.tc : Thread Cert.AdamConvOutRefIdeal.nD Cert.AdamConvOutRefIdeal.τ).loc Cert.AdamConvOutRefIdeal.main_arg0) = m ((c.tc : Thread Cert.AdamConvOutIdeal.nD Cert.AdamConvOutIdeal.τ).loc Cert.AdamConvOutIdeal.main_arg0)
      ∧ m' ((c.tc : Thread Cert.AdamConvOutRefIdeal.nD Cert.AdamConvOutRefIdeal.τ).loc Cert.AdamConvOutRefIdeal.main_arg1) = m ((c.tc : Thread Cert.AdamConvOutIdeal.nD Cert.AdamConvOutIdeal.τ).loc Cert.AdamConvOutIdeal.main_arg1)
      ∧ m' ((c.tc : Thread Cert.AdamConvOutRefIdeal.nD Cert.AdamConvOutRefIdeal.τ).loc Cert.AdamConvOutRefIdeal.main_arg2) = m ((c.tc : Thread Cert.AdamConvOutIdeal.nD Cert.AdamConvOutIdeal.τ).loc Cert.AdamConvOutIdeal.main_arg2)
      ∧ m' ((c.tc : Thread Cert.AdamConvOutRefIdeal.nD Cert.AdamConvOutRefIdeal.τ).loc Cert.AdamConvOutRefIdeal.main_arg3) = m ((c.tc : Thread Cert.AdamConvOutIdeal.nD Cert.AdamConvOutIdeal.τ).loc Cert.AdamConvOutIdeal.main_arg3)) →
    ∃ (v0 : (c : Dev Cert.AdamConvOutIdeal.nD) → Buf (Elt Ideal) ((c.tc : Thread Cert.AdamConvOutIdeal.nD Cert.AdamConvOutIdeal.τ).loc Cert.AdamConvOutIdeal.main_v1_0)) (v1 : (c : Dev Cert.AdamConvOutIdeal.nD) → Buf (Elt Ideal) ((c.tc : Thread Cert.AdamConvOutIdeal.nD Cert.AdamConvOutIdeal.τ).loc Cert.AdamConvOutIdeal.main_v1_1)) (v2 : (c : Dev Cert.AdamConvOutIdeal.nD) → Buf (Elt Ideal) ((c.tc : Thread Cert.AdamConvOutIdeal.nD Cert.AdamConvOutIdeal.τ).loc Cert.AdamConvOutIdeal.main_v1_2)) (v3 : (c : Dev Cert.AdamConvOutIdeal.nD) → Buf (Elt Ideal) ((c.tc : Thread Cert.AdamConvOutIdeal.nD Cert.AdamConvOutIdeal.τ).loc Cert.AdamConvOutIdeal.main_v1_3)),
      θ_run (Cert.AdamConvOutIdeal.defs (F := Ideal)) (onTc (τ := Cert.AdamConvOutIdeal.τ) (Cert.AdamConvOutIdeal.main (F := Ideal))) ⟨m, fun _ => 0, g⟩ (fun r => ∀ c : Dev Cert.AdamConvOutIdeal.nD,
          r.2.mem ((c.tc : Thread Cert.AdamConvOutIdeal.nD Cert.AdamConvOutIdeal.τ).loc Cert.AdamConvOutIdeal.main_v1_0) = v0 c
          ∧ r.2.mem ((c.tc : Thread Cert.AdamConvOutIdeal.nD Cert.AdamConvOutIdeal.τ).loc Cert.AdamConvOutIdeal.main_v1_1) = v1 c
          ∧ r.2.mem ((c.tc : Thread Cert.AdamConvOutIdeal.nD Cert.AdamConvOutIdeal.τ).loc Cert.AdamConvOutIdeal.main_v1_2) = v2 c
          ∧ r.2.mem ((c.tc : Thread Cert.AdamConvOutIdeal.nD Cert.AdamConvOutIdeal.τ).loc Cert.AdamConvOutIdeal.main_v1_3) = v3 c
          ∧ r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
          ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
          ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
          ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ θ_run (Cert.AdamConvOutRefIdeal.defs (F := Ideal)) (onTc (τ := Cert.AdamConvOutRefIdeal.τ) (Cert.AdamConvOutRefIdeal.main (F := Ideal))) ⟨m', fun _ => 0, g'⟩ (fun r => ∀ c : Dev Cert.AdamConvOutRefIdeal.nD,
          r.2.mem ((c.tc : Thread Cert.AdamConvOutRefIdeal.nD Cert.AdamConvOutRefIdeal.τ).loc Cert.AdamConvOutRefIdeal.main_v1) = v0 c
          ∧ r.2.mem ((c.tc : Thread Cert.AdamConvOutRefIdeal.nD Cert.AdamConvOutRefIdeal.τ).loc Cert.AdamConvOutRefIdeal.main_v25) = v1 c
          ∧ r.2.mem ((c.tc : Thread Cert.AdamConvOutRefIdeal.nD Cert.AdamConvOutRefIdeal.τ).loc Cert.AdamConvOutRefIdeal.main_v6) = v2 c
          ∧ r.2.mem ((c.tc : Thread Cert.AdamConvOutRefIdeal.nD Cert.AdamConvOutRefIdeal.τ).loc Cert.AdamConvOutRefIdeal.main_v12) = v3 c
          ∧ r.2.mem ((c.tc : Thread Cert.AdamConvOutRefIdeal.nD Cert.AdamConvOutRefIdeal.τ).loc Cert.AdamConvOutRefIdeal.main_arg0) = m' ((c.tc : Thread Cert.AdamConvOutRefIdeal.nD Cert.AdamConvOutRefIdeal.τ).loc Cert.AdamConvOutRefIdeal.main_arg0)
          ∧ r.2.mem ((c.tc : Thread Cert.AdamConvOutRefIdeal.nD Cert.AdamConvOutRefIdeal.τ).loc Cert.AdamConvOutRefIdeal.main_arg1) = m' ((c.tc : Thread Cert.AdamConvOutRefIdeal.nD Cert.AdamConvOutRefIdeal.τ).loc Cert.AdamConvOutRefIdeal.main_arg1)
          ∧ r.2.mem ((c.tc : Thread Cert.AdamConvOutRefIdeal.nD Cert.AdamConvOutRefIdeal.τ).loc Cert.AdamConvOutRefIdeal.main_arg2) = m' ((c.tc : Thread Cert.AdamConvOutRefIdeal.nD Cert.AdamConvOutRefIdeal.τ).loc Cert.AdamConvOutRefIdeal.main_arg2)
          ∧ r.2.mem ((c.tc : Thread Cert.AdamConvOutRefIdeal.nD Cert.AdamConvOutRefIdeal.τ).loc Cert.AdamConvOutRefIdeal.main_arg3) = m' ((c.tc : Thread Cert.AdamConvOutRefIdeal.nD Cert.AdamConvOutRefIdeal.τ).loc Cert.AdamConvOutRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v2_0)) (v1 : (c : Dev Cert.AdamDownIdeal.nD) → Buf (Elt Ideal) ((c.tc : Thread Cert.AdamDownIdeal.nD Cert.AdamDownIdeal.τ).loc Cert.AdamDownIdeal.main_v2_1)) (v2 : (c : Dev Cert.AdamDownIdeal.nD) → Buf (Elt Ideal) ((c.tc : Thread Cert.AdamDownIdeal.nD Cert.AdamDownIdeal.τ).loc Cert.AdamDownIdeal.main_v2_2)) (v3 : (c : Dev Cert.AdamDownIdeal.nD) → Buf (Elt Ideal) ((c.tc : Thread Cert.AdamDownIdeal.nD Cert.AdamDownIdeal.τ).loc Cert.AdamDownIdeal.main_v2_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v2_0) = v0 c
          ∧ r.2.mem ((c.tc : Thread Cert.AdamDownIdeal.nD Cert.AdamDownIdeal.τ).loc Cert.AdamDownIdeal.main_v2_1) = v1 c
          ∧ r.2.mem ((c.tc : Thread Cert.AdamDownIdeal.nD Cert.AdamDownIdeal.τ).loc Cert.AdamDownIdeal.main_v2_2) = v2 c
          ∧ r.2.mem ((c.tc : Thread Cert.AdamDownIdeal.nD Cert.AdamDownIdeal.τ).loc Cert.AdamDownIdeal.main_v2_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamUpKv_AdamUpKvIdeal : Prop :=
  True

def algebraic_AdamUpKvIdeal_AdamUpKvRefIdeal [hAdamUpKvIdeal : Cert.AdamUpKvIdeal.Facts] [hAdamUpKvRefIdeal : Cert.AdamUpKvRefIdeal.Facts] : Prop :=
  ∀ (m : (ℓ : Loc Cert.AdamUpKvIdeal.nD Cert.AdamUpKvIdeal.τ Cert.AdamUpKvIdeal.sig) → Buf (Elt Ideal) ℓ) (g : Dev Cert.AdamUpKvIdeal.nD → PrngReg)
    (m' : (ℓ : Loc Cert.AdamUpKvRefIdeal.nD Cert.AdamUpKvRefIdeal.τ Cert.AdamUpKvRefIdeal.sig) → Buf (Elt Ideal) ℓ) (g' : Dev Cert.AdamUpKvRefIdeal.nD → PrngReg), Pre_AdamUpKvIdeal m →
    (∀ c : Dev Cert.AdamUpKvIdeal.nD,
      m' ((c.tc : Thread Cert.AdamUpKvRefIdeal.nD Cert.AdamUpKvRefIdeal.τ).loc Cert.AdamUpKvRefIdeal.main_arg0) = m ((c.tc : Thread Cert.AdamUpKvIdeal.nD Cert.AdamUpKvIdeal.τ).loc Cert.AdamUpKvIdeal.main_arg0)
      ∧ m' ((c.tc : Thread Cert.AdamUpKvRefIdeal.nD Cert.AdamUpKvRefIdeal.τ).loc Cert.AdamUpKvRefIdeal.main_arg1) = m ((c.tc : Thread Cert.AdamUpKvIdeal.nD Cert.AdamUpKvIdeal.τ).loc Cert.AdamUpKvIdeal.main_arg1)
      ∧ m' ((c.tc : Thread Cert.AdamUpKvRefIdeal.nD Cert.AdamUpKvRefIdeal.τ).loc Cert.AdamUpKvRefIdeal.main_arg2) = m ((c.tc : Thread Cert.AdamUpKvIdeal.nD Cert.AdamUpKvIdeal.τ).loc Cert.AdamUpKvIdeal.main_arg2)
      ∧ m' ((c.tc : Thread Cert.AdamUpKvRefIdeal.nD Cert.AdamUpKvRefIdeal.τ).loc Cert.AdamUpKvRefIdeal.main_arg3) = m ((c.tc : Thread Cert.AdamUpKvIdeal.nD Cert.AdamUpKvIdeal.τ).loc Cert.AdamUpKvIdeal.main_arg3)) →
    ∃ (v0 : (c : Dev Cert.AdamUpKvIdeal.nD) → Buf (Elt Ideal) ((c.tc : Thread Cert.AdamUpKvIdeal.nD Cert.AdamUpKvIdeal.τ).loc Cert.AdamUpKvIdeal.main_v5_0)) (v1 : (c : Dev Cert.AdamUpKvIdeal.nD) → Buf (Elt Ideal) ((c.tc : Thread Cert.AdamUpKvIdeal.nD Cert.AdamUpKvIdeal.τ).loc Cert.AdamUpKvIdeal.main_v5_1)) (v2 : (c : Dev Cert.AdamUpKvIdeal.nD) → Buf (Elt Ideal) ((c.tc : Thread Cert.AdamUpKvIdeal.nD Cert.AdamUpKvIdeal.τ).loc Cert.AdamUpKvIdeal.main_v5_2)) (v3 : (c : Dev Cert.AdamUpKvIdeal.nD) → Buf (Elt Ideal) ((c.tc : Thread Cert.AdamUpKvIdeal.nD Cert.AdamUpKvIdeal.τ).loc Cert.AdamUpKvIdeal.main_v5_3)),
      θ_run (Cert.AdamUpKvIdeal.defs (F := Ideal)) (onTc (τ := Cert.AdamUpKvIdeal.τ) (Cert.AdamUpKvIdeal.main (F := Ideal))) ⟨m, fun _ => 0, g⟩ (fun r => ∀ c : Dev Cert.AdamUpKvIdeal.nD,
          r.2.mem ((c.tc : Thread Cert.AdamUpKvIdeal.nD Cert.AdamUpKvIdeal.τ).loc Cert.AdamUpKvIdeal.main_v5_0) = v0 c
          ∧ r.2.mem ((c.tc : Thread Cert.AdamUpKvIdeal.nD Cert.AdamUpKvIdeal.τ).loc Cert.AdamUpKvIdeal.main_v5_1) = v1 c
          ∧ r.2.mem ((c.tc : Thread Cert.AdamUpKvIdeal.nD Cert.AdamUpKvIdeal.τ).loc Cert.AdamUpKvIdeal.main_v5_2) = v2 c
          ∧ r.2.mem ((c.tc : Thread Cert.AdamUpKvIdeal.nD Cert.AdamUpKvIdeal.τ).loc Cert.AdamUpKvIdeal.main_v5_3) = v3 c
          ∧ r.2.mem ((c.tc : Thread Cert.AdamUpKvIdeal.nD Cert.AdamUpKvIdeal.τ).loc Cert.AdamUpKvIdeal.main_arg0) = m ((c.tc : Thread Cert.AdamUpKvIdeal.nD Cert.AdamUpKvIdeal.τ).loc Cert.AdamUpKvIdeal.main_arg0)
          ∧ r.2.mem ((c.tc : Thread Cert.AdamUpKvIdeal.nD Cert.AdamUpKvIdeal.τ).loc Cert.AdamUpKvIdeal.main_arg1) = m ((c.tc : Thread Cert.AdamUpKvIdeal.nD Cert.AdamUpKvIdeal.τ).loc Cert.AdamUpKvIdeal.main_arg1)
          ∧ r.2.mem ((c.tc : Thread Cert.AdamUpKvIdeal.nD Cert.AdamUpKvIdeal.τ).loc Cert.AdamUpKvIdeal.main_arg2) = m ((c.tc : Thread Cert.AdamUpKvIdeal.nD Cert.AdamUpKvIdeal.τ).loc Cert.AdamUpKvIdeal.main_arg2)
          ∧ r.2.mem ((c.tc : Thread Cert.AdamUpKvIdeal.nD Cert.AdamUpKvIdeal.τ).loc Cert.AdamUpKvIdeal.main_arg3) = m ((c.tc : Thread Cert.AdamUpKvIdeal.nD Cert.AdamUpKvIdeal.τ).loc Cert.AdamUpKvIdeal.main_arg3))
      ∧ θ_run (Cert.AdamUpKvRefIdeal.defs (F := Ideal)) (onTc (τ := Cert.AdamUpKvRefIdeal.τ) (Cert.AdamUpKvRefIdeal.main (F := Ideal))) ⟨m', fun _ => 0, g'⟩ (fun r => ∀ c : Dev Cert.AdamUpKvRefIdeal.nD,
          r.2.mem ((c.tc : Thread Cert.AdamUpKvRefIdeal.nD Cert.AdamUpKvRefIdeal.τ).loc Cert.AdamUpKvRefIdeal.main_v26) = v0 c
          ∧ r.2.mem ((c.tc : Thread Cert.AdamUpKvRefIdeal.nD Cert.AdamUpKvRefIdeal.τ).loc Cert.AdamUpKvRefIdeal.main_v27) = v1 c
          ∧ r.2.mem ((c.tc : Thread Cert.AdamUpKvRefIdeal.nD Cert.AdamUpKvRefIdeal.τ).loc Cert.AdamUpKvRefIdeal.main_v28) = v2 c
          ∧ r.2.mem ((c.tc : Thread Cert.AdamUpKvRefIdeal.nD Cert.AdamUpKvRefIdeal.τ).loc Cert.AdamUpKvRefIdeal.main_v29) = v3 c
          ∧ r.2.mem ((c.tc : Thread Cert.AdamUpKvRefIdeal.nD Cert.AdamUpKvRefIdeal.τ).loc Cert.AdamUpKvRefIdeal.main_arg0) = m' ((c.tc : Thread Cert.AdamUpKvRefIdeal.nD Cert.AdamUpKvRefIdeal.τ).loc Cert.AdamUpKvRefIdeal.main_arg0)
          ∧ r.2.mem ((c.tc : Thread Cert.AdamUpKvRefIdeal.nD Cert.AdamUpKvRefIdeal.τ).loc Cert.AdamUpKvRefIdeal.main_arg1) = m' ((c.tc : Thread Cert.AdamUpKvRefIdeal.nD Cert.AdamUpKvRefIdeal.τ).loc Cert.AdamUpKvRefIdeal.main_arg1)
          ∧ r.2.mem ((c.tc : Thread Cert.AdamUpKvRefIdeal.nD Cert.AdamUpKvRefIdeal.τ).loc Cert.AdamUpKvRefIdeal.main_arg2) = m' ((c.tc : Thread Cert.AdamUpKvRefIdeal.nD Cert.AdamUpKvRefIdeal.τ).loc Cert.AdamUpKvRefIdeal.main_arg2)
          ∧ r.2.mem ((c.tc : Thread Cert.AdamUpKvRefIdeal.nD Cert.AdamUpKvRefIdeal.τ).loc Cert.AdamUpKvRefIdeal.main_arg3) = m' ((c.tc : Thread Cert.AdamUpKvRefIdeal.nD Cert.AdamUpKvRefIdeal.τ).loc Cert.AdamUpKvRefIdeal.main_arg3))

def preserves_AdamUpQ_AdamUpQIdeal : Prop :=
  True

def algebraic_AdamUpQIdeal_AdamUpQRefIdeal [hAdamUpQIdeal : Cert.AdamUpQIdeal.Facts] [hAdamUpQRefIdeal : Cert.AdamUpQRefIdeal.Facts] : Prop :=
  ∀ (m : (ℓ : Loc Cert.AdamUpQIdeal.nD Cert.AdamUpQIdeal.τ Cert.AdamUpQIdeal.sig) → Buf (Elt Ideal) ℓ) (g : Dev Cert.AdamUpQIdeal.nD → PrngReg)
    (m' : (ℓ : Loc Cert.AdamUpQRefIdeal.nD Cert.AdamUpQRefIdeal.τ Cert.AdamUpQRefIdeal.sig) → Buf (Elt Ideal) ℓ) (g' : Dev Cert.AdamUpQRefIdeal.nD → PrngReg), Pre_AdamUpQIdeal m →
    (∀ c : Dev Cert.AdamUpQIdeal.nD,
      m' ((c.tc : Thread Cert.AdamUpQRefIdeal.nD Cert.AdamUpQRefIdeal.τ).loc Cert.AdamUpQRefIdeal.main_arg0) = m ((c.tc : Thread Cert.AdamUpQIdeal.nD Cert.AdamUpQIdeal.τ).loc Cert.AdamUpQIdeal.main_arg0)
      ∧ m' ((c.tc : Thread Cert.AdamUpQRefIdeal.nD Cert.AdamUpQRefIdeal.τ).loc Cert.AdamUpQRefIdeal.main_arg1) = m ((c.tc : Thread Cert.AdamUpQIdeal.nD Cert.AdamUpQIdeal.τ).loc Cert.AdamUpQIdeal.main_arg1)
      ∧ m' ((c.tc : Thread Cert.AdamUpQRefIdeal.nD Cert.AdamUpQRefIdeal.τ).loc Cert.AdamUpQRefIdeal.main_arg2) = m ((c.tc : Thread Cert.AdamUpQIdeal.nD Cert.AdamUpQIdeal.τ).loc Cert.AdamUpQIdeal.main_arg2)
      ∧ m' ((c.tc : Thread Cert.AdamUpQRefIdeal.nD Cert.AdamUpQRefIdeal.τ).loc Cert.AdamUpQRefIdeal.main_arg3) = m ((c.tc : Thread Cert.AdamUpQIdeal.nD Cert.AdamUpQIdeal.τ).loc Cert.AdamUpQIdeal.main_arg3)) →
    ∃ (v0 : (c : Dev Cert.AdamUpQIdeal.nD) → Buf (Elt Ideal) ((c.tc : Thread Cert.AdamUpQIdeal.nD Cert.AdamUpQIdeal.τ).loc Cert.AdamUpQIdeal.main_v9_0)) (v1 : (c : Dev Cert.AdamUpQIdeal.nD) → Buf (Elt Ideal) ((c.tc : Thread Cert.AdamUpQIdeal.nD Cert.AdamUpQIdeal.τ).loc Cert.AdamUpQIdeal.main_v9_1)) (v2 : (c : Dev Cert.AdamUpQIdeal.nD) → Buf (Elt Ideal) ((c.tc : Thread Cert.AdamUpQIdeal.nD Cert.AdamUpQIdeal.τ).loc Cert.AdamUpQIdeal.main_v9_2)) (v3 : (c : Dev Cert.AdamUpQIdeal.nD) → Buf (Elt Ideal) ((c.tc : Thread Cert.AdamUpQIdeal.nD Cert.AdamUpQIdeal.τ).loc Cert.AdamUpQIdeal.main_v9_3)),
      θ_run (Cert.AdamUpQIdeal.defs (F := Ideal)) (onTc (τ := Cert.AdamUpQIdeal.τ) (Cert.AdamUpQIdeal.main (F := Ideal))) ⟨m, fun _ => 0, g⟩ (fun r => ∀ c : Dev Cert.AdamUpQIdeal.nD,
          r.2.mem ((c.tc : Thread Cert.AdamUpQIdeal.nD Cert.AdamUpQIdeal.τ).loc Cert.AdamUpQIdeal.main_v9_0) = v0 c
          ∧ r.2.mem ((c.tc : Thread Cert.AdamUpQIdeal.nD Cert.AdamUpQIdeal.τ).loc Cert.AdamUpQIdeal.main_v9_1) = v1 c
          ∧ r.2.mem ((c.tc : Thread Cert.AdamUpQIdeal.nD Cert.AdamUpQIdeal.τ).loc Cert.AdamUpQIdeal.main_v9_2) = v2 c
          ∧ r.2.mem ((c.tc : Thread Cert.AdamUpQIdeal.nD Cert.AdamUpQIdeal.τ).loc Cert.AdamUpQIdeal.main_v9_3) = v3 c
          ∧ r.2.mem ((c.tc : Thread Cert.AdamUpQIdeal.nD Cert.AdamUpQIdeal.τ).loc Cert.AdamUpQIdeal.main_arg0) = m ((c.tc : Thread Cert.AdamUpQIdeal.nD Cert.AdamUpQIdeal.τ).loc Cert.AdamUpQIdeal.main_arg0)
          ∧ r.2.mem ((c.tc : Thread Cert.AdamUpQIdeal.nD Cert.AdamUpQIdeal.τ).loc Cert.AdamUpQIdeal.main_arg1) = m ((c.tc : Thread Cert.AdamUpQIdeal.nD Cert.AdamUpQIdeal.τ).loc Cert.AdamUpQIdeal.main_arg1)
          ∧ r.2.mem ((c.tc : Thread Cert.AdamUpQIdeal.nD Cert.AdamUpQIdeal.τ).loc Cert.AdamUpQIdeal.main_arg2) = m ((c.tc : Thread Cert.AdamUpQIdeal.nD Cert.AdamUpQIdeal.τ).loc Cert.AdamUpQIdeal.main_arg2)
          ∧ r.2.mem ((c.tc : Thread Cert.AdamUpQIdeal.nD Cert.AdamUpQIdeal.τ).loc Cert.AdamUpQIdeal.main_arg3) = m ((c.tc : Thread Cert.AdamUpQIdeal.nD Cert.AdamUpQIdeal.τ).loc Cert.AdamUpQIdeal.main_arg3))
      ∧ θ_run (Cert.AdamUpQRefIdeal.defs (F := Ideal)) (onTc (τ := Cert.AdamUpQRefIdeal.τ) (Cert.AdamUpQRefIdeal.main (F := Ideal))) ⟨m', fun _ => 0, g'⟩ (fun r => ∀ c : Dev Cert.AdamUpQRefIdeal.nD,
          r.2.mem ((c.tc : Thread Cert.AdamUpQRefIdeal.nD Cert.AdamUpQRefIdeal.τ).loc Cert.AdamUpQRefIdeal.main_v27) = v0 c
          ∧ r.2.mem ((c.tc : Thread Cert.AdamUpQRefIdeal.nD Cert.AdamUpQRefIdeal.τ).loc Cert.AdamUpQRefIdeal.main_v29) = v1 c
          ∧ r.2.mem ((c.tc : Thread Cert.AdamUpQRefIdeal.nD Cert.AdamUpQRefIdeal.τ).loc Cert.AdamUpQRefIdeal.main_v31) = v2 c
          ∧ r.2.mem ((c.tc : Thread Cert.AdamUpQRefIdeal.nD Cert.AdamUpQRefIdeal.τ).loc Cert.AdamUpQRefIdeal.main_v33) = v3 c
          ∧ r.2.mem ((c.tc : Thread Cert.AdamUpQRefIdeal.nD Cert.AdamUpQRefIdeal.τ).loc Cert.AdamUpQRefIdeal.main_arg0) = m' ((c.tc : Thread Cert.AdamUpQRefIdeal.nD Cert.AdamUpQRefIdeal.τ).loc Cert.AdamUpQRefIdeal.main_arg0)
          ∧ r.2.mem ((c.tc : Thread Cert.AdamUpQRefIdeal.nD Cert.AdamUpQRefIdeal.τ).loc Cert.AdamUpQRefIdeal.main_arg1) = m' ((c.tc : Thread Cert.AdamUpQRefIdeal.nD Cert.AdamUpQRefIdeal.τ).loc Cert.AdamUpQRefIdeal.main_arg1)
          ∧ r.2.mem ((c.tc : Thread Cert.AdamUpQRefIdeal.nD Cert.AdamUpQRefIdeal.τ).loc Cert.AdamUpQRefIdeal.main_arg2) = m' ((c.tc : Thread Cert.AdamUpQRefIdeal.nD Cert.AdamUpQRefIdeal.τ).loc Cert.AdamUpQRefIdeal.main_arg2)
          ∧ r.2.mem ((c.tc : Thread Cert.AdamUpQRefIdeal.nD Cert.AdamUpQRefIdeal.τ).loc Cert.AdamUpQRefIdeal.main_arg3) = m' ((c.tc : Thread Cert.AdamUpQRefIdeal.nD Cert.AdamUpQRefIdeal.τ).loc Cert.AdamUpQRefIdeal.main_arg3))

def Claim : Prop :=
  ∃ (hConvPost : Cert.ConvPost.Facts) (hConvPostIdeal : Cert.ConvPostIdeal.Facts) (hConvPostRefIdeal : Cert.ConvPostRefIdeal.Facts) (hGradIn : Cert.GradIn.Facts) (hGradInIdeal : Cert.GradInIdeal.Facts) (hGradInRefIdeal : Cert.GradInRefIdeal.Facts) (hGradInOne : Cert.GradInOne.Facts) (hGradInOneIdeal : Cert.GradInOneIdeal.Facts) (hGradInOneRefIdeal : Cert.GradInOneRefIdeal.Facts) (hGradInThree : Cert.GradInThree.Facts) (hGradInThreeIdeal : Cert.GradInThreeIdeal.Facts) (hGradInThreeRefIdeal : Cert.GradInThreeRefIdeal.Facts) (hGradOut : Cert.GradOut.Facts) (hGradOutIdeal : Cert.GradOutIdeal.Facts) (hGradOutRefIdeal : Cert.GradOutRefIdeal.Facts) (hFfnBack : Cert.FfnBack.Facts) (hFfnBackIdeal : Cert.FfnBackIdeal.Facts) (hFfnBackRefIdeal : Cert.FfnBackRefIdeal.Facts) (hFfnFwd : Cert.FfnFwd.Facts) (hFfnFwdIdeal : Cert.FfnFwdIdeal.Facts) (hFfnFwdRefIdeal : Cert.FfnFwdRefIdeal.Facts) (hGradConvIn : Cert.GradConvIn.Facts) (hGradConvInIdeal : Cert.GradConvInIdeal.Facts) (hGradConvInRefIdeal : Cert.GradConvInRefIdeal.Facts) (hGradConvOut : Cert.GradConvOut.Facts) (hGradConvOutIdeal : Cert.GradConvOutIdeal.Facts) (hGradConvOutRefIdeal : Cert.GradConvOutRefIdeal.Facts) (hGradAttnOut : Cert.GradAttnOut.Facts) (hGradAttnOutIdeal : Cert.GradAttnOutIdeal.Facts) (hGradAttnOutRefIdeal : Cert.GradAttnOutRefIdeal.Facts) (hGradDown : Cert.GradDown.Facts) (hGradDownIdeal : Cert.GradDownIdeal.Facts) (hGradDownRefIdeal : Cert.GradDownRefIdeal.Facts) (hGradUpQ : Cert.GradUpQ.Facts) (hGradUpQIdeal : Cert.GradUpQIdeal.Facts) (hGradUpQRefIdeal : Cert.GradUpQRefIdeal.Facts) (hGradUpKv : Cert.GradUpKv.Facts) (hGradUpKvIdeal : Cert.GradUpKvIdeal.Facts) (hGradUpKvRefIdeal : Cert.GradUpKvRefIdeal.Facts) (hAttnOut : Cert.AttnOut.Facts) (hAttnOutIdeal : Cert.AttnOutIdeal.Facts) (hAttnOutRefIdeal : Cert.AttnOutRefIdeal.Facts) (hAttnOutBack : Cert.AttnOutBack.Facts) (hAttnOutBackIdeal : Cert.AttnOutBackIdeal.Facts) (hAttnOutBackRefIdeal : Cert.AttnOutBackRefIdeal.Facts) (hConvPre : Cert.ConvPre.Facts) (hConvPreIdeal : Cert.ConvPreIdeal.Facts) (hConvPreRefIdeal : Cert.ConvPreRefIdeal.Facts) (hMlaPre : Cert.MlaPre.Facts) (hMlaPreIdeal : Cert.MlaPreIdeal.Facts) (hMlaPreRefIdeal : Cert.MlaPreRefIdeal.Facts) (hAdamConvIn : Cert.AdamConvIn.Facts) (hAdamConvInIdeal : Cert.AdamConvInIdeal.Facts) (hAdamConvInRefIdeal : Cert.AdamConvInRefIdeal.Facts) (hAdamConvOut : Cert.AdamConvOut.Facts) (hAdamConvOutIdeal : Cert.AdamConvOutIdeal.Facts) (hAdamConvOutRefIdeal : Cert.AdamConvOutRefIdeal.Facts) (hAdamDown : Cert.AdamDown.Facts) (hAdamDownIdeal : Cert.AdamDownIdeal.Facts) (hAdamDownRefIdeal : Cert.AdamDownRefIdeal.Facts) (hAdamUpKv : Cert.AdamUpKv.Facts) (hAdamUpKvIdeal : Cert.AdamUpKvIdeal.Facts) (hAdamUpKvRefIdeal : Cert.AdamUpKvRefIdeal.Facts) (hAdamUpQ : Cert.AdamUpQ.Facts) (hAdamUpQIdeal : Cert.AdamUpQIdeal.Facts) (hAdamUpQRefIdeal : Cert.AdamUpQRefIdeal.Facts) (hPre_conv_post_finite : Cert.Pre_conv_post_finite.Facts) (hPre_ffn_back_finite : Cert.Pre_ffn_back_finite.Facts),
    quiescent_ConvPost (hConvPost := hConvPost)
    ∧ quiescent_ConvPostIdeal (hConvPostIdeal := hConvPostIdeal)
    ∧ quiescent_ConvPostIdeal_pre_conv_post_finite (hConvPostIdeal := hConvPostIdeal) (hPre_conv_post_finite := hPre_conv_post_finite)
    ∧ quiescent_ConvPostRefIdeal (hConvPostRefIdeal := hConvPostRefIdeal)
    ∧ quiescent_ConvPostRefIdeal_pre_conv_post_finite (hConvPostRefIdeal := hConvPostRefIdeal) (hPre_conv_post_finite := hPre_conv_post_finite)
    ∧ quiescent_GradIn (hGradIn := hGradIn)
    ∧ quiescent_GradInIdeal (hGradInIdeal := hGradInIdeal)
    ∧ quiescent_GradInRefIdeal (hGradInRefIdeal := hGradInRefIdeal)
    ∧ quiescent_GradInOne (hGradInOne := hGradInOne)
    ∧ quiescent_GradInOneIdeal (hGradInOneIdeal := hGradInOneIdeal)
    ∧ quiescent_GradInOneRefIdeal (hGradInOneRefIdeal := hGradInOneRefIdeal)
    ∧ quiescent_GradInThree (hGradInThree := hGradInThree)
    ∧ quiescent_GradInThreeIdeal (hGradInThreeIdeal := hGradInThreeIdeal)
    ∧ quiescent_GradInThreeRefIdeal (hGradInThreeRefIdeal := hGradInThreeRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_FfnBack (hFfnBack := hFfnBack)
    ∧ quiescent_FfnBackIdeal (hFfnBackIdeal := hFfnBackIdeal)
    ∧ quiescent_FfnBackIdeal_pre_ffn_back_finite (hFfnBackIdeal := hFfnBackIdeal) (hPre_ffn_back_finite := hPre_ffn_back_finite)
    ∧ quiescent_FfnBackRefIdeal (hFfnBackRefIdeal := hFfnBackRefIdeal)
    ∧ quiescent_FfnBackRefIdeal_pre_ffn_back_finite (hFfnBackRefIdeal := hFfnBackRefIdeal) (hPre_ffn_back_finite := hPre_ffn_back_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_GradConvIn (hGradConvIn := hGradConvIn)
    ∧ quiescent_GradConvInIdeal (hGradConvInIdeal := hGradConvInIdeal)
    ∧ quiescent_GradConvInRefIdeal (hGradConvInRefIdeal := hGradConvInRefIdeal)
    ∧ quiescent_GradConvOut (hGradConvOut := hGradConvOut)
    ∧ quiescent_GradConvOutIdeal (hGradConvOutIdeal := hGradConvOutIdeal)
    ∧ quiescent_GradConvOutRefIdeal (hGradConvOutRefIdeal := hGradConvOutRefIdeal)
    ∧ quiescent_GradAttnOut (hGradAttnOut := hGradAttnOut)
    ∧ quiescent_GradAttnOutIdeal (hGradAttnOutIdeal := hGradAttnOutIdeal)
    ∧ quiescent_GradAttnOutRefIdeal (hGradAttnOutRefIdeal := hGradAttnOutRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradUpQ (hGradUpQ := hGradUpQ)
    ∧ quiescent_GradUpQIdeal (hGradUpQIdeal := hGradUpQIdeal)
    ∧ quiescent_GradUpQRefIdeal (hGradUpQRefIdeal := hGradUpQRefIdeal)
    ∧ quiescent_GradUpKv (hGradUpKv := hGradUpKv)
    ∧ quiescent_GradUpKvIdeal (hGradUpKvIdeal := hGradUpKvIdeal)
    ∧ quiescent_GradUpKvRefIdeal (hGradUpKvRefIdeal := hGradUpKvRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnOutBack (hAttnOutBack := hAttnOutBack)
    ∧ quiescent_AttnOutBackIdeal (hAttnOutBackIdeal := hAttnOutBackIdeal)
    ∧ quiescent_AttnOutBackRefIdeal (hAttnOutBackRefIdeal := hAttnOutBackRefIdeal)
    ∧ quiescent_ConvPre (hConvPre := hConvPre)
    ∧ quiescent_ConvPreIdeal (hConvPreIdeal := hConvPreIdeal)
    ∧ quiescent_ConvPreRefIdeal (hConvPreRefIdeal := hConvPreRefIdeal)
    ∧ quiescent_MlaPre (hMlaPre := hMlaPre)
    ∧ quiescent_MlaPreIdeal (hMlaPreIdeal := hMlaPreIdeal)
    ∧ quiescent_MlaPreRefIdeal (hMlaPreRefIdeal := hMlaPreRefIdeal)
    ∧ quiescent_AdamConvIn (hAdamConvIn := hAdamConvIn)
    ∧ quiescent_AdamConvInIdeal (hAdamConvInIdeal := hAdamConvInIdeal)
    ∧ quiescent_AdamConvInRefIdeal (hAdamConvInRefIdeal := hAdamConvInRefIdeal)
    ∧ quiescent_AdamConvOut (hAdamConvOut := hAdamConvOut)
    ∧ quiescent_AdamConvOutIdeal (hAdamConvOutIdeal := hAdamConvOutIdeal)
    ∧ quiescent_AdamConvOutRefIdeal (hAdamConvOutRefIdeal := hAdamConvOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamUpKv (hAdamUpKv := hAdamUpKv)
    ∧ quiescent_AdamUpKvIdeal (hAdamUpKvIdeal := hAdamUpKvIdeal)
    ∧ quiescent_AdamUpKvRefIdeal (hAdamUpKvRefIdeal := hAdamUpKvRefIdeal)
    ∧ quiescent_AdamUpQ (hAdamUpQ := hAdamUpQ)
    ∧ quiescent_AdamUpQIdeal (hAdamUpQIdeal := hAdamUpQIdeal)
    ∧ quiescent_AdamUpQRefIdeal (hAdamUpQRefIdeal := hAdamUpQRefIdeal)
    ∧ preserves_ConvPost_ConvPostIdeal
    ∧ algebraic_ConvPostIdeal_ConvPostRefIdeal_pre_conv_post_finite (hConvPostIdeal := hConvPostIdeal) (hConvPostRefIdeal := hConvPostRefIdeal) (hPre_conv_post_finite := hPre_conv_post_finite)
    ∧ preserves_GradIn_GradInIdeal
    ∧ algebraic_GradInIdeal_GradInRefIdeal (hGradInIdeal := hGradInIdeal) (hGradInRefIdeal := hGradInRefIdeal)
    ∧ preserves_GradInOne_GradInOneIdeal
    ∧ algebraic_GradInOneIdeal_GradInOneRefIdeal (hGradInOneIdeal := hGradInOneIdeal) (hGradInOneRefIdeal := hGradInOneRefIdeal)
    ∧ preserves_GradInThree_GradInThreeIdeal
    ∧ algebraic_GradInThreeIdeal_GradInThreeRefIdeal (hGradInThreeIdeal := hGradInThreeIdeal) (hGradInThreeRefIdeal := hGradInThreeRefIdeal)
    ∧ preserves_GradOut_GradOutIdeal
    ∧ algebraic_GradOutIdeal_GradOutRefIdeal (hGradOutIdeal := hGradOutIdeal) (hGradOutRefIdeal := hGradOutRefIdeal)
    ∧ preserves_FfnBack_FfnBackIdeal
    ∧ algebraic_FfnBackIdeal_FfnBackRefIdeal_pre_ffn_back_finite (hFfnBackIdeal := hFfnBackIdeal) (hFfnBackRefIdeal := hFfnBackRefIdeal) (hPre_ffn_back_finite := hPre_ffn_back_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_GradConvIn_GradConvInIdeal
    ∧ algebraic_GradConvInIdeal_GradConvInRefIdeal (hGradConvInIdeal := hGradConvInIdeal) (hGradConvInRefIdeal := hGradConvInRefIdeal)
    ∧ preserves_GradConvOut_GradConvOutIdeal
    ∧ algebraic_GradConvOutIdeal_GradConvOutRefIdeal (hGradConvOutIdeal := hGradConvOutIdeal) (hGradConvOutRefIdeal := hGradConvOutRefIdeal)
    ∧ preserves_GradAttnOut_GradAttnOutIdeal
    ∧ algebraic_GradAttnOutIdeal_GradAttnOutRefIdeal (hGradAttnOutIdeal := hGradAttnOutIdeal) (hGradAttnOutRefIdeal := hGradAttnOutRefIdeal)
    ∧ preserves_GradDown_GradDownIdeal
    ∧ algebraic_GradDownIdeal_GradDownRefIdeal (hGradDownIdeal := hGradDownIdeal) (hGradDownRefIdeal := hGradDownRefIdeal)
    ∧ preserves_GradUpQ_GradUpQIdeal
    ∧ algebraic_GradUpQIdeal_GradUpQRefIdeal (hGradUpQIdeal := hGradUpQIdeal) (hGradUpQRefIdeal := hGradUpQRefIdeal)
    ∧ preserves_GradUpKv_GradUpKvIdeal
    ∧ algebraic_GradUpKvIdeal_GradUpKvRefIdeal (hGradUpKvIdeal := hGradUpKvIdeal) (hGradUpKvRefIdeal := hGradUpKvRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnOutBack_AttnOutBackIdeal
    ∧ algebraic_AttnOutBackIdeal_AttnOutBackRefIdeal (hAttnOutBackIdeal := hAttnOutBackIdeal) (hAttnOutBackRefIdeal := hAttnOutBackRefIdeal)
    ∧ preserves_ConvPre_ConvPreIdeal
    ∧ algebraic_ConvPreIdeal_ConvPreRefIdeal (hConvPreIdeal := hConvPreIdeal) (hConvPreRefIdeal := hConvPreRefIdeal)
    ∧ preserves_MlaPre_MlaPreIdeal
    ∧ algebraic_MlaPreIdeal_MlaPreRefIdeal (hMlaPreIdeal := hMlaPreIdeal) (hMlaPreRefIdeal := hMlaPreRefIdeal)
    ∧ preserves_AdamConvIn_AdamConvInIdeal
    ∧ algebraic_AdamConvInIdeal_AdamConvInRefIdeal (hAdamConvInIdeal := hAdamConvInIdeal) (hAdamConvInRefIdeal := hAdamConvInRefIdeal)
    ∧ preserves_AdamConvOut_AdamConvOutIdeal
    ∧ algebraic_AdamConvOutIdeal_AdamConvOutRefIdeal (hAdamConvOutIdeal := hAdamConvOutIdeal) (hAdamConvOutRefIdeal := hAdamConvOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamUpKv_AdamUpKvIdeal
    ∧ algebraic_AdamUpKvIdeal_AdamUpKvRefIdeal (hAdamUpKvIdeal := hAdamUpKvIdeal) (hAdamUpKvRefIdeal := hAdamUpKvRefIdeal)
    ∧ preserves_AdamUpQ_AdamUpQIdeal
    ∧ algebraic_AdamUpQIdeal_AdamUpQRefIdeal (hAdamUpQIdeal := hAdamUpQIdeal) (hAdamUpQRefIdeal := hAdamUpQRefIdeal)
-- ==== Pre_conv_post_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_ffn_back_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== ConvPost.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S1x1024, .f32⟩
  | .hbm, ⟨5, _⟩ => ⟨S1024x1024, .bf16⟩
  | .hbm, ⟨6, _⟩ => ⟨S8192x1024, .f32⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ConvPostRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== GradIn.lean ====
abbrev S8192x1024 : Shape := ⟨2, ![8192, 1024]⟩
abbrev S1024x2816 : Shape := ⟨2, ![1024, 2816]⟩
abbrev S8192x2816 : Shape := ⟨2, ![8192, 2816]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S1x8192x3072 : Shape := ⟨3, ![1, 8192, 3072]⟩
abbrev S2x8192x3072 : Shape := ⟨3, ![2, 8192, 3072]⟩
abbrev S2x1024x3072 : Shape := ⟨3, ![2, 1024, 3072]⟩
abbrev S2048x1024 : Shape := ⟨2, ![2048, 1024]⟩
abbrev S1x2048x1536 : Shape := ⟨3, ![1, 2048, 1536]⟩
abbrev S1x1024x1536 : Shape := ⟨3, ![1, 1024, 1536]⟩
abbrev S1024x1536 : Shape := ⟨2, ![1024, 1536]⟩
abbrev S2048x1536 : Shape := ⟨2, ![2048, 1536]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x1024, .bf16⟩
  | .hbm, ⟨6, _⟩ => ⟨S8192x8x352, .f32⟩
  | .hbm, ⟨7, _⟩ => ⟨S_, .i32⟩
  | .hbm, ⟨8, _⟩ => ⟨S_, .f32⟩
  | .hbm, ⟨9, _⟩ => ⟨S8192x8x384, .f32⟩
  | .hbm, ⟨10, _⟩ => ⟨S8192x3072, .f32⟩
  | .hbm, ⟨11, _⟩ => ⟨S8192x3072, .bf16⟩
  | .hbm, ⟨12, _⟩ => ⟨S8192x8x352, .f32⟩
  | .hbm, ⟨13, _⟩ => ⟨S_, .i32⟩
  | .hbm, ⟨14, _⟩ => ⟨S_, .f32⟩
  | .hbm, ⟨15, _⟩ => ⟨S8192x8x384, .f32⟩
  | .hbm, ⟨16, _⟩ => ⟨S8192x3072, .f32⟩
  | .hbm, ⟨17, _⟩ => ⟨S8192x3072, .bf16⟩
  | .hbm, ⟨18, _⟩ => ⟨S1x8192x3072, .bf16⟩
  | .hbm, ⟨19, _⟩ => ⟨S1x8192x3072, .bf16⟩
  | .hbm, ⟨20, _⟩ => ⟨S2x8192x3072, .bf16⟩
  | .hbm, ⟨21, _⟩ => ⟨S2x1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradInRefIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩
abbrev S1x1024x3072 : Shape := ⟨3, ![1, 1024, 3072]⟩
abbrev S2x1024x3072 : Shape := ⟨3, ![2, 1024, 3072]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S1024x8x352, .f32⟩
  | .hbm, ⟨12, _⟩ => ⟨S_, .i32⟩
  | .hbm, ⟨13, _⟩ => ⟨S_, .f32⟩
  | .hbm, ⟨14, _⟩ => ⟨S1024x8x384, .f32⟩
  | .hbm, ⟨15, _⟩ => ⟨S1024x3072, .f32⟩
  | .hbm, ⟨16, _⟩ => ⟨S1024x8x352, .f32⟩
  | .hbm, ⟨17, _⟩ => ⟨S_, .i32⟩
  | .hbm, ⟨18, _⟩ => ⟨S_, .f32⟩
  | .hbm, ⟨19, _⟩ => ⟨S1024x8x384, .f32⟩
  | .hbm, ⟨20, _⟩ => ⟨S1024x3072, .f32⟩
  | .hbm, ⟨21, _⟩ => ⟨S1x1024x3072, .f32⟩
  | .hbm, ⟨22, _⟩ => ⟨S1x1024x3072, .f32⟩
  | .hbm, ⟨23, _⟩ => ⟨S2x1024x3072, .f32⟩
  | .hbm, ⟨24, _⟩ => ⟨S2x1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== GradInOne.lean ====
abbrev S8192x1024 : Shape := ⟨2, ![8192, 1024]⟩
abbrev S1024x2816 : Shape := ⟨2, ![1024, 2816]⟩
abbrev S8192x2816 : Shape := ⟨2, ![8192, 2816]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S1x8192x3072 : Shape := ⟨3, ![1, 8192, 3072]⟩
abbrev S2x8192x3072 : Shape := ⟨3, ![2, 8192, 3072]⟩
abbrev S1024x3072 : Shape := ⟨2, ![1024, 3072]⟩
abbrev S2048x1024 : Shape := ⟨2, ![2048, 1024]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x1024, .bf16⟩
  | .hbm, ⟨6, _⟩ => ⟨S8192x8x352, .f32⟩
  | .hbm, ⟨7, _⟩ => ⟨S_, .i32⟩
  | .hbm, ⟨8, _⟩ => ⟨S_, .f32⟩
  | .hbm, ⟨9, _⟩ => ⟨S8192x8x384, .f32⟩
  | .hbm, ⟨10, _⟩ => ⟨S8192x3072, .f32⟩
  | .hbm, ⟨11, _⟩ => ⟨S8192x3072, .bf16⟩
  | .hbm, ⟨12, _⟩ => ⟨S8192x8x352, .f32⟩
  | .hbm, ⟨13, _⟩ => ⟨S_, .i32⟩
  | .hbm, ⟨14, _⟩ => ⟨S_, .f32⟩
  | .hbm, ⟨15, _⟩ => ⟨S8192x8x384, .f32⟩
  | .hbm, ⟨16, _⟩ => ⟨S8192x3072, .f32⟩
  | .hbm, ⟨17, _⟩ => ⟨S8192x3072, .bf16⟩
  | .hbm, ⟨18, _⟩ => ⟨S1x8192x3072, .bf16⟩
  | .hbm, ⟨19, _⟩ => ⟨S1x8192x3072, .bf16⟩
  | .hbm, ⟨20, _⟩ => ⟨S2x8192x3072, .bf16⟩
  | .hbm, ⟨21, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== GradInOneRefIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S1024x8x352, .f32⟩
  | .hbm, ⟨12, _⟩ => ⟨S_, .i32⟩
  | .hbm, ⟨13, _⟩ => ⟨S_, .f32⟩
  | .hbm, ⟨14, _⟩ => ⟨S1024x8x384, .f32⟩
  | .hbm, ⟨15, _⟩ => ⟨S1024x3072, .f32⟩
  | .hbm, ⟨16, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== GradInThree.lean ====
abbrev S8192x1024 : Shape := ⟨2, ![8192, 1024]⟩
abbrev S1024x2816 : Shape := ⟨2, ![1024, 2816]⟩
abbrev S8192x2816 : Shape := ⟨2, ![8192, 2816]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S1x8192x3072 : Shape := ⟨3, ![1, 8192, 3072]⟩
abbrev S2x8192x3072 : Shape := ⟨3, ![2, 8192, 3072]⟩
abbrev S1024x3072 : Shape := ⟨2, ![1024, 3072]⟩
abbrev S2048x1024 : Shape := ⟨2, ![2048, 1024]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x1024, .bf16⟩
  | .hbm, ⟨6, _⟩ => ⟨S8192x8x352, .f32⟩
  | .hbm, ⟨7, _⟩ => ⟨S_, .i32⟩
  | .hbm, ⟨8, _⟩ => ⟨S_, .f32⟩
  | .hbm, ⟨9, _⟩ => ⟨S8192x8x384, .f32⟩
  | .hbm, ⟨10, _⟩ => ⟨S8192x3072, .f32⟩
  | .hbm, ⟨11, _⟩ => ⟨S8192x3072, .bf16⟩
  | .hbm, ⟨12, _⟩ => ⟨S8192x8x352, .f32⟩
  | .hbm, ⟨13, _⟩ => ⟨S_, .i32⟩
  | .hbm, ⟨14, _⟩ => ⟨S_, .f32⟩
  | .hbm, ⟨15, _⟩ => ⟨S8192x8x384, .f32⟩
  | .hbm, ⟨16, _⟩ => ⟨S8192x3072, .f32⟩
  | .hbm, ⟨17, _⟩ => ⟨S8192x3072, .bf16⟩
  | .hbm, ⟨18, _⟩ => ⟨S1x8192x3072, .bf16⟩
  | .hbm, ⟨19, _⟩ => ⟨S1x8192x3072, .bf16⟩
  | .hbm, ⟨20, _⟩ => ⟨S2x8192x3072, .bf16⟩
  | .hbm, ⟨21, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  ![c1_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== GradInThreeRefIdeal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S1024x8x352, .f32⟩
  | .hbm, ⟨12, _⟩ => ⟨S_, .i32⟩
  | .hbm, ⟨13, _⟩ => ⟨S_, .f32⟩
  | .hbm, ⟨14, _⟩ => ⟨S1024x8x384, .f32⟩
  | .hbm, ⟨15, _⟩ => ⟨S1024x3072, .f32⟩
  | .hbm, ⟨16, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== GradOut.lean ====
abbrev S8192x2816 : Shape := ⟨2, ![8192, 2816]⟩
abbrev S2816x1024 : Shape := ⟨2, ![2816, 1024]⟩
abbrev S8192x1024 : Shape := ⟨2, ![8192, 1024]⟩
abbrev S8192x8x352 : Shape := ⟨3, ![8192, 8, 352]⟩
abbrev S_ : Shape := ⟨0, ![]⟩
abbrev S8192x8x384 : Shape := ⟨3, ![8192, 8, 384]⟩
abbrev S8192x3072 : Shape := ⟨2, ![8192, 3072]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x8x352, .f32⟩
  | .hbm, ⟨4, _⟩ => ⟨S_, .i32⟩
  | .hbm, ⟨5, _⟩ => ⟨S_, .f32⟩
  | .hbm, ⟨6, _⟩ => ⟨S8192x8x384, .f32⟩
  | .hbm, ⟨7, _⟩ => ⟨S8192x3072, .f32⟩
  | .hbm, ⟨8, _⟩ => ⟨S8192x3072, .bf16⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S3072x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== GradOutRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩
abbrev S8x352x1024 : Shape := ⟨3, ![8, 352, 1024]⟩
abbrev S8x384x1024 : Shape := ⟨3, ![8, 384, 1024]⟩
abbrev S3072x1024 : Shape := ⟨2, ![3072, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S8x352x1024, .f32⟩
  | .hbm, ⟨13, _⟩ => ⟨S_, .i32⟩
  | .hbm, ⟨14, _⟩ => ⟨S_, .f32⟩
  | .hbm, ⟨15, _⟩ => ⟨S8x384x1024, .f32⟩
  | .hbm, ⟨16, _⟩ => ⟨S3072x1024, .f32⟩
  | .hbm, ⟨17, _⟩ => ⟨S3072x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== FfnBack.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8x352 : Shape := ⟨3, ![8192, 8, 352]⟩
abbrev S8192x8x384 : Shape := ⟨3, ![8192, 8, 384]⟩
abbrev S8192x3072 : Shape := ⟨2, ![8192, 3072]⟩
abbrev S1024x8x352 : Shape := ⟨3, ![1024, 8, 352]⟩
abbrev S1024x8x384 : Shape := ⟨3, ![1024, 8, 384]⟩
abbrev S1024x3072 : Shape := ⟨2, ![1024, 3072]⟩
abbrev S1x1024x3072 : Shape := ⟨3, ![1, 1024, 3072]⟩
abbrev S2x1024x3072 : Shape := ⟨3, ![2, 1024, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S2x8192x3072 : Shape := ⟨3, ![2, 8192, 3072]⟩
abbrev S512x1024 : Shape := ⟨2, ![512, 1024]⟩
abbrev S1x1024x1024 : Shape := ⟨3, ![1, 1024, 1024]⟩
abbrev S1024x1024 : Shape := ⟨2, ![1024, 1024]⟩
abbrev S2x512x1024 : Shape := ⟨3, ![2, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 63
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x8x352, .f32⟩
  | .hbm, ⟨24, _⟩ => ⟨S_, .i32⟩
  | .hbm, ⟨25, _⟩ => ⟨S_, .f32⟩
  | .hbm, ⟨26, _⟩ => ⟨S8192x8x384, .f32⟩
  | .hbm, ⟨27, _⟩ => ⟨S8192x3072, .f32⟩
  | .hbm, ⟨28, _⟩ => ⟨S8192x3072, .bf16⟩
  | .hbm, ⟨29, _⟩ => ⟨S8192x2816, .f32⟩
  | .hbm, ⟨30, _⟩ => ⟨S8192x8x352, .f32⟩
  | .hbm, ⟨31, _⟩ => ⟨S_, .i32⟩
  | .hbm, ⟨32, _⟩ => ⟨S_, .f32⟩
  | .hbm, ⟨33, _⟩ => ⟨S8192x8x384, .f32⟩
  | .hbm, ⟨34, _⟩ => ⟨S8192x3072, .f32⟩
  | .hbm, ⟨35, _⟩ => ⟨S8192x3072, .bf16⟩
  | .hbm, ⟨36, _⟩ => ⟨S1x1024, .f32⟩
  | .hbm, ⟨37, _⟩ => ⟨S1024x8x352, .f32⟩
  | .hbm, ⟨38, _⟩ => ⟨S_, .i32⟩
  | .hbm, ⟨39, _⟩ => ⟨S_, .f32⟩
  | .hbm, ⟨40, _⟩ => ⟨S1024x8x384, .f32⟩
  | .hbm, ⟨41, _⟩ => ⟨S1024x3072, .f32⟩
  | .hbm, ⟨42, _⟩ => ⟨S1024x3072, .bf16⟩
  | .hbm, ⟨43, _⟩ => ⟨S1024x8x352, .f32⟩
  | .hbm, ⟨44, _⟩ => ⟨S_, .i32⟩
  | .hbm, ⟨45, _⟩ => ⟨S_, .f32⟩
  | .hbm, ⟨46, _⟩ => ⟨S1024x8x384, .f32⟩
  | .hbm, ⟨47, _⟩ => ⟨S1024x3072, .f32⟩
  | .hbm, ⟨48, _⟩ => ⟨S1024x3072, .bf16⟩
  | .hbm, ⟨49, _⟩ => ⟨S1x1024x3072, .bf16⟩
  | .hbm, ⟨50, _⟩ => ⟨S1x1024x3072, .bf16⟩
  | .hbm, ⟨51, _⟩ => ⟨S2x1024x3072, .bf16⟩
  | .hbm, ⟨52, _⟩ => ⟨S8x352x1024, .f32⟩
  | .hbm, ⟨53, _⟩ => ⟨S_, .i32⟩
  | .hbm, ⟨54, _⟩ => ⟨S_, .f32⟩
  | .hbm, ⟨55, _⟩ => ⟨S8x384x1024, .f32⟩
  | .hbm, ⟨56, _⟩ => ⟨S3072x1024, .f32⟩
  | .hbm, ⟨57, _⟩ => ⟨S3072x1024, .bf16⟩
  | .hbm, ⟨58, _⟩ => ⟨S8192x1024, .f32⟩
  | .hbm, ⟨59, _⟩ => ⟨S8192x1024, .bf16⟩
  | .hbm, ⟨60, _⟩ => ⟨S8192x3072, .bf16⟩
  | .hbm, ⟨61, _⟩ => ⟨S2x8192x3072, .bf16⟩
  | .hbm, ⟨62, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S2x512x1024, .bf16⟩
  | .local _ .vmem, ⟨22, _⟩ => ⟨S2x512x1024, .bf16⟩
  | .local _ .vmem, ⟨23, _⟩ => ⟨S1x1024, .f32⟩
  | .local _ .vmem, ⟨24, _⟩ => ⟨S512x1024, .bf16⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_call2_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_call3_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_call4_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev main_v39_3 : Ref sig .tc := ⟨.hbm, 61, rfl⟩
abbrev main_v39_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 3], ![false, false]⟩

def k0_cond3 (i : grid0.Coords) : BitVec 1 :=
  let arg1 : BitVec 32 := BitVec.ofNat 32 (i 1).val
  let c2_i32 : BitVec 32 := 2#32
  let v58 : BitVec 1 := Scalar.cmpi .eq arg1 c2_i32
  let v59 : BitVec 32 := Scalar.extui v58
  let c0_i32_35 : BitVec 32 := 0#32
  let v60 : BitVec 1 := Scalar.cmpi .ne v59 c0_i32_35
  v60

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnBackRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8x352 : Shape := ⟨3, ![8192, 8, 352]⟩
abbrev S8192x8x384 : Shape := ⟨3, ![8192, 8, 384]⟩
abbrev S8192x3072 : Shape := ⟨2, ![8192, 3072]⟩
abbrev S1x8192x3072 : Shape := ⟨3, ![1, 8192, 3072]⟩
abbrev S2x8192x3072 : Shape := ⟨3, ![2, 8192, 3072]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S8192x8x352, .f32⟩
  | .hbm, ⟨90, _⟩ => ⟨S_, .i32⟩
  | .hbm, ⟨91, _⟩ => ⟨S_, .f32⟩
  | .hbm, ⟨92, _⟩ => ⟨S8192x8x384, .f32⟩
  | .hbm, ⟨93, _⟩ => ⟨S8192x3072, .f32⟩
  | .hbm, ⟨94, _⟩ => ⟨S8192x3072, .bf16⟩
  | .hbm, ⟨95, _⟩ => ⟨S8192x8x352, .f32⟩
  | .hbm, ⟨96, _⟩ => ⟨S_, .i32⟩
  | .hbm, ⟨97, _⟩ => ⟨S_, .f32⟩
  | .hbm, ⟨98, _⟩ => ⟨S8192x8x384, .f32⟩
  | .hbm, ⟨99, _⟩ => ⟨S8192x3072, .f32⟩
  | .hbm, ⟨100, _⟩ => ⟨S8192x8x352, .f32⟩
  | .hbm, ⟨101, _⟩ => ⟨S_, .i32⟩
  | .hbm, ⟨102, _⟩ => ⟨S_, .f32⟩
  | .hbm, ⟨103, _⟩ => ⟨S8192x8x384, .f32⟩
  | .hbm, ⟨104, _⟩ => ⟨S8192x3072, .f32⟩
  | .hbm, ⟨105, _⟩ => ⟨S1x8192x3072, .f32⟩
  | .hbm, ⟨106, _⟩ => ⟨S1x8192x3072, .f32⟩
  | .hbm, ⟨107, _⟩ => ⟨S2x8192x3072, .f32⟩
  | .hbm, ⟨108, _⟩ => ⟨S2x8192x3072, .bf16⟩
  | .hbm, ⟨109, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c : Ref sig .tc := ⟨.hbm, 90, rfl⟩
abbrev main_call2_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_11 : Ref sig .tc := ⟨.hbm, 96, rfl⟩
abbrev main_call3_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_12 : Ref sig .tc := ⟨.hbm, 101, rfl⟩
abbrev main_call4_v0 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩
abbrev S1x1024x3072 : Shape := ⟨3, ![1, 1024, 3072]⟩
abbrev S2x1024x3072 : Shape := ⟨3, ![2, 1024, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S8192x3072 : Shape := ⟨2, ![8192, 3072]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 31
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x8x352, .f32⟩
  | .hbm, ⟨7, _⟩ => ⟨S_, .i32⟩
  | .hbm, ⟨8, _⟩ => ⟨S_, .f32⟩
  | .hbm, ⟨9, _⟩ => ⟨S1024x8x384, .f32⟩
  | .hbm, ⟨10, _⟩ => ⟨S1024x3072, .f32⟩
  | .hbm, ⟨11, _⟩ => ⟨S1024x3072, .bf16⟩
  | .hbm, ⟨12, _⟩ => ⟨S1024x8x352, .f32⟩
  | .hbm, ⟨13, _⟩ => ⟨S_, .i32⟩
  | .hbm, ⟨14, _⟩ => ⟨S_, .f32⟩
  | .hbm, ⟨15, _⟩ => ⟨S1024x8x384, .f32⟩
  | .hbm, ⟨16, _⟩ => ⟨S1024x3072, .f32⟩
  | .hbm, ⟨17, _⟩ => ⟨S1024x3072, .bf16⟩
  | .hbm, ⟨18, _⟩ => ⟨S1x1024x3072, .bf16⟩
  | .hbm, ⟨19, _⟩ => ⟨S1x1024x3072, .bf16⟩
  | .hbm, ⟨20, _⟩ => ⟨S2x1024x3072, .bf16⟩
  | .hbm, ⟨21, _⟩ => ⟨S8x352x1024, .f32⟩
  | .hbm, ⟨22, _⟩ => ⟨S_, .i32⟩
  | .hbm, ⟨23, _⟩ => ⟨S_, .f32⟩
  | .hbm, ⟨24, _⟩ => ⟨S8x384x1024, .f32⟩
  | .hbm, ⟨25, _⟩ => ⟨S3072x1024, .f32⟩
  | .hbm, ⟨26, _⟩ => ⟨S3072x1024, .bf16⟩
  | .hbm, ⟨27, _⟩ => ⟨S8192x1024, .f32⟩
  | .hbm, ⟨28, _⟩ => ⟨S8192x1024, .bf16⟩
  | .hbm, ⟨29, _⟩ => ⟨S8192x3072, .bf16⟩
  | .hbm, ⟨30, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v32 : BitVec 1 := Scalar.cmpi .eq arg1 c2_i32
  let v33 : BitVec 32 := Scalar.extui v32
  let c0_i32_23 : BitVec 32 := 0#32
  let v34 : BitVec 1 := Scalar.cmpi .ne v33 c0_i32_23
  v34

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8x352 : Shape := ⟨3, ![8192, 8, 352]⟩
abbrev S8192x8x384 : Shape := ⟨3, ![8192, 8, 384]⟩
abbrev S8192x3072 : Shape := ⟨2, ![8192, 3072]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x8x352, .f32⟩
  | .hbm, ⟨40, _⟩ => ⟨S_, .i32⟩
  | .hbm, ⟨41, _⟩ => ⟨S_, .f32⟩
  | .hbm, ⟨42, _⟩ => ⟨S8192x8x384, .f32⟩
  | .hbm, ⟨43, _⟩ => ⟨S8192x3072, .f32⟩
  | .hbm, ⟨44, _⟩ => ⟨S8192x3072, .bf16⟩
  | .hbm, ⟨45, _⟩ => ⟨S8192x8x352, .f32⟩
  | .hbm, ⟨46, _⟩ => ⟨S_, .i32⟩
  | .hbm, ⟨47, _⟩ => ⟨S_, .f32⟩
  | .hbm, ⟨48, _⟩ => ⟨S8192x8x384, .f32⟩
  | .hbm, ⟨49, _⟩ => ⟨S8192x3072, .f32⟩
  | .hbm, ⟨50, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_call2_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== GradConvIn.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== GradConvInRefIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradConvOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== GradConvOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradAttnOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== GradAttnOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradDown.lean ====
abbrev S8192x1024 : Shape := ⟨2, ![8192, 1024]⟩
abbrev S1024x832 : Shape := ⟨2, ![1024, 832]⟩
abbrev S8192x832 : Shape := ⟨2, ![8192, 832]⟩
abbrev S_ : Shape := ⟨0, ![]⟩
abbrev S8192x896 : Shape := ⟨2, ![8192, 896]⟩
abbrev S1024x896 : Shape := ⟨2, ![1024, 896]⟩
abbrev S2048x1024 : Shape := ⟨2, ![2048, 1024]⟩
abbrev S2048x896 : Shape := ⟨2, ![2048, 896]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x832, .f32⟩
  | .hbm, ⟨2, _⟩ => ⟨S8192x832, .f32⟩
  | .hbm, ⟨3, _⟩ => ⟨S8192x1024, .bf16⟩
  | .hbm, ⟨4, _⟩ => ⟨S_, .i32⟩
  | .hbm, ⟨5, _⟩ => ⟨S_, .f32⟩
  | .hbm, ⟨6, _⟩ => ⟨S8192x896, .f32⟩
  | .hbm, ⟨7, _⟩ => ⟨S8192x896, .bf16⟩
  | .hbm, ⟨8, _⟩ => ⟨S1024x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== GradDownRefIdeal.lean ====
abbrev S8192x1024 : Shape := ⟨2, ![8192, 1024]⟩
abbrev S1024x832 : Shape := ⟨2, ![1024, 832]⟩
abbrev S8192x832 : Shape := ⟨2, ![8192, 832]⟩
abbrev S832x1024 : Shape := ⟨2, ![832, 1024]⟩
abbrev S_ : Shape := ⟨0, ![]⟩
abbrev S1024x896 : Shape := ⟨2, ![1024, 896]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x832, .f32⟩
  | .hbm, ⟨2, _⟩ => ⟨S8192x832, .f32⟩
  | .hbm, ⟨3, _⟩ => ⟨S8192x832, .f32⟩
  | .hbm, ⟨4, _⟩ => ⟨S832x1024, .f32⟩
  | .hbm, ⟨5, _⟩ => ⟨S1024x832, .f32⟩
  | .hbm, ⟨6, _⟩ => ⟨S_, .i32⟩
  | .hbm, ⟨7, _⟩ => ⟨S_, .f32⟩
  | .hbm, ⟨8, _⟩ => ⟨S1024x896, .f32⟩
  | .hbm, ⟨9, _⟩ => ⟨S1024x896, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== GradUpQ.lean ====
abbrev S8192x512 : Shape := ⟨2, ![8192, 512]⟩
abbrev S512x8x192 : Shape := ⟨3, ![512, 8, 192]⟩
abbrev S8192x8x192 : Shape := ⟨3, ![8192, 8, 192]⟩
abbrev S_ : Shape := ⟨0, ![]⟩
abbrev S8192x8x256 : Shape := ⟨3, ![8192, 8, 256]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x8x192, .f32⟩
  | .hbm, ⟨2, _⟩ => ⟨S8192x8x192, .f32⟩
  | .hbm, ⟨3, _⟩ => ⟨S_, .i32⟩
  | .hbm, ⟨4, _⟩ => ⟨S_, .f32⟩
  | .hbm, ⟨5, _⟩ => ⟨S8192x8x256, .f32⟩
  | .hbm, ⟨6, _⟩ => ⟨S8192x2048, .f32⟩
  | .hbm, ⟨7, _⟩ => ⟨S8192x512, .bf16⟩
  | .hbm, ⟨8, _⟩ => ⟨S8192x2048, .bf16⟩
  | .hbm, ⟨9, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== GradUpQRefIdeal.lean ====
abbrev S8192x512 : Shape := ⟨2, ![8192, 512]⟩
abbrev S512x8x192 : Shape := ⟨3, ![512, 8, 192]⟩
abbrev S8192x8x192 : Shape := ⟨3, ![8192, 8, 192]⟩
abbrev S8x192x512 : Shape := ⟨3, ![8, 192, 512]⟩
abbrev S_ : Shape := ⟨0, ![]⟩
abbrev S512x8x256 : Shape := ⟨3, ![512, 8, 256]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x8x192, .f32⟩
  | .hbm, ⟨2, _⟩ => ⟨S8192x8x192, .f32⟩
  | .hbm, ⟨3, _⟩ => ⟨S8192x8x192, .f32⟩
  | .hbm, ⟨4, _⟩ => ⟨S8x192x512, .f32⟩
  | .hbm, ⟨5, _⟩ => ⟨S512x8x192, .f32⟩
  | .hbm, ⟨6, _⟩ => ⟨S_, .i32⟩
  | .hbm, ⟨7, _⟩ => ⟨S_, .f32⟩
  | .hbm, ⟨8, _⟩ => ⟨S512x8x256, .f32⟩
  | .hbm, ⟨9, _⟩ => ⟨S512x2048, .f32⟩
  | .hbm, ⟨10, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GradUpKv.lean ====
abbrev S8192x256 : Shape := ⟨2, ![8192, 256]⟩
abbrev S256x8x256 : Shape := ⟨3, ![256, 8, 256]⟩
abbrev S8192x8x256 : Shape := ⟨3, ![8192, 8, 256]⟩
abbrev S8192x2048 : Shape := ⟨2, ![8192, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x8x256, .f32⟩
  | .hbm, ⟨2, _⟩ => ⟨S8192x8x256, .f32⟩
  | .hbm, ⟨3, _⟩ => ⟨S8192x256, .bf16⟩
  | .hbm, ⟨4, _⟩ => ⟨S8192x2048, .f32⟩
  | .hbm, ⟨5, _⟩ => ⟨S8192x2048, .bf16⟩
  | .hbm, ⟨6, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== GradUpKvRefIdeal.lean ====
abbrev S8192x256 : Shape := ⟨2, ![8192, 256]⟩
abbrev S256x8x256 : Shape := ⟨3, ![256, 8, 256]⟩
abbrev S8192x8x256 : Shape := ⟨3, ![8192, 8, 256]⟩
abbrev S8x256x256 : Shape := ⟨3, ![8, 256, 256]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x8x256, .f32⟩
  | .hbm, ⟨2, _⟩ => ⟨S8192x8x256, .f32⟩
  | .hbm, ⟨3, _⟩ => ⟨S8192x8x256, .f32⟩
  | .hbm, ⟨4, _⟩ => ⟨S8x256x256, .f32⟩
  | .hbm, ⟨5, _⟩ => ⟨S256x8x256, .f32⟩
  | .hbm, ⟨6, _⟩ => ⟨S256x2048, .f32⟩
  | .hbm, ⟨7, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AttnOutBack.lean ====
abbrev S8192x1024 : Shape := ⟨2, ![8192, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnOutBackRefIdeal.lean ====
abbrev S8192x1024 : Shape := ⟨2, ![8192, 1024]⟩
abbrev S1024x1024 : Shape := ⟨2, ![1024, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S8192x1024, .bf16⟩
  | .hbm, ⟨11, _⟩ => ⟨S8192x8x128, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ConvPre.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S8192x1024, .bf16⟩
  | .hbm, ⟨6, _⟩ => ⟨S8192x2048, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvPreRefIdeal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== MlaPre.lean ====
abbrev S8192x1024 : Shape := ⟨2, ![8192, 1024]⟩
abbrev S1024 : Shape := ⟨1, ![1024]⟩
abbrev S8192 : Shape := ⟨1, ![8192]⟩
abbrev S1024x832 : Shape := ⟨2, ![1024, 832]⟩
abbrev S512 : Shape := ⟨1, ![512]⟩
abbrev S256 : Shape := ⟨1, ![256]⟩
abbrev S512x8x192 : Shape := ⟨3, ![512, 8, 192]⟩
abbrev S256x8x256 : Shape := ⟨3, ![256, 8, 256]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x1024 : Shape := ⟨2, ![1, 1024]⟩
abbrev S1024x896 : Shape := ⟨2, ![1024, 896]⟩
abbrev S1x512 : Shape := ⟨2, ![1, 512]⟩
abbrev S1x256 : Shape := ⟨2, ![1, 256]⟩
abbrev S512x8x256 : Shape := ⟨3, ![512, 8, 256]⟩
abbrev S512x2048 : Shape := ⟨2, ![512, 2048]⟩
abbrev S256x2048 : Shape := ⟨2, ![256, 2048]⟩
abbrev S8192x896 : Shape := ⟨2, ![8192, 896]⟩
abbrev S8192x512 : Shape := ⟨2, ![8192, 512]⟩
abbrev S8192x256 : Shape := ⟨2, ![8192, 256]⟩
abbrev S8192x2048 : Shape := ⟨2, ![8192, 2048]⟩
abbrev S512x1024 : Shape := ⟨2, ![512, 1024]⟩
abbrev S512x128 : Shape := ⟨2, ![512, 128]⟩
abbrev S512x896 : Shape := ⟨2, ![512, 896]⟩
abbrev S512x512 : Shape := ⟨2, ![512, 512]⟩
abbrev S512x256 : Shape := ⟨2, ![512, 256]⟩
abbrev S512x1 : Shape := ⟨2, ![512, 1]⟩

abbrev nBuf : Space → Nat
  | .hbm => 52
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192, .i32⟩
  | .hbm, ⟨3, _⟩ => ⟨S1024x832, .f32⟩
  | .hbm, ⟨4, _⟩ => ⟨S512, .f32⟩
  | .hbm, ⟨5, _⟩ => ⟨S256, .f32⟩
  | .hbm, ⟨6, _⟩ => ⟨S512x8x192, .f32⟩
  | .hbm, ⟨7, _⟩ => ⟨S256x8x256, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S_, .f32⟩
  | .hbm, ⟨27, _⟩ => ⟨S8192x32, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S1x1024, .f32⟩
  | .hbm, ⟨32, _⟩ => ⟨S_, .i32⟩
  | .hbm, ⟨33, _⟩ => ⟨S_, .f32⟩
  | .hbm, ⟨34, _⟩ => ⟨S1024x896, .f32⟩
  | .hbm, ⟨35, _⟩ => ⟨S1024x896, .bf16⟩
  | .hbm, ⟨36, _⟩ => ⟨S1x512, .f32⟩
  | .hbm, ⟨37, _⟩ => ⟨S1x256, .f32⟩
  | .hbm, ⟨38, _⟩ => ⟨S_, .i32⟩
  | .hbm, ⟨39, _⟩ => ⟨S_, .f32⟩
  | .hbm, ⟨40, _⟩ => ⟨S512x8x256, .f32⟩
  | .hbm, ⟨41, _⟩ => ⟨S512x2048, .f32⟩
  | .hbm, ⟨42, _⟩ => ⟨S512x2048, .bf16⟩
  | .hbm, ⟨43, _⟩ => ⟨S256x2048, .f32⟩
  | .hbm, ⟨44, _⟩ => ⟨S256x2048, .bf16⟩
  | .hbm, ⟨45, _⟩ => ⟨S8192x1024, .bf16⟩
  | .hbm, ⟨46, _⟩ => ⟨S8192x896, .f32⟩
  | .hbm, ⟨47, _⟩ => ⟨S8192x512, .bf16⟩
  | .hbm, ⟨48, _⟩ => ⟨S8192x256, .bf16⟩
  | .hbm, ⟨49, _⟩ => ⟨S8192x2048, .bf16⟩
  | .hbm, ⟨50, _⟩ => ⟨S8192x2048, .bf16⟩
  | .hbm, ⟨51, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x896, .bf16⟩
  | .local _ .vmem, ⟨4, _⟩ => ⟨S1x512, .f32⟩
  | .local _ .vmem, ⟨5, _⟩ => ⟨S1x256, .f32⟩
  | .local _ .vmem, ⟨6, _⟩ => ⟨S512x2048, .bf16⟩
  | .local _ .vmem, ⟨7, _⟩ => ⟨S256x2048, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | .local _ .vmem, ⟨15, _⟩ => ⟨S512x1024, .bf16⟩
  | .local _ .vmem, ⟨16, _⟩ => ⟨S512x896, .f32⟩
  | .local _ .vmem, ⟨17, _⟩ => ⟨S512x896, .f32⟩
  | .local _ .vmem, ⟨18, _⟩ => ⟨S512x512, .bf16⟩
  | .local _ .vmem, ⟨19, _⟩ => ⟨S512x512, .bf16⟩
  | .local _ .vmem, ⟨20, _⟩ => ⟨S512x256, .bf16⟩
  | .local _ .vmem, ⟨21, _⟩ => ⟨S512x256, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x1024, .bf16⟩
  | .local _ .vmem, ⟨27, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_call1_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v29_5 : Ref sig .tc := ⟨.hbm, 50, rfl⟩
abbrev main_v29_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x896 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MlaPreRefIdeal.lean ====
abbrev S8192x1024 : Shape := ⟨2, ![8192, 1024]⟩
abbrev S1024 : Shape := ⟨1, ![1024]⟩
abbrev S8192 : Shape := ⟨1, ![8192]⟩
abbrev S1024x832 : Shape := ⟨2, ![1024, 832]⟩
abbrev S512 : Shape := ⟨1, ![512]⟩
abbrev S256 : Shape := ⟨1, ![256]⟩
abbrev S512x8x192 : Shape := ⟨3, ![512, 8, 192]⟩
abbrev S256x8x256 : Shape := ⟨3, ![256, 8, 256]⟩
abbrev S_ : Shape := ⟨0, ![]⟩
abbrev S8192x1 : Shape := ⟨2, ![8192, 1]⟩
abbrev S1x1024 : Shape := ⟨2, ![1, 1024]⟩
abbrev S8192x832 : Shape := ⟨2, ![8192, 832]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩
abbrev S8192x8x192 : Shape := ⟨3, ![8192, 8, 192]⟩
abbrev S8192x8x256 : Shape := ⟨3, ![8192, 8, 256]⟩
abbrev S32 : Shape := ⟨1, ![32]⟩
abbrev S1x32 : Shape := ⟨2, ![1, 32]⟩
abbrev S8192x32 : Shape := ⟨2, ![8192, 32]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8192x64 : Shape := ⟨2, ![8192, 64]⟩
abbrev S8192x1x64 : Shape := ⟨3, ![8192, 1, 64]⟩
abbrev S8192x8x128 : Shape := ⟨3, ![8192, 8, 128]⟩
abbrev S8192x896 : Shape := ⟨2, ![8192, 896]⟩
abbrev S8192x2048 : Shape := ⟨2, ![8192, 2048]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S1024, .f32⟩
  | 2 => ⟨S8192, .i32⟩
  | 3 => ⟨S1024x832, .f32⟩
  | 4 => ⟨S512, .f32⟩
  | 5 => ⟨S256, .f32⟩
  | 6 => ⟨S512x8x192, .f32⟩
  | 7 => ⟨S256x8x256, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x832, .f32⟩
  | 25 => ⟨S8192x512, .f32⟩
  | 26 => ⟨S8192x512, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1, .f32⟩
  | 37 => ⟨S8192x512, .f32⟩
  | 38 => ⟨S8192x512, .f32⟩
  | 39 => ⟨S1x512, .f32⟩
  | 40 => ⟨S8192x512, .f32⟩
  | 41 => ⟨S8192x512, .f32⟩
  | 42 => ⟨S8192x256, .f32⟩
  | 43 => ⟨S8192x256, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1, .f32⟩
  | 54 => ⟨S8192x256, .f32⟩
  | 55 => ⟨S8192x256, .f32⟩
  | 56 => ⟨S1x256, .f32⟩
  | 57 => ⟨S8192x256, .f32⟩
  | 58 => ⟨S8192x256, .f32⟩
  | 59 => ⟨S8192x8x192, .f32⟩
  | 60 => ⟨S_, .f32⟩
  | 61 => ⟨S8192x8x192, .f32⟩
  | 62 => ⟨S8192x8x192, .f32⟩
  | 63 => ⟨S8192x8x256, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S8192, .f32⟩
  | 75 => ⟨S8192x1, .f32⟩
  | 76 => ⟨S1x32, .f32⟩
  | 77 => ⟨S8192x32, .f32⟩
  | 78 => ⟨S8192x32, .f32⟩
  | 79 => ⟨S8192x32, .f32⟩
  | 80 => ⟨S8192x32, .f32⟩
  | 81 => ⟨S8192x32, .f32⟩
  | 82 => ⟨S8192x8x64, .f32⟩
  | 83 => ⟨S8192x1x32, .f32⟩
  | 84 => ⟨S8192x1x32, .f32⟩
  | 85 => ⟨S8192x8x32, .f32⟩
  | 86 => ⟨S8192x8x32, .f32⟩
  | 87 => ⟨S8192x8x32, .f32⟩
  | 88 => ⟨S8192x8x32, .f32⟩
  | 89 => ⟨S8192x8x32, .f32⟩
  | 90 => ⟨S8192x8x32, .f32⟩
  | 91 => ⟨S8192x8x32, .f32⟩
  | 92 => ⟨S8192x8x32, .f32⟩
  | 93 => ⟨S8192x8x32, .f32⟩
  | 94 => ⟨S8192x8x32, .f32⟩
  | 95 => ⟨S8192x8x32, .f32⟩
  | 96 => ⟨S8192x8x32, .f32⟩
  | 97 => ⟨S8192x8x64, .f32⟩
  | 98 => ⟨S8192x64, .f32⟩
  | 99 => ⟨S8192x32, .f32⟩
  | 100 => ⟨S8192x32, .f32⟩
  | 101 => ⟨S8192x32, .f32⟩
  | 102 => ⟨S8192x32, .f32⟩
  | 103 => ⟨S8192x32, .f32⟩
  | 104 => ⟨S8192x32, .f32⟩
  | 105 => ⟨S8192x32, .f32⟩
  | 106 => ⟨S8192x32, .f32⟩
  | 107 => ⟨S8192x64, .f32⟩
  | 108 => ⟨S8192x1x64, .f32⟩
  | 109 => ⟨S8192x8x64, .f32⟩
  | 110 => ⟨S8192x8x128, .f32⟩
  | 111 => ⟨S8192x8x192, .f32⟩
  | 112 => ⟨S8192x8x128, .f32⟩
  | 113 => ⟨S8192x8x192, .f32⟩
  | 114 => ⟨S8192x1024, .bf16⟩
  | 115 => ⟨S_, .i32⟩
  | 116 => ⟨S_, .f32⟩
  | 117 => ⟨S8192x896, .f32⟩
  | 118 => ⟨S8192x512, .bf16⟩
  | 119 => ⟨S8192x256, .bf16⟩
  | 120 => ⟨S_, .i32⟩
  | 121 => ⟨S_, .f32⟩
  | 122 => ⟨S8192x8x256, .f32⟩
  | 123 => ⟨S8192x2048, .f32⟩
  | 124 => ⟨S8192x2048, .bf16⟩
  | 125 => ⟨S_, .i32⟩
  | 126 => ⟨S_, .f32⟩
  | 127 => ⟨S8192x8x256, .f32⟩
  | _ => ⟨S8192x1024, .f32⟩

abbrev hbmTy0_1 (i : Nat) : BufTy := match i % 128 with
  | 0 => ⟨S8192x2048, .f32⟩
  | 1 => ⟨S8192x2048, .bf16⟩
  | 2 => ⟨S8192x8x128, .f32⟩
  | 3 => ⟨S8192x1024, .f32⟩
  | 4 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_c : Ref sig .tc := ⟨.hbm, 115, rfl⟩
abbrev main_call0_v0 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_c_12 : Ref sig .tc := ⟨.hbm, 120, rfl⟩
abbrev main_call1_v0 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_c_13 : Ref sig .tc := ⟨.hbm, 125, rfl⟩
abbrev main_call2_v0 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]
-- ==== AdamConvIn.lean ====
abbrev S8x1024x256 : Shape := ⟨3, ![8, 1024, 256]⟩
abbrev S1x1024x256 : Shape := ⟨3, ![1, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .bf16⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamConvInRefIdeal.lean ====
abbrev S8x1024x256 : Shape := ⟨3, ![8, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S_, .f32⟩
  | .hbm, ⟨5, _⟩ => ⟨S1024x256, .f32⟩
  | .hbm, ⟨6, _⟩ => ⟨S1x1024x256, .f32⟩
  | .hbm, ⟨7, _⟩ => ⟨S_, .f32⟩
  | .hbm, ⟨8, _⟩ => ⟨S1x1024x256, .f32⟩
  | .hbm, ⟨9, _⟩ => ⟨S1x1024x256, .f32⟩
  | .hbm, ⟨10, _⟩ => ⟨S_, .f32⟩
  | .hbm, ⟨11, _⟩ => ⟨S1x1024x256, .f32⟩
  | .hbm, ⟨12, _⟩ => ⟨S1x1024x256, .f32⟩
  | .hbm, ⟨13, _⟩ => ⟨S1x1024x256, .f32⟩
  | .hbm, ⟨14, _⟩ => ⟨S_, .f32⟩
  | .hbm, ⟨15, _⟩ => ⟨S1x1024x256, .f32⟩
  | .hbm, ⟨16, _⟩ => ⟨S1x1024x256, .f32⟩
  | .hbm, ⟨17, _⟩ => ⟨S1x1024x256, .f32⟩
  | .hbm, ⟨18, _⟩ => ⟨S_, .f32⟩
  | .hbm, ⟨19, _⟩ => ⟨S1x1024x256, .f32⟩
  | .hbm, ⟨20, _⟩ => ⟨S1x1024x256, .f32⟩
  | .hbm, ⟨21, _⟩ => ⟨S1x1024x256, .f32⟩
  | .hbm, ⟨22, _⟩ => ⟨S_, .f32⟩
  | .hbm, ⟨23, _⟩ => ⟨S1x1024x256, .f32⟩
  | .hbm, ⟨24, _⟩ => ⟨S1x1024x256, .f32⟩
  | .hbm, ⟨25, _⟩ => ⟨S_, .f32⟩
  | .hbm, ⟨26, _⟩ => ⟨S1x1024x256, .f32⟩
  | .hbm, ⟨27, _⟩ => ⟨S1x1024x256, .f32⟩
  | .hbm, ⟨28, _⟩ => ⟨S1x1024x256, .f32⟩
  | .hbm, ⟨29, _⟩ => ⟨S_, .f32⟩
  | .hbm, ⟨30, _⟩ => ⟨S1x1024x256, .f32⟩
  | .hbm, ⟨31, _⟩ => ⟨S1x1024x256, .f32⟩
  | .hbm, ⟨32, _⟩ => ⟨S1x1024x256, .f32⟩
  | .hbm, ⟨33, _⟩ => ⟨S_, .f32⟩
  | .hbm, ⟨34, _⟩ => ⟨S1x1024x256, .f32⟩
  | .hbm, ⟨35, _⟩ => ⟨S1x1024x256, .f32⟩
  | .hbm, ⟨36, _⟩ => ⟨S1x1024x256, .f32⟩
  | .hbm, ⟨37, _⟩ => ⟨S_, .f32⟩
  | .hbm, ⟨38, _⟩ => ⟨S1x1024x256, .f32⟩
  | .hbm, ⟨39, _⟩ => ⟨S1x1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConvOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x128x832 : Shape := ⟨3, ![8, 128, 832]⟩
abbrev S1x128x832 : Shape := ⟨3, ![1, 128, 832]⟩
abbrev S_ : Shape := ⟨0, ![]⟩
abbrev S8x128x896 : Shape := ⟨3, ![8, 128, 896]⟩
abbrev S128x832 : Shape := ⟨2, ![128, 832]⟩

abbrev nBuf : Space → Nat
  | .hbm => 12
  | .vmem => 8
  | .smem => 0
  | _ => 0

abbrev bufTy : (tb : Table) → Fin (tcTables nBuf tb) → BufTy
  | .hbm, ⟨0, _⟩ => ⟨S8x128x832, .f32⟩
  | .hbm, ⟨1, _⟩ => ⟨S1x128x832, .f32⟩
  | .hbm, ⟨2, _⟩ => ⟨S1x128x832, .f32⟩
  | .hbm, ⟨3, _⟩ => ⟨S1x128x832, .f32⟩
  | .hbm, ⟨4, _⟩ => ⟨S_, .i32⟩
  | .hbm, ⟨5, _⟩ => ⟨S_, .f32⟩
  | .hbm, ⟨6, _⟩ => ⟨S8x128x896, .f32⟩
  | .hbm, ⟨7, _⟩ => ⟨S8x128x896, .bf16⟩
  | .hbm, ⟨8, _⟩ => ⟨S1x128x832, .f32⟩
  | .hbm, ⟨9, _⟩ => ⟨S1x128x832, .f32⟩
  | .hbm, ⟨10, _⟩ => ⟨S1x128x832, .f32⟩
  | .hbm, ⟨11, _⟩ => ⟨S1x128x832, .f32⟩
  | .local _ .vmem, ⟨0, _⟩ => ⟨S8x128x896, .bf16⟩
  | .local _ .vmem, ⟨1, _⟩ => ⟨S1x128x832, .f32⟩
  | .local _ .vmem, ⟨2, _⟩ => ⟨S1x128x832, .f32⟩
  | .local _ .vmem, ⟨3, _⟩ => ⟨S1x128x832, .f32⟩
  | .local _ .vmem, ⟨4, _⟩ => ⟨S1x128x832, .f32⟩
  | .local _ .vmem, ⟨5, _⟩ => ⟨S1x128x832, .f32⟩
  | .local _ .vmem, ⟨6, _⟩ => ⟨S1x128x832, .f32⟩
  | .local _ .vmem, ⟨7, _⟩ => ⟨S1x128x832, .f32⟩
  | _, _ => ⟨S8x128x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x832 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x832 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x832 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x832 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x832 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x832 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamDownRefIdeal.lean ====
abbrev S8x128x832 : Shape := ⟨3, ![8, 128, 832]⟩
abbrev S1x128x832 : Shape := ⟨3, ![1, 128, 832]⟩
abbrev S_ : Shape := ⟨0, ![]⟩
abbrev S128x832 : Shape := ⟨2, ![128, 832]⟩

abbrev nBuf : Space → Nat
  | .hbm => 40
  | .vmem => 0
  | .smem => 0
  | _ => 0

abbrev bufTy : (tb : Table) → Fin (tcTables nBuf tb) → BufTy
  | .hbm, ⟨0, _⟩ => ⟨S8x128x832, .f32⟩
  | .hbm, ⟨1, _⟩ => ⟨S1x128x832, .f32⟩
  | .hbm, ⟨2, _⟩ => ⟨S1x128x832, .f32⟩
  | .hbm, ⟨3, _⟩ => ⟨S1x128x832, .f32⟩
  | .hbm, ⟨4, _⟩ => ⟨S_, .f32⟩
  | .hbm, ⟨5, _⟩ => ⟨S128x832, .f32⟩
  | .hbm, ⟨6, _⟩ => ⟨S1x128x832, .f32⟩
  | .hbm, ⟨7, _⟩ => ⟨S_, .f32⟩
  | .hbm, ⟨8, _⟩ => ⟨S1x128x832, .f32⟩
  | .hbm, ⟨9, _⟩ => ⟨S1x128x832, .f32⟩
  | .hbm, ⟨10, _⟩ => ⟨S_, .f32⟩
  | .hbm, ⟨11, _⟩ => ⟨S1x128x832, .f32⟩
  | .hbm, ⟨12, _⟩ => ⟨S1x128x832, .f32⟩
  | .hbm, ⟨13, _⟩ => ⟨S1x128x832, .f32⟩
  | .hbm, ⟨14, _⟩ => ⟨S_, .f32⟩
  | .hbm, ⟨15, _⟩ => ⟨S1x128x832, .f32⟩
  | .hbm, ⟨16, _⟩ => ⟨S1x128x832, .f32⟩
  | .hbm, ⟨17, _⟩ => ⟨S1x128x832, .f32⟩
  | .hbm, ⟨18, _⟩ => ⟨S_, .f32⟩
  | .hbm, ⟨19, _⟩ => ⟨S1x128x832, .f32⟩
  | .hbm, ⟨20, _⟩ => ⟨S1x128x832, .f32⟩
  | .hbm, ⟨21, _⟩ => ⟨S1x128x832, .f32⟩
  | .hbm, ⟨22, _⟩ => ⟨S_, .f32⟩
  | .hbm, ⟨23, _⟩ => ⟨S1x128x832, .f32⟩
  | .hbm, ⟨24, _⟩ => ⟨S1x128x832, .f32⟩
  | .hbm, ⟨25, _⟩ => ⟨S_, .f32⟩
  | .hbm, ⟨26, _⟩ => ⟨S1x128x832, .f32⟩
  | .hbm, ⟨27, _⟩ => ⟨S1x128x832, .f32⟩
  | .hbm, ⟨28, _⟩ => ⟨S1x128x832, .f32⟩
  | .hbm, ⟨29, _⟩ => ⟨S_, .f32⟩
  | .hbm, ⟨30, _⟩ => ⟨S1x128x832, .f32⟩
  | .hbm, ⟨31, _⟩ => ⟨S1x128x832, .f32⟩
  | .hbm, ⟨32, _⟩ => ⟨S1x128x832, .f32⟩
  | .hbm, ⟨33, _⟩ => ⟨S_, .f32⟩
  | .hbm, ⟨34, _⟩ => ⟨S1x128x832, .f32⟩
  | .hbm, ⟨35, _⟩ => ⟨S1x128x832, .f32⟩
  | .hbm, ⟨36, _⟩ => ⟨S1x128x832, .f32⟩
  | .hbm, ⟨37, _⟩ => ⟨S_, .f32⟩
  | .hbm, ⟨38, _⟩ => ⟨S1x128x832, .f32⟩
  | .hbm, ⟨39, _⟩ => ⟨S1x128x832, .f32⟩
  | _, _ => ⟨S8x128x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUpKv.lean ====
abbrev S8x32x8x256 : Shape := ⟨4, ![8, 32, 8, 256]⟩
abbrev S1x32x8x256 : Shape := ⟨4, ![1, 32, 8, 256]⟩
abbrev S8x32x2048 : Shape := ⟨3, ![8, 32, 2048]⟩
abbrev S1x32x2048 : Shape := ⟨3, ![1, 32, 2048]⟩
abbrev S32x2048 : Shape := ⟨2, ![32, 2048]⟩

abbrev nBuf : Space → Nat
  | .hbm => 13
  | .vmem => 8
  | .smem => 0
  | _ => 0

abbrev bufTy : (tb : Table) → Fin (tcTables nBuf tb) → BufTy
  | .hbm, ⟨0, _⟩ => ⟨S8x32x8x256, .f32⟩
  | .hbm, ⟨1, _⟩ => ⟨S1x32x8x256, .f32⟩
  | .hbm, ⟨2, _⟩ => ⟨S1x32x8x256, .f32⟩
  | .hbm, ⟨3, _⟩ => ⟨S1x32x8x256, .f32⟩
  | .hbm, ⟨4, _⟩ => ⟨S8x32x2048, .f32⟩
  | .hbm, ⟨5, _⟩ => ⟨S8x32x2048, .bf16⟩
  | .hbm, ⟨6, _⟩ => ⟨S1x32x2048, .f32⟩
  | .hbm, ⟨7, _⟩ => ⟨S1x32x2048, .f32⟩
  | .hbm, ⟨8, _⟩ => ⟨S1x32x2048, .f32⟩
  | .hbm, ⟨9, _⟩ => ⟨S1x32x2048, .f32⟩
  | .hbm, ⟨10, _⟩ => ⟨S1x32x2048, .f32⟩
  | .hbm, ⟨11, _⟩ => ⟨S1x32x2048, .f32⟩
  | .hbm, ⟨12, _⟩ => ⟨S1x32x2048, .f32⟩
  | .local _ .vmem, ⟨0, _⟩ => ⟨S8x32x2048, .bf16⟩
  | .local _ .vmem, ⟨1, _⟩ => ⟨S1x32x2048, .f32⟩
  | .local _ .vmem, ⟨2, _⟩ => ⟨S1x32x2048, .f32⟩
  | .local _ .vmem, ⟨3, _⟩ => ⟨S1x32x2048, .f32⟩
  | .local _ .vmem, ⟨4, _⟩ => ⟨S1x32x2048, .f32⟩
  | .local _ .vmem, ⟨5, _⟩ => ⟨S1x32x2048, .f32⟩
  | .local _ .vmem, ⟨6, _⟩ => ⟨S1x32x2048, .f32⟩
  | .local _ .vmem, ⟨7, _⟩ => ⟨S1x32x2048, .f32⟩
  | _, _ => ⟨S8x32x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamUpKvRefIdeal.lean ====
abbrev S8x32x8x256 : Shape := ⟨4, ![8, 32, 8, 256]⟩
abbrev S1x32x8x256 : Shape := ⟨4, ![1, 32, 8, 256]⟩
abbrev S_ : Shape := ⟨0, ![]⟩
abbrev S32x8x256 : Shape := ⟨3, ![32, 8, 256]⟩
abbrev S1x32x2048 : Shape := ⟨3, ![1, 32, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x32x8x256, .f32⟩
  | .hbm, ⟨1, _⟩ => ⟨S1x32x8x256, .f32⟩
  | .hbm, ⟨2, _⟩ => ⟨S1x32x8x256, .f32⟩
  | .hbm, ⟨3, _⟩ => ⟨S1x32x8x256, .f32⟩
  | .hbm, ⟨4, _⟩ => ⟨S_, .f32⟩
  | .hbm, ⟨5, _⟩ => ⟨S32x8x256, .f32⟩
  | .hbm, ⟨6, _⟩ => ⟨S1x32x8x256, .f32⟩
  | .hbm, ⟨7, _⟩ => ⟨S_, .f32⟩
  | .hbm, ⟨8, _⟩ => ⟨S1x32x8x256, .f32⟩
  | .hbm, ⟨9, _⟩ => ⟨S1x32x8x256, .f32⟩
  | .hbm, ⟨10, _⟩ => ⟨S_, .f32⟩
  | .hbm, ⟨11, _⟩ => ⟨S1x32x8x256, .f32⟩
  | .hbm, ⟨12, _⟩ => ⟨S1x32x8x256, .f32⟩
  | .hbm, ⟨13, _⟩ => ⟨S1x32x8x256, .f32⟩
  | .hbm, ⟨14, _⟩ => ⟨S_, .f32⟩
  | .hbm, ⟨15, _⟩ => ⟨S1x32x8x256, .f32⟩
  | .hbm, ⟨16, _⟩ => ⟨S1x32x8x256, .f32⟩
  | .hbm, ⟨17, _⟩ => ⟨S1x32x8x256, .f32⟩
  | .hbm, ⟨18, _⟩ => ⟨S_, .f32⟩
  | .hbm, ⟨19, _⟩ => ⟨S1x32x8x256, .f32⟩
  | .hbm, ⟨20, _⟩ => ⟨S1x32x8x256, .f32⟩
  | .hbm, ⟨21, _⟩ => ⟨S1x32x8x256, .f32⟩
  | .hbm, ⟨22, _⟩ => ⟨S_, .f32⟩
  | .hbm, ⟨23, _⟩ => ⟨S1x32x8x256, .f32⟩
  | .hbm, ⟨24, _⟩ => ⟨S1x32x8x256, .f32⟩
  | .hbm, ⟨25, _⟩ => ⟨S_, .f32⟩
  | .hbm, ⟨26, _⟩ => ⟨S1x32x8x256, .f32⟩
  | .hbm, ⟨27, _⟩ => ⟨S1x32x8x256, .f32⟩
  | .hbm, ⟨28, _⟩ => ⟨S1x32x8x256, .f32⟩
  | .hbm, ⟨29, _⟩ => ⟨S_, .f32⟩
  | .hbm, ⟨30, _⟩ => ⟨S1x32x8x256, .f32⟩
  | .hbm, ⟨31, _⟩ => ⟨S1x32x8x256, .f32⟩
  | .hbm, ⟨32, _⟩ => ⟨S1x32x8x256, .f32⟩
  | .hbm, ⟨33, _⟩ => ⟨S_, .f32⟩
  | .hbm, ⟨34, _⟩ => ⟨S1x32x8x256, .f32⟩
  | .hbm, ⟨35, _⟩ => ⟨S1x32x8x256, .f32⟩
  | .hbm, ⟨36, _⟩ => ⟨S1x32x8x256, .f32⟩
  | .hbm, ⟨37, _⟩ => ⟨S_, .f32⟩
  | .hbm, ⟨38, _⟩ => ⟨S1x32x8x256, .f32⟩
  | .hbm, ⟨39, _⟩ => ⟨S1x32x8x256, .f32⟩
  | .hbm, ⟨40, _⟩ => ⟨S1x32x2048, .f32⟩
  | .hbm, ⟨41, _⟩ => ⟨S1x32x2048, .f32⟩
  | .hbm, ⟨42, _⟩ => ⟨S1x32x2048, .f32⟩
  | .hbm, ⟨43, _⟩ => ⟨S1x32x2048, .f32⟩
  | _, _ => ⟨S8x32x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamUpQ.lean ====
abbrev S8x64x8x192 : Shape := ⟨4, ![8, 64, 8, 192]⟩
abbrev S1x64x8x192 : Shape := ⟨4, ![1, 64, 8, 192]⟩
abbrev S_ : Shape := ⟨0, ![]⟩
abbrev S8x64x8x256 : Shape := ⟨4, ![8, 64, 8, 256]⟩
abbrev S8x64x2048 : Shape := ⟨3, ![8, 64, 2048]⟩
abbrev S1x64x8x256 : Shape := ⟨4, ![1, 64, 8, 256]⟩
abbrev S1x64x2048 : Shape := ⟨3, ![1, 64, 2048]⟩
abbrev S64x2048 : Shape := ⟨2, ![64, 2048]⟩

abbrev nBuf : Space → Nat
  | .hbm => 25
  | .vmem => 8
  | .smem => 0
  | _ => 0

abbrev bufTy : (tb : Table) → Fin (tcTables nBuf tb) → BufTy
  | .hbm, ⟨0, _⟩ => ⟨S8x64x8x192, .f32⟩
  | .hbm, ⟨1, _⟩ => ⟨S1x64x8x192, .f32⟩
  | .hbm, ⟨2, _⟩ => ⟨S1x64x8x192, .f32⟩
  | .hbm, ⟨3, _⟩ => ⟨S1x64x8x192, .f32⟩
  | .hbm, ⟨4, _⟩ => ⟨S_, .i32⟩
  | .hbm, ⟨5, _⟩ => ⟨S_, .f32⟩
  | .hbm, ⟨6, _⟩ => ⟨S8x64x8x256, .f32⟩
  | .hbm, ⟨7, _⟩ => ⟨S8x64x2048, .f32⟩
  | .hbm, ⟨8, _⟩ => ⟨S8x64x2048, .bf16⟩
  | .hbm, ⟨9, _⟩ => ⟨S_, .i32⟩
  | .hbm, ⟨10, _⟩ => ⟨S_, .f32⟩
  | .hbm, ⟨11, _⟩ => ⟨S1x64x8x256, .f32⟩
  | .hbm, ⟨12, _⟩ => ⟨S1x64x2048, .f32⟩
  | .hbm, ⟨13, _⟩ => ⟨S_, .i32⟩
  | .hbm, ⟨14, _⟩ => ⟨S_, .f32⟩
  | .hbm, ⟨15, _⟩ => ⟨S1x64x8x256, .f32⟩
  | .hbm, ⟨16, _⟩ => ⟨S1x64x2048, .f32⟩
  | .hbm, ⟨17, _⟩ => ⟨S_, .i32⟩
  | .hbm, ⟨18, _⟩ => ⟨S_, .f32⟩
  | .hbm, ⟨19, _⟩ => ⟨S1x64x8x256, .f32⟩
  | .hbm, ⟨20, _⟩ => ⟨S1x64x2048, .f32⟩
  | .hbm, ⟨21, _⟩ => ⟨S1x64x2048, .f32⟩
  | .hbm, ⟨22, _⟩ => ⟨S1x64x2048, .f32⟩
  | .hbm, ⟨23, _⟩ => ⟨S1x64x2048, .f32⟩
  | .hbm, ⟨24, _⟩ => ⟨S1x64x2048, .f32⟩
  | .local _ .vmem, ⟨0, _⟩ => ⟨S8x64x2048, .bf16⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | _, _ => ⟨S8x64x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamUpQRefIdeal.lean ====
abbrev S8x64x8x192 : Shape := ⟨4, ![8, 64, 8, 192]⟩
abbrev S1x64x8x192 : Shape := ⟨4, ![1, 64, 8, 192]⟩
abbrev S_ : Shape := ⟨0, ![]⟩
abbrev S64x8x192 : Shape := ⟨3, ![64, 8, 192]⟩
abbrev S1x64x8x256 : Shape := ⟨4, ![1, 64, 8, 256]⟩
abbrev S1x64x2048 : Shape := ⟨3, ![1, 64, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x64x8x192, .f32⟩
  | .hbm, ⟨1, _⟩ => ⟨S1x64x8x192, .f32⟩
  | .hbm, ⟨2, _⟩ => ⟨S1x64x8x192, .f32⟩
  | .hbm, ⟨3, _⟩ => ⟨S1x64x8x192, .f32⟩
  | .hbm, ⟨4, _⟩ => ⟨S_, .f32⟩
  | .hbm, ⟨5, _⟩ => ⟨S64x8x192, .f32⟩
  | .hbm, ⟨6, _⟩ => ⟨S1x64x8x192, .f32⟩
  | .hbm, ⟨7, _⟩ => ⟨S_, .f32⟩
  | .hbm, ⟨8, _⟩ => ⟨S1x64x8x192, .f32⟩
  | .hbm, ⟨9, _⟩ => ⟨S1x64x8x192, .f32⟩
  | .hbm, ⟨10, _⟩ => ⟨S_, .f32⟩
  | .hbm, ⟨11, _⟩ => ⟨S1x64x8x192, .f32⟩
  | .hbm, ⟨12, _⟩ => ⟨S1x64x8x192, .f32⟩
  | .hbm, ⟨13, _⟩ => ⟨S1x64x8x192, .f32⟩
  | .hbm, ⟨14, _⟩ => ⟨S_, .f32⟩
  | .hbm, ⟨15, _⟩ => ⟨S1x64x8x192, .f32⟩
  | .hbm, ⟨16, _⟩ => ⟨S1x64x8x192, .f32⟩
  | .hbm, ⟨17, _⟩ => ⟨S1x64x8x192, .f32⟩
  | .hbm, ⟨18, _⟩ => ⟨S_, .f32⟩
  | .hbm, ⟨19, _⟩ => ⟨S1x64x8x192, .f32⟩
  | .hbm, ⟨20, _⟩ => ⟨S1x64x8x192, .f32⟩
  | .hbm, ⟨21, _⟩ => ⟨S1x64x8x192, .f32⟩
  | .hbm, ⟨22, _⟩ => ⟨S_, .f32⟩
  | .hbm, ⟨23, _⟩ => ⟨S1x64x8x192, .f32⟩
  | .hbm, ⟨24, _⟩ => ⟨S1x64x8x192, .f32⟩
  | .hbm, ⟨25, _⟩ => ⟨S_, .f32⟩
  | .hbm, ⟨26, _⟩ => ⟨S1x64x8x192, .f32⟩
  | .hbm, ⟨27, _⟩ => ⟨S1x64x8x192, .f32⟩
  | .hbm, ⟨28, _⟩ => ⟨S1x64x8x192, .f32⟩
  | .hbm, ⟨29, _⟩ => ⟨S_, .f32⟩
  | .hbm, ⟨30, _⟩ => ⟨S1x64x8x192, .f32⟩
  | .hbm, ⟨31, _⟩ => ⟨S1x64x8x192, .f32⟩
  | .hbm, ⟨32, _⟩ => ⟨S1x64x8x192, .f32⟩
  | .hbm, ⟨33, _⟩ => ⟨S_, .f32⟩
  | .hbm, ⟨34, _⟩ => ⟨S1x64x8x192, .f32⟩
  | .hbm, ⟨35, _⟩ => ⟨S1x64x8x192, .f32⟩
  | .hbm, ⟨36, _⟩ => ⟨S1x64x8x192, .f32⟩
  | .hbm, ⟨37, _⟩ => ⟨S_, .f32⟩
  | .hbm, ⟨38, _⟩ => ⟨S1x64x8x192, .f32⟩
  | .hbm, ⟨39, _⟩ => ⟨S1x64x8x192, .f32⟩
  | .hbm, ⟨40, _⟩ => ⟨S_, .i32⟩
  | .hbm, ⟨41, _⟩ => ⟨S_, .f32⟩
  | .hbm, ⟨42, _⟩ => ⟨S1x64x8x256, .f32⟩
  | .hbm, ⟨43, _⟩ => ⟨S1x64x2048, .f32⟩
  | .hbm, ⟨44, _⟩ => ⟨S_, .i32⟩
  | .hbm, ⟨45, _⟩ => ⟨S_, .f32⟩
  | .hbm, ⟨46, _⟩ => ⟨S1x64x8x256, .f32⟩
  | .hbm, ⟨47, _⟩ => ⟨S1x64x2048, .f32⟩
  | .hbm, ⟨48, _⟩ => ⟨S_, .i32⟩
  | .hbm, ⟨49, _⟩ => ⟨S_, .f32⟩
  | .hbm, ⟨50, _⟩ => ⟨S1x64x8x256, .f32⟩
  | .hbm, ⟨51, _⟩ => ⟨S1x64x2048, .f32⟩
  | .hbm, ⟨52, _⟩ => ⟨S_, .i32⟩
  | .hbm, ⟨53, _⟩ => ⟨S_, .f32⟩
  | .hbm, ⟨54, _⟩ => ⟨S1x64x8x256, .f32⟩
  | .hbm, ⟨55, _⟩ => ⟨S1x64x2048, .f32⟩
  | _, _ => ⟨S8x64x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_c_9 : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_c_10 : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_c_11 : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Proof.Reals.lean ====
/- Extended-real values that are reals: the scalar operations of the ideal instance at coerced real numbers, the
   constants the programs name by their float words, and the real functions (root mean square norm, logistic) that
   both sides of the value claims are read as. -/
module

public import Idealize.ShloMosaic.PureOps.Ideal
public import Idealize.ShloMosaic.PureOps.Ideal.Laws
public import Idealize.ShloMosaic.Lib.ReduceAll
public import Idealize.ShloMosaic.Lib.Pointwise
public import Idealize.ShloMosaic.Lib.Pointwise.Tactic

@[expose] public section

noncomputable section

namespace Cert.RealValue

open Idealize.ShloMosaic

/-! ## Coercions -/

/-- A finite sum of coerced reals is the coerced sum. -/
theorem coe_sum {ι : Type*} (s : Finset ι) (f : ι → ℝ) : ∑ k ∈ s, ((f k : ℝ) : EReal) = ((∑ k ∈ s, f k : ℝ) : EReal) :=
  (map_sum (⟨⟨fun x : ℝ => (x : EReal), EReal.coe_zero⟩, EReal.coe_add⟩ : ℝ →+ EReal) f s).symm

/-- An extended real whose absolute value is below infinity is the coercion of its real part. -/
theorem eq_coe_of_abs_lt_top {x : EReal} (h : max x (-x) < ⊤) : x = ((x.toReal : ℝ) : EReal) := by
  induction x with
  | bot => simp at h
  | top => simp at h
  | coe r => rfl

theorem zero_sub_coe (x : ℝ) : (0 : EReal) - (x : EReal) = ((-x : ℝ) : EReal) := by
  rw [zero_sub, EReal.coe_neg]

theorem one_add_coe (x : ℝ) : (1 : EReal) + (x : EReal) = ((1 + x : ℝ) : EReal) := by
  rw [EReal.coe_add, EReal.coe_one]

theorem one_sub_coe (x : ℝ) : (1 : EReal) - (x : EReal) = ((1 - x : ℝ) : EReal) := by
  rw [EReal.coe_sub, EReal.coe_one]

/-- Ideal division of reals by a nonzero real. -/
theorem div_real (x : ℝ) {y : ℝ} (h : y ≠ 0) : Ideal.div (x : EReal) (y : EReal) = ((x / y : ℝ) : EReal) := by
  rw [Ideal.div_coe h, ← EReal.coe_mul, mul_one_div]

/-! ## Constants -/

/-- The real value of the float word nearest to `1e-6`, the norm's epsilon. -/
def eps : ℝ := 8796093 / 8796093022208

theorem eps_pos : 0 < eps := by norm_num [eps]

theorem ofBits_1024 : Ideal.ofBits .f32 0x44800000#32 = ((1024 : ℝ) : EReal) := by
  simp [Ideal.ofBits, Ideal.ieee]; rw [← EReal.coe_mul]; norm_num

theorem ofBits_eps : Ideal.ofBits .f32 0x358637BD#32 = ((eps : ℝ) : EReal) := by
  simp [Ideal.ofBits, Ideal.ieee, eps]; rw [← EReal.coe_mul]; norm_num

theorem ofBits_one : Ideal.ofBits .f32 0x3F800000#32 = 1 := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

theorem ofBits_top : Ideal.ofBits .f32 0x7F800000#32 = ⊤ := by
  simp [Ideal.ofBits, Ideal.ieee]

/-! ## The norm's reciprocal root and the logistic function -/

/-- Mean square plus epsilon of a row. -/
def ms {n : ℕ} (x : Fin n → ℝ) : ℝ := (∑ k, x k * x k) / 1024 + eps

theorem ms_pos {n : ℕ} (x : Fin n → ℝ) : 0 < ms x :=
  add_pos_of_nonneg_of_pos (div_nonneg (Finset.sum_nonneg fun k _ => mul_self_nonneg (x k)) (by norm_num)) eps_pos

/-- The reciprocal of the root of a row's mean square plus epsilon. -/
def rinv {n : ℕ} (x : Fin n → ℝ) : ℝ := (√(ms x))⁻¹

theorem rinv_sq {n : ℕ} (x : Fin n → ℝ) : rinv x * rinv x = (ms x)⁻¹ := by
  rw [rinv, ← mul_inv, Real.mul_self_sqrt (ms_pos x).le]

theorem rinv_div_ms {n : ℕ} (x : Fin n → ℝ) : rinv x / ms x = rinv x * (rinv x * rinv x) := by
  rw [rinv_sq, div_eq_mul_inv]

/-- The logistic function. -/
def logi (y : ℝ) : ℝ := 1 / (1 + Real.exp (-y))

theorem one_add_exp_ne (y : ℝ) : 1 + Real.exp y ≠ 0 := (add_pos one_pos (Real.exp_pos y)).ne'

/-! ## The same through the ideal operations -/

theorem div_1024 (x : ℝ) : Ideal.div (x : EReal) ((1024 : ℝ) : EReal) = ((x / 1024 : ℝ) : EReal) :=
  div_real x (by norm_num)

theorem rsqrt_ms {n : ℕ} (x : Fin n → ℝ) :
    Ideal.rsqrt (((∑ k, x k * x k) / 1024 + eps : ℝ) : EReal) = ((rinv x : ℝ) : EReal) := by
  show Ideal.rsqrt ((ms x : ℝ) : EReal) = _
  rw [Ideal.rsqrt_coe, if_neg (ms_pos x).not_gt, if_neg (ms_pos x).ne']; rfl

theorem div_ms {n : ℕ} (y : ℝ) (x : Fin n → ℝ) :
    Ideal.div (y : EReal) (((∑ k, x k * x k) / 1024 + eps : ℝ) : EReal) = ((y / ms x : ℝ) : EReal) :=
  div_real y (ms_pos x).ne'

theorem div_exp (y : ℝ) : Ideal.div 1 ((1 + Real.exp (-y) : ℝ) : EReal) = ((logi y : ℝ) : EReal) := by
  rw [← EReal.coe_one, div_real 1 (one_add_exp_ne _)]; rfl

/-! ## A sum over the rows, block by block -/

/-- The sum over `n` blocks of `k` rows each is the sum over the `k * n` rows. -/
theorem sum_blocks {M : Type} [AddCommMonoid M] (k : ℕ) (f : ℕ → M) : ∀ n : ℕ,
    ∑ s ∈ Finset.range n, ∑ a : Fin k, f (k * s + a.val) = ∑ r ∈ Finset.range (k * n), f r
  | 0 => by simp
  | n + 1 => by
    rw [Finset.sum_range_succ, sum_blocks k f n, Nat.mul_succ, Finset.sum_range_add,
      Fin.sum_univ_eq_sum_range (fun a => f (k * n + a)) k]

/-- A function of `Fin n` continued by zero. -/
def ext0 {M : Type} [Zero M] {n : ℕ} (f : Fin n → M) (r : ℕ) : M := if h : r < n then f ⟨r, h⟩ else 0

theorem ext0_val {M : Type} [Zero M] {n : ℕ} (f : Fin n → M) (r : Fin n) : ext0 f r.val = f r := dif_pos r.isLt

theorem sum_ext0 {M : Type} [AddCommMonoid M] {n : ℕ} (f : Fin n → M) : ∑ r ∈ Finset.range n, ext0 f r = ∑ r, f r := by
  rw [← Fin.sum_univ_eq_sum_range]
  exact Finset.sum_congr rfl fun r _ => ext0_val f r

/-! ## The finiteness precondition -/

instance : Subsingleton (Shape.Idx ⟨0, ![]⟩) := ⟨fun a b => funext fun k => k.elim0⟩

/-- One comparison of the precondition: the absolute value is below infinity, so the element is a real. -/
theorem eq_coe_of_cmp {x : EReal} (h : Ideal.cmp .olt (max x (-x)) ⊤ = 1#1) : x = ((x.toReal : ℝ) : EReal) := by
  apply eq_coe_of_abs_lt_top
  by_contra hn
  simp [Ideal.cmp, hn] at h

/-- `all (abs x < inf)`: every element of `x` is a real. -/
theorem eq_coe_of_all {s u : Shape} {axes : List (Fin s.rank)} {x b : FVec Ideal s .f32} {init : u.Idx → BitVec 1}
    {h : s.ReducesTo axes ⟨0, ![]⟩} {hu : 0 < u.numel} {j : Shape.Idx ⟨0, ![]⟩} (hb : ∀ i, b i = ⊤)
    (e : Host.reduce IntOp.andi (cmpf .olt (Host.absf x) b) init h hu j = 1#1) (i : s.Idx) :
    x i = (((x i).toReal : ℝ) : EReal) := by
  have key : Ideal.cmp .olt (max (x i) (-(x i))) (b i) = 1#1 := Host.reduce_andi_all _ _ _ _ _ e i
  rw [hb] at key
  exact eq_coe_of_cmp key

end Cert.RealValue

end
-- ==== Proof.ConvPostKernel.lean ====
/- What the kernel `ConvPostIdeal` leaves in its two result arrays when every argument is an array of reals: the gradient
   of the norm, the swish and the product with respect to the convolution's output, row by row, and the gradient of the
   norm's scale, summed over all rows. -/
module

public import proofs.«01_k».proof.Proof.Reals
public import proofs.«01_k».proof.Proof.Gen.ConvPostIdeal.Value
public import Idealize.ShloMosaic.Lib.StableHlo.Run

@[expose] public section

noncomputable section

namespace Cert.ConvPostIdeal.RealValue

open Cert.ConvPostIdeal Cert.ConvPostIdeal.Gen Cert.RealValue
open Idealize.ShloMosaic Idealize.ShloMosaic.TcCoe Idealize.SL.Sem

/-! ## The real functions of one row -/

/-- The normed row. -/
def yR (x g : Fin 1024 → ℝ) (b : Fin 1024) : ℝ := x b * rinv x * g b

/-- The cotangent of the normed row: the product's cotangent times the swish's derivative. -/
def dyR (d x g : Fin 1024 → ℝ) (w : Fin 1024 → Fin 1024 → ℝ) (b : Fin 1024) : ℝ :=
  (∑ k, d k * w b k) * (logi (yR x g b) * (1 + yR x g b * (1 - logi (yR x g b))))

/-- The cotangent of the row. -/
def dcR (d x g : Fin 1024 → ℝ) (w : Fin 1024 → Fin 1024 → ℝ) (b : Fin 1024) : ℝ :=
  rinv x * (dyR d x g w b * g b - x b * rinv x * ((∑ k, dyR d x g w k * g k * (x k * rinv x)) / 1024))

/-- The row's share of the scale's cotangent. -/
def dgR (d x g : Fin 1024 → ℝ) (w : Fin 1024 → Fin 1024 → ℝ) (b : Fin 1024) : ℝ :=
  dyR d x g w b * (x b * rinv x)

/-! ## The body's payloads at arrays of reals -/

section Payloads

variable (d x : Fin 1024 → Fin 1024 → ℝ) (g : Fin 1024 → ℝ) (w : Fin 1024 → Fin 1024 → ℝ)
variable {v3 v8 : Vec Ideal S1024x1024 .f32} {v5 : Vec Ideal S1024x1024 .bf16} {v9 : Vec Ideal S1x1024 .f32}

/-- The reciprocal root of every row. -/
theorem pay1_real (h8 : ∀ a b, v8 (ix2 a b) = ((x a b : ℝ) : EReal)) (a : Fin 1024) (b : Fin 1) :
    k0_pay1 v8 (ix2 a b) = ((rinv (x a) : ℝ) : EReal) := by
  unfold k0_pay1
  pointwise
  simp only [h8, ofBits_1024, ofBits_eps, ← EReal.coe_mul, coe_sum, div_1024, ← EReal.coe_add, rsqrt_ms]

/-- The cotangent of every normed row. -/
theorem pay6_real (h3 : ∀ a b, v3 (ix2 a b) = ((d a b : ℝ) : EReal)) (h5 : ∀ a b, v5 (ix2 a b) = ((w a b : ℝ) : EReal))
    (h8 : ∀ a b, v8 (ix2 a b) = ((x a b : ℝ) : EReal)) (h9 : ∀ b, v9 (ix2 0 b) = ((g b : ℝ) : EReal)) (a b : Fin 1024) :
    k0_pay6 v3 v5 v8 v9 (ix2 a b) = ((dyR (d a) (x a) g w b : ℝ) : EReal) := by
  unfold k0_pay6
  pointwise [dot_S1024x1024_S1024x1024_S1024x1024_1_1_0_0_n_n]
  simp only [h3, h5, h8, h9, ofBits_1024, ofBits_eps, ← EReal.coe_mul, coe_sum, div_1024, ← EReal.coe_add, rsqrt_ms,
    zero_sub_coe, Ideal.exp_coe, one_add_coe, div_exp, one_sub_coe]
  rfl

/-- The cotangent of every row. -/
theorem pay3_real {v36 : FVec Ideal S1024x1024 .f32} (h8 : ∀ a b, v8 (ix2 a b) = ((x a b : ℝ) : EReal))
    (h9 : ∀ b, v9 (ix2 0 b) = ((g b : ℝ) : EReal))
    (h36 : ∀ a b, v36 (ix2 a b) = ((dyR (d a) (x a) g w b : ℝ) : EReal)) (a b : Fin 1024) :
    k0_pay3 v8 v36 v9 (ix2 a b) = ((dcR (d a) (x a) g w b : ℝ) : EReal) := by
  unfold k0_pay3 k0_pay2
  pointwise
  simp only [h8, h9, h36, pay1_real x h8, ofBits_1024, ← EReal.coe_mul, coe_sum, div_1024, ← EReal.coe_sub]
  rfl

/-- The block's rows' shares of the scale's cotangent, added to what the accumulator held. -/
theorem pay4_real {v36 : FVec Ideal S1024x1024 .f32} {v65 : Vec Ideal S1x1024 .f32} (o : Fin 1024 → ℝ)
    (h8 : ∀ a b, v8 (ix2 a b) = ((x a b : ℝ) : EReal)) (ho : ∀ b, v65 (ix2 0 b) = ((o b : ℝ) : EReal))
    (h36 : ∀ a b, v36 (ix2 a b) = ((dyR (d a) (x a) g w b : ℝ) : EReal)) (b : Fin 1024) :
    k0_pay4 v8 v36 v65 (ix2 0 b) = ((o b + ∑ a, dgR (d a) (x a) g w b : ℝ) : EReal) := by
  unfold k0_pay4 k0_pay2
  pointwise
  simp only [h8, ho, h36, pay1_real x h8, ← EReal.coe_mul, coe_sum, ← EReal.coe_add]
  rfl

/-- The accumulator's first contents: zero. -/
theorem pay5_real (b : Fin 1024) : k0_pay5 (F := Ideal) (ix2 0 b) = ((0 : ℝ) : EReal) := by
  unfold k0_pay5
  pointwise
  rfl

end Payloads

/-! ## The two cases' values: the payloads of the input blocks -/

theorem hz : (![0, 0] : Fin 2 → Nat) = fun _ => 0 := funext fun a => by fin_cases a <;> rfl

section Cases

variable (c : Dev nD) (i : grid0.Coords) (a1 : Memref sig .tc .vmem S1024x1024 .f32) (h1 : a1.IsWhole)
  (a2 : Memref sig .tc .vmem S1024x1024 .f32) (h2 : a2.IsWhole) (a3 : Memref sig .tc .vmem S1x1024 .f32) (h3 : a3.IsWhole)
  (a4 : Memref sig .tc .vmem S1024x1024 .bf16) (h4 : a4.IsWhole) (a5 : Memref sig .tc .vmem S1024x1024 .f32)
  (h5 : a5.IsWhole) (a6 : Memref sig .tc .vmem S1x1024 .f32) (h6 : a6.IsWhole)
  (x0 x1 : Vec Ideal S1024x1024 .f32) (x2 : Vec Ideal S1x1024 .f32) (x3 : Vec Ideal S1024x1024 .bf16)
  (xo : Vec Ideal S1x1024 .f32)

/-- The first point stores the row cotangents of its blocks, -/
theorem out_A_4 (hc : cond0_0 i) : out0_A_4 c i a1 h1 a2 h2 a3 h3 a4 h4 a5 h5 a6 h6 hc x0 x1 x2 x3
    = k0_pay3 x1 (k0_pay6 x0 x3 x1 x2) x2 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S1024x1024) hz, View.ld_unit_zero (S := S1x1024) hz]

/-- and every later point the same of its own. -/
theorem out_B_4 (hc : ¬cond0_0 i) : out0_B_4 c i a1 h1 a2 h2 a3 h3 a4 h4 a5 h5 a6 h6 hc x0 x1 x2 x3 xo
    = k0_pay3 x1 (k0_pay6 x0 x3 x1 x2) x2 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread,
    View.ld_unit_zero (S := S1024x1024) hz, View.ld_unit_zero (S := S1x1024) hz]

/-- The first point leaves in the accumulator its blocks' share over zero, -/
theorem out_A_5 (hc : cond0_0 i) : out0_A_5 c i a1 h1 a2 h2 a3 h3 a4 h4 a5 h5 a6 h6 hc x0 x1 x2 x3
    = k0_pay4 x1 (k0_pay6 x0 x3 x1 x2) (k0_pay5 (F := Ideal)) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S1024x1024) hz, View.ld_unit_zero (S := S1x1024) hz]

/-- and every later point its own over what the accumulator held. -/
theorem out_B_5 (hc : ¬cond0_0 i) : out0_B_5 c i a1 h1 a2 h2 a3 h3 a4 h4 a5 h5 a6 h6 hc x0 x1 x2 x3 xo
    = k0_pay4 x1 (k0_pay6 x0 x3 x1 x2) xo := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, h6.read_unread,
    View.ld_unit_zero (S := S1024x1024) hz, View.ld_unit_zero (S := S1x1024) hz]

end Cases

/-! ## The blocks of the input windows -/

section Blocks

variable (m : (ℓ : Loc nD τ sig) → Buf (Elt Ideal) ℓ) (c : Dev nD)

/-- Row `a` of the block at point `t` is row `1024 t + a` of the array. -/
def row (t : Fin cfg0.N) (a : Fin 1024) : Fin 8192 :=
  ⟨1024 * t.val + a.val, by have := t.isLt; have hN : cfg0.N = 8 := N_0; have := a.isLt; omega⟩

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)

theorem iblk_0 (t : Fin cfg0.N) (a b : Fin 1024) :
    (iblk m c 0 t : Vec Ideal S1024x1024 .f32) (ix2 a b) = m ((c : Thread nD τ).loc main_arg3) (ix2 (row t a) b) := by
  unfold iblk
  rw [View.read_apply]
  show V m c main_arg3 _ = _
  rw [V_main_arg3]
  congr 1
  funext k
  apply Fin.ext
  match k with
  | ⟨0, _⟩ => show win0_0.index t 0 * 1024 + 1 * a.val = 1024 * t.val + a.val; rw [(index_0 t).1]; omega
  | ⟨1, _⟩ => show win0_0.index t 1 * 1024 + 1 * b.val = b.val; rw [(index_0 t).2]; omega

theorem iblk_1 (t : Fin cfg0.N) (a b : Fin 1024) :
    (iblk m c 1 t : Vec Ideal S1024x1024 .f32) (ix2 a b) = m ((c : Thread nD τ).loc main_arg0) (ix2 (row t a) b) := by
  unfold iblk
  rw [View.read_apply]
  show V m c main_arg0 _ = _
  rw [V_main_arg0]
  congr 1
  funext k
  apply Fin.ext
  match k with
  | ⟨0, _⟩ => show win0_1.index t 0 * 1024 + 1 * a.val = 1024 * t.val + a.val; rw [(index_1 t).1]; omega
  | ⟨1, _⟩ => show win0_1.index t 1 * 1024 + 1 * b.val = b.val; rw [(index_1 t).2]; omega

theorem V_g : V m c main_v0 = broadcastInDim S1x1024 ![1] bcast_S1024_S1x1024_1 (m ((c : Thread nD τ).loc main_arg1)) := by
  unfold V
  simp only [hostOps0, StableHlo.unary, StableHlo.TRef.unary, StableHlo.TRef.toBuf, StableHlo.TRef.ofBuf, cast_eq]
  after_results_simp <;> rfl

theorem V_w : V m c main_v1 = truncf (F := Ideal) (s := S1024x1024) (φ := .f32) .bf16 (m ((c : Thread nD τ).loc main_arg2)) bitsLt_bf16_f32 := by
  unfold V
  simp only [hostOps0, StableHlo.unary, StableHlo.TRef.unary, StableHlo.TRef.toBuf, StableHlo.TRef.ofBuf, cast_eq]
  after_results_simp <;> rfl

theorem iblk_2 (t : Fin cfg0.N) (b : Fin 1024) :
    (iblk m c 2 t : Vec Ideal S1x1024 .f32) (ix2 0 b) = m ((c : Thread nD τ).loc main_arg1) (ix1 b) := by
  unfold iblk
  rw [View.read_apply]
  show V m c main_v0 _ = _
  rw [V_g]
  have e : ((cfg0.win 2).blk t).view.emb (ix2 0 b) = ix2 0 b := by
    funext k
    apply Fin.ext
    match k with
    | ⟨0, _⟩ => show win0_2.index t 0 * 1 + 1 * 0 = 0; rw [(index_2 t).1]
    | ⟨1, _⟩ => show win0_2.index t 1 * 1024 + 1 * b.val = b.val; rw [(index_2 t).2]; omega
  rw [e]
  pointwise

theorem iblk_3 (t : Fin cfg0.N) (a b : Fin 1024) :
    (iblk m c 3 t : Vec Ideal S1024x1024 .bf16) (ix2 a b) = m ((c : Thread nD τ).loc main_arg2) (ix2 a b) := by
  unfold iblk
  rw [View.read_apply]
  show V m c main_v1 _ = _
  rw [V_w]
  show m ((c : Thread nD τ).loc main_arg2) _ = _
  congr 1
  funext k
  apply Fin.ext
  match k with
  | ⟨0, _⟩ => show win0_3.index t 0 * 1024 + 1 * a.val = a.val; rw [(index_3 t).1]; omega
  | ⟨1, _⟩ => show win0_3.index t 1 * 1024 + 1 * b.val = b.val; rw [(index_3 t).2]; omega

end Blocks

/-! ## The result arrays -/

section Results

variable (m : (ℓ : Loc nD τ sig) → Buf (Elt Ideal) ℓ) (c : Dev nD)
variable (D C : Fin 8192 → Fin 1024 → ℝ) (G : Fin 1024 → ℝ) (W : Fin 1024 → Fin 1024 → ℝ)

/-- The arguments on device `c` are the given real arrays. -/
structure Args : Prop where
  conv : ∀ r b, m ((c : Thread nD τ).loc main_arg0) (ix2 r b) = ((C r b : ℝ) : EReal)
  scale : ∀ b, m ((c : Thread nD τ).loc main_arg1) (ix1 b) = ((G b : ℝ) : EReal)
  weight : ∀ a b, m ((c : Thread nD τ).loc main_arg2) (ix2 a b) = ((W a b : ℝ) : EReal)
  cot : ∀ r b, m ((c : Thread nD τ).loc main_arg3) (ix2 r b) = ((D r b : ℝ) : EReal)

/-- The first result: every row's cotangent. -/
def result4 : S8192x1024.Idx → EReal := fun i => ((dcR (D (i 0)) (C (i 0)) G W (i 1) : ℝ) : EReal)

/-- The second result: the rows' shares of the scale's cotangent, summed. -/
def result5 : S1x1024.Idx → EReal := fun i => ((∑ r, dgR (D r) (C r) G W (i 1) : ℝ) : EReal)

variable {m c D C G W}

theorem dy_block (h : Args m c D C G W) (t : Fin cfg0.N) (a b : Fin 1024) :
    k0_pay6 (F := Ideal) (iblk m c 0 t) (iblk m c 3 t) (iblk m c 1 t) (iblk m c 2 t) (ix2 a b)
      = ((dyR (D (row t a)) (C (row t a)) G W b : ℝ) : EReal) :=
  pay6_real (fun a => D (row t a)) (fun a => C (row t a)) G W (fun a b => (iblk_0 m c t a b).trans (h.cot _ _))
    (fun a b => (iblk_3 m c t a b).trans (h.weight _ _)) (fun a b => (iblk_1 m c t a b).trans (h.conv _ _))
    (fun b => (iblk_2 m c t b).trans (h.scale _)) a b

/-- What the first result's staging buffer holds after point `t`. -/
theorem outs_4 (h : Args m c D C G W) (t : Fin cfg0.N) (a b : Fin 1024) :
    (outsAt0 m c t.val t.isLt).1 (ix2 a b) = ((dcR (D (row t a)) (C (row t a)) G W b : ℝ) : EReal) := by
  have key := pay3_real (fun a => D (row t a)) (fun a => C (row t a)) G W (fun a b => (iblk_1 m c t a b).trans (h.conv _ _))
    (fun b => (iblk_2 m c t b).trans (h.scale _)) (dy_block h t) a b
  by_cases h0 : t.val % 8 = 0
  · rw [outsAt0_A m c t h0]; dsimp only; rw [out_A_4]; exact key
  · rw [outsAt0_B m c t h0]; dsimp only; rw [out_B_4]; exact key

/-- What the accumulator holds after point `n`: the shares of the rows of the first `n + 1` blocks. -/
theorem outs_5 (h : Args m c D C G W) (b : Fin 1024) : ∀ (n : ℕ) (hn : n < cfg0.N),
    (outsAt0 m c n hn).2 (ix2 0 b)
      = ((∑ s ∈ Finset.range (n + 1), ∑ a : Fin 1024, ext0 (fun r => dgR (D r) (C r) G W b) (1024 * s + a.val) : ℝ) : EReal) := by
  have key : ∀ (t : Fin cfg0.N) (xo : Vec Ideal S1x1024 .f32) (o : Fin 1024 → ℝ), (∀ b, xo (ix2 0 b) = ((o b : ℝ) : EReal)) → ∀ b,
      k0_pay4 (F := Ideal) (iblk m c 1 t) (k0_pay6 (iblk m c 0 t) (iblk m c 3 t) (iblk m c 1 t) (iblk m c 2 t)) xo (ix2 0 b)
        = ((o b + ∑ a : Fin 1024, ext0 (fun r => dgR (D r) (C r) G W b) (1024 * t.val + a.val) : ℝ) : EReal) := by
    intro t xo o ho b
    rw [pay4_real (fun a => D (row t a)) (fun a => C (row t a)) G W o (fun a b => (iblk_1 m c t a b).trans (h.conv _ _)) ho
      (dy_block h t) b]
    congr 3
    funext a
    exact (ext0_val (fun r => dgR (D r) (C r) G W b) (row t a)).symm
  intro n
  induction n generalizing b with
  | zero =>
    intro hn
    refine (congrFun (congrArg Prod.snd (outsAt0_A m c ⟨0, hn⟩ rfl)) _).trans ?_
    dsimp only
    rw [out_A_5, key _ _ (fun _ => 0) pay5_real b, zero_add, zero_add, Finset.sum_range_one]
  | succ n ih =>
    intro hn
    have hN : cfg0.N = 8 := N_0
    have hB : ¬(⟨n + 1, hn⟩ : Fin cfg0.N).val % 8 = 0 := by dsimp only; omega
    refine (congrFun (congrArg Prod.snd (outsAt0_B m c ⟨n + 1, hn⟩ hB)) _).trans ?_
    dsimp only
    rw [out_B_5]
    refine (key ⟨n + 1, hn⟩ (outsAt0 m c n (Nat.lt_of_succ_lt hn)).2 _ (fun b => ih b (Nat.lt_of_succ_lt hn)) b).trans ?_
    rw [Finset.sum_range_succ _ (n + 1)]

/-- What a point writes back to the first result is its block of `result4`. -/
theorem flushed_4 (h : Args m c D C G W) (t : Fin cfg0.N) :
    (dats m 0 c).flushed 4 t = ((cfg0.win 4).blk t).view.read (Elt Ideal) (result4 D C G W) := by
  rw [Value.flushed4]
  funext j
  rw [View.read_apply]
  obtain ⟨a, b, rfl⟩ : ∃ a b : Fin 1024, j = ix2 a b := ⟨j 0, j 1, eq_ix2 _⟩
  have e : ((cfg0.win 4).blk t).view.emb (ix2 a b) = ix2 (row t a) b := by
    funext k
    apply Fin.ext
    match k with
    | ⟨0, _⟩ => show win0_4.index t 0 * 1024 + 1 * a.val = 1024 * t.val + a.val; rw [(index_4 t).1]; omega
    | ⟨1, _⟩ => show win0_4.index t 1 * 1024 + 1 * b.val = b.val; rw [(index_4 t).2]; omega
  rw [e]
  exact outs_4 h t a b

/-- The blocks fill the first result. -/
theorem cover_4 (i : S8192x1024.Idx) :
    ∃ t : Fin cfg0.N, (cfg0.win 4).flush t = true ∧ i ∈ ((cfg0.win 4).blk t).view.set := by
  have hN : cfg0.N = 8 := N_0
  have h0 : (i 0).val < 8192 := (i 0).isLt
  have h1 : (i 1).val < 1024 := (i 1).isLt
  have ht : (i 0).val / 1024 < cfg0.N := by omega
  refine ⟨⟨(i 0).val / 1024, ht⟩, flush0_4 _, ?_⟩
  show i ∈ ((View.whole main_v2_0).slice (win0_4.rect ⟨(i 0).val / 1024, ht⟩)).set
  rw [View.set_slice_whole, Rect.mem_set_unit]
  intro k
  match k with
  | ⟨0, _⟩ =>
    show win0_4.index _ 0 * 1024 ≤ (i 0).val ∧ (i 0).val < win0_4.index _ 0 * 1024 + 1024
    rw [(index_4 _).1]; dsimp only; omega
  | ⟨1, _⟩ =>
    show win0_4.index _ 1 * 1024 ≤ (i 1).val ∧ (i 1).val < win0_4.index _ 1 * 1024 + 1024
    rw [(index_4 _).2]; omega

/-- The last point writes back the second result. -/
theorem flushed_5 (h : Args m c D C G W) (t : Fin cfg0.N) (hf : (cfg0.win 5).flush t = true) :
    (dats m 0 c).flushed 5 t = ((cfg0.win 5).blk t).view.read (Elt Ideal) (result5 D C G W) := by
  have hN : cfg0.N = 8 := N_0
  have h7 : t.val = 7 := by have := (flush0_5 t).mp hf; have := t.isLt; omega
  rw [Value.flushed5]
  funext j
  rw [View.read_apply]
  obtain ⟨a, b, rfl⟩ : ∃ (a : Fin 1) (b : Fin 1024), j = ix2 a b := ⟨j 0, j 1, eq_ix2 _⟩
  obtain rfl : a = 0 := Subsingleton.elim _ _
  have e : ((cfg0.win 5).blk t).view.emb (ix2 0 b) = ix2 0 b := by
    funext k
    apply Fin.ext
    match k with
    | ⟨0, _⟩ => show win0_5.index t 0 * 1 + 1 * 0 = 0; rw [(index_5 t).1]
    | ⟨1, _⟩ => show win0_5.index t 1 * 1024 + 1 * b.val = b.val; rw [(index_5 t).2]; omega
  rw [e]
  refine (outs_5 h b t.val t.isLt).trans ?_
  rw [h7, sum_blocks, sum_ext0]
  rfl

/-- The one block is the second result. -/
theorem cover_5 (i : S1x1024.Idx) :
    ∃ t : Fin cfg0.N, (cfg0.win 5).flush t = true ∧ i ∈ ((cfg0.win 5).blk t).view.set := by
  refine ⟨t0_7, (flush0_5 _).mpr rfl, ?_⟩
  have h0 : (i 0).val < 1 := (i 0).isLt
  have h1 : (i 1).val < 1024 := (i 1).isLt
  show i ∈ ((View.whole main_v2_1).slice (win0_5.rect t0_7)).set
  rw [View.set_slice_whole, Rect.mem_set_unit]
  intro k
  match k with
  | ⟨0, _⟩ =>
    show win0_5.index _ 0 * 1 ≤ (i 0).val ∧ (i 0).val < win0_5.index _ 0 * 1 + 1
    rw [(index_5 _).1]; omega
  | ⟨1, _⟩ =>
    show win0_5.index _ 1 * 1024 ≤ (i 1).val ∧ (i 1).val < win0_5.index _ 1 * 1024 + 1024
    rw [(index_5 _).2]; omega

/-- The first result array after the run, -/
theorem final_4 (h : Args m c D C G W) : (dats m 0 c).arrAt 4 cfg0.N = result4 D C G W :=
  (dats m 0 c).arrAt_eq_of_cover 4 (result4 D C G W) (fun t _ => flushed_4 h t) cover_4

/-- and the second. -/
theorem final_5 (h : Args m c D C G W) : (dats m 0 c).arrAt 5 cfg0.N = result5 D C G W :=
  (dats m 0 c).arrAt_eq_of_cover 5 (result5 D C G W) (fun t hf => flushed_5 h t hf) cover_5

end Results

end Cert.ConvPostIdeal.RealValue

end
-- ==== Proof.ConvPostReference.lean ====
/- What the reference `ConvPostRefIdeal` computes when every argument is an array of reals: the same two arrays of reals
   as the kernel's. -/
module

public import proofs.«01_k».proof.Proof.ConvPostKernel
public import proofs.«01_k».proof.Proof.Gen.ConvPostRefIdeal.Read

@[expose] public section

noncomputable section

namespace Cert.ConvPostRefIdeal.RealValue

open Cert.ConvPostRefIdeal Cert.ConvPostRefIdeal.Read Cert.RealValue
open Cert.ConvPostIdeal.RealValue (yR dyR dcR dgR)
open Idealize.ShloMosaic

variable {C D : Fin 8192 → Fin 1024 → ℝ} {G : Fin 1024 → ℝ} {W : Fin 1024 → Fin 1024 → ℝ}
variable {x0 x3 : S8192x1024.Idx → EReal} {x1 : S1024.Idx → EReal} {x2 : S1024x1024.Idx → EReal}

/-- The reciprocal root of every row, -/
theorem v7_real (h0 : ∀ r b, x0 (ix2 r b) = ((C r b : ℝ) : EReal)) (r : Fin 8192) (z : Fin 1) :
    val_main_v7 (F := Ideal) x0 (ix2 r z) = ((rinv (C r) : ℝ) : EReal) := by
  unfold val_main_v7 val_main_v6 val_main_v5 val_main_cst_1 val_main_v4 val_main_v3 val_main_cst_0 val_main_v2 val_main_v1
    val_main_v0 val_main_cst
  pointwise
  simp only [h0, ofBits_1024, ofBits_eps, ← EReal.coe_mul, coe_sum, div_1024, ← EReal.coe_add, rsqrt_ms]

/-- and its derivative with respect to the mean square. -/
theorem v10_real (h0 : ∀ r b, x0 (ix2 r b) = ((C r b : ℝ) : EReal)) (r : Fin 8192) (z : Fin 1) :
    val_main_v10 (F := Ideal) x0 (ix2 r z) = ((-(1 / 2) * (rinv (C r) / ms (C r)) : ℝ) : EReal) := by
  unfold val_main_v10 val_main_v9 val_main_cst_2 val_main_v8
  pointwise
  rw [v7_real h0]
  unfold val_main_v6 val_main_v5 val_main_cst_1 val_main_v4 val_main_v3 val_main_cst_0 val_main_v2 val_main_v1
    val_main_v0 val_main_cst
  pointwise
  simp only [h0, ofBits_1024, ofBits_eps, ofBits_neg_half, ← EReal.coe_mul, coe_sum, div_1024, ← EReal.coe_add, div_ms]

/-- The row over its root mean square, -/
theorem v12_real (h0 : ∀ r b, x0 (ix2 r b) = ((C r b : ℝ) : EReal)) (r : Fin 8192) (b : Fin 1024) :
    val_main_v12 (F := Ideal) x0 (ix2 r b) = ((C r b * rinv (C r) : ℝ) : EReal) := by
  unfold val_main_v12 val_main_v11
  pointwise
  simp only [h0, v7_real h0, ← EReal.coe_mul]

/-- and scaled. -/
theorem v15_real (h0 : ∀ r b, x0 (ix2 r b) = ((C r b : ℝ) : EReal)) (h1 : ∀ b, x1 (ix1 b) = ((G b : ℝ) : EReal))
    (r : Fin 8192) (b : Fin 1024) : val_main_v15 (F := Ideal) x0 x1 (ix2 r b) = ((yR (C r) G b : ℝ) : EReal) := by
  unfold val_main_v15 val_main_v14 val_main_v13
  pointwise
  simp only [h1, v12_real h0, ← EReal.coe_mul]
  rfl

/-- The logistic function of the normed row. -/
theorem v16_2_real (h0 : ∀ r b, x0 (ix2 r b) = ((C r b : ℝ) : EReal)) (h1 : ∀ b, x1 (ix1 b) = ((G b : ℝ) : EReal))
    (r : Fin 8192) (b : Fin 1024) : val_main_v16_2 (F := Ideal) x0 x1 (ix2 r b) = ((logi (yR (C r) G b) : ℝ) : EReal) := by
  unfold val_main_v16_2 val_main_call0_v4 val_main_call0_cst_0 val_main_call0_v3 val_main_call0_v2 val_main_call0_cst
    val_main_call0_v1 val_main_call0_v0
  pointwise
  simp only [v15_real h0 h1, ← EReal.coe_neg, Ideal.exp_coe, one_add_coe, div_exp, ofBits_one]

/-- The cotangent of the normed row. -/
theorem v19_real (h0 : ∀ r b, x0 (ix2 r b) = ((C r b : ℝ) : EReal)) (h1 : ∀ b, x1 (ix1 b) = ((G b : ℝ) : EReal))
    (h2 : ∀ a b, x2 (ix2 a b) = ((W a b : ℝ) : EReal)) (h3 : ∀ r b, x3 (ix2 r b) = ((D r b : ℝ) : EReal))
    (r : Fin 8192) (b : Fin 1024) :
    val_main_v19 (F := Ideal) x0 x1 x2 x3 (ix2 r b) = ((dyR (D r) (C r) G W b : ℝ) : EReal) := by
  unfold val_main_v19 val_main_call1_v2 val_main_call1_v1 val_main_call1_v0 val_main_v16_1 val_main_call0_v7
    val_main_call0_v6 val_main_call0_cst_1 val_main_v18
  pointwise [dot_S8192x1024_S1024x1024_S8192x1024_1_1_0_0_n_n]
  simp only [v15_real h0 h1, v16_2_real h0 h1, h2, h3, ofBits_one, one_sub_coe, ← EReal.coe_mul, coe_sum, ← EReal.coe_add]
  congr 1
  unfold dyR
  ring

/-- The scale's cotangent. -/
theorem v40_real (h0 : ∀ r b, x0 (ix2 r b) = ((C r b : ℝ) : EReal)) (h1 : ∀ b, x1 (ix1 b) = ((G b : ℝ) : EReal))
    (h2 : ∀ a b, x2 (ix2 a b) = ((W a b : ℝ) : EReal)) (h3 : ∀ r b, x3 (ix2 r b) = ((D r b : ℝ) : EReal))
    (z : Fin 1) (b : Fin 1024) :
    val_main_v40 (F := Ideal) x0 x1 x2 x3 (ix2 z b) = ((∑ r, dgR (D r) (C r) G W b : ℝ) : EReal) := by
  unfold val_main_v40 val_main_v25 val_main_v22 val_main_v21 val_main_v20 val_main_cst_3 val_main_cst_4
  pointwise
  simp only [v12_real h0, v19_real h0 h1 h2 h3, ← EReal.coe_mul, coe_sum]
  rw [EReal.coe_eq_coe_iff, Fin.sum_univ_one]
  exact Finset.sum_congr rfl fun r _ => mul_comm _ _

/-- The cotangent of the row: the two terms of the norm's derivative. -/
theorem v39_real (h0 : ∀ r b, x0 (ix2 r b) = ((C r b : ℝ) : EReal)) (h1 : ∀ b, x1 (ix1 b) = ((G b : ℝ) : EReal))
    (h2 : ∀ a b, x2 (ix2 a b) = ((W a b : ℝ) : EReal)) (h3 : ∀ r b, x3 (ix2 r b) = ((D r b : ℝ) : EReal))
    (r : Fin 8192) (b : Fin 1024) :
    val_main_v39 (F := Ideal) x0 x1 x2 x3 (ix2 r b) = ((dcR (D r) (C r) G W b : ℝ) : EReal) := by
  unfold val_main_v39 val_main_v38 val_main_v37 val_main_v36 val_main_v35 val_main_v34 val_main_v33 val_main_v32
    val_main_cst_6 val_main_cst_7 val_main_v31 val_main_v30 val_main_v29 val_main_v28 val_main_v27 val_main_v26 val_main_cst_5
    val_main_v24 val_main_v23 val_main_v13
  pointwise
  simp only [h0, h1, v7_real h0, v10_real h0, v19_real h0 h1 h2 h3, ofBits_1024, ← EReal.coe_mul, coe_sum, div_1024,
    ← EReal.coe_add]
  congr 1
  simp only [Fin.sum_univ_one, rinv_div_ms, dcR]
  have e : ∑ k, dyR (D r) (C r) G W k * G k * (C r k * rinv (C r))
      = rinv (C r) * ∑ k, C r k * (dyR (D r) (C r) G W k * G k) := by
    rw [Finset.mul_sum]; exact Finset.sum_congr rfl fun k _ => by ring
  rw [e]
  ring

end Cert.ConvPostRefIdeal.RealValue

end
-- ==== Proof.ConvPost.lean ====
/- The claims about `ConvPost`: on finite arguments the kernel's two results are the reference's. -/
module

public import proofs.«01_k».proof.Defs
public import proofs.«01_k».proof.Proof.ConvPostReference
public import proofs.«01_k».proof.Proof.Gen.Pre_conv_post_finite

@[expose] public section

noncomputable section

namespace Cert.ConvPostClaim

open Idealize.ShloMosaic Idealize.ShloMosaic.TcCoe Idealize.SL.Sem Cert.RealValue

/-- The precondition makes every argument an array of reals. -/
theorem finite {x0 x3 : FVec Ideal Pre_conv_post_finite.S8192x1024 .f32} {x1 : FVec Ideal Pre_conv_post_finite.S1024 .f32}
    {x2 : FVec Ideal Pre_conv_post_finite.S1024x1024 .f32}
    (h : Pre_conv_post_finite.fn (F := Ideal) x0 x1 x2 x3 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal)) := by
  have e := congrFun h (fun k => k.elim0)
  unfold Pre_conv_post_finite.fn Pre_conv_post_finite.fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨eq_coe_of_all (fun _ => ofBits_top) e0, eq_coe_of_all (fun _ => ofBits_top) e1,
    eq_coe_of_all (fun _ => ofBits_top) e2, eq_coe_of_all (fun _ => ofBits_top) e3⟩

/-- The reference's frame, from its generated run. -/
theorem reference_frame : quiescent_ConvPostRefIdeal := fun m ρ _ =>
  (θ_run ConvPostRefIdeal.defs _ _).mono
    (fun r h => ⟨fun c => (h c).2.2, sem_eq_zero_of_no_sems (by decide) r.2⟩)
    (ConvPostRefIdeal.Value.run (F := Ideal) m ρ)

/-- The value claim. -/
theorem algebraic : algebraic_ConvPostIdeal_ConvPostRefIdeal_pre_conv_post_finite := by
  intro m ρ m' ρ' hpre hag
  let C := fun (c : Dev ConvPostIdeal.nD) (r : Fin 8192) (b : Fin 1024) =>
    EReal.toReal (m ((c.tc : Thread ConvPostIdeal.nD ConvPostIdeal.τ).loc ConvPostIdeal.main_arg0) (ix2 r b))
  let G := fun (c : Dev ConvPostIdeal.nD) (b : Fin 1024) =>
    EReal.toReal (m ((c.tc : Thread ConvPostIdeal.nD ConvPostIdeal.τ).loc ConvPostIdeal.main_arg1) (ix1 b))
  let W := fun (c : Dev ConvPostIdeal.nD) (a b : Fin 1024) =>
    EReal.toReal (m ((c.tc : Thread ConvPostIdeal.nD ConvPostIdeal.τ).loc ConvPostIdeal.main_arg2) (ix2 a b))
  let D := fun (c : Dev ConvPostIdeal.nD) (r : Fin 8192) (b : Fin 1024) =>
    EReal.toReal (m ((c.tc : Thread ConvPostIdeal.nD ConvPostIdeal.τ).loc ConvPostIdeal.main_arg3) (ix2 r b))
  have hargs : ∀ c, ConvPostIdeal.RealValue.Args m c (D c) (C c) (G c) (W c) := fun c =>
    ⟨fun r b => (finite (hpre c)).1 _, fun b => (finite (hpre c)).2.1 _, fun a b => (finite (hpre c)).2.2.1 _,
      fun r b => (finite (hpre c)).2.2.2 _⟩
  refine ⟨fun c => ConvPostIdeal.RealValue.result4 (D c) (C c) (G c) (W c),
    fun c => ConvPostIdeal.RealValue.result5 (D c) (C c) (G c) (W c), ?_, ?_⟩
  · exact (θ_run ConvPostIdeal.defs _ _).mono
      (fun r h c => ⟨(h c).1.trans (ConvPostIdeal.RealValue.final_4 (hargs c)),
        (h c).2.1.trans (ConvPostIdeal.RealValue.final_5 (hargs c)), (h c).2.2⟩)
      (ConvPostIdeal.Value.run_blocks m ρ)
  · refine (θ_run ConvPostRefIdeal.defs _ _).mono (fun r h c => ⟨(h c).1.trans ?_, (h c).2.1.trans ?_, (h c).2.2⟩)
      (ConvPostRefIdeal.Value.run (F := Ideal) m' ρ')
    · rw [ConvPostRefIdeal.Read.val_main_v39_eq, (hag c).1, (hag c).2.1, (hag c).2.2.1, (hag c).2.2.2]
      funext i
      obtain ⟨a, b, rfl⟩ : ∃ (a : Fin 8192) (b : Fin 1024), i = ix2 a b := ⟨i 0, i 1, eq_ix2 _⟩
      exact ConvPostRefIdeal.RealValue.v39_real (hargs c).conv (hargs c).scale (hargs c).weight (hargs c).cot a b
    · rw [ConvPostRefIdeal.Read.val_main_v40_eq, (hag c).1, (hag c).2.1, (hag c).2.2.1, (hag c).2.2.2]
      funext i
      obtain ⟨a, b, rfl⟩ : ∃ (a : Fin 1) (b : Fin 1024), i = ix2 a b := ⟨i 0, i 1, eq_ix2 _⟩
      exact ConvPostRefIdeal.RealValue.v40_real (hargs c).conv (hargs c).scale (hargs c).weight (hargs c).cot a b

end Cert.ConvPostClaim

end
-- ==== Proof.Layout.lean ====
/- The padded layout of the hidden width: 2816 columns in eight parts of 352, each given a place of 384 whose last 32
   entries are zero. -/
module

public import proofs.«01_k».proof.Proof.Reals
public import Idealize.ShloMosaic.Lib.Pointwise

@[expose] public section

noncomputable section

namespace Cert.Layout

open Idealize.ShloMosaic Idealize.ShloMosaic.TcCoe

/-- The offsets of a whole block are zero. -/
theorem hz : (![0, 0] : Fin 2 → Nat) = fun _ => 0 := funext fun a => by fin_cases a <;> rfl
theorem hz3 : (![0, 0, 0] : Fin 3 → Nat) = fun _ => 0 := funext fun a => by fin_cases a <;> rfl

/-- Column `j` of the padded layout: the column it holds, or zero in the padding. -/
def padE {M : Type} [Zero M] (f : Fin 2816 → M) (j : Fin 3072) : M :=
  if h : j.val % 384 < 352 then f ⟨j.val / 384 * 352 + j.val % 384, by have := j.isLt; omega⟩ else 0

/-- The integer zero converted to a float is zero. -/
theorem sitofp_zero : FloatOps.sitofp (F := Ideal) .f32 (0#32) = (0 : EReal) := by
  show (((0#32 : BitVec 32).toInt : ℝ) : EReal) = 0
  simp

/-- Reshaping to the parts, padding each and reshaping back is the padded layout: an array of 8192 rows, -/
theorem columns_8192 (x : FVec Ideal ⟨2, ![8192, 2816]⟩ .f32) (z : FVec Ideal ⟨0, ![]⟩ .f32) (hz : ∀ i, z i = 0) (h1) (h2) (h3) (h4)
    (r : Fin 8192) (j : Fin 3072) :
    shapeCast ⟨2, ![8192, 3072]⟩ (pad ⟨3, ![8192, 8, 384]⟩ ![0, 0, 0] ![0, 0, 32] ![0, 0, 0]
        (shapeCast ⟨3, ![8192, 8, 352]⟩ x h1) z h2 h3) h4 (ix2 r j)
      = padE (M := EReal) (fun q => x (ix2 r q)) j := by
  pointwise
  have := j.isLt
  unfold padE
  by_cases h : j.val % 384 < 352
  · rw [dif_pos ⟨by omega, h⟩, dif_pos h]
  · rw [dif_neg (fun e => h e.2), dif_neg h, hz]

/-- one of 1024 rows, -/
theorem columns_1024 (x : FVec Ideal ⟨2, ![1024, 2816]⟩ .f32) (z : FVec Ideal ⟨0, ![]⟩ .f32) (hz : ∀ i, z i = 0) (h1) (h2) (h3) (h4)
    (r : Fin 1024) (j : Fin 3072) :
    shapeCast ⟨2, ![1024, 3072]⟩ (pad ⟨3, ![1024, 8, 384]⟩ ![0, 0, 0] ![0, 0, 32] ![0, 0, 0]
        (shapeCast ⟨3, ![1024, 8, 352]⟩ x h1) z h2 h3) h4 (ix2 r j)
      = padE (M := EReal) (fun q => x (ix2 r q)) j := by
  pointwise
  have := j.isLt
  unfold padE
  by_cases h : j.val % 384 < 352
  · rw [dif_pos ⟨by omega, h⟩, dif_pos h]
  · rw [dif_neg (fun e => h e.2), dif_neg h, hz]

/-- and one padded along its rows. -/
theorem rows_1024 (x : FVec Ideal ⟨2, ![2816, 1024]⟩ .f32) (z : FVec Ideal ⟨0, ![]⟩ .f32) (hz : ∀ i, z i = 0) (h1) (h2) (h3) (h4)
    (j : Fin 3072) (b : Fin 1024) :
    shapeCast ⟨2, ![3072, 1024]⟩ (pad ⟨3, ![8, 384, 1024]⟩ ![0, 0, 0] ![0, 32, 0] ![0, 0, 0]
        (shapeCast ⟨3, ![8, 352, 1024]⟩ x h1) z h2 h3) h4 (ix2 j b)
      = padE (M := EReal) (fun q => x (ix2 q b)) j := by
  pointwise
  have := j.isLt
  unfold padE
  by_cases h : j.val % 384 < 352
  · rw [dif_pos ⟨by omega, h⟩, dif_pos h]
  · rw [dif_neg (fun e => h e.2), dif_neg h, hz]

/-- Two padded arrays stacked. -/
theorem stack_8192 (x y : FVec Ideal ⟨2, ![8192, 2816]⟩ .f32) (z : FVec Ideal ⟨0, ![]⟩ .f32) (hz : ∀ i, z i = 0) (h1) (h2) (h3) (h4)
    (h5) (h6) (h7) (g : Fin 2) (r : Fin 8192) (j : Fin 3072) :
    concatenate ⟨3, ![2, 8192, 3072]⟩ 0
      [⟨⟨3, ![1, 8192, 3072]⟩, broadcastInDim ⟨3, ![1, 8192, 3072]⟩ ![1, 2] h5 (truncf (F := Ideal) (s := ⟨2, ![8192, 3072]⟩) (φ := .f32) .bf16
        (shapeCast ⟨2, ![8192, 3072]⟩ (pad ⟨3, ![8192, 8, 384]⟩ ![0, 0, 0] ![0, 0, 32] ![0, 0, 0]
          (shapeCast ⟨3, ![8192, 8, 352]⟩ x h1) z h2 h3) h4) h6)⟩,
       ⟨⟨3, ![1, 8192, 3072]⟩, broadcastInDim ⟨3, ![1, 8192, 3072]⟩ ![1, 2] h5 (truncf (F := Ideal) (s := ⟨2, ![8192, 3072]⟩) (φ := .f32) .bf16
        (shapeCast ⟨2, ![8192, 3072]⟩ (pad ⟨3, ![8192, 8, 384]⟩ ![0, 0, 0] ![0, 0, 32] ![0, 0, 0]
          (shapeCast ⟨3, ![8192, 8, 352]⟩ y h1) z h2 h3) h4) h6)⟩] h7 (ix3 g r j)
      = padE (M := EReal) (fun q => if g.val = 0 then x (ix2 r q) else y (ix2 r q)) j := by
  pointwise
  have := j.isLt
  unfold padE
  match g with
  | 0 =>
    by_cases h : j.val % 384 < 352
    · simp [h, show j.val / 384 < 8 by omega]
    · simp [h, hz]
  | 1 =>
    by_cases h : j.val % 384 < 352
    · simp [h, show j.val / 384 < 8 by omega]
    · simp [h, hz]

/-- A sum of products with padded columns is the padded column of the sums: a padding column's factor is zero, -/
theorem sum_mul_padE {n : ℕ} (x : Fin n → EReal) (f : Fin n → Fin 2816 → EReal) (j : Fin 3072) :
    ∑ r, x r * padE (f r) j = padE (fun q => ∑ r, f r q * x r) j := by
  unfold padE
  split
  · exact Finset.sum_congr rfl fun r _ => mul_comm _ _
  · simp

/-- on either side. -/
theorem sum_padE_mul {n : ℕ} (x : Fin n → EReal) (f : Fin n → Fin 2816 → EReal) (j : Fin 3072) :
    ∑ r, padE (f r) j * x r = padE (fun q => ∑ r, x r * f r q) j := by
  unfold padE
  split
  · exact Finset.sum_congr rfl fun r _ => mul_comm _ _
  · simp

/-- The padded layout of real columns is real, -/
theorem padE_coe (f : Fin 2816 → ℝ) (j : Fin 3072) : padE (fun q => ((f q : ℝ) : EReal)) j = ((padE f j : ℝ) : EReal) := by
  unfold padE
  split
  · rfl
  · exact EReal.coe_zero.symm

/-- an entrywise function that keeps zero keeps it, -/
theorem padE_map (F : ℝ → ℝ → ℝ → ℝ) (h0 : F 0 0 0 = 0) (f g h : Fin 2816 → ℝ) (j : Fin 3072) :
    F (padE f j) (padE g j) (padE h j) = padE (fun q => F (f q) (g q) (h q)) j := by
  unfold padE
  split
  · rfl
  · exact h0

/-- and its entries have the columns' sum. -/
theorem sum_padE {M : Type} [AddCommMonoid M] (f : Fin 2816 → M) : ∑ j, padE f j = ∑ q, f q := by
  symm
  refine Finset.sum_of_injOn (fun q : Fin 2816 => (⟨q.val / 352 * 384 + q.val % 352, by have := q.isLt; omega⟩ : Fin 3072)) ?_
    (fun _ _ => Finset.mem_coe.mpr (Finset.mem_univ _)) ?_ ?_
  · intro q _ q' _ e
    have e' : q.val / 352 * 384 + q.val % 352 = q'.val / 352 * 384 + q'.val % 352 := congrArg Fin.val e
    exact Fin.ext (by omega)
  · intro j _ hj
    unfold padE
    split
    · rename_i h
      refine absurd ⟨⟨j.val / 384 * 352 + j.val % 384, by have := j.isLt; omega⟩, Finset.mem_coe.mpr (Finset.mem_univ _), Fin.ext ?_⟩ hj
      dsimp only
      have := j.isLt
      omega
    · rfl
  · intro q _
    have hq := q.isLt
    unfold padE
    rw [dif_pos (by dsimp only; omega)]
    exact congrArg f (Fin.ext (by dsimp only; omega))

end Cert.Layout

end
-- ==== Proof.GradExt.lean ====
/- The accumulator of a weight gradient: four blocks of rows, summed one after another. -/
module

public import proofs.«01_k».proof.Proof.Layout

@[expose] public section

noncomputable section

namespace Cert.GradExt

/-- A value that starts a block of four points with its first term and then adds a term at each point is the sum of the terms met. -/
theorem acc_blocks {N : ℕ} (acc : (n : ℕ) → n < N → EReal) (T : ℕ → ℕ → EReal) (first : ∀ n hn, n % 4 = 0 → acc n hn = T (n / 4) (n % 4))
    (next : ∀ n (hn : n + 1 < N), (n + 1) % 4 ≠ 0 → acc (n + 1) hn = acc n (Nat.lt_of_succ_lt hn) + T ((n + 1) / 4) ((n + 1) % 4)) :
    ∀ n hn, acc n hn = ∑ s ∈ Finset.range (n % 4 + 1), T (n / 4) s := by
  have reset : ∀ n hn, n % 4 = 0 → acc n hn = ∑ s ∈ Finset.range (n % 4 + 1), T (n / 4) s := fun n hn h0 => by
    rw [first n hn h0, h0, zero_add, Finset.sum_range_one]
  intro n
  induction n with
  | zero => exact fun hn => reset 0 hn rfl
  | succ n ih =>
    intro hn
    by_cases h0 : (n + 1) % 4 = 0
    · exact reset (n + 1) hn h0
    · rw [next n hn h0, ih, show (n + 1) / 4 = n / 4 by omega, show (n + 1) % 4 = n % 4 + 1 by omega, Finset.sum_range_succ _ (n % 4 + 1)]

end Cert.GradExt

end
-- ==== Proof.GradInKernel.lean ====
/- What the kernel `GradInIdeal` leaves in its result array: for each of the two stacked cotangents, the product of the
   transposed activations with the padded cotangent. -/
module

public import proofs.«01_k».proof.Proof.GradExt
public import proofs.«01_k».proof.Proof.Gen.GradInIdeal.Value
public import Idealize.ShloMosaic.Lib.StableHlo.RunRead

@[expose] public section

noncomputable section

namespace Cert.GradInIdeal.RealValue

open Cert.GradInIdeal Cert.GradInIdeal.Gen Cert.RealValue Cert.Layout
open Idealize.ShloMosaic Idealize.ShloMosaic.TcCoe Idealize.SL.Sem

/-! ## The body's payloads at an index -/

/-- The accumulator is reset to zero; -/
theorem pay1_at (a : Fin 1024) (b : Fin 1536) : k0_pay1 (F := Ideal) (ix2 a b) = 0 := by
  unfold k0_pay1
  pointwise

/-- a point adds the product of its two blocks, contracted along their rows; -/
theorem pay2_at (v3 : Vec Ideal S1024x1536 .f32) (v4 : Vec Ideal S2048x1024 .bf16) (v6 : Vec Ideal S1x2048x1536 .bf16) (a : Fin 1024) (b : Fin 1536) :
    k0_pay2 v3 v4 v6 (ix2 a b) = v3 (ix2 a b) + ∑ q : Fin 2048, v4 (ix2 q a) * v6 (ix3 (0 : Fin 1) q b) := by
  unfold k0_pay2
  pointwise [dot_S2048x1024_S2048x1536_S1024x1536_0_0_1_1_n_n]

/-- and the last point of a block writes the accumulator out. -/
theorem pay3_at (v : Vec Ideal S1024x1536 .f32) (a : Fin 1024) (b : Fin 1536) : k0_pay3 (F := Ideal) v (ix3 (0 : Fin 1) a b) = v (ix2 a b) := by
  unfold k0_pay3
  pointwise

/-! ## The cases' values -/

section Cases

variable (c : Dev nD) (i : grid0.Coords) (a1 : Memref sig .tc .vmem S2048x1024 .bf16) (h1 : a1.IsWhole)
  (a2 : Memref sig .tc .vmem S1x2048x1536 .bf16) (h2 : a2.IsWhole) (a3 : Memref sig .tc .vmem S1x1024x1536 .bf16) (h3 : a3.IsWhole)
  (a4 : Memref sig .tc .vmem S1024x1536 .f32) (h4 : a4.IsWhole)
  (x0 : Vec Ideal S2048x1024 .bf16) (x1 : Vec Ideal S1x2048x1536 .bf16) (xs : Vec Ideal S1024x1536 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1536) hz, View.readCov_unit_zero (S := S1024x1536) _ hz]
  simp only [View.readAt_eq_ld, h1.read_unread, h2.read_unread, h4.read_unread,
    View.ld_unit_zero (S := S2048x1024) hz, View.ld_unit_zero (S := S1x2048x1536) hz3, View.ld_unit_zero (S := S1024x1536) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1024x1536) hz]
  simp only [View.readAt_eq_ld, h1.read_unread, h2.read_unread, h4.read_unread,
    View.ld_unit_zero (S := S2048x1024) hz, View.ld_unit_zero (S := S1x2048x1536) hz3, View.ld_unit_zero (S := S1024x1536) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1024x1536) hz]
  simp only [View.readAt_eq_ld, h1.read_unread, h2.read_unread, h4.read_unread,
    View.ld_unit_zero (S := S2048x1024) hz, View.ld_unit_zero (S := S1x2048x1536) hz3, View.ld_unit_zero (S := S1024x1536) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1x1024x1536) hz3, View.readCov_unit_zero (S := S1024x1536) _ hz]
  simp only [View.readAt_eq_ld, h1.read_unread, h2.read_unread, h4.read_unread,
    View.ld_unit_zero (S := S2048x1024) hz, View.ld_unit_zero (S := S1x2048x1536) hz3, View.ld_unit_zero (S := S1024x1536) hz]

end Cases

/-! ## The blocks of the two operands -/

section Blocks

variable (m : (ℓ : Loc nD τ sig) → Buf (Elt Ideal) ℓ) (c : Dev nD)

/-- The group of block `p` of the result, -/
def grp (p : ℕ) : Fin 2 := ⟨p / 2 % 2, by omega⟩
/-- The row of the result that row `a` of its block `p` is, -/
def rowOf (p : ℕ) (a : Fin 1024) : Fin 1024 := ⟨p / 2 % 1 * 1024 + a.val, by have := a.isLt; omega⟩
/-- its column, -/
def colOf (p : ℕ) (b : Fin 1536) : Fin 3072 := ⟨p % 2 * 1536 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 2 % 1 :=
  (by decide +kernel : ∀ t : Fin grid0.N, win0_0.index t 0 = t.val % 4 ∧ win0_0.index t 1 = t.val / 4 / 2 % 1)
theorem index_1 : ∀ t : Fin cfg0.N, win0_1.index t 0 = t.val / 4 / 2 % 2 ∧ win0_1.index t 1 = t.val % 4 ∧ win0_1.index t 2 = t.val / 4 % 2 :=
  (by decide +kernel : ∀ t : Fin grid0.N, win0_1.index t 0 = t.val / 4 / 2 % 2 ∧ win0_1.index t 1 = t.val % 4 ∧ win0_1.index t 2 = t.val / 4 % 2)
theorem index_2 : ∀ t : Fin cfg0.N, win0_2.index t 0 = t.val / 4 / 2 % 2 ∧ win0_2.index t 1 = t.val / 4 / 2 % 1 ∧ win0_2.index t 2 = t.val / 4 % 2 :=
  (by decide +kernel : ∀ t : Fin grid0.N, win0_2.index t 0 = t.val / 4 / 2 % 2 ∧ win0_2.index t 1 = t.val / 4 / 2 % 1 ∧ win0_2.index t 2 = t.val / 4 % 2)

/-- The first operand's array at the region's entry, -/
abbrev left (r : Fin 8192) (a : Fin 1024) : EReal := V m c main_v0 (ix2 r a)
/-- and the second's. -/
abbrev right (g : Fin 2) (r : Fin 8192) (b : Fin 3072) : EReal := V m c main_v11 (ix3 g r b)

theorem iblk_0 (t : Fin cfg0.N) (q : Fin 2048) (a : Fin 1024) :
    (iblk m c 0 t : Vec Ideal S2048x1024 .bf16) (ix2 q a) = left m c (midOf t.val q) (rowOf (t.val / 4) a) := by
  refine congrArg (V m c main_v0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1024 + 1 * a.val = t.val / 4 / 2 % 1 * 1024 + a.val; rw [(index_0 t).2]; omega

theorem iblk_1 (t : Fin cfg0.N) (q : Fin 2048) (b : Fin 1536) :
    (iblk m c 1 t : Vec Ideal S1x2048x1536 .bf16) (ix3 (0 : Fin 1) q b) = right m c (grp (t.val / 4)) (midOf t.val q) (colOf (t.val / 4) b) := by
  refine congrArg (V m c main_v11) (funext fun k => Fin.ext ?_)
  match k with
  | ⟨0, _⟩ => show win0_1.index t 0 * 1 + 1 * 0 = t.val / 4 / 2 % 2; rw [(index_1 t).1]; omega
  | ⟨1, _⟩ => show win0_1.index t 1 * 2048 + 1 * q.val = 2048 * (t.val % 4) + q.val; rw [(index_1 t).2.1]; omega
  | ⟨2, _⟩ => show win0_1.index t 2 * 1536 + 1 * b.val = t.val / 4 % 2 * 1536 + b.val; rw [(index_1 t).2.2]; omega

/-! ## The accumulator and the result -/

/-- The term of row `r` in entry `(a, b)` of block `p` of the result. -/
def term (p : ℕ) (a : Fin 1024) (b : Fin 1536) (r : Fin 8192) : EReal :=
  left m c r (rowOf p a) * right m c (grp p) r (colOf p b)

/-- What a point adds to the accumulator, -/
theorem step_at (t : Fin cfg0.N) (xs : Vec Ideal S1024x1536 .f32) (a : Fin 1024) (b : Fin 1536) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1024) (b : Fin 1536) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S2x1024x3072.Idx → EReal := fun i => ∑ r : Fin 8192, left m c r (i 1) * right m c (i 0) r (i 2)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 16 := N_0
  have hlt := t.isLt
  rw [Value.flushed2]
  funext j
  rw [View.read_apply]
  obtain ⟨z, a, b, rfl⟩ : ∃ (z : Fin 1) (a : Fin 1024) (b : Fin 1536), j = ix3 z a b := ⟨j 0, j 1, j 2, eq_ix3 _⟩
  obtain rfl : z = 0 := Subsingleton.elim _ _
  have e : ((cfg0.win 2).blk t).view.emb (ix3 0 a b) = ix3 (grp (t.val / 4)) (rowOf (t.val / 4) a) (colOf (t.val / 4) b) := by
    funext k
    apply Fin.ext
    match k with
    | ⟨0, _⟩ => show win0_2.index t 0 * 1 + 1 * 0 = t.val / 4 / 2 % 2; rw [(index_2 t).1]; omega
    | ⟨1, _⟩ => show win0_2.index t 1 * 1024 + 1 * a.val = t.val / 4 / 2 % 1 * 1024 + a.val; rw [(index_2 t).2.1]; omega
    | ⟨2, _⟩ => show win0_2.index t 2 * 1536 + 1 * b.val = t.val / 4 % 2 * 1536 + b.val; rw [(index_2 t).2.2]; omega
  rw [e]
  show (outsAt0 m c t.val t.isLt).1 (ix3 0 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S2x1024x3072.Idx) :
    ∃ t : Fin cfg0.N, (cfg0.win 2).flush t = true ∧ i ∈ ((cfg0.win 2).blk t).view.set := by
  have hN : cfg0.N = 16 := N_0
  have h0 : (i 0).val < 2 := (i 0).isLt
  have h1 : (i 1).val < 1024 := (i 1).isLt
  have h2 : (i 2).val < 3072 := (i 2).isLt
  let p := (i 0).val * 2 + (i 1).val / 1024 * 2 + (i 2).val / 1536
  have ht : 4 * p + 3 < cfg0.N := by dsimp only [p]; omega
  refine ⟨⟨4 * p + 3, ht⟩, (flush0_2 _).mpr (by dsimp only; omega), ?_⟩
  show i ∈ ((View.whole main_v12).slice (win0_2.rect ⟨4 * p + 3, ht⟩)).set
  rw [View.set_slice_whole, Rect.mem_set_unit]
  intro k
  match k with
  | ⟨0, _⟩ =>
    show win0_2.index _ 0 * 1 ≤ (i 0).val ∧ (i 0).val < win0_2.index _ 0 * 1 + 1
    rw [(index_2 _).1]; dsimp only [p]; omega
  | ⟨1, _⟩ =>
    show win0_2.index _ 1 * 1024 ≤ (i 1).val ∧ (i 1).val < win0_2.index _ 1 * 1024 + 1024
    rw [(index_2 _).2.1]; dsimp only [p]; omega
  | ⟨2, _⟩ =>
    show win0_2.index _ 2 * 1536 ≤ (i 2).val ∧ (i 2).val < win0_2.index _ 2 * 1536 + 1536
    rw [(index_2 _).2.2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 1024) : left m c r a = m ((c : Thread nD τ).loc main_arg0) (ix2 r a) := by
  unfold left V
  after_reads_simp
  rfl

theorem right_at (g : Fin 2) (r : Fin 8192) (j : Fin 3072) : right m c g r j = padE (M := EReal)
    (fun q => if g.val = 0 then m ((c : Thread nD τ).loc main_arg3) (ix2 r q) else m ((c : Thread nD τ).loc main_arg4) (ix2 r q)) j := by
  refine Eq.trans ?_ (stack_8192 (m ((c : Thread nD τ).loc main_arg3)) (m ((c : Thread nD τ).loc main_arg4)) (sitofp (F := Ideal) .f32 (constantI S_ 32 0#32))
    (fun _ => sitofp_zero) shapeCasts_S8192x2816_S8192x8x352 pads_S8192x8x352_S8192x8x384_000_000_0320 h_S_ shapeCasts_S8192x8x384_S8192x3072
    bcast_S8192x3072_S1x8192x3072_1_2 bitsLt_bf16_f32 concatenates_S1x8192x3072_S1x8192x3072_S2x8192x3072_d0 g r j)
  unfold right V
  after_reads_simp
  rfl

end Blocks

end Cert.GradInIdeal.RealValue

end
-- ==== Proof.GradIn.lean ====
/- The claims about `GradIn`: the gradients of the gate's two weights are the reference's. -/
module

public import proofs.«01_k».proof.Defs
public import proofs.«01_k».proof.Proof.GradInKernel
public import proofs.«01_k».proof.Proof.Gen.GradInRefIdeal.Run
public import proofs.«01_k».proof.Proof.Gen.GradInRefIdeal.Read

@[expose] public section

noncomputable section

namespace Cert.GradInClaim

open Idealize.ShloMosaic Idealize.ShloMosaic.TcCoe Idealize.SL.Sem Cert.Layout

open Cert.GradInRefIdeal Cert.GradInRefIdeal.Read in
/-- One weight's gradient, at an entry: column `q` of the cotangent times column `a` of the input, summed over the rows. -/
theorem v5_entry (x0 : FVec Ideal S8192x1024 .f32) (x3 : FVec Ideal S8192x2816 .f32) (a : Fin 1024) (q : Fin 2816) :
    val_main_v5 (F := Ideal) x0 x3 (ix2 a q) = ∑ r : Fin 8192, x3 (ix2 r q) * x0 (ix2 r a) := by
  unfold val_main_v5 val_main_v4
  pointwise [dot_S8192x2816_S8192x1024_S2816x1024_0_0_1_1_n_n]

open Cert.GradInRefIdeal Cert.GradInRefIdeal.Read in
/-- One weight's gradient, at an entry: column `q` of the cotangent times column `a` of the input, summed over the rows. -/
theorem v3_entry (x0 : FVec Ideal S8192x1024 .f32) (x4 : FVec Ideal S8192x2816 .f32) (a : Fin 1024) (q : Fin 2816) :
    val_main_v3 (F := Ideal) x0 x4 (ix2 a q) = ∑ r : Fin 8192, x4 (ix2 r q) * x0 (ix2 r a) := by
  unfold val_main_v3 val_main_v2
  pointwise [dot_S8192x2816_S8192x1024_S2816x1024_0_0_1_1_n_n]

open Cert.GradInRefIdeal Cert.GradInRefIdeal.Read in
/-- The same in the padded layout. -/
theorem v8_entry (x0 : FVec Ideal S8192x1024 .f32) (x3 : FVec Ideal S8192x2816 .f32) (a : Fin 1024) (j : Fin 3072) :
    val_main_v8 (F := Ideal) x0 x3 (ix2 a j) = padE (M := EReal) (fun q => ∑ r : Fin 8192, x3 (ix2 r q) * x0 (ix2 r a)) j := by
  unfold val_main_v8 val_main_v7 val_main_v6
  refine (columns_1024 (val_main_v5 (F := Ideal) x0 x3) _ (fun _ => sitofp_zero) _ _ _ _ a j).trans ?_
  exact congrArg (fun f : Fin 2816 → EReal => padE (M := EReal) f j) (funext fun q => v5_entry x0 x3 a q)

open Cert.GradInRefIdeal Cert.GradInRefIdeal.Read in
/-- The same in the padded layout. -/
theorem v11_entry (x0 : FVec Ideal S8192x1024 .f32) (x4 : FVec Ideal S8192x2816 .f32) (a : Fin 1024) (j : Fin 3072) :
    val_main_v11 (F := Ideal) x0 x4 (ix2 a j) = padE (M := EReal) (fun q => ∑ r : Fin 8192, x4 (ix2 r q) * x0 (ix2 r a)) j := by
  unfold val_main_v11 val_main_v10 val_main_v9
  refine (columns_1024 (val_main_v3 (F := Ideal) x0 x4) _ (fun _ => sitofp_zero) _ _ _ _ a j).trans ?_
  exact congrArg (fun f : Fin 2816 → EReal => padE (M := EReal) f j) (funext fun q => v3_entry x0 x4 a q)

open Cert.GradInRefIdeal Cert.GradInRefIdeal.Read in
/-- The reference's result: both gradients, stacked. -/
theorem v15_entry (x0 : FVec Ideal S8192x1024 .f32) (x3 x4 : FVec Ideal S8192x2816 .f32) (g : Fin 2) (a : Fin 1024) (j : Fin 3072) :
    val_main_v15 (F := Ideal) x0 x3 x4 (ix3 g a j)
      = padE (M := EReal) (fun q => ∑ r : Fin 8192, (if g.val = 0 then x3 (ix2 r q) else x4 (ix2 r q)) * x0 (ix2 r a)) j := by
  have h : val_main_v15 (F := Ideal) x0 x3 x4 (ix3 g a j)
      = if g.val = 0 then val_main_v8 (F := Ideal) x0 x3 (ix2 a j) else val_main_v11 (F := Ideal) x0 x4 (ix2 a j) := by
    unfold val_main_v15 val_main_v14 val_main_v13 val_main_v12
    generalize val_main_v8 (F := Ideal) x0 x3 = y
    generalize val_main_v11 (F := Ideal) x0 x4 = z
    fin_cases g <;> pointwise
  rw [h]
  by_cases hg : g.val = 0
  · simp only [if_pos hg]
    exact v8_entry x0 x3 a j
  · simp only [if_neg hg]
    exact v11_entry x0 x4 a j

/-- The reference's frame, from its generated run. -/
theorem reference_frame : quiescent_GradInRefIdeal := fun m ρ _ =>
  (θ_run GradInRefIdeal.defs _ _).mono
    (fun r h => ⟨fun c => (h c).2, sem_eq_zero_of_no_sems (by decide) r.2⟩)
    (GradInRefIdeal.Value.run (F := Ideal) m ρ)

/-- The value claim. -/
theorem algebraic : algebraic_GradInIdeal_GradInRefIdeal := by
  intro m ρ m' ρ' _ hag
  refine ⟨fun c => GradInIdeal.RealValue.result m c, ?_, ?_⟩
  · exact (θ_run GradInIdeal.defs _ _).mono (fun r h c => ⟨(h c).1.trans (GradInIdeal.RealValue.final_2 m c), (h c).2⟩) (GradInIdeal.Value.run_blocks m ρ)
  · refine (θ_run GradInRefIdeal.defs _ _).mono (fun r h c => ⟨(h c).1.trans ?_, (h c).2⟩) (GradInRefIdeal.Value.run (F := Ideal) m' ρ')
    rw [(hag c).1, (hag c).2.2.2.1, (hag c).2.2.2.2]
    refine (GradInRefIdeal.Read.val_main_v15_eq _ _ _).trans ?_
    funext i
    obtain ⟨u, v, w, rfl⟩ : ∃ (u : Fin 2) (v : Fin 1024) (w : Fin 3072), i = ix3 u v w := ⟨i 0, i 1, i 2, eq_ix3 _⟩
    refine (v15_entry _ _ _ u v w).trans ?_
    show _ = ∑ r : Fin 8192, GradInIdeal.RealValue.left m c r v * GradInIdeal.RealValue.right m c u r w
    exact ((Finset.sum_congr rfl fun r _ => congrArg₂ (· * ·) (GradInIdeal.RealValue.left_at m c r v) (GradInIdeal.RealValue.right_at m c u r w)).trans (sum_mul_padE _ _ w)).symm

end Cert.GradInClaim

end
-- ==== Proof.GradInOneKernel.lean ====
/- What the kernel `GradInOneIdeal` leaves in its result array: the product of the transposed activations with the
   first of the two stacked padded cotangents. -/
module

public import proofs.«01_k».proof.Proof.GradExt
public import proofs.«01_k».proof.Proof.Gen.GradInOneIdeal.Value
public import Idealize.ShloMosaic.Lib.StableHlo.RunRead

@[expose] public section

noncomputable section

namespace Cert.GradInOneIdeal.RealValue

open Cert.GradInOneIdeal Cert.GradInOneIdeal.Gen Cert.RealValue Cert.Layout
open Idealize.ShloMosaic Idealize.ShloMosaic.TcCoe Idealize.SL.Sem

/-! ## The body's payloads at an index -/

/-- The accumulator is reset to zero; -/
theorem pay1_at (a : Fin 1024) (b : Fin 1536) : k0_pay1 (F := Ideal) (ix2 a b) = 0 := by
  unfold k0_pay1
  pointwise

/-- a point adds the product of its two blocks, contracted along their rows; -/
theorem pay2_at (v3 : Vec Ideal S1024x1536 .f32) (v4 : Vec Ideal S2048x1024 .bf16) (v6 : Vec Ideal S1x2048x1536 .bf16) (a : Fin 1024) (b : Fin 1536) :
    k0_pay2 v3 v4 v6 (ix2 a b) = v3 (ix2 a b) + ∑ q : Fin 2048, v4 (ix2 q a) * v6 (ix3 (0 : Fin 1) q b) := by
  unfold k0_pay2
  pointwise [dot_S2048x1024_S2048x1536_S1024x1536_0_0_1_1_n_n]

/-- and the last point of a block writes the accumulator out. -/
theorem pay3_at (v : Vec Ideal S1024x1536 .f32) (a : Fin 1024) (b : Fin 1536) : k0_pay3 (F := Ideal) v (ix2 a b) = v (ix2 a b) := by
  unfold k0_pay3
  pointwise

/-! ## The cases' values -/

section Cases

variable (c : Dev nD) (i : grid0.Coords) (a1 : Memref sig .tc .vmem S2048x1024 .bf16) (h1 : a1.IsWhole)
  (a2 : Memref sig .tc .vmem S1x2048x1536 .bf16) (h2 : a2.IsWhole) (a3 : Memref sig .tc .vmem S1024x1536 .bf16) (h3 : a3.IsWhole)
  (a4 : Memref sig .tc .vmem S1024x1536 .f32) (h4 : a4.IsWhole)
  (x0 : Vec Ideal S2048x1024 .bf16) (x1 : Vec Ideal S1x2048x1536 .bf16) (xs : Vec Ideal S1024x1536 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1536) hz, View.readCov_unit_zero (S := S1024x1536) _ hz]
  simp only [View.readAt_eq_ld, h1.read_unread, h2.read_unread, h4.read_unread,
    View.ld_unit_zero (S := S2048x1024) hz, View.ld_unit_zero (S := S1x2048x1536) hz3, View.ld_unit_zero (S := S1024x1536) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1024x1536) hz]
  simp only [View.readAt_eq_ld, h1.read_unread, h2.read_unread, h4.read_unread,
    View.ld_unit_zero (S := S2048x1024) hz, View.ld_unit_zero (S := S1x2048x1536) hz3, View.ld_unit_zero (S := S1024x1536) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1024x1536) hz]
  simp only [View.readAt_eq_ld, h1.read_unread, h2.read_unread, h4.read_unread,
    View.ld_unit_zero (S := S2048x1024) hz, View.ld_unit_zero (S := S1x2048x1536) hz3, View.ld_unit_zero (S := S1024x1536) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1024x1536) hz, View.readCov_unit_zero (S := S1024x1536) _ hz]
  simp only [View.readAt_eq_ld, h1.read_unread, h2.read_unread, h4.read_unread,
    View.ld_unit_zero (S := S2048x1024) hz, View.ld_unit_zero (S := S1x2048x1536) hz3, View.ld_unit_zero (S := S1024x1536) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 1024) : Fin 1024 := ⟨p / 2 % 1 * 1024 + a.val, by have := a.isLt; omega⟩
/-- its column, -/
def colOf (p : ℕ) (b : Fin 1536) : Fin 3072 := ⟨p % 2 * 1536 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 2 % 1 :=
  (by decide +kernel : ∀ t : Fin grid0.N, win0_0.index t 0 = t.val % 4 ∧ win0_0.index t 1 = t.val / 4 / 2 % 1)
theorem index_1 : ∀ t : Fin cfg0.N, win0_1.index t 0 = 0 ∧ win0_1.index t 1 = t.val % 4 ∧ win0_1.index t 2 = t.val / 4 % 2 :=
  (by decide +kernel : ∀ t : Fin grid0.N, win0_1.index t 0 = 0 ∧ win0_1.index t 1 = t.val % 4 ∧ win0_1.index t 2 = t.val / 4 % 2)
theorem index_2 : ∀ t : Fin cfg0.N, win0_2.index t 0 = t.val / 4 / 2 % 1 ∧ win0_2.index t 1 = t.val / 4 % 2 :=
  (by decide +kernel : ∀ t : Fin grid0.N, win0_2.index t 0 = t.val / 4 / 2 % 1 ∧ win0_2.index t 1 = t.val / 4 % 2)

/-- The first operand's array at the region's entry, -/
abbrev left (r : Fin 8192) (a : Fin 1024) : EReal := V m c main_v0 (ix2 r a)
/-- and the second's. -/
abbrev right (g : Fin 2) (r : Fin 8192) (b : Fin 3072) : EReal := V m c main_v11 (ix3 g r b)

theorem iblk_0 (t : Fin cfg0.N) (q : Fin 2048) (a : Fin 1024) :
    (iblk m c 0 t : Vec Ideal S2048x1024 .bf16) (ix2 q a) = left m c (midOf t.val q) (rowOf (t.val / 4) a) := by
  refine congrArg (V m c main_v0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1024 + 1 * a.val = t.val / 4 / 2 % 1 * 1024 + a.val; rw [(index_0 t).2]; omega

theorem iblk_1 (t : Fin cfg0.N) (q : Fin 2048) (b : Fin 1536) :
    (iblk m c 1 t : Vec Ideal S1x2048x1536 .bf16) (ix3 (0 : Fin 1) q b) = right m c 0 (midOf t.val q) (colOf (t.val / 4) b) := by
  refine congrArg (V m c main_v11) (funext fun k => Fin.ext ?_)
  match k with
  | ⟨0, _⟩ => show win0_1.index t 0 * 1 + 1 * 0 = 0; rw [(index_1 t).1]
  | ⟨1, _⟩ => show win0_1.index t 1 * 2048 + 1 * q.val = 2048 * (t.val % 4) + q.val; rw [(index_1 t).2.1]; omega
  | ⟨2, _⟩ => show win0_1.index t 2 * 1536 + 1 * b.val = t.val / 4 % 2 * 1536 + b.val; rw [(index_1 t).2.2]; omega

/-! ## The accumulator and the result -/

/-- The term of row `r` in entry `(a, b)` of block `p` of the result. -/
def term (p : ℕ) (a : Fin 1024) (b : Fin 1536) (r : Fin 8192) : EReal :=
  left m c r (rowOf p a) * right m c 0 r (colOf p b)

/-- What a point adds to the accumulator, -/
theorem step_at (t : Fin cfg0.N) (xs : Vec Ideal S1024x1536 .f32) (a : Fin 1024) (b : Fin 1536) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1024) (b : Fin 1536) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S1024x3072.Idx → EReal := fun i => ∑ r : Fin 8192, left m c r (i 0) * right m c 0 r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 8 := N_0
  have hlt := t.isLt
  rw [Value.flushed2]
  funext j
  rw [View.read_apply]
  obtain ⟨a, b, rfl⟩ : ∃ (a : Fin 1024) (b : Fin 1536), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 1024 + 1 * a.val = t.val / 4 / 2 % 1 * 1024 + a.val; rw [(index_2 t).1]; omega
    | ⟨1, _⟩ => show win0_2.index t 1 * 1536 + 1 * b.val = t.val / 4 % 2 * 1536 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S1024x3072.Idx) :
    ∃ t : Fin cfg0.N, (cfg0.win 2).flush t = true ∧ i ∈ ((cfg0.win 2).blk t).view.set := by
  have hN : cfg0.N = 8 := N_0
  have h0 : (i 0).val < 1024 := (i 0).isLt
  have h1 : (i 1).val < 3072 := (i 1).isLt
  let p := (i 0).val / 1024 * 2 + (i 1).val / 1536
  have ht : 4 * p + 3 < cfg0.N := by dsimp only [p]; omega
  refine ⟨⟨4 * p + 3, ht⟩, (flush0_2 _).mpr (by dsimp only; omega), ?_⟩
  show i ∈ ((View.whole main_v12).slice (win0_2.rect ⟨4 * p + 3, ht⟩)).set
  rw [View.set_slice_whole, Rect.mem_set_unit]
  intro k
  match k with
  | ⟨0, _⟩ =>
    show win0_2.index _ 0 * 1024 ≤ (i 0).val ∧ (i 0).val < win0_2.index _ 0 * 1024 + 1024
    rw [(index_2 _).1]; dsimp only [p]; omega
  | ⟨1, _⟩ =>
    show win0_2.index _ 1 * 1536 ≤ (i 1).val ∧ (i 1).val < win0_2.index _ 1 * 1536 + 1536
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 1024) : left m c r a = m ((c : Thread nD τ).loc main_arg0) (ix2 r a) := by
  unfold left V
  after_reads_simp
  rfl

theorem right_at (g : Fin 2) (r : Fin 8192) (j : Fin 3072) : right m c g r j = padE (M := EReal)
    (fun q => if g.val = 0 then m ((c : Thread nD τ).loc main_arg3) (ix2 r q) else m ((c : Thread nD τ).loc main_arg4) (ix2 r q)) j := by
  refine Eq.trans ?_ (stack_8192 (m ((c : Thread nD τ).loc main_arg3)) (m ((c : Thread nD τ).loc main_arg4)) (sitofp (F := Ideal) .f32 (constantI S_ 32 0#32))
    (fun _ => sitofp_zero) shapeCasts_S8192x2816_S8192x8x352 pads_S8192x8x352_S8192x8x384_000_000_0320 h_S_ shapeCasts_S8192x8x384_S8192x3072
    bcast_S8192x3072_S1x8192x3072_1_2 bitsLt_bf16_f32 concatenates_S1x8192x3072_S1x8192x3072_S2x8192x3072_d0 g r j)
  unfold right V
  after_reads_simp
  rfl

end Blocks

end Cert.GradInOneIdeal.RealValue

end
-- ==== Proof.GradInOne.lean ====
/- The claims about `GradInOne`: the gradient of the gate's first weight is the reference's. -/
module

public import proofs.«01_k».proof.Defs
public import proofs.«01_k».proof.Proof.GradInOneKernel
public import proofs.«01_k».proof.Proof.Gen.GradInOneRefIdeal.Run
public import proofs.«01_k».proof.Proof.Gen.GradInOneRefIdeal.Read

@[expose] public section

noncomputable section

namespace Cert.GradInOneClaim

open Idealize.ShloMosaic Idealize.ShloMosaic.TcCoe Idealize.SL.Sem Cert.Layout

open Cert.GradInOneRefIdeal Cert.GradInOneRefIdeal.Read in
/-- One weight's gradient, at an entry: column `q` of the cotangent times column `a` of the input, summed over the rows. -/
theorem v5_entry (x0 : FVec Ideal S8192x1024 .f32) (x3 : FVec Ideal S8192x2816 .f32) (a : Fin 1024) (q : Fin 2816) :
    val_main_v5 (F := Ideal) x0 x3 (ix2 a q) = ∑ r : Fin 8192, x3 (ix2 r q) * x0 (ix2 r a) := by
  unfold val_main_v5 val_main_v4
  pointwise [dot_S8192x2816_S8192x1024_S2816x1024_0_0_1_1_n_n]

open Cert.GradInOneRefIdeal Cert.GradInOneRefIdeal.Read in
/-- The same in the padded layout. -/
theorem v8_entry (x0 : FVec Ideal S8192x1024 .f32) (x3 : FVec Ideal S8192x2816 .f32) (a : Fin 1024) (j : Fin 3072) :
    val_main_v8 (F := Ideal) x0 x3 (ix2 a j) = padE (M := EReal) (fun q => ∑ r : Fin 8192, x3 (ix2 r q) * x0 (ix2 r a)) j := by
  unfold val_main_v8 val_main_v7 val_main_v6
  refine (columns_1024 (val_main_v5 (F := Ideal) x0 x3) _ (fun _ => sitofp_zero) _ _ _ _ a j).trans ?_
  exact congrArg (fun f : Fin 2816 → EReal => padE (M := EReal) f j) (funext fun q => v5_entry x0 x3 a q)

/-- The reference's frame, from its generated run. -/
theorem reference_frame : quiescent_GradInOneRefIdeal := fun m ρ _ =>
  (θ_run GradInOneRefIdeal.defs _ _).mono
    (fun r h => ⟨fun c => (h c).2, sem_eq_zero_of_no_sems (by decide) r.2⟩)
    (GradInOneRefIdeal.Value.run (F := Ideal) m ρ)

/-- The value claim. -/
theorem algebraic : algebraic_GradInOneIdeal_GradInOneRefIdeal := by
  intro m ρ m' ρ' _ hag
  refine ⟨fun c => GradInOneIdeal.RealValue.result m c, ?_, ?_⟩
  · exact (θ_run GradInOneIdeal.defs _ _).mono (fun r h c => ⟨(h c).1.trans (GradInOneIdeal.RealValue.final_2 m c), (h c).2⟩) (GradInOneIdeal.Value.run_blocks m ρ)
  · refine (θ_run GradInOneRefIdeal.defs _ _).mono (fun r h c => ⟨(h c).1.trans ?_, (h c).2⟩) (GradInOneRefIdeal.Value.run (F := Ideal) m' ρ')
    rw [(hag c).1, (hag c).2.2.2.1]
    refine (GradInOneRefIdeal.Read.val_main_v9_eq _ _).trans ?_
    funext i
    obtain ⟨u, v, rfl⟩ : ∃ (u : Fin 1024) (v : Fin 3072), i = ix2 u v := ⟨i 0, i 1, eq_ix2 _⟩
    refine (v8_entry _ _ u v).trans ?_
    show _ = ∑ r : Fin 8192, GradInOneIdeal.RealValue.left m c r u * GradInOneIdeal.RealValue.right m c 0 r v
    exact ((Finset.sum_congr rfl fun r _ => congrArg₂ (· * ·) (GradInOneIdeal.RealValue.left_at m c r u) (GradInOneIdeal.RealValue.right_at m c 0 r v)).trans (sum_mul_padE _ _ v)).symm

end Cert.GradInOneClaim

end
-- ==== Proof.GradInThreeKernel.lean ====
/- What the kernel `GradInThreeIdeal` leaves in its result array: the product of the transposed activations with the
   second of the two stacked padded cotangents. -/
module

public import proofs.«01_k».proof.Proof.GradExt
public import proofs.«01_k».proof.Proof.Gen.GradInThreeIdeal.Value
public import Idealize.ShloMosaic.Lib.StableHlo.RunRead

@[expose] public section

noncomputable section

namespace Cert.GradInThreeIdeal.RealValue

open Cert.GradInThreeIdeal Cert.GradInThreeIdeal.Gen Cert.RealValue Cert.Layout
open Idealize.ShloMosaic Idealize.ShloMosaic.TcCoe Idealize.SL.Sem

/-! ## The body's payloads at an index -/

/-- The accumulator is reset to zero; -/
theorem pay1_at (a : Fin 1024) (b : Fin 1536) : k0_pay1 (F := Ideal) (ix2 a b) = 0 := by
  unfold k0_pay1
  pointwise

/-- a point adds the product of its two blocks, contracted along their rows; -/
theorem pay2_at (v3 : Vec Ideal S1024x1536 .f32) (v4 : Vec Ideal S2048x1024 .bf16) (v6 : Vec Ideal S1x2048x1536 .bf16) (a : Fin 1024) (b : Fin 1536) :
    k0_pay2 v3 v4 v6 (ix2 a b) = v3 (ix2 a b) + ∑ q : Fin 2048, v4 (ix2 q a) * v6 (ix3 (0 : Fin 1) q b) := by
  unfold k0_pay2
  pointwise [dot_S2048x1024_S2048x1536_S1024x1536_0_0_1_1_n_n]

/-- and the last point of a block writes the accumulator out. -/
theorem pay3_at (v : Vec Ideal S1024x1536 .f32) (a : Fin 1024) (b : Fin 1536) : k0_pay3 (F := Ideal) v (ix2 a b) = v (ix2 a b) := by
  unfold k0_pay3
  pointwise

/-! ## The cases' values -/

section Cases

variable (c : Dev nD) (i : grid0.Coords) (a1 : Memref sig .tc .vmem S2048x1024 .bf16) (h1 : a1.IsWhole)
  (a2 : Memref sig .tc .vmem S1x2048x1536 .bf16) (h2 : a2.IsWhole) (a3 : Memref sig .tc .vmem S1024x1536 .bf16) (h3 : a3.IsWhole)
  (a4 : Memref sig .tc .vmem S1024x1536 .f32) (h4 : a4.IsWhole)
  (x0 : Vec Ideal S2048x1024 .bf16) (x1 : Vec Ideal S1x2048x1536 .bf16) (xs : Vec Ideal S1024x1536 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1536) hz, View.readCov_unit_zero (S := S1024x1536) _ hz]
  simp only [View.readAt_eq_ld, h1.read_unread, h2.read_unread, h4.read_unread,
    View.ld_unit_zero (S := S2048x1024) hz, View.ld_unit_zero (S := S1x2048x1536) hz3, View.ld_unit_zero (S := S1024x1536) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1024x1536) hz]
  simp only [View.readAt_eq_ld, h1.read_unread, h2.read_unread, h4.read_unread,
    View.ld_unit_zero (S := S2048x1024) hz, View.ld_unit_zero (S := S1x2048x1536) hz3, View.ld_unit_zero (S := S1024x1536) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1024x1536) hz]
  simp only [View.readAt_eq_ld, h1.read_unread, h2.read_unread, h4.read_unread,
    View.ld_unit_zero (S := S2048x1024) hz, View.ld_unit_zero (S := S1x2048x1536) hz3, View.ld_unit_zero (S := S1024x1536) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1024x1536) hz, View.readCov_unit_zero (S := S1024x1536) _ hz]
  simp only [View.readAt_eq_ld, h1.read_unread, h2.read_unread, h4.read_unread,
    View.ld_unit_zero (S := S2048x1024) hz, View.ld_unit_zero (S := S1x2048x1536) hz3, View.ld_unit_zero (S := S1024x1536) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 1024) : Fin 1024 := ⟨p / 2 % 1 * 1024 + a.val, by have := a.isLt; omega⟩
/-- its column, -/
def colOf (p : ℕ) (b : Fin 1536) : Fin 3072 := ⟨p % 2 * 1536 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 2 % 1 :=
  (by decide +kernel : ∀ t : Fin grid0.N, win0_0.index t 0 = t.val % 4 ∧ win0_0.index t 1 = t.val / 4 / 2 % 1)
theorem index_1 : ∀ t : Fin cfg0.N, win0_1.index t 0 = 1 ∧ win0_1.index t 1 = t.val % 4 ∧ win0_1.index t 2 = t.val / 4 % 2 :=
  (by decide +kernel : ∀ t : Fin grid0.N, win0_1.index t 0 = 1 ∧ win0_1.index t 1 = t.val % 4 ∧ win0_1.index t 2 = t.val / 4 % 2)
theorem index_2 : ∀ t : Fin cfg0.N, win0_2.index t 0 = t.val / 4 / 2 % 1 ∧ win0_2.index t 1 = t.val / 4 % 2 :=
  (by decide +kernel : ∀ t : Fin grid0.N, win0_2.index t 0 = t.val / 4 / 2 % 1 ∧ win0_2.index t 1 = t.val / 4 % 2)

/-- The first operand's array at the region's entry, -/
abbrev left (r : Fin 8192) (a : Fin 1024) : EReal := V m c main_v0 (ix2 r a)
/-- and the second's. -/
abbrev right (g : Fin 2) (r : Fin 8192) (b : Fin 3072) : EReal := V m c main_v11 (ix3 g r b)

theorem iblk_0 (t : Fin cfg0.N) (q : Fin 2048) (a : Fin 1024) :
    (iblk m c 0 t : Vec Ideal S2048x1024 .bf16) (ix2 q a) = left m c (midOf t.val q) (rowOf (t.val / 4) a) := by
  refine congrArg (V m c main_v0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1024 + 1 * a.val = t.val / 4 / 2 % 1 * 1024 + a.val; rw [(index_0 t).2]; omega

theorem iblk_1 (t : Fin cfg0.N) (q : Fin 2048) (b : Fin 1536) :
    (iblk m c 1 t : Vec Ideal S1x2048x1536 .bf16) (ix3 (0 : Fin 1) q b) = right m c 1 (midOf t.val q) (colOf (t.val / 4) b) := by
  refine congrArg (V m c main_v11) (funext fun k => Fin.ext ?_)
  match k with
  | ⟨0, _⟩ => show win0_1.index t 0 * 1 + 1 * 0 = 1; rw [(index_1 t).1]
  | ⟨1, _⟩ => show win0_1.index t 1 * 2048 + 1 * q.val = 2048 * (t.val % 4) + q.val; rw [(index_1 t).2.1]; omega
  | ⟨2, _⟩ => show win0_1.index t 2 * 1536 + 1 * b.val = t.val / 4 % 2 * 1536 + b.val; rw [(index_1 t).2.2]; omega

/-! ## The accumulator and the result -/

/-- The term of row `r` in entry `(a, b)` of block `p` of the result. -/
def term (p : ℕ) (a : Fin 1024) (b : Fin 1536) (r : Fin 8192) : EReal :=
  left m c r (rowOf p a) * right m c 1 r (colOf p b)

/-- What a point adds to the accumulator, -/
theorem step_at (t : Fin cfg0.N) (xs : Vec Ideal S1024x1536 .f32) (a : Fin 1024) (b : Fin 1536) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1024) (b : Fin 1536) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S1024x3072.Idx → EReal := fun i => ∑ r : Fin 8192, left m c r (i 0) * right m c 1 r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 8 := N_0
  have hlt := t.isLt
  rw [Value.flushed2]
  funext j
  rw [View.read_apply]
  obtain ⟨a, b, rfl⟩ : ∃ (a : Fin 1024) (b : Fin 1536), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 1024 + 1 * a.val = t.val / 4 / 2 % 1 * 1024 + a.val; rw [(index_2 t).1]; omega
    | ⟨1, _⟩ => show win0_2.index t 1 * 1536 + 1 * b.val = t.val / 4 % 2 * 1536 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S1024x3072.Idx) :
    ∃ t : Fin cfg0.N, (cfg0.win 2).flush t = true ∧ i ∈ ((cfg0.win 2).blk t).view.set := by
  have hN : cfg0.N = 8 := N_0
  have h0 : (i 0).val < 1024 := (i 0).isLt
  have h1 : (i 1).val < 3072 := (i 1).isLt
  let p := (i 0).val / 1024 * 2 + (i 1).val / 1536
  have ht : 4 * p + 3 < cfg0.N := by dsimp only [p]; omega
  refine ⟨⟨4 * p + 3, ht⟩, (flush0_2 _).mpr (by dsimp only; omega), ?_⟩
  show i ∈ ((View.whole main_v12).slice (win0_2.rect ⟨4 * p + 3, ht⟩)).set
  rw [View.set_slice_whole, Rect.mem_set_unit]
  intro k
  match k with
  | ⟨0, _⟩ =>
    show win0_2.index _ 0 * 1024 ≤ (i 0).val ∧ (i 0).val < win0_2.index _ 0 * 1024 + 1024
    rw [(index_2 _).1]; dsimp only [p]; omega
  | ⟨1, _⟩ =>
    show win0_2.index _ 1 * 1536 ≤ (i 1).val ∧ (i 1).val < win0_2.index _ 1 * 1536 + 1536
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 1024) : left m c r a = m ((c : Thread nD τ).loc main_arg0) (ix2 r a) := by
  unfold left V
  after_reads_simp
  rfl

theorem right_at (g : Fin 2) (r : Fin 8192) (j : Fin 3072) : right m c g r j = padE (M := EReal)
    (fun q => if g.val = 0 then m ((c : Thread nD τ).loc main_arg3) (ix2 r q) else m ((c : Thread nD τ).loc main_arg4) (ix2 r q)) j := by
  refine Eq.trans ?_ (stack_8192 (m ((c : Thread nD τ).loc main_arg3)) (m ((c : Thread nD τ).loc main_arg4)) (sitofp (F := Ideal) .f32 (constantI S_ 32 0#32))
    (fun _ => sitofp_zero) shapeCasts_S8192x2816_S8192x8x352 pads_S8192x8x352_S8192x8x384_000_000_0320 h_S_ shapeCasts_S8192x8x384_S8192x3072
    bcast_S8192x3072_S1x8192x3072_1_2 bitsLt_bf16_f32 concatenates_S1x8192x3072_S1x8192x3072_S2x8192x3072_d0 g r j)
  unfold right V
  after_reads_simp
  rfl

end Blocks

end Cert.GradInThreeIdeal.RealValue

end
-- ==== Proof.GradInThree.lean ====
/- The claims about `GradInThree`: the gradient of the gate's second weight is the reference's. -/
module

public import proofs.«01_k».proof.Defs
public import proofs.«01_k».proof.Proof.GradInThreeKernel
public import proofs.«01_k».proof.Proof.Gen.GradInThreeRefIdeal.Run
public import proofs.«01_k».proof.Proof.Gen.GradInThreeRefIdeal.Read

@[expose] public section

noncomputable section

namespace Cert.GradInThreeClaim

open Idealize.ShloMosaic Idealize.ShloMosaic.TcCoe Idealize.SL.Sem Cert.Layout

open Cert.GradInThreeRefIdeal Cert.GradInThreeRefIdeal.Read in
/-- One weight's gradient, at an entry: column `q` of the cotangent times column `a` of the input, summed over the rows. -/
theorem v3_entry (x0 : FVec Ideal S8192x1024 .f32) (x4 : FVec Ideal S8192x2816 .f32) (a : Fin 1024) (q : Fin 2816) :
    val_main_v3 (F := Ideal) x0 x4 (ix2 a q) = ∑ r : Fin 8192, x4 (ix2 r q) * x0 (ix2 r a) := by
  unfold val_main_v3 val_main_v2
  pointwise [dot_S8192x2816_S8192x1024_S2816x1024_0_0_1_1_n_n]

open Cert.GradInThreeRefIdeal Cert.GradInThreeRefIdeal.Read in
/-- The same in the padded layout. -/
theorem v8_entry (x0 : FVec Ideal S8192x1024 .f32) (x4 : FVec Ideal S8192x2816 .f32) (a : Fin 1024) (j : Fin 3072) :
    val_main_v8 (F := Ideal) x0 x4 (ix2 a j) = padE (M := EReal) (fun q => ∑ r : Fin 8192, x4 (ix2 r q) * x0 (ix2 r a)) j := by
  unfold val_main_v8 val_main_v7 val_main_v6
  refine (columns_1024 (val_main_v3 (F := Ideal) x0 x4) _ (fun _ => sitofp_zero) _ _ _ _ a j).trans ?_
  exact congrArg (fun f : Fin 2816 → EReal => padE (M := EReal) f j) (funext fun q => v3_entry x0 x4 a q)

/-- The reference's frame, from its generated run. -/
theorem reference_frame : quiescent_GradInThreeRefIdeal := fun m ρ _ =>
  (θ_run GradInThreeRefIdeal.defs _ _).mono
    (fun r h => ⟨fun c => (h c).2, sem_eq_zero_of_no_sems (by decide) r.2⟩)
    (GradInThreeRefIdeal.Value.run (F := Ideal) m ρ)

/-- The value claim. -/
theorem algebraic : algebraic_GradInThreeIdeal_GradInThreeRefIdeal := by
  intro m ρ m' ρ' _ hag
  refine ⟨fun c => GradInThreeIdeal.RealValue.result m c, ?_, ?_⟩
  · exact (θ_run GradInThreeIdeal.defs _ _).mono (fun r h c => ⟨(h c).1.trans (GradInThreeIdeal.RealValue.final_2 m c), (h c).2⟩) (GradInThreeIdeal.Value.run_blocks m ρ)
  · refine (θ_run GradInThreeRefIdeal.defs _ _).mono (fun r h c => ⟨(h c).1.trans ?_, (h c).2⟩) (GradInThreeRefIdeal.Value.run (F := Ideal) m' ρ')
    rw [(hag c).1, (hag c).2.2.2.2]
    refine (GradInThreeRefIdeal.Read.val_main_v9_eq _ _).trans ?_
    funext i
    obtain ⟨u, v, rfl⟩ : ∃ (u : Fin 1024) (v : Fin 3072), i = ix2 u v := ⟨i 0, i 1, eq_ix2 _⟩
    refine (v8_entry _ _ u v).trans ?_
    show _ = ∑ r : Fin 8192, GradInThreeIdeal.RealValue.left m c r u * GradInThreeIdeal.RealValue.right m c 1 r v
    exact ((Finset.sum_congr rfl fun r _ => congrArg₂ (· * ·) (GradInThreeIdeal.RealValue.left_at m c r u) (GradInThreeIdeal.RealValue.right_at m c 1 r v)).trans (sum_mul_padE _ _ v)).symm

end Cert.GradInThreeClaim

end
-- ==== Proof.GradOutKernel.lean ====
/- What the kernel `GradOutIdeal` leaves in its result array: the product of the transposed padded activations with half
   the cotangent. -/
module

public import proofs.«01_k».proof.Proof.GradExt
public import proofs.«01_k».proof.Proof.Gen.GradOutIdeal.Value
public import Idealize.ShloMosaic.Lib.StableHlo.RunRead

@[expose] public section

noncomputable section

namespace Cert.GradOutIdeal.RealValue

open Cert.GradOutIdeal Cert.GradOutIdeal.Gen Cert.RealValue Cert.Layout
open Idealize.ShloMosaic Idealize.ShloMosaic.TcCoe Idealize.SL.Sem

/-! ## The body's payloads at an index -/

/-- The accumulator is reset to zero; -/
theorem pay1_at (a : Fin 1536) (b : Fin 1024) : k0_pay1 (F := Ideal) (ix2 a b) = 0 := by
  unfold k0_pay1
  pointwise

/-- a point adds the product of its two blocks, contracted along their rows; -/
theorem pay2_at (v3 : Vec Ideal S1536x1024 .f32) (v4 : Vec Ideal S2048x1536 .bf16) (v6 : Vec Ideal S2048x1024 .bf16) (a : Fin 1536) (b : Fin 1024) :
    k0_pay2 v3 v4 v6 (ix2 a b) = v3 (ix2 a b) + ∑ q : Fin 2048, v4 (ix2 q a) * v6 (ix2 q b) := by
  unfold k0_pay2
  pointwise [dot_S2048x1536_S2048x1024_S1536x1024_0_0_1_1_n_n]

/-- and the last point of a block writes the accumulator out. -/
theorem pay3_at (v : Vec Ideal S1536x1024 .f32) (a : Fin 1536) (b : Fin 1024) : k0_pay3 (F := Ideal) v (ix2 a b) = v (ix2 a b) := by
  unfold k0_pay3
  pointwise

/-! ## The cases' values -/

section Cases

variable (c : Dev nD) (i : grid0.Coords) (a1 : Memref sig .tc .vmem S2048x1536 .bf16) (h1 : a1.IsWhole)
  (a2 : Memref sig .tc .vmem S2048x1024 .bf16) (h2 : a2.IsWhole) (a3 : Memref sig .tc .vmem S1536x1024 .bf16) (h3 : a3.IsWhole)
  (a4 : Memref sig .tc .vmem S1536x1024 .f32) (h4 : a4.IsWhole)
  (x0 : Vec Ideal S2048x1536 .bf16) (x1 : Vec Ideal S2048x1024 .bf16) (xs : Vec Ideal S1536x1024 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1536x1024) hz, View.readCov_unit_zero (S := S1536x1024) _ hz]
  simp only [View.readAt_eq_ld, h1.read_unread, h2.read_unread, h4.read_unread,
    View.ld_unit_zero (S := S2048x1536) hz, View.ld_unit_zero (S := S2048x1024) hz, View.ld_unit_zero (S := S1536x1024) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1536x1024) hz]
  simp only [View.readAt_eq_ld, h1.read_unread, h2.read_unread, h4.read_unread,
    View.ld_unit_zero (S := S2048x1536) hz, View.ld_unit_zero (S := S2048x1024) hz, View.ld_unit_zero (S := S1536x1024) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1536x1024) hz]
  simp only [View.readAt_eq_ld, h1.read_unread, h2.read_unread, h4.read_unread,
    View.ld_unit_zero (S := S2048x1536) hz, View.ld_unit_zero (S := S2048x1024) hz, View.ld_unit_zero (S := S1536x1024) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1536x1024) hz, View.readCov_unit_zero (S := S1536x1024) _ hz]
  simp only [View.readAt_eq_ld, h1.read_unread, h2.read_unread, h4.read_unread,
    View.ld_unit_zero (S := S2048x1536) hz, View.ld_unit_zero (S := S2048x1024) hz, View.ld_unit_zero (S := S1536x1024) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 1536) : Fin 3072 := ⟨p / 1 % 2 * 1536 + a.val, by have := a.isLt; omega⟩
/-- its column, -/
def colOf (p : ℕ) (b : Fin 1024) : Fin 1024 := ⟨p % 1 * 1024 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 1 % 2 :=
  (by decide +kernel : ∀ t : Fin grid0.N, win0_0.index t 0 = t.val % 4 ∧ win0_0.index t 1 = t.val / 4 / 1 % 2)
theorem index_1 : ∀ t : Fin cfg0.N, win0_1.index t 0 = t.val % 4 ∧ win0_1.index t 1 = t.val / 4 % 1 :=
  (by decide +kernel : ∀ t : Fin grid0.N, win0_1.index t 0 = t.val % 4 ∧ win0_1.index t 1 = t.val / 4 % 1)
theorem index_2 : ∀ t : Fin cfg0.N, win0_2.index t 0 = t.val / 4 / 1 % 2 ∧ win0_2.index t 1 = t.val / 4 % 1 :=
  (by decide +kernel : ∀ t : Fin grid0.N, win0_2.index t 0 = t.val / 4 / 1 % 2 ∧ win0_2.index t 1 = t.val / 4 % 1)

/-- The first operand's array at the region's entry, -/
abbrev left (r : Fin 8192) (a : Fin 3072) : EReal := V m c main_v3 (ix2 r a)
/-- and the second's. -/
abbrev right (r : Fin 8192) (b : Fin 1024) : EReal := V m c main_v6 (ix2 r b)

theorem iblk_0 (t : Fin cfg0.N) (q : Fin 2048) (a : Fin 1536) :
    (iblk m c 0 t : Vec Ideal S2048x1536 .bf16) (ix2 q a) = left m c (midOf t.val q) (rowOf (t.val / 4) a) := by
  refine congrArg (V m c main_v3) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1536 + 1 * a.val = t.val / 4 / 1 % 2 * 1536 + a.val; rw [(index_0 t).2]; omega

theorem iblk_1 (t : Fin cfg0.N) (q : Fin 2048) (b : Fin 1024) :
    (iblk m c 1 t : Vec Ideal S2048x1024 .bf16) (ix2 q b) = right m c (midOf t.val q) (colOf (t.val / 4) b) := by
  refine congrArg (V m c main_v6) (funext fun k => Fin.ext ?_)
  match k with
  | ⟨0, _⟩ => show win0_1.index t 0 * 2048 + 1 * q.val = 2048 * (t.val % 4) + q.val; rw [(index_1 t).1]; omega
  | ⟨1, _⟩ => show win0_1.index t 1 * 1024 + 1 * b.val = t.val / 4 % 1 * 1024 + b.val; rw [(index_1 t).2]; omega

/-! ## The accumulator and the result -/

/-- The term of row `r` in entry `(a, b)` of block `p` of the result. -/
def term (p : ℕ) (a : Fin 1536) (b : Fin 1024) (r : Fin 8192) : EReal :=
  left m c r (rowOf p a) * right m c r (colOf p b)

/-- What a point adds to the accumulator, -/
theorem step_at (t : Fin cfg0.N) (xs : Vec Ideal S1536x1024 .f32) (a : Fin 1536) (b : Fin 1024) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1536) (b : Fin 1024) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S3072x1024.Idx → EReal := fun i => ∑ r : Fin 8192, left m c r (i 0) * right m c r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 8 := N_0
  have hlt := t.isLt
  rw [Value.flushed2]
  funext j
  rw [View.read_apply]
  obtain ⟨a, b, rfl⟩ : ∃ (a : Fin 1536) (b : Fin 1024), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 1536 + 1 * a.val = t.val / 4 / 1 % 2 * 1536 + a.val; rw [(index_2 t).1]; omega
    | ⟨1, _⟩ => show win0_2.index t 1 * 1024 + 1 * b.val = t.val / 4 % 1 * 1024 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S3072x1024.Idx) :
    ∃ t : Fin cfg0.N, (cfg0.win 2).flush t = true ∧ i ∈ ((cfg0.win 2).blk t).view.set := by
  have hN : cfg0.N = 8 := N_0
  have h0 : (i 0).val < 3072 := (i 0).isLt
  have h1 : (i 1).val < 1024 := (i 1).isLt
  let p := (i 0).val / 1536 * 1 + (i 1).val / 1024
  have ht : 4 * p + 3 < cfg0.N := by dsimp only [p]; omega
  refine ⟨⟨4 * p + 3, ht⟩, (flush0_2 _).mpr (by dsimp only; omega), ?_⟩
  show i ∈ ((View.whole main_v7).slice (win0_2.rect ⟨4 * p + 3, ht⟩)).set
  rw [View.set_slice_whole, Rect.mem_set_unit]
  intro k
  match k with
  | ⟨0, _⟩ =>
    show win0_2.index _ 0 * 1536 ≤ (i 0).val ∧ (i 0).val < win0_2.index _ 0 * 1536 + 1536
    rw [(index_2 _).1]; dsimp only [p]; omega
  | ⟨1, _⟩ =>
    show win0_2.index _ 1 * 1024 ≤ (i 1).val ∧ (i 1).val < win0_2.index _ 1 * 1024 + 1024
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (j : Fin 3072) : left m c r j = padE (M := EReal) (fun q => m ((c : Thread nD τ).loc main_arg0) (ix2 r q)) j := by
  refine Eq.trans ?_ (columns_8192 (m ((c : Thread nD τ).loc main_arg0)) (sitofp (F := Ideal) .f32 (constantI S_ 32 0#32))
    (fun _ => sitofp_zero) shapeCasts_S8192x2816_S8192x8x352 pads_S8192x8x352_S8192x8x384_000_000_0320 h_S_ shapeCasts_S8192x8x384_S8192x3072 r j)
  unfold left V
  after_reads_simp
  rfl

theorem right_at (r : Fin 8192) (b : Fin 1024) : right m c r b
    = Ideal.ofBits .f32 0x3F000000#32 * m ((c : Thread nD τ).loc main_arg2) (ix2 r b) := by
  unfold right V
  after_reads_simp
  rfl

end Blocks

end Cert.GradOutIdeal.RealValue

end
-- ==== Proof.GradOut.lean ====
/- The claims about `GradOut`: the gradient of a feed-forward block's output weight is the reference's. -/
module

public import proofs.«01_k».proof.Defs
public import proofs.«01_k».proof.Proof.GradOutKernel
public import proofs.«01_k».proof.Proof.Gen.GradOutRefIdeal.Run
public import proofs.«01_k».proof.Proof.Gen.GradOutRefIdeal.Read

@[expose] public section

noncomputable section

namespace Cert.GradOutClaim

open Idealize.ShloMosaic Idealize.ShloMosaic.TcCoe Idealize.SL.Sem Cert.Layout

open Cert.GradOutRefIdeal Cert.GradOutRefIdeal.Read in
/-- The gradient at an entry: half the cotangent's column `b` times the activation's column `q`, summed over the rows. -/
theorem v6_entry (x0 : FVec Ideal S8192x2816 .f32) (x2 : FVec Ideal S8192x1024 .f32) (q : Fin 2816) (b : Fin 1024) :
    val_main_v6 (F := Ideal) x0 x2 (ix2 q b) = ∑ r : Fin 8192, (Ideal.ofBits .f32 0x3F000000#32 * x2 (ix2 r b)) * x0 (ix2 r q) := by
  unfold val_main_v6 val_main_v5 val_main_v4 val_main_v3 val_main_cst_0
  pointwise [dot_S8192x1024_S8192x2816_S1024x2816_0_0_1_1_n_n]

open Cert.GradOutRefIdeal Cert.GradOutRefIdeal.Read in
/-- The same in the padded layout, which is the reference's result. -/
theorem v10_entry (x0 : FVec Ideal S8192x2816 .f32) (x2 : FVec Ideal S8192x1024 .f32) (j : Fin 3072) (b : Fin 1024) :
    val_main_v10 (F := Ideal) x0 x2 (ix2 j b)
      = padE (M := EReal) (fun q => ∑ r : Fin 8192, (Ideal.ofBits .f32 0x3F000000#32 * x2 (ix2 r b)) * x0 (ix2 r q)) j := by
  show val_main_v9 (F := Ideal) x0 x2 (ix2 j b) = _
  unfold val_main_v9 val_main_v8 val_main_v7
  refine (rows_1024 (val_main_v6 (F := Ideal) x0 x2) _ (fun _ => sitofp_zero) _ _ _ _ j b).trans ?_
  exact congrArg (fun f : Fin 2816 → EReal => padE (M := EReal) f j) (funext fun q => v6_entry x0 x2 q b)

/-- The reference's frame, from its generated run. -/
theorem reference_frame : quiescent_GradOutRefIdeal := fun m ρ _ =>
  (θ_run GradOutRefIdeal.defs _ _).mono
    (fun r h => ⟨fun c => (h c).2, sem_eq_zero_of_no_sems (by decide) r.2⟩)
    (GradOutRefIdeal.Value.run (F := Ideal) m ρ)

/-- The value claim. -/
theorem algebraic : algebraic_GradOutIdeal_GradOutRefIdeal := by
  intro m ρ m' ρ' _ hag
  refine ⟨fun c => GradOutIdeal.RealValue.result m c, ?_, ?_⟩
  · exact (θ_run GradOutIdeal.defs _ _).mono (fun r h c => ⟨(h c).1.trans (GradOutIdeal.RealValue.final_2 m c), (h c).2⟩) (GradOutIdeal.Value.run_blocks m ρ)
  · refine (θ_run GradOutRefIdeal.defs _ _).mono (fun r h c => ⟨(h c).1.trans ?_, (h c).2⟩) (GradOutRefIdeal.Value.run (F := Ideal) m' ρ')
    rw [(hag c).1, (hag c).2.2]
    refine (GradOutRefIdeal.Read.val_main_v10_eq _ _).trans ?_
    funext i
    obtain ⟨u, v, rfl⟩ : ∃ (u : Fin 3072) (v : Fin 1024), i = ix2 u v := ⟨i 0, i 1, eq_ix2 _⟩
    refine (v10_entry _ _ u v).trans ?_
    show _ = ∑ r : Fin 8192, GradOutIdeal.RealValue.left m c r u * GradOutIdeal.RealValue.right m c r v
    exact ((Finset.sum_congr rfl fun r _ => congrArg₂ (· * ·) (GradOutIdeal.RealValue.left_at m c r u) (GradOutIdeal.RealValue.right_at m c r v)).trans (sum_padE_mul _ _ u)).symm

end Cert.GradOutClaim

end
-- ==== Proof.FfnBackBody.lean ====
module

public import proofs.«01_k».proof.Proof.Gen.FfnBackIdeal.Frame
public import proofs.«01_k».proof.Proof.Gen.FfnBackIdeal.Skeleton
public import Idealize.ShloMosaic.Lib.Pipeline.ValueKit

@[expose] public section

/-!
# The body of the feed-forward backward kernel

The grid is 16 row blocks by 3 feed-forward slices, the slices innermost. Point `t` is slice `t % 3` of row block
`t / 3`. At slice 0 the halved gradient of the result is rounded into a scratch block, and the accumulator is cleared;
every slice adds its part of the gradient of the normed input to the accumulator; at slice 2 the gradient of the input
is formed from the accumulator, and the gradient of the gain takes up the row block. The theorems hold over any float
values.
-/

set_option maxRecDepth 16384

noncomputable section

namespace Cert.FfnBackIdealRun

open Cert.FfnBackIdeal Cert.FfnBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- The accumulator after a slice, from what it held: the slice's part of the gradient of the normed input is added. -/
def accStep (dob : Vec F S512x1024 .bf16) (a b : Vec F S512x1024 .bf16) (w1 w3 : Vec F S1x1024x1024 .bf16)
    (w2 : Vec F S1024x1024 .bf16) (acc : Vec F S512x1024 .f32) : Vec F S512x1024 .f32 :=
  k0_pay5 (k0_pay13 dob w2) (k0_pay16 a) (k0_pay17 a) (k0_pay19 dob w2 b) (k0_pay20 a) k0_pay21 acc w1 w3

/-- The pieces of the gate's gradient block: the two halves. -/
def dabPieces (dob : Vec F S512x1024 .bf16) (a b : Vec F S512x1024 .bf16) (w2 : Vec F S1024x1024 .bf16) :
    List (View.Piece (Elt F) S2x512x1024 .bf16) :=
  [⟨Rect.unit (s := S2x512x1024) ![1, 0, 0] S1x512x1024.size inb_S2x512x1024_S1x512x1024_1_0_0, k0_pay4 (k0_pay13 dob w2) (k0_pay17 a)⟩,
   ⟨Rect.unit (s := S2x512x1024) ![0, 0, 0] S1x512x1024.size inb_S2x512x1024_S1x512x1024_0_0_0, k0_pay3 (k0_pay16 a) (k0_pay19 dob w2 b) (k0_pay20 a) k0_pay21⟩]

/-- The gate's gradient block, its two halves stacked. -/
def dabBlock (dob : Vec F S512x1024 .bf16) (a b : Vec F S512x1024 .bf16) (w2 : Vec F S1024x1024 .bf16) : Vec F S2x512x1024 .bf16 :=
  View.canon (dabPieces dob a b w2)

theorem hz : (![0, 0] : Fin 2 → Nat) = fun _ => 0 := funext fun a => by fin_cases a <;> rfl
theorem hz3 : (![0, 0, 0] : Fin 3 → Nat) = fun _ => 0 := funext fun a => by fin_cases a <;> rfl

/-! ## The body, case by case -/

section Cases

variable (c : Dev nD) (i : grid0.Coords)
  (a2 : Memref sig .tc .vmem S512x1024 .f32) (h2 : a2.IsWhole) (a3 : Memref sig .tc .vmem S512x1024 .f32) (h3 : a3.IsWhole) (a4 : Memref sig .tc .vmem S1x1024 .f32) (h4 : a4.IsWhole)
  (a5 : Memref sig .tc .vmem S512x1024 .bf16) (h5 : a5.IsWhole) (a6 : Memref sig .tc .vmem S512x1024 .bf16) (h6 : a6.IsWhole) (a7 : Memref sig .tc .vmem S1x1024x1024 .bf16) (h7 : a7.IsWhole)
  (a8 : Memref sig .tc .vmem S1x1024x1024 .bf16) (h8 : a8.IsWhole) (a9 : Memref sig .tc .vmem S1024x1024 .bf16) (h9 : a9.IsWhole) (a10 : Memref sig .tc .vmem S512x1024 .f32) (h10 : a10.IsWhole)
  (a11 : Memref sig .tc .vmem S512x1024 .bf16) (h11 : a11.IsWhole) (a12 : Memref sig .tc .vmem S512x1024 .bf16) (h12 : a12.IsWhole) (a13 : Memref sig .tc .vmem S2x512x1024 .bf16) (h13 : a13.IsWhole)
  (a14 : Memref sig .tc .vmem S1x1024 .f32) (h14 : a14.IsWhole) (a15 : Memref sig .tc .vmem S512x1024 .bf16) (h15 : a15.IsWhole) (a16 : Memref sig .tc .vmem S512x1024 .f32) (h16 : a16.IsWhole)
  (x0 x1 : Vec F S512x1024 .f32) (x2 : Vec F S1x1024 .f32) (x3 x4 : Vec F S512x1024 .bf16) (x5 x6 : Vec F S1x1024x1024 .bf16) (x7 : Vec F S1024x1024 .bf16)

set_option maxHeartbeats 4000000 in
/-- At the very first point the gain's gradient is cleared too. -/
theorem run_first (hc1 : k0_cond1 i = 1#1) (hc2 : k0_cond2 i = 1#1) (hc3 : ¬k0_cond3 i = 1#1) (z10 : Vec F S512x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare z10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare z10 ∗ owns (c : Thread nD τ) a11 fullShare (k0_pay10 x0) ∗ owns (c : Thread nD τ) a12 fullShare (k0_pay18 x3 x4) ∗ owns (c : Thread nD τ) a13 fullShare (dabBlock (k0_pay10 x0) x3 x4 x7) ∗ owns (c : Thread nD τ) a14 fullShare k0_pay12 ∗ owns (c : Thread nD τ) a15 fullShare (k0_pay10 x0) ∗ owns (c : Thread nD τ) a16 fullShare (accStep (k0_pay10 x0) x3 x4 x5 x6 x7 k0_pay11)) -∗ K ⟨⟩))
      ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
  sl_exec (disch := first | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr
    swap; · iexact H11
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H12]
  · iexists _; isplitr
    swap; · iexact H12
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H13]
  · iexists _; isplitr
    swap; · iexact H13
    ipureintro
    refine (View.read_writes_eq_canon (Val := Elt F) _ _ _ (View.cover_of_tiledL (s := S2x512x1024) _ S1x512x1024.size (by sl_kernel_rfl))).trans ?_
    sl_unfold_words
    unfold dabBlock dabPieces
    simp only [View.readCov_unit_zero (S := S512x1024) _ hz, View.readAt_eq_ld, h2.read_unread, h5.read_unread, h6.read_unread, h9.read_unread, h15.read_unread, View.ld_unit_zero (S := S512x1024) hz, View.ld_unit_zero (S := S1024x1024) hz]
  isplitl [H14]
  · iexists _; isplitr
    swap; · iexact H14
    ipureintro
    refine (View.read_writes_eq_canon (Val := Elt F) _ _ _ (View.cover_of_tiledL (s := S1x1024) _ S1x1024.size (by sl_kernel_rfl))).trans ?_
    sl_unfold_words
    rw [View.canon_cons_unit_zero (S := S1x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H15]
  · iexists _; isplitr
    swap; · iexact H15
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  iexists _; isplitr
  swap; · iexact H16
  ipureintro
  refine (View.read_writes_eq_canon (Val := Elt F) _ _ _ (View.cover_of_tiledL (s := S512x1024) _ S512x1024.size (by sl_kernel_rfl))).trans ?_
  sl_unfold_words
  rw [View.canon_cons_unit_zero (S := S512x1024) hz]
  unfold accStep
  try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]

set_option maxHeartbeats 4000000 in
/-- At slice 0 of a later row block: the scratch block is filled and the accumulator starts from zero. -/
theorem run_open (hc1 : k0_cond1 i = 1#1) (hc2 : ¬k0_cond2 i = 1#1) (hc3 : ¬k0_cond3 i = 1#1) (z10 : Vec F S512x1024 .f32) (z14 : Vec F S1x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare z10 ∗ (∃ d, owns (c : Thread nD τ) a11 fullShare d) ∗ (∃ d, owns (c : Thread nD τ) a12 fullShare d) ∗ (∃ d, owns (c : Thread nD τ) a13 fullShare d) ∗ owns (c : Thread nD τ) a14 fullShare z14 ∗ (∃ d, owns (c : Thread nD τ) a15 fullShare d) ∗ (∃ d, owns (c : Thread nD τ) a16 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare z10 ∗ owns (c : Thread nD τ) a11 fullShare (k0_pay10 x0) ∗ owns (c : Thread nD τ) a12 fullShare (k0_pay18 x3 x4) ∗ owns (c : Thread nD τ) a13 fullShare (dabBlock (k0_pay10 x0) x3 x4 x7) ∗ owns (c : Thread nD τ) a14 fullShare z14 ∗ owns (c : Thread nD τ) a15 fullShare (k0_pay10 x0) ∗ owns (c : Thread nD τ) a16 fullShare (accStep (k0_pay10 x0) x3 x4 x5 x6 x7 k0_pay11)) -∗ K ⟨⟩))
      ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, ⟨%f14, %e14, H14⟩, ⟨%d15, %f15, -, H15⟩, ⟨%d16, %f16, -, H16⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h14.eq_unread e14
  sl_exec (disch := first | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr
    swap; · iexact H11
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H12]
  · iexists _; isplitr
    swap; · iexact H12
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H13]
  · iexists _; isplitr
    swap; · iexact H13
    ipureintro
    refine (View.read_writes_eq_canon (Val := Elt F) _ _ _ (View.cover_of_tiledL (s := S2x512x1024) _ S1x512x1024.size (by sl_kernel_rfl))).trans ?_
    sl_unfold_words
    unfold dabBlock dabPieces
    simp only [View.readCov_unit_zero (S := S512x1024) _ hz, View.readAt_eq_ld, h2.read_unread, h5.read_unread, h6.read_unread, h9.read_unread, h15.read_unread, View.ld_unit_zero (S := S512x1024) hz, View.ld_unit_zero (S := S1024x1024) hz]
  isplitl [H14]
  · iexists _; isplitr; · ipureintro; exact h14.read_unread _
    iexact H14
  isplitl [H15]
  · iexists _; isplitr
    swap; · iexact H15
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  iexists _; isplitr
  swap; · iexact H16
  ipureintro
  refine (View.read_writes_eq_canon (Val := Elt F) _ _ _ (View.cover_of_tiledL (s := S512x1024) _ S512x1024.size (by sl_kernel_rfl))).trans ?_
  sl_unfold_words
  rw [View.canon_cons_unit_zero (S := S512x1024) hz]
  unfold accStep
  try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]

set_option maxHeartbeats 4000000 in
/-- At slice 1: the accumulator goes on from what it held. -/
theorem run_middle (hc1 : ¬k0_cond1 i = 1#1) (hc2 : ¬k0_cond2 i = 1#1) (hc3 : ¬k0_cond3 i = 1#1) (z10 : Vec F S512x1024 .f32) (z11 : Vec F S512x1024 .bf16) (z14 : Vec F S1x1024 .f32) (z15 : Vec F S512x1024 .bf16) (z16 : Vec F S512x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare z10 ∗ owns (c : Thread nD τ) a11 fullShare z11 ∗ (∃ d, owns (c : Thread nD τ) a12 fullShare d) ∗ (∃ d, owns (c : Thread nD τ) a13 fullShare d) ∗ owns (c : Thread nD τ) a14 fullShare z14 ∗ owns (c : Thread nD τ) a15 fullShare z15 ∗ owns (c : Thread nD τ) a16 fullShare z16
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare z10 ∗ owns (c : Thread nD τ) a11 fullShare z11 ∗ owns (c : Thread nD τ) a12 fullShare (k0_pay18 x3 x4) ∗ owns (c : Thread nD τ) a13 fullShare (dabBlock z15 x3 x4 x7) ∗ owns (c : Thread nD τ) a14 fullShare z14 ∗ owns (c : Thread nD τ) a15 fullShare z15 ∗ owns (c : Thread nD τ) a16 fullShare (accStep z15 x3 x4 x5 x6 x7 z16)) -∗ K ⟨⟩))
      ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, ⟨%f14, %e14, H14⟩, ⟨%f15, %e15, H15⟩, ⟨%f16, %e16, H16⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h14.eq_unread e14; obtain rfl := h15.eq_unread e15; obtain rfl := h16.eq_unread e16
  sl_exec (disch := first | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr
    swap; · iexact H12
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H13]
  · iexists _; isplitr
    swap; · iexact H13
    ipureintro
    refine (View.read_writes_eq_canon (Val := Elt F) _ _ _ (View.cover_of_tiledL (s := S2x512x1024) _ S1x512x1024.size (by sl_kernel_rfl))).trans ?_
    sl_unfold_words
    unfold dabBlock dabPieces
    simp only [View.readCov_unit_zero (S := S512x1024) _ hz, View.readAt_eq_ld, h2.read_unread, h5.read_unread, h6.read_unread, h9.read_unread, h15.read_unread, View.ld_unit_zero (S := S512x1024) hz, View.ld_unit_zero (S := S1024x1024) hz]
  isplitl [H14]
  · iexists _; isplitr; · ipureintro; exact h14.read_unread _
    iexact H14
  isplitl [H15]
  · iexists _; isplitr; · ipureintro; exact h15.read_unread _
    iexact H15
  iexists _; isplitr
  swap; · iexact H16
  ipureintro
  refine (View.read_writes_eq_canon (Val := Elt F) _ _ _ (View.cover_of_tiledL (s := S512x1024) _ S512x1024.size (by sl_kernel_rfl))).trans ?_
  sl_unfold_words
  rw [View.canon_cons_unit_zero (S := S512x1024) hz]
  unfold accStep
  try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]

set_option maxHeartbeats 4000000 in
/-- At slice 2: the gradient of the input is formed and the gain's gradient takes up the row block. -/
theorem run_close (hc1 : ¬k0_cond1 i = 1#1) (hc2 : ¬k0_cond2 i = 1#1) (hc3 : k0_cond3 i = 1#1) (z11 : Vec F S512x1024 .bf16) (z14 : Vec F S1x1024 .f32) (z15 : Vec F S512x1024 .bf16) (z16 : Vec F S512x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ owns (c : Thread nD τ) a11 fullShare z11 ∗ (∃ d, owns (c : Thread nD τ) a12 fullShare d) ∗ (∃ d, owns (c : Thread nD τ) a13 fullShare d) ∗ owns (c : Thread nD τ) a14 fullShare z14 ∗ owns (c : Thread nD τ) a15 fullShare z15 ∗ owns (c : Thread nD τ) a16 fullShare z16
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare (k0_pay8 x1 x2 (accStep z15 x3 x4 x5 x6 x7 z16) x0) ∗ owns (c : Thread nD τ) a11 fullShare z11 ∗ owns (c : Thread nD τ) a12 fullShare (k0_pay18 x3 x4) ∗ owns (c : Thread nD τ) a13 fullShare (dabBlock z15 x3 x4 x7) ∗ owns (c : Thread nD τ) a14 fullShare (k0_pay9 x1 (accStep z15 x3 x4 x5 x6 x7 z16) z14) ∗ owns (c : Thread nD τ) a15 fullShare z15 ∗ owns (c : Thread nD τ) a16 fullShare (accStep z15 x3 x4 x5 x6 x7 z16)) -∗ K ⟨⟩))
      ⊢ wp frame (wpE (defs₀ (F := F)) Variants.none c none) E (cc0_ffn_bwd i a2 h2 a3 h3 a4 h4 a5 h5 a6 h6 a7 h7 a8 h8 a9 h9 a10 h10 a11 h11 a12 h12 a13 h13 a14 h14 a15 h15 a16 h16) K := by
  simp only [cc0_ffn_bwd_eq_skeleton]; unfold cc0_ffn_bwd_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%f11, %e11, H11⟩, ⟨%d12, %f12, -, H12⟩, ⟨%d13, %f13, -, H13⟩, ⟨%f14, %e14, H14⟩, ⟨%f15, %e15, H15⟩, ⟨%f16, %e16, H16⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h11.eq_unread e11; obtain rfl := h14.eq_unread e14; obtain rfl := h15.eq_unread e15; obtain rfl := h16.eq_unread e16
  sl_exec (disch := first | sl_exact hc1 | sl_exact hc2 | sl_exact hc3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr
    swap; · iexact H10
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    unfold accStep
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H11]
  · iexists _; isplitr; · ipureintro; exact h11.read_unread _
    iexact H11
  isplitl [H12]
  · iexists _; isplitr
    swap; · iexact H12
    ipureintro
    refine (View.read_writes_eq_canon (Val := Elt F) _ _ _ (View.cover_of_tiledL (s := S512x1024) _ S512x1024.size (by sl_kernel_rfl))).trans ?_
    sl_unfold_words
    rw [View.canon_cons_unit_zero (S := S512x1024) hz]
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H13]
  · iexists _; isplitr
    swap; · iexact H13
    ipureintro
    refine (View.read_writes_eq_canon (Val := Elt F) _ _ _ (View.cover_of_tiledL (s := S2x512x1024) _ S1x512x1024.size (by sl_kernel_rfl))).trans ?_
    sl_unfold_words
    unfold dabBlock dabPieces
    simp only [View.readCov_unit_zero (S := S512x1024) _ hz, View.readAt_eq_ld, h2.read_unread, h5.read_unread, h6.read_unread, h9.read_unread, h15.read_unread, View.ld_unit_zero (S := S512x1024) hz, View.ld_unit_zero (S := S1024x1024) hz]
  isplitl [H14]
  · iexists _; isplitr
    swap; · iexact H14
    ipureintro
    refine (View.read_writes_eq_canon (Val := Elt F) _ _ _ (View.cover_of_tiledL (s := S1x1024) _ S1x1024.size (by sl_kernel_rfl))).trans ?_
    sl_unfold_words
    rw [View.canon_cons_unit_zero (S := S1x1024) hz]
    unfold accStep
    try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]
  isplitl [H15]
  · iexists _; isplitr; · ipureintro; exact h15.read_unread _
    iexact H15
  iexists _; isplitr
  swap; · iexact H16
  ipureintro
  refine (View.read_writes_eq_canon (Val := Elt F) _ _ _ (View.cover_of_tiledL (s := S512x1024) _ S512x1024.size (by sl_kernel_rfl))).trans ?_
  sl_unfold_words
  rw [View.canon_cons_unit_zero (S := S512x1024) hz]
  unfold accStep
  try simp only [View.readCov_unit_zero (S := S512x1024) _ hz, View.readAt_eq_ld, h2.read_unread, h3.read_unread, h4.read_unread, h5.read_unread, h6.read_unread, h7.read_unread, h8.read_unread, h9.read_unread, h14.read_unread, h15.read_unread, h16.read_unread, View.ld_unit_zero (S := S512x1024) hz, View.ld_unit_zero (S := S1024x1024) hz, View.ld_unit_zero (S := S1x1024) hz, View.ld_unit_zero (S := S1x1024x1024) hz3]

end Cases

end Cert.FfnBackIdealRun

end
-- ==== Proof.FfnBackRun.lean ====
module

public import proofs.«01_k».proof.Proof.FfnBackBody
public import Idealize.ShloMosaic.Lib.Pipeline.TableIdle

@[expose] public section

/-!
# The run of the feed-forward backward kernel

What the buffers hold after each grid point, the pipeline's proof data from it, and the run: every execution ends, the
result arrays at what the write-backs of those buffers make of them, the arguments as they were, the semaphores at zero.
-/

set_option maxRecDepth 16384

noncomputable section

namespace Cert.FfnBackIdealRun

open Cert.FfnBackIdeal Cert.FfnBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arithmetic of the points -/

theorem N48 (t : Fin cfg0.N) : t.val < 48 := lt_of_lt_of_eq t.isLt N_0

/-- The first condition holds at slice 0, -/
theorem cond1_iff : ∀ t : Fin cfg0.N, k0_cond1 (grid0.coords t) = 1#1 ↔ t.val % 3 = 0 := by decide +kernel
/-- the second at the first point, -/
theorem cond2_iff : ∀ t : Fin cfg0.N, k0_cond2 (grid0.coords t) = 1#1 ↔ t.val = 0 := by decide +kernel
/-- the third at slice 2. -/
theorem cond3_iff : ∀ t : Fin cfg0.N, k0_cond3 (grid0.coords t) = 1#1 ↔ t.val % 3 = 2 := by decide +kernel

theorem live8 : ∀ t : Fin cfg0.N, t.val % 3 = 2 → cfg0.idle 8 (grid0.coords t) = false := by decide +kernel
theorem idle8 : ∀ t : Fin cfg0.N, ¬t.val % 3 = 2 → cfg0.idle 8 (grid0.coords t) = true ∧ (cfg0.win 8).flush t = false := by decide +kernel
theorem live9 : ∀ t : Fin cfg0.N, t.val % 3 = 0 → cfg0.idle 9 (grid0.coords t) = false := by decide +kernel
theorem idle9 : ∀ t : Fin cfg0.N, ¬t.val % 3 = 0 → cfg0.idle 9 (grid0.coords t) = true := by decide +kernel
theorem keep9 : ∀ t : Fin cfg0.N, t.val % 3 = 1 → (cfg0.win 9).flush t = false := by decide +kernel
theorem flushed9 : ∀ t : Fin cfg0.N, t.val % 3 = 2 → (cfg0.win 9).flush t = true := by decide +kernel
theorem live12 : ∀ t : Fin cfg0.N, t.val = 0 ∨ t.val % 3 = 2 → cfg0.idle 12 (grid0.coords t) = false := by decide +kernel
theorem idle12 : ∀ t : Fin cfg0.N, t.val ≠ 0 → ¬t.val % 3 = 2 → cfg0.idle 12 (grid0.coords t) = true ∧ (cfg0.win 12).flush t = false := by decide +kernel

/-- Window 9's buffer holds nothing of the body's only before slice 0, -/
def bare9 : ℕ → Bool
  | 0 => true
  | n + 1 => n % 3 == 2
theorem bare9_step : ∀ t : Fin cfg0.N,
    bare9 (t.val + 1) = ((cfg0.win 9).flush t || (cfg0.idle 9 (cfg0.grid.coords t) && bare9 t.val)) := by decide +kernel
theorem held9 : ∀ t : Fin cfg0.N, ¬t.val % 3 = 0 → cfg0.fresh 9 t.val = false := by
  intro t; rw [Pipeline.Cfg.fresh_tab cfg0 9 bare9 rfl bare9_step t.val (Nat.le_of_lt t.isLt)]; revert t; decide +kernel
/-- window 12's only before the first point. -/
def bare12 : ℕ → Bool
  | 0 => true
  | n + 1 => n == 47
theorem bare12_step : ∀ t : Fin cfg0.N,
    bare12 (t.val + 1) = ((cfg0.win 12).flush t || (cfg0.idle 12 (cfg0.grid.coords t) && bare12 t.val)) := by decide +kernel
theorem held12 : ∀ t : Fin cfg0.N, t.val ≠ 0 → cfg0.fresh 12 t.val = false := by
  intro t; rw [Pipeline.Cfg.fresh_tab cfg0 12 bare12 rfl bare12_step t.val (Nat.le_of_lt t.isLt)]; revert t; decide +kernel

/-! ## What the buffers hold -/

variable (m : (ℓ : Loc nD τ sig) → Buf (Elt F) ℓ) (ρ : Dev nD → PrngReg)

/-- The halved gradient of the result, rounded: of the row block in work. -/
def dobAt (c : Dev nD) : (n : ℕ) → n < cfg0.N → Vec F S512x1024 .bf16
  | 0, h => k0_pay10 (iblk m c 0 ⟨0, h⟩)
  | n + 1, h => if (n + 1) % 3 = 0 then k0_pay10 (iblk m c 0 ⟨n + 1, h⟩) else dobAt c n (Nat.lt_of_succ_lt h)

/-- The accumulator after point `n`. -/
def accAt (c : Dev nD) : (n : ℕ) → n < cfg0.N → Vec F S512x1024 .f32
  | 0, h => accStep (dobAt m c 0 h) (iblk m c 3 ⟨0, h⟩) (iblk m c 4 ⟨0, h⟩) (iblk m c 5 ⟨0, h⟩) (iblk m c 6 ⟨0, h⟩) (iblk m c 7 ⟨0, h⟩) k0_pay11
  | n + 1, h => accStep (dobAt m c (n + 1) h) (iblk m c 3 ⟨n + 1, h⟩) (iblk m c 4 ⟨n + 1, h⟩) (iblk m c 5 ⟨n + 1, h⟩) (iblk m c 6 ⟨n + 1, h⟩)
      (iblk m c 7 ⟨n + 1, h⟩) (if (n + 1) % 3 = 0 then k0_pay11 else accAt c n (Nat.lt_of_succ_lt h))

/-- The gradient of the gain after point `n`: the row blocks finished so far. -/
def dgAt (c : Dev nD) : (n : ℕ) → n < cfg0.N → Vec F S1x1024 .f32
  | 0, _ => k0_pay12
  | n + 1, h => if (n + 1) % 3 = 2 then k0_pay9 (iblk m c 1 ⟨n + 1, h⟩) (accAt m c (n + 1) h) (dgAt c n (Nat.lt_of_succ_lt h))
      else dgAt c n (Nat.lt_of_succ_lt h)

theorem before_lt (t : Fin cfg0.N) : t.val - 1 < cfg0.N := Nat.lt_of_le_of_lt (Nat.sub_le _ _) t.isLt

theorem dobAt_open (c : Dev nD) (t : Fin cfg0.N) (h0 : t.val % 3 = 0) : dobAt m c t.val t.isLt = k0_pay10 (iblk m c 0 t) := by
  obtain ⟨n, hn⟩ := t
  cases n with
  | zero => rfl
  | succ n => exact if_pos h0

theorem dobAt_later (c : Dev nD) (t : Fin cfg0.N) (h0 : ¬t.val % 3 = 0) : dobAt m c t.val t.isLt = dobAt m c (t.val - 1) (before_lt t) := by
  obtain ⟨n, hn⟩ := t
  cases n with
  | zero => exact absurd rfl h0
  | succ n => exact if_neg h0

theorem accAt_open (c : Dev nD) (t : Fin cfg0.N) (h0 : t.val % 3 = 0) :
    accAt m c t.val t.isLt = accStep (dobAt m c t.val t.isLt) (iblk m c 3 t) (iblk m c 4 t) (iblk m c 5 t) (iblk m c 6 t) (iblk m c 7 t) k0_pay11 := by
  obtain ⟨n, hn⟩ := t
  cases n with
  | zero => rfl
  | succ n => exact congrArg (accStep _ _ _ _ _ _) (if_pos h0)

theorem accAt_later (c : Dev nD) (t : Fin cfg0.N) (h0 : ¬t.val % 3 = 0) :
    accAt m c t.val t.isLt = accStep (dobAt m c t.val t.isLt) (iblk m c 3 t) (iblk m c 4 t) (iblk m c 5 t) (iblk m c 6 t) (iblk m c 7 t)
      (accAt m c (t.val - 1) (before_lt t)) := by
  obtain ⟨n, hn⟩ := t
  cases n with
  | zero => exact absurd rfl h0
  | succ n => exact congrArg (accStep _ _ _ _ _ _) (if_neg h0)

theorem dgAt_first (c : Dev nD) (t : Fin cfg0.N) (h0 : t.val = 0) : dgAt m c t.val t.isLt = k0_pay12 := by
  obtain ⟨n, hn⟩ := t
  cases n with
  | zero => rfl
  | succ n => exact absurd h0 (Nat.succ_ne_zero n)

theorem dgAt_close (c : Dev nD) (t : Fin cfg0.N) (h2 : t.val % 3 = 2) :
    dgAt m c t.val t.isLt = k0_pay9 (iblk m c 1 t) (accAt m c t.val t.isLt) (dgAt m c (t.val - 1) (before_lt t)) := by
  obtain ⟨n, hn⟩ := t
  cases n with
  | zero => exact absurd h2 (show ¬0 % 3 = 2 by decide)
  | succ n => exact if_pos h2

theorem dgAt_other (c : Dev nD) (t : Fin cfg0.N) (hp : t.val ≠ 0) (h2 : ¬t.val % 3 = 2) :
    dgAt m c t.val t.isLt = dgAt m c (t.val - 1) (before_lt t) := by
  obtain ⟨n, hn⟩ := t
  cases n with
  | zero => exact absurd rfl hp
  | succ n => exact if_neg h2

/-! ## The proof data -/

abbrev stg0 (t : Fin cfg0.N) : Memref sig .tc .vmem S512x1024 .f32 := win0_0.stage (cfg0.slots t 0)
abbrev stg1 (t : Fin cfg0.N) : Memref sig .tc .vmem S512x1024 .f32 := win0_1.stage (cfg0.slots t 1)
abbrev stg2 (t : Fin cfg0.N) : Memref sig .tc .vmem S1x1024 .f32 := win0_2.stage (cfg0.slots t 2)
abbrev stg3 (t : Fin cfg0.N) : Memref sig .tc .vmem S512x1024 .bf16 := win0_3.stage (cfg0.slots t 3)
abbrev stg4 (t : Fin cfg0.N) : Memref sig .tc .vmem S512x1024 .bf16 := win0_4.stage (cfg0.slots t 4)
abbrev stg5 (t : Fin cfg0.N) : Memref sig .tc .vmem S1x1024x1024 .bf16 := win0_5.stage (cfg0.slots t 5)
abbrev stg6 (t : Fin cfg0.N) : Memref sig .tc .vmem S1x1024x1024 .bf16 := win0_6.stage (cfg0.slots t 6)
abbrev stg7 (t : Fin cfg0.N) : Memref sig .tc .vmem S1024x1024 .bf16 := win0_7.stage (cfg0.slots t 7)
abbrev stg8 (t : Fin cfg0.N) : Memref sig .tc .vmem S512x1024 .f32 := win0_8.stage (cfg0.slots t 8)
abbrev stg9 (t : Fin cfg0.N) : Memref sig .tc .vmem S512x1024 .bf16 := win0_9.stage (cfg0.slots t 9)
abbrev stg10 (t : Fin cfg0.N) : Memref sig .tc .vmem S512x1024 .bf16 := win0_10.stage (cfg0.slots t 10)
abbrev stg11 (t : Fin cfg0.N) : Memref sig .tc .vmem S2x512x1024 .bf16 := win0_11.stage (cfg0.slots t 11)
abbrev stg12 (t : Fin cfg0.N) : Memref sig .tc .vmem S1x1024 .f32 := win0_12.stage (cfg0.slots t 12)
abbrev scr0 : Memref sig .tc .vmem S512x1024 .bf16 := Memref.whole cc0_scratch0
abbrev scr1 : Memref sig .tc .vmem S512x1024 .f32 := Memref.whole cc0_scratch1

/-- What the launch hands the region: the two scratch buffers at any contents, the generator register at any state. -/
theorem start_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant: before the first point what the launch hands over; then the scratch buffers at the halved gradient and
    the accumulator of the point before. -/
def inv (c : Dev nD) : (n : ℕ) → n ≤ cfg0.N → sProp 𝕄
  | 0, _ => Pipeline.ΦA spec0 c
  | n + 1, h => iprop(iprop(owns (c : Thread nD τ) scr0 fullShare (dobAt m c n h) ∗ owns (c : Thread nD τ) scr1 fullShare (accAt m c n h)) ∗ (∃ r, prngReg c r))

theorem inv_zero (c : Dev nD) (n : ℕ) (h : n ≤ cfg0.N) (hn : n = 0) : inv m c n h = Pipeline.ΦA spec0 c := by
  subst hn; rfl

theorem inv_succ (c : Dev nD) (n : ℕ) (h : n < cfg0.N) :
    inv m c (n + 1) h = iprop(iprop(owns (c : Thread nD τ) scr0 fullShare (dobAt m c n h) ∗ owns (c : Thread nD τ) scr1 fullShare (accAt m c n h)) ∗ (∃ r, prngReg c r)) := rfl

theorem inv_pos (c : Dev nD) (n : ℕ) (h : n ≤ cfg0.N) (hn : n ≠ 0) :
    inv m c n h = iprop(iprop(owns (c : Thread nD τ) scr0 fullShare (dobAt m c (n - 1) (by omega)) ∗ owns (c : Thread nD τ) scr1 fullShare (accAt m c (n - 1) (by omega))) ∗ (∃ r, prngReg c r)) := by
  cases n with
  | zero => exact absurd rfl hn
  | succ n => rfl

/-- The proof data: each input's buffer at its block, each result's at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay8 (iblk m c 1 t) (iblk m c 2 t) (accAt m c t.val t.isLt) (iblk m c 0 t)
    | ⟨9, _⟩ => dobAt m c t.val t.isLt
    | ⟨10, _⟩ => k0_pay18 (iblk m c 3 t) (iblk m c 4 t)
    | ⟨11, _⟩ => dabBlock (dobAt m c t.val t.isLt) (iblk m c 3 t) (iblk m c 4 t) (iblk m c 7 t)
    | ⟨12, _⟩ => dgAt m c t.val t.isLt
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay8 (iblk m c 1 t) (iblk m c 2 t) (accAt m c t.val t.isLt) (iblk m c 0 t) := by dsimp only [dats]
theorem after_9 (c : Dev nD) (t : Fin cfg0.N) : (dats m 0 c).after 9 t = dobAt m c t.val t.isLt := by dsimp only [dats]
theorem after_10 (c : Dev nD) (t : Fin cfg0.N) : (dats m 0 c).after 10 t = k0_pay18 (iblk m c 3 t) (iblk m c 4 t) := by dsimp only [dats]
theorem after_11 (c : Dev nD) (t : Fin cfg0.N) : (dats m 0 c).after 11 t = dabBlock (dobAt m c t.val t.isLt) (iblk m c 3 t) (iblk m c 4 t) (iblk m c 7 t) := by dsimp only [dats]
theorem after_12 (c : Dev nD) (t : Fin cfg0.N) : (dats m 0 c).after 12 t = dgAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Where a point leaves window 9's buffer alone, it holds what the point before left; -/
theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [after_9, after_9]
  by_cases h0 : t.val % 3 = 0
  · rw [live9 t h0] at hi; exact absurd hi Bool.false_ne_true
  · exact dobAt_later m c t h0

theorem before_9 (c : Dev nD) (t : Fin cfg0.N) (h0 : ¬t.val % 3 = 0) (d) : (dats m 0 c).before 9 t d = dobAt m c (t.val - 1) (before_lt t) := by
  rw [Dat.before_out_traj _ 9 rfl (fun _ _ => rfl) (carry9 m c) t.val t rfl d, if_neg (by rw [held9 t h0]; exact Bool.false_ne_true)]
  dsimp only [dats]

/-- and so with window 12's. -/
theorem carry12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t hp hi _
  rw [after_12, after_12]
  by_cases h2 : t.val % 3 = 2
  · rw [live12 t (.inr h2)] at hi; exact absurd hi Bool.false_ne_true
  · exact dgAt_other m c t hp h2

theorem before_12 (c : Dev nD) (t : Fin cfg0.N) (hp : t.val ≠ 0) (d) : (dats m 0 c).before 12 t d = dgAt m c (t.val - 1) (before_lt t) := by
  rw [Dat.before_out_traj _ 12 rfl (fun _ _ => rfl) (carry12 m c) t.val t rfl d, if_neg (by rw [held12 t hp]; exact Bool.false_ne_true)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (stg5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (stg6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (stg7 t) fullShare (iblk m c 7 t) := by
  unfold Dat.leavesExact; rw [show cfg0.idle 7 (grid0.coords t) = false from rfl, after_7]
theorem leaves_10 (c : Dev nD) (t : Fin cfg0.N) : (dats m 0 c).leavesExact 10 t = owns (c : Thread nD τ) (stg10 t) fullShare (k0_pay18 (iblk m c 3 t) (iblk m c 4 t)) := by
  unfold Dat.leavesExact; rw [show cfg0.idle 10 (grid0.coords t) = false from rfl, after_10]
theorem leaves_11 (c : Dev nD) (t : Fin cfg0.N) : (dats m 0 c).leavesExact 11 t = owns (c : Thread nD τ) (stg11 t) fullShare (dabBlock (dobAt m c t.val t.isLt) (iblk m c 3 t) (iblk m c 4 t) (iblk m c 7 t)) := by
  unfold Dat.leavesExact; rw [show cfg0.idle 11 (grid0.coords t) = false from rfl, after_11]
theorem leaves_8 (c : Dev nD) (t : Fin cfg0.N) (h : t.val % 3 = 2) : (dats m 0 c).leavesExact 8 t = owns (c : Thread nD τ) (stg8 t) fullShare (k0_pay8 (iblk m c 1 t) (iblk m c 2 t) (accAt m c t.val t.isLt) (iblk m c 0 t)) := by
  unfold Dat.leavesExact; rw [live8 t h, after_8]
theorem leaves_9 (c : Dev nD) (t : Fin cfg0.N) (h : t.val % 3 = 0) : (dats m 0 c).leavesExact 9 t = owns (c : Thread nD τ) (stg9 t) fullShare (dobAt m c t.val t.isLt) := by
  unfold Dat.leavesExact; rw [live9 t h, after_9]
theorem leaves_12 (c : Dev nD) (t : Fin cfg0.N) (h : t.val = 0 ∨ t.val % 3 = 2) : (dats m 0 c).leavesExact 12 t = owns (c : Thread nD τ) (stg12 t) fullShare (dgAt m c t.val t.isLt) := by
  unfold Dat.leavesExact; rw [live12 t h, after_12]
theorem leaves_9_flushed (c : Dev nD) (t : Fin cfg0.N) (h : t.val % 3 = 2) : (dats m 0 c).leavesExact 9 t = owns (c : Thread nD τ) (stg9 t) fullShare (dobAt m c t.val t.isLt) := by
  unfold Dat.leavesExact; rw [idle9 t (by omega), flushed9 t h, after_9]

set_option maxHeartbeats 4000000 in
theorem body_first (c : Dev nD) (t : Fin cfg0.N) (h0 : t.val = 0) :
    bodyPre m c t ⊢ wp frame (wpE (defs₀ (F := F)) Variants.none c none) Set.univ (bodyAt0 t) (fun _ => bodyPost m c t) := by
  have hN := N48 t
  unfold bodyPre bodyPost bodyAt0
  simp only [before_0, before_1, before_2, before_3, before_4, before_5, before_6, before_7, leaves_0, leaves_1, leaves_2, leaves_3, leaves_4, leaves_5, leaves_6, leaves_7, leaves_10, leaves_11]
  rw [show (dats m 0 c).owesAt () t.succ = (dats m 0 c).owesAt () t.castSucc from rfl]
  rw [show (dats m 0 c).Φ t.succ = inv m c (t.val + 1) t.isLt from rfl, inv_succ]
  rw [leaves_9 m c t (by omega)]
  rw [leaves_12 m c t (.inl h0)]
  rw [Dat.leavesExact_idle (dats m 0 c) 8 t (idle8 t (by omega)).1 (idle8 t (by omega)).2]
  rw [inv_castSucc m c t, inv_zero m c _ _ h0, start_eq, accAt_open m c t (by omega), dobAt_open m c t (by omega), dgAt_first m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_first c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cond1_iff t).mpr (by omega)) ((cond2_iff t).mpr h0) (fun h => by have := (cond3_iff t).mp h; omega) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  iexact H12

set_option maxHeartbeats 4000000 in
theorem body_open (c : Dev nD) (t : Fin cfg0.N) (h0 : t.val % 3 = 0) (hp : t.val ≠ 0) :
    bodyPre m c t ⊢ wp frame (wpE (defs₀ (F := F)) Variants.none c none) Set.univ (bodyAt0 t) (fun _ => bodyPost m c t) := by
  have hN := N48 t
  unfold bodyPre bodyPost bodyAt0
  simp only [before_0, before_1, before_2, before_3, before_4, before_5, before_6, before_7, leaves_0, leaves_1, leaves_2, leaves_3, leaves_4, leaves_5, leaves_6, leaves_7, leaves_10, leaves_11]
  rw [show (dats m 0 c).owesAt () t.succ = (dats m 0 c).owesAt () t.castSucc from rfl]
  rw [show (dats m 0 c).Φ t.succ = inv m c (t.val + 1) t.isLt from rfl, inv_succ]
  rw [leaves_9 m c t h0]
  rw [Dat.leavesExact_idle (dats m 0 c) 8 t (idle8 t (by omega)).1 (idle8 t (by omega)).2]
  rw [Dat.leavesExact_idle (dats m 0 c) 12 t (idle12 t (by omega) (by omega)).1 (idle12 t (by omega) (by omega)).2]
  rw [inv_castSucc m c t, inv_pos m c _ _ hp, accAt_open m c t h0, dobAt_open m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_open c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cond1_iff t).mpr h0) (fun h => hp ((cond2_iff t).mp h)) (fun h => by have := (cond3_iff t).mp h; omega) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [HS0]; · iexists _; iexact HS0
  isplitl [HS1]; · iexists _; iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  iexists _; iexact H12

set_option maxHeartbeats 4000000 in
theorem body_middle (c : Dev nD) (t : Fin cfg0.N) (h1 : t.val % 3 = 1) :
    bodyPre m c t ⊢ wp frame (wpE (defs₀ (F := F)) Variants.none c none) Set.univ (bodyAt0 t) (fun _ => bodyPost m c t) := by
  have hN := N48 t
  unfold bodyPre bodyPost bodyAt0
  simp only [before_0, before_1, before_2, before_3, before_4, before_5, before_6, before_7, leaves_0, leaves_1, leaves_2, leaves_3, leaves_4, leaves_5, leaves_6, leaves_7, leaves_10, leaves_11]
  rw [show (dats m 0 c).owesAt () t.succ = (dats m 0 c).owesAt () t.castSucc from rfl]
  rw [show (dats m 0 c).Φ t.succ = inv m c (t.val + 1) t.isLt from rfl, inv_succ]
  rw [Dat.leavesExact_idle (dats m 0 c) 8 t (idle8 t (by omega)).1 (idle8 t (by omega)).2]
  rw [Dat.leavesExact_idle (dats m 0 c) 9 t (idle9 t (by omega)) (keep9 t h1)]
  rw [Dat.leavesExact_idle (dats m 0 c) 12 t (idle12 t (by omega) (by omega)).1 (idle12 t (by omega) (by omega)).2]
  rw [inv_castSucc m c t, inv_pos m c _ _ (by omega), accAt_later m c t (by omega), dobAt_later m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_middle c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => by have := (cond1_iff t).mp h; omega) (fun h => by have := (cond2_iff t).mp h; omega) (fun h => by have := (cond3_iff t).mp h; omega) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  iexists _; iexact H12

set_option maxHeartbeats 4000000 in
theorem body_close (c : Dev nD) (t : Fin cfg0.N) (h2 : t.val % 3 = 2) :
    bodyPre m c t ⊢ wp frame (wpE (defs₀ (F := F)) Variants.none c none) Set.univ (bodyAt0 t) (fun _ => bodyPost m c t) := by
  have hN := N48 t
  unfold bodyPre bodyPost bodyAt0
  simp only [before_0, before_1, before_2, before_3, before_4, before_5, before_6, before_7, leaves_0, leaves_1, leaves_2, leaves_3, leaves_4, leaves_5, leaves_6, leaves_7, leaves_10, leaves_11]
  rw [show (dats m 0 c).owesAt () t.succ = (dats m 0 c).owesAt () t.castSucc from rfl]
  rw [show (dats m 0 c).Φ t.succ = inv m c (t.val + 1) t.isLt from rfl, inv_succ]
  rw [leaves_8 m c t h2]
  rw [leaves_12 m c t (.inr h2)]
  rw [leaves_9_flushed m c t h2]
  simp only [before_9 m c t (by omega), before_12 m c t (by omega)]
  rw [inv_castSucc m c t, inv_pos m c _ _ (by omega), dgAt_close m c t h2, accAt_later m c t (by omega), dobAt_later m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_close c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => by have := (cond1_iff t).mp h; omega) (fun h => by have := (cond2_iff t).mp h; omega) ((cond3_iff t).mpr h2) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body (c : Dev nD) (t : Fin cfg0.N) :
    bodyPre m c t ⊢ wp frame (wpE (defs₀ (F := F)) Variants.none c none) Set.univ (bodyAt0 t) (fun _ => bodyPost m c t) := by
  by_cases hp : t.val = 0
  · exact body_first m c t hp
  · by_cases h0 : t.val % 3 = 0
    · exact body_open m c t h0 hp
    · by_cases h2 : t.val % 3 = 2
      · exact body_close m c t h2
      · exact body_middle m c t (by omega)

theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (body m c t) rfl .rfl fun _ => .rfl

theorem entry (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  have hN : (Fin.last cfg0.N).val ≠ 0 := by rw [Fin.val_last]; have : cfg0.N = 48 := N_0; omega
  rw [show (dats m 0 c).Φ (Fin.last cfg0.N) = inv m c (Fin.last cfg0.N).val (Nat.le_of_lt_succ (Fin.last cfg0.N).isLt) from rfl, inv_pos m c _ _ hN, start_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every execution ends with the pipeline's arrays at what the proof data says and the semaphores at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := entry m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The frame: every execution ends, the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.FfnBackIdealRun

end
-- ==== Proof.FfnBackBits.lean ====
/- The frame of `FfnBack` over the machine's floats: the program has the text of `FfnBackIdeal`, whose run is proved over any
   float values. -/
module

public import proofs.«01_k».proof.Defs
public import proofs.«01_k».proof.Proof.FfnBackRun
public import proofs.«01_k».proof.Proof.Gen.FfnBack

@[expose] public section

noncomputable section

namespace Cert.FfnBackClaim

open Idealize.ShloMosaic Idealize.SL.Sem

set_option smartUnfolding false in
set_option maxHeartbeats 2000000 in
/-- The kernel over the machine's floats: every run ends, its arguments unchanged and its semaphores at zero. -/
theorem kernel_frame : quiescent_FfnBack :=
  fun m ρ _ => FfnBackIdealRun.frame (F := Bits) m ρ

end Cert.FfnBackClaim

end
-- ==== Proof.FfnReal.lean ====
/- The real functions of a feed-forward half step's backward pass, row by row: the gated unit, its cotangents, and the
   norm's cotangents. -/
module

public import proofs.«01_k».proof.Proof.Layout

@[expose] public section

noncomputable section

namespace Cert.FfnReal

open Idealize.ShloMosaic Cert.RealValue Cert.Layout

/-- The gated unit: the swish of the first argument times the second. -/
def sR (a b : ℝ) : ℝ := a * logi a * b

/-- The cotangent of the gated unit, at one hidden column with weights `y`: of the halved cotangent `o` of the result. -/
def dsR (o y : Fin 1024 → ℝ) : ℝ := ∑ k, 1 / 2 * o k * y k

/-- The cotangent of the unit's first argument, -/
def daR (ds a b : ℝ) : ℝ := ds * b * (logi a * (1 + a * (1 - logi a)))

/-- of its second, -/
def dbR (ds a : ℝ) : ℝ := ds * (a * logi a)

/-- of the row under the norm, from the normed row's, -/
def dxR (dn x g : Fin 1024 → ℝ) (b : Fin 1024) : ℝ :=
  rinv x * (dn b * g b - x b * rinv x * ((∑ k, dn k * g k * (x k * rinv x)) / 1024))

/-- and the row's share of the scale's. -/
def dgR (dn x : Fin 1024 → ℝ) (b : Fin 1024) : ℝ := dn b * (x b * rinv x)

/-- The normed row, -/
def nR (x g : Fin 1024 → ℝ) (b : Fin 1024) : ℝ := x b * rinv x * g b

/-- its product with a column of a weight. -/
def actR (x g w : Fin 1024 → ℝ) : ℝ := ∑ k, nR x g k * w k

section Whole

variable (x o g : Fin 1024 → ℝ) (w1 w3 : Fin 1024 → Fin 2816 → ℝ) (w2 : Fin 2816 → Fin 1024 → ℝ)

/-- The gated unit at hidden column `q`, -/
def sQ (q : Fin 2816) : ℝ := sR (actR x g fun k => w1 k q) (actR x g fun k => w3 k q)
/-- the cotangents of its arguments, -/
def daQ (q : Fin 2816) : ℝ := daR (dsR o (w2 q)) (actR x g fun k => w1 k q) (actR x g fun k => w3 k q)
def dbQ (q : Fin 2816) : ℝ := dbR (dsR o (w2 q)) (actR x g fun k => w1 k q)
/-- and the normed row's. -/
def dnQ (k : Fin 1024) : ℝ := ∑ q, (daQ x o g w1 w3 w2 q * w1 k q + dbQ x o g w1 w2 q * w3 k q)

/-- The weights in the padded layout: a hidden column of the second weight. -/
def padRow (j : Fin 3072) (k : Fin 1024) : ℝ := padE (fun q => w2 q k) j

/-- In the padded layout the unit is the padded unit, -/
theorem sR_pad (j : Fin 3072) :
    sR (padE (fun q => actR x g fun k => w1 k q) j) (padE (fun q => actR x g fun k => w3 k q) j) = padE (sQ x g w1 w3) j := by
  unfold padE sQ
  split
  · rfl
  · simp [sR]

/-- the cotangents the padded cotangents, -/
theorem daR_pad (j : Fin 3072) :
    daR (dsR o (padRow w2 j)) (padE (fun q => actR x g fun k => w1 k q) j) (padE (fun q => actR x g fun k => w3 k q) j)
      = padE (daQ x o g w1 w3 w2) j := by
  unfold padRow padE daQ
  split
  · rfl
  · simp [daR]

theorem dbR_pad (j : Fin 3072) :
    dbR (dsR o (padRow w2 j)) (padE (fun q => actR x g fun k => w1 k q) j) = padE (dbQ x o g w1 w2) j := by
  unfold padRow padE dbQ
  split
  · rfl
  · simp [dbR]

/-- and the sum over the padded columns the sum over the columns. -/
theorem dn_pad (k : Fin 1024) :
    ∑ j : Fin 3072, (padE (daQ x o g w1 w3 w2) j * padE (w1 k) j + padE (dbQ x o g w1 w2) j * padE (w3 k) j) = dnQ x o g w1 w3 w2 k := by
  refine Eq.trans (Finset.sum_congr rfl fun j _ => ?_) (sum_padE _)
  unfold padE
  split
  · rfl
  · simp

end Whole

end Cert.FfnReal

end
-- ==== Proof.FfnBackKernel.lean ====
/- What the feed-forward backward kernel computes: its payloads at blocks of reals, what its buffers hold after each
   point, and the five result arrays after the run. -/
module

public import proofs.«01_k».proof.Proof.FfnBackRun
public import proofs.«01_k».proof.Proof.FfnReal

@[expose] public section

set_option maxRecDepth 16384

noncomputable section

namespace Cert.FfnBackIdeal.RealValue

open Cert.FfnBackIdeal Cert.FfnBackIdeal.Gen Cert.FfnBackIdealRun Cert.RealValue Cert.FfnReal
open Idealize.ShloMosaic Idealize.ShloMosaic.TcCoe Idealize.SL.Sem

/-! ## The body's payloads at blocks of reals -/

section Payloads

variable (o x p a b acc : Fin 512 → Fin 1024 → ℝ) (g dg : Fin 1024 → ℝ) (u v y : Fin 1024 → Fin 1024 → ℝ)
variable {vo vx vacc : Vec Ideal S512x1024 .f32} {vp va vb : Vec Ideal S512x1024 .bf16} {vg vdg : Vec Ideal S1x1024 .f32}
  {vu vv : Vec Ideal S1x1024x1024 .bf16} {vy : Vec Ideal S1024x1024 .bf16}

/-- The halved cotangent of the result. -/
theorem pay10_real (ho : ∀ i k, vo (ix2 i k) = ((o i k : ℝ) : EReal)) (i : Fin 512) (k : Fin 1024) :
    k0_pay10 (F := Ideal) vo (ix2 i k) = ((1 / 2 * o i k : ℝ) : EReal) := by
  unfold k0_pay10
  pointwise
  simp only [ho, ofBits_half, ← EReal.coe_mul]

theorem pay11_real (i : Fin 512) (k : Fin 1024) : k0_pay11 (F := Ideal) (ix2 i k) = ((0 : ℝ) : EReal) := by
  unfold k0_pay11
  pointwise
  rfl

theorem pay12_real (k : Fin 1024) : k0_pay12 (F := Ideal) (ix2 0 k) = ((0 : ℝ) : EReal) := by
  unfold k0_pay12
  pointwise
  rfl

/-- The gated unit's cotangent. -/
theorem pay13_real (hp : ∀ i k, vp (ix2 i k) = ((p i k : ℝ) : EReal)) (hy : ∀ j k, vy (ix2 j k) = ((y j k : ℝ) : EReal))
    (i : Fin 512) (j : Fin 1024) :
    k0_pay13 (F := Ideal) vp vy (ix2 i j) = ((∑ k, p i k * y j k : ℝ) : EReal) := by
  unfold k0_pay13
  pointwise [dot_S512x1024_S1024x1024_S512x1024_1_1_0_0_n_n]
  simp only [hp, hy, ← EReal.coe_mul, coe_sum]

theorem pay14_real (ha : ∀ i j, va (ix2 i j) = ((a i j : ℝ) : EReal)) (i : Fin 512) (j : Fin 1024) :
    k0_pay14 (F := Ideal) va (ix2 i j) = ((a i j : ℝ) : EReal) := by
  unfold k0_pay14
  pointwise
  exact ha i j

theorem pay15_real (hb : ∀ i j, vb (ix2 i j) = ((b i j : ℝ) : EReal)) (i : Fin 512) (j : Fin 1024) :
    k0_pay15 (F := Ideal) vb (ix2 i j) = ((b i j : ℝ) : EReal) := by
  unfold k0_pay15
  pointwise
  exact hb i j

/-- The logistic of the unit's first argument, -/
theorem pay16_real (ha : ∀ i j, va (ix2 i j) = ((a i j : ℝ) : EReal)) (i : Fin 512) (j : Fin 1024) :
    k0_pay16 (F := Ideal) va (ix2 i j) = ((logi (a i j) : ℝ) : EReal) := by
  unfold k0_pay16
  pointwise
  simp only [pay14_real a ha, zero_sub_coe, Ideal.exp_coe, one_add_coe, div_exp]

/-- its swish, -/
theorem pay17_real (ha : ∀ i j, va (ix2 i j) = ((a i j : ℝ) : EReal)) (i : Fin 512) (j : Fin 1024) :
    k0_pay17 (F := Ideal) va (ix2 i j) = ((a i j * logi (a i j) : ℝ) : EReal) := by
  unfold k0_pay17
  pointwise
  simp only [pay14_real a ha, pay16_real a ha, ← EReal.coe_mul]

/-- and the gated unit. -/
theorem pay18_real (ha : ∀ i j, va (ix2 i j) = ((a i j : ℝ) : EReal)) (hb : ∀ i j, vb (ix2 i j) = ((b i j : ℝ) : EReal))
    (i : Fin 512) (j : Fin 1024) :
    k0_pay18 (F := Ideal) va vb (ix2 i j) = ((sR (a i j) (b i j) : ℝ) : EReal) := by
  unfold k0_pay18
  pointwise
  simp only [pay15_real b hb, pay17_real a ha, ← EReal.coe_mul]
  rfl

/-- The first argument's cotangent, -/
theorem pay1_real (hp : ∀ i k, vp (ix2 i k) = ((p i k : ℝ) : EReal)) (hy : ∀ j k, vy (ix2 j k) = ((y j k : ℝ) : EReal))
    (ha : ∀ i j, va (ix2 i j) = ((a i j : ℝ) : EReal)) (hb : ∀ i j, vb (ix2 i j) = ((b i j : ℝ) : EReal))
    (i : Fin 512) (j : Fin 1024) :
    k0_pay1 (k0_pay16 va) (k0_pay19 vp vy vb) (k0_pay20 va) k0_pay21 (ix2 i j)
      = ((daR (∑ k, p i k * y j k) (a i j) (b i j) : ℝ) : EReal) := by
  unfold k0_pay1 k0_pay19 k0_pay20 k0_pay21
  pointwise
  simp only [pay13_real p y hp hy, pay14_real a ha, pay15_real b hb, pay16_real a ha, one_sub_coe, one_add_coe, ← EReal.coe_mul]
  rfl

/-- and the second's. -/
theorem pay2_real (hp : ∀ i k, vp (ix2 i k) = ((p i k : ℝ) : EReal)) (hy : ∀ j k, vy (ix2 j k) = ((y j k : ℝ) : EReal))
    (ha : ∀ i j, va (ix2 i j) = ((a i j : ℝ) : EReal)) (i : Fin 512) (j : Fin 1024) :
    k0_pay2 (k0_pay13 vp vy) (k0_pay17 va) (ix2 i j) = ((dbR (∑ k, p i k * y j k) (a i j) : ℝ) : EReal) := by
  unfold k0_pay2
  pointwise
  simp only [pay13_real p y hp hy, pay17_real a ha, ← EReal.coe_mul]
  rfl

/-- A slice's step of the accumulator. -/
theorem accStep_real (hp : ∀ i k, vp (ix2 i k) = ((p i k : ℝ) : EReal)) (hy : ∀ j k, vy (ix2 j k) = ((y j k : ℝ) : EReal))
    (ha : ∀ i j, va (ix2 i j) = ((a i j : ℝ) : EReal)) (hb : ∀ i j, vb (ix2 i j) = ((b i j : ℝ) : EReal))
    (hu : ∀ k j, vu (ix3 (0 : Fin 1) k j) = ((u k j : ℝ) : EReal)) (hv : ∀ k j, vv (ix3 (0 : Fin 1) k j) = ((v k j : ℝ) : EReal))
    (hacc : ∀ i k, vacc (ix2 i k) = ((acc i k : ℝ) : EReal)) (i : Fin 512) (k : Fin 1024) :
    accStep (F := Ideal) vp va vb vu vv vy vacc (ix2 i k)
      = ((acc i k + ∑ j, (daR (∑ k, p i k * y j k) (a i j) (b i j) * u k j + dbR (∑ k, p i k * y j k) (a i j) * v k j) : ℝ) : EReal) := by
  unfold accStep k0_pay5
  pointwise [dot_S512x1024_S1024x1024_S512x1024_1_1_0_0_n_n]
  simp only [pay1_real p a b y hp hy ha hb, pay2_real p a y hp hy ha, hu, hv, hacc, ← EReal.coe_mul, coe_sum, ← EReal.coe_add]
  rw [Finset.sum_add_distrib]

/-- The two halves of the unit's cotangents. -/
theorem dab_real (hp : ∀ i k, vp (ix2 i k) = ((p i k : ℝ) : EReal)) (hy : ∀ j k, vy (ix2 j k) = ((y j k : ℝ) : EReal))
    (ha : ∀ i j, va (ix2 i j) = ((a i j : ℝ) : EReal)) (hb : ∀ i j, vb (ix2 i j) = ((b i j : ℝ) : EReal))
    (s : Fin 2) (i : Fin 512) (j : Fin 1024) :
    dabBlock (F := Ideal) vp va vb vy (ix3 s i j)
      = ((if s.val = 0 then daR (∑ k, p i k * y j k) (a i j) (b i j) else dbR (∑ k, p i k * y j k) (a i j) : ℝ) : EReal) := by
  unfold dabBlock dabPieces
  match s with
  | ⟨0, _⟩ =>
    have e : (ix3 (0 : Fin 2) i j : S2x512x1024.Idx)
        = (Rect.unit (s := S2x512x1024) ![0, 0, 0] S1x512x1024.size inb_S2x512x1024_S1x512x1024_0_0_0).emb (ix3 (0 : Fin 1) i j) := by
      funext d
      apply Fin.ext
      match d with
      | ⟨0, _⟩ => rfl
      | ⟨1, _⟩ => show i.val = 0 + 1 * i.val; omega
      | ⟨2, _⟩ => show j.val = 0 + 1 * j.val; omega
    refine (View.canon_cons_of_not_mem _ _ ?_).trans ?_
    · show _ ∉ (Rect.unit (s := S2x512x1024) ![1, 0, 0] S1x512x1024.size inb_S2x512x1024_S1x512x1024_1_0_0).set
      rw [Rect.mem_set_unit]
      intro h
      exact absurd (show 1 ≤ 0 from (h 0).1) (by decide)
    · refine (congrArg _ e).trans ((View.canon_cons_emb _ _ _ _).trans ?_)
      unfold k0_pay3
      pointwise
      exact pay1_real p a b y hp hy ha hb i j
  | ⟨1, _⟩ =>
    have e : (ix3 (1 : Fin 2) i j : S2x512x1024.Idx)
        = (Rect.unit (s := S2x512x1024) ![1, 0, 0] S1x512x1024.size inb_S2x512x1024_S1x512x1024_1_0_0).emb (ix3 (0 : Fin 1) i j) := by
      funext d
      apply Fin.ext
      match d with
      | ⟨0, _⟩ => rfl
      | ⟨1, _⟩ => show i.val = 0 + 1 * i.val; omega
      | ⟨2, _⟩ => show j.val = 0 + 1 * j.val; omega
    refine (congrArg _ e).trans ((View.canon_cons_emb _ _ _ _).trans ?_)
    unfold k0_pay4
    pointwise
    exact pay2_real p a y hp hy ha i j

/-- The reciprocal root of every row, -/
theorem pay6_real (hx : ∀ i k, vx (ix2 i k) = ((x i k : ℝ) : EReal)) (i : Fin 512) (z : Fin 1) :
    k0_pay6 (F := Ideal) vx (ix2 i z) = ((rinv (x i) : ℝ) : EReal) := by
  unfold k0_pay6
  pointwise
  simp only [hx, ofBits_1024, ofBits_eps, ← EReal.coe_mul, coe_sum, div_1024, ← EReal.coe_add, rsqrt_ms]

theorem pay7_real (hx : ∀ i k, vx (ix2 i k) = ((x i k : ℝ) : EReal)) (i : Fin 512) (k : Fin 1024) :
    k0_pay7 (F := Ideal) vx (ix2 i k) = ((x i k * rinv (x i) : ℝ) : EReal) := by
  unfold k0_pay7
  pointwise
  simp only [hx, pay6_real x hx, ← EReal.coe_mul]

/-- the cotangent of every row, -/
theorem pay8_real (hx : ∀ i k, vx (ix2 i k) = ((x i k : ℝ) : EReal)) (hg : ∀ k, vg (ix2 0 k) = ((g k : ℝ) : EReal))
    (hacc : ∀ i k, vacc (ix2 i k) = ((acc i k : ℝ) : EReal)) (ho : ∀ i k, vo (ix2 i k) = ((o i k : ℝ) : EReal))
    (i : Fin 512) (k : Fin 1024) :
    k0_pay8 (F := Ideal) vx vg vacc vo (ix2 i k) = ((o i k + dxR (acc i) (x i) g k : ℝ) : EReal) := by
  unfold k0_pay8
  pointwise
  simp only [hx, hg, hacc, ho, pay6_real x hx, pay7_real x hx, ofBits_1024, ← EReal.coe_mul, coe_sum, div_1024, ← EReal.coe_sub, ← EReal.coe_add]
  rfl

/-- and the rows' shares of the scale's. -/
theorem pay9_real (hx : ∀ i k, vx (ix2 i k) = ((x i k : ℝ) : EReal)) (hacc : ∀ i k, vacc (ix2 i k) = ((acc i k : ℝ) : EReal))
    (hdg : ∀ k, vdg (ix2 0 k) = ((dg k : ℝ) : EReal)) (k : Fin 1024) :
    k0_pay9 (F := Ideal) vx vacc vdg (ix2 0 k) = ((dg k + ∑ i, dgR (acc i) (x i) k : ℝ) : EReal) := by
  unfold k0_pay9
  pointwise
  simp only [hacc, hdg, pay7_real x hx, ← EReal.coe_mul, coe_sum, ← EReal.coe_add]
  rfl

end Payloads

/-! ## The blocks of the windows -/

section Blocks

variable (m : (ℓ : Loc nD τ sig) → Buf (Elt Ideal) ℓ) (c : Dev nD)

/-- Row `a` of the block at point `n`, of the array, -/
def row (n : ℕ) (a : Fin 512) : Fin 8192 := ⟨512 * (n / 3 % 16) + a.val, by have := a.isLt; omega⟩
/-- and its column `j`. -/
def col (n : ℕ) (j : Fin 1024) : Fin 3072 := ⟨1024 * (n % 3) + j.val, by have := j.isLt; omega⟩

theorem index_0 : ∀ t : Fin cfg0.N, win0_0.index t 0 = t.val / 3 ∧ win0_0.index t 1 = 0 :=
  (by decide +kernel : ∀ t : Fin grid0.N, win0_0.index t 0 = t.val / 3 ∧ win0_0.index t 1 = 0)
theorem index_1 : ∀ t : Fin cfg0.N, win0_1.index t 0 = t.val / 3 ∧ win0_1.index t 1 = 0 :=
  (by decide +kernel : ∀ t : Fin grid0.N, win0_1.index t 0 = t.val / 3 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = t.val / 3 ∧ win0_3.index t 1 = t.val % 3 :=
  (by decide +kernel : ∀ t : Fin grid0.N, win0_3.index t 0 = t.val / 3 ∧ win0_3.index t 1 = t.val % 3)
theorem index_4 : ∀ t : Fin cfg0.N, win0_4.index t 0 = t.val / 3 ∧ win0_4.index t 1 = t.val % 3 :=
  (by decide +kernel : ∀ t : Fin grid0.N, win0_4.index t 0 = t.val / 3 ∧ win0_4.index t 1 = t.val % 3)
theorem index_5 : ∀ t : Fin cfg0.N, win0_5.index t 0 = 0 ∧ win0_5.index t 1 = 0 ∧ win0_5.index t 2 = t.val % 3 :=
  (by decide +kernel : ∀ t : Fin grid0.N, win0_5.index t 0 = 0 ∧ win0_5.index t 1 = 0 ∧ win0_5.index t 2 = t.val % 3)
theorem index_6 : ∀ t : Fin cfg0.N, win0_6.index t 0 = 1 ∧ win0_6.index t 1 = 0 ∧ win0_6.index t 2 = t.val % 3 :=
  (by decide +kernel : ∀ t : Fin grid0.N, win0_6.index t 0 = 1 ∧ win0_6.index t 1 = 0 ∧ win0_6.index t 2 = t.val % 3)
theorem index_7 : ∀ t : Fin cfg0.N, win0_7.index t 0 = t.val % 3 ∧ win0_7.index t 1 = 0 :=
  (by decide +kernel : ∀ t : Fin grid0.N, win0_7.index t 0 = t.val % 3 ∧ win0_7.index t 1 = 0)
theorem index_8 : ∀ t : Fin cfg0.N, win0_8.index t 0 = t.val / 3 ∧ win0_8.index t 1 = 0 :=
  (by decide +kernel : ∀ t : Fin grid0.N, win0_8.index t 0 = t.val / 3 ∧ win0_8.index t 1 = 0)
theorem index_9 : ∀ t : Fin cfg0.N, win0_9.index t 0 = t.val / 3 ∧ win0_9.index t 1 = 0 :=
  (by decide +kernel : ∀ t : Fin grid0.N, win0_9.index t 0 = t.val / 3 ∧ win0_9.index t 1 = 0)
theorem index_10 : ∀ t : Fin cfg0.N, win0_10.index t 0 = t.val / 3 ∧ win0_10.index t 1 = t.val % 3 :=
  (by decide +kernel : ∀ t : Fin grid0.N, win0_10.index t 0 = t.val / 3 ∧ win0_10.index t 1 = t.val % 3)
theorem index_11 : ∀ t : Fin cfg0.N, win0_11.index t 0 = 0 ∧ win0_11.index t 1 = t.val / 3 ∧ win0_11.index t 2 = t.val % 3 :=
  (by decide +kernel : ∀ t : Fin grid0.N, win0_11.index t 0 = 0 ∧ win0_11.index t 1 = t.val / 3 ∧ win0_11.index t 2 = t.val % 3)
theorem index_12 : ∀ t : Fin cfg0.N, win0_12.index t 0 = 0 ∧ win0_12.index t 1 = 0 :=
  (by decide +kernel : ∀ t : Fin grid0.N, win0_12.index t 0 = 0 ∧ win0_12.index t 1 = 0)

theorem iblk_0 (t : Fin cfg0.N) (a : Fin 512) (k : Fin 1024) :
    (iblk m c 0 t : Vec Ideal S512x1024 .f32) (ix2 a k) = V m c main_arg5 (ix2 (row t.val a) k) := by
  have hN := N48 t
  refine congrArg (V m c main_arg5) (funext fun d => Fin.ext ?_)
  match d with
  | ⟨0, _⟩ => show win0_0.index t 0 * 512 + 1 * a.val = 512 * (t.val / 3 % 16) + a.val; rw [(index_0 t).1]; omega
  | ⟨1, _⟩ => show win0_0.index t 1 * 1024 + 1 * k.val = k.val; rw [(index_0 t).2]; omega

theorem iblk_1 (t : Fin cfg0.N) (a : Fin 512) (k : Fin 1024) :
    (iblk m c 1 t : Vec Ideal S512x1024 .f32) (ix2 a k) = V m c main_arg0 (ix2 (row t.val a) k) := by
  have hN := N48 t
  refine congrArg (V m c main_arg0) (funext fun d => Fin.ext ?_)
  match d with
  | ⟨0, _⟩ => show win0_1.index t 0 * 512 + 1 * a.val = 512 * (t.val / 3 % 16) + a.val; rw [(index_1 t).1]; omega
  | ⟨1, _⟩ => show win0_1.index t 1 * 1024 + 1 * k.val = k.val; rw [(index_1 t).2]; omega

theorem iblk_2 (t : Fin cfg0.N) (k : Fin 1024) :
    (iblk m c 2 t : Vec Ideal S1x1024 .f32) (ix2 (0 : Fin 1) k) = V m c main_v23 (ix2 0 k) := by
  have hN := N48 t
  refine congrArg (V m c main_v23) (funext fun d => Fin.ext ?_)
  match d with
  | ⟨0, _⟩ => show win0_2.index t 0 * 1 + 1 * 0 = 0; rw [(index_2 t).1]
  | ⟨1, _⟩ => show win0_2.index t 1 * 1024 + 1 * k.val = k.val; rw [(index_2 t).2]; omega

theorem iblk_3 (t : Fin cfg0.N) (a : Fin 512) (j : Fin 1024) :
    (iblk m c 3 t : Vec Ideal S512x1024 .bf16) (ix2 a j) = V m c main_v17 (ix2 (row t.val a) (col t.val j)) := by
  have hN := N48 t
  refine congrArg (V m c main_v17) (funext fun d => Fin.ext ?_)
  match d with
  | ⟨0, _⟩ => show win0_3.index t 0 * 512 + 1 * a.val = 512 * (t.val / 3 % 16) + a.val; rw [(index_3 t).1]; omega
  | ⟨1, _⟩ => show win0_3.index t 1 * 1024 + 1 * j.val = 1024 * (t.val % 3) + j.val; rw [(index_3 t).2]; omega

theorem iblk_4 (t : Fin cfg0.N) (a : Fin 512) (j : Fin 1024) :
    (iblk m c 4 t : Vec Ideal S512x1024 .bf16) (ix2 a j) = V m c main_v22 (ix2 (row t.val a) (col t.val j)) := by
  have hN := N48 t
  refine congrArg (V m c main_v22) (funext fun d => Fin.ext ?_)
  match d with
  | ⟨0, _⟩ => show win0_4.index t 0 * 512 + 1 * a.val = 512 * (t.val / 3 % 16) + a.val; rw [(index_4 t).1]; omega
  | ⟨1, _⟩ => show win0_4.index t 1 * 1024 + 1 * j.val = 1024 * (t.val % 3) + j.val; rw [(index_4 t).2]; omega

theorem iblk_5 (t : Fin cfg0.N) (k : Fin 1024) (j : Fin 1024) :
    (iblk m c 5 t : Vec Ideal S1x1024x1024 .bf16) (ix3 (0 : Fin 1) k j) = V m c main_v34 (ix3 (0 : Fin 2) k (col t.val j)) := by
  have hN := N48 t
  refine congrArg (V m c main_v34) (funext fun d => Fin.ext ?_)
  match d with
  | ⟨0, _⟩ => show win0_5.index t 0 * 1 + 1 * 0 = 0; rw [(index_5 t).1]
  | ⟨1, _⟩ => show win0_5.index t 1 * 1024 + 1 * k.val = k.val; rw [(index_5 t).2.1]; omega
  | ⟨2, _⟩ => show win0_5.index t 2 * 1024 + 1 * j.val = 1024 * (t.val % 3) + j.val; rw [(index_5 t).2.2]; omega

theorem iblk_6 (t : Fin cfg0.N) (k : Fin 1024) (j : Fin 1024) :
    (iblk m c 6 t : Vec Ideal S1x1024x1024 .bf16) (ix3 (0 : Fin 1) k j) = V m c main_v34 (ix3 (1 : Fin 2) k (col t.val j)) := by
  have hN := N48 t
  refine congrArg (V m c main_v34) (funext fun d => Fin.ext ?_)
  match d with
  | ⟨0, _⟩ => show win0_6.index t 0 * 1 + 1 * 0 = 1; rw [(index_6 t).1]
  | ⟨1, _⟩ => show win0_6.index t 1 * 1024 + 1 * k.val = k.val; rw [(index_6 t).2.1]; omega
  | ⟨2, _⟩ => show win0_6.index t 2 * 1024 + 1 * j.val = 1024 * (t.val % 3) + j.val; rw [(index_6 t).2.2]; omega

theorem iblk_7 (t : Fin cfg0.N) (j : Fin 1024) (k : Fin 1024) :
    (iblk m c 7 t : Vec Ideal S1024x1024 .bf16) (ix2 j k) = V m c main_v38 (ix2 (col t.val j) k) := by
  have hN := N48 t
  refine congrArg (V m c main_v38) (funext fun d => Fin.ext ?_)
  match d with
  | ⟨0, _⟩ => show win0_7.index t 0 * 1024 + 1 * j.val = 1024 * (t.val % 3) + j.val; rw [(index_7 t).1]; omega
  | ⟨1, _⟩ => show win0_7.index t 1 * 1024 + 1 * k.val = k.val; rw [(index_7 t).2]; omega

theorem emb_8 (t : Fin cfg0.N) (a : Fin 512) (k : Fin 1024) :
    ((cfg0.win 8).blk t).view.emb (ix2 a k) = (ix2 (row t.val a) k) := by
  have hN := N48 t
  funext d
  apply Fin.ext
  match d with
  | ⟨0, _⟩ => show win0_8.index t 0 * 512 + 1 * a.val = 512 * (t.val / 3 % 16) + a.val; rw [(index_8 t).1]; omega
  | ⟨1, _⟩ => show win0_8.index t 1 * 1024 + 1 * k.val = k.val; rw [(index_8 t).2]; omega

theorem emb_9 (t : Fin cfg0.N) (a : Fin 512) (k : Fin 1024) :
    ((cfg0.win 9).blk t).view.emb (ix2 a k) = (ix2 (row t.val a) k) := by
  have hN := N48 t
  funext d
  apply Fin.ext
  match d with
  | ⟨0, _⟩ => show win0_9.index t 0 * 512 + 1 * a.val = 512 * (t.val / 3 % 16) + a.val; rw [(index_9 t).1]; omega
  | ⟨1, _⟩ => show win0_9.index t 1 * 1024 + 1 * k.val = k.val; rw [(index_9 t).2]; omega

theorem emb_10 (t : Fin cfg0.N) (a : Fin 512) (j : Fin 1024) :
    ((cfg0.win 10).blk t).view.emb (ix2 a j) = (ix2 (row t.val a) (col t.val j)) := by
  have hN := N48 t
  funext d
  apply Fin.ext
  match d with
  | ⟨0, _⟩ => show win0_10.index t 0 * 512 + 1 * a.val = 512 * (t.val / 3 % 16) + a.val; rw [(index_10 t).1]; omega
  | ⟨1, _⟩ => show win0_10.index t 1 * 1024 + 1 * j.val = 1024 * (t.val % 3) + j.val; rw [(index_10 t).2]; omega

theorem emb_11 (t : Fin cfg0.N) (s : Fin 2) (a : Fin 512) (j : Fin 1024) :
    ((cfg0.win 11).blk t).view.emb (ix3 s a j) = (ix3 s (row t.val a) (col t.val j)) := by
  have hN := N48 t
  funext d
  apply Fin.ext
  match d with
  | ⟨0, _⟩ => show win0_11.index t 0 * 2 + 1 * s.val = s.val; rw [(index_11 t).1]; omega
  | ⟨1, _⟩ => show win0_11.index t 1 * 512 + 1 * a.val = 512 * (t.val / 3 % 16) + a.val; rw [(index_11 t).2.1]; omega
  | ⟨2, _⟩ => show win0_11.index t 2 * 1024 + 1 * j.val = 1024 * (t.val % 3) + j.val; rw [(index_11 t).2.2]; omega

theorem emb_12 (t : Fin cfg0.N) (k : Fin 1024) :
    ((cfg0.win 12).blk t).view.emb (ix2 (0 : Fin 1) k) = (ix2 0 k) := by
  have hN := N48 t
  funext d
  apply Fin.ext
  match d with
  | ⟨0, _⟩ => show win0_12.index t 0 * 1 + 1 * 0 = 0; rw [(index_12 t).1]
  | ⟨1, _⟩ => show win0_12.index t 1 * 1024 + 1 * k.val = k.val; rw [(index_12 t).2]; omega

theorem cover_8 (i : S8192x1024.Idx) :
    ∃ t : Fin cfg0.N, (cfg0.win 8).flush t = true ∧ i ∈ ((cfg0.win 8).blk t).view.set := by
  have hN : cfg0.N = 48 := N_0
  have h0 : (i 0).val < 8192 := (i 0).isLt
  have h1 : (i 1).val < 1024 := (i 1).isLt
  have ht : 3 * ((i 0).val / 512) + 2 < cfg0.N := by omega
  refine ⟨⟨3 * ((i 0).val / 512) + 2, ht⟩, (flush0_8 _).mpr (by dsimp only; omega), ?_⟩
  show i ∈ ((View.whole main_v39_0).slice (win0_8.rect ⟨3 * ((i 0).val / 512) + 2, ht⟩)).set
  rw [View.set_slice_whole, Rect.mem_set_unit]
  intro d
  match d with
  | ⟨0, _⟩ =>
    show win0_8.index _ 0 * 512 ≤ (i 0).val ∧ (i 0).val < win0_8.index _ 0 * 512 + 512
    rw [(index_8 _).1]; dsimp only; omega
  | ⟨1, _⟩ =>
    show win0_8.index _ 1 * 1024 ≤ (i 1).val ∧ (i 1).val < win0_8.index _ 1 * 1024 + 1024
    rw [(index_8 _).2]; omega

theorem cover_9 (i : S8192x1024.Idx) :
    ∃ t : Fin cfg0.N, (cfg0.win 9).flush t = true ∧ i ∈ ((cfg0.win 9).blk t).view.set := by
  have hN : cfg0.N = 48 := N_0
  have h0 : (i 0).val < 8192 := (i 0).isLt
  have h1 : (i 1).val < 1024 := (i 1).isLt
  have ht : 3 * ((i 0).val / 512) + 2 < cfg0.N := by omega
  refine ⟨⟨3 * ((i 0).val / 512) + 2, ht⟩, (flush0_9 _).mpr (by dsimp only; omega), ?_⟩
  show i ∈ ((View.whole main_v39_1).slice (win0_9.rect ⟨3 * ((i 0).val / 512) + 2, ht⟩)).set
  rw [View.set_slice_whole, Rect.mem_set_unit]
  intro d
  match d with
  | ⟨0, _⟩ =>
    show win0_9.index _ 0 * 512 ≤ (i 0).val ∧ (i 0).val < win0_9.index _ 0 * 512 + 512
    rw [(index_9 _).1]; dsimp only; omega
  | ⟨1, _⟩ =>
    show win0_9.index _ 1 * 1024 ≤ (i 1).val ∧ (i 1).val < win0_9.index _ 1 * 1024 + 1024
    rw [(index_9 _).2]; omega

theorem cover_10 (i : S8192x3072.Idx) :
    ∃ t : Fin cfg0.N, (cfg0.win 10).flush t = true ∧ i ∈ ((cfg0.win 10).blk t).view.set := by
  have hN : cfg0.N = 48 := N_0
  have h0 : (i 0).val < 8192 := (i 0).isLt
  have h1 : (i 1).val < 3072 := (i 1).isLt
  have ht : 3 * ((i 0).val / 512) + (i 1).val / 1024 < cfg0.N := by omega
  refine ⟨⟨3 * ((i 0).val / 512) + (i 1).val / 1024, ht⟩, flush0_10 _, ?_⟩
  show i ∈ ((View.whole main_v39_2).slice (win0_10.rect ⟨3 * ((i 0).val / 512) + (i 1).val / 1024, ht⟩)).set
  rw [View.set_slice_whole, Rect.mem_set_unit]
  intro d
  match d with
  | ⟨0, _⟩ =>
    show win0_10.index _ 0 * 512 ≤ (i 0).val ∧ (i 0).val < win0_10.index _ 0 * 512 + 512
    rw [(index_10 _).1]; dsimp only; omega
  | ⟨1, _⟩ =>
    show win0_10.index _ 1 * 1024 ≤ (i 1).val ∧ (i 1).val < win0_10.index _ 1 * 1024 + 1024
    rw [(index_10 _).2]; dsimp only; omega

theorem cover_11 (i : S2x8192x3072.Idx) :
    ∃ t : Fin cfg0.N, (cfg0.win 11).flush t = true ∧ i ∈ ((cfg0.win 11).blk t).view.set := by
  have hN : cfg0.N = 48 := N_0
  have h0 : (i 0).val < 2 := (i 0).isLt
  have h1 : (i 1).val < 8192 := (i 1).isLt
  have h2 : (i 2).val < 3072 := (i 2).isLt
  have ht : 3 * ((i 1).val / 512) + (i 2).val / 1024 < cfg0.N := by omega
  refine ⟨⟨3 * ((i 1).val / 512) + (i 2).val / 1024, ht⟩, flush0_11 _, ?_⟩
  show i ∈ ((View.whole main_v39_3).slice (win0_11.rect ⟨3 * ((i 1).val / 512) + (i 2).val / 1024, ht⟩)).set
  rw [View.set_slice_whole, Rect.mem_set_unit]
  intro d
  match d with
  | ⟨0, _⟩ =>
    show win0_11.index _ 0 * 2 ≤ (i 0).val ∧ (i 0).val < win0_11.index _ 0 * 2 + 2
    rw [(index_11 _).1]; omega
  | ⟨1, _⟩ =>
    show win0_11.index _ 1 * 512 ≤ (i 1).val ∧ (i 1).val < win0_11.index _ 1 * 512 + 512
    rw [(index_11 _).2.1]; dsimp only; omega
  | ⟨2, _⟩ =>
    show win0_11.index _ 2 * 1024 ≤ (i 2).val ∧ (i 2).val < win0_11.index _ 2 * 1024 + 1024
    rw [(index_11 _).2.2]; dsimp only; omega

theorem cover_12 (i : S1x1024.Idx) :
    ∃ t : Fin cfg0.N, (cfg0.win 12).flush t = true ∧ i ∈ ((cfg0.win 12).blk t).view.set := by
  have hN : cfg0.N = 48 := N_0
  have h0 : (i 0).val < 1 := (i 0).isLt
  have h1 : (i 1).val < 1024 := (i 1).isLt
  have ht : 47 < cfg0.N := by omega
  refine ⟨⟨47, ht⟩, (flush0_12 _).mpr rfl, ?_⟩
  show i ∈ ((View.whole main_v39_4).slice (win0_12.rect ⟨47, ht⟩)).set
  rw [View.set_slice_whole, Rect.mem_set_unit]
  intro d
  match d with
  | ⟨0, _⟩ =>
    show win0_12.index _ 0 * 1 ≤ (i 0).val ∧ (i 0).val < win0_12.index _ 0 * 1 + 1
    rw [(index_12 _).1]; omega
  | ⟨1, _⟩ =>
    show win0_12.index _ 1 * 1024 ≤ (i 1).val ∧ (i 1).val < win0_12.index _ 1 * 1024 + 1024
    rw [(index_12 _).2]; omega

end Blocks

/-! ## The result arrays -/

section Results

variable (m : (ℓ : Loc nD τ sig) → Buf (Elt Ideal) ℓ) (c : Dev nD)
variable (X O : Fin 8192 → Fin 1024 → ℝ) (G : Fin 1024 → ℝ) (A B : Fin 8192 → Fin 3072 → ℝ) (U V' : Fin 1024 → Fin 3072 → ℝ)
  (Y : Fin 3072 → Fin 1024 → ℝ)

/-- The arrays at the region's entry on device `c` are the given real ones. -/
structure Args : Prop where
  cot : ∀ r k, V m c main_arg5 (ix2 r k) = ((O r k : ℝ) : EReal)
  stream : ∀ r k, V m c main_arg0 (ix2 r k) = ((X r k : ℝ) : EReal)
  scale : ∀ k, V m c main_v23 (ix2 (0 : Fin 1) k) = ((G k : ℝ) : EReal)
  first : ∀ r j, V m c main_v17 (ix2 r j) = ((A r j : ℝ) : EReal)
  second : ∀ r j, V m c main_v22 (ix2 r j) = ((B r j : ℝ) : EReal)
  in1 : ∀ k j, V m c main_v34 (ix3 (0 : Fin 2) k j) = ((U k j : ℝ) : EReal)
  in3 : ∀ k j, V m c main_v34 (ix3 (1 : Fin 2) k j) = ((V' k j : ℝ) : EReal)
  out2 : ∀ j k, V m c main_v38 (ix2 j k) = ((Y j k : ℝ) : EReal)

/-- The cotangent of the unit's first argument at row `r` and hidden column `j`, -/
def da (r : Fin 8192) (j : Fin 3072) : ℝ := daR (dsR (O r) (Y j)) (A r j) (B r j)
/-- of its second, -/
def db (r : Fin 8192) (j : Fin 3072) : ℝ := dbR (dsR (O r) (Y j)) (A r j)
/-- a hidden column's share of the normed row's, -/
def term (r : Fin 8192) (k : Fin 1024) (j : Fin 3072) : ℝ := da O A B Y r j * U k j + db O A Y r j * V' k j
/-- and the normed row's. -/
def dn (r : Fin 8192) (k : Fin 1024) : ℝ := ∑ j, term O A B U V' Y r k j

/-- The first result: the cotangent of the stream, -/
def result8 : S8192x1024.Idx → EReal := fun i => ((O (i 0) (i 1) + dxR (dn O A B U V' Y (i 0)) (X (i 0)) G (i 1) : ℝ) : EReal)
/-- the second: the halved cotangent of the result, -/
def result9 : S8192x1024.Idx → EReal := fun i => ((1 / 2 * O (i 0) (i 1) : ℝ) : EReal)
/-- the third: the gated unit, -/
def result10 : S8192x3072.Idx → EReal := fun i => ((sR (A (i 0) (i 1)) (B (i 0) (i 1)) : ℝ) : EReal)
/-- the fourth: the cotangents of its arguments, -/
def result11 : S2x8192x3072.Idx → EReal := fun i => ((if (i 0).val = 0 then da O A B Y (i 1) (i 2) else db O A Y (i 1) (i 2) : ℝ) : EReal)
/-- and the fifth: the scale's. -/
def result12 : S1x1024.Idx → EReal := fun i => ((∑ r, dgR (dn O A B U V' Y r) (X r) (i 1) : ℝ) : EReal)

variable {m c X O G A B U V' Y}

/-- The halved cotangent held through a row block's points is the block's. -/
theorem dob_value (h : Args m c X O G A B U V' Y) : ∀ (n : ℕ) (hn : n < cfg0.N) (a : Fin 512) (k : Fin 1024),
    dobAt m c n hn (ix2 a k) = ((1 / 2 * O (row n a) k : ℝ) : EReal) := by
  intro n
  induction n with
  | zero => intro hn a k; exact pay10_real (fun a => O (row 0 a)) (fun a k => (iblk_0 m c ⟨0, hn⟩ a k).trans (h.cot _ _)) a k
  | succ n ih =>
    intro hn a k
    by_cases h0 : (n + 1) % 3 = 0
    · rw [dobAt_open m c ⟨n + 1, hn⟩ h0]
      exact pay10_real (fun a => O (row (n + 1) a)) (fun a k => (iblk_0 m c ⟨n + 1, hn⟩ a k).trans (h.cot _ _)) a k
    · rw [dobAt_later m c ⟨n + 1, hn⟩ h0]
      refine (ih (Nat.lt_of_succ_lt hn) a k).trans ?_
      have e : row n a = row (n + 1) a := Fin.ext (by unfold row; dsimp only; omega)
      rw [e]

/-- The unit's cotangent block. -/
theorem ds_value (t : Fin cfg0.N) (a : Fin 512) (j : Fin 1024) :
    (∑ k, (1 / 2 * O (row t.val a) k) * Y (col t.val j) k : ℝ) = dsR (O (row t.val a)) (Y (col t.val j)) := rfl

/-- The gated unit's block, -/
theorem s_value (h : Args m c X O G A B U V' Y) (t : Fin cfg0.N) (a : Fin 512) (j : Fin 1024) :
    k0_pay18 (F := Ideal) (iblk m c 3 t) (iblk m c 4 t) (ix2 a j) = ((sR (A (row t.val a) (col t.val j)) (B (row t.val a) (col t.val j)) : ℝ) : EReal) :=
  pay18_real (fun a j => A (row t.val a) (col t.val j)) (fun a j => B (row t.val a) (col t.val j))
    (fun a j => (iblk_3 m c t a j).trans (h.first _ _)) (fun a j => (iblk_4 m c t a j).trans (h.second _ _)) a j

/-- its cotangents' block. -/
theorem dab_value (h : Args m c X O G A B U V' Y) (t : Fin cfg0.N) (s : Fin 2) (a : Fin 512) (j : Fin 1024) :
    dabBlock (F := Ideal) (dobAt m c t.val t.isLt) (iblk m c 3 t) (iblk m c 4 t) (iblk m c 7 t) (ix3 s a j)
      = ((if s.val = 0 then da O A B Y (row t.val a) (col t.val j) else db O A Y (row t.val a) (col t.val j) : ℝ) : EReal) :=
  dab_real (fun a k => 1 / 2 * O (row t.val a) k) (fun a j => A (row t.val a) (col t.val j)) (fun a j => B (row t.val a) (col t.val j))
    (fun j k => Y (col t.val j) k) (dob_value h t.val t.isLt) (fun j k => (iblk_7 m c t j k).trans (h.out2 _ _))
    (fun a j => (iblk_3 m c t a j).trans (h.first _ _)) (fun a j => (iblk_4 m c t a j).trans (h.second _ _)) s a j

/-- A slice's step of the accumulator adds the slice's columns' shares. -/
theorem step_value (h : Args m c X O G A B U V' Y) (t : Fin cfg0.N) (v : Vec Ideal S512x1024 .f32) (f : Fin 512 → Fin 1024 → ℝ)
    (hv : ∀ a k, v (ix2 a k) = ((f a k : ℝ) : EReal)) (a : Fin 512) (k : Fin 1024) :
    accStep (F := Ideal) (dobAt m c t.val t.isLt) (iblk m c 3 t) (iblk m c 4 t) (iblk m c 5 t) (iblk m c 6 t) (iblk m c 7 t) v (ix2 a k)
      = ((f a k + ∑ j : Fin 1024, ext0 (term O A B U V' Y (row t.val a) k) (1024 * (t.val % 3) + j.val) : ℝ) : EReal) := by
  refine (accStep_real (fun a k => 1 / 2 * O (row t.val a) k) (fun a j => A (row t.val a) (col t.val j)) (fun a j => B (row t.val a) (col t.val j))
    f (fun k j => U k (col t.val j)) (fun k j => V' k (col t.val j)) (fun j k => Y (col t.val j) k) (dob_value h t.val t.isLt)
    (fun j k => (iblk_7 m c t j k).trans (h.out2 _ _))
    (fun a j => (iblk_3 m c t a j).trans (h.first _ _)) (fun a j => (iblk_4 m c t a j).trans (h.second _ _))
    (fun k j => (iblk_5 m c t k j).trans (h.in1 _ _)) (fun k j => (iblk_6 m c t k j).trans (h.in3 _ _)) hv a k).trans ?_
  congr 3
  funext j
  exact (ext0_val (term O A B U V' Y (row t.val a) k) (col t.val j)).symm

/-- What the accumulator holds after point `n`: the shares of the hidden columns of its row block's slices so far. -/
theorem acc_value (h : Args m c X O G A B U V' Y) : ∀ (n : ℕ) (hn : n < cfg0.N) (a : Fin 512) (k : Fin 1024),
    accAt m c n hn (ix2 a k) = ((∑ s ∈ Finset.range (n % 3 + 1), ∑ j : Fin 1024, ext0 (term O A B U V' Y (row n a) k) (1024 * s + j.val) : ℝ) : EReal) := by
  have start : ∀ (t : Fin cfg0.N), t.val % 3 = 0 → ∀ (a : Fin 512) (k : Fin 1024),
      accAt m c t.val t.isLt (ix2 a k) = ((∑ s ∈ Finset.range (t.val % 3 + 1), ∑ j : Fin 1024, ext0 (term O A B U V' Y (row t.val a) k) (1024 * s + j.val) : ℝ) : EReal) := by
    intro t h0 a k
    rw [accAt_open m c t h0]
    refine (step_value h t _ (fun _ _ => 0) pay11_real a k).trans ?_
    rw [h0, zero_add, zero_add, Finset.sum_range_one]
  intro n
  induction n with
  | zero => intro hn; exact start ⟨0, hn⟩ rfl
  | succ n ih =>
    intro hn
    by_cases h0 : (n + 1) % 3 = 0
    · exact start ⟨n + 1, hn⟩ h0
    · intro a k
      rw [accAt_later m c ⟨n + 1, hn⟩ h0]
      refine (step_value h ⟨n + 1, hn⟩ _ _ (ih (Nat.lt_of_succ_lt hn)) a k).trans ?_
      have e : row n a = row (n + 1) a := Fin.ext (by unfold row; dsimp only; omega)
      have e' : (n + 1) % 3 = n % 3 + 1 := by omega
      dsimp only
      rw [e, e', Finset.sum_range_succ _ (n % 3 + 1)]

/-- After a row block's last slice the accumulator holds the normed rows' cotangent. -/
theorem acc_close (h : Args m c X O G A B U V' Y) (t : Fin cfg0.N) (h2 : t.val % 3 = 2) (a : Fin 512) (k : Fin 1024) :
    accAt m c t.val t.isLt (ix2 a k) = ((dn O A B U V' Y (row t.val a) k : ℝ) : EReal) := by
  refine (acc_value h t.val t.isLt a k).trans ?_
  rw [h2, sum_blocks, sum_ext0]
  rfl

/-- What the scale's accumulator holds after point `n`: the shares of the rows of the blocks finished. -/
theorem dg_value (h : Args m c X O G A B U V' Y) : ∀ (n : ℕ) (hn : n < cfg0.N) (k : Fin 1024),
    dgAt m c n hn (ix2 0 k) = ((∑ s ∈ Finset.range ((n + 1) / 3), ∑ a : Fin 512, ext0 (fun r => dgR (dn O A B U V' Y r) (X r) k) (512 * s + a.val) : ℝ) : EReal) := by
  intro n
  induction n with
  | zero => intro hn k; exact pay12_real k
  | succ n ih =>
    intro hn k
    have hN : cfg0.N = 48 := N_0
    by_cases h2 : (n + 1) % 3 = 2
    · refine (congrFun (if_pos h2 : dgAt m c (n + 1) hn = _) _).trans ?_
      refine (pay9_real (fun a => X (row (n + 1) a)) (fun a => dn O A B U V' Y (row (n + 1) a)) _ (fun a k => (iblk_1 m c ⟨n + 1, hn⟩ a k).trans (h.stream _ _))
        (acc_close h ⟨n + 1, hn⟩ h2) (ih (Nat.lt_of_succ_lt hn)) k).trans ?_
      have e : (n + 1 + 1) / 3 = (n + 1) / 3 + 1 := by omega
      rw [e, Finset.sum_range_succ _ ((n + 1) / 3)]
      congr 3
      funext a
      refine (ext0_val (fun r => dgR (dn O A B U V' Y r) (X r) k) (row (n + 1) a)).symm.trans ?_
      congr 1
      unfold row
      dsimp only
      omega
    · refine (congrFun (if_neg h2 : dgAt m c (n + 1) hn = _) _).trans ((ih (Nat.lt_of_succ_lt hn) k).trans ?_)
      have e : (n + 1 + 1) / 3 = (n + 1) / 3 := by omega
      rw [e]

/-- What a point writes back to each result is its block of it: the first, -/
theorem flushed_8 (h : Args m c X O G A B U V' Y) (t : Fin cfg0.N) (hf : (cfg0.win 8).flush t = true) :
    (dats m 0 c).flushed 8 t = ((cfg0.win 8).blk t).view.read (Elt Ideal) (result8 X O G A B U V' Y) := by
  show (cfg0.win 8).cut (grid0.coords t) ((dats m 0 c).after 8 t) = _
  rw [after_8]
  funext x
  rw [View.read_apply]
  obtain ⟨a, k, rfl⟩ : ∃ (a : Fin 512) (k : Fin 1024), x = ix2 a k := ⟨x 0, x 1, eq_ix2 _⟩
  refine Eq.trans ?_ (congrArg (result8 X O G A B U V' Y) (emb_8 t a k)).symm
  exact pay8_real (fun a => O (row t.val a)) (fun a => X (row t.val a)) (fun a => dn O A B U V' Y (row t.val a)) G
    (fun a k => (iblk_1 m c t a k).trans (h.stream _ _)) (fun k => (iblk_2 m c t k).trans (h.scale _))
    (acc_close h t ((flush0_8 t).mp hf)) (fun a k => (iblk_0 m c t a k).trans (h.cot _ _)) a k

/-- the second, -/
theorem flushed_9 (h : Args m c X O G A B U V' Y) (t : Fin cfg0.N) (hf : (cfg0.win 9).flush t = true) :
    (dats m 0 c).flushed 9 t = ((cfg0.win 9).blk t).view.read (Elt Ideal) (result9 O) := by
  show (cfg0.win 9).cut (grid0.coords t) ((dats m 0 c).after 9 t) = _
  rw [after_9]
  funext x
  rw [View.read_apply]
  obtain ⟨a, k, rfl⟩ : ∃ (a : Fin 512) (k : Fin 1024), x = ix2 a k := ⟨x 0, x 1, eq_ix2 _⟩
  refine Eq.trans ?_ (congrArg (result9 O) (emb_9 t a k)).symm
  exact dob_value h t.val t.isLt a k

/-- the third, -/
theorem flushed_10 (h : Args m c X O G A B U V' Y) (t : Fin cfg0.N) (hf : (cfg0.win 10).flush t = true) :
    (dats m 0 c).flushed 10 t = ((cfg0.win 10).blk t).view.read (Elt Ideal) (result10 A B) := by
  show (cfg0.win 10).cut (grid0.coords t) ((dats m 0 c).after 10 t) = _
  rw [after_10]
  funext x
  rw [View.read_apply]
  obtain ⟨a, j, rfl⟩ : ∃ (a : Fin 512) (j : Fin 1024), x = ix2 a j := ⟨x 0, x 1, eq_ix2 _⟩
  refine Eq.trans ?_ (congrArg (result10 A B) (emb_10 t a j)).symm
  exact s_value h t a j

/-- the fourth, -/
theorem flushed_11 (h : Args m c X O G A B U V' Y) (t : Fin cfg0.N) (hf : (cfg0.win 11).flush t = true) :
    (dats m 0 c).flushed 11 t = ((cfg0.win 11).blk t).view.read (Elt Ideal) (result11 O A B Y) := by
  show (cfg0.win 11).cut (grid0.coords t) ((dats m 0 c).after 11 t) = _
  rw [after_11]
  funext x
  rw [View.read_apply]
  obtain ⟨s, a, j, rfl⟩ : ∃ (s : Fin 2) (a : Fin 512) (j : Fin 1024), x = ix3 s a j := ⟨x 0, x 1, x 2, eq_ix3 _⟩
  refine Eq.trans ?_ (congrArg (result11 O A B Y) (emb_11 t s a j)).symm
  exact dab_value h t s a j

/-- and the fifth. -/
theorem flushed_12 (h : Args m c X O G A B U V' Y) (t : Fin cfg0.N) (hf : (cfg0.win 12).flush t = true) :
    (dats m 0 c).flushed 12 t = ((cfg0.win 12).blk t).view.read (Elt Ideal) (result12 X O A B U V' Y) := by
  show (cfg0.win 12).cut (grid0.coords t) ((dats m 0 c).after 12 t) = _
  rw [after_12]
  funext x
  rw [View.read_apply]
  obtain ⟨z, k, rfl⟩ : ∃ (z : Fin 1) (k : Fin 1024), x = ix2 z k := ⟨x 0, x 1, eq_ix2 _⟩
  obtain rfl : z = 0 := Subsingleton.elim _ _
  refine Eq.trans ?_ (congrArg (result12 X O A B U V' Y) (emb_12 t k)).symm
  have h47 : t.val = 47 := by have := (flush0_12 t).mp hf; have := N48 t; omega
  refine (dg_value h t.val t.isLt k).trans ?_
  rw [h47, sum_blocks, sum_ext0]
  rfl

/-- The five result arrays after the run. -/
theorem final_8 (h : Args m c X O G A B U V' Y) : (dats m 0 c).arrAt 8 cfg0.N = result8 X O G A B U V' Y :=
  (dats m 0 c).arrAt_eq_of_cover 8 (result8 X O G A B U V' Y) (fun t hf => flushed_8 h t hf) cover_8
theorem final_9 (h : Args m c X O G A B U V' Y) : (dats m 0 c).arrAt 9 cfg0.N = result9 O :=
  (dats m 0 c).arrAt_eq_of_cover 9 (result9 O) (fun t hf => flushed_9 h t hf) cover_9
theorem final_10 (h : Args m c X O G A B U V' Y) : (dats m 0 c).arrAt 10 cfg0.N = result10 A B :=
  (dats m 0 c).arrAt_eq_of_cover 10 (result10 A B) (fun t hf => flushed_10 h t hf) cover_10
theorem final_11 (h : Args m c X O G A B U V' Y) : (dats m 0 c).arrAt 11 cfg0.N = result11 O A B Y :=
  (dats m 0 c).arrAt_eq_of_cover 11 (result11 O A B Y) (fun t hf => flushed_11 h t hf) cover_11
theorem final_12 (h : Args m c X O G A B U V' Y) : (dats m 0 c).arrAt 12 cfg0.N = result12 X O A B U V' Y :=
  (dats m 0 c).arrAt_eq_of_cover 12 (result12 X O A B U V' Y) (fun t hf => flushed_12 h t hf) cover_12

end Results

end Cert.FfnBackIdeal.RealValue

end
-- ==== Proof.FfnBackHost.lean ====
/- The arrays the feed-forward backward kernel is launched on, from the arguments: the two activations, and the weights,
   in the padded layout. -/
module

public import proofs.«01_k».proof.Proof.FfnBackKernel
public import Idealize.ShloMosaic.Lib.StableHlo.RunRead

@[expose] public section

set_option maxRecDepth 16384

noncomputable section

namespace Cert.FfnBackIdeal.RealValue

open Cert.FfnBackIdeal Cert.FfnBackIdeal.Gen Cert.FfnBackIdealRun Cert.RealValue Cert.FfnReal Cert.Layout
open Idealize.ShloMosaic Idealize.ShloMosaic.TcCoe Idealize.SL.Sem

/-- The normed rows as the host computes them, -/
def hnorm (x0 : FVec Ideal S8192x1024 .f32) (x1 : FVec Ideal S1024 .f32) : FVec Ideal S8192x1024 .f32 :=
  mulf (mulf x0 (broadcastInDim S8192x1024 ![0, 1] bcast_S8192x1_S8192x1024_0_1 (Host.rsqrt (addf (Host.divf
      (broadcastInDim S8192x1 ![0] bcast_S8192_S8192x1_0 (Host.reduceAdd (mulf x0 x0) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 x1))

/-- and their product with a weight. -/
def hact (x0 : FVec Ideal S8192x1024 .f32) (x1 : FVec Ideal S1024 .f32) (w : FVec Ideal S1024x2816 .f32) : FVec Ideal S8192x2816 .f32 :=
  Host.dotGeneral dot_S8192x1024_S1024x2816_S8192x2816_1_0_0_1_n_n none (hnorm x0 x1) w

variable {X : Fin 8192 → Fin 1024 → ℝ} {G : Fin 1024 → ℝ} {W : Fin 1024 → Fin 2816 → ℝ}

theorem hnorm_real {x0 : FVec Ideal S8192x1024 .f32} {x1 : FVec Ideal S1024 .f32} (h0 : ∀ r k, x0 (ix2 r k) = ((X r k : ℝ) : EReal))
    (h1 : ∀ k, x1 (ix1 k) = ((G k : ℝ) : EReal)) (r : Fin 8192) (k : Fin 1024) :
    hnorm x0 x1 (ix2 r k) = ((nR (X r) G k : ℝ) : EReal) := by
  unfold hnorm
  pointwise
  simp only [h0, h1, ofBits_1024, ofBits_eps, ← EReal.coe_mul, coe_sum, div_1024, ← EReal.coe_add, rsqrt_ms]
  rfl

theorem hact_real {x0 : FVec Ideal S8192x1024 .f32} {x1 : FVec Ideal S1024 .f32} {w : FVec Ideal S1024x2816 .f32}
    (h0 : ∀ r k, x0 (ix2 r k) = ((X r k : ℝ) : EReal)) (h1 : ∀ k, x1 (ix1 k) = ((G k : ℝ) : EReal))
    (hw : ∀ k q, w (ix2 k q) = ((W k q : ℝ) : EReal)) (r : Fin 8192) (q : Fin 2816) :
    hact x0 x1 w (ix2 r q) = ((actR (X r) G fun k => W k q : ℝ) : EReal) := by
  unfold hact
  pointwise [dot_S8192x1024_S1024x2816_S8192x2816_1_0_0_1_n_n]
  simp only [hnorm_real h0 h1, hw, ← EReal.coe_mul, coe_sum]
  rfl

variable (m : (ℓ : Loc nD τ sig) → Buf (Elt Ideal) ℓ) (c : Dev nD)

theorem V_scale (k : Fin 1024) : V m c main_v23 (ix2 (0 : Fin 1) k) = m ((c : Thread nD τ).loc main_arg1) (ix1 k) := by
  have e : V m c main_v23 = broadcastInDim S1x1024 ![1] bcast_S1024_S1x1024_1 (m ((c : Thread nD τ).loc main_arg1)) := by
    unfold V
    after_reads_simp
  rw [e]
  pointwise

theorem V_first (r : Fin 8192) (j : Fin 3072) : V m c main_v17 (ix2 r j)
    = padE (M := EReal) (fun q => hact (m ((c : Thread nD τ).loc main_arg0)) (m ((c : Thread nD τ).loc main_arg1)) (m ((c : Thread nD τ).loc main_arg2)) (ix2 r q)) j := by
  refine Eq.trans ?_ (columns_8192 (hact (m ((c : Thread nD τ).loc main_arg0)) (m ((c : Thread nD τ).loc main_arg1)) (m ((c : Thread nD τ).loc main_arg2))) (sitofp (F := Ideal) .f32 (constantI S_ 32 0#32))
    (fun _ => sitofp_zero) shapeCasts_S8192x2816_S8192x8x352 pads_S8192x8x352_S8192x8x384_000_000_0320 h_S_ shapeCasts_S8192x8x384_S8192x3072 r j)
  unfold V hact hnorm
  after_reads_simp
  rfl

theorem V_second (r : Fin 8192) (j : Fin 3072) : V m c main_v22 (ix2 r j)
    = padE (M := EReal) (fun q => hact (m ((c : Thread nD τ).loc main_arg0)) (m ((c : Thread nD τ).loc main_arg1)) (m ((c : Thread nD τ).loc main_arg3)) (ix2 r q)) j := by
  refine Eq.trans ?_ (columns_8192 (hact (m ((c : Thread nD τ).loc main_arg0)) (m ((c : Thread nD τ).loc main_arg1)) (m ((c : Thread nD τ).loc main_arg3))) (sitofp (F := Ideal) .f32 (constantI S_ 32 0#32))
    (fun _ => sitofp_zero) shapeCasts_S8192x2816_S8192x8x352 pads_S8192x8x352_S8192x8x384_000_000_0320 h_S_ shapeCasts_S8192x8x384_S8192x3072 r j)
  unfold V hact hnorm
  after_reads_simp
  rfl

theorem V_out2 (j : Fin 3072) (k : Fin 1024) : V m c main_v38 (ix2 j k)
    = padE (M := EReal) (fun q => m ((c : Thread nD τ).loc main_arg4) (ix2 q k)) j := by
  refine Eq.trans ?_ (rows_1024 (m ((c : Thread nD τ).loc main_arg4)) (sitofp (F := Ideal) .f32 (constantI S_ 32 0#32))
    (fun _ => sitofp_zero) shapeCasts_S2816x1024_S8x352x1024 pads_S8x352x1024_S8x384x1024_000_0320_000 h_S_ shapeCasts_S8x384x1024_S3072x1024 j k)
  unfold V
  after_reads_simp
  rfl

/-- A weight's padded columns, rounded. -/
def hcols (w : FVec Ideal S1024x2816 .f32) : FVec Ideal S1024x3072 .bf16 :=
  truncf (F := Ideal) (s := S1024x3072) (φ := .f32) .bf16 (shapeCast S1024x3072 (pad S1024x8x384 ![0, 0, 0] ![0, 0, 32] ![0, 0, 0]
    (shapeCast S1024x8x352 w shapeCasts_S1024x2816_S1024x8x352) (sitofp (F := Ideal) .f32 (constantI S_ 32 0#32))
    pads_S1024x8x352_S1024x8x384_000_000_0320 h_S_) shapeCasts_S1024x8x384_S1024x3072) bitsLt_bf16_f32

theorem hcols_at (w : FVec Ideal S1024x2816 .f32) (k : Fin 1024) (j : Fin 3072) :
    hcols w (ix2 k j) = padE (M := EReal) (fun q => w (ix2 k q)) j :=
  columns_1024 w (sitofp (F := Ideal) .f32 (constantI S_ 32 0#32)) (fun _ => sitofp_zero) shapeCasts_S1024x2816_S1024x8x352
    pads_S1024x8x352_S1024x8x384_000_000_0320 h_S_ shapeCasts_S1024x8x384_S1024x3072 k j

theorem V_in : V m c main_v34 = concatenate S2x1024x3072 0
    [⟨S1x1024x3072, broadcastInDim S1x1024x3072 ![1, 2] bcast_S1024x3072_S1x1024x3072_1_2 (hcols (m ((c : Thread nD τ).loc main_arg2)))⟩,
     ⟨S1x1024x3072, broadcastInDim S1x1024x3072 ![1, 2] bcast_S1024x3072_S1x1024x3072_1_2 (hcols (m ((c : Thread nD τ).loc main_arg3)))⟩]
    concatenates_S1x1024x3072_S1x1024x3072_S2x1024x3072_d0 := by
  unfold V hcols
  after_reads_simp
  rfl

theorem V_in1 (k : Fin 1024) (j : Fin 3072) : V m c main_v34 (ix3 (0 : Fin 2) k j)
    = padE (M := EReal) (fun q => m ((c : Thread nD τ).loc main_arg2) (ix2 k q)) j := by
  rw [V_in]
  pointwise
  exact hcols_at _ k j

theorem V_in3 (k : Fin 1024) (j : Fin 3072) : V m c main_v34 (ix3 (1 : Fin 2) k j)
    = padE (M := EReal) (fun q => m ((c : Thread nD τ).loc main_arg3) (ix2 k q)) j := by
  rw [V_in]
  pointwise
  exact hcols_at _ k j

end Cert.FfnBackIdeal.RealValue

end
-- ==== Proof.FfnBackReference.lean ====
/- What the reference `FfnBackRefIdeal` computes when every argument is an array of reals: the same five arrays of reals
   as the kernel's. -/
module

public import proofs.«01_k».proof.Proof.FfnReal
public import proofs.«01_k».proof.Proof.Gen.FfnBackRefIdeal.Run
public import proofs.«01_k».proof.Proof.Gen.FfnBackRefIdeal.Read

@[expose] public section

noncomputable section

namespace Cert.FfnBackRefIdeal.RealValue

open Cert.FfnBackRefIdeal Cert.FfnBackRefIdeal.Read Cert.RealValue Cert.FfnReal Cert.Layout
open Idealize.ShloMosaic

variable {X O : Fin 8192 → Fin 1024 → ℝ} {G : Fin 1024 → ℝ} {W1 W3 : Fin 1024 → Fin 2816 → ℝ} {W2 : Fin 2816 → Fin 1024 → ℝ}
variable {x0 x5 : S8192x1024.Idx → EReal} {x1 : S1024.Idx → EReal} {x2 x3 : S1024x2816.Idx → EReal} {x4 : S2816x1024.Idx → EReal}

/-- The reciprocal root of every row, -/
theorem v7_real (h0 : ∀ r b, x0 (ix2 r b) = ((X r b : ℝ) : EReal)) (r : Fin 8192) (z : Fin 1) :
    val_main_v7 (F := Ideal) x0 (ix2 r z) = ((rinv (X r) : ℝ) : EReal) := by
  unfold val_main_v7 val_main_v6 val_main_v5 val_main_cst_1 val_main_v4 val_main_v3 val_main_cst_0 val_main_v2 val_main_v1
    val_main_v0 val_main_cst
  pointwise
  simp only [h0, ofBits_1024, ofBits_eps, ← EReal.coe_mul, coe_sum, div_1024, ← EReal.coe_add, rsqrt_ms]

/-- and its derivative with respect to the mean square. -/
theorem v10_real (h0 : ∀ r b, x0 (ix2 r b) = ((X r b : ℝ) : EReal)) (r : Fin 8192) (z : Fin 1) :
    val_main_v10 (F := Ideal) x0 (ix2 r z) = ((-(1 / 2) * (rinv (X r) / ms (X r)) : ℝ) : EReal) := by
  unfold val_main_v10 val_main_v9 val_main_cst_2 val_main_v8
  pointwise
  rw [v7_real h0]
  unfold val_main_v6 val_main_v5 val_main_cst_1 val_main_v4 val_main_v3 val_main_cst_0 val_main_v2 val_main_v1
    val_main_v0 val_main_cst
  pointwise
  simp only [h0, ofBits_1024, ofBits_eps, ofBits_neg_half, ← EReal.coe_mul, coe_sum, div_1024, ← EReal.coe_add, div_ms]

/-- The row over its root mean square, -/
theorem v12_real (h0 : ∀ r b, x0 (ix2 r b) = ((X r b : ℝ) : EReal)) (r : Fin 8192) (b : Fin 1024) :
    val_main_v12 (F := Ideal) x0 (ix2 r b) = ((X r b * rinv (X r) : ℝ) : EReal) := by
  unfold val_main_v12 val_main_v11
  pointwise
  simp only [h0, v7_real h0, ← EReal.coe_mul]

/-- and scaled. -/
theorem v15_real (h0 : ∀ r b, x0 (ix2 r b) = ((X r b : ℝ) : EReal)) (h1 : ∀ b, x1 (ix1 b) = ((G b : ℝ) : EReal))
    (r : Fin 8192) (b : Fin 1024) : val_main_v15 (F := Ideal) x0 x1 (ix2 r b) = ((nR (X r) G b : ℝ) : EReal) := by
  unfold val_main_v15 val_main_v14 val_main_v13
  pointwise
  simp only [h1, v12_real h0, ← EReal.coe_mul]
  rfl

/-- The unit's first argument, -/
theorem v16_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (r : Fin 8192) (q : Fin 2816) :
    val_main_v16 (F := Ideal) x0 x1 x2 (ix2 r q) = ((actR (X r) G fun k => W1 k q : ℝ) : EReal) := by
  unfold val_main_v16
  pointwise [dot_S8192x1024_S1024x2816_S8192x2816_1_0_0_1_n_n]
  simp only [v15_real h0 h1, h2, ← EReal.coe_mul, coe_sum]
  rfl

/-- its second, -/
theorem v17_real (h0 : ∀ r b, x0 (ix2 r b) = ((X r b : ℝ) : EReal)) (h1 : ∀ b, x1 (ix1 b) = ((G b : ℝ) : EReal))
    (h3 : ∀ k q, x3 (ix2 k q) = ((W3 k q : ℝ) : EReal)) (r : Fin 8192) (q : Fin 2816) :
    val_main_v17 (F := Ideal) x0 x1 x3 (ix2 r q) = ((actR (X r) G fun k => W3 k q : ℝ) : EReal) := by
  unfold val_main_v17
  pointwise [dot_S8192x1024_S1024x2816_S8192x2816_1_0_0_1_n_n]
  simp only [v15_real h0 h1, h3, ← EReal.coe_mul, coe_sum]
  rfl

/-- the logistic of the first, -/
theorem v18_2_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (r : Fin 8192) (q : Fin 2816) :
    val_main_v18_2 (F := Ideal) x0 x1 x2 (ix2 r q) = ((logi (actR (X r) G fun k => W1 k q) : ℝ) : EReal) := by
  unfold val_main_v18_2 val_main_call0_v4 val_main_call0_cst_0 val_main_call0_v3 val_main_call0_v2 val_main_call0_cst
    val_main_call0_v1 val_main_call0_v0
  pointwise
  simp only [v16_real h0 h1 h2, ← EReal.coe_neg, Ideal.exp_coe, one_add_coe, div_exp, ofBits_one]

/-- and the gated unit. -/
theorem v19_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (r : Fin 8192) (q : Fin 2816) :
    val_main_v19 (F := Ideal) x0 x1 x2 x3 (ix2 r q) = ((sQ (X r) G W1 W3 q : ℝ) : EReal) := by
  unfold val_main_v19 val_main_v18_0
  pointwise
  simp only [v16_real h0 h1 h2, v17_real h0 h1 h3, v18_2_real h0 h1 h2, ← EReal.coe_mul]
  rfl

/-- The unit's cotangent, -/
theorem v25_real (h4 : ∀ q k, x4 (ix2 q k) = ((W2 q k : ℝ) : EReal)) (h5 : ∀ r b, x5 (ix2 r b) = ((O r b : ℝ) : EReal))
    (r : Fin 8192) (q : Fin 2816) :
    val_main_v25 (F := Ideal) x4 x5 (ix2 r q) = ((dsR (O r) (W2 q) : ℝ) : EReal) := by
  unfold val_main_v25 val_main_v24 val_main_v23 val_main_cst_4
  pointwise [dot_S8192x1024_S2816x1024_S8192x2816_1_1_0_0_n_n]
  simp only [h4, h5, ofBits_half, ← EReal.coe_mul, coe_sum]
  rfl

/-- of its first argument, -/
theorem v28_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (h4 : ∀ q k, x4 (ix2 q k) = ((W2 q k : ℝ) : EReal)) (h5 : ∀ r b, x5 (ix2 r b) = ((O r b : ℝ) : EReal))
    (r : Fin 8192) (q : Fin 2816) :
    val_main_v28 (F := Ideal) x0 x1 x2 x3 x4 x5 (ix2 r q) = ((daQ (X r) (O r) G W1 W3 W2 q : ℝ) : EReal) := by
  unfold val_main_v28 val_main_call1_v2 val_main_call1_v1 val_main_call1_v0 val_main_v27 val_main_v18_1 val_main_call0_v7
    val_main_call0_v6 val_main_call0_cst_1
  pointwise
  simp only [v16_real h0 h1 h2, v17_real h0 h1 h3, v18_2_real h0 h1 h2, v25_real h4 h5, ofBits_one, one_sub_coe, ← EReal.coe_mul,
    ← EReal.coe_add]
  congr 1
  unfold daQ daR
  ring

/-- and of its second. -/
theorem v26_real (h0 : ∀ r b, x0 (ix2 r b) = ((X r b : ℝ) : EReal)) (h1 : ∀ b, x1 (ix1 b) = ((G b : ℝ) : EReal))
    (h2 : ∀ k q, x2 (ix2 k q) = ((W1 k q : ℝ) : EReal))
    (h4 : ∀ q k, x4 (ix2 q k) = ((W2 q k : ℝ) : EReal)) (h5 : ∀ r b, x5 (ix2 r b) = ((O r b : ℝ) : EReal))
    (r : Fin 8192) (q : Fin 2816) :
    val_main_v26 (F := Ideal) x0 x1 x2 x4 x5 (ix2 r q) = ((dbQ (X r) (O r) G W1 W2 q : ℝ) : EReal) := by
  unfold val_main_v26 val_main_v18_0
  pointwise
  simp only [v16_real h0 h1 h2, v18_2_real h0 h1 h2, v25_real h4 h5, ← EReal.coe_mul]
  congr 1
  unfold dbQ dbR
  ring

/-- The cotangent of the normed row. -/
theorem v31_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (h4 : ∀ q k, x4 (ix2 q k) = ((W2 q k : ℝ) : EReal)) (h5 : ∀ r b, x5 (ix2 r b) = ((O r b : ℝ) : EReal))
    (r : Fin 8192) (k : Fin 1024) :
    val_main_v31 (F := Ideal) x0 x1 x2 x3 x4 x5 (ix2 r k) = ((dnQ (X r) (O r) G W1 W3 W2 k : ℝ) : EReal) := by
  unfold val_main_v31 val_main_v30 val_main_v29
  pointwise [dot_S8192x2816_S1024x2816_S8192x1024_1_1_0_0_n_n]
  simp only [v26_real h0 h1 h2 h4 h5, v28_real h0 h1 h2 h3 h4 h5, h2, h3, ← EReal.coe_mul, coe_sum, ← EReal.coe_add]
  congr 1
  unfold dnQ
  rw [Finset.sum_add_distrib, add_comm]

/-- The scale's cotangent, -/
theorem v70_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (h4 : ∀ q k, x4 (ix2 q k) = ((W2 q k : ℝ) : EReal)) (h5 : ∀ r b, x5 (ix2 r b) = ((O r b : ℝ) : EReal))
    (z : Fin 1) (b : Fin 1024) :
    val_main_v70 (F := Ideal) x0 x1 x2 x3 x4 x5 (ix2 z b) = ((∑ r, dgR (dnQ (X r) (O r) G W1 W3 W2) (X r) b : ℝ) : EReal) := by
  unfold val_main_v70 val_main_v37 val_main_v34 val_main_v33 val_main_v32 val_main_cst_5 val_main_cst_6
  pointwise
  simp only [v12_real h0, v31_real h0 h1 h2 h3 h4 h5, ← EReal.coe_mul, coe_sum]
  rw [EReal.coe_eq_coe_iff, Fin.sum_univ_one]
  exact Finset.sum_congr rfl fun r _ => mul_comm _ _

/-- and the stream's: its own and the two terms of the norm's derivative. -/
theorem v52_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (h4 : ∀ q k, x4 (ix2 q k) = ((W2 q k : ℝ) : EReal)) (h5 : ∀ r b, x5 (ix2 r b) = ((O r b : ℝ) : EReal))
    (r : Fin 8192) (b : Fin 1024) :
    val_main_v52 (F := Ideal) x0 x1 x2 x3 x4 x5 (ix2 r b)
      = ((O r b + dxR (dnQ (X r) (O r) G W1 W3 W2) (X r) G b : ℝ) : EReal) := by
  unfold val_main_v52 val_main_v51 val_main_v50 val_main_v49 val_main_v48 val_main_v47 val_main_v46 val_main_v45 val_main_v44
    val_main_cst_8 val_main_cst_9 val_main_v43 val_main_v42 val_main_v41 val_main_v40 val_main_v39 val_main_v38 val_main_cst_7
    val_main_v36 val_main_v35 val_main_v13
  pointwise
  simp only [h0, h1, h5, v7_real h0, v10_real h0, v31_real h0 h1 h2 h3 h4 h5, ofBits_1024, ← EReal.coe_mul, coe_sum, div_1024,
    ← EReal.coe_add]
  congr 1
  generalize dnQ (X r) (O r) G W1 W3 W2 = dn
  simp only [Fin.sum_univ_one, rinv_div_ms, dxR]
  have e : ∑ k, dn k * G k * (X r k * rinv (X r)) = rinv (X r) * ∑ k, X r k * (dn k * G k) := by
    rw [Finset.mul_sum]; exact Finset.sum_congr rfl fun k _ => by ring
  rw [e]
  ring

/-- The halved cotangent of the result, -/
theorem v55_real (h5 : ∀ r b, x5 (ix2 r b) = ((O r b : ℝ) : EReal)) (r : Fin 8192) (b : Fin 1024) :
    val_main_v55 (F := Ideal) x5 (ix2 r b) = ((1 / 2 * O r b : ℝ) : EReal) := by
  unfold val_main_v55 val_main_v54 val_main_v53 val_main_cst_10
  pointwise
  simp only [h5, ofBits_half, ← EReal.coe_mul]

/-- the padded unit, -/
theorem v59_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (r : Fin 8192) (j : Fin 3072) :
    val_main_v59 (F := Ideal) x0 x1 x2 x3 (ix2 r j) = ((padE (sQ (X r) G W1 W3) j : ℝ) : EReal) := by
  show val_main_v58 (F := Ideal) x0 x1 x2 x3 (ix2 r j) = _
  unfold val_main_v58 val_main_v57 val_main_v56
  refine (columns_8192 (val_main_v19 (F := Ideal) x0 x1 x2 x3) _ (fun _ => sitofp_zero) _ _ _ _ r j).trans ?_
  simp only [v19_real h0 h1 h2 h3]
  exact padE_coe _ _

/-- and the padded cotangents of its arguments. -/
theorem v62_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (h4 : ∀ q k, x4 (ix2 q k) = ((W2 q k : ℝ) : EReal)) (h5 : ∀ r b, x5 (ix2 r b) = ((O r b : ℝ) : EReal))
    (r : Fin 8192) (j : Fin 3072) :
    val_main_v62 (F := Ideal) x0 x1 x2 x3 x4 x5 (ix2 r j) = ((padE (daQ (X r) (O r) G W1 W3 W2) j : ℝ) : EReal) := by
  unfold val_main_v62 val_main_v61 val_main_v60
  refine (columns_8192 (val_main_v28 (F := Ideal) x0 x1 x2 x3 x4 x5) _ (fun _ => sitofp_zero) _ _ _ _ r j).trans ?_
  simp only [v28_real h0 h1 h2 h3 h4 h5]
  exact padE_coe _ _

theorem v65_real (h0 : ∀ r b, x0 (ix2 r b) = ((X r b : ℝ) : EReal)) (h1 : ∀ b, x1 (ix1 b) = ((G b : ℝ) : EReal))
    (h2 : ∀ k q, x2 (ix2 k q) = ((W1 k q : ℝ) : EReal))
    (h4 : ∀ q k, x4 (ix2 q k) = ((W2 q k : ℝ) : EReal)) (h5 : ∀ r b, x5 (ix2 r b) = ((O r b : ℝ) : EReal))
    (r : Fin 8192) (j : Fin 3072) :
    val_main_v65 (F := Ideal) x0 x1 x2 x4 x5 (ix2 r j) = ((padE (dbQ (X r) (O r) G W1 W2) j : ℝ) : EReal) := by
  unfold val_main_v65 val_main_v64 val_main_v63
  refine (columns_8192 (val_main_v26 (F := Ideal) x0 x1 x2 x4 x5) _ (fun _ => sitofp_zero) _ _ _ _ r j).trans ?_
  simp only [v26_real h0 h1 h2 h4 h5]
  exact padE_coe _ _

theorem v69_real (h0 : ∀ r b, x0 (ix2 r b) = ((X r b : ℝ) : EReal)) (h1 : ∀ b, x1 (ix1 b) = ((G b : ℝ) : EReal))
    (h2 : ∀ k q, x2 (ix2 k q) = ((W1 k q : ℝ) : EReal)) (h3 : ∀ k q, x3 (ix2 k q) = ((W3 k q : ℝ) : EReal))
    (h4 : ∀ q k, x4 (ix2 q k) = ((W2 q k : ℝ) : EReal)) (h5 : ∀ r b, x5 (ix2 r b) = ((O r b : ℝ) : EReal))
    (s : Fin 2) (r : Fin 8192) (j : Fin 3072) :
    val_main_v69 (F := Ideal) x0 x1 x2 x3 x4 x5 (ix3 s r j)
      = ((if s.val = 0 then padE (daQ (X r) (O r) G W1 W3 W2) j else padE (dbQ (X r) (O r) G W1 W2) j : ℝ) : EReal) := by
  unfold val_main_v69 val_main_v68 val_main_v67 val_main_v66
  pointwise
  match s with
  | 0 => exact v62_real h0 h1 h2 h3 h4 h5 r j
  | 1 => exact v65_real h0 h1 h2 h4 h5 r j

end Cert.FfnBackRefIdeal.RealValue

end
-- ==== Proof.FfnBack.lean ====
/- The claims about `FfnBack`: on finite arguments the kernel's five results are the reference's. -/
module

public import proofs.«01_k».proof.Defs
public import proofs.«01_k».proof.Proof.FfnBackHost
public import proofs.«01_k».proof.Proof.FfnBackReference
public import proofs.«01_k».proof.Proof.Gen.Pre_ffn_back_finite

@[expose] public section

noncomputable section

namespace Cert.FfnBackClaim

open Idealize.ShloMosaic Idealize.ShloMosaic.TcCoe Idealize.SL.Sem Cert.RealValue Cert.FfnReal Cert.Layout

/-- The precondition makes every argument an array of reals. -/
theorem finite {x0 x5 : FVec Ideal Pre_ffn_back_finite.S8192x1024 .f32} {x1 : FVec Ideal Pre_ffn_back_finite.S1024 .f32}
    {x2 x3 : FVec Ideal Pre_ffn_back_finite.S1024x2816 .f32} {x4 : FVec Ideal Pre_ffn_back_finite.S2816x1024 .f32}
    (h : Pre_ffn_back_finite.fn (F := Ideal) x0 x1 x2 x3 x4 x5 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal))
      ∧ (∀ i, x4 i = (((x4 i).toReal : ℝ) : EReal)) ∧ (∀ i, x5 i = (((x5 i).toReal : ℝ) : EReal)) := by
  have e := congrFun h (fun k => k.elim0)
  unfold Pre_ffn_back_finite.fn Pre_ffn_back_finite.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨eq_coe_of_all (fun _ => ofBits_top) e0, eq_coe_of_all (fun _ => ofBits_top) e1,
    eq_coe_of_all (fun _ => ofBits_top) e2, eq_coe_of_all (fun _ => ofBits_top) e3,
    eq_coe_of_all (fun _ => ofBits_top) e4, eq_coe_of_all (fun _ => ofBits_top) e5⟩

/-- The reference's frame, from its generated run. -/
theorem reference_frame : quiescent_FfnBackRefIdeal := fun m ρ _ =>
  (θ_run FfnBackRefIdeal.defs _ _).mono
    (fun r h => ⟨fun c => (h c).2.2.2.2.2, sem_eq_zero_of_no_sems (by decide) r.2⟩)
    (FfnBackRefIdeal.Value.run (F := Ideal) m ρ)

/-- The kernel's run: each result array at what the write-backs leave in it, the arguments as they were. -/
theorem kernel_run (m : (ℓ : Loc FfnBackIdeal.nD FfnBackIdeal.τ FfnBackIdeal.sig) → Buf (Elt Ideal) ℓ) (ρ : Dev FfnBackIdeal.nD → PrngReg) :
    θ_run (FfnBackIdeal.defs (F := Ideal)) (onTc (τ := FfnBackIdeal.τ) (FfnBackIdeal.main (F := Ideal))) ⟨m, fun _ => 0, ρ⟩ fun r => ∀ c : Dev FfnBackIdeal.nD,
      r.2.mem ((c.tc : Thread FfnBackIdeal.nD FfnBackIdeal.τ).loc FfnBackIdeal.main_v39_0) = (FfnBackIdealRun.dats m 0 c).arrAt 8 FfnBackIdeal.cfg0.N
      ∧ r.2.mem ((c.tc : Thread FfnBackIdeal.nD FfnBackIdeal.τ).loc FfnBackIdeal.main_v39_1) = (FfnBackIdealRun.dats m 0 c).arrAt 9 FfnBackIdeal.cfg0.N
      ∧ r.2.mem ((c.tc : Thread FfnBackIdeal.nD FfnBackIdeal.τ).loc FfnBackIdeal.main_v39_2) = (FfnBackIdealRun.dats m 0 c).arrAt 10 FfnBackIdeal.cfg0.N
      ∧ r.2.mem ((c.tc : Thread FfnBackIdeal.nD FfnBackIdeal.τ).loc FfnBackIdeal.main_v39_3) = (FfnBackIdealRun.dats m 0 c).arrAt 11 FfnBackIdeal.cfg0.N
      ∧ r.2.mem ((c.tc : Thread FfnBackIdeal.nD FfnBackIdeal.τ).loc FfnBackIdeal.main_v39_4) = (FfnBackIdealRun.dats m 0 c).arrAt 12 FfnBackIdeal.cfg0.N
      ∧ r.2.mem ((c.tc : Thread FfnBackIdeal.nD FfnBackIdeal.τ).loc FfnBackIdeal.main_arg0) = m ((c.tc : Thread FfnBackIdeal.nD FfnBackIdeal.τ).loc FfnBackIdeal.main_arg0)
      ∧ r.2.mem ((c.tc : Thread FfnBackIdeal.nD FfnBackIdeal.τ).loc FfnBackIdeal.main_arg1) = m ((c.tc : Thread FfnBackIdeal.nD FfnBackIdeal.τ).loc FfnBackIdeal.main_arg1)
      ∧ r.2.mem ((c.tc : Thread FfnBackIdeal.nD FfnBackIdeal.τ).loc FfnBackIdeal.main_arg2) = m ((c.tc : Thread FfnBackIdeal.nD FfnBackIdeal.τ).loc FfnBackIdeal.main_arg2)
      ∧ r.2.mem ((c.tc : Thread FfnBackIdeal.nD FfnBackIdeal.τ).loc FfnBackIdeal.main_arg3) = m ((c.tc : Thread FfnBackIdeal.nD FfnBackIdeal.τ).loc FfnBackIdeal.main_arg3)
      ∧ r.2.mem ((c.tc : Thread FfnBackIdeal.nD FfnBackIdeal.τ).loc FfnBackIdeal.main_arg4) = m ((c.tc : Thread FfnBackIdeal.nD FfnBackIdeal.τ).loc FfnBackIdeal.main_arg4)
      ∧ r.2.mem ((c.tc : Thread FfnBackIdeal.nD FfnBackIdeal.τ).loc FfnBackIdeal.main_arg5) = m ((c.tc : Thread FfnBackIdeal.nD FfnBackIdeal.τ).loc FfnBackIdeal.main_arg5) :=
  (θ_run FfnBackIdeal.defs _ _).mono
    (fun r h c => ⟨(h.1 c).1 8, (h.1 c).1 9, (h.1 c).1 10, (h.1 c).1 11, (h.1 c).1 12, h.2.1 c⟩)
    (θ_run_and (FfnBackIdealRun.run_main (F := Ideal) m ρ) (FfnBackIdealRun.frame (F := Ideal) m ρ))

section Arguments

variable (m : (ℓ : Loc FfnBackIdeal.nD FfnBackIdeal.τ FfnBackIdeal.sig) → Buf (Elt Ideal) ℓ) (c : Dev FfnBackIdeal.nD)

/-- The arguments' real values on device `c`: the stream, -/
def X (r : Fin 8192) (k : Fin 1024) : ℝ := EReal.toReal (m ((c.tc : Thread FfnBackIdeal.nD FfnBackIdeal.τ).loc FfnBackIdeal.main_arg0) (ix2 r k))
/-- the scale, -/
def G (k : Fin 1024) : ℝ := EReal.toReal (m ((c.tc : Thread FfnBackIdeal.nD FfnBackIdeal.τ).loc FfnBackIdeal.main_arg1) (ix1 k))
/-- the weights, -/
def W1 (k : Fin 1024) (q : Fin 2816) : ℝ := EReal.toReal (m ((c.tc : Thread FfnBackIdeal.nD FfnBackIdeal.τ).loc FfnBackIdeal.main_arg2) (ix2 k q))
def W3 (k : Fin 1024) (q : Fin 2816) : ℝ := EReal.toReal (m ((c.tc : Thread FfnBackIdeal.nD FfnBackIdeal.τ).loc FfnBackIdeal.main_arg3) (ix2 k q))
def W2 (q : Fin 2816) (k : Fin 1024) : ℝ := EReal.toReal (m ((c.tc : Thread FfnBackIdeal.nD FfnBackIdeal.τ).loc FfnBackIdeal.main_arg4) (ix2 q k))
/-- and the cotangent. -/
def O (r : Fin 8192) (k : Fin 1024) : ℝ := EReal.toReal (m ((c.tc : Thread FfnBackIdeal.nD FfnBackIdeal.τ).loc FfnBackIdeal.main_arg5) (ix2 r k))
/-- The padded columns of `n w1` and `n w3`, -/
def A (r : Fin 8192) (j : Fin 3072) : ℝ := padE (fun q => actR (X m c r) (G m c) fun k => W1 m c k q) j
def B (r : Fin 8192) (j : Fin 3072) : ℝ := padE (fun q => actR (X m c r) (G m c) fun k => W3 m c k q) j
/-- and the padded weights. -/
def U (k : Fin 1024) (j : Fin 3072) : ℝ := padE (W1 m c k) j
def V' (k : Fin 1024) (j : Fin 3072) : ℝ := padE (W3 m c k) j
def Y (j : Fin 3072) (k : Fin 1024) : ℝ := padRow (W2 m c) j k

variable {m}

/-- The arrays the kernel is launched on are the stated real ones. -/
theorem args (hp : Pre_ffn_back_finite.fn (F := Ideal) (m ((c.tc : Thread FfnBackIdeal.nD FfnBackIdeal.τ).loc FfnBackIdeal.main_arg0)) (m ((c.tc : Thread FfnBackIdeal.nD FfnBackIdeal.τ).loc FfnBackIdeal.main_arg1))
      (m ((c.tc : Thread FfnBackIdeal.nD FfnBackIdeal.τ).loc FfnBackIdeal.main_arg2)) (m ((c.tc : Thread FfnBackIdeal.nD FfnBackIdeal.τ).loc FfnBackIdeal.main_arg3))
      (m ((c.tc : Thread FfnBackIdeal.nD FfnBackIdeal.τ).loc FfnBackIdeal.main_arg4)) (m ((c.tc : Thread FfnBackIdeal.nD FfnBackIdeal.τ).loc FfnBackIdeal.main_arg5)) = fun _ => 1#1) :
    FfnBackIdeal.RealValue.Args m c (X m c) (O m c) (G m c) (A m c)
      (B m c) (U m c) (V' m c)
      (Y m c) := by
  obtain ⟨e0, e1, e2, e3, e4, e5⟩ := finite hp
  refine ⟨fun r k => ?_, fun r k => ?_, fun k => ?_, fun r j => ?_, fun r j => ?_, fun k j => ?_, fun k j => ?_, fun j k => ?_⟩
  · rw [FfnBackIdeal.Gen.V_main_arg5]; exact e5 _
  · rw [FfnBackIdeal.Gen.V_main_arg0]; exact e0 _
  · exact (FfnBackIdeal.RealValue.V_scale m c k).trans (e1 _)
  · refine (FfnBackIdeal.RealValue.V_first m c r j).trans (Eq.trans ?_ (padE_coe _ j))
    congr 1
    funext q
    exact FfnBackIdeal.RealValue.hact_real (X := X m c) (G := G m c) (W := W1 m c) (fun r k => e0 _) (fun k => e1 _) (fun k q => e2 _) r q
  · refine (FfnBackIdeal.RealValue.V_second m c r j).trans (Eq.trans ?_ (padE_coe _ j))
    congr 1
    funext q
    exact FfnBackIdeal.RealValue.hact_real (X := X m c) (G := G m c) (W := W3 m c) (fun r k => e0 _) (fun k => e1 _) (fun k q => e3 _) r q
  · refine (FfnBackIdeal.RealValue.V_in1 m c k j).trans (Eq.trans ?_ (padE_coe _ j))
    congr 1
    funext q
    exact e2 _
  · refine (FfnBackIdeal.RealValue.V_in3 m c k j).trans (Eq.trans ?_ (padE_coe _ j))
    congr 1
    funext q
    exact e3 _
  · refine (FfnBackIdeal.RealValue.V_out2 m c j k).trans (Eq.trans ?_ (padE_coe (fun q => W2 m c q k) j))
    congr 1
    funext q
    exact e4 _

/-- The normed row's cotangent over the padded columns is the one over the columns. -/
theorem dn_eq (r : Fin 8192) :
    FfnBackIdeal.RealValue.dn (O m c) (A m c)
      (B m c) (U m c) (V' m c)
      (Y m c) r = dnQ (X m c r) (O m c r) (G m c) (W1 m c) (W3 m c) (W2 m c) := by
  funext k
  refine Eq.trans (Finset.sum_congr rfl fun j _ => ?_) (dn_pad (X m c r) (O m c r) (G m c) (W1 m c) (W3 m c) (W2 m c) k)
  exact congrArg₂ (· + ·) (congrArg (· * _) (daR_pad (X m c r) (O m c r) (G m c) (W1 m c) (W3 m c) (W2 m c) j))
    (congrArg (· * _) (dbR_pad (X m c r) (O m c r) (G m c) (W1 m c) (W2 m c) j))

end Arguments

/-- The value claim. -/
theorem algebraic : algebraic_FfnBackIdeal_FfnBackRefIdeal_pre_ffn_back_finite := by
  intro m ρ m' ρ' hpre hag
  have hargs := fun c => args (m := m) c (hpre c)
  refine ⟨fun c => FfnBackIdeal.RealValue.result8 (X m c) (O m c) (G m c) (A m c) (B m c) (U m c) (V' m c) (Y m c), fun c => FfnBackIdeal.RealValue.result9 (O m c),
    fun c => FfnBackIdeal.RealValue.result10 (A m c) (B m c), fun c => FfnBackIdeal.RealValue.result11 (O m c) (A m c) (B m c) (Y m c),
    fun c => FfnBackIdeal.RealValue.result12 (X m c) (O m c) (A m c) (B m c) (U m c) (V' m c) (Y m c), ?_, ?_⟩
  · exact (θ_run FfnBackIdeal.defs _ _).mono
      (fun r h c => ⟨(h c).1.trans (FfnBackIdeal.RealValue.final_8 (hargs c)), (h c).2.1.trans (FfnBackIdeal.RealValue.final_9 (hargs c)),
        (h c).2.2.1.trans (FfnBackIdeal.RealValue.final_10 (hargs c)), (h c).2.2.2.1.trans (FfnBackIdeal.RealValue.final_11 (hargs c)),
        (h c).2.2.2.2.1.trans (FfnBackIdeal.RealValue.final_12 (hargs c)), (h c).2.2.2.2.2⟩)
      (kernel_run m ρ)
  · refine (θ_run FfnBackRefIdeal.defs _ _).mono (fun r h c => ⟨(h c).1.trans ?_, (h c).2.1.trans ?_, (h c).2.2.1.trans ?_,
      (h c).2.2.2.1.trans ?_, (h c).2.2.2.2.1.trans ?_, (h c).2.2.2.2.2⟩) (FfnBackRefIdeal.Value.run (F := Ideal) m' ρ')
    all_goals obtain ⟨e0, e1, e2, e3, e4, e5⟩ := finite (hpre c)
    · rw [FfnBackRefIdeal.Read.val_main_v52_eq, (hag c).1, (hag c).2.1, (hag c).2.2.1, (hag c).2.2.2.1, (hag c).2.2.2.2.1, (hag c).2.2.2.2.2]
      funext i
      obtain ⟨a, b, rfl⟩ : ∃ (a : Fin 8192) (b : Fin 1024), i = ix2 a b := ⟨i 0, i 1, eq_ix2 _⟩
      refine (FfnBackRefIdeal.RealValue.v52_real (X := X m c) (O := O m c) (G := G m c) (W1 := W1 m c) (W3 := W3 m c) (W2 := W2 m c)
        (fun r k => e0 _) (fun k => e1 _) (fun k q => e2 _) (fun k q => e3 _) (fun q k => e4 _) (fun r k => e5 _) a b).trans ?_
      rw [← dn_eq c a]
      rfl
    · rw [FfnBackRefIdeal.Read.val_main_v55_eq, (hag c).2.2.2.2.2]
      funext i
      obtain ⟨a, b, rfl⟩ : ∃ (a : Fin 8192) (b : Fin 1024), i = ix2 a b := ⟨i 0, i 1, eq_ix2 _⟩
      exact FfnBackRefIdeal.RealValue.v55_real (O := O m c) (fun r k => e5 _) a b
    · rw [FfnBackRefIdeal.Read.val_main_v59_eq, (hag c).1, (hag c).2.1, (hag c).2.2.1, (hag c).2.2.2.1]
      funext i
      obtain ⟨a, j, rfl⟩ : ∃ (a : Fin 8192) (j : Fin 3072), i = ix2 a j := ⟨i 0, i 1, eq_ix2 _⟩
      refine (FfnBackRefIdeal.RealValue.v59_real (X := X m c) (G := G m c) (W1 := W1 m c) (W3 := W3 m c)
        (fun r k => e0 _) (fun k => e1 _) (fun k q => e2 _) (fun k q => e3 _) a j).trans ?_
      exact congrArg _ (sR_pad (X m c a) (G m c) (W1 m c) (W3 m c) j).symm
    · rw [FfnBackRefIdeal.Read.val_main_v69_eq, (hag c).1, (hag c).2.1, (hag c).2.2.1, (hag c).2.2.2.1, (hag c).2.2.2.2.1, (hag c).2.2.2.2.2]
      funext i
      obtain ⟨s, a, j, rfl⟩ : ∃ (s : Fin 2) (a : Fin 8192) (j : Fin 3072), i = ix3 s a j := ⟨i 0, i 1, i 2, eq_ix3 _⟩
      refine (FfnBackRefIdeal.RealValue.v69_real (X := X m c) (O := O m c) (G := G m c) (W1 := W1 m c) (W3 := W3 m c) (W2 := W2 m c)
        (fun r k => e0 _) (fun k => e1 _) (fun k q => e2 _) (fun k q => e3 _) (fun q k => e4 _) (fun r k => e5 _) s a j).trans ?_
      rw [← daR_pad, ← dbR_pad]
      rfl
    · rw [FfnBackRefIdeal.Read.val_main_v70_eq, (hag c).1, (hag c).2.1, (hag c).2.2.1, (hag c).2.2.2.1, (hag c).2.2.2.2.1, (hag c).2.2.2.2.2]
      funext i
      obtain ⟨a, b, rfl⟩ : ∃ (a : Fin 1) (b : Fin 1024), i = ix2 a b := ⟨i 0, i 1, eq_ix2 _⟩
      refine (FfnBackRefIdeal.RealValue.v70_real (X := X m c) (O := O m c) (G := G m c) (W1 := W1 m c) (W3 := W3 m c) (W2 := W2 m c)
        (fun r k => e0 _) (fun k => e1 _) (fun k q => e2 _) (fun k q => e3 _) (fun q k => e4 _) (fun r k => e5 _) a b).trans ?_
      simp only [← dn_eq c]
      rfl

end Cert.FfnBackClaim

end
-- ==== Proof.FfnFwdBody.lean ====
module

public import proofs.«01_k».proof.Proof.Gen.FfnFwdIdeal.Frame
public import proofs.«01_k».proof.Proof.Gen.FfnFwdIdeal.Skeleton
public import Idealize.ShloMosaic.Lib.Pipeline.ValueKit

@[expose] public section

/-!
# The body of the feed-forward kernel

The grid is 8 row blocks by 3 feed-forward slices, the slices innermost. Point `t` is slice `t % 3` of row block
`t / 3`. At slice 0 the normed rows are put into a scratch block and given out, and the accumulator is cleared; every
slice gives out its columns of the two products and adds its part of the third to the accumulator; at slice 2 the
result is formed from the accumulator. The theorems hold over any float values.
-/

set_option maxRecDepth 16384

noncomputable section

namespace Cert.FfnFwdIdealRun

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- The accumulator after a slice, from what it held. -/
def accStep (n : Vec F S1024x1024 .bf16) (w1 w3 : Vec F S1x1024x1024 .bf16) (w2 : Vec F S1024x1024 .bf16)
    (acc : Vec F S1024x1024 .f32) : Vec F S1024x1024 .f32 :=
  k0_pay1 (k0_pay9 n w1 w3 acc w2)

theorem hz : (![0, 0] : Fin 2 → Nat) = fun _ => 0 := funext fun a => by fin_cases a <;> rfl
theorem hz3 : (![0, 0, 0] : Fin 3 → Nat) = fun _ => 0 := funext fun a => by fin_cases a <;> rfl

/-! ## The body, case by case -/

section Cases

variable (c : Dev nD) (i : grid0.Coords)
  (a2 : Memref sig .tc .vmem S1024x1024 .f32) (h2 : a2.IsWhole) (a3 : Memref sig .tc .vmem S1x1024 .f32) (h3 : a3.IsWhole) (a4 : Memref sig .tc .vmem S1x1024x1024 .bf16) (h4 : a4.IsWhole)
  (a5 : Memref sig .tc .vmem S1x1024x1024 .bf16) (h5 : a5.IsWhole) (a6 : Memref sig .tc .vmem S1024x1024 .bf16) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .bf16) (h9 : a9.IsWhole) (a10 : Memref sig .tc .vmem S1024x1024 .bf16) (h10 : a10.IsWhole)
  (a11 : Memref sig .tc .vmem S1024x1024 .bf16) (h11 : a11.IsWhole) (a12 : Memref sig .tc .vmem S1024x1024 .f32) (h12 : a12.IsWhole)
  (x0 : Vec F S1024x1024 .f32) (x1 : Vec F S1x1024 .f32) (x2 x3 : Vec F S1x1024x1024 .bf16) (x4 : Vec F S1024x1024 .bf16)

set_option maxHeartbeats 4000000 in
/-- At slice 0: the normed rows are formed and the accumulator starts from zero. -/
theorem run_open (hc1 : k0_cond1 i = 1#1) (hc2 : ¬k0_cond2 i = 1#1) (z7 : Vec F S1024x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare z7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare z7 ∗ owns (c : Thread nD τ) a8 fullShare (k0_pay3 x0 x1) ∗ owns (c : Thread nD τ) a9 fullShare (k0_pay7 (k0_pay3 x0 x1) x2) ∗ owns (c : Thread nD τ) a10 fullShare (k0_pay8 (k0_pay3 x0 x1) x3) ∗ owns (c : Thread nD τ) a11 fullShare (k0_pay3 x0 x1) ∗ owns (c : Thread nD τ) a12 fullShare (accStep (k0_pay3 x0 x1) x2 x3 x4 k0_pay4)) -∗ K ⟨⟩))
      ⊢ wp frame (wpE (defs₀ (F := F)) Variants.none c none) E (cc0_ffn_fwd i a2 h2 a3 h3 a4 h4 a5 h5 a6 h6 a7 h7 a8 h8 a9 h9 a10 h10 a11 h11 a12 h12) K := by
  simp only [cc0_ffn_fwd_eq_skeleton]; unfold cc0_ffn_fwd_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, Hk⟩
  obtain rfl := h2.eq_unread e2; obtain rfl := h3.eq_unread e3; obtain rfl := h4.eq_unread e4; obtain rfl := h5.eq_unread e5; obtain rfl := h6.eq_unread e6; obtain rfl := h7.eq_unread e7
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h7.read_unread, View.ld_unit_zero (S := S1024x1024) hz, View.ld_unit_zero (S := S1x1024) hz, View.ld_unit_zero (S := S1x1024x1024) hz3]
  isplitl [H9]
  · iexists _; isplitr
    swap; · iexact H9
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h7.read_unread, View.ld_unit_zero (S := S1024x1024) hz, View.ld_unit_zero (S := S1x1024) hz, View.ld_unit_zero (S := S1x1024x1024) hz3]
  isplitl [H10]
  · iexists _; isplitr
    swap; · iexact H10
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h7.read_unread, View.ld_unit_zero (S := S1024x1024) hz, View.ld_unit_zero (S := S1x1024) hz, View.ld_unit_zero (S := S1x1024x1024) hz3]
  isplitl [H11]
  · iexists _; isplitr
    swap; · iexact H11
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h7.read_unread, View.ld_unit_zero (S := S1024x1024) hz, View.ld_unit_zero (S := S1x1024) hz, View.ld_unit_zero (S := S1x1024x1024) hz3]
  iexists _; isplitr
  swap; · iexact H12
  ipureintro
  refine (View.read_writes_eq_canon (Val := Elt F) _ _ _ (View.cover_of_tiledL (s := S1024x1024) _ S1024x1024.size (by sl_kernel_rfl))).trans ?_
  sl_unfold_words
  rw [View.canon_cons_unit_zero (S := S1024x1024) hz]
  unfold accStep
  try simp only [View.readCov_unit_zero (S := S1024x1024) _ hz, View.readAt_eq_ld, h2.read_unread, h3.read_unread, h4.read_unread, h5.read_unread, h6.read_unread, h7.read_unread, View.ld_unit_zero (S := S1024x1024) hz, View.ld_unit_zero (S := S1x1024) hz, View.ld_unit_zero (S := S1x1024x1024) hz3]

set_option maxHeartbeats 4000000 in
/-- At slice 1: the accumulator goes on from what it held. -/
theorem run_middle (hc1 : ¬k0_cond1 i = 1#1) (hc2 : ¬k0_cond2 i = 1#1) (z7 : Vec F S1024x1024 .f32) (z8 : Vec F S1024x1024 .bf16) (z11 : Vec F S1024x1024 .bf16) (z12 : Vec F S1024x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare z7 ∗ owns (c : Thread nD τ) a8 fullShare z8 ∗ (∃ d, owns (c : Thread nD τ) a9 fullShare d) ∗ (∃ d, owns (c : Thread nD τ) a10 fullShare d) ∗ owns (c : Thread nD τ) a11 fullShare z11 ∗ owns (c : Thread nD τ) a12 fullShare z12
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare z7 ∗ owns (c : Thread nD τ) a8 fullShare z8 ∗ owns (c : Thread nD τ) a9 fullShare (k0_pay7 z11 x2) ∗ owns (c : Thread nD τ) a10 fullShare (k0_pay8 z11 x3) ∗ owns (c : Thread nD τ) a11 fullShare z11 ∗ owns (c : Thread nD τ) a12 fullShare (accStep z11 x2 x3 x4 z12)) -∗ K ⟨⟩))
      ⊢ wp frame (wpE (defs₀ (F := F)) Variants.none c none) E (cc0_ffn_fwd i a2 h2 a3 h3 a4 h4 a5 h5 a6 h6 a7 h7 a8 h8 a9 h9 a10 h10 a11 h11 a12 h12) K := by
  simp only [cc0_ffn_fwd_eq_skeleton]; unfold cc0_ffn_fwd_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%f11, %e11, H11⟩, ⟨%f12, %e12, H12⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h11.eq_unread e11; obtain rfl := h12.eq_unread e12
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr
    swap; · iexact H9
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h7.read_unread, h8.read_unread, h11.read_unread, h12.read_unread, View.ld_unit_zero (S := S1024x1024) hz, View.ld_unit_zero (S := S1x1024) hz, View.ld_unit_zero (S := S1x1024x1024) hz3]
  isplitl [H10]
  · iexists _; isplitr
    swap; · iexact H10
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h7.read_unread, h8.read_unread, h11.read_unread, h12.read_unread, View.ld_unit_zero (S := S1024x1024) hz, View.ld_unit_zero (S := S1x1024) hz, View.ld_unit_zero (S := S1x1024x1024) hz3]
  isplitl [H11]
  · iexists _; isplitr; · ipureintro; exact h11.read_unread _
    iexact H11
  iexists _; isplitr
  swap; · iexact H12
  ipureintro
  refine (View.read_writes_eq_canon (Val := Elt F) _ _ _ (View.cover_of_tiledL (s := S1024x1024) _ S1024x1024.size (by sl_kernel_rfl))).trans ?_
  sl_unfold_words
  rw [View.canon_cons_unit_zero (S := S1024x1024) hz]
  unfold accStep
  try simp only [View.readCov_unit_zero (S := S1024x1024) _ hz, View.readAt_eq_ld, h2.read_unread, h3.read_unread, h4.read_unread, h5.read_unread, h6.read_unread, h7.read_unread, h8.read_unread, h11.read_unread, h12.read_unread, View.ld_unit_zero (S := S1024x1024) hz, View.ld_unit_zero (S := S1x1024) hz, View.ld_unit_zero (S := S1x1024x1024) hz3]

set_option maxHeartbeats 4000000 in
/-- At slice 2: the result is formed from the accumulator. -/
theorem run_close (hc1 : ¬k0_cond1 i = 1#1) (hc2 : k0_cond2 i = 1#1) (z8 : Vec F S1024x1024 .bf16) (z11 : Vec F S1024x1024 .bf16) (z12 : Vec F S1024x1024 .f32) (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare z8 ∗ (∃ d, owns (c : Thread nD τ) a9 fullShare d) ∗ (∃ d, owns (c : Thread nD τ) a10 fullShare d) ∗ owns (c : Thread nD τ) a11 fullShare z11 ∗ owns (c : Thread nD τ) a12 fullShare z12
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare (k0_pay2 x0 (accStep z11 x2 x3 x4 z12)) ∗ owns (c : Thread nD τ) a8 fullShare z8 ∗ owns (c : Thread nD τ) a9 fullShare (k0_pay7 z11 x2) ∗ owns (c : Thread nD τ) a10 fullShare (k0_pay8 z11 x3) ∗ owns (c : Thread nD τ) a11 fullShare z11 ∗ owns (c : Thread nD τ) a12 fullShare (accStep z11 x2 x3 x4 z12)) -∗ K ⟨⟩))
      ⊢ wp frame (wpE (defs₀ (F := F)) Variants.none c none) E (cc0_ffn_fwd i a2 h2 a3 h3 a4 h4 a5 h5 a6 h6 a7 h7 a8 h8 a9 h9 a10 h10 a11 h11 a12 h12) K := by
  simp only [cc0_ffn_fwd_eq_skeleton]; unfold cc0_ffn_fwd_skel
  simp only [k0_part1_eq_skeleton]
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%d9, %f9, -, H9⟩, ⟨%d10, %f10, -, H10⟩, ⟨%f11, %e11, H11⟩, ⟨%f12, %e12, H12⟩, Hk⟩
  obtain rfl := h2.eq_unread e2; obtain rfl := h3.eq_unread e3; obtain rfl := h4.eq_unread e4; obtain rfl := h5.eq_unread e5; obtain rfl := h6.eq_unread e6; obtain rfl := h8.eq_unread e8; obtain rfl := h11.eq_unread e11; obtain rfl := h12.eq_unread e12
  sl_exec (disch := first | sl_exact hc1 | sl_exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    unfold accStep
    try simp only [View.readCov_unit_zero (S := S1024x1024) _ hz, View.readAt_eq_ld, h2.read_unread, h3.read_unread, h4.read_unread, h5.read_unread, h6.read_unread, h8.read_unread, h11.read_unread, h12.read_unread, View.ld_unit_zero (S := S1024x1024) hz, View.ld_unit_zero (S := S1x1024) hz, View.ld_unit_zero (S := S1x1024x1024) hz3]
  isplitl [H8]
  · iexists _; isplitr; · ipureintro; exact h8.read_unread _
    iexact H8
  isplitl [H9]
  · iexists _; isplitr
    swap; · iexact H9
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h8.read_unread, h11.read_unread, h12.read_unread, View.ld_unit_zero (S := S1024x1024) hz, View.ld_unit_zero (S := S1x1024) hz, View.ld_unit_zero (S := S1x1024x1024) hz3]
  isplitl [H10]
  · iexists _; isplitr
    swap; · iexact H10
    ipureintro
    refine (View.read_writes_eq_canon (Val := Elt F) _ _ _ (View.cover_of_tiledL (s := S1024x1024) _ S1024x1024.size (by sl_kernel_rfl))).trans ?_
    sl_unfold_words
    rw [View.canon_cons_unit_zero (S := S1024x1024) hz]
    try simp only [View.readCov_unit_zero (S := S1024x1024) _ hz, View.readAt_eq_ld, h2.read_unread, h3.read_unread, h4.read_unread, h5.read_unread, h6.read_unread, h8.read_unread, h11.read_unread, h12.read_unread, View.ld_unit_zero (S := S1024x1024) hz, View.ld_unit_zero (S := S1x1024) hz, View.ld_unit_zero (S := S1x1024x1024) hz3]
  isplitl [H11]
  · iexists _; isplitr; · ipureintro; exact h11.read_unread _
    iexact H11
  iexists _; isplitr
  swap; · iexact H12
  ipureintro
  refine (View.read_writes_eq_canon (Val := Elt F) _ _ _ (View.cover_of_tiledL (s := S1024x1024) _ S1024x1024.size (by sl_kernel_rfl))).trans ?_
  sl_unfold_words
  rw [View.canon_cons_unit_zero (S := S1024x1024) hz]
  unfold accStep
  try simp only [View.readCov_unit_zero (S := S1024x1024) _ hz, View.readAt_eq_ld, h2.read_unread, h3.read_unread, h4.read_unread, h5.read_unread, h6.read_unread, h8.read_unread, h11.read_unread, h12.read_unread, View.ld_unit_zero (S := S1024x1024) hz, View.ld_unit_zero (S := S1x1024) hz, View.ld_unit_zero (S := S1x1024x1024) hz3]

end Cases

end Cert.FfnFwdIdealRun

end
-- ==== Proof.FfnFwdRun.lean ====
module

public import proofs.«01_k».proof.Proof.FfnFwdBody
public import Idealize.ShloMosaic.Lib.Pipeline.TableIdle

@[expose] public section

/-!
# The run of the feed-forward kernel

What the buffers hold after each grid point, the pipeline's proof data from it, and the run: every execution ends, the
result arrays at what the write-backs of those buffers make of them, the arguments as they were, the semaphores at zero.
-/

set_option maxRecDepth 16384

noncomputable section

namespace Cert.FfnFwdIdealRun

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arithmetic of the points -/

theorem N24 (t : Fin cfg0.N) : t.val < 24 := lt_of_lt_of_eq t.isLt N_0

/-- The first condition holds at slice 0, -/
theorem cond1_iff : ∀ t : Fin cfg0.N, k0_cond1 (grid0.coords t) = 1#1 ↔ t.val % 3 = 0 := by decide +kernel
/-- the second at slice 2. -/
theorem cond2_iff : ∀ t : Fin cfg0.N, k0_cond2 (grid0.coords t) = 1#1 ↔ t.val % 3 = 2 := by decide +kernel

theorem live5 : ∀ t : Fin cfg0.N, t.val % 3 = 2 → cfg0.idle 5 (grid0.coords t) = false := by decide +kernel
theorem idle5 : ∀ t : Fin cfg0.N, ¬t.val % 3 = 2 → cfg0.idle 5 (grid0.coords t) = true ∧ (cfg0.win 5).flush t = false := by decide +kernel
theorem live6 : ∀ t : Fin cfg0.N, t.val % 3 = 0 → cfg0.idle 6 (grid0.coords t) = false := by decide +kernel
theorem idle6 : ∀ t : Fin cfg0.N, ¬t.val % 3 = 0 → cfg0.idle 6 (grid0.coords t) = true := by decide +kernel
theorem keep6 : ∀ t : Fin cfg0.N, t.val % 3 = 1 → (cfg0.win 6).flush t = false := by decide +kernel
theorem flushed6 : ∀ t : Fin cfg0.N, t.val % 3 = 2 → (cfg0.win 6).flush t = true := by decide +kernel

/-- Window 6's buffer holds nothing of the body's only before slice 0. -/
def bare6 : ℕ → Bool
  | 0 => true
  | n + 1 => n % 3 == 2
theorem bare6_step : ∀ t : Fin cfg0.N,
    bare6 (t.val + 1) = ((cfg0.win 6).flush t || (cfg0.idle 6 (cfg0.grid.coords t) && bare6 t.val)) := by decide +kernel
theorem held6 : ∀ t : Fin cfg0.N, ¬t.val % 3 = 0 → cfg0.fresh 6 t.val = false := by
  intro t; rw [Pipeline.Cfg.fresh_tab cfg0 6 bare6 rfl bare6_step t.val (Nat.le_of_lt t.isLt)]; revert t; decide +kernel

/-! ## What the buffers hold -/

variable (m : (ℓ : Loc nD τ sig) → Buf (Elt F) ℓ) (ρ : Dev nD → PrngReg)

/-- The normed rows of the row block in work. -/
def nAt (c : Dev nD) : (n : ℕ) → n < cfg0.N → Vec F S1024x1024 .bf16
  | 0, h => k0_pay3 (iblk m c 0 ⟨0, h⟩) (iblk m c 1 ⟨0, h⟩)
  | n + 1, h => if (n + 1) % 3 = 0 then k0_pay3 (iblk m c 0 ⟨n + 1, h⟩) (iblk m c 1 ⟨n + 1, h⟩) else nAt c n (Nat.lt_of_succ_lt h)

/-- The accumulator after point `n`. -/
def accAt (c : Dev nD) : (n : ℕ) → n < cfg0.N → Vec F S1024x1024 .f32
  | 0, h => accStep (nAt m c 0 h) (iblk m c 2 ⟨0, h⟩) (iblk m c 3 ⟨0, h⟩) (iblk m c 4 ⟨0, h⟩) k0_pay4
  | n + 1, h => accStep (nAt m c (n + 1) h) (iblk m c 2 ⟨n + 1, h⟩) (iblk m c 3 ⟨n + 1, h⟩) (iblk m c 4 ⟨n + 1, h⟩)
      (if (n + 1) % 3 = 0 then k0_pay4 else accAt c n (Nat.lt_of_succ_lt h))

theorem before_lt (t : Fin cfg0.N) : t.val - 1 < cfg0.N := Nat.lt_of_le_of_lt (Nat.sub_le _ _) t.isLt

theorem nAt_open (c : Dev nD) (t : Fin cfg0.N) (h0 : t.val % 3 = 0) : nAt m c t.val t.isLt = k0_pay3 (iblk m c 0 t) (iblk m c 1 t) := by
  obtain ⟨n, hn⟩ := t
  cases n with
  | zero => rfl
  | succ n => exact if_pos h0

theorem nAt_later (c : Dev nD) (t : Fin cfg0.N) (h0 : ¬t.val % 3 = 0) : nAt m c t.val t.isLt = nAt m c (t.val - 1) (before_lt t) := by
  obtain ⟨n, hn⟩ := t
  cases n with
  | zero => exact absurd rfl h0
  | succ n => exact if_neg h0

theorem accAt_open (c : Dev nD) (t : Fin cfg0.N) (h0 : t.val % 3 = 0) :
    accAt m c t.val t.isLt = accStep (nAt m c t.val t.isLt) (iblk m c 2 t) (iblk m c 3 t) (iblk m c 4 t) k0_pay4 := by
  obtain ⟨n, hn⟩ := t
  cases n with
  | zero => rfl
  | succ n => exact congrArg (accStep _ _ _ _) (if_pos h0)

theorem accAt_later (c : Dev nD) (t : Fin cfg0.N) (h0 : ¬t.val % 3 = 0) :
    accAt m c t.val t.isLt = accStep (nAt m c t.val t.isLt) (iblk m c 2 t) (iblk m c 3 t) (iblk m c 4 t)
      (accAt m c (t.val - 1) (before_lt t)) := by
  obtain ⟨n, hn⟩ := t
  cases n with
  | zero => exact absurd rfl h0
  | succ n => exact congrArg (accStep _ _ _ _) (if_neg h0)

/-! ## The proof data -/

abbrev stg0 (t : Fin cfg0.N) : Memref sig .tc .vmem S1024x1024 .f32 := win0_0.stage (cfg0.slots t 0)
abbrev stg1 (t : Fin cfg0.N) : Memref sig .tc .vmem S1x1024 .f32 := win0_1.stage (cfg0.slots t 1)
abbrev stg2 (t : Fin cfg0.N) : Memref sig .tc .vmem S1x1024x1024 .bf16 := win0_2.stage (cfg0.slots t 2)
abbrev stg3 (t : Fin cfg0.N) : Memref sig .tc .vmem S1x1024x1024 .bf16 := win0_3.stage (cfg0.slots t 3)
abbrev stg4 (t : Fin cfg0.N) : Memref sig .tc .vmem S1024x1024 .bf16 := win0_4.stage (cfg0.slots t 4)
abbrev stg5 (t : Fin cfg0.N) : Memref sig .tc .vmem S1024x1024 .f32 := win0_5.stage (cfg0.slots t 5)
abbrev stg6 (t : Fin cfg0.N) : Memref sig .tc .vmem S1024x1024 .bf16 := win0_6.stage (cfg0.slots t 6)
abbrev stg7 (t : Fin cfg0.N) : Memref sig .tc .vmem S1024x1024 .bf16 := win0_7.stage (cfg0.slots t 7)
abbrev stg8 (t : Fin cfg0.N) : Memref sig .tc .vmem S1024x1024 .bf16 := win0_8.stage (cfg0.slots t 8)
abbrev scr0 : Memref sig .tc .vmem S1024x1024 .bf16 := Memref.whole cc0_scratch0
abbrev scr1 : Memref sig .tc .vmem S1024x1024 .f32 := Memref.whole cc0_scratch1

/-- What the launch hands the region: the two scratch buffers at any contents, the generator register at any state. -/
theorem start_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant: before the first point what the launch hands over; then the scratch buffers at the normed rows and the accumulator of the point before. -/
def inv (c : Dev nD) : (n : ℕ) → n ≤ cfg0.N → sProp 𝕄
  | 0, _ => Pipeline.ΦA spec0 c
  | n + 1, h => iprop(iprop(owns (c : Thread nD τ) scr0 fullShare (nAt m c n h) ∗ owns (c : Thread nD τ) scr1 fullShare (accAt m c n h)) ∗ (∃ r, prngReg c r))

theorem inv_zero (c : Dev nD) (n : ℕ) (h : n ≤ cfg0.N) (hn : n = 0) : inv m c n h = Pipeline.ΦA spec0 c := by
  subst hn; rfl

theorem inv_succ (c : Dev nD) (n : ℕ) (h : n < cfg0.N) :
    inv m c (n + 1) h = iprop(iprop(owns (c : Thread nD τ) scr0 fullShare (nAt m c n h) ∗ owns (c : Thread nD τ) scr1 fullShare (accAt m c n h)) ∗ (∃ r, prngReg c r)) := rfl

theorem inv_pos (c : Dev nD) (n : ℕ) (h : n ≤ cfg0.N) (hn : n ≠ 0) :
    inv m c n h = iprop(iprop(owns (c : Thread nD τ) scr0 fullShare (nAt m c (n - 1) (by omega)) ∗ owns (c : Thread nD τ) scr1 fullShare (accAt m c (n - 1) (by omega))) ∗ (∃ r, prngReg c r)) := by
  cases n with
  | zero => exact absurd rfl hn
  | succ n => rfl

/-- The proof data: each input's buffer at its block, each result's at what the point leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 0 t) (accAt m c t.val t.isLt)
    | ⟨6, _⟩ => nAt m c t.val t.isLt
    | ⟨7, _⟩ => k0_pay7 (nAt m c t.val t.isLt) (iblk m c 2 t)
    | ⟨8, _⟩ => k0_pay8 (nAt m c t.val t.isLt) (iblk m c 3 t)
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay2 (iblk m c 0 t) (accAt m c t.val t.isLt) := by dsimp only [dats]
theorem after_6 (c : Dev nD) (t : Fin cfg0.N) : (dats m 0 c).after 6 t = nAt m c t.val t.isLt := by dsimp only [dats]
theorem after_7 (c : Dev nD) (t : Fin cfg0.N) : (dats m 0 c).after 7 t = k0_pay7 (nAt m c t.val t.isLt) (iblk m c 2 t) := by dsimp only [dats]
theorem after_8 (c : Dev nD) (t : Fin cfg0.N) : (dats m 0 c).after 8 t = k0_pay8 (nAt m c t.val t.isLt) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Where a point leaves window 6's buffer alone, it holds what the point before left. -/
theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after_6, after_6]
  by_cases h0 : t.val % 3 = 0
  · rw [live6 t h0] at hi; exact absurd hi Bool.false_ne_true
  · exact nAt_later m c t h0

theorem before_6 (c : Dev nD) (t : Fin cfg0.N) (h0 : ¬t.val % 3 = 0) (d) : (dats m 0 c).before 6 t d = nAt m c (t.val - 1) (before_lt t) := by
  rw [Dat.before_out_traj _ 6 rfl (fun _ _ => rfl) (carry6 m c) t.val t rfl d, if_neg (by rw [held6 t h0]; exact Bool.false_ne_true)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_0 (c : Dev nD) (t : Fin cfg0.N) : (dats m 0 c).leavesExact 0 t = owns (c : Thread nD τ) (stg0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (stg1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (stg2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (stg3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (stg4 t) fullShare (iblk m c 4 t) := by
  unfold Dat.leavesExact; rw [show cfg0.idle 4 (grid0.coords t) = false from rfl, after_4]
theorem leaves_7 (c : Dev nD) (t : Fin cfg0.N) : (dats m 0 c).leavesExact 7 t = owns (c : Thread nD τ) (stg7 t) fullShare (k0_pay7 (nAt m c t.val t.isLt) (iblk m c 2 t)) := by
  unfold Dat.leavesExact; rw [show cfg0.idle 7 (grid0.coords t) = false from rfl, after_7]
theorem leaves_8 (c : Dev nD) (t : Fin cfg0.N) : (dats m 0 c).leavesExact 8 t = owns (c : Thread nD τ) (stg8 t) fullShare (k0_pay8 (nAt m c t.val t.isLt) (iblk m c 3 t)) := by
  unfold Dat.leavesExact; rw [show cfg0.idle 8 (grid0.coords t) = false from rfl, after_8]
theorem leaves_5 (c : Dev nD) (t : Fin cfg0.N) (h : t.val % 3 = 2) : (dats m 0 c).leavesExact 5 t = owns (c : Thread nD τ) (stg5 t) fullShare (k0_pay2 (iblk m c 0 t) (accAt m c t.val t.isLt)) := by
  unfold Dat.leavesExact; rw [live5 t h, after_5]
theorem leaves_6 (c : Dev nD) (t : Fin cfg0.N) (h : t.val % 3 = 0) : (dats m 0 c).leavesExact 6 t = owns (c : Thread nD τ) (stg6 t) fullShare (nAt m c t.val t.isLt) := by
  unfold Dat.leavesExact; rw [live6 t h, after_6]
theorem leaves_6_flushed (c : Dev nD) (t : Fin cfg0.N) (h : t.val % 3 = 2) : (dats m 0 c).leavesExact 6 t = owns (c : Thread nD τ) (stg6 t) fullShare (nAt m c t.val t.isLt) := by
  unfold Dat.leavesExact; rw [idle6 t (by omega), flushed6 t h, after_6]

/-- Before a point the scratch buffers hold something, whatever the point. -/
theorem inv_any (c : Dev nD) (n : ℕ) (h : n ≤ cfg0.N) :
    inv m c n h ⊢ iprop(iprop((∃ d, owns (c : Thread nD τ) scr0 fullShare d) ∗ (∃ d, owns (c : Thread nD τ) scr1 fullShare d)) ∗ (∃ r, prngReg c r)) := by
  cases n with
  | zero => rw [inv_zero m c 0 h rfl, start_eq]; try exact Idealize.SL.BI.Entails.refl _
  | succ n =>
    rw [inv_succ]
    iintro ⟨⟨HS0, HS1⟩, Hg⟩
    isplitl [HS0 HS1]
    · isplitl [HS0]
      · iexists _; iexact HS0
      iexists _; iexact HS1
    iexact Hg

set_option maxHeartbeats 4000000 in
theorem body_open (c : Dev nD) (t : Fin cfg0.N) (h0 : t.val % 3 = 0) :
    bodyPre m c t ⊢ wp frame (wpE (defs₀ (F := F)) Variants.none c none) Set.univ (bodyAt0 t) (fun _ => bodyPost m c t) := by
  have hN := N24 t
  unfold bodyPre bodyPost bodyAt0
  simp only [before_0, before_1, before_2, before_3, before_4, leaves_0, leaves_1, leaves_2, leaves_3, leaves_4, leaves_7, leaves_8]
  rw [show (dats m 0 c).owesAt () t.succ = (dats m 0 c).owesAt () t.castSucc from rfl]
  rw [show (dats m 0 c).Φ t.succ = inv m c (t.val + 1) t.isLt from rfl, inv_succ]
  rw [leaves_6 m c t h0]
  rw [Dat.leavesExact_idle (dats m 0 c) 5 t (idle5 t (by omega)).1 (idle5 t (by omega)).2]
  rw [inv_castSucc m c t]
  refine (sep_mono_left (inv_any m c t.val (Nat.le_of_lt t.isLt))).trans ?_
  rw [accAt_open m c t h0, nAt_open m c t h0]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_open c (grid0.coords t) _ _ _ _ _ _ _ _ _ _ _ _ _ _ _ _ _ _ _ _ _ _ (iblk m c 0 t) (iblk m c 1 t) (iblk m c 2 t) (iblk m c 3 t) (iblk m c 4 t) ((cond1_iff t).mpr h0) (fun h => by have := (cond2_iff t).mp h; omega) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexists _; iexact HS0
  isplitl [HS1]; · iexists _; iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iexact H8

set_option maxHeartbeats 4000000 in
theorem body_middle (c : Dev nD) (t : Fin cfg0.N) (h1 : t.val % 3 = 1) :
    bodyPre m c t ⊢ wp frame (wpE (defs₀ (F := F)) Variants.none c none) Set.univ (bodyAt0 t) (fun _ => bodyPost m c t) := by
  have hN := N24 t
  unfold bodyPre bodyPost bodyAt0
  simp only [before_0, before_1, before_2, before_3, before_4, leaves_0, leaves_1, leaves_2, leaves_3, leaves_4, leaves_7, leaves_8]
  rw [show (dats m 0 c).owesAt () t.succ = (dats m 0 c).owesAt () t.castSucc from rfl]
  rw [show (dats m 0 c).Φ t.succ = inv m c (t.val + 1) t.isLt from rfl, inv_succ]
  rw [Dat.leavesExact_idle (dats m 0 c) 5 t (idle5 t (by omega)).1 (idle5 t (by omega)).2]
  rw [Dat.leavesExact_idle (dats m 0 c) 6 t (idle6 t (by omega)) (keep6 t h1)]
  rw [inv_castSucc m c t, inv_pos m c _ _ (by omega), accAt_later m c t (by omega), nAt_later m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_middle c (grid0.coords t) _ _ _ _ _ _ _ _ _ _ _ _ _ _ _ _ _ _ _ _ _ _ (iblk m c 0 t) (iblk m c 1 t) (iblk m c 2 t) (iblk m c 3 t) (iblk m c 4 t) (fun h => by have := (cond1_iff t).mp h; omega) (fun h => by have := (cond2_iff t).mp h; omega) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 4000000 in
theorem body_close (c : Dev nD) (t : Fin cfg0.N) (h2 : t.val % 3 = 2) :
    bodyPre m c t ⊢ wp frame (wpE (defs₀ (F := F)) Variants.none c none) Set.univ (bodyAt0 t) (fun _ => bodyPost m c t) := by
  have hN := N24 t
  unfold bodyPre bodyPost bodyAt0
  simp only [before_0, before_1, before_2, before_3, before_4, leaves_0, leaves_1, leaves_2, leaves_3, leaves_4, leaves_7, leaves_8]
  rw [show (dats m 0 c).owesAt () t.succ = (dats m 0 c).owesAt () t.castSucc from rfl]
  rw [show (dats m 0 c).Φ t.succ = inv m c (t.val + 1) t.isLt from rfl, inv_succ]
  rw [leaves_5 m c t h2]
  rw [leaves_6_flushed m c t h2]
  simp only [before_6 m c t (by omega)]
  rw [inv_castSucc m c t, inv_pos m c _ _ (by omega), accAt_later m c t (by omega), nAt_later m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_close c (grid0.coords t) _ _ _ _ _ _ _ _ _ _ _ _ _ _ _ _ _ _ _ _ _ _ (iblk m c 0 t) (iblk m c 1 t) (iblk m c 2 t) (iblk m c 3 t) (iblk m c 4 t) (fun h => by have := (cond1_iff t).mp h; omega) ((cond2_iff t).mpr h2) _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body (c : Dev nD) (t : Fin cfg0.N) :
    bodyPre m c t ⊢ wp frame (wpE (defs₀ (F := F)) Variants.none c none) Set.univ (bodyAt0 t) (fun _ => bodyPost m c t) := by
  by_cases h0 : t.val % 3 = 0
  · exact body_open m c t h0
  · by_cases h2 : t.val % 3 = 2
    · exact body_close m c t h2
    · exact body_middle m c t (by omega)

theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (body m c t) rfl .rfl fun _ => .rfl

theorem entry (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  have hN : (Fin.last cfg0.N).val ≠ 0 := by rw [Fin.val_last]; have : cfg0.N = 24 := N_0; omega
  rw [show (dats m 0 c).Φ (Fin.last cfg0.N) = inv m c (Fin.last cfg0.N).val (Nat.le_of_lt_succ (Fin.last cfg0.N).isLt) from rfl, inv_pos m c _ _ hN, start_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every execution ends with the pipeline's arrays at what the proof data says and the semaphores at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := entry m) (hout := leave m)

theorem run_main : θ_run defs (onTc (τ := τ) (main (F := F))) (s₀ m ρ) (Pipeline.FramePost cfgs (dats m) 0 (V m)) :=
  (θ_run defs _ _).mono (fun _ h => h.1) (run_quiet m ρ)

/-- The frame: every execution ends, the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.FfnFwdIdealRun

end
-- ==== Proof.FfnFwdBits.lean ====
/- The frame of `FfnFwd` over the machine's floats: the program has the text of `FfnFwdIdeal`, whose run is proved over any
   float values. -/
module

public import proofs.«01_k».proof.Defs
public import proofs.«01_k».proof.Proof.FfnFwdRun
public import proofs.«01_k».proof.Proof.Gen.FfnFwd

@[expose] public section

noncomputable section

namespace Cert.FfnFwdClaim

open Idealize.ShloMosaic Idealize.SL.Sem

set_option smartUnfolding false in
set_option maxHeartbeats 2000000 in
/-- The kernel over the machine's floats: every run ends, its arguments unchanged and its semaphores at zero. -/
theorem kernel_frame : quiescent_FfnFwd :=
  fun m ρ _ => FfnFwdIdealRun.frame (F := Bits) m ρ

end Cert.FfnFwdClaim

end
-- ==== Proof.FfnExt.lean ====
/- The forward feed-forward block over the extended reals: the normed row, the activations and the gated unit, and the
   padded layout of the last two. No value here needs a finite argument. -/
module

public import proofs.«01_k».proof.Proof.Layout

@[expose] public section

noncomputable section

namespace Cert.FfnExt

open Idealize.ShloMosaic Cert.Layout

/-- The normed row: the row over the root of its mean square and a small constant, scaled. -/
def norm (x g : Fin 1024 → EReal) (k : Fin 1024) : EReal :=
  x k * Ideal.rsqrt (Ideal.div (∑ k', x k' * x k') (Ideal.ofBits FTy.f32 0x44800000#32) + Ideal.ofBits FTy.f32 0x358637BD#32) * g k

/-- A normed row times a column of a weight. -/
def act (n w : Fin 1024 → EReal) : EReal := ∑ k, n k * w k

/-- The gated unit. -/
def gate (a b : EReal) : EReal := a * Ideal.div 1 (1 + Ideal.exp (-a)) * b

/-- A padding column's gated unit times its row of the last weight is zero, -/
theorem gate_pad (f g h : Fin 2816 → EReal) (j : Fin 3072) :
    gate (padE f j) (padE g j) * padE h j = padE (fun q => gate (f q) (g q) * h q) j := by
  unfold padE
  split
  · rfl
  · exact mul_zero _

/-- so the sum over the padded columns is the sum over the columns, -/
theorem sum_gate_pad (f g h : Fin 2816 → EReal) :
    ∑ j, gate (padE f j) (padE g j) * padE h j = ∑ q, gate (f q) (g q) * h q :=
  (Finset.sum_congr rfl fun j _ => gate_pad f g h j).trans (sum_padE _)

/-- and an activation of the padded weight is the padded activation. -/
theorem act_pad (n : Fin 1024 → EReal) (w : Fin 1024 → Fin 2816 → EReal) (j : Fin 3072) :
    act n (fun k => padE (w k) j) = padE (fun q => act n fun k => w k q) j := by
  unfold act padE
  split
  · rfl
  · simp

end Cert.FfnExt

end
-- ==== Proof.FfnFwdKernel.lean ====
/- What the feed-forward forward kernel computes: its payloads at entries, what its buffers hold after each point, and
   the four result arrays after the run. -/
module

public import proofs.«01_k».proof.Proof.FfnFwdRun
public import proofs.«01_k».proof.Proof.FfnExt

@[expose] public section

set_option maxRecDepth 16384

noncomputable section

namespace Cert.FfnFwdIdeal.RealValue

open Cert.FfnFwdIdeal Cert.FfnFwdIdeal.Gen Cert.FfnFwdIdealRun Cert.RealValue Cert.FfnExt
open Idealize.ShloMosaic Idealize.ShloMosaic.TcCoe Idealize.SL.Sem

/-! ## The body's payloads at entries -/

section Payloads

variable {vx vacc : Vec Ideal S1024x1024 .f32} {vn vy : Vec Ideal S1024x1024 .bf16} {vg : Vec Ideal S1x1024 .f32}
  {vu vv : Vec Ideal S1x1024x1024 .bf16}

/-- The normed rows, -/
theorem pay3_at (i k : Fin 1024) : k0_pay3 (F := Ideal) vx vg (ix2 i k) = norm (fun k => vx (ix2 i k)) (fun k => vg (ix2 0 k)) k := by
  unfold k0_pay3
  pointwise
  rfl

/-- the accumulator's start, -/
theorem pay4_at (i k : Fin 1024) : k0_pay4 (F := Ideal) (ix2 i k) = 0 := by
  unfold k0_pay4
  pointwise

/-- the two activations, -/
theorem pay7_at (i j : Fin 1024) : k0_pay7 (F := Ideal) vn vu (ix2 i j) = act (fun k => vn (ix2 i k)) (fun k => vu (ix3 0 k j)) := by
  unfold k0_pay7 k0_pay5
  pointwise [dot_S1024x1024_S1024x1024_S1024x1024_1_0_0_1_n_n]
  rfl

theorem pay8_at (i j : Fin 1024) : k0_pay8 (F := Ideal) vn vv (ix2 i j) = act (fun k => vn (ix2 i k)) (fun k => vv (ix3 0 k j)) := by
  unfold k0_pay8 k0_pay6
  pointwise [dot_S1024x1024_S1024x1024_S1024x1024_1_0_0_1_n_n]
  rfl

/-- a slice's step of the accumulator, -/
theorem accStep_at (i k : Fin 1024) : accStep (F := Ideal) vn vu vv vy vacc (ix2 i k)
    = vacc (ix2 i k) + ∑ j : Fin 1024, gate (act (fun k => vn (ix2 i k)) (fun k => vu (ix3 0 k j)))
        (act (fun k => vn (ix2 i k)) (fun k => vv (ix3 0 k j))) * vy (ix2 j k) := by
  unfold accStep k0_pay1 k0_pay9 k0_pay5 k0_pay6
  pointwise [dot_S1024x1024_S1024x1024_S1024x1024_1_0_0_1_n_n]
  simp only [zero_sub]
  rfl

/-- and the block's end. -/
theorem pay2_at (i k : Fin 1024) : k0_pay2 (F := Ideal) vx vacc (ix2 i k)
    = vx (ix2 i k) + Ideal.ofBits FTy.f32 0x3F000000#32 * vacc (ix2 i k) := by
  unfold k0_pay2
  pointwise

end Payloads

/-! ## The blocks of the windows -/

section Blocks

variable (m : (ℓ : Loc nD τ sig) → Buf (Elt Ideal) ℓ) (c : Dev nD)

/-- Row `a` of the block at point `n`, of the array, -/
def row (n : ℕ) (a : Fin 1024) : Fin 8192 := ⟨1024 * (n / 3 % 8) + a.val, by have := a.isLt; omega⟩
/-- and its column `j`. -/
def col (n : ℕ) (j : Fin 1024) : Fin 3072 := ⟨1024 * (n % 3) + j.val, by have := j.isLt; omega⟩

theorem index_0 : ∀ t : Fin cfg0.N, win0_0.index t 0 = t.val / 3 ∧ win0_0.index t 1 = 0 :=
  (by decide +kernel : ∀ t : Fin grid0.N, win0_0.index t 0 = t.val / 3 ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = 0 ∧ win0_2.index t 2 = t.val % 3 :=
  (by decide +kernel : ∀ t : Fin grid0.N, win0_2.index t 0 = 0 ∧ win0_2.index t 1 = 0 ∧ win0_2.index t 2 = t.val % 3)
theorem index_3 : ∀ t : Fin cfg0.N, win0_3.index t 0 = 1 ∧ win0_3.index t 1 = 0 ∧ win0_3.index t 2 = t.val % 3 :=
  (by decide +kernel : ∀ t : Fin grid0.N, win0_3.index t 0 = 1 ∧ win0_3.index t 1 = 0 ∧ win0_3.index t 2 = t.val % 3)
theorem index_4 : ∀ t : Fin cfg0.N, win0_4.index t 0 = t.val % 3 ∧ win0_4.index t 1 = 0 :=
  (by decide +kernel : ∀ t : Fin grid0.N, win0_4.index t 0 = t.val % 3 ∧ win0_4.index t 1 = 0)
theorem index_5 : ∀ t : Fin cfg0.N, win0_5.index t 0 = t.val / 3 ∧ win0_5.index t 1 = 0 :=
  (by decide +kernel : ∀ t : Fin grid0.N, win0_5.index t 0 = t.val / 3 ∧ win0_5.index t 1 = 0)
theorem index_6 : ∀ t : Fin cfg0.N, win0_6.index t 0 = t.val / 3 ∧ win0_6.index t 1 = 0 :=
  (by decide +kernel : ∀ t : Fin grid0.N, win0_6.index t 0 = t.val / 3 ∧ win0_6.index t 1 = 0)
theorem index_7 : ∀ t : Fin cfg0.N, win0_7.index t 0 = t.val / 3 ∧ win0_7.index t 1 = t.val % 3 :=
  (by decide +kernel : ∀ t : Fin grid0.N, win0_7.index t 0 = t.val / 3 ∧ win0_7.index t 1 = t.val % 3)
theorem index_8 : ∀ t : Fin cfg0.N, win0_8.index t 0 = t.val / 3 ∧ win0_8.index t 1 = t.val % 3 :=
  (by decide +kernel : ∀ t : Fin grid0.N, win0_8.index t 0 = t.val / 3 ∧ win0_8.index t 1 = t.val % 3)

theorem iblk_0 (t : Fin cfg0.N) (a : Fin 1024) (k : Fin 1024) :
    (iblk m c 0 t : Vec Ideal S1024x1024 .f32) (ix2 a k) = V m c main_arg0 (ix2 (row t.val a) k) := by
  have hN := N24 t
  refine congrArg (V m c main_arg0) (funext fun d => Fin.ext ?_)
  match d with
  | ⟨0, _⟩ => show win0_0.index t 0 * 1024 + 1 * a.val = 1024 * (t.val / 3 % 8) + a.val; rw [(index_0 t).1]; omega
  | ⟨1, _⟩ => show win0_0.index t 1 * 1024 + 1 * k.val = k.val; rw [(index_0 t).2]; omega

theorem iblk_1 (t : Fin cfg0.N) (k : Fin 1024) :
    (iblk m c 1 t : Vec Ideal S1x1024 .f32) (ix2 (0 : Fin 1) k) = V m c main_v0 (ix2 0 k) := by
  have hN := N24 t
  refine congrArg (V m c main_v0) (funext fun d => Fin.ext ?_)
  match d with
  | ⟨0, _⟩ => show win0_1.index t 0 * 1 + 1 * 0 = 0; rw [(index_1 t).1]
  | ⟨1, _⟩ => show win0_1.index t 1 * 1024 + 1 * k.val = k.val; rw [(index_1 t).2]; omega

theorem iblk_2 (t : Fin cfg0.N) (k : Fin 1024) (j : Fin 1024) :
    (iblk m c 2 t : Vec Ideal S1x1024x1024 .bf16) (ix3 (0 : Fin 1) k j) = V m c main_v11 (ix3 (0 : Fin 2) k (col t.val j)) := by
  have hN := N24 t
  refine congrArg (V m c main_v11) (funext fun d => Fin.ext ?_)
  match d with
  | ⟨0, _⟩ => show win0_2.index t 0 * 1 + 1 * 0 = 0; rw [(index_2 t).1]
  | ⟨1, _⟩ => show win0_2.index t 1 * 1024 + 1 * k.val = k.val; rw [(index_2 t).2.1]; omega
  | ⟨2, _⟩ => show win0_2.index t 2 * 1024 + 1 * j.val = 1024 * (t.val % 3) + j.val; rw [(index_2 t).2.2]; omega

theorem iblk_3 (t : Fin cfg0.N) (k : Fin 1024) (j : Fin 1024) :
    (iblk m c 3 t : Vec Ideal S1x1024x1024 .bf16) (ix3 (0 : Fin 1) k j) = V m c main_v11 (ix3 (1 : Fin 2) k (col t.val j)) := by
  have hN := N24 t
  refine congrArg (V m c main_v11) (funext fun d => Fin.ext ?_)
  match d with
  | ⟨0, _⟩ => show win0_3.index t 0 * 1 + 1 * 0 = 1; rw [(index_3 t).1]
  | ⟨1, _⟩ => show win0_3.index t 1 * 1024 + 1 * k.val = k.val; rw [(index_3 t).2.1]; omega
  | ⟨2, _⟩ => show win0_3.index t 2 * 1024 + 1 * j.val = 1024 * (t.val % 3) + j.val; rw [(index_3 t).2.2]; omega

theorem iblk_4 (t : Fin cfg0.N) (j : Fin 1024) (k : Fin 1024) :
    (iblk m c 4 t : Vec Ideal S1024x1024 .bf16) (ix2 j k) = V m c main_v15 (ix2 (col t.val j) k) := by
  have hN := N24 t
  refine congrArg (V m c main_v15) (funext fun d => Fin.ext ?_)
  match d with
  | ⟨0, _⟩ => show win0_4.index t 0 * 1024 + 1 * j.val = 1024 * (t.val % 3) + j.val; rw [(index_4 t).1]; omega
  | ⟨1, _⟩ => show win0_4.index t 1 * 1024 + 1 * k.val = k.val; rw [(index_4 t).2]; omega

theorem emb_5 (t : Fin cfg0.N) (a : Fin 1024) (k : Fin 1024) :
    ((cfg0.win 5).blk t).view.emb (ix2 a k) = (ix2 (row t.val a) k) := by
  have hN := N24 t
  funext d
  apply Fin.ext
  match d with
  | ⟨0, _⟩ => show win0_5.index t 0 * 1024 + 1 * a.val = 1024 * (t.val / 3 % 8) + a.val; rw [(index_5 t).1]; omega
  | ⟨1, _⟩ => show win0_5.index t 1 * 1024 + 1 * k.val = k.val; rw [(index_5 t).2]; omega

theorem emb_6 (t : Fin cfg0.N) (a : Fin 1024) (k : Fin 1024) :
    ((cfg0.win 6).blk t).view.emb (ix2 a k) = (ix2 (row t.val a) k) := by
  have hN := N24 t
  funext d
  apply Fin.ext
  match d with
  | ⟨0, _⟩ => show win0_6.index t 0 * 1024 + 1 * a.val = 1024 * (t.val / 3 % 8) + a.val; rw [(index_6 t).1]; omega
  | ⟨1, _⟩ => show win0_6.index t 1 * 1024 + 1 * k.val = k.val; rw [(index_6 t).2]; omega

theorem emb_7 (t : Fin cfg0.N) (a : Fin 1024) (j : Fin 1024) :
    ((cfg0.win 7).blk t).view.emb (ix2 a j) = (ix2 (row t.val a) (col t.val j)) := by
  have hN := N24 t
  funext d
  apply Fin.ext
  match d with
  | ⟨0, _⟩ => show win0_7.index t 0 * 1024 + 1 * a.val = 1024 * (t.val / 3 % 8) + a.val; rw [(index_7 t).1]; omega
  | ⟨1, _⟩ => show win0_7.index t 1 * 1024 + 1 * j.val = 1024 * (t.val % 3) + j.val; rw [(index_7 t).2]; omega

theorem emb_8 (t : Fin cfg0.N) (a : Fin 1024) (j : Fin 1024) :
    ((cfg0.win 8).blk t).view.emb (ix2 a j) = (ix2 (row t.val a) (col t.val j)) := by
  have hN := N24 t
  funext d
  apply Fin.ext
  match d with
  | ⟨0, _⟩ => show win0_8.index t 0 * 1024 + 1 * a.val = 1024 * (t.val / 3 % 8) + a.val; rw [(index_8 t).1]; omega
  | ⟨1, _⟩ => show win0_8.index t 1 * 1024 + 1 * j.val = 1024 * (t.val % 3) + j.val; rw [(index_8 t).2]; omega

theorem cover_5 (i : S8192x1024.Idx) :
    ∃ t : Fin cfg0.N, (cfg0.win 5).flush t = true ∧ i ∈ ((cfg0.win 5).blk t).view.set := by
  have hN : cfg0.N = 24 := N_0
  have h0 : (i 0).val < 8192 := (i 0).isLt
  have h1 : (i 1).val < 1024 := (i 1).isLt
  have ht : 3 * ((i 0).val / 1024) + 2 < cfg0.N := by omega
  refine ⟨⟨3 * ((i 0).val / 1024) + 2, ht⟩, (flush0_5 _).mpr (by dsimp only; omega), ?_⟩
  show i ∈ ((View.whole main_v16_0).slice (win0_5.rect ⟨3 * ((i 0).val / 1024) + 2, ht⟩)).set
  rw [View.set_slice_whole, Rect.mem_set_unit]
  intro d
  match d with
  | ⟨0, _⟩ =>
    show win0_5.index _ 0 * 1024 ≤ (i 0).val ∧ (i 0).val < win0_5.index _ 0 * 1024 + 1024
    rw [(index_5 _).1]; dsimp only; omega
  | ⟨1, _⟩ =>
    show win0_5.index _ 1 * 1024 ≤ (i 1).val ∧ (i 1).val < win0_5.index _ 1 * 1024 + 1024
    rw [(index_5 _).2]; omega

theorem cover_6 (i : S8192x1024.Idx) :
    ∃ t : Fin cfg0.N, (cfg0.win 6).flush t = true ∧ i ∈ ((cfg0.win 6).blk t).view.set := by
  have hN : cfg0.N = 24 := N_0
  have h0 : (i 0).val < 8192 := (i 0).isLt
  have h1 : (i 1).val < 1024 := (i 1).isLt
  have ht : 3 * ((i 0).val / 1024) + 2 < cfg0.N := by omega
  refine ⟨⟨3 * ((i 0).val / 1024) + 2, ht⟩, (flush0_6 _).mpr (by dsimp only; omega), ?_⟩
  show i ∈ ((View.whole main_v16_1).slice (win0_6.rect ⟨3 * ((i 0).val / 1024) + 2, ht⟩)).set
  rw [View.set_slice_whole, Rect.mem_set_unit]
  intro d
  match d with
  | ⟨0, _⟩ =>
    show win0_6.index _ 0 * 1024 ≤ (i 0).val ∧ (i 0).val < win0_6.index _ 0 * 1024 + 1024
    rw [(index_6 _).1]; dsimp only; omega
  | ⟨1, _⟩ =>
    show win0_6.index _ 1 * 1024 ≤ (i 1).val ∧ (i 1).val < win0_6.index _ 1 * 1024 + 1024
    rw [(index_6 _).2]; omega

theorem cover_7 (i : S8192x3072.Idx) :
    ∃ t : Fin cfg0.N, (cfg0.win 7).flush t = true ∧ i ∈ ((cfg0.win 7).blk t).view.set := by
  have hN : cfg0.N = 24 := N_0
  have h0 : (i 0).val < 8192 := (i 0).isLt
  have h1 : (i 1).val < 3072 := (i 1).isLt
  have ht : 3 * ((i 0).val / 1024) + (i 1).val / 1024 < cfg0.N := by omega
  refine ⟨⟨3 * ((i 0).val / 1024) + (i 1).val / 1024, ht⟩, flush0_7 _, ?_⟩
  show i ∈ ((View.whole main_v16_2).slice (win0_7.rect ⟨3 * ((i 0).val / 1024) + (i 1).val / 1024, ht⟩)).set
  rw [View.set_slice_whole, Rect.mem_set_unit]
  intro d
  match d with
  | ⟨0, _⟩ =>
    show win0_7.index _ 0 * 1024 ≤ (i 0).val ∧ (i 0).val < win0_7.index _ 0 * 1024 + 1024
    rw [(index_7 _).1]; dsimp only; omega
  | ⟨1, _⟩ =>
    show win0_7.index _ 1 * 1024 ≤ (i 1).val ∧ (i 1).val < win0_7.index _ 1 * 1024 + 1024
    rw [(index_7 _).2]; dsimp only; omega

theorem cover_8 (i : S8192x3072.Idx) :
    ∃ t : Fin cfg0.N, (cfg0.win 8).flush t = true ∧ i ∈ ((cfg0.win 8).blk t).view.set := by
  have hN : cfg0.N = 24 := N_0
  have h0 : (i 0).val < 8192 := (i 0).isLt
  have h1 : (i 1).val < 3072 := (i 1).isLt
  have ht : 3 * ((i 0).val / 1024) + (i 1).val / 1024 < cfg0.N := by omega
  refine ⟨⟨3 * ((i 0).val / 1024) + (i 1).val / 1024, ht⟩, flush0_8 _, ?_⟩
  show i ∈ ((View.whole main_v16_3).slice (win0_8.rect ⟨3 * ((i 0).val / 1024) + (i 1).val / 1024, ht⟩)).set
  rw [View.set_slice_whole, Rect.mem_set_unit]
  intro d
  match d with
  | ⟨0, _⟩ =>
    show win0_8.index _ 0 * 1024 ≤ (i 0).val ∧ (i 0).val < win0_8.index _ 0 * 1024 + 1024
    rw [(index_8 _).1]; dsimp only; omega
  | ⟨1, _⟩ =>
    show win0_8.index _ 1 * 1024 ≤ (i 1).val ∧ (i 1).val < win0_8.index _ 1 * 1024 + 1024
    rw [(index_8 _).2]; dsimp only; omega

end Blocks

/-! ## The result arrays -/

section Results

variable (m : (ℓ : Loc nD τ sig) → Buf (Elt Ideal) ℓ) (c : Dev nD)
variable (X : Fin 8192 → Fin 1024 → EReal) (G : Fin 1024 → EReal) (U V' : Fin 1024 → Fin 3072 → EReal) (Y : Fin 3072 → Fin 1024 → EReal)

/-- The arrays at the region's entry on device `c` have the given entries. -/
structure Args : Prop where
  stream : ∀ r k, V m c main_arg0 (ix2 r k) = X r k
  scale : ∀ k, V m c main_v0 (ix2 (0 : Fin 1) k) = G k
  in1 : ∀ k j, V m c main_v11 (ix3 (0 : Fin 2) k j) = U k j
  in3 : ∀ k j, V m c main_v11 (ix3 (1 : Fin 2) k j) = V' k j
  out2 : ∀ j k, V m c main_v15 (ix2 j k) = Y j k

/-- The unit's arguments at row `r` and hidden column `j`, -/
def arg (W : Fin 1024 → Fin 3072 → EReal) (r : Fin 8192) (j : Fin 3072) : EReal := act (norm (X r) G) (fun k => W k j)
/-- and a hidden column's share of the block's output. -/
def term (r : Fin 8192) (k : Fin 1024) (j : Fin 3072) : EReal := gate (arg X G U r j) (arg X G V' r j) * Y j k

/-- The first result: the stream and half the block's output, -/
def result5 : S8192x1024.Idx → EReal := fun i => X (i 0) (i 1) + Ideal.ofBits FTy.f32 0x3F000000#32 * ∑ j, term X G U V' Y (i 0) (i 1) j
/-- the second: the normed rows, -/
def result6 : S8192x1024.Idx → EReal := fun i => norm (X (i 0)) G (i 1)
/-- and the last two: the unit's arguments. -/
def result7 : S8192x3072.Idx → EReal := fun i => arg X G U (i 0) (i 1)
def result8 : S8192x3072.Idx → EReal := fun i => arg X G V' (i 0) (i 1)

variable {m c X G U V' Y}

/-- The normed rows held through a row block's points are the block's. -/
theorem n_value (h : Args m c X G U V' Y) : ∀ (n : ℕ) (hn : n < cfg0.N) (a k : Fin 1024),
    nAt m c n hn (ix2 a k) = norm (X (row n a)) G k := by
  have start : ∀ (t : Fin cfg0.N), t.val % 3 = 0 → ∀ a k : Fin 1024, nAt m c t.val t.isLt (ix2 a k) = norm (X (row t.val a)) G k := by
    intro t h0 a k
    rw [nAt_open m c t h0]
    refine pay3_at a k |>.trans ?_
    exact congrFun (congrArg₂ norm (funext fun k => (iblk_0 m c t a k).trans (h.stream _ _)) (funext fun k => (iblk_1 m c t k).trans (h.scale _))) k
  intro n
  induction n with
  | zero => intro hn; exact start ⟨0, hn⟩ rfl
  | succ n ih =>
    intro hn a k
    by_cases h0 : (n + 1) % 3 = 0
    · exact start ⟨n + 1, hn⟩ h0 a k
    · rw [nAt_later m c ⟨n + 1, hn⟩ h0]
      refine (ih (Nat.lt_of_succ_lt hn) a k).trans ?_
      have e : row n a = row (n + 1) a := Fin.ext (by unfold row; dsimp only; omega)
      rw [e]

/-- The block of the unit's first argument, -/
theorem first_value (h : Args m c X G U V' Y) (t : Fin cfg0.N) (a j : Fin 1024) :
    act (fun k => nAt m c t.val t.isLt (ix2 a k)) (fun k => (iblk m c 2 t : Vec Ideal S1x1024x1024 .bf16) (ix3 0 k j))
      = arg X G U (row t.val a) (col t.val j) :=
  congrArg₂ act (funext fun k => n_value h t.val t.isLt a k) (funext fun k => (iblk_2 m c t k j).trans (h.in1 _ _))

/-- and of its second. -/
theorem second_value (h : Args m c X G U V' Y) (t : Fin cfg0.N) (a j : Fin 1024) :
    act (fun k => nAt m c t.val t.isLt (ix2 a k)) (fun k => (iblk m c 3 t : Vec Ideal S1x1024x1024 .bf16) (ix3 0 k j))
      = arg X G V' (row t.val a) (col t.val j) :=
  congrArg₂ act (funext fun k => n_value h t.val t.isLt a k) (funext fun k => (iblk_3 m c t k j).trans (h.in3 _ _))

/-- A slice's step of the accumulator adds the slice's columns' shares. -/
theorem step_value (h : Args m c X G U V' Y) (t : Fin cfg0.N) (v : Vec Ideal S1024x1024 .f32) (a k : Fin 1024) :
    accStep (F := Ideal) (nAt m c t.val t.isLt) (iblk m c 2 t) (iblk m c 3 t) (iblk m c 4 t) v (ix2 a k)
      = v (ix2 a k) + ∑ j : Fin 1024, ext0 (term X G U V' Y (row t.val a) k) (1024 * (t.val % 3) + j.val) := by
  refine (accStep_at a k).trans (congrArg (v (ix2 a k) + ·) (Finset.sum_congr rfl fun j _ => ?_))
  refine Eq.trans ?_ (ext0_val (term X G U V' Y (row t.val a) k) (col t.val j)).symm
  exact congrArg₂ (· * ·) (congrArg₂ gate (first_value h t a j) (second_value h t a j)) ((iblk_4 m c t j k).trans (h.out2 _ _))

/-- What the accumulator holds after point `n`: the shares of the hidden columns of its row block's slices so far. -/
theorem acc_value (h : Args m c X G U V' Y) : ∀ (n : ℕ) (hn : n < cfg0.N) (a k : Fin 1024),
    accAt m c n hn (ix2 a k) = ∑ s ∈ Finset.range (n % 3 + 1), ∑ j : Fin 1024, ext0 (term X G U V' Y (row n a) k) (1024 * s + j.val) := by
  have start : ∀ (t : Fin cfg0.N), t.val % 3 = 0 → ∀ a k : Fin 1024,
      accAt m c t.val t.isLt (ix2 a k) = ∑ s ∈ Finset.range (t.val % 3 + 1), ∑ j : Fin 1024, ext0 (term X G U V' Y (row t.val a) k) (1024 * s + j.val) := by
    intro t h0 a k
    rw [accAt_open m c t h0]
    refine (step_value h t _ a k).trans ?_
    rw [h0, pay4_at, zero_add, zero_add, Finset.sum_range_one]
  intro n
  induction n with
  | zero => intro hn; exact start ⟨0, hn⟩ rfl
  | succ n ih =>
    intro hn
    by_cases h0 : (n + 1) % 3 = 0
    · exact start ⟨n + 1, hn⟩ h0
    · intro a k
      rw [accAt_later m c ⟨n + 1, hn⟩ h0]
      refine (step_value h ⟨n + 1, hn⟩ _ a k).trans ?_
      refine (congrArg (· + _) (ih (Nat.lt_of_succ_lt hn) a k)).trans ?_
      have e : row n a = row (n + 1) a := Fin.ext (by unfold row; dsimp only; omega)
      have e' : (n + 1) % 3 = n % 3 + 1 := by omega
      dsimp only
      rw [e, e', Finset.sum_range_succ _ (n % 3 + 1)]

/-- After a row block's last slice the accumulator holds the block's output. -/
theorem acc_close (h : Args m c X G U V' Y) (t : Fin cfg0.N) (h2 : t.val % 3 = 2) (a k : Fin 1024) :
    accAt m c t.val t.isLt (ix2 a k) = ∑ j, term X G U V' Y (row t.val a) k j := by
  refine (acc_value h t.val t.isLt a k).trans ?_
  rw [h2, sum_blocks, sum_ext0]

/-- What a point writes back to each result is its block of it: the first, -/
theorem flushed_5 (h : Args m c X G U V' Y) (t : Fin cfg0.N) (hf : (cfg0.win 5).flush t = true) :
    (dats m 0 c).flushed 5 t = ((cfg0.win 5).blk t).view.read (Elt Ideal) (result5 X G U V' Y) := by
  show (cfg0.win 5).cut (grid0.coords t) ((dats m 0 c).after 5 t) = _
  rw [after_5]
  funext x
  rw [View.read_apply]
  obtain ⟨a, k, rfl⟩ : ∃ (a : Fin 1024) (k : Fin 1024), x = ix2 a k := ⟨x 0, x 1, eq_ix2 _⟩
  refine Eq.trans ?_ (congrArg (result5 X G U V' Y) (emb_5 t a k)).symm
  refine (pay2_at a k).trans ?_
  exact congrArg₂ (· + ·) ((iblk_0 m c t a k).trans (h.stream _ _)) (congrArg (_ * ·) (acc_close h t ((flush0_5 t).mp hf) a k))

/-- the second, -/
theorem flushed_6 (h : Args m c X G U V' Y) (t : Fin cfg0.N) (hf : (cfg0.win 6).flush t = true) :
    (dats m 0 c).flushed 6 t = ((cfg0.win 6).blk t).view.read (Elt Ideal) (result6 X G) := by
  show (cfg0.win 6).cut (grid0.coords t) ((dats m 0 c).after 6 t) = _
  rw [after_6]
  funext x
  rw [View.read_apply]
  obtain ⟨a, k, rfl⟩ : ∃ (a : Fin 1024) (k : Fin 1024), x = ix2 a k := ⟨x 0, x 1, eq_ix2 _⟩
  refine Eq.trans ?_ (congrArg (result6 X G) (emb_6 t a k)).symm
  exact n_value h t.val t.isLt a k

/-- the third, -/
theorem flushed_7 (h : Args m c X G U V' Y) (t : Fin cfg0.N) (hf : (cfg0.win 7).flush t = true) :
    (dats m 0 c).flushed 7 t = ((cfg0.win 7).blk t).view.read (Elt Ideal) (result7 X G U) := by
  show (cfg0.win 7).cut (grid0.coords t) ((dats m 0 c).after 7 t) = _
  rw [after_7]
  funext x
  rw [View.read_apply]
  obtain ⟨a, j, rfl⟩ : ∃ (a : Fin 1024) (j : Fin 1024), x = ix2 a j := ⟨x 0, x 1, eq_ix2 _⟩
  refine Eq.trans ?_ (congrArg (result7 X G U) (emb_7 t a j)).symm
  exact (pay7_at a j).trans (first_value h t a j)

/-- and the fourth. -/
theorem flushed_8 (h : Args m c X G U V' Y) (t : Fin cfg0.N) (hf : (cfg0.win 8).flush t = true) :
    (dats m 0 c).flushed 8 t = ((cfg0.win 8).blk t).view.read (Elt Ideal) (result8 X G V') := by
  show (cfg0.win 8).cut (grid0.coords t) ((dats m 0 c).after 8 t) = _
  rw [after_8]
  funext x
  rw [View.read_apply]
  obtain ⟨a, j, rfl⟩ : ∃ (a : Fin 1024) (j : Fin 1024), x = ix2 a j := ⟨x 0, x 1, eq_ix2 _⟩
  refine Eq.trans ?_ (congrArg (result8 X G V') (emb_8 t a j)).symm
  exact (pay8_at a j).trans (second_value h t a j)

/-- The four result arrays after the run. -/
theorem final_5 (h : Args m c X G U V' Y) : (dats m 0 c).arrAt 5 cfg0.N = result5 X G U V' Y :=
  (dats m 0 c).arrAt_eq_of_cover 5 (result5 X G U V' Y) (fun t hf => flushed_5 h t hf) cover_5
theorem final_6 (h : Args m c X G U V' Y) : (dats m 0 c).arrAt 6 cfg0.N = result6 X G :=
  (dats m 0 c).arrAt_eq_of_cover 6 (result6 X G) (fun t hf => flushed_6 h t hf) cover_6
theorem final_7 (h : Args m c X G U V' Y) : (dats m 0 c).arrAt 7 cfg0.N = result7 X G U :=
  (dats m 0 c).arrAt_eq_of_cover 7 (result7 X G U) (fun t hf => flushed_7 h t hf) cover_7
theorem final_8 (h : Args m c X G U V' Y) : (dats m 0 c).arrAt 8 cfg0.N = result8 X G V' :=
  (dats m 0 c).arrAt_eq_of_cover 8 (result8 X G V') (fun t hf => flushed_8 h t hf) cover_8

end Results

end Cert.FfnFwdIdeal.RealValue

end
-- ==== Proof.FfnFwdHost.lean ====
/- The arrays the feed-forward forward kernel is launched on, from the arguments: the scale as a row, and the weights in
   the padded layout. -/
module

public import proofs.«01_k».proof.Proof.FfnFwdKernel
public import Idealize.ShloMosaic.Lib.StableHlo.RunRead

@[expose] public section

set_option maxRecDepth 16384

noncomputable section

namespace Cert.FfnFwdIdeal.RealValue

open Cert.FfnFwdIdeal Cert.FfnFwdIdeal.Gen Cert.FfnFwdIdealRun Cert.RealValue Cert.FfnExt Cert.Layout
open Idealize.ShloMosaic Idealize.ShloMosaic.TcCoe Idealize.SL.Sem

variable (m : (ℓ : Loc nD τ sig) → Buf (Elt Ideal) ℓ) (c : Dev nD)

theorem V_scale (k : Fin 1024) : V m c main_v0 (ix2 (0 : Fin 1) k) = m ((c : Thread nD τ).loc main_arg1) (ix1 k) := by
  have e : V m c main_v0 = broadcastInDim S1x1024 ![1] bcast_S1024_S1x1024_1 (m ((c : Thread nD τ).loc main_arg1)) := by
    unfold V
    after_reads_simp
  rw [e]
  pointwise

theorem V_out2 (j : Fin 3072) (k : Fin 1024) : V m c main_v15 (ix2 j k)
    = padE (M := EReal) (fun q => m ((c : Thread nD τ).loc main_arg4) (ix2 q k)) j := by
  refine Eq.trans ?_ (rows_1024 (m ((c : Thread nD τ).loc main_arg4)) (sitofp (F := Ideal) .f32 (constantI S_ 32 0#32))
    (fun _ => sitofp_zero) shapeCasts_S2816x1024_S8x352x1024 pads_S8x352x1024_S8x384x1024_000_0320_000 h_S_ shapeCasts_S8x384x1024_S3072x1024 j k)
  unfold V
  after_reads_simp
  rfl

/-- A weight's padded columns, rounded. -/
def hcols (w : FVec Ideal S1024x2816 .f32) : FVec Ideal S1024x3072 .bf16 :=
  truncf (F := Ideal) (s := S1024x3072) (φ := .f32) .bf16 (shapeCast S1024x3072 (pad S1024x8x384 ![0, 0, 0] ![0, 0, 32] ![0, 0, 0]
    (shapeCast S1024x8x352 w shapeCasts_S1024x2816_S1024x8x352) (sitofp (F := Ideal) .f32 (constantI S_ 32 0#32))
    pads_S1024x8x352_S1024x8x384_000_000_0320 h_S_) shapeCasts_S1024x8x384_S1024x3072) bitsLt_bf16_f32

theorem hcols_at (w : FVec Ideal S1024x2816 .f32) (k : Fin 1024) (j : Fin 3072) :
    hcols w (ix2 k j) = padE (M := EReal) (fun q => w (ix2 k q)) j :=
  columns_1024 w (sitofp (F := Ideal) .f32 (constantI S_ 32 0#32)) (fun _ => sitofp_zero) shapeCasts_S1024x2816_S1024x8x352
    pads_S1024x8x352_S1024x8x384_000_000_0320 h_S_ shapeCasts_S1024x8x384_S1024x3072 k j

theorem V_in : V m c main_v11 = concatenate S2x1024x3072 0
    [⟨S1x1024x3072, broadcastInDim S1x1024x3072 ![1, 2] bcast_S1024x3072_S1x1024x3072_1_2 (hcols (m ((c : Thread nD τ).loc main_arg2)))⟩,
     ⟨S1x1024x3072, broadcastInDim S1x1024x3072 ![1, 2] bcast_S1024x3072_S1x1024x3072_1_2 (hcols (m ((c : Thread nD τ).loc main_arg3)))⟩]
    concatenates_S1x1024x3072_S1x1024x3072_S2x1024x3072_d0 := by
  unfold V hcols
  after_reads_simp
  rfl

theorem V_in1 (k : Fin 1024) (j : Fin 3072) : V m c main_v11 (ix3 (0 : Fin 2) k j)
    = padE (M := EReal) (fun q => m ((c : Thread nD τ).loc main_arg2) (ix2 k q)) j := by
  rw [V_in]
  pointwise
  exact hcols_at _ k j

theorem V_in3 (k : Fin 1024) (j : Fin 3072) : V m c main_v11 (ix3 (1 : Fin 2) k j)
    = padE (M := EReal) (fun q => m ((c : Thread nD τ).loc main_arg3) (ix2 k q)) j := by
  rw [V_in]
  pointwise
  exact hcols_at _ k j

end Cert.FfnFwdIdeal.RealValue

end
-- ==== Proof.FfnFwdReference.lean ====
/- What the reference `FfnFwdRefIdeal` computes, entry by entry. -/
module

public import proofs.«01_k».proof.Proof.FfnExt
public import proofs.«01_k».proof.Proof.Gen.FfnFwdRefIdeal.Run
public import proofs.«01_k».proof.Proof.Gen.FfnFwdRefIdeal.Read

@[expose] public section

noncomputable section

namespace Cert.FfnFwdRefIdeal.RealValue

open Cert.FfnFwdRefIdeal Cert.FfnFwdRefIdeal.Read Cert.RealValue Cert.FfnExt Cert.Layout
open Idealize.ShloMosaic

variable {x0 : S8192x1024.Idx → EReal} {x1 : S1024.Idx → EReal} {x2 x3 : S1024x2816.Idx → EReal} {x4 : S2816x1024.Idx → EReal}

/-- The normed rows, -/
theorem v12_at (r : Fin 8192) (k : Fin 1024) :
    val_main_v12 (F := Ideal) x0 x1 (ix2 r k) = norm (fun k => x0 (ix2 r k)) (fun k => x1 (ix1 k)) k := by
  unfold val_main_v12 val_main_v11 val_main_v10 val_main_v9 val_main_v8 val_main_v7 val_main_v6 val_main_v5 val_main_cst_1
    val_main_v4 val_main_v3 val_main_cst_0 val_main_v2 val_main_v1 val_main_v0 val_main_cst
  pointwise
  rfl

/-- the two activations, -/
theorem v13_at (r : Fin 8192) (q : Fin 2816) : val_main_v13 (F := Ideal) x0 x1 x2 (ix2 r q)
    = act (norm (fun k => x0 (ix2 r k)) (fun k => x1 (ix1 k))) (fun k => x2 (ix2 k q)) := by
  unfold val_main_v13
  pointwise [dot_S8192x1024_S1024x2816_S8192x2816_1_0_0_1_n_n]
  simp only [v12_at]
  rfl

theorem v14_at (r : Fin 8192) (q : Fin 2816) : val_main_v14 (F := Ideal) x0 x1 x3 (ix2 r q)
    = act (norm (fun k => x0 (ix2 r k)) (fun k => x1 (ix1 k))) (fun k => x3 (ix2 k q)) := by
  unfold val_main_v14
  pointwise [dot_S8192x1024_S1024x2816_S8192x2816_1_0_0_1_n_n]
  simp only [v12_at]
  rfl

/-- the gated unit, -/
theorem v16_at (r : Fin 8192) (q : Fin 2816) : val_main_v16 (F := Ideal) x0 x1 x2 x3 (ix2 r q)
    = gate (act (norm (fun k => x0 (ix2 r k)) (fun k => x1 (ix1 k))) (fun k => x2 (ix2 k q)))
        (act (norm (fun k => x0 (ix2 r k)) (fun k => x1 (ix1 k))) (fun k => x3 (ix2 k q))) := by
  unfold val_main_v16 val_main_v15 val_main_call0_v5 val_main_call0_v4 val_main_call0_cst_0 val_main_call0_v3 val_main_call0_v2
    val_main_call0_cst val_main_call0_v1 val_main_call0_v0
  pointwise
  simp only [v13_at, v14_at]
  rfl

/-- the first result, -/
theorem v20_at (r : Fin 8192) (k : Fin 1024) : val_main_v20 (F := Ideal) x0 x1 x2 x3 x4 (ix2 r k)
    = x0 (ix2 r k) + Ideal.ofBits FTy.f32 0x3F000000#32 * ∑ q : Fin 2816,
        gate (act (norm (fun k => x0 (ix2 r k)) (fun k => x1 (ix1 k))) (fun k => x2 (ix2 k q)))
          (act (norm (fun k => x0 (ix2 r k)) (fun k => x1 (ix1 k))) (fun k => x3 (ix2 k q))) * x4 (ix2 q k) := by
  unfold val_main_v20 val_main_v19 val_main_v18 val_main_cst_2 val_main_v17
  pointwise [dot_S8192x2816_S2816x1024_S8192x1024_1_0_0_1_n_n]
  simp only [v16_at]

/-- the second, -/
theorem v21_at (r : Fin 8192) (k : Fin 1024) :
    val_main_v21 (F := Ideal) x0 x1 (ix2 r k) = norm (fun k => x0 (ix2 r k)) (fun k => x1 (ix1 k)) k := by
  unfold val_main_v21
  pointwise
  exact v12_at r k

/-- and the last two: the activations in the padded layout. -/
theorem v25_at (r : Fin 8192) (j : Fin 3072) : val_main_v25 (F := Ideal) x0 x1 x2 (ix2 r j)
    = padE (fun q => act (norm (fun k => x0 (ix2 r k)) (fun k => x1 (ix1 k))) (fun k => x2 (ix2 k q))) j := by
  unfold val_main_v25 val_main_v24 val_main_v23 val_main_v22 val_main_call1_v0 val_main_c
  refine (columns_8192 (val_main_v13 (F := Ideal) x0 x1 x2) (sitofp (F := Ideal) .f32 (constantI S_ 32 0#32)) (fun _ => sitofp_zero)
    Gen.shapeCasts_S8192x2816_S8192x8x352 Gen.pads_S8192x8x352_S8192x8x384_000_000_0320 Gen.h_S_ Gen.shapeCasts_S8192x8x384_S8192x3072 r j).trans ?_
  simp only [v13_at]

theorem v29_at (r : Fin 8192) (j : Fin 3072) : val_main_v29 (F := Ideal) x0 x1 x3 (ix2 r j)
    = padE (fun q => act (norm (fun k => x0 (ix2 r k)) (fun k => x1 (ix1 k))) (fun k => x3 (ix2 k q))) j := by
  unfold val_main_v29 val_main_v28 val_main_v27 val_main_v26 val_main_call2_v0 val_main_c_3
  refine (columns_8192 (val_main_v14 (F := Ideal) x0 x1 x3) (sitofp (F := Ideal) .f32 (constantI S_ 32 0#32)) (fun _ => sitofp_zero)
    Gen.shapeCasts_S8192x2816_S8192x8x352 Gen.pads_S8192x8x352_S8192x8x384_000_000_0320 Gen.h_S_ Gen.shapeCasts_S8192x8x384_S8192x3072 r j).trans ?_
  simp only [v14_at]

end Cert.FfnFwdRefIdeal.RealValue

end
-- ==== Proof.FfnFwd.lean ====
/- The claims about `FfnFwd`: the kernel's four results are the reference's, whatever the arguments. -/
module

public import proofs.«01_k».proof.Defs
public import proofs.«01_k».proof.Proof.FfnFwdHost
public import proofs.«01_k».proof.Proof.FfnFwdReference

@[expose] public section

noncomputable section

namespace Cert.FfnFwdClaim

open Idealize.ShloMosaic Idealize.ShloMosaic.TcCoe Idealize.SL.Sem Cert.RealValue Cert.FfnExt Cert.Layout

/-- The reference's frame, from its generated run. -/
theorem reference_frame : quiescent_FfnFwdRefIdeal := fun m ρ _ =>
  (θ_run FfnFwdRefIdeal.defs _ _).mono
    (fun r h => ⟨fun c => (h c).2.2.2.2, sem_eq_zero_of_no_sems (by decide) r.2⟩)
    (FfnFwdRefIdeal.Value.run (F := Ideal) m ρ)

/-- The kernel's run: each result array at what the write-backs leave in it, the arguments as they were. -/
theorem kernel_run (m : (ℓ : Loc FfnFwdIdeal.nD FfnFwdIdeal.τ FfnFwdIdeal.sig) → Buf (Elt Ideal) ℓ) (ρ : Dev FfnFwdIdeal.nD → PrngReg) :
    θ_run (FfnFwdIdeal.defs (F := Ideal)) (onTc (τ := FfnFwdIdeal.τ) (FfnFwdIdeal.main (F := Ideal))) ⟨m, fun _ => 0, ρ⟩ fun r => ∀ c : Dev FfnFwdIdeal.nD,
      r.2.mem ((c.tc : Thread FfnFwdIdeal.nD FfnFwdIdeal.τ).loc FfnFwdIdeal.main_v16_0) = (FfnFwdIdealRun.dats m 0 c).arrAt 5 FfnFwdIdeal.cfg0.N
      ∧ r.2.mem ((c.tc : Thread FfnFwdIdeal.nD FfnFwdIdeal.τ).loc FfnFwdIdeal.main_v16_1) = (FfnFwdIdealRun.dats m 0 c).arrAt 6 FfnFwdIdeal.cfg0.N
      ∧ r.2.mem ((c.tc : Thread FfnFwdIdeal.nD FfnFwdIdeal.τ).loc FfnFwdIdeal.main_v16_2) = (FfnFwdIdealRun.dats m 0 c).arrAt 7 FfnFwdIdeal.cfg0.N
      ∧ r.2.mem ((c.tc : Thread FfnFwdIdeal.nD FfnFwdIdeal.τ).loc FfnFwdIdeal.main_v16_3) = (FfnFwdIdealRun.dats m 0 c).arrAt 8 FfnFwdIdeal.cfg0.N
      ∧ r.2.mem ((c.tc : Thread FfnFwdIdeal.nD FfnFwdIdeal.τ).loc FfnFwdIdeal.main_arg0) = m ((c.tc : Thread FfnFwdIdeal.nD FfnFwdIdeal.τ).loc FfnFwdIdeal.main_arg0)
      ∧ r.2.mem ((c.tc : Thread FfnFwdIdeal.nD FfnFwdIdeal.τ).loc FfnFwdIdeal.main_arg1) = m ((c.tc : Thread FfnFwdIdeal.nD FfnFwdIdeal.τ).loc FfnFwdIdeal.main_arg1)
      ∧ r.2.mem ((c.tc : Thread FfnFwdIdeal.nD FfnFwdIdeal.τ).loc FfnFwdIdeal.main_arg2) = m ((c.tc : Thread FfnFwdIdeal.nD FfnFwdIdeal.τ).loc FfnFwdIdeal.main_arg2)
      ∧ r.2.mem ((c.tc : Thread FfnFwdIdeal.nD FfnFwdIdeal.τ).loc FfnFwdIdeal.main_arg3) = m ((c.tc : Thread FfnFwdIdeal.nD FfnFwdIdeal.τ).loc FfnFwdIdeal.main_arg3)
      ∧ r.2.mem ((c.tc : Thread FfnFwdIdeal.nD FfnFwdIdeal.τ).loc FfnFwdIdeal.main_arg4) = m ((c.tc : Thread FfnFwdIdeal.nD FfnFwdIdeal.τ).loc FfnFwdIdeal.main_arg4) :=
  (θ_run FfnFwdIdeal.defs _ _).mono
    (fun r h c => ⟨(h.1 c).1 5, (h.1 c).1 6, (h.1 c).1 7, (h.1 c).1 8, h.2.1 c⟩)
    (θ_run_and (FfnFwdIdealRun.run_main (F := Ideal) m ρ) (FfnFwdIdealRun.frame (F := Ideal) m ρ))

section Arguments

variable (m : (ℓ : Loc FfnFwdIdeal.nD FfnFwdIdeal.τ FfnFwdIdeal.sig) → Buf (Elt Ideal) ℓ) (c : Dev FfnFwdIdeal.nD)

/-- The arguments on device `c`: the stream, -/
def X (r : Fin 8192) (k : Fin 1024) : EReal := m ((c.tc : Thread FfnFwdIdeal.nD FfnFwdIdeal.τ).loc FfnFwdIdeal.main_arg0) (ix2 r k)
/-- the scale, -/
def G (k : Fin 1024) : EReal := m ((c.tc : Thread FfnFwdIdeal.nD FfnFwdIdeal.τ).loc FfnFwdIdeal.main_arg1) (ix1 k)
/-- and the weights, -/
def W1 (k : Fin 1024) (q : Fin 2816) : EReal := m ((c.tc : Thread FfnFwdIdeal.nD FfnFwdIdeal.τ).loc FfnFwdIdeal.main_arg2) (ix2 k q)
def W3 (k : Fin 1024) (q : Fin 2816) : EReal := m ((c.tc : Thread FfnFwdIdeal.nD FfnFwdIdeal.τ).loc FfnFwdIdeal.main_arg3) (ix2 k q)
def W2 (q : Fin 2816) (k : Fin 1024) : EReal := m ((c.tc : Thread FfnFwdIdeal.nD FfnFwdIdeal.τ).loc FfnFwdIdeal.main_arg4) (ix2 q k)
/-- padded. -/
def U (k : Fin 1024) (j : Fin 3072) : EReal := padE (W1 m c k) j
def V' (k : Fin 1024) (j : Fin 3072) : EReal := padE (W3 m c k) j
def Y (j : Fin 3072) (k : Fin 1024) : EReal := padE (fun q => W2 m c q k) j

/-- The arrays the kernel is launched on are these. -/
theorem args : FfnFwdIdeal.RealValue.Args m c (X m c) (G m c) (U m c) (V' m c) (Y m c) :=
  ⟨fun r k => by rw [FfnFwdIdeal.Gen.V_main_arg0]; rfl, fun k => FfnFwdIdeal.RealValue.V_scale m c k, fun k j => FfnFwdIdeal.RealValue.V_in1 m c k j,
    fun k j => FfnFwdIdeal.RealValue.V_in3 m c k j, fun j k => FfnFwdIdeal.RealValue.V_out2 m c j k⟩

/-- The unit's arguments over the padded columns are the padded ones. -/
theorem arg_U (r : Fin 8192) (j : Fin 3072) : FfnFwdIdeal.RealValue.arg (X m c) (G m c) (U m c) r j
    = padE (fun q => act (norm (X m c r) (G m c)) fun k => W1 m c k q) j := act_pad _ _ _

theorem arg_V (r : Fin 8192) (j : Fin 3072) : FfnFwdIdeal.RealValue.arg (X m c) (G m c) (V' m c) r j
    = padE (fun q => act (norm (X m c r) (G m c)) fun k => W3 m c k q) j := act_pad _ _ _

/-- The block's output over the padded columns is the one over the columns. -/
theorem sum_term (r : Fin 8192) (k : Fin 1024) : ∑ j, FfnFwdIdeal.RealValue.term (X m c) (G m c) (U m c) (V' m c) (Y m c) r k j
    = ∑ q, gate (act (norm (X m c r) (G m c)) fun k => W1 m c k q) (act (norm (X m c r) (G m c)) fun k => W3 m c k q) * W2 m c q k := by
  refine Eq.trans (Finset.sum_congr rfl fun j _ => ?_) (sum_gate_pad _ _ _)
  exact congrArg (· * _) (congrArg₂ gate (arg_U m c r j) (arg_V m c r j))

end Arguments

/-- The value claim. -/
theorem algebraic : algebraic_FfnFwdIdeal_FfnFwdRefIdeal := by
  intro m ρ m' ρ' hpre hag
  refine ⟨fun c => FfnFwdIdeal.RealValue.result5 (X m c) (G m c) (U m c) (V' m c) (Y m c), fun c => FfnFwdIdeal.RealValue.result6 (X m c) (G m c),
    fun c => FfnFwdIdeal.RealValue.result7 (X m c) (G m c) (U m c), fun c => FfnFwdIdeal.RealValue.result8 (X m c) (G m c) (V' m c), ?_, ?_⟩
  · exact (θ_run FfnFwdIdeal.defs _ _).mono
      (fun r h c => ⟨(h c).1.trans (FfnFwdIdeal.RealValue.final_5 (args m c)), (h c).2.1.trans (FfnFwdIdeal.RealValue.final_6 (args m c)),
        (h c).2.2.1.trans (FfnFwdIdeal.RealValue.final_7 (args m c)), (h c).2.2.2.1.trans (FfnFwdIdeal.RealValue.final_8 (args m c)), (h c).2.2.2.2⟩)
      (kernel_run m ρ)
  · refine (θ_run FfnFwdRefIdeal.defs _ _).mono (fun r h c => ⟨(h c).1.trans ?_, (h c).2.1.trans ?_, (h c).2.2.1.trans ?_,
      (h c).2.2.2.1.trans ?_, (h c).2.2.2.2⟩) (FfnFwdRefIdeal.Value.run (F := Ideal) m' ρ')
    · rw [FfnFwdRefIdeal.Read.val_main_v20_eq, (hag c).1, (hag c).2.1, (hag c).2.2.1, (hag c).2.2.2.1, (hag c).2.2.2.2]
      funext i
      obtain ⟨a, b, rfl⟩ : ∃ (a : Fin 8192) (b : Fin 1024), i = ix2 a b := ⟨i 0, i 1, eq_ix2 _⟩
      refine (FfnFwdRefIdeal.RealValue.v20_at a b).trans ?_
      exact congrArg (fun z : EReal => _ + _ * z) (sum_term m c a b).symm
    · rw [FfnFwdRefIdeal.Read.val_main_v21_eq, (hag c).1, (hag c).2.1]
      funext i
      obtain ⟨a, b, rfl⟩ : ∃ (a : Fin 8192) (b : Fin 1024), i = ix2 a b := ⟨i 0, i 1, eq_ix2 _⟩
      exact FfnFwdRefIdeal.RealValue.v21_at a b
    · rw [FfnFwdRefIdeal.Read.val_main_v25_eq, (hag c).1, (hag c).2.1, (hag c).2.2.1]
      funext i
      obtain ⟨a, j, rfl⟩ : ∃ (a : Fin 8192) (j : Fin 3072), i = ix2 a j := ⟨i 0, i 1, eq_ix2 _⟩
      exact (FfnFwdRefIdeal.RealValue.v25_at a j).trans (arg_U m c a j).symm
    · rw [FfnFwdRefIdeal.Read.val_main_v29_eq, (hag c).1, (hag c).2.1, (hag c).2.2.2.1]
      funext i
      obtain ⟨a, j, rfl⟩ : ∃ (a : Fin 8192) (j : Fin 3072), i = ix2 a j := ⟨i 0, i 1, eq_ix2 _⟩
      exact (FfnFwdRefIdeal.RealValue.v29_at a j).trans (arg_V m c a j).symm

end Cert.FfnFwdClaim

end
-- ==== Proof.GradConvInKernel.lean ====
/- What the kernel `GradConvInIdeal` leaves in its result array: the product of the transposed first operand (the normed rows) with the
   second (the cotangent of the first pointwise product). -/
module

public import proofs.«01_k».proof.Proof.GradExt
public import proofs.«01_k».proof.Proof.Gen.GradConvInIdeal.Value
public import Idealize.ShloMosaic.Lib.StableHlo.RunRead

@[expose] public section

noncomputable section

namespace Cert.GradConvInIdeal.RealValue

open Cert.GradConvInIdeal Cert.GradConvInIdeal.Gen Cert.RealValue Cert.Layout
open Idealize.ShloMosaic Idealize.ShloMosaic.TcCoe Idealize.SL.Sem

/-! ## The body's payloads at an index -/

/-- The accumulator is reset to zero; -/
theorem pay1_at (a : Fin 1024) (b : Fin 1024) : k0_pay1 (F := Ideal) (ix2 a b) = 0 := by
  unfold k0_pay1
  pointwise

/-- a point adds the product of its two blocks, contracted along their rows; -/
theorem pay2_at (v3 : Vec Ideal S1024x1024 .f32) (v4 : Vec Ideal S2048x1024 .bf16) (v6 : Vec Ideal S2048x1024 .bf16) (a : Fin 1024) (b : Fin 1024) :
    k0_pay2 v3 v4 v6 (ix2 a b) = v3 (ix2 a b) + ∑ q : Fin 2048, v4 (ix2 q a) * v6 (ix2 q b) := by
  unfold k0_pay2
  pointwise [dot_S2048x1024_S2048x1024_S1024x1024_0_0_1_1_n_n]

/-- and the last point of a block writes the accumulator out. -/
theorem pay3_at (v : Vec Ideal S1024x1024 .f32) (a : Fin 1024) (b : Fin 1024) : k0_pay3 (F := Ideal) v (ix2 a b) = v (ix2 a b) := by
  unfold k0_pay3
  pointwise

/-! ## The cases' values -/

section Cases

variable (c : Dev nD) (i : grid0.Coords) (a1 : Memref sig .tc .vmem S2048x1024 .bf16) (h1 : a1.IsWhole)
  (a2 : Memref sig .tc .vmem S2048x1024 .bf16) (h2 : a2.IsWhole) (a3 : Memref sig .tc .vmem S1024x1024 .bf16) (h3 : a3.IsWhole)
  (a4 : Memref sig .tc .vmem S1024x1024 .f32) (h4 : a4.IsWhole)
  (x0 : Vec Ideal S2048x1024 .bf16) (x1 : Vec Ideal S2048x1024 .bf16) (xs : Vec Ideal S1024x1024 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h4.read_unread,
    View.ld_unit_zero (S := S2048x1024) hz, View.ld_unit_zero (S := S1024x1024) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1024x1024) hz]
  simp only [View.readAt_eq_ld, h1.read_unread, h2.read_unread, h4.read_unread,
    View.ld_unit_zero (S := S2048x1024) hz, View.ld_unit_zero (S := S1024x1024) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1024x1024) hz]
  simp only [View.readAt_eq_ld, h1.read_unread, h2.read_unread, h4.read_unread,
    View.ld_unit_zero (S := S2048x1024) hz, View.ld_unit_zero (S := S1024x1024) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1024x1024) hz, View.readCov_unit_zero (S := S1024x1024) _ hz]
  simp only [View.readAt_eq_ld, h1.read_unread, h2.read_unread, h4.read_unread,
    View.ld_unit_zero (S := S2048x1024) hz, View.ld_unit_zero (S := S1024x1024) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 1024) : Fin 1024 := ⟨p / 2 % 1 * 1024 + a.val, by have := a.isLt; omega⟩
/-- its column, -/
def colOf (p : ℕ) (b : Fin 1024) : Fin 2048 := ⟨p % 2 * 1024 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 2 % 1 :=
  (by decide +kernel : ∀ t : Fin grid0.N, win0_0.index t 0 = t.val % 4 ∧ win0_0.index t 1 = t.val / 4 / 2 % 1)
theorem index_1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem index_2 : ∀ t : Fin cfg0.N, win0_2.index t 0 = t.val / 4 / 2 % 1 ∧ win0_2.index t 1 = t.val / 4 % 2 :=
  (by decide +kernel : ∀ t : Fin grid0.N, win0_2.index t 0 = t.val / 4 / 2 % 1 ∧ win0_2.index t 1 = t.val / 4 % 2)

/-- The first operand's array at the region's entry, -/
abbrev left (r : Fin 8192) (a : Fin 1024) : EReal := V m c main_v0 (ix2 r a)
/-- and the second's. -/
abbrev right (r : Fin 8192) (b : Fin 2048) : EReal := V m c main_v1 (ix2 r b)

theorem iblk_0 (t : Fin cfg0.N) (q : Fin 2048) (a : Fin 1024) :
    (iblk m c 0 t : Vec Ideal S2048x1024 .bf16) (ix2 q a) = left m c (midOf t.val q) (rowOf (t.val / 4) a) := by
  refine congrArg (V m c main_v0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1024 + 1 * a.val = t.val / 4 / 2 % 1 * 1024 + a.val; rw [(index_0 t).2]; omega

theorem iblk_1 (t : Fin cfg0.N) (q : Fin 2048) (b : Fin 1024) :
    (iblk m c 1 t : Vec Ideal S2048x1024 .bf16) (ix2 q b) = right m c (midOf t.val q) (colOf (t.val / 4) b) := by
  refine congrArg (V m c main_v1) (funext fun k => Fin.ext ?_)
  match k with
  | ⟨0, _⟩ => show win0_1.index t 0 * 2048 + 1 * q.val = 2048 * (t.val % 4) + q.val; rw [(index_1 t).1]; omega
  | ⟨1, _⟩ => show win0_1.index t 1 * 1024 + 1 * b.val = t.val / 4 % 2 * 1024 + b.val; rw [(index_1 t).2]; omega

/-! ## The accumulator and the result -/

/-- The term of row `r` in entry `(a, b)` of block `p` of the result. -/
def term (p : ℕ) (a : Fin 1024) (b : Fin 1024) (r : Fin 8192) : EReal :=
  left m c r (rowOf p a) * right m c r (colOf p b)

/-- What a point adds to the accumulator, -/
theorem step_at (t : Fin cfg0.N) (xs : Vec Ideal S1024x1024 .f32) (a : Fin 1024) (b : Fin 1024) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1024) (b : Fin 1024) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S1024x2048.Idx → EReal := fun i => ∑ r : Fin 8192, left m c r (i 0) * right m c r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 8 := N_0
  have hlt := t.isLt
  rw [Value.flushed2]
  funext j
  rw [View.read_apply]
  obtain ⟨a, b, rfl⟩ : ∃ (a : Fin 1024) (b : Fin 1024), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 1024 + 1 * a.val = t.val / 4 / 2 % 1 * 1024 + a.val; rw [(index_2 t).1]; omega
    | ⟨1, _⟩ => show win0_2.index t 1 * 1024 + 1 * b.val = t.val / 4 % 2 * 1024 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S1024x2048.Idx) :
    ∃ t : Fin cfg0.N, (cfg0.win 2).flush t = true ∧ i ∈ ((cfg0.win 2).blk t).view.set := by
  have hN : cfg0.N = 8 := N_0
  have h0 : (i 0).val < 1024 := (i 0).isLt
  have h1 : (i 1).val < 2048 := (i 1).isLt
  let p := (i 0).val / 1024 * 2 + (i 1).val / 1024
  have ht : 4 * p + 3 < cfg0.N := by dsimp only [p]; omega
  refine ⟨⟨4 * p + 3, ht⟩, (flush0_2 _).mpr (by dsimp only; omega), ?_⟩
  show i ∈ ((View.whole main_v2).slice (win0_2.rect ⟨4 * p + 3, ht⟩)).set
  rw [View.set_slice_whole, Rect.mem_set_unit]
  intro k
  match k with
  | ⟨0, _⟩ =>
    show win0_2.index _ 0 * 1024 ≤ (i 0).val ∧ (i 0).val < win0_2.index _ 0 * 1024 + 1024
    rw [(index_2 _).1]; dsimp only [p]; omega
  | ⟨1, _⟩ =>
    show win0_2.index _ 1 * 1024 ≤ (i 1).val ∧ (i 1).val < win0_2.index _ 1 * 1024 + 1024
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 1024) : left m c r a = m ((c : Thread nD τ).loc main_arg0) (ix2 r a) := by
  unfold left V
  after_reads_simp
  rfl

theorem right_at (r : Fin 8192) (b : Fin 2048) : right m c r b = m ((c : Thread nD τ).loc main_arg2) (ix2 r b) := by
  unfold right V
  after_reads_simp
  rfl

end Blocks

end Cert.GradConvInIdeal.RealValue

end
-- ==== Proof.GradConvIn.lean ====
/- The claims about `GradConvIn`: the weight gradient from the normed rows and the cotangent of the first pointwise product is the reference's. -/
module

public import proofs.«01_k».proof.Defs
public import proofs.«01_k».proof.Proof.GradConvInKernel
public import proofs.«01_k».proof.Proof.Gen.GradConvInRefIdeal.Run
public import proofs.«01_k».proof.Proof.Gen.GradConvInRefIdeal.Read

@[expose] public section

noncomputable section

namespace Cert.GradConvInClaim

open Idealize.ShloMosaic Idealize.ShloMosaic.TcCoe Idealize.SL.Sem Cert.Layout

open Cert.GradConvInRefIdeal Cert.GradConvInRefIdeal.Read in
/-- The gradient at an entry: column `b` of the cotangent times column `a` of the operand, summed over the rows. -/
theorem v2_entry (x0 : FVec Ideal S8192x1024 .f32) (x2 : FVec Ideal S8192x2048 .f32) (a : Fin 1024) (b : Fin 2048) :
    val_main_v2 (F := Ideal) x0 x2 (ix2 a b) = ∑ r : Fin 8192, x2 (ix2 r b) * x0 (ix2 r a) := by
  unfold val_main_v2 val_main_v1
  pointwise [dot_S8192x2048_S8192x1024_S2048x1024_0_0_1_1_n_n]

/-- The reference's frame, from its generated run. -/
theorem reference_frame : quiescent_GradConvInRefIdeal := fun m ρ _ =>
  (θ_run GradConvInRefIdeal.defs _ _).mono
    (fun r h => ⟨fun c => (h c).2, sem_eq_zero_of_no_sems (by decide) r.2⟩)
    (GradConvInRefIdeal.Value.run (F := Ideal) m ρ)

/-- The value claim. -/
theorem algebraic : algebraic_GradConvInIdeal_GradConvInRefIdeal := by
  intro m ρ m' ρ' _ hag
  refine ⟨fun c => GradConvInIdeal.RealValue.result m c, ?_, ?_⟩
  · exact (θ_run GradConvInIdeal.defs _ _).mono (fun r h c => ⟨(h c).1.trans (GradConvInIdeal.RealValue.final_2 m c), (h c).2⟩) (GradConvInIdeal.Value.run_blocks m ρ)
  · refine (θ_run GradConvInRefIdeal.defs _ _).mono (fun r h c => ⟨(h c).1.trans ?_, (h c).2⟩) (GradConvInRefIdeal.Value.run (F := Ideal) m' ρ')
    rw [(hag c).1, (hag c).2.2]
    refine (GradConvInRefIdeal.Read.val_main_v3_eq _ _).trans ?_
    funext i
    obtain ⟨u, v, rfl⟩ : ∃ (u : Fin 1024) (v : Fin 2048), i = ix2 u v := ⟨i 0, i 1, eq_ix2 _⟩
    refine (v2_entry _ _ u v).trans ?_
    show _ = ∑ r : Fin 8192, GradConvInIdeal.RealValue.left m c r u * GradConvInIdeal.RealValue.right m c r v
    exact ((Finset.sum_congr rfl fun r _ => congrArg₂ (· * ·) (GradConvInIdeal.RealValue.left_at m c r u) (GradConvInIdeal.RealValue.right_at m c r v)).trans (Finset.sum_congr rfl fun r _ => mul_comm _ _)).symm

end Cert.GradConvInClaim

end
-- ==== Proof.GradConvOutKernel.lean ====
/- What the kernel `GradConvOutIdeal` leaves in its result array: the product of the transposed first operand (the activations) with the
   second (the cotangent of the convolution block). -/
module

public import proofs.«01_k».proof.Proof.GradExt
public import proofs.«01_k».proof.Proof.Gen.GradConvOutIdeal.Value
public import Idealize.ShloMosaic.Lib.StableHlo.RunRead

@[expose] public section

noncomputable section

namespace Cert.GradConvOutIdeal.RealValue

open Cert.GradConvOutIdeal Cert.GradConvOutIdeal.Gen Cert.RealValue Cert.Layout
open Idealize.ShloMosaic Idealize.ShloMosaic.TcCoe Idealize.SL.Sem

/-! ## The body's payloads at an index -/

/-- The accumulator is reset to zero; -/
theorem pay1_at (a : Fin 1024) (b : Fin 1024) : k0_pay1 (F := Ideal) (ix2 a b) = 0 := by
  unfold k0_pay1
  pointwise

/-- a point adds the product of its two blocks, contracted along their rows; -/
theorem pay2_at (v3 : Vec Ideal S1024x1024 .f32) (v4 : Vec Ideal S2048x1024 .bf16) (v6 : Vec Ideal S2048x1024 .f32) (a : Fin 1024) (b : Fin 1024) :
    k0_pay2 v3 v4 v6 (ix2 a b) = v3 (ix2 a b) + ∑ q : Fin 2048, v4 (ix2 q a) * v6 (ix2 q b) := by
  unfold k0_pay2
  pointwise [dot_S2048x1024_S2048x1024_S1024x1024_0_0_1_1_n_n]

/-- and the last point of a block writes the accumulator out. -/
theorem pay3_at (v : Vec Ideal S1024x1024 .f32) (a : Fin 1024) (b : Fin 1024) : k0_pay3 (F := Ideal) v (ix2 a b) = v (ix2 a b) := by
  unfold k0_pay3
  pointwise

/-! ## The cases' values -/

section Cases

variable (c : Dev nD) (i : grid0.Coords) (a1 : Memref sig .tc .vmem S2048x1024 .bf16) (h1 : a1.IsWhole)
  (a2 : Memref sig .tc .vmem S2048x1024 .f32) (h2 : a2.IsWhole) (a3 : Memref sig .tc .vmem S1024x1024 .bf16) (h3 : a3.IsWhole)
  (a4 : Memref sig .tc .vmem S1024x1024 .f32) (h4 : a4.IsWhole)
  (x0 : Vec Ideal S2048x1024 .bf16) (x1 : Vec Ideal S2048x1024 .f32) (xs : Vec Ideal S1024x1024 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h4.read_unread,
    View.ld_unit_zero (S := S2048x1024) hz, View.ld_unit_zero (S := S1024x1024) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1024x1024) hz]
  simp only [View.readAt_eq_ld, h1.read_unread, h2.read_unread, h4.read_unread,
    View.ld_unit_zero (S := S2048x1024) hz, View.ld_unit_zero (S := S1024x1024) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1024x1024) hz]
  simp only [View.readAt_eq_ld, h1.read_unread, h2.read_unread, h4.read_unread,
    View.ld_unit_zero (S := S2048x1024) hz, View.ld_unit_zero (S := S1024x1024) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1024x1024) hz, View.readCov_unit_zero (S := S1024x1024) _ hz]
  simp only [View.readAt_eq_ld, h1.read_unread, h2.read_unread, h4.read_unread,
    View.ld_unit_zero (S := S2048x1024) hz, View.ld_unit_zero (S := S1024x1024) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 1024) : Fin 1024 := ⟨p / 1 % 1 * 1024 + a.val, by have := a.isLt; omega⟩
/-- its column, -/
def colOf (p : ℕ) (b : Fin 1024) : Fin 1024 := ⟨p % 1 * 1024 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 1 % 1 :=
  (by decide +kernel : ∀ t : Fin grid0.N, win0_0.index t 0 = t.val % 4 ∧ win0_0.index t 1 = t.val / 4 / 1 % 1)
theorem index_1 : ∀ t : Fin cfg0.N, win0_1.index t 0 = t.val % 4 ∧ win0_1.index t 1 = t.val / 4 % 1 :=
  (by decide +kernel : ∀ t : Fin grid0.N, win0_1.index t 0 = t.val % 4 ∧ win0_1.index t 1 = t.val / 4 % 1)
theorem index_2 : ∀ t : Fin cfg0.N, win0_2.index t 0 = t.val / 4 / 1 % 1 ∧ win0_2.index t 1 = t.val / 4 % 1 :=
  (by decide +kernel : ∀ t : Fin grid0.N, win0_2.index t 0 = t.val / 4 / 1 % 1 ∧ win0_2.index t 1 = t.val / 4 % 1)

/-- The first operand's array at the region's entry, -/
abbrev left (r : Fin 8192) (a : Fin 1024) : EReal := V m c main_v0 (ix2 r a)
/-- and the second's. -/
abbrev right (r : Fin 8192) (b : Fin 1024) : EReal := V m c main_arg2 (ix2 r b)

theorem iblk_0 (t : Fin cfg0.N) (q : Fin 2048) (a : Fin 1024) :
    (iblk m c 0 t : Vec Ideal S2048x1024 .bf16) (ix2 q a) = left m c (midOf t.val q) (rowOf (t.val / 4) a) := by
  refine congrArg (V m c main_v0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1024 + 1 * a.val = t.val / 4 / 1 % 1 * 1024 + a.val; rw [(index_0 t).2]; omega

theorem iblk_1 (t : Fin cfg0.N) (q : Fin 2048) (b : Fin 1024) :
    (iblk m c 1 t : Vec Ideal S2048x1024 .f32) (ix2 q b) = right m c (midOf t.val q) (colOf (t.val / 4) b) := by
  refine congrArg (V m c main_arg2) (funext fun k => Fin.ext ?_)
  match k with
  | ⟨0, _⟩ => show win0_1.index t 0 * 2048 + 1 * q.val = 2048 * (t.val % 4) + q.val; rw [(index_1 t).1]; omega
  | ⟨1, _⟩ => show win0_1.index t 1 * 1024 + 1 * b.val = t.val / 4 % 1 * 1024 + b.val; rw [(index_1 t).2]; omega

/-! ## The accumulator and the result -/

/-- The term of row `r` in entry `(a, b)` of block `p` of the result. -/
def term (p : ℕ) (a : Fin 1024) (b : Fin 1024) (r : Fin 8192) : EReal :=
  left m c r (rowOf p a) * right m c r (colOf p b)

/-- What a point adds to the accumulator, -/
theorem step_at (t : Fin cfg0.N) (xs : Vec Ideal S1024x1024 .f32) (a : Fin 1024) (b : Fin 1024) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1024) (b : Fin 1024) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S1024x1024.Idx → EReal := fun i => ∑ r : Fin 8192, left m c r (i 0) * right m c r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 4 := N_0
  have hlt := t.isLt
  rw [Value.flushed2]
  funext j
  rw [View.read_apply]
  obtain ⟨a, b, rfl⟩ : ∃ (a : Fin 1024) (b : Fin 1024), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 1024 + 1 * a.val = t.val / 4 / 1 % 1 * 1024 + a.val; rw [(index_2 t).1]; omega
    | ⟨1, _⟩ => show win0_2.index t 1 * 1024 + 1 * b.val = t.val / 4 % 1 * 1024 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S1024x1024.Idx) :
    ∃ t : Fin cfg0.N, (cfg0.win 2).flush t = true ∧ i ∈ ((cfg0.win 2).blk t).view.set := by
  have hN : cfg0.N = 4 := N_0
  have h0 : (i 0).val < 1024 := (i 0).isLt
  have h1 : (i 1).val < 1024 := (i 1).isLt
  let p := (i 0).val / 1024 * 1 + (i 1).val / 1024
  have ht : 4 * p + 3 < cfg0.N := by dsimp only [p]; omega
  refine ⟨⟨4 * p + 3, ht⟩, (flush0_2 _).mpr (by dsimp only; omega), ?_⟩
  show i ∈ ((View.whole main_v1).slice (win0_2.rect ⟨4 * p + 3, ht⟩)).set
  rw [View.set_slice_whole, Rect.mem_set_unit]
  intro k
  match k with
  | ⟨0, _⟩ =>
    show win0_2.index _ 0 * 1024 ≤ (i 0).val ∧ (i 0).val < win0_2.index _ 0 * 1024 + 1024
    rw [(index_2 _).1]; dsimp only [p]; omega
  | ⟨1, _⟩ =>
    show win0_2.index _ 1 * 1024 ≤ (i 1).val ∧ (i 1).val < win0_2.index _ 1 * 1024 + 1024
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 1024) : left m c r a = m ((c : Thread nD τ).loc main_arg0) (ix2 r a) := by
  unfold left V
  after_reads_simp
  rfl

theorem right_at (r : Fin 8192) (b : Fin 1024) : right m c r b = m ((c : Thread nD τ).loc main_arg2) (ix2 r b) := by
  unfold right V
  after_reads_simp

end Blocks

end Cert.GradConvOutIdeal.RealValue

end
-- ==== Proof.GradConvOut.lean ====
/- The claims about `GradConvOut`: the weight gradient from the activations and the cotangent of the convolution block is the reference's. -/
module

public import proofs.«01_k».proof.Defs
public import proofs.«01_k».proof.Proof.GradConvOutKernel
public import proofs.«01_k».proof.Proof.Gen.GradConvOutRefIdeal.Run
public import proofs.«01_k».proof.Proof.Gen.GradConvOutRefIdeal.Read

@[expose] public section

noncomputable section

namespace Cert.GradConvOutClaim

open Idealize.ShloMosaic Idealize.ShloMosaic.TcCoe Idealize.SL.Sem Cert.Layout

open Cert.GradConvOutRefIdeal Cert.GradConvOutRefIdeal.Read in
/-- The gradient at an entry: column `b` of the cotangent times column `a` of the operand, summed over the rows. -/
theorem v2_entry (x0 : FVec Ideal S8192x1024 .f32) (x2 : FVec Ideal S8192x1024 .f32) (a : Fin 1024) (b : Fin 1024) :
    val_main_v2 (F := Ideal) x0 x2 (ix2 a b) = ∑ r : Fin 8192, x2 (ix2 r b) * x0 (ix2 r a) := by
  unfold val_main_v2 val_main_v1
  pointwise [dot_S8192x1024_S8192x1024_S1024x1024_0_0_1_1_n_n]

/-- The reference's frame, from its generated run. -/
theorem reference_frame : quiescent_GradConvOutRefIdeal := fun m ρ _ =>
  (θ_run GradConvOutRefIdeal.defs _ _).mono
    (fun r h => ⟨fun c => (h c).2, sem_eq_zero_of_no_sems (by decide) r.2⟩)
    (GradConvOutRefIdeal.Value.run (F := Ideal) m ρ)

/-- The value claim. -/
theorem algebraic : algebraic_GradConvOutIdeal_GradConvOutRefIdeal := by
  intro m ρ m' ρ' _ hag
  refine ⟨fun c => GradConvOutIdeal.RealValue.result m c, ?_, ?_⟩
  · exact (θ_run GradConvOutIdeal.defs _ _).mono (fun r h c => ⟨(h c).1.trans (GradConvOutIdeal.RealValue.final_2 m c), (h c).2⟩) (GradConvOutIdeal.Value.run_blocks m ρ)
  · refine (θ_run GradConvOutRefIdeal.defs _ _).mono (fun r h c => ⟨(h c).1.trans ?_, (h c).2⟩) (GradConvOutRefIdeal.Value.run (F := Ideal) m' ρ')
    rw [(hag c).1, (hag c).2.2]
    refine (GradConvOutRefIdeal.Read.val_main_v3_eq _ _).trans ?_
    funext i
    obtain ⟨u, v, rfl⟩ : ∃ (u : Fin 1024) (v : Fin 1024), i = ix2 u v := ⟨i 0, i 1, eq_ix2 _⟩
    refine (v2_entry _ _ u v).trans ?_
    show _ = ∑ r : Fin 8192, GradConvOutIdeal.RealValue.left m c r u * GradConvOutIdeal.RealValue.right m c r v
    exact ((Finset.sum_congr rfl fun r _ => congrArg₂ (· * ·) (GradConvOutIdeal.RealValue.left_at m c r u) (GradConvOutIdeal.RealValue.right_at m c r v)).trans (Finset.sum_congr rfl fun r _ => mul_comm _ _)).symm

end Cert.GradConvOutClaim

end
-- ==== Proof.GradAttnOutKernel.lean ====
/- What the kernel `GradAttnOutIdeal` leaves in its result array: the product of the transposed first operand (the attention output) with the
   second (the cotangent of the attention block). -/
module

public import proofs.«01_k».proof.Proof.GradExt
public import proofs.«01_k».proof.Proof.Gen.GradAttnOutIdeal.Value
public import Idealize.ShloMosaic.Lib.StableHlo.RunRead

@[expose] public section

noncomputable section

namespace Cert.GradAttnOutIdeal.RealValue

open Cert.GradAttnOutIdeal Cert.GradAttnOutIdeal.Gen Cert.RealValue Cert.Layout
open Idealize.ShloMosaic Idealize.ShloMosaic.TcCoe Idealize.SL.Sem

/-! ## The body's payloads at an index -/

/-- The accumulator is reset to zero; -/
theorem pay1_at (a : Fin 1024) (b : Fin 1024) : k0_pay1 (F := Ideal) (ix2 a b) = 0 := by
  unfold k0_pay1
  pointwise

/-- a point adds the product of its two blocks, contracted along their rows; -/
theorem pay2_at (v3 : Vec Ideal S1024x1024 .f32) (v4 : Vec Ideal S2048x1024 .f32) (v6 : Vec Ideal S2048x1024 .f32) (a : Fin 1024) (b : Fin 1024) :
    k0_pay2 v3 v4 v6 (ix2 a b) = v3 (ix2 a b) + ∑ q : Fin 2048, v4 (ix2 q a) * v6 (ix2 q b) := by
  unfold k0_pay2
  pointwise [dot_S2048x1024_S2048x1024_S1024x1024_0_0_1_1_n_n]

/-- and the last point of a block writes the accumulator out. -/
theorem pay3_at (v : Vec Ideal S1024x1024 .f32) (a : Fin 1024) (b : Fin 1024) : k0_pay3 (F := Ideal) v (ix2 a b) = v (ix2 a b) := by
  unfold k0_pay3
  pointwise

/-! ## The cases' values -/

section Cases

variable (c : Dev nD) (i : grid0.Coords) (a1 : Memref sig .tc .vmem S2048x1024 .f32) (h1 : a1.IsWhole)
  (a2 : Memref sig .tc .vmem S2048x1024 .f32) (h2 : a2.IsWhole) (a3 : Memref sig .tc .vmem S1024x1024 .bf16) (h3 : a3.IsWhole)
  (a4 : Memref sig .tc .vmem S1024x1024 .f32) (h4 : a4.IsWhole)
  (x0 : Vec Ideal S2048x1024 .f32) (x1 : Vec Ideal S2048x1024 .f32) (xs : Vec Ideal S1024x1024 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h4.read_unread,
    View.ld_unit_zero (S := S2048x1024) hz, View.ld_unit_zero (S := S1024x1024) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1024x1024) hz]
  simp only [View.readAt_eq_ld, h1.read_unread, h2.read_unread, h4.read_unread,
    View.ld_unit_zero (S := S2048x1024) hz, View.ld_unit_zero (S := S1024x1024) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1024x1024) hz]
  simp only [View.readAt_eq_ld, h1.read_unread, h2.read_unread, h4.read_unread,
    View.ld_unit_zero (S := S2048x1024) hz, View.ld_unit_zero (S := S1024x1024) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1024x1024) hz, View.readCov_unit_zero (S := S1024x1024) _ hz]
  simp only [View.readAt_eq_ld, h1.read_unread, h2.read_unread, h4.read_unread,
    View.ld_unit_zero (S := S2048x1024) hz, View.ld_unit_zero (S := S1024x1024) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 1024) : Fin 1024 := ⟨p / 1 % 1 * 1024 + a.val, by have := a.isLt; omega⟩
/-- its column, -/
def colOf (p : ℕ) (b : Fin 1024) : Fin 1024 := ⟨p % 1 * 1024 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 1 % 1 :=
  (by decide +kernel : ∀ t : Fin grid0.N, win0_0.index t 0 = t.val % 4 ∧ win0_0.index t 1 = t.val / 4 / 1 % 1)
theorem index_1 : ∀ t : Fin cfg0.N, win0_1.index t 0 = t.val % 4 ∧ win0_1.index t 1 = t.val / 4 % 1 :=
  (by decide +kernel : ∀ t : Fin grid0.N, win0_1.index t 0 = t.val % 4 ∧ win0_1.index t 1 = t.val / 4 % 1)
theorem index_2 : ∀ t : Fin cfg0.N, win0_2.index t 0 = t.val / 4 / 1 % 1 ∧ win0_2.index t 1 = t.val / 4 % 1 :=
  (by decide +kernel : ∀ t : Fin grid0.N, win0_2.index t 0 = t.val / 4 / 1 % 1 ∧ win0_2.index t 1 = t.val / 4 % 1)

/-- The first operand's array at the region's entry, -/
abbrev left (r : Fin 8192) (a : Fin 1024) : EReal := V m c main_arg0 (ix2 r a)
/-- and the second's. -/
abbrev right (r : Fin 8192) (b : Fin 1024) : EReal := V m c main_arg2 (ix2 r b)

theorem iblk_0 (t : Fin cfg0.N) (q : Fin 2048) (a : Fin 1024) :
    (iblk m c 0 t : Vec Ideal S2048x1024 .f32) (ix2 q a) = left m c (midOf t.val q) (rowOf (t.val / 4) a) := by
  refine congrArg (V m c main_arg0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1024 + 1 * a.val = t.val / 4 / 1 % 1 * 1024 + a.val; rw [(index_0 t).2]; omega

theorem iblk_1 (t : Fin cfg0.N) (q : Fin 2048) (b : Fin 1024) :
    (iblk m c 1 t : Vec Ideal S2048x1024 .f32) (ix2 q b) = right m c (midOf t.val q) (colOf (t.val / 4) b) := by
  refine congrArg (V m c main_arg2) (funext fun k => Fin.ext ?_)
  match k with
  | ⟨0, _⟩ => show win0_1.index t 0 * 2048 + 1 * q.val = 2048 * (t.val % 4) + q.val; rw [(index_1 t).1]; omega
  | ⟨1, _⟩ => show win0_1.index t 1 * 1024 + 1 * b.val = t.val / 4 % 1 * 1024 + b.val; rw [(index_1 t).2]; omega

/-! ## The accumulator and the result -/

/-- The term of row `r` in entry `(a, b)` of block `p` of the result. -/
def term (p : ℕ) (a : Fin 1024) (b : Fin 1024) (r : Fin 8192) : EReal :=
  left m c r (rowOf p a) * right m c r (colOf p b)

/-- What a point adds to the accumulator, -/
theorem step_at (t : Fin cfg0.N) (xs : Vec Ideal S1024x1024 .f32) (a : Fin 1024) (b : Fin 1024) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1024) (b : Fin 1024) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S1024x1024.Idx → EReal := fun i => ∑ r : Fin 8192, left m c r (i 0) * right m c r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 4 := N_0
  have hlt := t.isLt
  rw [Value.flushed2]
  funext j
  rw [View.read_apply]
  obtain ⟨a, b, rfl⟩ : ∃ (a : Fin 1024) (b : Fin 1024), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 1024 + 1 * a.val = t.val / 4 / 1 % 1 * 1024 + a.val; rw [(index_2 t).1]; omega
    | ⟨1, _⟩ => show win0_2.index t 1 * 1024 + 1 * b.val = t.val / 4 % 1 * 1024 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S1024x1024.Idx) :
    ∃ t : Fin cfg0.N, (cfg0.win 2).flush t = true ∧ i ∈ ((cfg0.win 2).blk t).view.set := by
  have hN : cfg0.N = 4 := N_0
  have h0 : (i 0).val < 1024 := (i 0).isLt
  have h1 : (i 1).val < 1024 := (i 1).isLt
  let p := (i 0).val / 1024 * 1 + (i 1).val / 1024
  have ht : 4 * p + 3 < cfg0.N := by dsimp only [p]; omega
  refine ⟨⟨4 * p + 3, ht⟩, (flush0_2 _).mpr (by dsimp only; omega), ?_⟩
  show i ∈ ((View.whole main_v0).slice (win0_2.rect ⟨4 * p + 3, ht⟩)).set
  rw [View.set_slice_whole, Rect.mem_set_unit]
  intro k
  match k with
  | ⟨0, _⟩ =>
    show win0_2.index _ 0 * 1024 ≤ (i 0).val ∧ (i 0).val < win0_2.index _ 0 * 1024 + 1024
    rw [(index_2 _).1]; dsimp only [p]; omega
  | ⟨1, _⟩ =>
    show win0_2.index _ 1 * 1024 ≤ (i 1).val ∧ (i 1).val < win0_2.index _ 1 * 1024 + 1024
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 1024) : left m c r a = m ((c : Thread nD τ).loc main_arg0) (ix2 r a) := by
  unfold left V
  after_reads_simp

theorem right_at (r : Fin 8192) (b : Fin 1024) : right m c r b = m ((c : Thread nD τ).loc main_arg2) (ix2 r b) := by
  unfold right V
  after_reads_simp

end Blocks

end Cert.GradAttnOutIdeal.RealValue

end
-- ==== Proof.GradAttnOut.lean ====
/- The claims about `GradAttnOut`: the weight gradient from the attention output and the cotangent of the attention block is the reference's. -/
module

public import proofs.«01_k».proof.Defs
public import proofs.«01_k».proof.Proof.GradAttnOutKernel
public import proofs.«01_k».proof.Proof.Gen.GradAttnOutRefIdeal.Run
public import proofs.«01_k».proof.Proof.Gen.GradAttnOutRefIdeal.Read

@[expose] public section

noncomputable section

namespace Cert.GradAttnOutClaim

open Idealize.ShloMosaic Idealize.ShloMosaic.TcCoe Idealize.SL.Sem Cert.Layout

open Cert.GradAttnOutRefIdeal Cert.GradAttnOutRefIdeal.Read in
/-- The gradient at an entry: column `b` of the cotangent times column `a` of the operand, summed over the rows. -/
theorem v2_entry (x0 : FVec Ideal S8192x1024 .f32) (x2 : FVec Ideal S8192x1024 .f32) (a : Fin 1024) (b : Fin 1024) :
    val_main_v2 (F := Ideal) x0 x2 (ix2 a b) = ∑ r : Fin 8192, x2 (ix2 r b) * x0 (ix2 r a) := by
  unfold val_main_v2 val_main_v1
  pointwise [dot_S8192x1024_S8192x1024_S1024x1024_0_0_1_1_n_n]

/-- The reference's frame, from its generated run. -/
theorem reference_frame : quiescent_GradAttnOutRefIdeal := fun m ρ _ =>
  (θ_run GradAttnOutRefIdeal.defs _ _).mono
    (fun r h => ⟨fun c => (h c).2, sem_eq_zero_of_no_sems (by decide) r.2⟩)
    (GradAttnOutRefIdeal.Value.run (F := Ideal) m ρ)

/-- The value claim. -/
theorem algebraic : algebraic_GradAttnOutIdeal_GradAttnOutRefIdeal := by
  intro m ρ m' ρ' _ hag
  refine ⟨fun c => GradAttnOutIdeal.RealValue.result m c, ?_, ?_⟩
  · exact (θ_run GradAttnOutIdeal.defs _ _).mono (fun r h c => ⟨(h c).1.trans (GradAttnOutIdeal.RealValue.final_2 m c), (h c).2⟩) (GradAttnOutIdeal.Value.run_blocks m ρ)
  · refine (θ_run GradAttnOutRefIdeal.defs _ _).mono (fun r h c => ⟨(h c).1.trans ?_, (h c).2⟩) (GradAttnOutRefIdeal.Value.run (F := Ideal) m' ρ')
    rw [(hag c).1, (hag c).2.2]
    refine (GradAttnOutRefIdeal.Read.val_main_v3_eq _ _).trans ?_
    funext i
    obtain ⟨u, v, rfl⟩ : ∃ (u : Fin 1024) (v : Fin 1024), i = ix2 u v := ⟨i 0, i 1, eq_ix2 _⟩
    refine (v2_entry _ _ u v).trans ?_
    show _ = ∑ r : Fin 8192, GradAttnOutIdeal.RealValue.left m c r u * GradAttnOutIdeal.RealValue.right m c r v
    exact ((Finset.sum_congr rfl fun r _ => congrArg₂ (· * ·) (GradAttnOutIdeal.RealValue.left_at m c r u) (GradAttnOutIdeal.RealValue.right_at m c r v)).trans (Finset.sum_congr rfl fun r _ => mul_comm _ _)).symm

end Cert.GradAttnOutClaim

end
-- ==== Proof.Tails.lean ====
/- The zero tails that the latent attention's gradients are padded with: 832 columns to 896, and 192 of each head to 256. -/
module

public import proofs.«01_k».proof.Proof.Layout

@[expose] public section

noncomputable section

namespace Cert.Layout

open Idealize.ShloMosaic Idealize.ShloMosaic.TcCoe

/-- Column `j` of 832 columns with a zero tail. -/
def tailE (f : Fin 832 → EReal) (j : Fin 896) : EReal := if h : j.val < 832 then f ⟨j.val, h⟩ else 0

/-- Column `j` of eight heads of 192 columns, each with a zero tail of 64. -/
def headE (f : Fin 8 → Fin 192 → EReal) (j : Fin 2048) : EReal :=
  if h : j.val % 256 < 192 then f ⟨j.val / 256, by have := j.isLt; omega⟩ ⟨j.val % 256, h⟩ else 0

/-- Column `j` of eight heads of 256 columns. -/
def joinE (f : Fin 8 → Fin 256 → EReal) (j : Fin 2048) : EReal :=
  f ⟨j.val / 256, by have := j.isLt; omega⟩ ⟨j.val % 256, by omega⟩

/-- Padding the columns is the zero tail: an array of 8192 rows, -/
theorem tail_8192 (x : FVec Ideal ⟨2, ![8192, 832]⟩ .f32) (z : FVec Ideal ⟨0, ![]⟩ .f32) (hz : ∀ i, z i = 0) (h2) (h3)
    (r : Fin 8192) (j : Fin 896) :
    pad ⟨2, ![8192, 896]⟩ ![0, 0] ![0, 64] ![0, 0] x z h2 h3 (ix2 r j) = tailE (fun q => x (ix2 r q)) j := by
  pointwise
  unfold tailE
  by_cases h : j.val < 832
  · rw [dif_pos h, dif_pos h]
  · rw [dif_neg h, dif_neg h, hz]

/-- and one of 1024. -/
theorem tail_1024 (x : FVec Ideal ⟨2, ![1024, 832]⟩ .f32) (z : FVec Ideal ⟨0, ![]⟩ .f32) (hz : ∀ i, z i = 0) (h2) (h3)
    (r : Fin 1024) (j : Fin 896) :
    pad ⟨2, ![1024, 896]⟩ ![0, 0] ![0, 64] ![0, 0] x z h2 h3 (ix2 r j) = tailE (fun q => x (ix2 r q)) j := by
  pointwise
  unfold tailE
  by_cases h : j.val < 832
  · rw [dif_pos h, dif_pos h]
  · rw [dif_neg h, dif_neg h, hz]

/-- Padding each head and reshaping is the heads' zero tails: an array of 8192 rows, -/
theorem heads_8192 (x : FVec Ideal ⟨3, ![8192, 8, 192]⟩ .f32) (z : FVec Ideal ⟨0, ![]⟩ .f32) (hz : ∀ i, z i = 0) (h2) (h3) (h4)
    (r : Fin 8192) (j : Fin 2048) :
    shapeCast ⟨2, ![8192, 2048]⟩ (pad ⟨3, ![8192, 8, 256]⟩ ![0, 0, 0] ![0, 0, 64] ![0, 0, 0] x z h2 h3) h4 (ix2 r j)
      = headE (fun a d => x (ix3 r a d)) j := by
  pointwise
  have := j.isLt
  unfold headE
  by_cases h : j.val % 256 < 192
  · rw [dif_pos ⟨by omega, h⟩, dif_pos h]
  · rw [dif_neg (fun e => h e.2), dif_neg h, hz]

/-- and one of 512. -/
theorem heads_512 (x : FVec Ideal ⟨3, ![512, 8, 192]⟩ .f32) (z : FVec Ideal ⟨0, ![]⟩ .f32) (hz : ∀ i, z i = 0) (h2) (h3) (h4)
    (r : Fin 512) (j : Fin 2048) :
    shapeCast ⟨2, ![512, 2048]⟩ (pad ⟨3, ![512, 8, 256]⟩ ![0, 0, 0] ![0, 0, 64] ![0, 0, 0] x z h2 h3) h4 (ix2 r j)
      = headE (fun a d => x (ix3 r a d)) j := by
  pointwise
  have := j.isLt
  unfold headE
  by_cases h : j.val % 256 < 192
  · rw [dif_pos ⟨by omega, h⟩, dif_pos h]
  · rw [dif_neg (fun e => h e.2), dif_neg h, hz]

/-- Reshaping eight heads to one row joins them: an array of 8192 rows, -/
theorem join_8192 (x : FVec Ideal ⟨3, ![8192, 8, 256]⟩ .f32) (h) (r : Fin 8192) (j : Fin 2048) :
    shapeCast ⟨2, ![8192, 2048]⟩ x h (ix2 r j) = joinE (fun a d => x (ix3 r a d)) j := by
  pointwise
  rfl

/-- and one of 256. -/
theorem join_256 (x : FVec Ideal ⟨3, ![256, 8, 256]⟩ .f32) (h) (r : Fin 256) (j : Fin 2048) :
    shapeCast ⟨2, ![256, 2048]⟩ x h (ix2 r j) = joinE (fun a d => x (ix3 r a d)) j := by
  pointwise
  rfl

/-- A sum of products with tailed columns is the tailed column of the sums, -/
theorem sum_mul_tailE {n : ℕ} (x : Fin n → EReal) (f : Fin n → Fin 832 → EReal) (j : Fin 896) :
    ∑ r, x r * tailE (f r) j = tailE (fun q => ∑ r, f r q * x r) j := by
  unfold tailE
  split
  · exact Finset.sum_congr rfl fun r _ => mul_comm _ _
  · simp

/-- for the heads as well, -/
theorem sum_mul_headE {n : ℕ} (x : Fin n → EReal) (f : Fin n → Fin 8 → Fin 192 → EReal) (j : Fin 2048) :
    ∑ r, x r * headE (f r) j = headE (fun a d => ∑ r, f r a d * x r) j := by
  unfold headE
  split
  · exact Finset.sum_congr rfl fun r _ => mul_comm _ _
  · simp

/-- and for the joined ones. -/
theorem sum_mul_joinE {n : ℕ} (x : Fin n → EReal) (f : Fin n → Fin 8 → Fin 256 → EReal) (j : Fin 2048) :
    ∑ r, x r * joinE (f r) j = joinE (fun a d => ∑ r, f r a d * x r) j :=
  Finset.sum_congr rfl fun r _ => mul_comm _ _

end Cert.Layout

end
-- ==== Proof.GradDownKernel.lean ====
/- What the kernel `GradDownIdeal` leaves in its result array: the product of the transposed first operand (the normed rows) with the
   second (the cotangent of the down projection, with its zero tail). -/
module

public import proofs.«01_k».proof.Proof.GradExt
public import proofs.«01_k».proof.Proof.Tails
public import proofs.«01_k».proof.Proof.Gen.GradDownIdeal.Value
public import Idealize.ShloMosaic.Lib.StableHlo.RunRead

@[expose] public section

noncomputable section

namespace Cert.GradDownIdeal.RealValue

open Cert.GradDownIdeal Cert.GradDownIdeal.Gen Cert.RealValue Cert.Layout
open Idealize.ShloMosaic Idealize.ShloMosaic.TcCoe Idealize.SL.Sem

/-! ## The body's payloads at an index -/

/-- The accumulator is reset to zero; -/
theorem pay1_at (a : Fin 1024) (b : Fin 896) : k0_pay1 (F := Ideal) (ix2 a b) = 0 := by
  unfold k0_pay1
  pointwise

/-- a point adds the product of its two blocks, contracted along their rows; -/
theorem pay2_at (v3 : Vec Ideal S1024x896 .f32) (v4 : Vec Ideal S2048x1024 .bf16) (v6 : Vec Ideal S2048x896 .bf16) (a : Fin 1024) (b : Fin 896) :
    k0_pay2 v3 v4 v6 (ix2 a b) = v3 (ix2 a b) + ∑ q : Fin 2048, v4 (ix2 q a) * v6 (ix2 q b) := by
  unfold k0_pay2
  pointwise [dot_S2048x1024_S2048x896_S1024x896_0_0_1_1_n_n]

/-- and the last point of a block writes the accumulator out. -/
theorem pay3_at (v : Vec Ideal S1024x896 .f32) (a : Fin 1024) (b : Fin 896) : k0_pay3 (F := Ideal) v (ix2 a b) = v (ix2 a b) := by
  unfold k0_pay3
  pointwise

/-! ## The cases' values -/

section Cases

variable (c : Dev nD) (i : grid0.Coords) (a1 : Memref sig .tc .vmem S2048x1024 .bf16) (h1 : a1.IsWhole)
  (a2 : Memref sig .tc .vmem S2048x896 .bf16) (h2 : a2.IsWhole) (a3 : Memref sig .tc .vmem S1024x896 .bf16) (h3 : a3.IsWhole)
  (a4 : Memref sig .tc .vmem S1024x896 .f32) (h4 : a4.IsWhole)
  (x0 : Vec Ideal S2048x1024 .bf16) (x1 : Vec Ideal S2048x896 .bf16) (xs : Vec Ideal S1024x896 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x896) hz, View.readCov_unit_zero (S := S1024x896) _ hz]
  simp only [View.readAt_eq_ld, h1.read_unread, h2.read_unread, h4.read_unread,
    View.ld_unit_zero (S := S2048x1024) hz, View.ld_unit_zero (S := S2048x896) hz, View.ld_unit_zero (S := S1024x896) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S1024x896) hz]
  simp only [View.readAt_eq_ld, h1.read_unread, h2.read_unread, h4.read_unread,
    View.ld_unit_zero (S := S2048x1024) hz, View.ld_unit_zero (S := S2048x896) hz, View.ld_unit_zero (S := S1024x896) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S1024x896) hz]
  simp only [View.readAt_eq_ld, h1.read_unread, h2.read_unread, h4.read_unread,
    View.ld_unit_zero (S := S2048x1024) hz, View.ld_unit_zero (S := S2048x896) hz, View.ld_unit_zero (S := S1024x896) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S1024x896) hz, View.readCov_unit_zero (S := S1024x896) _ hz]
  simp only [View.readAt_eq_ld, h1.read_unread, h2.read_unread, h4.read_unread,
    View.ld_unit_zero (S := S2048x1024) hz, View.ld_unit_zero (S := S2048x896) hz, View.ld_unit_zero (S := S1024x896) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 1024) : Fin 1024 := ⟨p / 1 % 1 * 1024 + a.val, by have := a.isLt; omega⟩
/-- its column, -/
def colOf (p : ℕ) (b : Fin 896) : Fin 896 := ⟨p % 1 * 896 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 1 % 1 :=
  (by decide +kernel : ∀ t : Fin grid0.N, win0_0.index t 0 = t.val % 4 ∧ win0_0.index t 1 = t.val / 4 / 1 % 1)
theorem index_1 : ∀ t : Fin cfg0.N, win0_1.index t 0 = t.val % 4 ∧ win0_1.index t 1 = t.val / 4 % 1 :=
  (by decide +kernel : ∀ t : Fin grid0.N, win0_1.index t 0 = t.val % 4 ∧ win0_1.index t 1 = t.val / 4 % 1)
theorem index_2 : ∀ t : Fin cfg0.N, win0_2.index t 0 = t.val / 4 / 1 % 1 ∧ win0_2.index t 1 = t.val / 4 % 1 :=
  (by decide +kernel : ∀ t : Fin grid0.N, win0_2.index t 0 = t.val / 4 / 1 % 1 ∧ win0_2.index t 1 = t.val / 4 % 1)

/-- The first operand's array at the region's entry, -/
abbrev left (r : Fin 8192) (a : Fin 1024) : EReal := V m c main_v0 (ix2 r a)
/-- and the second's. -/
abbrev right (r : Fin 8192) (b : Fin 896) : EReal := V m c main_v2 (ix2 r b)

theorem iblk_0 (t : Fin cfg0.N) (q : Fin 2048) (a : Fin 1024) :
    (iblk m c 0 t : Vec Ideal S2048x1024 .bf16) (ix2 q a) = left m c (midOf t.val q) (rowOf (t.val / 4) a) := by
  refine congrArg (V m c main_v0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 1024 + 1 * a.val = t.val / 4 / 1 % 1 * 1024 + a.val; rw [(index_0 t).2]; omega

theorem iblk_1 (t : Fin cfg0.N) (q : Fin 2048) (b : Fin 896) :
    (iblk m c 1 t : Vec Ideal S2048x896 .bf16) (ix2 q b) = right m c (midOf t.val q) (colOf (t.val / 4) b) := by
  refine congrArg (V m c main_v2) (funext fun k => Fin.ext ?_)
  match k with
  | ⟨0, _⟩ => show win0_1.index t 0 * 2048 + 1 * q.val = 2048 * (t.val % 4) + q.val; rw [(index_1 t).1]; omega
  | ⟨1, _⟩ => show win0_1.index t 1 * 896 + 1 * b.val = t.val / 4 % 1 * 896 + b.val; rw [(index_1 t).2]; omega

/-! ## The accumulator and the result -/

/-- The term of row `r` in entry `(a, b)` of block `p` of the result. -/
def term (p : ℕ) (a : Fin 1024) (b : Fin 896) (r : Fin 8192) : EReal :=
  left m c r (rowOf p a) * right m c r (colOf p b)

/-- What a point adds to the accumulator, -/
theorem step_at (t : Fin cfg0.N) (xs : Vec Ideal S1024x896 .f32) (a : Fin 1024) (b : Fin 896) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 1024) (b : Fin 896) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S1024x896.Idx → EReal := fun i => ∑ r : Fin 8192, left m c r (i 0) * right m c r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 4 := N_0
  have hlt := t.isLt
  rw [Value.flushed2]
  funext j
  rw [View.read_apply]
  obtain ⟨a, b, rfl⟩ : ∃ (a : Fin 1024) (b : Fin 896), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 1024 + 1 * a.val = t.val / 4 / 1 % 1 * 1024 + a.val; rw [(index_2 t).1]; omega
    | ⟨1, _⟩ => show win0_2.index t 1 * 896 + 1 * b.val = t.val / 4 % 1 * 896 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S1024x896.Idx) :
    ∃ t : Fin cfg0.N, (cfg0.win 2).flush t = true ∧ i ∈ ((cfg0.win 2).blk t).view.set := by
  have hN : cfg0.N = 4 := N_0
  have h0 : (i 0).val < 1024 := (i 0).isLt
  have h1 : (i 1).val < 896 := (i 1).isLt
  let p := (i 0).val / 1024 * 1 + (i 1).val / 896
  have ht : 4 * p + 3 < cfg0.N := by dsimp only [p]; omega
  refine ⟨⟨4 * p + 3, ht⟩, (flush0_2 _).mpr (by dsimp only; omega), ?_⟩
  show i ∈ ((View.whole main_v3).slice (win0_2.rect ⟨4 * p + 3, ht⟩)).set
  rw [View.set_slice_whole, Rect.mem_set_unit]
  intro k
  match k with
  | ⟨0, _⟩ =>
    show win0_2.index _ 0 * 1024 ≤ (i 0).val ∧ (i 0).val < win0_2.index _ 0 * 1024 + 1024
    rw [(index_2 _).1]; dsimp only [p]; omega
  | ⟨1, _⟩ =>
    show win0_2.index _ 1 * 896 ≤ (i 1).val ∧ (i 1).val < win0_2.index _ 1 * 896 + 896
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 1024) : left m c r a = m ((c : Thread nD τ).loc main_arg0) (ix2 r a) := by
  unfold left V
  after_reads_simp
  rfl

theorem right_at (r : Fin 8192) (b : Fin 896) : right m c r b = tailE (fun q => m ((c : Thread nD τ).loc main_arg2) (ix2 r q)) b := by
  refine Eq.trans ?_ (tail_8192 (m ((c : Thread nD τ).loc main_arg2)) (sitofp (F := Ideal) .f32 (constantI S_ 32 0#32))
    (fun _ => sitofp_zero) pads_S8192x832_S8192x896_000_0640 h_S_ r b)
  unfold right V
  after_reads_simp
  rfl

end Blocks

end Cert.GradDownIdeal.RealValue

end
-- ==== Proof.GradDown.lean ====
/- The claims about `GradDown`: the weight gradient from the normed rows and the cotangent of the down projection, with its zero tail is the reference's. -/
module

public import proofs.«01_k».proof.Defs
public import proofs.«01_k».proof.Proof.GradDownKernel
public import proofs.«01_k».proof.Proof.Gen.GradDownRefIdeal.Run
public import proofs.«01_k».proof.Proof.Gen.GradDownRefIdeal.Read

@[expose] public section

noncomputable section

namespace Cert.GradDownClaim

open Idealize.ShloMosaic Idealize.ShloMosaic.TcCoe Idealize.SL.Sem Cert.Layout

open Cert.GradDownRefIdeal Cert.GradDownRefIdeal.Read in
/-- The gradient at an entry: column `b` of the cotangent times column `a` of the operand, summed over the rows. -/
theorem v2_entry (x0 : FVec Ideal S8192x1024 .f32) (x2 : FVec Ideal S8192x832 .f32) (a : Fin 1024) (b : Fin 832) :
    val_main_v2 (F := Ideal) x0 x2 (ix2 a b) = ∑ r : Fin 8192, x2 (ix2 r b) * x0 (ix2 r a) := by
  unfold val_main_v2 val_main_v1
  pointwise [dot_S8192x832_S8192x1024_S832x1024_0_0_1_1_n_n]

open Cert.GradDownRefIdeal Cert.GradDownRefIdeal.Read in
/-- The same with its zero tail, which is the reference's result. -/
theorem v4_entry (x0 : FVec Ideal S8192x1024 .f32) (x2 : FVec Ideal S8192x832 .f32) (a : Fin 1024) (j : Fin 896) :
    val_main_v4 (F := Ideal) x0 x2 (ix2 a j) = tailE (fun b => ∑ r : Fin 8192, x2 (ix2 r b) * x0 (ix2 r a)) j := by
  show val_main_v3 (F := Ideal) x0 x2 (ix2 a j) = _
  unfold val_main_v3
  refine (tail_1024 (val_main_v2 (F := Ideal) x0 x2) _ (fun _ => sitofp_zero) _ _ a j).trans ?_
  exact congrArg (fun f : Fin 832 → EReal => tailE f j) (funext fun b => v2_entry x0 x2 a b)

/-- The reference's frame, from its generated run. -/
theorem reference_frame : quiescent_GradDownRefIdeal := fun m ρ _ =>
  (θ_run GradDownRefIdeal.defs _ _).mono
    (fun r h => ⟨fun c => (h c).2, sem_eq_zero_of_no_sems (by decide) r.2⟩)
    (GradDownRefIdeal.Value.run (F := Ideal) m ρ)

/-- The value claim. -/
theorem algebraic : algebraic_GradDownIdeal_GradDownRefIdeal := by
  intro m ρ m' ρ' _ hag
  refine ⟨fun c => GradDownIdeal.RealValue.result m c, ?_, ?_⟩
  · exact (θ_run GradDownIdeal.defs _ _).mono (fun r h c => ⟨(h c).1.trans (GradDownIdeal.RealValue.final_2 m c), (h c).2⟩) (GradDownIdeal.Value.run_blocks m ρ)
  · refine (θ_run GradDownRefIdeal.defs _ _).mono (fun r h c => ⟨(h c).1.trans ?_, (h c).2⟩) (GradDownRefIdeal.Value.run (F := Ideal) m' ρ')
    rw [(hag c).1, (hag c).2.2]
    refine (GradDownRefIdeal.Read.val_main_v4_eq _ _).trans ?_
    funext i
    obtain ⟨u, v, rfl⟩ : ∃ (u : Fin 1024) (v : Fin 896), i = ix2 u v := ⟨i 0, i 1, eq_ix2 _⟩
    refine (v4_entry _ _ u v).trans ?_
    show _ = ∑ r : Fin 8192, GradDownIdeal.RealValue.left m c r u * GradDownIdeal.RealValue.right m c r v
    exact ((Finset.sum_congr rfl fun r _ => congrArg₂ (· * ·) (GradDownIdeal.RealValue.left_at m c r u) (GradDownIdeal.RealValue.right_at m c r v)).trans (sum_mul_tailE _ _ v)).symm

end Cert.GradDownClaim

end
-- ==== Proof.GradUpQKernel.lean ====
/- What the kernel `GradUpQIdeal` leaves in its result array: the product of the transposed first operand (the query latents) with the
   second (the cotangent of the queries, each head with its zero tail). -/
module

public import proofs.«01_k».proof.Proof.GradExt
public import proofs.«01_k».proof.Proof.Tails
public import proofs.«01_k».proof.Proof.Gen.GradUpQIdeal.Value
public import Idealize.ShloMosaic.Lib.StableHlo.RunRead

@[expose] public section

noncomputable section

namespace Cert.GradUpQIdeal.RealValue

open Cert.GradUpQIdeal Cert.GradUpQIdeal.Gen Cert.RealValue Cert.Layout
open Idealize.ShloMosaic Idealize.ShloMosaic.TcCoe Idealize.SL.Sem

/-! ## The body's payloads at an index -/

/-- The accumulator is reset to zero; -/
theorem pay1_at (a : Fin 512) (b : Fin 1024) : k0_pay1 (F := Ideal) (ix2 a b) = 0 := by
  unfold k0_pay1
  pointwise

/-- a point adds the product of its two blocks, contracted along their rows; -/
theorem pay2_at (v3 : Vec Ideal S512x1024 .f32) (v4 : Vec Ideal S2048x512 .bf16) (v6 : Vec Ideal S2048x1024 .bf16) (a : Fin 512) (b : Fin 1024) :
    k0_pay2 v3 v4 v6 (ix2 a b) = v3 (ix2 a b) + ∑ q : Fin 2048, v4 (ix2 q a) * v6 (ix2 q b) := by
  unfold k0_pay2
  pointwise [dot_S2048x512_S2048x1024_S512x1024_0_0_1_1_n_n]

/-- and the last point of a block writes the accumulator out. -/
theorem pay3_at (v : Vec Ideal S512x1024 .f32) (a : Fin 512) (b : Fin 1024) : k0_pay3 (F := Ideal) v (ix2 a b) = v (ix2 a b) := by
  unfold k0_pay3
  pointwise

/-! ## The cases' values -/

section Cases

variable (c : Dev nD) (i : grid0.Coords) (a1 : Memref sig .tc .vmem S2048x512 .bf16) (h1 : a1.IsWhole)
  (a2 : Memref sig .tc .vmem S2048x1024 .bf16) (h2 : a2.IsWhole) (a3 : Memref sig .tc .vmem S512x1024 .bf16) (h3 : a3.IsWhole)
  (a4 : Memref sig .tc .vmem S512x1024 .f32) (h4 : a4.IsWhole)
  (x0 : Vec Ideal S2048x512 .bf16) (x1 : Vec Ideal S2048x1024 .bf16) (xs : Vec Ideal S512x1024 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S512x1024) hz, View.readCov_unit_zero (S := S512x1024) _ hz]
  simp only [View.readAt_eq_ld, h1.read_unread, h2.read_unread, h4.read_unread,
    View.ld_unit_zero (S := S2048x512) hz, View.ld_unit_zero (S := S2048x1024) hz, View.ld_unit_zero (S := S512x1024) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S512x1024) hz]
  simp only [View.readAt_eq_ld, h1.read_unread, h2.read_unread, h4.read_unread,
    View.ld_unit_zero (S := S2048x512) hz, View.ld_unit_zero (S := S2048x1024) hz, View.ld_unit_zero (S := S512x1024) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S512x1024) hz]
  simp only [View.readAt_eq_ld, h1.read_unread, h2.read_unread, h4.read_unread,
    View.ld_unit_zero (S := S2048x512) hz, View.ld_unit_zero (S := S2048x1024) hz, View.ld_unit_zero (S := S512x1024) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S512x1024) hz, View.readCov_unit_zero (S := S512x1024) _ hz]
  simp only [View.readAt_eq_ld, h1.read_unread, h2.read_unread, h4.read_unread,
    View.ld_unit_zero (S := S2048x512) hz, View.ld_unit_zero (S := S2048x1024) hz, View.ld_unit_zero (S := S512x1024) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 512) : Fin 512 := ⟨p / 2 % 1 * 512 + a.val, by have := a.isLt; omega⟩
/-- its column, -/
def colOf (p : ℕ) (b : Fin 1024) : Fin 2048 := ⟨p % 2 * 1024 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 2 % 1 :=
  (by decide +kernel : ∀ t : Fin grid0.N, win0_0.index t 0 = t.val % 4 ∧ win0_0.index t 1 = t.val / 4 / 2 % 1)
theorem index_1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem index_2 : ∀ t : Fin cfg0.N, win0_2.index t 0 = t.val / 4 / 2 % 1 ∧ win0_2.index t 1 = t.val / 4 % 2 :=
  (by decide +kernel : ∀ t : Fin grid0.N, win0_2.index t 0 = t.val / 4 / 2 % 1 ∧ win0_2.index t 1 = t.val / 4 % 2)

/-- The first operand's array at the region's entry, -/
abbrev left (r : Fin 8192) (a : Fin 512) : EReal := V m c main_v2 (ix2 r a)
/-- and the second's. -/
abbrev right (r : Fin 8192) (b : Fin 2048) : EReal := V m c main_v3 (ix2 r b)

theorem iblk_0 (t : Fin cfg0.N) (q : Fin 2048) (a : Fin 512) :
    (iblk m c 0 t : Vec Ideal S2048x512 .bf16) (ix2 q a) = left m c (midOf t.val q) (rowOf (t.val / 4) a) := by
  refine congrArg (V m c main_v2) (funext fun k => Fin.ext ?_)
  match k with
  | ⟨0, _⟩ => show win0_0.index t 0 * 2048 + 1 * q.val = 2048 * (t.val % 4) + q.val; rw [(index_0 t).1]; omega
  | ⟨1, _⟩ => show win0_0.index t 1 * 512 + 1 * a.val = t.val / 4 / 2 % 1 * 512 + a.val; rw [(index_0 t).2]; omega

theorem iblk_1 (t : Fin cfg0.N) (q : Fin 2048) (b : Fin 1024) :
    (iblk m c 1 t : Vec Ideal S2048x1024 .bf16) (ix2 q b) = right m c (midOf t.val q) (colOf (t.val / 4) b) := by
  refine congrArg (V m c main_v3) (funext fun k => Fin.ext ?_)
  match k with
  | ⟨0, _⟩ => show win0_1.index t 0 * 2048 + 1 * q.val = 2048 * (t.val % 4) + q.val; rw [(index_1 t).1]; omega
  | ⟨1, _⟩ => show win0_1.index t 1 * 1024 + 1 * b.val = t.val / 4 % 2 * 1024 + b.val; rw [(index_1 t).2]; omega

/-! ## The accumulator and the result -/

/-- The term of row `r` in entry `(a, b)` of block `p` of the result. -/
def term (p : ℕ) (a : Fin 512) (b : Fin 1024) (r : Fin 8192) : EReal :=
  left m c r (rowOf p a) * right m c r (colOf p b)

/-- What a point adds to the accumulator, -/
theorem step_at (t : Fin cfg0.N) (xs : Vec Ideal S512x1024 .f32) (a : Fin 512) (b : Fin 1024) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 512) (b : Fin 1024) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S512x2048.Idx → EReal := fun i => ∑ r : Fin 8192, left m c r (i 0) * right m c r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 8 := N_0
  have hlt := t.isLt
  rw [Value.flushed2]
  funext j
  rw [View.read_apply]
  obtain ⟨a, b, rfl⟩ : ∃ (a : Fin 512) (b : Fin 1024), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 512 + 1 * a.val = t.val / 4 / 2 % 1 * 512 + a.val; rw [(index_2 t).1]; omega
    | ⟨1, _⟩ => show win0_2.index t 1 * 1024 + 1 * b.val = t.val / 4 % 2 * 1024 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S512x2048.Idx) :
    ∃ t : Fin cfg0.N, (cfg0.win 2).flush t = true ∧ i ∈ ((cfg0.win 2).blk t).view.set := by
  have hN : cfg0.N = 8 := N_0
  have h0 : (i 0).val < 512 := (i 0).isLt
  have h1 : (i 1).val < 2048 := (i 1).isLt
  let p := (i 0).val / 512 * 2 + (i 1).val / 1024
  have ht : 4 * p + 3 < cfg0.N := by dsimp only [p]; omega
  refine ⟨⟨4 * p + 3, ht⟩, (flush0_2 _).mpr (by dsimp only; omega), ?_⟩
  show i ∈ ((View.whole main_v4).slice (win0_2.rect ⟨4 * p + 3, ht⟩)).set
  rw [View.set_slice_whole, Rect.mem_set_unit]
  intro k
  match k with
  | ⟨0, _⟩ =>
    show win0_2.index _ 0 * 512 ≤ (i 0).val ∧ (i 0).val < win0_2.index _ 0 * 512 + 512
    rw [(index_2 _).1]; dsimp only [p]; omega
  | ⟨1, _⟩ =>
    show win0_2.index _ 1 * 1024 ≤ (i 1).val ∧ (i 1).val < win0_2.index _ 1 * 1024 + 1024
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 512) : left m c r a = m ((c : Thread nD τ).loc main_arg0) (ix2 r a) := by
  unfold left V
  after_reads_simp
  rfl

theorem right_at (r : Fin 8192) (b : Fin 2048) : right m c r b = headE (fun a d => m ((c : Thread nD τ).loc main_arg2) (ix3 r a d)) b := by
  refine Eq.trans ?_ (heads_8192 (m ((c : Thread nD τ).loc main_arg2)) (sitofp (F := Ideal) .f32 (constantI S_ 32 0#32))
    (fun _ => sitofp_zero) pads_S8192x8x192_S8192x8x256_000_000_0640 h_S_ shapeCasts_S8192x8x256_S8192x2048 r b)
  unfold right V
  after_reads_simp
  rfl

end Blocks

end Cert.GradUpQIdeal.RealValue

end
-- ==== Proof.GradUpQ.lean ====
/- The claims about `GradUpQ`: the weight gradient from the query latents and the cotangent of the queries, each head with its zero tail is the reference's. -/
module

public import proofs.«01_k».proof.Defs
public import proofs.«01_k».proof.Proof.GradUpQKernel
public import proofs.«01_k».proof.Proof.Gen.GradUpQRefIdeal.Run
public import proofs.«01_k».proof.Proof.Gen.GradUpQRefIdeal.Read

@[expose] public section

noncomputable section

namespace Cert.GradUpQClaim

open Idealize.ShloMosaic Idealize.ShloMosaic.TcCoe Idealize.SL.Sem Cert.Layout

open Cert.GradUpQRefIdeal Cert.GradUpQRefIdeal.Read in
/-- The gradient at an entry: column `d` of head `h` of the cotangent times column `a` of the latents, summed over the rows. -/
theorem v2_entry (x0 : FVec Ideal S8192x512 .f32) (x2 : FVec Ideal S8192x8x192 .f32) (a : Fin 512) (h : Fin 8) (d : Fin 192) :
    val_main_v2 (F := Ideal) x0 x2 (ix3 a h d) = ∑ r : Fin 8192, x2 (ix3 r h d) * x0 (ix2 r a) := by
  unfold val_main_v2 val_main_v1
  pointwise [dot_S8192x8x192_S8192x512_S8x192x512_0_0_12_1_n_n]

open Cert.GradUpQRefIdeal Cert.GradUpQRefIdeal.Read in
/-- The same with each head's zero tail, which is the reference's result. -/
theorem v5_entry (x0 : FVec Ideal S8192x512 .f32) (x2 : FVec Ideal S8192x8x192 .f32) (a : Fin 512) (j : Fin 2048) :
    val_main_v5 (F := Ideal) x0 x2 (ix2 a j) = headE (fun h d => ∑ r : Fin 8192, x2 (ix3 r h d) * x0 (ix2 r a)) j := by
  show val_main_v4 (F := Ideal) x0 x2 (ix2 a j) = _
  unfold val_main_v4 val_main_v3
  refine (heads_512 (val_main_v2 (F := Ideal) x0 x2) _ (fun _ => sitofp_zero) _ _ _ a j).trans ?_
  exact congrArg (fun f : Fin 8 → Fin 192 → EReal => headE f j) (funext fun h => funext fun d => v2_entry x0 x2 a h d)

/-- The reference's frame, from its generated run. -/
theorem reference_frame : quiescent_GradUpQRefIdeal := fun m ρ _ =>
  (θ_run GradUpQRefIdeal.defs _ _).mono
    (fun r h => ⟨fun c => (h c).2, sem_eq_zero_of_no_sems (by decide) r.2⟩)
    (GradUpQRefIdeal.Value.run (F := Ideal) m ρ)

/-- The value claim. -/
theorem algebraic : algebraic_GradUpQIdeal_GradUpQRefIdeal := by
  intro m ρ m' ρ' _ hag
  refine ⟨fun c => GradUpQIdeal.RealValue.result m c, ?_, ?_⟩
  · exact (θ_run GradUpQIdeal.defs _ _).mono (fun r h c => ⟨(h c).1.trans (GradUpQIdeal.RealValue.final_2 m c), (h c).2⟩) (GradUpQIdeal.Value.run_blocks m ρ)
  · refine (θ_run GradUpQRefIdeal.defs _ _).mono (fun r h c => ⟨(h c).1.trans ?_, (h c).2⟩) (GradUpQRefIdeal.Value.run (F := Ideal) m' ρ')
    rw [(hag c).1, (hag c).2.2]
    refine (GradUpQRefIdeal.Read.val_main_v5_eq _ _).trans ?_
    funext i
    obtain ⟨u, v, rfl⟩ : ∃ (u : Fin 512) (v : Fin 2048), i = ix2 u v := ⟨i 0, i 1, eq_ix2 _⟩
    refine (v5_entry _ _ u v).trans ?_
    show _ = ∑ r : Fin 8192, GradUpQIdeal.RealValue.left m c r u * GradUpQIdeal.RealValue.right m c r v
    exact ((Finset.sum_congr rfl fun r _ => congrArg₂ (· * ·) (GradUpQIdeal.RealValue.left_at m c r u) (GradUpQIdeal.RealValue.right_at m c r v)).trans (sum_mul_headE _ _ v)).symm

end Cert.GradUpQClaim

end
-- ==== Proof.GradUpKvKernel.lean ====
/- What the kernel `GradUpKvIdeal` leaves in its result array: the product of the transposed first operand (the key and value latents) with the
   second (the cotangent of the keys and values). -/
module

public import proofs.«01_k».proof.Proof.GradExt
public import proofs.«01_k».proof.Proof.Tails
public import proofs.«01_k».proof.Proof.Gen.GradUpKvIdeal.Value
public import Idealize.ShloMosaic.Lib.StableHlo.RunRead

@[expose] public section

noncomputable section

namespace Cert.GradUpKvIdeal.RealValue

open Cert.GradUpKvIdeal Cert.GradUpKvIdeal.Gen Cert.RealValue Cert.Layout
open Idealize.ShloMosaic Idealize.ShloMosaic.TcCoe Idealize.SL.Sem

/-! ## The body's payloads at an index -/

/-- The accumulator is reset to zero; -/
theorem pay1_at (a : Fin 256) (b : Fin 1024) : k0_pay1 (F := Ideal) (ix2 a b) = 0 := by
  unfold k0_pay1
  pointwise

/-- a point adds the product of its two blocks, contracted along their rows; -/
theorem pay2_at (v3 : Vec Ideal S256x1024 .f32) (v4 : Vec Ideal S2048x256 .bf16) (v6 : Vec Ideal S2048x1024 .bf16) (a : Fin 256) (b : Fin 1024) :
    k0_pay2 v3 v4 v6 (ix2 a b) = v3 (ix2 a b) + ∑ q : Fin 2048, v4 (ix2 q a) * v6 (ix2 q b) := by
  unfold k0_pay2
  pointwise [dot_S2048x256_S2048x1024_S256x1024_0_0_1_1_n_n]

/-- and the last point of a block writes the accumulator out. -/
theorem pay3_at (v : Vec Ideal S256x1024 .f32) (a : Fin 256) (b : Fin 1024) : k0_pay3 (F := Ideal) v (ix2 a b) = v (ix2 a b) := by
  unfold k0_pay3
  pointwise

/-! ## The cases' values -/

section Cases

variable (c : Dev nD) (i : grid0.Coords) (a1 : Memref sig .tc .vmem S2048x256 .bf16) (h1 : a1.IsWhole)
  (a2 : Memref sig .tc .vmem S2048x1024 .bf16) (h2 : a2.IsWhole) (a3 : Memref sig .tc .vmem S256x1024 .bf16) (h3 : a3.IsWhole)
  (a4 : Memref sig .tc .vmem S256x1024 .f32) (h4 : a4.IsWhole)
  (x0 : Vec Ideal S2048x256 .bf16) (x1 : Vec Ideal S2048x1024 .bf16) (xs : Vec Ideal S256x1024 .f32)

/-- The first point of a block leaves its product over zero in the accumulator, -/
theorem sout_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S256x1024) hz, View.readCov_unit_zero (S := S256x1024) _ hz]
  simp only [View.readAt_eq_ld, h1.read_unread, h2.read_unread, h4.read_unread,
    View.ld_unit_zero (S := S2048x256) hz, View.ld_unit_zero (S := S2048x1024) hz, View.ld_unit_zero (S := S256x1024) hz]

/-- a later one over what it held, -/
theorem sout_B (hc : ¬cond0_0 i) (hd : ¬cond0_1 i) : sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero (S := S256x1024) hz]
  simp only [View.readAt_eq_ld, h1.read_unread, h2.read_unread, h4.read_unread,
    View.ld_unit_zero (S := S2048x256) hz, View.ld_unit_zero (S := S2048x1024) hz, View.ld_unit_zero (S := S256x1024) hz]

/-- the last one too, -/
theorem sout_C (hc : ¬cond0_0 i) (hd : cond0_1 i) : sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero (S := S256x1024) hz]
  simp only [View.readAt_eq_ld, h1.read_unread, h2.read_unread, h4.read_unread,
    View.ld_unit_zero (S := S2048x256) hz, View.ld_unit_zero (S := S2048x1024) hz, View.ld_unit_zero (S := S256x1024) hz]

/-- and the last one writes the accumulator out. -/
theorem out_C (hc : ¬cond0_0 i) (hd : cond0_1 i) : out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero (S := S256x1024) hz, View.readCov_unit_zero (S := S256x1024) _ hz]
  simp only [View.readAt_eq_ld, h1.read_unread, h2.read_unread, h4.read_unread,
    View.ld_unit_zero (S := S2048x256) hz, View.ld_unit_zero (S := S2048x1024) hz, View.ld_unit_zero (S := S256x1024) hz]

end Cases

/-! ## The blocks of the two operands -/

section Blocks

variable (m : (ℓ : Loc nD τ sig) → Buf (Elt Ideal) ℓ) (c : Dev nD)

/-- The row of the result that row `a` of its block `p` is, -/
def rowOf (p : ℕ) (a : Fin 256) : Fin 256 := ⟨p / 2 % 1 * 256 + a.val, by have := a.isLt; omega⟩
/-- its column, -/
def colOf (p : ℕ) (b : Fin 1024) : Fin 2048 := ⟨p % 2 * 1024 + b.val, by have := b.isLt; omega⟩
/-- and the contracted row that row `q` of block `k` of an operand is. -/
def midOf (k : ℕ) (q : Fin 2048) : Fin 8192 := ⟨2048 * (k % 4) + q.val, by have := q.isLt; omega⟩

theorem index_0 : ∀ t : Fin cfg0.N, win0_0.index t 0 = t.val % 4 ∧ win0_0.index t 1 = t.val / 4 / 2 % 1 :=
  (by decide +kernel : ∀ t : Fin grid0.N, win0_0.index t 0 = t.val % 4 ∧ win0_0.index t 1 = t.val / 4 / 2 % 1)
theorem index_1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)
theorem index_2 : ∀ t : Fin cfg0.N, win0_2.index t 0 = t.val / 4 / 2 % 1 ∧ win0_2.index t 1 = t.val / 4 % 2 :=
  (by decide +kernel : ∀ t : Fin grid0.N, win0_2.index t 0 = t.val / 4 / 2 % 1 ∧ win0_2.index t 1 = t.val / 4 % 2)

/-- The first operand's array at the region's entry, -/
abbrev left (r : Fin 8192) (a : Fin 256) : EReal := V m c main_v0 (ix2 r a)
/-- and the second's. -/
abbrev right (r : Fin 8192) (b : Fin 2048) : EReal := V m c main_v2 (ix2 r b)

theorem iblk_0 (t : Fin cfg0.N) (q : Fin 2048) (a : Fin 256) :
    (iblk m c 0 t : Vec Ideal S2048x256 .bf16) (ix2 q a) = left m c (midOf t.val q) (rowOf (t.val / 4) a) := by
  refine congrArg (V m c main_v0) (funext fun k => Fin.ext ?_)
  match k with
  | ⟨0, _⟩ => show win0_0.index t 0 * 2048 + 1 * q.val = 2048 * (t.val % 4) + q.val; rw [(index_0 t).1]; omega
  | ⟨1, _⟩ => show win0_0.index t 1 * 256 + 1 * a.val = t.val / 4 / 2 % 1 * 256 + a.val; rw [(index_0 t).2]; omega

theorem iblk_1 (t : Fin cfg0.N) (q : Fin 2048) (b : Fin 1024) :
    (iblk m c 1 t : Vec Ideal S2048x1024 .bf16) (ix2 q b) = right m c (midOf t.val q) (colOf (t.val / 4) b) := by
  refine congrArg (V m c main_v2) (funext fun k => Fin.ext ?_)
  match k with
  | ⟨0, _⟩ => show win0_1.index t 0 * 2048 + 1 * q.val = 2048 * (t.val % 4) + q.val; rw [(index_1 t).1]; omega
  | ⟨1, _⟩ => show win0_1.index t 1 * 1024 + 1 * b.val = t.val / 4 % 2 * 1024 + b.val; rw [(index_1 t).2]; omega

/-! ## The accumulator and the result -/

/-- The term of row `r` in entry `(a, b)` of block `p` of the result. -/
def term (p : ℕ) (a : Fin 256) (b : Fin 1024) (r : Fin 8192) : EReal :=
  left m c r (rowOf p a) * right m c r (colOf p b)

/-- What a point adds to the accumulator, -/
theorem step_at (t : Fin cfg0.N) (xs : Vec Ideal S256x1024 .f32) (a : Fin 256) (b : Fin 1024) :
    k0_pay2 xs (iblk m c 0 t) (iblk m c 1 t) (ix2 a b)
      = xs (ix2 a b) + ∑ q : Fin 2048, ext0 (term m c (t.val / 4) a b) (2048 * (t.val % 4) + q.val) := by
  rw [pay2_at]
  congr 1
  refine Finset.sum_congr rfl fun q _ => ?_
  rw [iblk_0, iblk_1]
  exact (ext0_val (term m c (t.val / 4) a b) (midOf t.val q)).symm

/-- and what it holds after point `n`: the terms of the blocks of rows that the result's block has met. -/
theorem acc_at (a : Fin 256) (b : Fin 1024) : ∀ (n : ℕ) (hn : n < cfg0.N),
    (outsAt0 m c n hn).2 (ix2 a b)
      = ∑ s ∈ Finset.range (n % 4 + 1), ∑ q : Fin 2048, ext0 (term m c (n / 4) a b) (2048 * s + q.val) :=
  GradExt.acc_blocks (fun n hn => (outsAt0 m c n hn).2 (ix2 a b)) (fun p s => ∑ q : Fin 2048, ext0 (term m c p a b) (2048 * s + q.val))
    (fun n hn h0 => by
      refine (congrFun (congrArg Prod.snd (outsAt0_A m c ⟨n, hn⟩ h0 (by dsimp only; omega))) _).trans ?_
      dsimp only
      rw [sout_A, step_at, pay1_at, zero_add])
    (fun n hn h0 => by
      refine Eq.trans (congrFun ?_ _) (step_at m c ⟨n + 1, hn⟩ (outsAt0 m c n (Nat.lt_of_succ_lt hn)).2 a b)
      by_cases h1 : (n + 1) % 4 = 3
      · refine (congrArg Prod.snd (outsAt0_C m c ⟨n + 1, hn⟩ h0 h1)).trans ?_
        dsimp only
        rw [sout_C]
        rfl
      · refine (congrArg Prod.snd (outsAt0_B m c ⟨n + 1, hn⟩ h0 h1)).trans ?_
        dsimp only
        rw [sout_B]
        rfl)

/-- The result: the product of the two operands, contracted along their rows. -/
def result : S256x2048.Idx → EReal := fun i => ∑ r : Fin 8192, left m c r (i 0) * right m c r (i 1)

/-- What a block's last point writes back is its block of the result. -/
theorem flushed_2 (t : Fin cfg0.N) (hf : (cfg0.win 2).flush t = true) :
    (dats m 0 c).flushed 2 t = ((cfg0.win 2).blk t).view.read (Elt Ideal) (result m c) := by
  have h3 : t.val % 4 = 3 := (flush0_2 t).mp hf
  have h0 : ¬t.val % 4 = 0 := by omega
  have hN : cfg0.N = 8 := N_0
  have hlt := t.isLt
  rw [Value.flushed2]
  funext j
  rw [View.read_apply]
  obtain ⟨a, b, rfl⟩ : ∃ (a : Fin 256) (b : Fin 1024), j = ix2 a b := ⟨j 0, j 1, eq_ix2 _⟩
  have e : ((cfg0.win 2).blk t).view.emb (ix2 a b) = ix2 (rowOf (t.val / 4) a) (colOf (t.val / 4) b) := by
    funext k
    apply Fin.ext
    match k with
    | ⟨0, _⟩ => show win0_2.index t 0 * 256 + 1 * a.val = t.val / 4 / 2 % 1 * 256 + a.val; rw [(index_2 t).1]; omega
    | ⟨1, _⟩ => show win0_2.index t 1 * 1024 + 1 * b.val = t.val / 4 % 2 * 1024 + b.val; rw [(index_2 t).2]; omega
  rw [e]
  show (outsAt0 m c t.val t.isLt).1 (ix2 a b) = _
  have acc := acc_at m c a b t.val t.isLt
  rw [outsAt0_C m c t h0 h3] at acc ⊢
  dsimp only at acc ⊢
  rw [sout_C] at acc
  rw [out_C]
  refine (pay3_at _ a b).trans (acc.trans ?_)
  rw [h3, sum_blocks, show (2048 * (3 + 1) : ℕ) = 8192 by norm_num]
  refine (sum_ext0 (term m c (t.val / 4) a b)).trans ?_
  rw [cast_eq]
  unfold result
  exact Finset.sum_congr rfl fun r _ => rfl

/-- The blocks fill the result. -/
theorem cover_2 (i : S256x2048.Idx) :
    ∃ t : Fin cfg0.N, (cfg0.win 2).flush t = true ∧ i ∈ ((cfg0.win 2).blk t).view.set := by
  have hN : cfg0.N = 8 := N_0
  have h0 : (i 0).val < 256 := (i 0).isLt
  have h1 : (i 1).val < 2048 := (i 1).isLt
  let p := (i 0).val / 256 * 2 + (i 1).val / 1024
  have ht : 4 * p + 3 < cfg0.N := by dsimp only [p]; omega
  refine ⟨⟨4 * p + 3, ht⟩, (flush0_2 _).mpr (by dsimp only; omega), ?_⟩
  show i ∈ ((View.whole main_v3).slice (win0_2.rect ⟨4 * p + 3, ht⟩)).set
  rw [View.set_slice_whole, Rect.mem_set_unit]
  intro k
  match k with
  | ⟨0, _⟩ =>
    show win0_2.index _ 0 * 256 ≤ (i 0).val ∧ (i 0).val < win0_2.index _ 0 * 256 + 256
    rw [(index_2 _).1]; dsimp only [p]; omega
  | ⟨1, _⟩ =>
    show win0_2.index _ 1 * 1024 ≤ (i 1).val ∧ (i 1).val < win0_2.index _ 1 * 1024 + 1024
    rw [(index_2 _).2]; dsimp only [p]; omega

/-- The result array after the run. -/
theorem final_2 : (dats m 0 c).arrAt 2 cfg0.N = result m c :=
  (dats m 0 c).arrAt_eq_of_cover 2 (result m c) (fun t hf => flushed_2 m c t hf) cover_2

/-! ## The operands from the arguments -/

theorem left_at (r : Fin 8192) (a : Fin 256) : left m c r a = m ((c : Thread nD τ).loc main_arg0) (ix2 r a) := by
  unfold left V
  after_reads_simp
  rfl

theorem right_at (r : Fin 8192) (b : Fin 2048) : right m c r b = joinE (fun a d => m ((c : Thread nD τ).loc main_arg2) (ix3 r a d)) b := by
  refine Eq.trans ?_ (join_8192 (m ((c : Thread nD τ).loc main_arg2)) shapeCasts_S8192x8x256_S8192x2048 r b)
  unfold right V
  after_reads_simp
  rfl

end Blocks

end Cert.GradUpKvIdeal.RealValue

end
-- ==== Proof.GradUpKv.lean ====
/- The claims about `GradUpKv`: the weight gradient from the key and value latents and the cotangent of the keys and values is the reference's. -/
module

public import proofs.«01_k».proof.Defs
public import proofs.«01_k».proof.Proof.GradUpKvKernel
public import proofs.«01_k».proof.Proof.Gen.GradUpKvRefIdeal.Run
public import proofs.«01_k».proof.Proof.Gen.GradUpKvRefIdeal.Read

@[expose] public section

noncomputable section

namespace Cert.GradUpKvClaim

open Idealize.ShloMosaic Idealize.ShloMosaic.TcCoe Idealize.SL.Sem Cert.Layout

open Cert.GradUpKvRefIdeal Cert.GradUpKvRefIdeal.Read in
/-- The gradient at an entry: column `d` of head `h` of the cotangent times column `a` of the latents, summed over the rows. -/
theorem v2_entry (x0 : FVec Ideal S8192x256 .f32) (x2 : FVec Ideal S8192x8x256 .f32) (a : Fin 256) (h : Fin 8) (d : Fin 256) :
    val_main_v2 (F := Ideal) x0 x2 (ix3 a h d) = ∑ r : Fin 8192, x2 (ix3 r h d) * x0 (ix2 r a) := by
  unfold val_main_v2 val_main_v1
  pointwise [dot_S8192x8x256_S8192x256_S8x256x256_0_0_12_1_n_n]

open Cert.GradUpKvRefIdeal Cert.GradUpKvRefIdeal.Read in
/-- The same with the heads joined, which is the reference's result. -/
theorem v4_entry (x0 : FVec Ideal S8192x256 .f32) (x2 : FVec Ideal S8192x8x256 .f32) (a : Fin 256) (j : Fin 2048) :
    val_main_v4 (F := Ideal) x0 x2 (ix2 a j) = joinE (fun h d => ∑ r : Fin 8192, x2 (ix3 r h d) * x0 (ix2 r a)) j := by
  show val_main_v3 (F := Ideal) x0 x2 (ix2 a j) = _
  unfold val_main_v3
  refine (join_256 (val_main_v2 (F := Ideal) x0 x2) _ a j).trans ?_
  exact congrArg (fun f : Fin 8 → Fin 256 → EReal => joinE f j) (funext fun h => funext fun d => v2_entry x0 x2 a h d)

/-- The reference's frame, from its generated run. -/
theorem reference_frame : quiescent_GradUpKvRefIdeal := fun m ρ _ =>
  (θ_run GradUpKvRefIdeal.defs _ _).mono
    (fun r h => ⟨fun c => (h c).2, sem_eq_zero_of_no_sems (by decide) r.2⟩)
    (GradUpKvRefIdeal.Value.run (F := Ideal) m ρ)

/-- The value claim. -/
theorem algebraic : algebraic_GradUpKvIdeal_GradUpKvRefIdeal := by
  intro m ρ m' ρ' _ hag
  refine ⟨fun c => GradUpKvIdeal.RealValue.result m c, ?_, ?_⟩
  · exact (θ_run GradUpKvIdeal.defs _ _).mono (fun r h c => ⟨(h c).1.trans (GradUpKvIdeal.RealValue.final_2 m c), (h c).2⟩) (GradUpKvIdeal.Value.run_blocks m ρ)
  · refine (θ_run GradUpKvRefIdeal.defs _ _).mono (fun r h c => ⟨(h c).1.trans ?_, (h c).2⟩) (GradUpKvRefIdeal.Value.run (F := Ideal) m' ρ')
    rw [(hag c).1, (hag c).2.2]
    refine (GradUpKvRefIdeal.Read.val_main_v4_eq _ _).trans ?_
    funext i
    obtain ⟨u, v, rfl⟩ : ∃ (u : Fin 256) (v : Fin 2048), i = ix2 u v := ⟨i 0, i 1, eq_ix2 _⟩
    refine (v4_entry _ _ u v).trans ?_
    show _ = ∑ r : Fin 8192, GradUpKvIdeal.RealValue.left m c r u * GradUpKvIdeal.RealValue.right m c r v
    exact ((Finset.sum_congr rfl fun r _ => congrArg₂ (· * ·) (GradUpKvIdeal.RealValue.left_at m c r u) (GradUpKvIdeal.RealValue.right_at m c r v)).trans (sum_mul_joinE _ _ v)).symm

end Cert.GradUpKvClaim

end
-- ==== Proof.AttnOutKernel.lean ====
/- What the kernel `AttnOutIdeal` leaves in its result array: the residual rows plus the attention output times the weight. -/
module

public import proofs.«01_k».proof.Proof.FfnExt
public import proofs.«01_k».proof.Proof.Gen.AttnOutIdeal.Value
public import Idealize.ShloMosaic.Lib.StableHlo.RunRead

@[expose] public section

noncomputable section

namespace Cert.AttnOutIdeal.RealValue

open Cert.AttnOutIdeal Cert.AttnOutIdeal.Gen Cert.RealValue Cert.Layout Cert.FfnExt
open Idealize.ShloMosaic Idealize.ShloMosaic.TcCoe Idealize.SL.Sem

/-- An entry of the residual plus a row times a column. -/
def outE (h : EReal) (o w : Fin 1024 → EReal) : EReal := h + ∑ k, o k * w k

/-! ## The body's result at an index -/

/-- A block's rows plus its product. -/
theorem out_at (x0 : Vec Ideal S1024x1024 .f32) (x1 : Vec Ideal S1024x1024 .bf16) (x2 : Vec Ideal S1024x1024 .f32) (a b : Fin 1024) :
    out0_3 x0 x1 x2 (ix2 a b) = x2 (ix2 a b) + ∑ k : Fin 1024, x0 (ix2 a k) * x1 (ix2 k b) := by
  unfold out0_3
  rw [View.canon_unit_zero hz]
  simp only [View.ld_unit_zero (S := S1024x1024) hz]
  unfold k0_pay1
  pointwise [dot_S1024x1024_S1024x1024_S1024x1024_1_0_0_1_n_n]

/-! ## The blocks -/

section Blocks

variable (m : (ℓ : Loc nD τ sig) → Buf (Elt Ideal) ℓ) (c : Dev nD)

theorem N8 (t : Fin cfg0.N) : t.val < 8 := lt_of_lt_of_eq t.isLt N_0

/-- Row `a` of the block at point `t` is row `1024 t + a` of the array. -/
def row (t : Fin cfg0.N) (a : Fin 1024) : Fin 8192 := ⟨1024 * t.val + a.val, by have := N8 t; have := a.isLt; omega⟩

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = t.val ∧ win0_2.index t 1 = 0 :=
  (by decide +kernel : ∀ t : Fin grid0.N, win0_2.index t 0 = t.val ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)

theorem iblk_0 (t : Fin cfg0.N) (a : Fin 1024) (b : Fin 1024) :
    (iblk m c 0 t : Vec Ideal S1024x1024 .f32) (ix2 a b) = V m c main_arg0 (ix2 (row t a) b) := by
  have hN := N8 t
  refine congrArg (V m c main_arg0) (funext fun d => Fin.ext ?_)
  match d with
  | ⟨0, _⟩ => show win0_0.index t 0 * 1024 + 1 * a.val = 1024 * t.val + a.val; rw [(index_0 t).1]; omega
  | ⟨1, _⟩ => show win0_0.index t 1 * 1024 + 1 * b.val = b.val; rw [(index_0 t).2]; omega

theorem iblk_1 (t : Fin cfg0.N) (k : Fin 1024) (b : Fin 1024) :
    (iblk m c 1 t : Vec Ideal S1024x1024 .bf16) (ix2 k b) = V m c main_v0 (ix2 k b) := by
  have hN := N8 t
  refine congrArg (V m c main_v0) (funext fun d => Fin.ext ?_)
  match d with
  | ⟨0, _⟩ => show win0_1.index t 0 * 1024 + 1 * k.val = k.val; rw [(index_1 t).1]; omega
  | ⟨1, _⟩ => show win0_1.index t 1 * 1024 + 1 * b.val = b.val; rw [(index_1 t).2]; omega

theorem iblk_2 (t : Fin cfg0.N) (a : Fin 1024) (b : Fin 1024) :
    (iblk m c 2 t : Vec Ideal S1024x1024 .f32) (ix2 a b) = V m c main_arg2 (ix2 (row t a) b) := by
  have hN := N8 t
  refine congrArg (V m c main_arg2) (funext fun d => Fin.ext ?_)
  match d with
  | ⟨0, _⟩ => show win0_2.index t 0 * 1024 + 1 * a.val = 1024 * t.val + a.val; rw [(index_2 t).1]; omega
  | ⟨1, _⟩ => show win0_2.index t 1 * 1024 + 1 * b.val = b.val; rw [(index_2 t).2]; omega

/-- Every row is in a block. -/
theorem row_of (r : Fin 8192) : ∃ (t : Fin cfg0.N) (a : Fin 1024), row t a = r := by
  have ht : r.val / 1024 < cfg0.N := by have := r.isLt; have : cfg0.N = 8 := N_0; omega
  exact ⟨⟨r.val / 1024, ht⟩, ⟨r.val % 1024, Nat.mod_lt _ (by decide)⟩, Fin.ext (Nat.div_add_mod _ _)⟩

theorem emb_3 (t : Fin cfg0.N) (a : Fin 1024) (b : Fin 1024) :
    ((cfg0.win 3).blk t).view.emb (ix2 a b) = (ix2 (row t a) b) := by
  have hN := N8 t
  funext d
  apply Fin.ext
  match d with
  | ⟨0, _⟩ => show win0_3.index t 0 * 1024 + 1 * a.val = 1024 * t.val + a.val; rw [(index_3 t).1]; omega
  | ⟨1, _⟩ => show win0_3.index t 1 * 1024 + 1 * b.val = b.val; rw [(index_3 t).2]; omega

theorem cover_3 (i : S8192x1024.Idx) :
    ∃ t : Fin cfg0.N, (cfg0.win 3).flush t = true ∧ i ∈ ((cfg0.win 3).blk t).view.set := by
  obtain ⟨t, a, h⟩ := row_of (i 0)
  have e := emb_3 t a (i 1)
  rw [h] at e
  exact ⟨t, flush0_3 _, (e.trans (eq_ix2 i).symm) ▸ View.emb_mem_set _ _⟩

theorem weight_at (k b : Fin 1024) : V m c main_v0 (ix2 k b) = m ((c : Thread nD τ).loc main_arg1) (ix2 k b) := by
  unfold V
  after_reads_simp
  rfl

/-- The result: the residual plus the product. -/
def result3 : S8192x1024.Idx → EReal := fun i =>
  outE (m ((c : Thread nD τ).loc main_arg2) (ix2 (i 0) (i 1))) (fun k => m ((c : Thread nD τ).loc main_arg0) (ix2 (i 0) k)) (fun k => m ((c : Thread nD τ).loc main_arg1) (ix2 k (i 1)))

theorem flushed_3 (t : Fin cfg0.N) :
    (dats m 0 c).flushed 3 t = ((cfg0.win 3).blk t).view.read (Elt Ideal) (result3 m c) := by
  rw [Value.flushed3]
  funext j
  rw [View.read_apply]
  obtain ⟨a, b, rfl⟩ : ∃ (a : Fin 1024) (b : Fin 1024), j = ix2 a b := ⟨j 0, j 1, eq_ix2 _⟩
  rw [emb_3]
  show out0_3 (F := Ideal) (iblk m c 0 t) (iblk m c 1 t) (iblk m c 2 t) (ix2 a b) = result3 m c (ix2 (row t a) b)
  rw [out_at, iblk_2, V_main_arg2]
  show _ = outE _ _ _
  unfold outE
  refine congrArg₂ (· + ·) rfl (Finset.sum_congr rfl fun k _ => ?_)
  rw [iblk_0, iblk_1, V_main_arg0, weight_at]
  rfl

/-- The result array after the run. -/
theorem final_3 : (dats m 0 c).arrAt 3 cfg0.N = result3 m c :=
  (dats m 0 c).arrAt_eq_of_cover 3 (result3 m c) (fun t _ => flushed_3 m c t) cover_3

end Blocks

end Cert.AttnOutIdeal.RealValue

end
-- ==== Proof.AttnOut.lean ====
/- The claims about `AttnOut`: the attention block's output is the reference's. -/
module

public import proofs.«01_k».proof.Defs
public import proofs.«01_k».proof.Proof.AttnOutKernel
public import proofs.«01_k».proof.Proof.Gen.AttnOutRefIdeal.Run
public import proofs.«01_k».proof.Proof.Gen.AttnOutRefIdeal.Read

@[expose] public section

noncomputable section

namespace Cert.AttnOutClaim

open Idealize.ShloMosaic Idealize.ShloMosaic.TcCoe Idealize.SL.Sem Cert.Layout

open Cert.AttnOutRefIdeal Cert.AttnOutRefIdeal.Read in
/-- The reference's result at an entry. -/
theorem v1_entry (x0 : FVec Ideal S8192x1024 .f32) (x1 : FVec Ideal S1024x1024 .f32) (x2 : FVec Ideal S8192x1024 .f32) (r : Fin 8192) (b : Fin 1024) :
    val_main_v1 (F := Ideal) x0 x1 x2 (ix2 r b) = x2 (ix2 r b) + ∑ k : Fin 1024, x0 (ix2 r k) * x1 (ix2 k b) := by
  unfold val_main_v1 val_main_v0
  pointwise [dot_S8192x1024_S1024x1024_S8192x1024_1_0_0_1_n_n]

/-- The reference's frame, from its generated run. -/
theorem reference_frame : quiescent_AttnOutRefIdeal := fun m ρ _ =>
  (θ_run AttnOutRefIdeal.defs _ _).mono
    (fun r h => ⟨fun c => (h c).2, sem_eq_zero_of_no_sems (by decide) r.2⟩)
    (AttnOutRefIdeal.Value.run (F := Ideal) m ρ)

/-- The value claim. -/
theorem algebraic : algebraic_AttnOutIdeal_AttnOutRefIdeal := by
  intro m ρ m' ρ' _ hag
  refine ⟨fun c => AttnOutIdeal.RealValue.result3 m c, ?_, ?_⟩
  · exact (θ_run AttnOutIdeal.defs _ _).mono (fun r h c => ⟨((h c).1).trans (AttnOutIdeal.RealValue.final_3 m c), (h c).2⟩) (AttnOutIdeal.Value.run_blocks m ρ)
  · refine (θ_run AttnOutRefIdeal.defs _ _).mono (fun r h c => ⟨((h c).1).trans ?_, (h c).2⟩) (AttnOutRefIdeal.Value.run (F := Ideal) m' ρ')
    rw [(hag c).1, (hag c).2.1, (hag c).2.2]
    refine (AttnOutRefIdeal.Read.val_main_v1_eq _ _ _).trans ?_
    funext i
    obtain ⟨u, v, rfl⟩ : ∃ (u : Fin 8192) (v : Fin 1024), i = ix2 u v := ⟨i 0, i 1, eq_ix2 _⟩
    exact v1_entry _ _ _ u v

end Cert.AttnOutClaim

end
-- ==== Proof.AttnOutBackKernel.lean ====
/- What the kernel `AttnOutBackIdeal` leaves in its two result arrays: the gradient of the attention output, and for every
   head the sum of that gradient times the attention output, repeated over the head's columns. -/
module

public import proofs.«01_k».proof.Proof.FfnExt
public import proofs.«01_k».proof.Proof.Gen.AttnOutBackIdeal.Value
public import Idealize.ShloMosaic.Lib.StableHlo.RunRead

@[expose] public section

noncomputable section

namespace Cert.AttnOutBackIdeal.RealValue

open Cert.AttnOutBackIdeal Cert.AttnOutBackIdeal.Gen Cert.RealValue Cert.Layout Cert.FfnExt
open Idealize.ShloMosaic Idealize.ShloMosaic.TcCoe Idealize.SL.Sem

/-! ## The functions of one row -/

/-- The gradient of an attention output: the row's cotangent times a row of the weight. -/
def doE (d : Fin 1024 → EReal) (w : Fin 1024 → Fin 1024 → EReal) (b : Fin 1024) : EReal := ∑ k, d k * w b k

/-- Column `q` of the head that column `b` is in. -/
def mate (b : Fin 1024) (q : Fin 128) : Fin 1024 := ⟨b.val / 128 * 128 + q.val, by have := b.isLt; have := q.isLt; omega⟩

/-- The head's sum of the gradient times the output. -/
def deltaE (d o : Fin 1024 → EReal) (w : Fin 1024 → Fin 1024 → EReal) (b : Fin 1024) : EReal :=
  ∑ q : Fin 128, doE d w (mate b q) * o (mate b q)

/-! ## The body's results at an index -/

section Body

variable (x0 x1 : Vec Ideal S1024x1024 .f32) (x2 : Vec Ideal S1024x1024 .bf16)

theorem pay5_at (a b : Fin 1024) : k0_pay5 x0 x2 (ix2 a b) = doE (fun k => x0 (ix2 a k)) (fun b k => x2 (ix2 b k)) b := by
  unfold k0_pay5
  pointwise [dot_S1024x1024_S1024x1024_S1024x1024_1_1_0_0_n_n]
  rfl

theorem out3_at (a b : Fin 1024) :
    out0_3 x0 x1 x2 (ix2 a b) = doE (fun k => x0 (ix2 a k)) (fun b k => x2 (ix2 b k)) b := by
  unfold out0_3
  rw [View.canon_unit_zero hz]
  simp only [View.ld_unit_zero (S := S1024x1024) hz]
  exact pay5_at x0 x2 a b

theorem pay7_at (a b : Fin 1024) : k0_pay7 x0 x2 x1 (ix2 a b)
    = doE (fun k => x0 (ix2 a k)) (fun b k => x2 (ix2 b k)) b * x1 (ix2 a b) := by
  unfold k0_pay7
  exact congrArg (· * x1 (ix2 a b)) (pay5_at x0 x2 a b)

/-- The second result as one function of the block's index. -/
def heads (i : S1024x1024.Idx) : EReal := deltaE (fun k => x0 (ix2 (i 0) k)) (fun k => x1 (ix2 (i 0) k)) (fun b k => x2 (ix2 b k)) (i 1)

/-- A piece of 128 lanes holds its head's sums, when each of its entries is the sum of the products over the head. -/
theorem piece_of (o : ℕ) (ho : o % 128 = 0) (y : FVec Ideal S1024x128 .f32) (e : S1024x128.Idx → S1024x1024.Idx) (col : Fin 128 → Fin 1024)
    (he : ∀ z, (e z 0).val = 0 + 1 * (z 0).val ∧ (e z 1).val = o + 1 * (z 1).val) (hc : ∀ q, (col q).val = o + q.val)
    (hy : ∀ a q, y (ix2 a q) = ∑ p : Fin 128, k0_pay7 x0 x2 x1 (ix2 a (col p))) (z : S1024x128.Idx) :
    y z = heads x0 x1 x2 (e z) := by
  obtain ⟨a, q, rfl⟩ : ∃ (a : Fin 1024) (q : Fin 128), z = ix2 a q := ⟨z 0, z 1, eq_ix2 _⟩
  rw [hy, show e (ix2 a q) = ix2 a (col q) from (eq_ix2 _).trans (congrArg₂ ix2 (Fin.ext ((he _).1.trans (by show 0 + 1 * a.val = a.val; omega)))
    (Fin.ext ((he _).2.trans (by rw [hc]; show o + 1 * q.val = o + q.val; omega))))]
  show _ = deltaE _ _ _ _
  unfold deltaE
  refine Finset.sum_congr rfl fun p _ => (pay7_at x0 x1 x2 a _).trans ?_
  have em : mate (col q) p = col p := by
    apply Fin.ext
    show (col q).val / 128 * 128 + p.val = (col p).val
    rw [hc, hc]
    have := q.isLt
    omega
  exact (congrArg (fun j => doE (fun k => x0 (ix2 a k)) (fun b k => x2 (ix2 b k)) j * x1 (ix2 a j)) em).symm

theorem piece_0 (z : S1024x128.Idx) : k0_pay8 x0 x2 x1 z = heads x0 x1 x2 (r0_1.emb z) :=
  piece_of x0 x1 x2 0 (by decide) _ r0_1.emb (fun p => ⟨p.val, by have := p.isLt; omega⟩) (fun _ => ⟨rfl, rfl⟩) (fun _ => (Nat.zero_add _).symm)
    (fun a q => by unfold k0_pay8; pointwise) z

theorem piece_1 (z : S1024x128.Idx) : k0_pay9 x0 x2 x1 z = heads x0 x1 x2 (r0_2.emb z) :=
  piece_of x0 x1 x2 128 (by decide) _ r0_2.emb (fun p => ⟨128 + p.val, by have := p.isLt; omega⟩) (fun _ => ⟨rfl, rfl⟩) (fun _ => rfl)
    (fun a q => by unfold k0_pay9; pointwise) z

theorem piece_2 (z : S1024x128.Idx) : k0_pay10 x0 x2 x1 z = heads x0 x1 x2 (r0_3.emb z) :=
  piece_of x0 x1 x2 256 (by decide) _ r0_3.emb (fun p => ⟨256 + p.val, by have := p.isLt; omega⟩) (fun _ => ⟨rfl, rfl⟩) (fun _ => rfl)
    (fun a q => by unfold k0_pay10; pointwise) z

theorem piece_3 (z : S1024x128.Idx) : k0_pay11 x0 x2 x1 z = heads x0 x1 x2 (r0_4.emb z) :=
  piece_of x0 x1 x2 384 (by decide) _ r0_4.emb (fun p => ⟨384 + p.val, by have := p.isLt; omega⟩) (fun _ => ⟨rfl, rfl⟩) (fun _ => rfl)
    (fun a q => by unfold k0_pay11; pointwise) z

theorem piece_4 (z : S1024x128.Idx) : k0_pay1 (k0_pay7 x0 x2 x1) z = heads x0 x1 x2 (r0_5.emb z) :=
  piece_of x0 x1 x2 512 (by decide) _ r0_5.emb (fun p => ⟨512 + p.val, by have := p.isLt; omega⟩) (fun _ => ⟨rfl, rfl⟩) (fun _ => rfl)
    (fun a q => by unfold k0_pay1; pointwise) z

theorem piece_5 (z : S1024x128.Idx) : k0_pay2 (k0_pay7 x0 x2 x1) z = heads x0 x1 x2 (r0_6.emb z) :=
  piece_of x0 x1 x2 640 (by decide) _ r0_6.emb (fun p => ⟨640 + p.val, by have := p.isLt; omega⟩) (fun _ => ⟨rfl, rfl⟩) (fun _ => rfl)
    (fun a q => by unfold k0_pay2; pointwise) z

theorem piece_6 (z : S1024x128.Idx) : k0_pay3 (k0_pay7 x0 x2 x1) z = heads x0 x1 x2 (r0_7.emb z) :=
  piece_of x0 x1 x2 768 (by decide) _ r0_7.emb (fun p => ⟨768 + p.val, by have := p.isLt; omega⟩) (fun _ => ⟨rfl, rfl⟩) (fun _ => rfl)
    (fun a q => by unfold k0_pay3; pointwise) z

theorem piece_7 (z : S1024x128.Idx) : k0_pay4 (k0_pay7 x0 x2 x1) z = heads x0 x1 x2 (r0_8.emb z) :=
  piece_of x0 x1 x2 896 (by decide) _ r0_8.emb (fun p => ⟨896 + p.val, by have := p.isLt; omega⟩) (fun _ => ⟨rfl, rfl⟩) (fun _ => rfl)
    (fun a q => by unfold k0_pay4; pointwise) z

theorem out4_at (i : S1024x1024.Idx) : out0_4 x0 x1 x2 i = heads x0 x1 x2 i := by
  unfold out0_4 k0_pay12
  simp only [View.ld_unit_zero (S := S1024x1024) hz]
  refine View.canon_apply_of_pieces (Val := Elt Ideal) (heads x0 x1 x2) _ ?_ i (cover0_4 _ _ _ _ _ _ _ _ i)
  intro p hp
  simp only [List.mem_cons, List.not_mem_nil, or_false] at hp
  rcases hp with rfl | rfl | rfl | rfl | rfl | rfl | rfl | rfl
  · exact piece_7 x0 x1 x2
  · exact piece_6 x0 x1 x2
  · exact piece_5 x0 x1 x2
  · exact piece_4 x0 x1 x2
  · exact piece_3 x0 x1 x2
  · exact piece_2 x0 x1 x2
  · exact piece_1 x0 x1 x2
  · exact piece_0 x0 x1 x2

end Body

/-! ## The blocks -/

section Blocks

variable (m : (ℓ : Loc nD τ sig) → Buf (Elt Ideal) ℓ) (c : Dev nD)

theorem N8 (t : Fin cfg0.N) : t.val < 8 := lt_of_lt_of_eq t.isLt N_0

/-- Row `a` of the block at point `t` is row `1024 t + a` of the array. -/
def row (t : Fin cfg0.N) (a : Fin 1024) : Fin 8192 := ⟨1024 * t.val + a.val, by have := N8 t; have := a.isLt; omega⟩

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)

theorem iblk_0 (t : Fin cfg0.N) (a : Fin 1024) (b : Fin 1024) :
    (iblk m c 0 t : Vec Ideal S1024x1024 .f32) (ix2 a b) = V m c main_arg2 (ix2 (row t a) b) := by
  have hN := N8 t
  refine congrArg (V m c main_arg2) (funext fun d => Fin.ext ?_)
  match d with
  | ⟨0, _⟩ => show win0_0.index t 0 * 1024 + 1 * a.val = 1024 * t.val + a.val; rw [(index_0 t).1]; omega
  | ⟨1, _⟩ => show win0_0.index t 1 * 1024 + 1 * b.val = b.val; rw [(index_0 t).2]; omega

theorem iblk_1 (t : Fin cfg0.N) (a : Fin 1024) (b : Fin 1024) :
    (iblk m c 1 t : Vec Ideal S1024x1024 .f32) (ix2 a b) = V m c main_arg0 (ix2 (row t a) b) := by
  have hN := N8 t
  refine congrArg (V m c main_arg0) (funext fun d => Fin.ext ?_)
  match d with
  | ⟨0, _⟩ => show win0_1.index t 0 * 1024 + 1 * a.val = 1024 * t.val + a.val; rw [(index_1 t).1]; omega
  | ⟨1, _⟩ => show win0_1.index t 1 * 1024 + 1 * b.val = b.val; rw [(index_1 t).2]; omega

theorem iblk_2 (t : Fin cfg0.N) (k : Fin 1024) (b : Fin 1024) :
    (iblk m c 2 t : Vec Ideal S1024x1024 .bf16) (ix2 k b) = V m c main_v0 (ix2 k b) := by
  have hN := N8 t
  refine congrArg (V m c main_v0) (funext fun d => Fin.ext ?_)
  match d with
  | ⟨0, _⟩ => show win0_2.index t 0 * 1024 + 1 * k.val = k.val; rw [(index_2 t).1]; omega
  | ⟨1, _⟩ => show win0_2.index t 1 * 1024 + 1 * b.val = b.val; rw [(index_2 t).2]; omega

/-- Every row is in a block. -/
theorem row_of (r : Fin 8192) : ∃ (t : Fin cfg0.N) (a : Fin 1024), row t a = r := by
  have ht : r.val / 1024 < cfg0.N := by have := r.isLt; have : cfg0.N = 8 := N_0; omega
  exact ⟨⟨r.val / 1024, ht⟩, ⟨r.val % 1024, Nat.mod_lt _ (by decide)⟩, Fin.ext (Nat.div_add_mod _ _)⟩

theorem emb_3 (t : Fin cfg0.N) (a : Fin 1024) (b : Fin 1024) :
    ((cfg0.win 3).blk t).view.emb (ix2 a b) = (ix2 (row t a) b) := by
  have hN := N8 t
  funext d
  apply Fin.ext
  match d with
  | ⟨0, _⟩ => show win0_3.index t 0 * 1024 + 1 * a.val = 1024 * t.val + a.val; rw [(index_3 t).1]; omega
  | ⟨1, _⟩ => show win0_3.index t 1 * 1024 + 1 * b.val = b.val; rw [(index_3 t).2]; omega

theorem emb_4 (t : Fin cfg0.N) (a : Fin 1024) (b : Fin 1024) :
    ((cfg0.win 4).blk t).view.emb (ix2 a b) = (ix2 (row t a) b) := by
  have hN := N8 t
  funext d
  apply Fin.ext
  match d with
  | ⟨0, _⟩ => show win0_4.index t 0 * 1024 + 1 * a.val = 1024 * t.val + a.val; rw [(index_4 t).1]; omega
  | ⟨1, _⟩ => show win0_4.index t 1 * 1024 + 1 * b.val = b.val; rw [(index_4 t).2]; omega

theorem cover_3 (i : S8192x1024.Idx) :
    ∃ t : Fin cfg0.N, (cfg0.win 3).flush t = true ∧ i ∈ ((cfg0.win 3).blk t).view.set := by
  obtain ⟨t, a, h⟩ := row_of (i 0)
  have e := emb_3 t a (i 1)
  rw [h] at e
  exact ⟨t, flush0_3 _, (e.trans (eq_ix2 i).symm) ▸ View.emb_mem_set _ _⟩

theorem cover_4 (i : S8192x1024.Idx) :
    ∃ t : Fin cfg0.N, (cfg0.win 4).flush t = true ∧ i ∈ ((cfg0.win 4).blk t).view.set := by
  obtain ⟨t, a, h⟩ := row_of (i 0)
  have e := emb_4 t a (i 1)
  rw [h] at e
  exact ⟨t, flush0_4 _, (e.trans (eq_ix2 i).symm) ▸ View.emb_mem_set _ _⟩

theorem weight_at (k b : Fin 1024) : V m c main_v0 (ix2 k b) = m ((c : Thread nD τ).loc main_arg1) (ix2 k b) := by
  unfold V
  after_reads_simp
  rfl

/-- The first result: the gradient of the attention output. -/
def result3 : S8192x1024.Idx → EReal := fun i =>
  doE (fun k => m ((c : Thread nD τ).loc main_arg2) (ix2 (i 0) k)) (fun b k => m ((c : Thread nD τ).loc main_arg1) (ix2 b k)) (i 1)

/-- The second: every head's sum. -/
def result4 : S8192x1024.Idx → EReal := fun i =>
  deltaE (fun k => m ((c : Thread nD τ).loc main_arg2) (ix2 (i 0) k)) (fun k => m ((c : Thread nD τ).loc main_arg0) (ix2 (i 0) k)) (fun b k => m ((c : Thread nD τ).loc main_arg1) (ix2 b k)) (i 1)

theorem cot_row (t : Fin cfg0.N) (a : Fin 1024) : (fun k => (iblk m c 0 t : Vec Ideal S1024x1024 .f32) (ix2 a k))
    = fun k => m ((c : Thread nD τ).loc main_arg2) (ix2 (row t a) k) := by
  funext k
  rw [iblk_0, V_main_arg2]

theorem out_row (t : Fin cfg0.N) (a : Fin 1024) : (fun k => (iblk m c 1 t : Vec Ideal S1024x1024 .f32) (ix2 a k))
    = fun k => m ((c : Thread nD τ).loc main_arg0) (ix2 (row t a) k) := by
  funext k
  rw [iblk_1, V_main_arg0]

theorem weight_all (t : Fin cfg0.N) : (fun b k => (iblk m c 2 t : Vec Ideal S1024x1024 .bf16) (ix2 b k))
    = fun b k => m ((c : Thread nD τ).loc main_arg1) (ix2 b k) := by
  funext b k
  rw [iblk_2, weight_at]

theorem flushed_3 (t : Fin cfg0.N) :
    (dats m 0 c).flushed 3 t = ((cfg0.win 3).blk t).view.read (Elt Ideal) (result3 m c) := by
  rw [Value.flushed3]
  funext j
  rw [View.read_apply]
  obtain ⟨a, b, rfl⟩ : ∃ (a : Fin 1024) (b : Fin 1024), j = ix2 a b := ⟨j 0, j 1, eq_ix2 _⟩
  rw [emb_3]
  show out0_3 (F := Ideal) (iblk m c 0 t) (iblk m c 1 t) (iblk m c 2 t) (ix2 a b) = result3 m c (ix2 (row t a) b)
  rw [out3_at, cot_row, weight_all]
  rfl

/-- The first result array after the run. -/
theorem final_3 : (dats m 0 c).arrAt 3 cfg0.N = result3 m c :=
  (dats m 0 c).arrAt_eq_of_cover 3 (result3 m c) (fun t _ => flushed_3 m c t) cover_3

theorem flushed_4 (t : Fin cfg0.N) :
    (dats m 0 c).flushed 4 t = ((cfg0.win 4).blk t).view.read (Elt Ideal) (result4 m c) := by
  rw [Value.flushed4]
  funext j
  rw [View.read_apply]
  obtain ⟨a, b, rfl⟩ : ∃ (a : Fin 1024) (b : Fin 1024), j = ix2 a b := ⟨j 0, j 1, eq_ix2 _⟩
  rw [emb_4]
  show out0_4 (F := Ideal) (iblk m c 0 t) (iblk m c 1 t) (iblk m c 2 t) (ix2 a b) = result4 m c (ix2 (row t a) b)
  rw [out4_at]
  show deltaE (fun k => (iblk m c 0 t : Vec Ideal S1024x1024 .f32) (ix2 a k)) (fun k => (iblk m c 1 t : Vec Ideal S1024x1024 .f32) (ix2 a k))
    (fun b k => (iblk m c 2 t : Vec Ideal S1024x1024 .bf16) (ix2 b k)) b = _
  rw [cot_row, out_row, weight_all]
  rfl

/-- The second result array after the run. -/
theorem final_4 : (dats m 0 c).arrAt 4 cfg0.N = result4 m c :=
  (dats m 0 c).arrAt_eq_of_cover 4 (result4 m c) (fun t _ => flushed_4 m c t) cover_4

end Blocks

end Cert.AttnOutBackIdeal.RealValue

end
-- ==== Proof.AttnOutBack.lean ====
/- The claims about `AttnOutBack`: the gradient of the attention output and its head sums are the reference's. -/
module

public import proofs.«01_k».proof.Defs
public import proofs.«01_k».proof.Proof.AttnOutBackKernel
public import proofs.«01_k».proof.Proof.Gen.AttnOutBackRefIdeal.Run
public import proofs.«01_k».proof.Proof.Gen.AttnOutBackRefIdeal.Read

@[expose] public section

noncomputable section

namespace Cert.AttnOutBackClaim

open Idealize.ShloMosaic Idealize.ShloMosaic.TcCoe Idealize.SL.Sem Cert.Layout Cert.AttnOutBackIdeal.RealValue

open Cert.AttnOutBackRefIdeal Cert.AttnOutBackRefIdeal.Read in
/-- The gradient at an entry. -/
theorem v1_entry (x1 : FVec Ideal S1024x1024 .f32) (x2 : FVec Ideal S8192x1024 .f32) (r : Fin 8192) (b : Fin 1024) :
    val_main_v1 (F := Ideal) x1 x2 (ix2 r b) = doE (fun k => x2 (ix2 r k)) (fun b k => x1 (ix2 b k)) b := by
  unfold val_main_v1
  pointwise [dot_S8192x1024_S1024x1024_S8192x1024_1_1_0_0_n_n]
  rfl

open Cert.AttnOutBackRefIdeal Cert.AttnOutBackRefIdeal.Read in
/-- A head's sum at an entry. -/
theorem v8_entry (x0 : FVec Ideal S8192x1024 .f32) (x1 : FVec Ideal S1024x1024 .f32) (x2 : FVec Ideal S8192x1024 .f32) (r : Fin 8192) (b : Fin 1024) :
    val_main_v8 (F := Ideal) x0 x1 x2 (ix2 r b)
      = deltaE (fun k => x2 (ix2 r k)) (fun k => x0 (ix2 r k)) (fun b k => x1 (ix2 b k)) b := by
  unfold val_main_v8 val_main_v7 val_main_v5 val_main_v4 val_main_v3 val_main_v2 val_main_cst
  generalize hg : val_main_v1 (F := Ideal) x1 x2 = g
  pointwise
  unfold deltaE
  refine Finset.sum_congr rfl fun q _ => ?_
  subst hg
  rw [← v1_entry x1 x2 r (mate b q)]
  rfl

/-- The reference's frame, from its generated run. -/
theorem reference_frame : quiescent_AttnOutBackRefIdeal := fun m ρ _ =>
  (θ_run AttnOutBackRefIdeal.defs _ _).mono
    (fun r h => ⟨fun c => (h c).2.2, sem_eq_zero_of_no_sems (by decide) r.2⟩)
    (AttnOutBackRefIdeal.Value.run (F := Ideal) m ρ)

/-- The value claim. -/
theorem algebraic : algebraic_AttnOutBackIdeal_AttnOutBackRefIdeal := by
  intro m ρ m' ρ' _ hag
  refine ⟨fun c => AttnOutBackIdeal.RealValue.result3 m c, fun c => AttnOutBackIdeal.RealValue.result4 m c, ?_, ?_⟩
  · exact (θ_run AttnOutBackIdeal.defs _ _).mono (fun r h c => ⟨((h c).1).trans (AttnOutBackIdeal.RealValue.final_3 m c), ((h c).2.1).trans (AttnOutBackIdeal.RealValue.final_4 m c), (h c).2.2⟩) (AttnOutBackIdeal.Value.run_blocks m ρ)
  · refine (θ_run AttnOutBackRefIdeal.defs _ _).mono (fun r h c => ⟨((h c).1).trans ?_, ((h c).2.1).trans ?_, (h c).2.2⟩) (AttnOutBackRefIdeal.Value.run (F := Ideal) m' ρ')
    · rw [(hag c).2.1, (hag c).2.2]
      refine (AttnOutBackRefIdeal.Read.val_main_v6_eq _ _).trans ?_
      funext i
      obtain ⟨u, v, rfl⟩ : ∃ (u : Fin 8192) (v : Fin 1024), i = ix2 u v := ⟨i 0, i 1, eq_ix2 _⟩
      exact v1_entry _ _ u v
    · rw [(hag c).1, (hag c).2.1, (hag c).2.2]
      refine (AttnOutBackRefIdeal.Read.val_main_v8_eq _ _ _).trans ?_
      funext i
      obtain ⟨u, v, rfl⟩ : ∃ (u : Fin 8192) (v : Fin 1024), i = ix2 u v := ⟨i 0, i 1, eq_ix2 _⟩
      exact v8_entry _ _ _ u v

end Cert.AttnOutBackClaim

end
-- ==== Proof.ConvPreKernel.lean ====
/- What the kernel `ConvPreIdeal` leaves in its three result arrays: the normed rows, their product with the weight, and the
   gated halves of the product. -/
module

public import proofs.«01_k».proof.Proof.FfnExt
public import proofs.«01_k».proof.Proof.Gen.ConvPreIdeal.Value
public import Idealize.ShloMosaic.Lib.StableHlo.RunRead

@[expose] public section

noncomputable section

namespace Cert.ConvPreIdeal.RealValue

open Cert.ConvPreIdeal Cert.ConvPreIdeal.Gen Cert.RealValue Cert.Layout Cert.FfnExt
open Idealize.ShloMosaic Idealize.ShloMosaic.TcCoe Idealize.SL.Sem

/-! ## The functions of one row -/

/-- The gated half: the left half of the product times the logistic function of the right half. -/
def glu (a b : EReal) : EReal := a * Ideal.div 1 (1 + Ideal.exp (-b))

/-- A column of the left half, -/
def lo (b : Fin 1024) : Fin 2048 := ⟨b.val, by have := b.isLt; omega⟩
/-- and of the right half. -/
def hi (b : Fin 1024) : Fin 2048 := ⟨1024 + b.val, by have := b.isLt; omega⟩

/-! ## The body's results at an index -/

section Body

variable (x0 : Vec Ideal S512x1024 .f32) (x1 : Vec Ideal S1x1024 .f32) (x2 : Vec Ideal S1024x2048 .bf16)

theorem pay1_at (a : Fin 512) (b : Fin 1024) :
    k0_pay1 x0 x1 (ix2 a b) = norm (fun k => x0 (ix2 a k)) (fun k => x1 (ix2 0 k)) b := by
  unfold k0_pay1
  pointwise
  rfl

theorem pay2_at (a : Fin 512) (b : Fin 2048) : k0_pay2 x0 x1 x2 (ix2 a b)
    = act (norm (fun k => x0 (ix2 a k)) (fun k => x1 (ix2 0 k))) (fun k => x2 (ix2 k b)) := by
  unfold k0_pay2
  generalize hg : k0_pay1 x0 x1 = g
  pointwise [dot_S512x1024_S1024x2048_S512x2048_1_0_0_1_n_n]
  subst hg
  unfold act
  exact Finset.sum_congr rfl fun k _ => congrArg (· * x2 (ix2 k b)) (pay1_at x0 x1 a k)

theorem pay3_at (a : Fin 512) (b : Fin 1024) : k0_pay3 x0 x1 x2 (ix2 a b)
    = glu (k0_pay2 x0 x1 x2 (ix2 a (lo b))) (k0_pay2 x0 x1 x2 (ix2 a (hi b))) := by
  unfold k0_pay3
  generalize k0_pay2 x0 x1 x2 = g
  pointwise
  unfold glu
  simp only [zero_sub]
  rfl

theorem out3_at (a : Fin 512) (b : Fin 1024) :
    out0_3 x0 x1 x2 (ix2 a b) = norm (fun k => x0 (ix2 a k)) (fun k => x1 (ix2 0 k)) b := by
  unfold out0_3
  rw [View.canon_unit_zero hz]
  simp only [View.ld_unit_zero (S := S512x1024) hz, View.ld_unit_zero (S := S1x1024) hz]
  exact pay1_at x0 x1 a b

theorem out4_at (a : Fin 512) (b : Fin 2048) : out0_4 x0 x1 x2 (ix2 a b)
    = act (norm (fun k => x0 (ix2 a k)) (fun k => x1 (ix2 0 k))) (fun k => x2 (ix2 k b)) := by
  unfold out0_4
  rw [View.canon_unit_zero hz]
  simp only [View.ld_unit_zero (S := S512x1024) hz, View.ld_unit_zero (S := S1x1024) hz, View.ld_unit_zero (S := S1024x2048) hz]
  exact pay2_at x0 x1 x2 a b

theorem out5_at (a : Fin 512) (b : Fin 1024) : out0_5 x0 x1 x2 (ix2 a b)
    = glu (act (norm (fun k => x0 (ix2 a k)) (fun k => x1 (ix2 0 k))) (fun k => x2 (ix2 k (lo b))))
        (act (norm (fun k => x0 (ix2 a k)) (fun k => x1 (ix2 0 k))) (fun k => x2 (ix2 k (hi b)))) := by
  unfold out0_5
  rw [View.canon_unit_zero hz]
  simp only [View.ld_unit_zero (S := S512x1024) hz, View.ld_unit_zero (S := S1x1024) hz, View.ld_unit_zero (S := S1024x2048) hz]
  rw [pay3_at, pay2_at, pay2_at]

end Body

/-! ## The blocks -/

section Blocks

variable (m : (ℓ : Loc nD τ sig) → Buf (Elt Ideal) ℓ) (c : Dev nD)

theorem N16 (t : Fin cfg0.N) : t.val < 16 := lt_of_lt_of_eq t.isLt N_0

/-- Row `a` of the block at point `t` is row `512 t + a` of the array. -/
def row (t : Fin cfg0.N) (a : Fin 512) : Fin 8192 := ⟨512 * t.val + a.val, by have := N16 t; have := a.isLt; omega⟩

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = t.val ∧ win0_3.index t 1 = 0 :=
  (by decide +kernel : ∀ t : Fin grid0.N, win0_3.index t 0 = t.val ∧ win0_3.index t 1 = 0)
theorem index_4 : ∀ t : Fin cfg0.N, win0_4.index t 0 = t.val ∧ win0_4.index t 1 = 0 :=
  (by decide +kernel : ∀ t : Fin grid0.N, win0_4.index t 0 = t.val ∧ win0_4.index t 1 = 0)
theorem index_5 : ∀ t : Fin cfg0.N, win0_5.index t 0 = t.val ∧ win0_5.index t 1 = 0 :=
  (by decide +kernel : ∀ t : Fin grid0.N, win0_5.index t 0 = t.val ∧ win0_5.index t 1 = 0)

theorem iblk_0 (t : Fin cfg0.N) (a : Fin 512) (b : Fin 1024) :
    (iblk m c 0 t : Vec Ideal S512x1024 .f32) (ix2 a b) = V m c main_arg0 (ix2 (row t a) b) := by
  have hN := N16 t
  refine congrArg (V m c main_arg0) (funext fun d => Fin.ext ?_)
  match d with
  | ⟨0, _⟩ => show win0_0.index t 0 * 512 + 1 * a.val = 512 * t.val + a.val; rw [(index_0 t).1]; omega
  | ⟨1, _⟩ => show win0_0.index t 1 * 1024 + 1 * b.val = b.val; rw [(index_0 t).2]; omega

theorem iblk_1 (t : Fin cfg0.N) (b : Fin 1024) :
    (iblk m c 1 t : Vec Ideal S1x1024 .f32) (ix2 (0 : Fin 1) b) = V m c main_v0 (ix2 0 b) := by
  have hN := N16 t
  refine congrArg (V m c main_v0) (funext fun d => Fin.ext ?_)
  match d with
  | ⟨0, _⟩ => show win0_1.index t 0 * 1 + 1 * 0 = 0; rw [(index_1 t).1]
  | ⟨1, _⟩ => show win0_1.index t 1 * 1024 + 1 * b.val = b.val; rw [(index_1 t).2]; omega

theorem iblk_2 (t : Fin cfg0.N) (k : Fin 1024) (b : Fin 2048) :
    (iblk m c 2 t : Vec Ideal S1024x2048 .bf16) (ix2 k b) = V m c main_v1 (ix2 k b) := by
  have hN := N16 t
  refine congrArg (V m c main_v1) (funext fun d => Fin.ext ?_)
  match d with
  | ⟨0, _⟩ => show win0_2.index t 0 * 1024 + 1 * k.val = k.val; rw [(index_2 t).1]; omega
  | ⟨1, _⟩ => show win0_2.index t 1 * 2048 + 1 * b.val = b.val; rw [(index_2 t).2]; omega

/-- Every row is in a block. -/
theorem row_of (r : Fin 8192) : ∃ (t : Fin cfg0.N) (a : Fin 512), row t a = r := by
  have ht : r.val / 512 < cfg0.N := by have := r.isLt; have : cfg0.N = 16 := N_0; omega
  exact ⟨⟨r.val / 512, ht⟩, ⟨r.val % 512, Nat.mod_lt _ (by decide)⟩, Fin.ext (Nat.div_add_mod _ _)⟩

theorem emb_3 (t : Fin cfg0.N) (a : Fin 512) (b : Fin 1024) :
    ((cfg0.win 3).blk t).view.emb (ix2 a b) = (ix2 (row t a) b) := by
  have hN := N16 t
  funext d
  apply Fin.ext
  match d with
  | ⟨0, _⟩ => show win0_3.index t 0 * 512 + 1 * a.val = 512 * t.val + a.val; rw [(index_3 t).1]; omega
  | ⟨1, _⟩ => show win0_3.index t 1 * 1024 + 1 * b.val = b.val; rw [(index_3 t).2]; omega

theorem emb_4 (t : Fin cfg0.N) (a : Fin 512) (b : Fin 2048) :
    ((cfg0.win 4).blk t).view.emb (ix2 a b) = (ix2 (row t a) b) := by
  have hN := N16 t
  funext d
  apply Fin.ext
  match d with
  | ⟨0, _⟩ => show win0_4.index t 0 * 512 + 1 * a.val = 512 * t.val + a.val; rw [(index_4 t).1]; omega
  | ⟨1, _⟩ => show win0_4.index t 1 * 2048 + 1 * b.val = b.val; rw [(index_4 t).2]; omega

theorem emb_5 (t : Fin cfg0.N) (a : Fin 512) (b : Fin 1024) :
    ((cfg0.win 5).blk t).view.emb (ix2 a b) = (ix2 (row t a) b) := by
  have hN := N16 t
  funext d
  apply Fin.ext
  match d with
  | ⟨0, _⟩ => show win0_5.index t 0 * 512 + 1 * a.val = 512 * t.val + a.val; rw [(index_5 t).1]; omega
  | ⟨1, _⟩ => show win0_5.index t 1 * 1024 + 1 * b.val = b.val; rw [(index_5 t).2]; omega

theorem cover_3 (i : S8192x1024.Idx) :
    ∃ t : Fin cfg0.N, (cfg0.win 3).flush t = true ∧ i ∈ ((cfg0.win 3).blk t).view.set := by
  obtain ⟨t, a, h⟩ := row_of (i 0)
  have e := emb_3 t a (i 1)
  rw [h] at e
  exact ⟨t, flush0_3 _, (e.trans (eq_ix2 i).symm) ▸ View.emb_mem_set _ _⟩

theorem cover_4 (i : S8192x2048.Idx) :
    ∃ t : Fin cfg0.N, (cfg0.win 4).flush t = true ∧ i ∈ ((cfg0.win 4).blk t).view.set := by
  obtain ⟨t, a, h⟩ := row_of (i 0)
  have e := emb_4 t a (i 1)
  rw [h] at e
  exact ⟨t, flush0_4 _, (e.trans (eq_ix2 i).symm) ▸ View.emb_mem_set _ _⟩

theorem cover_5 (i : S8192x1024.Idx) :
    ∃ t : Fin cfg0.N, (cfg0.win 5).flush t = true ∧ i ∈ ((cfg0.win 5).blk t).view.set := by
  obtain ⟨t, a, h⟩ := row_of (i 0)
  have e := emb_5 t a (i 1)
  rw [h] at e
  exact ⟨t, flush0_5 _, (e.trans (eq_ix2 i).symm) ▸ View.emb_mem_set _ _⟩

theorem scale_at (b : Fin 1024) : V m c main_v0 (ix2 (0 : Fin 1) b) = m ((c : Thread nD τ).loc main_arg1) (ix1 b) := by
  have e : V m c main_v0 = broadcastInDim S1x1024 ![1] bcast_S1024_S1x1024_1 (m ((c : Thread nD τ).loc main_arg1)) := by
    unfold V
    after_reads_simp
  rw [e]
  pointwise

theorem weight_at (k : Fin 1024) (b : Fin 2048) : V m c main_v1 (ix2 k b) = m ((c : Thread nD τ).loc main_arg2) (ix2 k b) := by
  unfold V
  after_reads_simp
  rfl

/-- The normed row, -/
def normed (r : Fin 8192) : Fin 1024 → EReal := norm (fun k => m ((c : Thread nD τ).loc main_arg0) (ix2 r k)) (fun k => m ((c : Thread nD τ).loc main_arg1) (ix1 k))
/-- and its product with a column of the weight. -/
def prod (r : Fin 8192) (b : Fin 2048) : EReal := act (normed m c r) (fun k => m ((c : Thread nD τ).loc main_arg2) (ix2 k b))

/-- The first result: the normed rows. -/
def result3 : S8192x1024.Idx → EReal := fun i => normed m c (i 0) (i 1)
/-- The second: the product. -/
def result4 : S8192x2048.Idx → EReal := fun i => prod m c (i 0) (i 1)
/-- The third: its gated halves. -/
def result5 : S8192x1024.Idx → EReal := fun i => glu (prod m c (i 0) (lo (i 1))) (prod m c (i 0) (hi (i 1)))

theorem normed_row (t : Fin cfg0.N) (a : Fin 512) : norm (fun k => (iblk m c 0 t : Vec Ideal S512x1024 .f32) (ix2 a k))
    (fun k => (iblk m c 1 t : Vec Ideal S1x1024 .f32) (ix2 0 k)) = normed m c (row t a) :=
  congrArg₂ norm (funext fun k => by rw [iblk_0, V_main_arg0]) (funext fun k => by rw [iblk_1, scale_at])

theorem weight_col (t : Fin cfg0.N) (b : Fin 2048) : (fun k => (iblk m c 2 t : Vec Ideal S1024x2048 .bf16) (ix2 k b))
    = fun k => m ((c : Thread nD τ).loc main_arg2) (ix2 k b) :=
  funext fun k => by rw [iblk_2, weight_at]

theorem flushed_3 (t : Fin cfg0.N) :
    (dats m 0 c).flushed 3 t = ((cfg0.win 3).blk t).view.read (Elt Ideal) (result3 m c) := by
  rw [Value.flushed3]
  funext j
  rw [View.read_apply]
  obtain ⟨a, b, rfl⟩ : ∃ (a : Fin 512) (b : Fin 1024), j = ix2 a b := ⟨j 0, j 1, eq_ix2 _⟩
  rw [emb_3]
  show out0_3 (F := Ideal) (iblk m c 0 t) (iblk m c 1 t) (iblk m c 2 t) (ix2 a b) = result3 m c (ix2 (row t a) b)
  rw [out3_at, normed_row]
  rfl

/-- The first result array after the run. -/
theorem final_3 : (dats m 0 c).arrAt 3 cfg0.N = result3 m c :=
  (dats m 0 c).arrAt_eq_of_cover 3 (result3 m c) (fun t _ => flushed_3 m c t) cover_3

theorem flushed_4 (t : Fin cfg0.N) :
    (dats m 0 c).flushed 4 t = ((cfg0.win 4).blk t).view.read (Elt Ideal) (result4 m c) := by
  rw [Value.flushed4]
  funext j
  rw [View.read_apply]
  obtain ⟨a, b, rfl⟩ : ∃ (a : Fin 512) (b : Fin 2048), j = ix2 a b := ⟨j 0, j 1, eq_ix2 _⟩
  rw [emb_4]
  show out0_4 (F := Ideal) (iblk m c 0 t) (iblk m c 1 t) (iblk m c 2 t) (ix2 a b) = result4 m c (ix2 (row t a) b)
  rw [out4_at, normed_row, weight_col]
  rfl

/-- The second result array after the run. -/
theorem final_4 : (dats m 0 c).arrAt 4 cfg0.N = result4 m c :=
  (dats m 0 c).arrAt_eq_of_cover 4 (result4 m c) (fun t _ => flushed_4 m c t) cover_4

theorem flushed_5 (t : Fin cfg0.N) :
    (dats m 0 c).flushed 5 t = ((cfg0.win 5).blk t).view.read (Elt Ideal) (result5 m c) := by
  rw [Value.flushed5]
  funext j
  rw [View.read_apply]
  obtain ⟨a, b, rfl⟩ : ∃ (a : Fin 512) (b : Fin 1024), j = ix2 a b := ⟨j 0, j 1, eq_ix2 _⟩
  rw [emb_5]
  show out0_5 (F := Ideal) (iblk m c 0 t) (iblk m c 1 t) (iblk m c 2 t) (ix2 a b) = result5 m c (ix2 (row t a) b)
  rw [out5_at, normed_row, weight_col, weight_col]
  rfl

/-- The third result array after the run. -/
theorem final_5 : (dats m 0 c).arrAt 5 cfg0.N = result5 m c :=
  (dats m 0 c).arrAt_eq_of_cover 5 (result5 m c) (fun t _ => flushed_5 m c t) cover_5

end Blocks

end Cert.ConvPreIdeal.RealValue

end
-- ==== Proof.ConvPre.lean ====
/- The claims about `ConvPre`: the normed rows, their product and its gated halves are the reference's. -/
module

public import proofs.«01_k».proof.Defs
public import proofs.«01_k».proof.Proof.ConvPreKernel
public import proofs.«01_k».proof.Proof.Gen.ConvPreRefIdeal.Run
public import proofs.«01_k».proof.Proof.Gen.ConvPreRefIdeal.Read

@[expose] public section

noncomputable section

namespace Cert.ConvPreClaim

open Idealize.ShloMosaic Idealize.ShloMosaic.TcCoe Idealize.SL.Sem Cert.Layout Cert.FfnExt Cert.ConvPreIdeal.RealValue

open Cert.ConvPreRefIdeal Cert.ConvPreRefIdeal.Read in
/-- The normed rows at an entry. -/
theorem v12_entry (x0 : FVec Ideal S8192x1024 .f32) (x1 : FVec Ideal S1024 .f32) (r : Fin 8192) (b : Fin 1024) :
    val_main_v12 (F := Ideal) x0 x1 (ix2 r b) = norm (fun k => x0 (ix2 r k)) (fun k => x1 (ix1 k)) b := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

open Cert.ConvPreRefIdeal Cert.ConvPreRefIdeal.Read in
/-- The product at an entry. -/
theorem v13_entry (x0 : FVec Ideal S8192x1024 .f32) (x1 : FVec Ideal S1024 .f32) (x2 : FVec Ideal S1024x2048 .f32) (r : Fin 8192) (b : Fin 2048) :
    val_main_v13 (F := Ideal) x0 x1 x2 (ix2 r b) = act (norm (fun k => x0 (ix2 r k)) (fun k => x1 (ix1 k))) (fun k => x2 (ix2 k b)) := by
  unfold val_main_v13
  generalize hg : val_main_v12 (F := Ideal) x0 x1 = g
  pointwise [dot_S8192x1024_S1024x2048_S8192x2048_1_0_0_1_n_n]
  subst hg
  unfold act
  exact Finset.sum_congr rfl fun k _ => congrArg (· * x2 (ix2 k b)) (v12_entry x0 x1 r k)

open Cert.ConvPreRefIdeal Cert.ConvPreRefIdeal.Read in
/-- Its gated halves at an entry. -/
theorem v23_entry (x0 : FVec Ideal S8192x1024 .f32) (x1 : FVec Ideal S1024 .f32) (x2 : FVec Ideal S1024x2048 .f32) (r : Fin 8192) (b : Fin 1024) :
    val_main_v23 (F := Ideal) x0 x1 x2 (ix2 r b)
      = glu (act (norm (fun k => x0 (ix2 r k)) (fun k => x1 (ix1 k))) (fun k => x2 (ix2 k (lo b)))) (act (norm (fun k => x0 (ix2 r k)) (fun k => x1 (ix1 k))) (fun k => x2 (ix2 k (hi b)))) := by
  rw [← v13_entry, ← v13_entry]
  unfold val_main_v23 val_main_v22 val_main_v21 val_main_v20 val_main_v19 val_main_v18 val_main_v17 val_main_v15 val_main_v14
    val_main_cst_2 val_main_cst_3
  generalize val_main_v13 (F := Ideal) x0 x1 x2 = g
  pointwise
  rfl

/-- The reference's frame, from its generated run. -/
theorem reference_frame : quiescent_ConvPreRefIdeal := fun m ρ _ =>
  (θ_run ConvPreRefIdeal.defs _ _).mono
    (fun r h => ⟨fun c => (h c).2.2.2, sem_eq_zero_of_no_sems (by decide) r.2⟩)
    (ConvPreRefIdeal.Value.run (F := Ideal) m ρ)

/-- The value claim. -/
theorem algebraic : algebraic_ConvPreIdeal_ConvPreRefIdeal := by
  intro m ρ m' ρ' _ hag
  refine ⟨fun c => ConvPreIdeal.RealValue.result3 m c, fun c => ConvPreIdeal.RealValue.result4 m c, fun c => ConvPreIdeal.RealValue.result5 m c, ?_, ?_⟩
  · exact (θ_run ConvPreIdeal.defs _ _).mono (fun r h c => ⟨((h c).1).trans (ConvPreIdeal.RealValue.final_3 m c), ((h c).2.1).trans (ConvPreIdeal.RealValue.final_4 m c), ((h c).2.2.1).trans (ConvPreIdeal.RealValue.final_5 m c), (h c).2.2.2⟩) (ConvPreIdeal.Value.run_blocks m ρ)
  · refine (θ_run ConvPreRefIdeal.defs _ _).mono (fun r h c => ⟨((h c).1).trans ?_, ((h c).2.1).trans ?_, ((h c).2.2.1).trans ?_, (h c).2.2.2⟩) (ConvPreRefIdeal.Value.run (F := Ideal) m' ρ')
    · rw [(hag c).1, (hag c).2.1]
      refine (ConvPreRefIdeal.Read.val_main_v16_eq _ _).trans ?_
      funext i
      obtain ⟨u, v, rfl⟩ : ∃ (u : Fin 8192) (v : Fin 1024), i = ix2 u v := ⟨i 0, i 1, eq_ix2 _⟩
      exact v12_entry _ _ u v
    · rw [(hag c).1, (hag c).2.1, (hag c).2.2]
      refine (ConvPreRefIdeal.Read.val_main_v13_eq _ _ _).trans ?_
      funext i
      obtain ⟨u, v, rfl⟩ : ∃ (u : Fin 8192) (v : Fin 2048), i = ix2 u v := ⟨i 0, i 1, eq_ix2 _⟩
      exact v13_entry _ _ _ u v
    · rw [(hag c).1, (hag c).2.1, (hag c).2.2]
      refine (ConvPreRefIdeal.Read.val_main_v23_eq _ _ _).trans ?_
      funext i
      obtain ⟨u, v, rfl⟩ : ∃ (u : Fin 8192) (v : Fin 1024), i = ix2 u v := ⟨i 0, i 1, eq_ix2 _⟩
      exact v23_entry _ _ _ u v

end Cert.ConvPreClaim

end
-- ==== Proof.MlaExt.lean ====
/- The latent attention before its softmax, over the extended reals: the norms, the rotation by position, and the layouts of
   queries, keys and values. No value here needs a finite argument. -/
module

public import proofs.«01_k».proof.Proof.Tails

@[expose] public section

noncomputable section

namespace Cert.MlaExt

open Idealize.ShloMosaic Cert.Layout

/-- The normed row: the row over the root of its mean square and a small constant, scaled; `w` is the row's length. -/
def normN {n : ℕ} (w : EReal) (x g : Fin n → EReal) (k : Fin n) : EReal :=
  x k * Ideal.rsqrt (Ideal.div (∑ k', x k' * x k') w + Ideal.ofBits FTy.f32 0x358637BD#32) * g k

/-- The three lengths. -/
def w1024 : EReal := Ideal.ofBits FTy.f32 0x44800000#32
def w512 : EReal := Ideal.ofBits FTy.f32 0x44000000#32
def w256 : EReal := Ideal.ofBits FTy.f32 0x43800000#32

/-- The factor of the scores. -/
def scale : EReal := Ideal.ofBits FTy.f32 0x3D93CD3A#32

/-- A row times a column. -/
def rowcol {n : ℕ} (x w : Fin n → EReal) : EReal := ∑ k, x k * w k

/-! ## The rotation -/

/-- The rotation of 64 entries by 32 angles: the first half takes the second half's sines away, the second adds the first's. -/
def rope (f : Fin 64 → EReal) (cos sin : Fin 32 → EReal) (d : Fin 64) : EReal :=
  if h : d.val < 32 then f d * cos ⟨d.val, h⟩ - f ⟨d.val + 32, by omega⟩ * sin ⟨d.val, h⟩
  else f d * cos ⟨d.val - 32, by have := d.isLt; omega⟩ + f ⟨d.val - 32, by have := d.isLt; omega⟩ * sin ⟨d.val - 32, by have := d.isLt; omega⟩

/-- The same on 128 entries turned round by 32 either way, with a table of cosines and two of sines. -/
def turn (f cs sa sb : Fin 128 → EReal) (l : Fin 128) : EReal :=
  f l * cs l - f ⟨(l.val + 32) % 128, Nat.mod_lt _ (by decide)⟩ * sa l + f ⟨(l.val + 96) % 128, Nat.mod_lt _ (by decide)⟩ * sb l

/-- The table of cosines, -/
def csE (cos : Fin 32 → EReal) (l : Fin 128) : EReal :=
  if h : l.val < 32 then cos ⟨l.val, h⟩ else if h' : l.val < 64 then cos ⟨l.val - 32, by omega⟩ else 0
/-- the sines of the first half, -/
def saE (sin : Fin 32 → EReal) (l : Fin 128) : EReal := if h : l.val < 32 then sin ⟨l.val, h⟩ else 0
/-- and of the second. -/
def sbE (sin : Fin 32 → EReal) (l : Fin 128) : EReal :=
  if l.val < 32 then 0 else if h' : l.val < 64 then sin ⟨l.val - 32, by omega⟩ else 0

/-- The turned form with the three tables is the rotation, and zero past its 64 entries. -/
theorem turn_eq (f : Fin 128 → EReal) (g : Fin 64 → EReal) (hf : ∀ l : Fin 64, f ⟨l.val, by have := l.isLt; omega⟩ = g l)
    (cos sin : Fin 32 → EReal) (l : Fin 128) :
    turn f (csE cos) (saE sin) (sbE sin) l = if h : l.val < 64 then rope g cos sin ⟨l.val, h⟩ else 0 := by
  have hl := l.isLt
  unfold turn csE saE sbE
  by_cases h : l.val < 32
  · rw [dif_pos h, dif_pos h, if_pos h, dif_pos (by omega), mul_zero, add_zero]
    unfold rope
    rw [dif_pos h, ← hf, ← hf]
    refine congrArg₂ (· - ·) rfl (congrArg (fun j => f j * _) (Fin.ext ?_))
    show (l.val + 32) % 128 = l.val + 32
    omega
  · by_cases h' : l.val < 64
    · rw [dif_neg h, dif_neg h, if_neg h, dif_pos h', dif_pos h', dif_pos h', mul_zero, sub_zero]
      unfold rope
      rw [dif_neg h, ← hf, ← hf]
      refine congrArg₂ (· + ·) rfl (congrArg (fun j => f j * _) (Fin.ext ?_))
      show (l.val + 96) % 128 = l.val - 32
      omega
    · rw [dif_neg h, dif_neg h, if_neg h, dif_neg h', dif_neg h', dif_neg h', mul_zero, mul_zero, mul_zero, sub_zero, add_zero]

/-! ## The heads -/

/-- Column `l` of the second half of the head that column `j` is in. -/
def half (j : Fin 2048) (l : Fin 128) : Fin 2048 := ⟨j.val / 256 * 256 + 128 + l.val, by have := j.isLt; have := l.isLt; omega⟩
/-- A column within its half. -/
def lane (j : Fin 2048) : Fin 128 := ⟨j.val % 128, Nat.mod_lt _ (by decide)⟩

/-- Eight heads of 256 columns, of which the second half is turned: of one row `q`, -/
def turnQ (q : Fin 2048 → EReal) (cs sa sb : Fin 128 → EReal) (j : Fin 2048) : EReal :=
  if j.val % 256 < 128 then q j else turn (fun l => q (half j l)) cs sa sb (lane j)
/-- or the same `r` in every head. -/
def withK (kv : Fin 2048 → EReal) (r : Fin 128 → EReal) (j : Fin 2048) : EReal :=
  if j.val % 256 < 128 then kv j else r (lane j)
/-- The second halves alone. -/
def seconds (kv : Fin 2048 → EReal) (j : Fin 1024) : EReal :=
  kv ⟨j.val / 128 * 256 + 128 + j.val % 128, by have := j.isLt; omega⟩

/-- A head's query: 128 entries as they are, then 64 turned. -/
def queryE (q : Fin 8 → Fin 192 → EReal) (cos sin : Fin 32 → EReal) (a : Fin 8) (d : Fin 192) : EReal :=
  if h : d.val < 128 then q a d else rope (fun e => q a ⟨128 + e.val, by have := e.isLt; omega⟩) cos sin ⟨d.val - 128, by have := d.isLt; omega⟩
/-- A head's key: 128 entries of its own, then 64 that the heads share. -/
def keyE (kv : Fin 8 → Fin 256 → EReal) (r : Fin 64 → EReal) (a : Fin 8) (d : Fin 192) : EReal :=
  if h : d.val < 128 then kv a ⟨d.val, by omega⟩ else r ⟨d.val - 128, by have := d.isLt; omega⟩
/-- A head's value: the second 128 entries. -/
def valueE (kv : Fin 8 → Fin 256 → EReal) (j : Fin 1024) : EReal :=
  kv ⟨j.val / 128, by have := j.isLt; omega⟩ ⟨128 + j.val % 128, by omega⟩

theorem turnQ_eq (q : Fin 8 → Fin 192 → EReal) (cos sin : Fin 32 → EReal) (j : Fin 2048) :
    turnQ (headE q) (csE cos) (saE sin) (sbE sin) j = headE (queryE q cos sin) j := by
  have hj := j.isLt
  unfold turnQ
  by_cases h : j.val % 256 < 128
  · rw [if_pos h]
    unfold headE queryE
    rw [dif_pos (by omega), dif_pos (by omega), dif_pos h]
  · rw [if_neg h, turn_eq _ (fun e => q ⟨j.val / 256, by omega⟩ ⟨128 + e.val, by have := e.isLt; omega⟩) ?_]
    · have e : j.val % 128 = j.val % 256 - 128 := by omega
      unfold headE queryE lane
      by_cases h' : j.val % 256 < 192
      · rw [dif_pos h', dif_neg h, dif_pos (by show j.val % 128 < 64; omega)]
        exact congrArg _ (Fin.ext e)
      · rw [dif_neg h', dif_neg (by show ¬ j.val % 128 < 64; omega)]
    · intro l
      have hl := l.isLt
      unfold headE half
      rw [dif_pos (by show (j.val / 256 * 256 + 128 + l.val) % 256 < 192; omega)]
      refine congrArg₂ q (Fin.ext ?_) (Fin.ext ?_)
      · show (j.val / 256 * 256 + 128 + l.val) / 256 = j.val / 256
        omega
      · show (j.val / 256 * 256 + 128 + l.val) % 256 = 128 + l.val
        omega

theorem withK_eq (kv : Fin 8 → Fin 256 → EReal) (r : Fin 64 → EReal) (r' : Fin 128 → EReal)
    (hr : ∀ l : Fin 128, r' l = if h : l.val < 64 then r ⟨l.val, h⟩ else 0) (j : Fin 2048) :
    withK (joinE kv) r' j = headE (keyE kv r) j := by
  have hj := j.isLt
  unfold withK
  by_cases h : j.val % 256 < 128
  · rw [if_pos h]
    unfold headE keyE joinE
    rw [dif_pos (by omega), dif_pos h]
  · rw [if_neg h, hr]
    have e : j.val % 128 = j.val % 256 - 128 := by omega
    unfold headE keyE lane
    by_cases h' : j.val % 256 < 192
    · rw [dif_pos h', dif_neg h, dif_pos (by show j.val % 128 < 64; omega)]
      exact congrArg _ (Fin.ext e)
    · rw [dif_neg h', dif_neg (by show ¬ j.val % 128 < 64; omega)]

theorem seconds_eq (kv : Fin 8 → Fin 256 → EReal) (j : Fin 1024) : seconds (joinE kv) j = valueE kv j := by
  have hj := j.isLt
  unfold seconds joinE valueE
  refine congrArg₂ kv (Fin.ext ?_) (Fin.ext ?_)
  · show (j.val / 128 * 256 + 128 + j.val % 128) / 256 = j.val / 128
    omega
  · show (j.val / 128 * 256 + 128 + j.val % 128) % 256 = 128 + j.val % 128
    omega

/-! ## The row's products -/

/-- A product with the padded down projection has the zero tail. -/
theorem rowcol_tail {n : ℕ} (x : Fin n → EReal) (w : Fin n → Fin 832 → EReal) (j : Fin 896) :
    rowcol x (fun k => tailE (w k) j) = tailE (fun q => rowcol x (fun k => w k q)) j := by
  unfold rowcol tailE
  by_cases h : j.val < 832
  · simp only [dif_pos h]
  · simp only [dif_neg h, mul_zero, Finset.sum_const_zero]

/-- A scaled product with the padded heads has their zero tails. -/
theorem rowcol_head {n : ℕ} (x : Fin n → EReal) (w : Fin n → Fin 8 → Fin 192 → EReal) (s : EReal) (j : Fin 2048) :
    rowcol x (fun k => headE (w k) j) * s = headE (fun a d => rowcol x (fun k => w k a d) * s) j := by
  unfold rowcol headE
  by_cases h : j.val % 256 < 192
  · simp only [dif_pos h]
  · simp only [dif_neg h, mul_zero, Finset.sum_const_zero, zero_mul]

theorem rowcol_join {n : ℕ} (x : Fin n → EReal) (w : Fin n → Fin 8 → Fin 256 → EReal) (j : Fin 2048) :
    rowcol x (fun k => joinE (w k) j) = joinE (fun a d => rowcol x (fun k => w k a d)) j := rfl

/-! ## The angle's functions -/

/-- The angle of a position at a frequency. -/
def angle (p : EReal) (d : Fin 32) : EReal :=
  p * Ideal.pow (Ideal.ofBits FTy.f32 0x461C4000#32)
    (Ideal.div (Ideal.ofBits FTy.f32 0xC0000000#32 * FloatOps.sitofp (F := Ideal) .f32 (BitVec.ofNat 32 d.val)) (Ideal.ofBits FTy.f32 0x42800000#32))

end Cert.MlaExt

end
-- ==== Proof.MlaPreKernel.lean ====
/- What the kernel `MlaPreIdeal` leaves in its seven result arrays: the normed rows, the down projection, the two latents, and
   the queries, keys and values of the heads. -/
module

public import proofs.«01_k».proof.Proof.MlaExt
public import proofs.«01_k».proof.Proof.Gen.MlaPreIdeal.Value
public import Idealize.ShloMosaic.Lib.StableHlo.RunRead
public import Idealize.ShloMosaic.Lib.KernelVsHost

@[expose] public section

noncomputable section

namespace Cert.MlaPreIdeal.RealValue

open Cert.MlaPreIdeal Cert.MlaPreIdeal.Gen Cert.RealValue Cert.Layout Cert.MlaExt
open Idealize.ShloMosaic Idealize.ShloMosaic.TcCoe Idealize.SL.Sem

/-! ## The rotation and the heads in a block -/

section Heads

/-- Turning the columns by 96, -/
theorem turn96 (x : FVec Ideal S512x128 .f32) (a : Fin 512) (l : Fin 128) :
    dynamicRotate 1 96#32 none x rotates_S512x128_d1 (ix2 a l) = x (ix2 a ⟨(l.val + 32) % 128, Nat.mod_lt _ (by decide)⟩) := by
  refine dynamicRotate_apply 1 96#32 x rotates_S512x128_d1 _ _ fun b => ?_
  match b with
  | ⟨0, _⟩ => rfl
  | ⟨1, _⟩ =>
    show (l.val + 32) % 128 = if (1 : Fin 2) = 1 then (l.val + 128 - 96 % 128) % 128 else l.val
    rw [if_pos rfl]
    omega

/-- and by 32. -/
theorem turn32 (x : FVec Ideal S512x128 .f32) (a : Fin 512) (l : Fin 128) :
    dynamicRotate 1 32#32 none x rotates_S512x128_d1 (ix2 a l) = x (ix2 a ⟨(l.val + 96) % 128, Nat.mod_lt _ (by decide)⟩) := by
  refine dynamicRotate_apply 1 32#32 x rotates_S512x128_d1 _ _ fun b => ?_
  match b with
  | ⟨0, _⟩ => rfl
  | ⟨1, _⟩ =>
    show (l.val + 96) % 128 = if (1 : Fin 2) = 1 then (l.val + 128 - 32 % 128) % 128 else l.val
    rw [if_pos rfl]
    omega

/-- The kernel's rotation of 128 columns. -/
def rotate (x c1 s1 s2 : FVec Ideal S512x128 .f32) : FVec Ideal S512x128 .f32 :=
  addf (subf (mulf x c1) (mulf (dynamicRotate 1 96#32 none x rotates_S512x128_d1) s1)) (mulf (dynamicRotate 1 32#32 none x rotates_S512x128_d1) s2)

theorem rotate_at (x c1 s1 s2 : FVec Ideal S512x128 .f32) (a : Fin 512) (l : Fin 128) :
    rotate x c1 s1 s2 (ix2 a l)
      = turn (fun l => x (ix2 a l)) (fun l => c1 (ix2 a l)) (fun l => s1 (ix2 a l)) (fun l => s2 (ix2 a l)) l := by
  show _ = x (ix2 a l) * c1 (ix2 a l) - x (ix2 a ⟨(l.val + 32) % 128, Nat.mod_lt _ (by decide)⟩) * s1 (ix2 a l)
    + x (ix2 a ⟨(l.val + 96) % 128, Nat.mod_lt _ (by decide)⟩) * s2 (ix2 a l)
  rw [← turn96 x a l, ← turn32 x a l]
  rfl

variable (q : FVec Ideal S512x2048 .f32) (c1 s1 s2 : FVec Ideal S512x128 .f32)

/-- The queries as one function of the block's index, -/
def queries (i : S512x2048.Idx) : EReal :=
  turnQ (fun j => q (ix2 (i 0) j)) (fun l => c1 (ix2 (i 0) l)) (fun l => s1 (ix2 (i 0) l)) (fun l => s2 (ix2 (i 0) l)) (i 1)
/-- the keys, -/
def keys (i : S512x2048.Idx) : EReal := withK (fun j => q (ix2 (i 0) j)) (fun l => c1 (ix2 (i 0) l)) (i 1)
/-- and the values. -/
def values (i : S512x1024.Idx) : EReal := seconds (fun j => q (ix2 (i 0) j)) (i 1)

/-- Column `l` of 128 columns from `o` on. -/
theorem columns (o : ℕ) (hs : S512x2048.Slices ![0, o] S512x128) (a : Fin 512) (l : Fin 128) (hb : o + l.val < 2048) :
    extractStridedSlice S512x128 ![0, o] q hs (ix2 a l) = q (ix2 a ⟨o + l.val, hb⟩) := by
  refine congrArg q (funext fun d => Fin.ext ?_)
  match d with
  | ⟨0, _⟩ => show 0 + a.val = a.val; omega
  | ⟨1, _⟩ => rfl

/-- The same columns of a block's 2048, -/
theorem place (o : ℕ) (hr) (a : Fin 512) (l : Fin 128) (hb : o + l.val < 2048) :
    (Rect.unit (s := S512x2048) ![0, o] S512x128.size hr).emb (ix2 a l) = ix2 a (⟨o + l.val, hb⟩ : Fin 2048) := by
  funext d
  apply Fin.ext
  match d with
  | ⟨0, _⟩ => show 0 + 1 * a.val = a.val; omega
  | ⟨1, _⟩ => show o + 1 * l.val = o + l.val; omega

/-- or of its 1024. -/
theorem place' (o : ℕ) (hr) (a : Fin 512) (l : Fin 128) (hb : o + l.val < 1024) :
    (Rect.unit (s := S512x1024) ![0, o] S512x128.size hr).emb (ix2 a l) = ix2 a (⟨o + l.val, hb⟩ : Fin 1024) := by
  funext d
  apply Fin.ext
  match d with
  | ⟨0, _⟩ => show 0 + 1 * a.val = a.val; omega
  | ⟨1, _⟩ => show o + 1 * l.val = o + l.val; omega

/-- A head's first half of the queries. -/
theorem queries_first (o : ℕ) (ho : o % 256 = 0) (hb : o + 128 ≤ 2048) (hs) (hr) (z : S512x128.Idx) :
    extractStridedSlice S512x128 ![0, o] q hs z
      = queries q c1 s1 s2 ((Rect.unit (s := S512x2048) ![0, o] S512x128.size hr).emb z) := by
  obtain ⟨a, l, rfl⟩ : ∃ (a : Fin 512) (l : Fin 128), z = ix2 a l := ⟨z 0, z 1, eq_ix2 _⟩
  have hl := l.isLt
  rw [place o hr a l (by omega), columns q o hs a l (by omega)]
  show _ = turnQ _ _ _ _ (⟨o + l.val, _⟩ : Fin 2048)
  unfold turnQ
  rw [if_pos (by show (o + l.val) % 256 < 128; omega)]
  rfl

/-- A head's second half, which is turned. -/
theorem queries_turn (o : ℕ) (ho : o % 256 = 128) (hb : o + 128 ≤ 2048) (hs) (hr) (z : S512x128.Idx) :
    rotate (extractStridedSlice S512x128 ![0, o] q hs) c1 s1 s2 z
      = queries q c1 s1 s2 ((Rect.unit (s := S512x2048) ![0, o] S512x128.size hr).emb z) := by
  obtain ⟨a, l, rfl⟩ : ∃ (a : Fin 512) (l : Fin 128), z = ix2 a l := ⟨z 0, z 1, eq_ix2 _⟩
  have hl := l.isLt
  rw [place o hr a l (by omega), rotate_at]
  show _ = turnQ _ _ _ _ (⟨o + l.val, _⟩ : Fin 2048)
  unfold turnQ
  rw [if_neg (by show ¬ (o + l.val) % 256 < 128; omega)]
  have e : lane (⟨o + l.val, by omega⟩ : Fin 2048) = l := Fin.ext (by show (o + l.val) % 128 = l.val; omega)
  rw [e]
  refine congrArg (fun f => turn f _ _ _ l) (funext fun p => ?_)
  have hp := p.isLt
  refine (columns q o hs a p (by omega)).trans (congrArg (fun j => q (ix2 a j)) (Fin.ext ?_))
  show o + p.val = (o + l.val) / 256 * 256 + 128 + p.val
  omega

/-- A head's own half of the keys. -/
theorem keys_first (o : ℕ) (ho : o % 256 = 0) (hb : o + 128 ≤ 2048) (hs) (hr) (z : S512x128.Idx) :
    extractStridedSlice S512x128 ![0, o] q hs z = keys q c1 ((Rect.unit (s := S512x2048) ![0, o] S512x128.size hr).emb z) := by
  obtain ⟨a, l, rfl⟩ : ∃ (a : Fin 512) (l : Fin 128), z = ix2 a l := ⟨z 0, z 1, eq_ix2 _⟩
  have hl := l.isLt
  rw [place o hr a l (by omega), columns q o hs a l (by omega)]
  show _ = withK _ _ (⟨o + l.val, _⟩ : Fin 2048)
  unfold withK
  rw [if_pos (by show (o + l.val) % 256 < 128; omega)]
  rfl

/-- The half that the heads share. -/
theorem keys_shared (o : ℕ) (ho : o % 256 = 128) (hb : o + 128 ≤ 2048) (hr) (z : S512x128.Idx) :
    c1 z = keys q c1 ((Rect.unit (s := S512x2048) ![0, o] S512x128.size hr).emb z) := by
  obtain ⟨a, l, rfl⟩ : ∃ (a : Fin 512) (l : Fin 128), z = ix2 a l := ⟨z 0, z 1, eq_ix2 _⟩
  have hl := l.isLt
  rw [place o hr a l (by omega)]
  show _ = withK _ _ (⟨o + l.val, _⟩ : Fin 2048)
  unfold withK
  rw [if_neg (by show ¬ (o + l.val) % 256 < 128; omega)]
  refine congrArg (fun j => c1 (ix2 a j)) (Fin.ext ?_)
  show l.val = (o + l.val) % 128
  omega

/-- A head's values. -/
theorem values_head (o p : ℕ) (ho : p / 128 * 256 + 128 = o ∧ p % 128 = 0) (hb : o + 128 ≤ 2048) (hp : p + 128 ≤ 1024) (hs) (hr)
    (z : S512x128.Idx) :
    extractStridedSlice S512x128 ![0, o] q hs z = values q ((Rect.unit (s := S512x1024) ![0, p] S512x128.size hr).emb z) := by
  obtain ⟨a, l, rfl⟩ : ∃ (a : Fin 512) (l : Fin 128), z = ix2 a l := ⟨z 0, z 1, eq_ix2 _⟩
  have hl := l.isLt
  rw [place' p hr a l (by omega), columns q o hs a l (by omega)]
  show _ = seconds _ (⟨p + l.val, _⟩ : Fin 1024)
  unfold seconds
  refine congrArg (fun j => q (ix2 a j)) (Fin.ext ?_)
  show o + l.val = (p + l.val) / 128 * 256 + 128 + (p + l.val) % 128
  omega

end Heads

/-! ## The body's results at an index -/

section Body

variable (x0 : Vec Ideal S512x1024 .f32)
    (x1 : Vec Ideal S1x1024 .f32)
    (x2 : Vec Ideal S1024x896 .bf16)
    (x3 : Vec Ideal S1x512 .f32)
    (x4 : Vec Ideal S1x256 .f32)
    (x5 : Vec Ideal S512x2048 .bf16)
    (x6 : Vec Ideal S256x2048 .bf16)
    (x7 : Vec Ideal S512x128 .f32)
    (x8 : Vec Ideal S512x128 .f32)
    (x9 : Vec Ideal S512x128 .f32)

/-- The functions of one row of the blocks: the normed row, -/
def nB (a : Fin 512) : Fin 1024 → EReal := normN w1024 (fun k => x0 (ix2 a k)) (fun k => x1 (ix2 0 k))
/-- the down projection, -/
def aB (a : Fin 512) (j : Fin 896) : EReal := rowcol (nB x0 x1 a) (fun k => x2 (ix2 k j))
/-- the two latents, -/
def cqB (a : Fin 512) : Fin 512 → EReal :=
  normN w512 (fun q => aB x0 x1 x2 a ⟨q.val, by have := q.isLt; omega⟩) (fun k => x3 (ix2 0 k))
def ckvB (a : Fin 512) : Fin 256 → EReal :=
  normN w256 (fun q => aB x0 x1 x2 a ⟨512 + q.val, by have := q.isLt; omega⟩) (fun k => x4 (ix2 0 k))
/-- and their up projections. -/
def qB (a : Fin 512) (j : Fin 2048) : EReal := rowcol (cqB x0 x1 x2 x3 a) (fun k => x5 (ix2 k j)) * scale
def kvB (a : Fin 512) (j : Fin 2048) : EReal := rowcol (ckvB x0 x1 x2 x4 a) (fun k => x6 (ix2 k j))

theorem pay1_at (a : Fin 512) (b : Fin 1024) : k0_pay1 x0 x1 (ix2 a b) = nB x0 x1 a b := by
  unfold k0_pay1
  pointwise
  rfl

theorem pay2_at (a : Fin 512) (b : Fin 896) : k0_pay2 x0 x1 x2 (ix2 a b) = aB x0 x1 x2 a b := by
  unfold k0_pay2
  generalize hg : k0_pay1 x0 x1 = g
  pointwise [dot_S512x1024_S1024x896_S512x896_1_0_0_1_n_n]
  subst hg
  unfold aB rowcol
  exact Finset.sum_congr rfl fun k _ => congrArg (· * x2 (ix2 k b)) (pay1_at x0 x1 a k)

theorem pay3_at (a b : Fin 512) : k0_pay3 x0 x1 x2 x3 (ix2 a b) = cqB x0 x1 x2 x3 a b := by
  have e : (fun q : Fin 512 => aB x0 x1 x2 a ⟨q.val, by have := q.isLt; omega⟩)
      = fun q => k0_pay2 x0 x1 x2 (ix2 a ⟨q.val, by have := q.isLt; omega⟩) := funext fun q => (pay2_at x0 x1 x2 a _).symm
  unfold cqB
  rw [e]
  unfold k0_pay3
  generalize k0_pay2 x0 x1 x2 = g
  pointwise
  rfl

theorem pay5_at (a : Fin 512) (b : Fin 256) :
    k0_pay5 (k0_pay4 x0 x1 x2) x4 (ix2 a b) = ckvB x0 x1 x2 x4 a b := by
  have e : (fun q : Fin 256 => aB x0 x1 x2 a ⟨512 + q.val, by have := q.isLt; omega⟩)
      = fun q => k0_pay2 x0 x1 x2 (ix2 a ⟨512 + q.val, by have := q.isLt; omega⟩) := funext fun q => (pay2_at x0 x1 x2 a _).symm
  unfold ckvB
  rw [e]
  unfold k0_pay5 k0_pay4
  generalize k0_pay2 x0 x1 x2 = g
  pointwise
  rfl

theorem pay6_at (a : Fin 512) (b : Fin 2048) :
    k0_pay6 (k0_pay3 x0 x1 x2 x3) x5 (ix2 a b) = qB x0 x1 x2 x3 x5 a b := by
  unfold k0_pay6
  generalize hg : k0_pay3 x0 x1 x2 x3 = g
  pointwise [dot_S512x512_S512x2048_S512x2048_1_0_0_1_n_n]
  subst hg
  unfold qB rowcol scale
  exact congrArg (· * _) (Finset.sum_congr rfl fun k _ => congrArg (· * x5 (ix2 k b)) (pay3_at x0 x1 x2 x3 a k))

theorem pay7_at (a : Fin 512) (b : Fin 2048) :
    k0_pay7 (k0_pay4 x0 x1 x2) x4 x6 (ix2 a b) = kvB x0 x1 x2 x4 x6 a b := by
  unfold k0_pay7
  generalize hg : k0_pay5 (k0_pay4 x0 x1 x2) x4 = g
  pointwise [dot_S512x256_S256x2048_S512x2048_1_0_0_1_n_n]
  subst hg
  unfold kvB rowcol
  exact Finset.sum_congr rfl fun k _ => congrArg (· * x6 (ix2 k b)) (pay5_at x0 x1 x2 x4 a k)

theorem v36_eq : k0_pay50 x0 x1 x2 x3 x4 x5 x6 x7 x8 x9 = k0_pay3 x0 x1 x2 x3 := by
  unfold k0_pay50
  simp only [View.ld_unit_zero (S := S512x1024) hz, View.ld_unit_zero (S := S1x1024) hz, View.ld_unit_zero (S := S1024x896) hz, View.ld_unit_zero (S := S1x512) hz]
theorem v37_eq : k0_pay51 x0 x1 x2 x3 x4 x5 x6 x7 x8 x9 = k0_pay4 x0 x1 x2 := by
  unfold k0_pay51
  simp only [View.ld_unit_zero (S := S512x1024) hz, View.ld_unit_zero (S := S1x1024) hz, View.ld_unit_zero (S := S1024x896) hz]

theorem v59_at (a : Fin 512) (b : Fin 2048) : k0_pay52 x0 x1 x2 x3 x4 x5 x6 x7 x8 x9 (ix2 a b) = qB x0 x1 x2 x3 x5 a b := by
  unfold k0_pay52
  rw [v36_eq]
  simp only [View.ld_unit_zero (S := S512x2048) hz]
  exact pay6_at x0 x1 x2 x3 x5 a b

theorem v62_at (a : Fin 512) (b : Fin 2048) : k0_pay53 x0 x1 x2 x3 x4 x5 x6 x7 x8 x9 (ix2 a b) = kvB x0 x1 x2 x4 x6 a b := by
  unfold k0_pay53
  rw [v37_eq]
  simp only [View.ld_unit_zero (S := S1x256) hz, View.ld_unit_zero (S := S256x2048) hz]
  exact pay7_at x0 x1 x2 x4 x6 a b

theorem table_7 (a : Fin 512) (l : Fin 128) : k0_pay54 x0 x1 x2 x3 x4 x5 x6 x7 x8 x9 (ix2 a l) = x7 (ix2 a l) := by
  unfold k0_pay54 k0_pay8
  simp only [View.ld_unit_zero (S := S512x128) hz]
  pointwise

theorem table_8 (a : Fin 512) (l : Fin 128) : k0_pay55 x0 x1 x2 x3 x4 x5 x6 x7 x8 x9 (ix2 a l) = x8 (ix2 a l) := by
  unfold k0_pay55 k0_pay9
  simp only [View.ld_unit_zero (S := S512x128) hz]
  pointwise

theorem table_9 (a : Fin 512) (l : Fin 128) : k0_pay56 x0 x1 x2 x3 x4 x5 x6 x7 x8 x9 (ix2 a l) = x9 (ix2 a l) := by
  unfold k0_pay56 k0_pay10
  simp only [View.ld_unit_zero (S := S512x128) hz]
  pointwise

/-- The shared half of the keys is the rotation of the down projection's last columns. -/
theorem v77_rot : k0_pay14 (k0_pay56 x0 x1 x2 x3 x4 x5 x6 x7 x8 x9) (k0_pay57 x0 x1 x2 x3 x4 x5 x6 x7 x8 x9) (k0_pay58 x0 x1 x2 x3 x4 x5 x6 x7 x8 x9) (k0_pay59 x0 x1 x2 x3 x4 x5 x6 x7 x8 x9)
    = rotate (k0_pay11 (k0_pay49 x0 x1 x2 x3 x4 x5 x6 x7 x8 x9)) (k0_pay54 x0 x1 x2 x3 x4 x5 x6 x7 x8 x9) (k0_pay55 x0 x1 x2 x3 x4 x5 x6 x7 x8 x9) (k0_pay56 x0 x1 x2 x3 x4 x5 x6 x7 x8 x9) := rfl

/-- One row of it. -/
def rB (a : Fin 512) : Fin 128 → EReal :=
  turn (fun l => aB x0 x1 x2 a ⟨768 + l.val, by have := l.isLt; omega⟩) (fun l => x7 (ix2 a l)) (fun l => x8 (ix2 a l)) (fun l => x9 (ix2 a l))

theorem v77_at (a : Fin 512) (l : Fin 128) :
    rotate (k0_pay11 (k0_pay49 x0 x1 x2 x3 x4 x5 x6 x7 x8 x9)) (k0_pay54 x0 x1 x2 x3 x4 x5 x6 x7 x8 x9) (k0_pay55 x0 x1 x2 x3 x4 x5 x6 x7 x8 x9) (k0_pay56 x0 x1 x2 x3 x4 x5 x6 x7 x8 x9) (ix2 a l) = rB x0 x1 x2 x7 x8 x9 a l := by
  rw [rotate_at]
  unfold rB
  simp only [table_7, table_8, table_9]
  refine congrArg (fun f => turn f _ _ _ l) (funext fun p => ?_)
  rw [← pay2_at]
  unfold k0_pay11 k0_pay49
  simp only [View.ld_unit_zero (S := S512x1024) hz, View.ld_unit_zero (S := S1x1024) hz, View.ld_unit_zero (S := S1024x896) hz]
  generalize k0_pay2 x0 x1 x2 = g
  pointwise

theorem out10_at (a : Fin 512) (b : Fin 1024) : out0_10 x0 x1 x2 x3 x4 x5 x6 x7 x8 x9 (ix2 a b) = nB x0 x1 a b := by
  unfold out0_10
  rw [View.canon_unit_zero hz]
  simp only [View.ld_unit_zero (S := S512x1024) hz, View.ld_unit_zero (S := S1x1024) hz]
  exact pay1_at x0 x1 a b

theorem out11_at (a : Fin 512) (b : Fin 896) : out0_11 x0 x1 x2 x3 x4 x5 x6 x7 x8 x9 (ix2 a b) = aB x0 x1 x2 a b := by
  unfold out0_11
  rw [View.canon_unit_zero hz]
  simp only [View.ld_unit_zero (S := S512x1024) hz, View.ld_unit_zero (S := S1x1024) hz, View.ld_unit_zero (S := S1024x896) hz]
  exact pay2_at x0 x1 x2 a b

theorem out12_at (a b : Fin 512) : out0_12 x0 x1 x2 x3 x4 x5 x6 x7 x8 x9 (ix2 a b) = cqB x0 x1 x2 x3 a b := by
  unfold out0_12
  rw [View.canon_unit_zero hz, v36_eq]
  exact pay3_at x0 x1 x2 x3 a b

theorem out13_at (a : Fin 512) (b : Fin 256) : out0_13 x0 x1 x2 x3 x4 x5 x6 x7 x8 x9 (ix2 a b) = ckvB x0 x1 x2 x4 a b := by
  unfold out0_13
  rw [View.canon_unit_zero hz]
  rw [v37_eq]
  simp only [View.ld_unit_zero (S := S1x256) hz]
  exact pay5_at x0 x1 x2 x4 a b

theorem out14_at (a : Fin 512) (b : Fin 2048) : out0_14 x0 x1 x2 x3 x4 x5 x6 x7 x8 x9 (ix2 a b) = turnQ (qB x0 x1 x2 x3 x5 a) (fun l => x7 (ix2 a l)) (fun l => x8 (ix2 a l)) (fun l => x9 (ix2 a l)) b := by
  have h : out0_14 x0 x1 x2 x3 x4 x5 x6 x7 x8 x9 (ix2 a b) = queries (k0_pay52 x0 x1 x2 x3 x4 x5 x6 x7 x8 x9) (k0_pay54 x0 x1 x2 x3 x4 x5 x6 x7 x8 x9) (k0_pay55 x0 x1 x2 x3 x4 x5 x6 x7 x8 x9) (k0_pay56 x0 x1 x2 x3 x4 x5 x6 x7 x8 x9) (ix2 a b) := by
    unfold out0_14
    refine View.canon_apply_of_pieces (Val := Elt Ideal) (queries (k0_pay52 x0 x1 x2 x3 x4 x5 x6 x7 x8 x9) (k0_pay54 x0 x1 x2 x3 x4 x5 x6 x7 x8 x9) (k0_pay55 x0 x1 x2 x3 x4 x5 x6 x7 x8 x9) (k0_pay56 x0 x1 x2 x3 x4 x5 x6 x7 x8 x9)) _ ?_ (ix2 a b) (cover0_14 _ _ _ _ _ _ _ _ _ _ _ _ _ _ _ _ (ix2 a b))
    intro p hp
    have plain := queries_first (k0_pay52 x0 x1 x2 x3 x4 x5 x6 x7 x8 x9) (k0_pay54 x0 x1 x2 x3 x4 x5 x6 x7 x8 x9) (k0_pay55 x0 x1 x2 x3 x4 x5 x6 x7 x8 x9) (k0_pay56 x0 x1 x2 x3 x4 x5 x6 x7 x8 x9)
    have turned := queries_turn (k0_pay52 x0 x1 x2 x3 x4 x5 x6 x7 x8 x9) (k0_pay54 x0 x1 x2 x3 x4 x5 x6 x7 x8 x9) (k0_pay55 x0 x1 x2 x3 x4 x5 x6 x7 x8 x9) (k0_pay56 x0 x1 x2 x3 x4 x5 x6 x7 x8 x9)
    simp only [List.mem_cons, List.not_mem_nil, or_false] at hp
    rcases hp with rfl | rfl | rfl | rfl | rfl | rfl | rfl | rfl | rfl | rfl | rfl | rfl | rfl | rfl | rfl | rfl
    · exact turned 1920 rfl (by decide) slices_S512x2048_o0_1920_S512x128 inb_S512x2048_S512x128_0_1920
    · exact plain 1792 rfl (by decide) slices_S512x2048_o0_1792_S512x128 inb_S512x2048_S512x128_0_1792
    · exact turned 1664 rfl (by decide) slices_S512x2048_o0_1664_S512x128 inb_S512x2048_S512x128_0_1664
    · exact plain 1536 rfl (by decide) slices_S512x2048_o0_1536_S512x128 inb_S512x2048_S512x128_0_1536
    · exact turned 1408 rfl (by decide) slices_S512x2048_o0_1408_S512x128 inb_S512x2048_S512x128_0_1408
    · exact plain 1280 rfl (by decide) slices_S512x2048_o0_1280_S512x128 inb_S512x2048_S512x128_0_1280
    · exact turned 1152 rfl (by decide) slices_S512x2048_o0_1152_S512x128 inb_S512x2048_S512x128_0_1152
    · exact plain 1024 rfl (by decide) slices_S512x2048_o0_1024_S512x128 inb_S512x2048_S512x128_0_1024
    · exact turned 896 rfl (by decide) slices_S512x2048_o0_896_S512x128 inb_S512x2048_S512x128_0_896
    · exact plain 768 rfl (by decide) slices_S512x2048_o0_768_S512x128 inb_S512x2048_S512x128_0_768
    · exact turned 640 rfl (by decide) slices_S512x2048_o0_640_S512x128 inb_S512x2048_S512x128_0_640
    · exact plain 512 rfl (by decide) slices_S512x2048_o0_512_S512x128 inb_S512x2048_S512x128_0_512
    · exact turned 384 rfl (by decide) slices_S512x2048_o0_384_S512x128 inb_S512x2048_S512x128_0_384
    · exact plain 256 rfl (by decide) slices_S512x2048_o0_256_S512x128 inb_S512x2048_S512x128_0_256
    · exact turned 128 rfl (by decide) slices_S512x2048_o0_128_S512x128 inb_S512x2048_S512x128_0_128
    · exact plain 0 rfl (by decide) slices_S512x2048_o0_0_S512x128 inb_S512x2048_S512x128_0_0
  rw [h]
  show turnQ (fun j => k0_pay52 x0 x1 x2 x3 x4 x5 x6 x7 x8 x9 (ix2 a j)) (fun l => k0_pay54 x0 x1 x2 x3 x4 x5 x6 x7 x8 x9 (ix2 a l))
    (fun l => k0_pay55 x0 x1 x2 x3 x4 x5 x6 x7 x8 x9 (ix2 a l)) (fun l => k0_pay56 x0 x1 x2 x3 x4 x5 x6 x7 x8 x9 (ix2 a l)) b = _
  simp only [v59_at, table_7, table_8, table_9]

theorem out15_at (a : Fin 512) (b : Fin 2048) : out0_15 x0 x1 x2 x3 x4 x5 x6 x7 x8 x9 (ix2 a b) = withK (kvB x0 x1 x2 x4 x6 a) (rB x0 x1 x2 x7 x8 x9 a) b := by
  have h : out0_15 x0 x1 x2 x3 x4 x5 x6 x7 x8 x9 (ix2 a b) = keys (k0_pay53 x0 x1 x2 x3 x4 x5 x6 x7 x8 x9) (rotate (k0_pay11 (k0_pay49 x0 x1 x2 x3 x4 x5 x6 x7 x8 x9)) (k0_pay54 x0 x1 x2 x3 x4 x5 x6 x7 x8 x9) (k0_pay55 x0 x1 x2 x3 x4 x5 x6 x7 x8 x9) (k0_pay56 x0 x1 x2 x3 x4 x5 x6 x7 x8 x9)) (ix2 a b) := by
    unfold out0_15
    refine View.canon_apply_of_pieces (Val := Elt Ideal) (keys (k0_pay53 x0 x1 x2 x3 x4 x5 x6 x7 x8 x9) (rotate (k0_pay11 (k0_pay49 x0 x1 x2 x3 x4 x5 x6 x7 x8 x9)) (k0_pay54 x0 x1 x2 x3 x4 x5 x6 x7 x8 x9) (k0_pay55 x0 x1 x2 x3 x4 x5 x6 x7 x8 x9) (k0_pay56 x0 x1 x2 x3 x4 x5 x6 x7 x8 x9))) _ ?_ (ix2 a b) (cover0_15 _ _ _ _ _ _ _ _ _ _ _ _ _ _ _ _ (ix2 a b))
    intro p hp
    have own := keys_first (k0_pay53 x0 x1 x2 x3 x4 x5 x6 x7 x8 x9) (rotate (k0_pay11 (k0_pay49 x0 x1 x2 x3 x4 x5 x6 x7 x8 x9)) (k0_pay54 x0 x1 x2 x3 x4 x5 x6 x7 x8 x9) (k0_pay55 x0 x1 x2 x3 x4 x5 x6 x7 x8 x9) (k0_pay56 x0 x1 x2 x3 x4 x5 x6 x7 x8 x9))
    have common := keys_shared (k0_pay53 x0 x1 x2 x3 x4 x5 x6 x7 x8 x9) (rotate (k0_pay11 (k0_pay49 x0 x1 x2 x3 x4 x5 x6 x7 x8 x9)) (k0_pay54 x0 x1 x2 x3 x4 x5 x6 x7 x8 x9) (k0_pay55 x0 x1 x2 x3 x4 x5 x6 x7 x8 x9) (k0_pay56 x0 x1 x2 x3 x4 x5 x6 x7 x8 x9))
    simp only [List.mem_cons, List.not_mem_nil, or_false] at hp
    rcases hp with rfl | rfl | rfl | rfl | rfl | rfl | rfl | rfl | rfl | rfl | rfl | rfl | rfl | rfl | rfl | rfl
    · exact common 1920 rfl (by decide) inb_S512x2048_S512x128_0_1920
    · exact own 1792 rfl (by decide) slices_S512x2048_o0_1792_S512x128 inb_S512x2048_S512x128_0_1792
    · exact common 1664 rfl (by decide) inb_S512x2048_S512x128_0_1664
    · exact own 1536 rfl (by decide) slices_S512x2048_o0_1536_S512x128 inb_S512x2048_S512x128_0_1536
    · exact common 1408 rfl (by decide) inb_S512x2048_S512x128_0_1408
    · exact own 1280 rfl (by decide) slices_S512x2048_o0_1280_S512x128 inb_S512x2048_S512x128_0_1280
    · exact common 1152 rfl (by decide) inb_S512x2048_S512x128_0_1152
    · exact own 1024 rfl (by decide) slices_S512x2048_o0_1024_S512x128 inb_S512x2048_S512x128_0_1024
    · exact common 896 rfl (by decide) inb_S512x2048_S512x128_0_896
    · exact own 768 rfl (by decide) slices_S512x2048_o0_768_S512x128 inb_S512x2048_S512x128_0_768
    · exact common 640 rfl (by decide) inb_S512x2048_S512x128_0_640
    · exact own 512 rfl (by decide) slices_S512x2048_o0_512_S512x128 inb_S512x2048_S512x128_0_512
    · exact common 384 rfl (by decide) inb_S512x2048_S512x128_0_384
    · exact own 256 rfl (by decide) slices_S512x2048_o0_256_S512x128 inb_S512x2048_S512x128_0_256
    · exact common 128 rfl (by decide) inb_S512x2048_S512x128_0_128
    · exact own 0 rfl (by decide) slices_S512x2048_o0_0_S512x128 inb_S512x2048_S512x128_0_0
  rw [h]
  show withK (fun j => k0_pay53 x0 x1 x2 x3 x4 x5 x6 x7 x8 x9 (ix2 a j)) (fun l => (rotate (k0_pay11 (k0_pay49 x0 x1 x2 x3 x4 x5 x6 x7 x8 x9)) (k0_pay54 x0 x1 x2 x3 x4 x5 x6 x7 x8 x9) (k0_pay55 x0 x1 x2 x3 x4 x5 x6 x7 x8 x9) (k0_pay56 x0 x1 x2 x3 x4 x5 x6 x7 x8 x9)) (ix2 a l)) b = _
  simp only [v62_at, v77_at]

theorem out16_at (a : Fin 512) (b : Fin 1024) : out0_16 x0 x1 x2 x3 x4 x5 x6 x7 x8 x9 (ix2 a b) = seconds (kvB x0 x1 x2 x4 x6 a) b := by
  have h : out0_16 x0 x1 x2 x3 x4 x5 x6 x7 x8 x9 (ix2 a b) = values (k0_pay53 x0 x1 x2 x3 x4 x5 x6 x7 x8 x9) (ix2 a b) := by
    unfold out0_16
    refine View.canon_apply_of_pieces (Val := Elt Ideal) (values (k0_pay53 x0 x1 x2 x3 x4 x5 x6 x7 x8 x9)) _ ?_ (ix2 a b) (cover0_16 _ _ _ _ _ _ _ _ (ix2 a b))
    intro p hp
    have head := values_head (k0_pay53 x0 x1 x2 x3 x4 x5 x6 x7 x8 x9)
    simp only [List.mem_cons, List.not_mem_nil, or_false] at hp
    rcases hp with rfl | rfl | rfl | rfl | rfl | rfl | rfl | rfl
    · exact head 1920 896 ⟨rfl, rfl⟩ (by decide) (by decide) slices_S512x2048_o0_1920_S512x128 inb_S512x1024_S512x128_0_896
    · exact head 1664 768 ⟨rfl, rfl⟩ (by decide) (by decide) slices_S512x2048_o0_1664_S512x128 inb_S512x1024_S512x128_0_768
    · exact head 1408 640 ⟨rfl, rfl⟩ (by decide) (by decide) slices_S512x2048_o0_1408_S512x128 inb_S512x1024_S512x128_0_640
    · exact head 1152 512 ⟨rfl, rfl⟩ (by decide) (by decide) slices_S512x2048_o0_1152_S512x128 inb_S512x1024_S512x128_0_512
    · exact head 896 384 ⟨rfl, rfl⟩ (by decide) (by decide) slices_S512x2048_o0_896_S512x128 inb_S512x1024_S512x128_0_384
    · exact head 640 256 ⟨rfl, rfl⟩ (by decide) (by decide) slices_S512x2048_o0_640_S512x128 inb_S512x1024_S512x128_0_256
    · exact head 384 128 ⟨rfl, rfl⟩ (by decide) (by decide) slices_S512x2048_o0_384_S512x128 inb_S512x1024_S512x128_0_128
    · exact head 128 0 ⟨rfl, rfl⟩ (by decide) (by decide) slices_S512x2048_o0_128_S512x128 inb_S512x1024_S512x128_0_0
  rw [h]
  show seconds (fun j => k0_pay53 x0 x1 x2 x3 x4 x5 x6 x7 x8 x9 (ix2 a j)) b = _
  simp only [v62_at]

end Body

/-! ## The blocks -/

section Blocks

variable (m : (ℓ : Loc nD τ sig) → Buf (Elt Ideal) ℓ) (c : Dev nD)

theorem N16 (t : Fin cfg0.N) : t.val < 16 := lt_of_lt_of_eq t.isLt N_0

/-- Row `a` of the block at point `t` is row `512 t + a` of the array. -/
def row (t : Fin cfg0.N) (a : Fin 512) : Fin 8192 := ⟨512 * t.val + a.val, by have := N16 t; have := a.isLt; omega⟩

theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = 0 ∧ win0_6.index t 1 = 0 :=
  (by decide +kernel : ∀ t : Fin grid0.N, win0_6.index t 0 = 0 ∧ win0_6.index t 1 = 0)
theorem index_7 : ∀ t : Fin cfg0.N, win0_7.index t 0 = t.val ∧ win0_7.index t 1 = 0 :=
  (by decide +kernel : ∀ t : Fin grid0.N, win0_7.index t 0 = t.val ∧ win0_7.index t 1 = 0)
theorem index_8 : ∀ t : Fin cfg0.N, win0_8.index t 0 = t.val ∧ win0_8.index t 1 = 0 :=
  (by decide +kernel : ∀ t : Fin grid0.N, win0_8.index t 0 = t.val ∧ win0_8.index t 1 = 0)
theorem index_9 : ∀ t : Fin cfg0.N, win0_9.index t 0 = t.val ∧ win0_9.index t 1 = 0 :=
  (by decide +kernel : ∀ t : Fin grid0.N, win0_9.index t 0 = t.val ∧ win0_9.index t 1 = 0)
theorem index_10 : ∀ t : Fin cfg0.N, win0_10.index t 0 = t.val ∧ win0_10.index t 1 = 0 :=
  (by decide +kernel : ∀ t : Fin grid0.N, win0_10.index t 0 = t.val ∧ win0_10.index t 1 = 0)
theorem index_11 : ∀ t : Fin cfg0.N, win0_11.index t 0 = t.val ∧ win0_11.index t 1 = 0 :=
  (by decide +kernel : ∀ t : Fin grid0.N, win0_11.index t 0 = t.val ∧ win0_11.index t 1 = 0)
theorem index_12 : ∀ t : Fin cfg0.N, win0_12.index t 0 = t.val ∧ win0_12.index t 1 = 0 :=
  (by decide +kernel : ∀ t : Fin grid0.N, win0_12.index t 0 = t.val ∧ win0_12.index t 1 = 0)
theorem index_13 : ∀ t : Fin cfg0.N, win0_13.index t 0 = t.val ∧ win0_13.index t 1 = 0 :=
  (by decide +kernel : ∀ t : Fin grid0.N, win0_13.index t 0 = t.val ∧ win0_13.index t 1 = 0)
theorem index_14 : ∀ t : Fin cfg0.N, win0_14.index t 0 = t.val ∧ win0_14.index t 1 = 0 :=
  (by decide +kernel : ∀ t : Fin grid0.N, win0_14.index t 0 = t.val ∧ win0_14.index t 1 = 0)
theorem index_15 : ∀ t : Fin cfg0.N, win0_15.index t 0 = t.val ∧ win0_15.index t 1 = 0 :=
  (by decide +kernel : ∀ t : Fin grid0.N, win0_15.index t 0 = t.val ∧ win0_15.index t 1 = 0)
theorem index_16 : ∀ t : Fin cfg0.N, win0_16.index t 0 = t.val ∧ win0_16.index t 1 = 0 :=
  (by decide +kernel : ∀ t : Fin grid0.N, win0_16.index t 0 = t.val ∧ win0_16.index t 1 = 0)

theorem iblk_0 (t : Fin cfg0.N) (a : Fin 512) (b : Fin 1024) :
    (iblk m c 0 t : Vec Ideal S512x1024 .f32) (ix2 a b) = V m c main_arg0 (ix2 (row t a) b) := by
  refine congrArg (V m c main_arg0) (funext fun d => Fin.ext ?_)
  match d with
  | ⟨0, _⟩ => show win0_0.index t 0 * 512 + 1 * a.val = 512 * t.val + a.val; rw [(index_0 t).1]; omega
  | ⟨1, _⟩ => show win0_0.index t 1 * 1024 + 1 * b.val = b.val; rw [(index_0 t).2]; omega

theorem iblk_1 (t : Fin cfg0.N) (b : Fin 1024) :
    (iblk m c 1 t : Vec Ideal S1x1024 .f32) (ix2 (0 : Fin 1) b) = V m c main_v19 (ix2 0 b) := by
  refine congrArg (V m c main_v19) (funext fun d => Fin.ext ?_)
  match d with
  | ⟨0, _⟩ => show win0_1.index t 0 * 1 + 1 * 0 = 0; rw [(index_1 t).1]
  | ⟨1, _⟩ => show win0_1.index t 1 * 1024 + 1 * b.val = b.val; rw [(index_1 t).2]; omega

theorem iblk_2 (t : Fin cfg0.N) (k : Fin 1024) (b : Fin 896) :
    (iblk m c 2 t : Vec Ideal S1024x896 .bf16) (ix2 k b) = V m c main_v21 (ix2 k b) := by
  refine congrArg (V m c main_v21) (funext fun d => Fin.ext ?_)
  match d with
  | ⟨0, _⟩ => show win0_2.index t 0 * 1024 + 1 * k.val = k.val; rw [(index_2 t).1]; omega
  | ⟨1, _⟩ => show win0_2.index t 1 * 896 + 1 * b.val = b.val; rw [(index_2 t).2]; omega

theorem iblk_3 (t : Fin cfg0.N) (b : Fin 512) :
    (iblk m c 3 t : Vec Ideal S1x512 .f32) (ix2 (0 : Fin 1) b) = V m c main_v22 (ix2 0 b) := by
  refine congrArg (V m c main_v22) (funext fun d => Fin.ext ?_)
  match d with
  | ⟨0, _⟩ => show win0_3.index t 0 * 1 + 1 * 0 = 0; rw [(index_3 t).1]
  | ⟨1, _⟩ => show win0_3.index t 1 * 512 + 1 * b.val = b.val; rw [(index_3 t).2]; omega

theorem iblk_4 (t : Fin cfg0.N) (b : Fin 256) :
    (iblk m c 4 t : Vec Ideal S1x256 .f32) (ix2 (0 : Fin 1) b) = V m c main_v23 (ix2 0 b) := by
  refine congrArg (V m c main_v23) (funext fun d => Fin.ext ?_)
  match d with
  | ⟨0, _⟩ => show win0_4.index t 0 * 1 + 1 * 0 = 0; rw [(index_4 t).1]
  | ⟨1, _⟩ => show win0_4.index t 1 * 256 + 1 * b.val = b.val; rw [(index_4 t).2]; omega

theorem iblk_5 (t : Fin cfg0.N) (k : Fin 512) (b : Fin 2048) :
    (iblk m c 5 t : Vec Ideal S512x2048 .bf16) (ix2 k b) = V m c main_v26 (ix2 k b) := by
  refine congrArg (V m c main_v26) (funext fun d => Fin.ext ?_)
  match d with
  | ⟨0, _⟩ => show win0_5.index t 0 * 512 + 1 * k.val = k.val; rw [(index_5 t).1]; omega
  | ⟨1, _⟩ => show win0_5.index t 1 * 2048 + 1 * b.val = b.val; rw [(index_5 t).2]; omega

theorem iblk_6 (t : Fin cfg0.N) (k : Fin 256) (b : Fin 2048) :
    (iblk m c 6 t : Vec Ideal S256x2048 .bf16) (ix2 k b) = V m c main_v28 (ix2 k b) := by
  refine congrArg (V m c main_v28) (funext fun d => Fin.ext ?_)
  match d with
  | ⟨0, _⟩ => show win0_6.index t 0 * 256 + 1 * k.val = k.val; rw [(index_6 t).1]; omega
  | ⟨1, _⟩ => show win0_6.index t 1 * 2048 + 1 * b.val = b.val; rw [(index_6 t).2]; omega

theorem iblk_7 (t : Fin cfg0.N) (a : Fin 512) (b : Fin 128) :
    (iblk m c 7 t : Vec Ideal S512x128 .f32) (ix2 a b) = V m c main_v16 (ix2 (row t a) b) := by
  refine congrArg (V m c main_v16) (funext fun d => Fin.ext ?_)
  match d with
  | ⟨0, _⟩ => show win0_7.index t 0 * 512 + 1 * a.val = 512 * t.val + a.val; rw [(index_7 t).1]; omega
  | ⟨1, _⟩ => show win0_7.index t 1 * 128 + 1 * b.val = b.val; rw [(index_7 t).2]; omega

theorem iblk_8 (t : Fin cfg0.N) (a : Fin 512) (b : Fin 128) :
    (iblk m c 8 t : Vec Ideal S512x128 .f32) (ix2 a b) = V m c main_v17 (ix2 (row t a) b) := by
  refine congrArg (V m c main_v17) (funext fun d => Fin.ext ?_)
  match d with
  | ⟨0, _⟩ => show win0_8.index t 0 * 512 + 1 * a.val = 512 * t.val + a.val; rw [(index_8 t).1]; omega
  | ⟨1, _⟩ => show win0_8.index t 1 * 128 + 1 * b.val = b.val; rw [(index_8 t).2]; omega

theorem iblk_9 (t : Fin cfg0.N) (a : Fin 512) (b : Fin 128) :
    (iblk m c 9 t : Vec Ideal S512x128 .f32) (ix2 a b) = V m c main_v18 (ix2 (row t a) b) := by
  refine congrArg (V m c main_v18) (funext fun d => Fin.ext ?_)
  match d with
  | ⟨0, _⟩ => show win0_9.index t 0 * 512 + 1 * a.val = 512 * t.val + a.val; rw [(index_9 t).1]; omega
  | ⟨1, _⟩ => show win0_9.index t 1 * 128 + 1 * b.val = b.val; rw [(index_9 t).2]; omega

/-- Every row is in a block. -/
theorem row_of (r : Fin 8192) : ∃ (t : Fin cfg0.N) (a : Fin 512), row t a = r := by
  have ht : r.val / 512 < cfg0.N := by have := r.isLt; have : cfg0.N = 16 := N_0; omega
  exact ⟨⟨r.val / 512, ht⟩, ⟨r.val % 512, Nat.mod_lt _ (by decide)⟩, Fin.ext (Nat.div_add_mod _ _)⟩

theorem emb_10 (t : Fin cfg0.N) (a : Fin 512) (b : Fin 1024) :
    ((cfg0.win 10).blk t).view.emb (ix2 a b) = (ix2 (row t a) b) := by
  funext d
  apply Fin.ext
  match d with
  | ⟨0, _⟩ => show win0_10.index t 0 * 512 + 1 * a.val = 512 * t.val + a.val; rw [(index_10 t).1]; omega
  | ⟨1, _⟩ => show win0_10.index t 1 * 1024 + 1 * b.val = b.val; rw [(index_10 t).2]; omega

theorem emb_11 (t : Fin cfg0.N) (a : Fin 512) (b : Fin 896) :
    ((cfg0.win 11).blk t).view.emb (ix2 a b) = (ix2 (row t a) b) := by
  funext d
  apply Fin.ext
  match d with
  | ⟨0, _⟩ => show win0_11.index t 0 * 512 + 1 * a.val = 512 * t.val + a.val; rw [(index_11 t).1]; omega
  | ⟨1, _⟩ => show win0_11.index t 1 * 896 + 1 * b.val = b.val; rw [(index_11 t).2]; omega

theorem emb_12 (t : Fin cfg0.N) (a : Fin 512) (b : Fin 512) :
    ((cfg0.win 12).blk t).view.emb (ix2 a b) = (ix2 (row t a) b) := by
  funext d
  apply Fin.ext
  match d with
  | ⟨0, _⟩ => show win0_12.index t 0 * 512 + 1 * a.val = 512 * t.val + a.val; rw [(index_12 t).1]; omega
  | ⟨1, _⟩ => show win0_12.index t 1 * 512 + 1 * b.val = b.val; rw [(index_12 t).2]; omega

theorem emb_13 (t : Fin cfg0.N) (a : Fin 512) (b : Fin 256) :
    ((cfg0.win 13).blk t).view.emb (ix2 a b) = (ix2 (row t a) b) := by
  funext d
  apply Fin.ext
  match d with
  | ⟨0, _⟩ => show win0_13.index t 0 * 512 + 1 * a.val = 512 * t.val + a.val; rw [(index_13 t).1]; omega
  | ⟨1, _⟩ => show win0_13.index t 1 * 256 + 1 * b.val = b.val; rw [(index_13 t).2]; omega

theorem emb_14 (t : Fin cfg0.N) (a : Fin 512) (b : Fin 2048) :
    ((cfg0.win 14).blk t).view.emb (ix2 a b) = (ix2 (row t a) b) := by
  funext d
  apply Fin.ext
  match d with
  | ⟨0, _⟩ => show win0_14.index t 0 * 512 + 1 * a.val = 512 * t.val + a.val; rw [(index_14 t).1]; omega
  | ⟨1, _⟩ => show win0_14.index t 1 * 2048 + 1 * b.val = b.val; rw [(index_14 t).2]; omega

theorem emb_15 (t : Fin cfg0.N) (a : Fin 512) (b : Fin 2048) :
    ((cfg0.win 15).blk t).view.emb (ix2 a b) = (ix2 (row t a) b) := by
  funext d
  apply Fin.ext
  match d with
  | ⟨0, _⟩ => show win0_15.index t 0 * 512 + 1 * a.val = 512 * t.val + a.val; rw [(index_15 t).1]; omega
  | ⟨1, _⟩ => show win0_15.index t 1 * 2048 + 1 * b.val = b.val; rw [(index_15 t).2]; omega

theorem emb_16 (t : Fin cfg0.N) (a : Fin 512) (b : Fin 1024) :
    ((cfg0.win 16).blk t).view.emb (ix2 a b) = (ix2 (row t a) b) := by
  funext d
  apply Fin.ext
  match d with
  | ⟨0, _⟩ => show win0_16.index t 0 * 512 + 1 * a.val = 512 * t.val + a.val; rw [(index_16 t).1]; omega
  | ⟨1, _⟩ => show win0_16.index t 1 * 1024 + 1 * b.val = b.val; rw [(index_16 t).2]; omega

theorem cover_10 (i : S8192x1024.Idx) :
    ∃ t : Fin cfg0.N, (cfg0.win 10).flush t = true ∧ i ∈ ((cfg0.win 10).blk t).view.set := by
  obtain ⟨t, a, h⟩ := row_of (i 0)
  have e := emb_10 t a (i 1)
  rw [h] at e
  exact ⟨t, flush0_10 _, (e.trans (eq_ix2 i).symm) ▸ View.emb_mem_set _ _⟩

theorem cover_11 (i : S8192x896.Idx) :
    ∃ t : Fin cfg0.N, (cfg0.win 11).flush t = true ∧ i ∈ ((cfg0.win 11).blk t).view.set := by
  obtain ⟨t, a, h⟩ := row_of (i 0)
  have e := emb_11 t a (i 1)
  rw [h] at e
  exact ⟨t, flush0_11 _, (e.trans (eq_ix2 i).symm) ▸ View.emb_mem_set _ _⟩

theorem cover_12 (i : S8192x512.Idx) :
    ∃ t : Fin cfg0.N, (cfg0.win 12).flush t = true ∧ i ∈ ((cfg0.win 12).blk t).view.set := by
  obtain ⟨t, a, h⟩ := row_of (i 0)
  have e := emb_12 t a (i 1)
  rw [h] at e
  exact ⟨t, flush0_12 _, (e.trans (eq_ix2 i).symm) ▸ View.emb_mem_set _ _⟩

theorem cover_13 (i : S8192x256.Idx) :
    ∃ t : Fin cfg0.N, (cfg0.win 13).flush t = true ∧ i ∈ ((cfg0.win 13).blk t).view.set := by
  obtain ⟨t, a, h⟩ := row_of (i 0)
  have e := emb_13 t a (i 1)
  rw [h] at e
  exact ⟨t, flush0_13 _, (e.trans (eq_ix2 i).symm) ▸ View.emb_mem_set _ _⟩

theorem cover_14 (i : S8192x2048.Idx) :
    ∃ t : Fin cfg0.N, (cfg0.win 14).flush t = true ∧ i ∈ ((cfg0.win 14).blk t).view.set := by
  obtain ⟨t, a, h⟩ := row_of (i 0)
  have e := emb_14 t a (i 1)
  rw [h] at e
  exact ⟨t, flush0_14 _, (e.trans (eq_ix2 i).symm) ▸ View.emb_mem_set _ _⟩

theorem cover_15 (i : S8192x2048.Idx) :
    ∃ t : Fin cfg0.N, (cfg0.win 15).flush t = true ∧ i ∈ ((cfg0.win 15).blk t).view.set := by
  obtain ⟨t, a, h⟩ := row_of (i 0)
  have e := emb_15 t a (i 1)
  rw [h] at e
  exact ⟨t, flush0_15 _, (e.trans (eq_ix2 i).symm) ▸ View.emb_mem_set _ _⟩

theorem cover_16 (i : S8192x1024.Idx) :
    ∃ t : Fin cfg0.N, (cfg0.win 16).flush t = true ∧ i ∈ ((cfg0.win 16).blk t).view.set := by
  obtain ⟨t, a, h⟩ := row_of (i 0)
  have e := emb_16 t a (i 1)
  rw [h] at e
  exact ⟨t, flush0_16 _, (e.trans (eq_ix2 i).symm) ▸ View.emb_mem_set _ _⟩

theorem g_at (b : Fin 1024) : V m c main_v19 (ix2 (0 : Fin 1) b) = m ((c : Thread nD τ).loc main_arg1) (ix1 b) := by
  have e : V m c main_v19 = broadcastInDim S1x1024 ![1] bcast_S1024_S1x1024_1 (m ((c : Thread nD τ).loc main_arg1)) := by
    unfold V
    after_reads_simp
  rw [e]
  pointwise

theorem gq_at (b : Fin 512) : V m c main_v22 (ix2 (0 : Fin 1) b) = m ((c : Thread nD τ).loc main_arg4) (ix1 b) := by
  have e : V m c main_v22 = broadcastInDim S1x512 ![1] bcast_S512_S1x512_1 (m ((c : Thread nD τ).loc main_arg4)) := by
    unfold V
    after_reads_simp
  rw [e]
  pointwise

theorem gkv_at (b : Fin 256) : V m c main_v23 (ix2 (0 : Fin 1) b) = m ((c : Thread nD τ).loc main_arg5) (ix1 b) := by
  have e : V m c main_v23 = broadcastInDim S1x256 ![1] bcast_S256_S1x256_1 (m ((c : Thread nD τ).loc main_arg5)) := by
    unfold V
    after_reads_simp
  rw [e]
  pointwise

theorem wa_at (k : Fin 1024) (j : Fin 896) : V m c main_v21 (ix2 k j) = tailE (fun q => m ((c : Thread nD τ).loc main_arg3) (ix2 k q)) j := by
  refine Eq.trans ?_ (tail_1024 (m ((c : Thread nD τ).loc main_arg3)) (sitofp (F := Ideal) .f32 (constantI S_ 32 0#32)) (fun _ => Layout.sitofp_zero) pads_S1024x832_S1024x896_000_0640 h_S_ k j)
  unfold V
  after_reads_simp
  rfl

theorem wuq_at (k : Fin 512) (j : Fin 2048) : V m c main_v26 (ix2 k j) = headE (fun a d => m ((c : Thread nD τ).loc main_arg6) (ix3 k a d)) j := by
  refine Eq.trans ?_ (heads_512 (m ((c : Thread nD τ).loc main_arg6)) (sitofp (F := Ideal) .f32 (constantI S_ 32 0#32)) (fun _ => Layout.sitofp_zero) pads_S512x8x192_S512x8x256_000_000_0640 h_S_
    shapeCasts_S512x8x256_S512x2048 k j)
  unfold V
  after_reads_simp
  rfl

theorem wukv_at (k : Fin 256) (j : Fin 2048) : V m c main_v28 (ix2 k j) = joinE (fun a d => m ((c : Thread nD τ).loc main_arg7) (ix3 k a d)) j := by
  refine Eq.trans ?_ (join_256 (m ((c : Thread nD τ).loc main_arg7)) shapeCasts_S256x8x256_S256x2048 k j)
  unfold V
  after_reads_simp
  rfl

/-- The cosine of row `r`'s position, -/
def cosE (r : Fin 8192) (d : Fin 32) : EReal := Ideal.cos (angle (FloatOps.sitofp (F := Ideal) .f32 (m ((c : Thread nD τ).loc main_arg2) (ix1 r))) d)
/-- and its sine. -/
def sinE (r : Fin 8192) (d : Fin 32) : EReal := Ideal.sin (angle (FloatOps.sitofp (F := Ideal) .f32 (m ((c : Thread nD τ).loc main_arg2) (ix1 r))) d)

theorem cs_at (r : Fin 8192) (l : Fin 128) : V m c main_v16 (ix2 r l) = csE (cosE m c r) l := by
  unfold V
  after_reads_simp
  pointwise
  after_reads_simp
  pointwise
  unfold csE cosE
  by_cases h : l.val < 32
  · rw [dif_pos h, dif_pos h]
    rfl
  · by_cases h' : l.val < 64
    · rw [dif_neg h, dif_neg h, dif_pos h', dif_pos (by omega)]
      rfl
    · rw [dif_neg h, dif_neg h, dif_neg h', dif_neg (by omega)]
      split <;> rfl

theorem sa_at (r : Fin 8192) (l : Fin 128) : V m c main_v17 (ix2 r l) = saE (sinE m c r) l := by
  unfold V
  after_reads_simp
  pointwise
  after_reads_simp
  pointwise
  unfold saE sinE
  by_cases h : l.val < 32
  · rw [dif_pos h, dif_pos h]
    rfl
  · rw [dif_neg h, dif_neg h]
    repeat' split
    all_goals rfl

theorem sb_at (r : Fin 8192) (l : Fin 128) : V m c main_v18 (ix2 r l) = sbE (sinE m c r) l := by
  unfold V
  after_reads_simp
  pointwise
  after_reads_simp
  pointwise
  unfold sbE sinE
  by_cases h : l.val < 32
  · rw [dif_pos h, if_pos h]
  · by_cases h' : l.val < 64
    · rw [dif_neg h, if_neg h, dif_pos h', dif_pos (by omega)]
      rfl
    · rw [dif_neg h, if_neg h, dif_neg h', dif_neg (by omega)]
      split <;> rfl

/-- The functions of one row of the arrays: the normed row, -/
def nR (r : Fin 8192) : Fin 1024 → EReal := normN w1024 (fun k => m ((c : Thread nD τ).loc main_arg0) (ix2 r k)) (fun k => m ((c : Thread nD τ).loc main_arg1) (ix1 k))
/-- the down projection, -/
def aR (r : Fin 8192) (j : Fin 832) : EReal := rowcol (nR m c r) (fun k => m ((c : Thread nD τ).loc main_arg3) (ix2 k j))
/-- the two latents, -/
def cqR (r : Fin 8192) : Fin 512 → EReal :=
  normN w512 (fun q => aR m c r ⟨q.val, by have := q.isLt; omega⟩) (fun k => m ((c : Thread nD τ).loc main_arg4) (ix1 k))
def ckvR (r : Fin 8192) : Fin 256 → EReal :=
  normN w256 (fun q => aR m c r ⟨512 + q.val, by have := q.isLt; omega⟩) (fun k => m ((c : Thread nD τ).loc main_arg5) (ix1 k))
/-- their up projections, -/
def qR (r : Fin 8192) (a : Fin 8) (d : Fin 192) : EReal := rowcol (cqR m c r) (fun k => m ((c : Thread nD τ).loc main_arg6) (ix3 k a d)) * scale
def kvR (r : Fin 8192) (a : Fin 8) (d : Fin 256) : EReal := rowcol (ckvR m c r) (fun k => m ((c : Thread nD τ).loc main_arg7) (ix3 k a d))
/-- and the part of the keys that the heads share. -/
def rR (r : Fin 8192) : Fin 64 → EReal :=
  rope (fun e => aR m c r ⟨768 + e.val, by have := e.isLt; omega⟩) (cosE m c r) (sinE m c r)

/-- The seven results. -/
def result10 : S8192x1024.Idx → EReal := fun i => nR m c (i 0) (i 1)
def result11 : S8192x896.Idx → EReal := fun i => tailE (aR m c (i 0)) (i 1)
def result12 : S8192x512.Idx → EReal := fun i => cqR m c (i 0) (i 1)
def result13 : S8192x256.Idx → EReal := fun i => ckvR m c (i 0) (i 1)
def result14 : S8192x2048.Idx → EReal := fun i => headE (queryE (qR m c (i 0)) (cosE m c (i 0)) (sinE m c (i 0))) (i 1)
def result15 : S8192x2048.Idx → EReal := fun i => headE (keyE (kvR m c (i 0)) (rR m c (i 0))) (i 1)
def result16 : S8192x1024.Idx → EReal := fun i => valueE (kvR m c (i 0)) (i 1)

variable (t : Fin cfg0.N) (a : Fin 512)

/-! A block's row is the array's row. -/

theorem n_row : nB (iblk m c 0 t) (iblk m c 1 t) a = nR m c (row t a) :=
  congrArg₂ (normN w1024) (funext fun k => by rw [iblk_0, V_main_arg0]) (funext fun k => by rw [iblk_1, g_at])

theorem a_row (j : Fin 896) : aB (iblk m c 0 t) (iblk m c 1 t) (iblk m c 2 t) a j = tailE (aR m c (row t a)) j := by
  unfold aB
  rw [n_row]
  refine Eq.trans (congrArg (rowcol _) (funext fun k => ?_)) (rowcol_tail _ _ j)
  rw [iblk_2, wa_at]

theorem cq_row : cqB (iblk m c 0 t) (iblk m c 1 t) (iblk m c 2 t) (iblk m c 3 t) a = cqR m c (row t a) := by
  refine congrArg₂ (normN w512) (funext fun q => ?_) (funext fun k => by rw [iblk_3, gq_at])
  have := q.isLt
  rw [a_row]
  unfold tailE
  rw [dif_pos (by show q.val < 832; omega)]

theorem ckv_row : ckvB (iblk m c 0 t) (iblk m c 1 t) (iblk m c 2 t) (iblk m c 4 t) a = ckvR m c (row t a) := by
  refine congrArg₂ (normN w256) (funext fun q => ?_) (funext fun k => by rw [iblk_4, gkv_at])
  have := q.isLt
  rw [a_row]
  unfold tailE
  rw [dif_pos (by show 512 + q.val < 832; omega)]

theorem q_row : qB (iblk m c 0 t) (iblk m c 1 t) (iblk m c 2 t) (iblk m c 3 t) (iblk m c 5 t) a = headE (qR m c (row t a)) := by
  funext j
  unfold qB
  have h : (fun k => (iblk m c 5 t : Vec Ideal S512x2048 .bf16) (ix2 k j)) = fun k => headE (fun a d => m ((c : Thread nD τ).loc main_arg6) (ix3 k a d)) j :=
    funext fun k => (iblk_5 m c t k j).trans (wuq_at m c k j)
  rw [cq_row, h]
  exact rowcol_head (cqR m c (row t a)) (fun k a d => m ((c : Thread nD τ).loc main_arg6) (ix3 k a d)) scale j

theorem kv_row : kvB (iblk m c 0 t) (iblk m c 1 t) (iblk m c 2 t) (iblk m c 4 t) (iblk m c 6 t) a = joinE (kvR m c (row t a)) := by
  funext j
  unfold kvB
  rw [ckv_row]
  refine Eq.trans (congrArg (rowcol _) (funext fun k => ?_)) (rowcol_join _ _ j)
  rw [iblk_6, wukv_at]

theorem cs_row : (fun l => (iblk m c 7 t : Vec Ideal S512x128 .f32) (ix2 a l)) = csE (cosE m c (row t a)) :=
  funext fun l => by rw [iblk_7, cs_at]
theorem sa_row : (fun l => (iblk m c 8 t : Vec Ideal S512x128 .f32) (ix2 a l)) = saE (sinE m c (row t a)) :=
  funext fun l => by rw [iblk_8, sa_at]
theorem sb_row : (fun l => (iblk m c 9 t : Vec Ideal S512x128 .f32) (ix2 a l)) = sbE (sinE m c (row t a)) :=
  funext fun l => by rw [iblk_9, sb_at]

theorem r_row (l : Fin 128) : rB (iblk m c 0 t) (iblk m c 1 t) (iblk m c 2 t) (iblk m c 7 t) (iblk m c 8 t) (iblk m c 9 t) a l
    = if h : l.val < 64 then rR m c (row t a) ⟨l.val, h⟩ else 0 := by
  unfold rB
  rw [cs_row, sa_row, sb_row]
  refine turn_eq _ _ (fun e => ?_) _ _ l
  have := e.isLt
  show aB _ _ _ _ (⟨768 + e.val, _⟩ : Fin 896) = _
  rw [a_row]
  unfold tailE
  rw [dif_pos (by show 768 + e.val < 832; omega)]

theorem flushed_10 (t : Fin cfg0.N) :
    (dats m 0 c).flushed 10 t = ((cfg0.win 10).blk t).view.read (Elt Ideal) (result10 m c) := by
  rw [Value.flushed10]
  funext j
  rw [View.read_apply]
  obtain ⟨a, b, rfl⟩ : ∃ (a : Fin 512) (b : Fin 1024), j = ix2 a b := ⟨j 0, j 1, eq_ix2 _⟩
  rw [emb_10]
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a b) = result10 m c (ix2 (row t a) b)
  rw [out10_at, n_row]
  rfl

/-- The first result array after the run. -/
theorem final_10 : (dats m 0 c).arrAt 10 cfg0.N = result10 m c :=
  (dats m 0 c).arrAt_eq_of_cover 10 (result10 m c) (fun t _ => flushed_10 m c t) cover_10

theorem flushed_11 (t : Fin cfg0.N) :
    (dats m 0 c).flushed 11 t = ((cfg0.win 11).blk t).view.read (Elt Ideal) (result11 m c) := by
  rw [Value.flushed11]
  funext j
  rw [View.read_apply]
  obtain ⟨a, b, rfl⟩ : ∃ (a : Fin 512) (b : Fin 896), j = ix2 a b := ⟨j 0, j 1, eq_ix2 _⟩
  rw [emb_11]
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a b) = result11 m c (ix2 (row t a) b)
  rw [out11_at, a_row]
  rfl

/-- The second result array after the run. -/
theorem final_11 : (dats m 0 c).arrAt 11 cfg0.N = result11 m c :=
  (dats m 0 c).arrAt_eq_of_cover 11 (result11 m c) (fun t _ => flushed_11 m c t) cover_11

theorem flushed_12 (t : Fin cfg0.N) :
    (dats m 0 c).flushed 12 t = ((cfg0.win 12).blk t).view.read (Elt Ideal) (result12 m c) := by
  rw [Value.flushed12]
  funext j
  rw [View.read_apply]
  obtain ⟨a, b, rfl⟩ : ∃ (a : Fin 512) (b : Fin 512), j = ix2 a b := ⟨j 0, j 1, eq_ix2 _⟩
  rw [emb_12]
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a b) = result12 m c (ix2 (row t a) b)
  rw [out12_at, cq_row]
  rfl

/-- The third result array after the run. -/
theorem final_12 : (dats m 0 c).arrAt 12 cfg0.N = result12 m c :=
  (dats m 0 c).arrAt_eq_of_cover 12 (result12 m c) (fun t _ => flushed_12 m c t) cover_12

theorem flushed_13 (t : Fin cfg0.N) :
    (dats m 0 c).flushed 13 t = ((cfg0.win 13).blk t).view.read (Elt Ideal) (result13 m c) := by
  rw [Value.flushed13]
  funext j
  rw [View.read_apply]
  obtain ⟨a, b, rfl⟩ : ∃ (a : Fin 512) (b : Fin 256), j = ix2 a b := ⟨j 0, j 1, eq_ix2 _⟩
  rw [emb_13]
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a b) = result13 m c (ix2 (row t a) b)
  rw [out13_at, ckv_row]
  rfl

/-- The fourth result array after the run. -/
theorem final_13 : (dats m 0 c).arrAt 13 cfg0.N = result13 m c :=
  (dats m 0 c).arrAt_eq_of_cover 13 (result13 m c) (fun t _ => flushed_13 m c t) cover_13

theorem flushed_14 (t : Fin cfg0.N) :
    (dats m 0 c).flushed 14 t = ((cfg0.win 14).blk t).view.read (Elt Ideal) (result14 m c) := by
  rw [Value.flushed14]
  funext j
  rw [View.read_apply]
  obtain ⟨a, b, rfl⟩ : ∃ (a : Fin 512) (b : Fin 2048), j = ix2 a b := ⟨j 0, j 1, eq_ix2 _⟩
  rw [emb_14]
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a b) = result14 m c (ix2 (row t a) b)
  rw [out14_at, q_row, cs_row, sa_row, sb_row]
  exact turnQ_eq _ _ _ b

/-- The fifth result array after the run. -/
theorem final_14 : (dats m 0 c).arrAt 14 cfg0.N = result14 m c :=
  (dats m 0 c).arrAt_eq_of_cover 14 (result14 m c) (fun t _ => flushed_14 m c t) cover_14

theorem flushed_15 (t : Fin cfg0.N) :
    (dats m 0 c).flushed 15 t = ((cfg0.win 15).blk t).view.read (Elt Ideal) (result15 m c) := by
  rw [Value.flushed15]
  funext j
  rw [View.read_apply]
  obtain ⟨a, b, rfl⟩ : ∃ (a : Fin 512) (b : Fin 2048), j = ix2 a b := ⟨j 0, j 1, eq_ix2 _⟩
  rw [emb_15]
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a b) = result15 m c (ix2 (row t a) b)
  rw [out15_at, kv_row]
  exact withK_eq _ _ _ (r_row m c t a) b

/-- The sixth result array after the run. -/
theorem final_15 : (dats m 0 c).arrAt 15 cfg0.N = result15 m c :=
  (dats m 0 c).arrAt_eq_of_cover 15 (result15 m c) (fun t _ => flushed_15 m c t) cover_15

theorem flushed_16 (t : Fin cfg0.N) :
    (dats m 0 c).flushed 16 t = ((cfg0.win 16).blk t).view.read (Elt Ideal) (result16 m c) := by
  rw [Value.flushed16]
  funext j
  rw [View.read_apply]
  obtain ⟨a, b, rfl⟩ : ∃ (a : Fin 512) (b : Fin 1024), j = ix2 a b := ⟨j 0, j 1, eq_ix2 _⟩
  rw [emb_16]
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix2 a b) = result16 m c (ix2 (row t a) b)
  rw [out16_at, kv_row]
  exact seconds_eq _ b

/-- The seventh result array after the run. -/
theorem final_16 : (dats m 0 c).arrAt 16 cfg0.N = result16 m c :=
  (dats m 0 c).arrAt_eq_of_cover 16 (result16 m c) (fun t _ => flushed_16 m c t) cover_16

end Blocks

end Cert.MlaPreIdeal.RealValue

end
-- ==== Proof.MlaPre.lean ====
/- The claims about `MlaPre`: the attention before its softmax is the reference's. -/
module

public import proofs.«01_k».proof.Defs
public import proofs.«01_k».proof.Proof.MlaPreKernel
public import proofs.«01_k».proof.Proof.Gen.MlaPreRefIdeal.Run
public import proofs.«01_k».proof.Proof.Gen.MlaPreRefIdeal.Read

@[expose] public section

noncomputable section

namespace Cert.MlaPreClaim

open Idealize.ShloMosaic Idealize.ShloMosaic.TcCoe Idealize.SL.Sem Cert.Layout Cert.MlaExt

/-! ## The reference's rows -/

section Rows

open Cert.MlaPreRefIdeal

/-- The normed row, -/
def nX (x0 : FVec Ideal S8192x1024 .f32) (x1 : FVec Ideal S1024 .f32) (r : Fin 8192) : Fin 1024 → EReal := normN w1024 (fun k => x0 (ix2 r k)) (fun k => x1 (ix1 k))
/-- the down projection, -/
def aX (x0 : FVec Ideal S8192x1024 .f32) (x1 : FVec Ideal S1024 .f32) (x3 : FVec Ideal S1024x832 .f32) (r : Fin 8192) (j : Fin 832) : EReal := rowcol (nX x0 x1 r) (fun k => x3 (ix2 k j))
/-- the two latents, -/
def cqX (x0 : FVec Ideal S8192x1024 .f32) (x1 : FVec Ideal S1024 .f32) (x3 : FVec Ideal S1024x832 .f32) (x4 : FVec Ideal S512 .f32) (r : Fin 8192) : Fin 512 → EReal :=
  normN w512 (fun q => aX x0 x1 x3 r ⟨q.val, by have := q.isLt; omega⟩) (fun k => x4 (ix1 k))
def ckvX (x0 : FVec Ideal S8192x1024 .f32) (x1 : FVec Ideal S1024 .f32) (x3 : FVec Ideal S1024x832 .f32) (x5 : FVec Ideal S256 .f32) (r : Fin 8192) : Fin 256 → EReal :=
  normN w256 (fun q => aX x0 x1 x3 r ⟨512 + q.val, by have := q.isLt; omega⟩) (fun k => x5 (ix1 k))
/-- their up projections, -/
def qX (x0 : FVec Ideal S8192x1024 .f32) (x1 : FVec Ideal S1024 .f32) (x3 : FVec Ideal S1024x832 .f32) (x4 : FVec Ideal S512 .f32) (x6 : FVec Ideal S512x8x192 .f32) (r : Fin 8192) (a : Fin 8) (d : Fin 192) : EReal :=
  rowcol (cqX x0 x1 x3 x4 r) (fun k => x6 (ix3 k a d)) * scale
def kvX (x0 : FVec Ideal S8192x1024 .f32) (x1 : FVec Ideal S1024 .f32) (x3 : FVec Ideal S1024x832 .f32) (x5 : FVec Ideal S256 .f32) (x7 : FVec Ideal S256x8x256 .f32) (r : Fin 8192) (a : Fin 8) (d : Fin 256) : EReal :=
  rowcol (ckvX x0 x1 x3 x5 r) (fun k => x7 (ix3 k a d))
/-- the cosines and sines of the row's position, -/
def cosX (x2 : IVec S8192 32) (r : Fin 8192) (d : Fin 32) : EReal := Ideal.cos (angle (FloatOps.sitofp (F := Ideal) .f32 (x2 (ix1 r))) d)
def sinX (x2 : IVec S8192 32) (r : Fin 8192) (d : Fin 32) : EReal := Ideal.sin (angle (FloatOps.sitofp (F := Ideal) .f32 (x2 (ix1 r))) d)
/-- and the part of the keys that the heads share. -/
def rX (x0 : FVec Ideal S8192x1024 .f32) (x1 : FVec Ideal S1024 .f32) (x2 : IVec S8192 32) (x3 : FVec Ideal S1024x832 .f32) (r : Fin 8192) : Fin 64 → EReal :=
  rope (fun e => aX x0 x1 x3 r ⟨768 + e.val, by have := e.isLt; omega⟩) (cosX x2 r) (sinX x2 r)

end Rows

open Cert.MlaPreRefIdeal Cert.MlaPreRefIdeal.Read in
/-- The normed rows at an entry. -/
theorem v12_entry (x0 : FVec Ideal S8192x1024 .f32) (x1 : FVec Ideal S1024 .f32) (r : Fin 8192) (b : Fin 1024) :
    val_main_v12 (F := Ideal) x0 x1 (ix2 r b) = nX x0 x1 r b := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

open Cert.MlaPreRefIdeal Cert.MlaPreRefIdeal.Read in
/-- The down projection at an entry. -/
theorem v13_entry (x0 : FVec Ideal S8192x1024 .f32) (x1 : FVec Ideal S1024 .f32) (x3 : FVec Ideal S1024x832 .f32) (r : Fin 8192) (b : Fin 832) :
    val_main_v13 (F := Ideal) x0 x1 x3 (ix2 r b) = aX x0 x1 x3 r b := by
  unfold val_main_v13
  generalize hg : val_main_v12 (F := Ideal) x0 x1 = g
  pointwise [dot_S8192x1024_S1024x832_S8192x832_1_0_0_1_n_n]
  subst hg
  unfold aX rowcol
  exact Finset.sum_congr rfl fun k _ => congrArg (· * x3 (ix2 k b)) (v12_entry x0 x1 r k)

open Cert.MlaPreRefIdeal Cert.MlaPreRefIdeal.Read in
/-- A latent at an entry. -/
theorem v27_entry (x0 : FVec Ideal S8192x1024 .f32) (x1 : FVec Ideal S1024 .f32) (x3 : FVec Ideal S1024x832 .f32) (x4 : FVec Ideal S512 .f32) (r : Fin 8192) (b : Fin 512) :
    val_main_v27 (F := Ideal) x0 x1 x3 x4 (ix2 r b) = cqX x0 x1 x3 x4 r b := by
  have e : (fun q : Fin 512 => aX x0 x1 x3 r ⟨q.val, by have := q.isLt; omega⟩)
      = fun q => val_main_v13 (F := Ideal) x0 x1 x3 (ix2 r ⟨q.val, by have := q.isLt; omega⟩) := funext fun q => (v13_entry x0 x1 x3 r _).symm
  unfold cqX
  rw [e]
  unfold val_main_v27 val_main_v26 val_main_v25 val_main_v24 val_main_v23 val_main_v22 val_main_v21 val_main_v20 val_main_v19 val_main_v18 val_main_v17 val_main_v16 val_main_v15 val_main_v14 val_main_cst_2 val_main_cst_3 val_main_cst_4
  generalize val_main_v13 (F := Ideal) x0 x1 x3 = g
  pointwise
  rfl

open Cert.MlaPreRefIdeal Cert.MlaPreRefIdeal.Read in
/-- A latent at an entry. -/
theorem v41_entry (x0 : FVec Ideal S8192x1024 .f32) (x1 : FVec Ideal S1024 .f32) (x3 : FVec Ideal S1024x832 .f32) (x5 : FVec Ideal S256 .f32) (r : Fin 8192) (b : Fin 256) :
    val_main_v41 (F := Ideal) x0 x1 x3 x5 (ix2 r b) = ckvX x0 x1 x3 x5 r b := by
  have e : (fun q : Fin 256 => aX x0 x1 x3 r ⟨512 + q.val, by have := q.isLt; omega⟩)
      = fun q => val_main_v13 (F := Ideal) x0 x1 x3 (ix2 r ⟨512 + q.val, by have := q.isLt; omega⟩) := funext fun q => (v13_entry x0 x1 x3 r _).symm
  unfold ckvX
  rw [e]
  unfold val_main_v41 val_main_v40 val_main_v39 val_main_v38 val_main_v37 val_main_v36 val_main_v35 val_main_v34 val_main_v33 val_main_v32 val_main_v31 val_main_v30 val_main_v29 val_main_v28 val_main_cst_5 val_main_cst_6 val_main_cst_7
  generalize val_main_v13 (F := Ideal) x0 x1 x3 = g
  pointwise
  rfl

open Cert.MlaPreRefIdeal Cert.MlaPreRefIdeal.Read in
/-- A query before its rotation at an entry. -/
theorem v44_entry (x0 : FVec Ideal S8192x1024 .f32) (x1 : FVec Ideal S1024 .f32) (x3 : FVec Ideal S1024x832 .f32) (x4 : FVec Ideal S512 .f32) (x6 : FVec Ideal S512x8x192 .f32) (r : Fin 8192) (a : Fin 8) (d : Fin 192) :
    val_main_v44 (F := Ideal) x0 x1 x3 x4 x6 (ix3 r a d) = qX x0 x1 x3 x4 x6 r a d := by
  unfold val_main_v44 val_main_v43 val_main_v42 val_main_cst_8
  generalize hg : val_main_v27 (F := Ideal) x0 x1 x3 x4 = g
  pointwise [dot_S8192x512_S512x8x192_S8192x8x192_1_0_0_12_n_n]
  subst hg
  unfold qX rowcol scale
  exact congrArg (· * _) (Finset.sum_congr rfl fun k _ => congrArg (· * x6 (ix3 k a d)) (v27_entry x0 x1 x3 x4 r k))

open Cert.MlaPreRefIdeal Cert.MlaPreRefIdeal.Read in
/-- A key and value at an entry. -/
theorem v45_entry (x0 : FVec Ideal S8192x1024 .f32) (x1 : FVec Ideal S1024 .f32) (x3 : FVec Ideal S1024x832 .f32) (x5 : FVec Ideal S256 .f32) (x7 : FVec Ideal S256x8x256 .f32) (r : Fin 8192) (a : Fin 8) (d : Fin 256) :
    val_main_v45 (F := Ideal) x0 x1 x3 x5 x7 (ix3 r a d) = kvX x0 x1 x3 x5 x7 r a d := by
  unfold val_main_v45
  generalize hg : val_main_v41 (F := Ideal) x0 x1 x3 x5 = g
  pointwise [dot_S8192x256_S256x8x256_S8192x8x256_1_0_0_12_n_n]
  subst hg
  unfold kvX rowcol
  exact Finset.sum_congr rfl fun k _ => congrArg (· * x7 (ix3 k a d)) (v41_entry x0 x1 x3 x5 r k)

open Cert.MlaPreRefIdeal Cert.MlaPreRefIdeal.Read in
/-- The cosines at an entry. -/
theorem v59_entry (x2 : IVec S8192 32) (r : Fin 8192) (d : Fin 32) :
    val_main_v59 (F := Ideal) x2 (ix2 r d) = cosX x2 r d := by
  unfold val_main_v59 val_main_v58 val_main_v57 val_main_v56 val_main_v55 val_main_v54 val_main_v53 val_main_v52 val_main_v51 val_main_v50 val_main_v49 val_main_v48 val_main_v47 val_main_v46 val_main_cst_9 val_main_cst_10 val_main_cst_11
  pointwise
  rfl

open Cert.MlaPreRefIdeal Cert.MlaPreRefIdeal.Read in
/-- The sines at an entry. -/
theorem v60_entry (x2 : IVec S8192 32) (r : Fin 8192) (d : Fin 32) :
    val_main_v60 (F := Ideal) x2 (ix2 r d) = sinX x2 r d := by
  unfold val_main_v60 val_main_v58 val_main_v57 val_main_v56 val_main_v55 val_main_v54 val_main_v53 val_main_v52 val_main_v51 val_main_v50 val_main_v49 val_main_v48 val_main_v47 val_main_v46 val_main_cst_9 val_main_cst_10 val_main_cst_11
  pointwise
  rfl

open Cert.MlaPreRefIdeal Cert.MlaPreRefIdeal.Read in
/-- The rotated part of a query at an entry. -/
theorem v76_entry (x0 : FVec Ideal S8192x1024 .f32) (x1 : FVec Ideal S1024 .f32) (x2 : IVec S8192 32) (x3 : FVec Ideal S1024x832 .f32) (x4 : FVec Ideal S512 .f32) (x6 : FVec Ideal S512x8x192 .f32) (r : Fin 8192) (a : Fin 8) (d : Fin 64) :
    val_main_v76 (F := Ideal) x0 x1 x2 x3 x4 x6 (ix3 r a d) = rope (fun e => qX x0 x1 x3 x4 x6 r a ⟨128 + e.val, by have := e.isLt; omega⟩) (cosX x2 r) (sinX x2 r) d := by
  have ec : cosX x2 r = fun d => val_main_v59 (F := Ideal) x2 (ix2 r d) := funext fun d => (v59_entry x2 r d).symm
  have es : sinX x2 r = fun d => val_main_v60 (F := Ideal) x2 (ix2 r d) := funext fun d => (v60_entry x2 r d).symm
  have eq : qX x0 x1 x3 x4 x6 r a = fun d => val_main_v44 (F := Ideal) x0 x1 x3 x4 x6 (ix3 r a d) := funext fun d => (v44_entry x0 x1 x3 x4 x6 r a d).symm
  rw [ec, es, eq]
  unfold val_main_v76 val_main_v75 val_main_v74 val_main_v73 val_main_v72 val_main_v71 val_main_v70 val_main_v69 val_main_v68 val_main_v67 val_main_v66 val_main_v65 val_main_v64 val_main_v63 val_main_v62 val_main_v61
  generalize val_main_v59 (F := Ideal) x2 = c
  generalize val_main_v60 (F := Ideal) x2 = s
  generalize val_main_v44 (F := Ideal) x0 x1 x3 x4 x6 = q
  pointwise
  have := d.isLt
  unfold rope
  by_cases h : d.val < 32
  · rw [dif_pos h, dif_pos h]
    simp only [show 128 + (32 + d.val) = 128 + (d.val + 32) by omega]
  · rw [dif_neg h, dif_neg h]
    simp only [show 128 + (32 + (d.val - 32)) = 128 + d.val by omega]

open Cert.MlaPreRefIdeal Cert.MlaPreRefIdeal.Read in
/-- The shared part of the keys at an entry. -/
theorem v86_entry (x0 : FVec Ideal S8192x1024 .f32) (x1 : FVec Ideal S1024 .f32) (x2 : IVec S8192 32) (x3 : FVec Ideal S1024x832 .f32) (r : Fin 8192) (d : Fin 64) :
    val_main_v86 (F := Ideal) x0 x1 x2 x3 (ix2 r d) = rX x0 x1 x2 x3 r d := by
  have ec : cosX x2 r = fun d => val_main_v59 (F := Ideal) x2 (ix2 r d) := funext fun d => (v59_entry x2 r d).symm
  have es : sinX x2 r = fun d => val_main_v60 (F := Ideal) x2 (ix2 r d) := funext fun d => (v60_entry x2 r d).symm
  have ea : aX x0 x1 x3 r = fun d => val_main_v13 (F := Ideal) x0 x1 x3 (ix2 r d) := funext fun d => (v13_entry x0 x1 x3 r d).symm
  unfold rX
  rw [ec, es, ea]
  unfold val_main_v86 val_main_v85 val_main_v84 val_main_v83 val_main_v82 val_main_v81 val_main_v80 val_main_v79 val_main_v78 val_main_v77
  generalize val_main_v59 (F := Ideal) x2 = c
  generalize val_main_v60 (F := Ideal) x2 = s
  generalize val_main_v13 (F := Ideal) x0 x1 x3 = q
  pointwise
  have := d.isLt
  unfold rope
  by_cases h : d.val < 32
  · rw [dif_pos h, dif_pos h]
    simp only [show 768 + (32 + d.val) = 768 + (d.val + 32) by omega]
  · rw [dif_neg h, dif_neg h]
    simp only [show 768 + (32 + (d.val - 32)) = 768 + d.val by omega]

open Cert.MlaPreRefIdeal Cert.MlaPreRefIdeal.Read in
/-- A query at an entry. -/
theorem v90_entry (x0 : FVec Ideal S8192x1024 .f32) (x1 : FVec Ideal S1024 .f32) (x2 : IVec S8192 32) (x3 : FVec Ideal S1024x832 .f32) (x4 : FVec Ideal S512 .f32) (x6 : FVec Ideal S512x8x192 .f32) (r : Fin 8192) (a : Fin 8) (d : Fin 192) :
    val_main_v90 (F := Ideal) x0 x1 x2 x3 x4 x6 (ix3 r a d) = queryE (qX x0 x1 x3 x4 x6 r) (cosX x2 r) (sinX x2 r) a d := by
  unfold val_main_v90 val_main_v89
  generalize h1 : val_main_v44 (F := Ideal) x0 x1 x3 x4 x6 = q
  generalize h2 : val_main_v76 (F := Ideal) x0 x1 x2 x3 x4 x6 = p
  pointwise
  have := d.isLt
  unfold queryE
  by_cases h : d.val < 128
  · rw [dif_pos h, dif_pos h]
    subst h1
    exact v44_entry x0 x1 x3 x4 x6 r a _
  · rw [dif_neg h, dif_neg h]
    subst h2
    exact v76_entry x0 x1 x2 x3 x4 x6 r a _

open Cert.MlaPreRefIdeal Cert.MlaPreRefIdeal.Read in
/-- A key at an entry. -/
theorem v92_entry (x0 : FVec Ideal S8192x1024 .f32) (x1 : FVec Ideal S1024 .f32) (x2 : IVec S8192 32) (x3 : FVec Ideal S1024x832 .f32) (x5 : FVec Ideal S256 .f32) (x7 : FVec Ideal S256x8x256 .f32) (r : Fin 8192) (a : Fin 8) (d : Fin 192) :
    val_main_v92 (F := Ideal) x0 x1 x2 x3 x5 x7 (ix3 r a d) = keyE (kvX x0 x1 x3 x5 x7 r) (rX x0 x1 x2 x3 r) a d := by
  unfold val_main_v92 val_main_v91 val_main_v88 val_main_v87
  generalize h1 : val_main_v45 (F := Ideal) x0 x1 x3 x5 x7 = q
  generalize h2 : val_main_v86 (F := Ideal) x0 x1 x2 x3 = p
  pointwise
  have := d.isLt
  unfold keyE
  by_cases h : d.val < 128
  · rw [dif_pos h, dif_pos h]
    subst h1
    exact v45_entry x0 x1 x3 x5 x7 r a _
  · rw [dif_neg h, dif_neg h]
    subst h2
    exact v86_entry x0 x1 x2 x3 r _

open Cert.MlaPreRefIdeal Cert.MlaPreRefIdeal.Read in
/-- The down projection with its zero tail. -/
theorem v94_entry (x0 : FVec Ideal S8192x1024 .f32) (x1 : FVec Ideal S1024 .f32) (x3 : FVec Ideal S1024x832 .f32) (r : Fin 8192) (j : Fin 896) :
    val_main_v94 (F := Ideal) x0 x1 x3 (ix2 r j) = tailE (aX x0 x1 x3 r) j := by
  unfold val_main_v94
  refine (tail_8192 (val_main_v13 (F := Ideal) x0 x1 x3) _ (fun _ => Layout.sitofp_zero) _ _ r j).trans ?_
  exact congrArg (fun f : Fin 832 → EReal => tailE f j) (funext fun b => v13_entry x0 x1 x3 r b)

open Cert.MlaPreRefIdeal Cert.MlaPreRefIdeal.Read in
/-- The queries with their zero tails. -/
theorem v99_entry (x0 : FVec Ideal S8192x1024 .f32) (x1 : FVec Ideal S1024 .f32) (x2 : IVec S8192 32) (x3 : FVec Ideal S1024x832 .f32) (x4 : FVec Ideal S512 .f32) (x6 : FVec Ideal S512x8x192 .f32) (r : Fin 8192) (j : Fin 2048) :
    val_main_v99 (F := Ideal) x0 x1 x2 x3 x4 x6 (ix2 r j) = headE (queryE (qX x0 x1 x3 x4 x6 r) (cosX x2 r) (sinX x2 r)) j := by
  show val_main_v98 (F := Ideal) x0 x1 x2 x3 x4 x6 (ix2 r j) = _
  unfold val_main_v98 val_main_v97
  refine (heads_8192 (val_main_v90 (F := Ideal) x0 x1 x2 x3 x4 x6) _ (fun _ => Layout.sitofp_zero) _ _ _ r j).trans ?_
  exact congrArg (fun f : Fin 8 → Fin 192 → EReal => headE f j) (funext fun a => funext fun d => v90_entry x0 x1 x2 x3 x4 x6 r a d)

open Cert.MlaPreRefIdeal Cert.MlaPreRefIdeal.Read in
/-- The keys with their zero tails. -/
theorem v102_entry (x0 : FVec Ideal S8192x1024 .f32) (x1 : FVec Ideal S1024 .f32) (x2 : IVec S8192 32) (x3 : FVec Ideal S1024x832 .f32) (x5 : FVec Ideal S256 .f32) (x7 : FVec Ideal S256x8x256 .f32) (r : Fin 8192) (j : Fin 2048) :
    val_main_v102 (F := Ideal) x0 x1 x2 x3 x5 x7 (ix2 r j) = headE (keyE (kvX x0 x1 x3 x5 x7 r) (rX x0 x1 x2 x3 r)) j := by
  show val_main_v101 (F := Ideal) x0 x1 x2 x3 x5 x7 (ix2 r j) = _
  unfold val_main_v101 val_main_v100
  refine (heads_8192 (val_main_v92 (F := Ideal) x0 x1 x2 x3 x5 x7) _ (fun _ => Layout.sitofp_zero) _ _ _ r j).trans ?_
  exact congrArg (fun f : Fin 8 → Fin 192 → EReal => headE f j) (funext fun a => funext fun d => v92_entry x0 x1 x2 x3 x5 x7 r a d)

open Cert.MlaPreRefIdeal Cert.MlaPreRefIdeal.Read in
/-- The values at an entry. -/
theorem v105_entry (x0 : FVec Ideal S8192x1024 .f32) (x1 : FVec Ideal S1024 .f32) (x3 : FVec Ideal S1024x832 .f32) (x5 : FVec Ideal S256 .f32) (x7 : FVec Ideal S256x8x256 .f32) (r : Fin 8192) (j : Fin 1024) :
    val_main_v105 (F := Ideal) x0 x1 x3 x5 x7 (ix2 r j) = valueE (kvX x0 x1 x3 x5 x7 r) j := by
  unfold val_main_v105 val_main_v104 val_main_v103
  generalize h1 : val_main_v45 (F := Ideal) x0 x1 x3 x5 x7 = q
  pointwise
  subst h1
  unfold valueE
  exact v45_entry x0 x1 x3 x5 x7 r _ _

/-- The reference's frame, from its generated run. -/
theorem reference_frame : quiescent_MlaPreRefIdeal := fun m ρ _ =>
  (θ_run MlaPreRefIdeal.defs _ _).mono
    (fun r h => ⟨fun c => (h c).2.2.2.2.2.2.2, sem_eq_zero_of_no_sems (by decide) r.2⟩)
    (MlaPreRefIdeal.Value.run (F := Ideal) m ρ)

/-- The value claim. -/
theorem algebraic : algebraic_MlaPreIdeal_MlaPreRefIdeal := by
  intro m ρ m' ρ' _ hag
  refine ⟨fun c => MlaPreIdeal.RealValue.result10 m c, fun c => MlaPreIdeal.RealValue.result11 m c, fun c => MlaPreIdeal.RealValue.result12 m c, fun c => MlaPreIdeal.RealValue.result13 m c, fun c => MlaPreIdeal.RealValue.result14 m c, fun c => MlaPreIdeal.RealValue.result15 m c, fun c => MlaPreIdeal.RealValue.result16 m c, ?_, ?_⟩
  · exact (θ_run MlaPreIdeal.defs _ _).mono (fun r h c => ⟨((h c).1).trans (MlaPreIdeal.RealValue.final_10 m c), ((h c).2.1).trans (MlaPreIdeal.RealValue.final_11 m c), ((h c).2.2.1).trans (MlaPreIdeal.RealValue.final_12 m c), ((h c).2.2.2.1).trans (MlaPreIdeal.RealValue.final_13 m c), ((h c).2.2.2.2.1).trans (MlaPreIdeal.RealValue.final_14 m c), ((h c).2.2.2.2.2.1).trans (MlaPreIdeal.RealValue.final_15 m c), ((h c).2.2.2.2.2.2.1).trans (MlaPreIdeal.RealValue.final_16 m c), (h c).2.2.2.2.2.2.2⟩) (MlaPreIdeal.Value.run_blocks m ρ)
  · refine (θ_run MlaPreRefIdeal.defs _ _).mono (fun r h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, (h c).2.2.2.2.2.2.2⟩) (MlaPreRefIdeal.Value.run (F := Ideal) m' ρ')
    · rw [(hag c).1, (hag c).2.1]
      refine (MlaPreRefIdeal.Read.val_main_v93_eq _ _).trans ?_
      funext i
      obtain ⟨u, v, rfl⟩ : ∃ (u : Fin 8192) (v : Fin 1024), i = ix2 u v := ⟨i 0, i 1, eq_ix2 _⟩
      exact v12_entry _ _ u v
    · rw [(hag c).1, (hag c).2.1, (hag c).2.2.2.1]
      refine (MlaPreRefIdeal.Read.val_main_v94_eq _ _ _).trans ?_
      funext i
      obtain ⟨u, v, rfl⟩ : ∃ (u : Fin 8192) (v : Fin 896), i = ix2 u v := ⟨i 0, i 1, eq_ix2 _⟩
      exact v94_entry _ _ _ u v
    · rw [(hag c).1, (hag c).2.1, (hag c).2.2.2.1, (hag c).2.2.2.2.1]
      refine (MlaPreRefIdeal.Read.val_main_v95_eq _ _ _ _).trans ?_
      funext i
      obtain ⟨u, v, rfl⟩ : ∃ (u : Fin 8192) (v : Fin 512), i = ix2 u v := ⟨i 0, i 1, eq_ix2 _⟩
      exact v27_entry _ _ _ _ u v
    · rw [(hag c).1, (hag c).2.1, (hag c).2.2.2.1, (hag c).2.2.2.2.2.1]
      refine (MlaPreRefIdeal.Read.val_main_v96_eq _ _ _ _).trans ?_
      funext i
      obtain ⟨u, v, rfl⟩ : ∃ (u : Fin 8192) (v : Fin 256), i = ix2 u v := ⟨i 0, i 1, eq_ix2 _⟩
      exact v41_entry _ _ _ _ u v
    · refine (MlaPreRefIdeal.Read.val_main_v99_eq m' c).trans ?_
      rw [(hag c).1, (hag c).2.1, (hag c).2.2.1, (hag c).2.2.2.1, (hag c).2.2.2.2.1, (hag c).2.2.2.2.2.2.1]
      funext i
      obtain ⟨u, v, rfl⟩ : ∃ (u : Fin 8192) (v : Fin 2048), i = ix2 u v := ⟨i 0, i 1, eq_ix2 _⟩
      exact v99_entry _ _ _ _ _ _ u v
    · refine (MlaPreRefIdeal.Read.val_main_v102_eq m' c).trans ?_
      rw [(hag c).1, (hag c).2.1, (hag c).2.2.1, (hag c).2.2.2.1, (hag c).2.2.2.2.2.1, (hag c).2.2.2.2.2.2.2]
      funext i
      obtain ⟨u, v, rfl⟩ : ∃ (u : Fin 8192) (v : Fin 2048), i = ix2 u v := ⟨i 0, i 1, eq_ix2 _⟩
      exact v102_entry _ _ _ _ _ _ u v
    · rw [(hag c).1, (hag c).2.1, (hag c).2.2.2.1, (hag c).2.2.2.2.2.1, (hag c).2.2.2.2.2.2.2]
      refine (MlaPreRefIdeal.Read.val_main_v105_eq _ _ _ _ _).trans ?_
      funext i
      obtain ⟨u, v, rfl⟩ : ∃ (u : Fin 8192) (v : Fin 1024), i = ix2 u v := ⟨i 0, i 1, eq_ix2 _⟩
      exact v105_entry _ _ _ _ _ u v

end Cert.MlaPreClaim

end
-- ==== Proof.AdamExt.lean ====
/- The optimiser's update of one entry, and the loads and blocks its kernels use. -/
module

public import proofs.«01_k».proof.Proof.Layout

@[expose] public section

noncomputable section

namespace Cert.AdamExt

open Idealize.ShloMosaic Idealize.ShloMosaic.TcCoe

/-- The first moment after the step: nine tenths of the old one and a tenth of the gradient. -/
def momE (g m : EReal) : EReal := Ideal.ofBits FTy.f32 0x3F666666#32 * m + Ideal.ofBits FTy.f32 0x3DCCCCCD#32 * g

/-- The second moment after the step: the old one and the gradient's square, weighted. -/
def varE (g v : EReal) : EReal := Ideal.ofBits FTy.f32 0x3F7FBE77#32 * v + Ideal.ofBits FTy.f32 0x3A83126F#32 * (g * g)

/-- The update: the corrected first moment over the root of the corrected second, and the decayed weight, times the negated rate. -/
def stepE (g w m v : EReal) : EReal :=
  Ideal.ofBits FTy.f32 0xBA83126F#32 *
    (Ideal.div (Ideal.div (momE g m) (Ideal.ofBits FTy.f32 0x3F26BD02#32))
        (Ideal.sqrt (Ideal.div (varE g v) (Ideal.ofBits FTy.f32 0x3C231ACC#32)) + Ideal.ofBits FTy.f32 0x322BCC77#32)
      + Ideal.ofBits FTy.f32 0x3C23D70A#32 * w)

/-- An index of a block is the index of the array it stands for, when its coordinates are. -/
theorem at_eq {n m : Nat} (x : (⟨3, ![1, n, m]⟩ : Shape).Idx) (a : Fin n) (b : Fin m) (h0 : (x 0).val = 0)
    (h1 : (x 1).val = a.val) (h2 : (x 2).val = b.val) : x = ix3 0 a b := by
  funext d
  apply Fin.ext
  match d with
  | ⟨0, _⟩ => exact h0
  | ⟨1, _⟩ => exact h1
  | ⟨2, _⟩ => exact h2

/-- Two functions on the entries of a matrix with a leading axis of one agree when they agree at every row and column. -/
theorem ext_at {n m : Nat} {f g : (⟨3, ![1, n, m]⟩ : Shape).Idx → EReal} (h : ∀ a b, f (ix3 0 a b) = g (ix3 0 a b)) : f = g := by
  funext i
  obtain ⟨z, a, b, rfl⟩ : ∃ (z : Fin 1) (a : Fin n) (b : Fin m), i = ix3 z a b := ⟨i 0, i 1, i 2, eq_ix3 _⟩
  obtain rfl : z = 0 := Subsingleton.elim _ _
  exact h a b

end Cert.AdamExt

end
-- ==== Proof.AdamConvInKernel.lean ====
/- What the kernel `AdamConvInIdeal` leaves in its result arrays: the summed gradient of the first pointwise weight of the convolution block, its update and its moments. -/
module

public import proofs.«01_k».proof.Proof.AdamExt
public import proofs.«01_k».proof.Proof.Gen.AdamConvInIdeal.Value
public import Idealize.ShloMosaic.Lib.StableHlo.RunRead

@[expose] public section

noncomputable section

namespace Cert.AdamConvInIdeal.RealValue

open Cert.AdamConvInIdeal Cert.AdamConvInIdeal.Gen Cert.AdamExt
open Idealize.ShloMosaic Idealize.ShloMosaic.TcCoe Idealize.SL.Sem

/-! ## The body's results at an index -/

section Body

variable (x0 : Vec Ideal S8x256x256 .bf16) (x1 x2 x3 : Vec Ideal S1x256x256 .f32) (a : Fin 256) (b : Fin 256)

/-- The gradient is the sum of the eight parts; -/
theorem sum_at :
    k0_pay8 x0 x1 x2 x3 (ix2 a b) = ∑ q : Fin 8, x0 (ix3 q a b) := by
  unfold k0_pay8 k0_pay3
  pointwise
  rw [Fin.sum_univ_eight]

theorem out4_at :
    out0_4 x0 x1 x2 x3 (ix3 0 a b) = ∑ q : Fin 8, x0 (ix3 q a b) := by
  unfold out0_4 k0_pay4
  rw [View.canon_unit_zero Layout.hz3]
  pointwise
  exact sum_at x0 x1 x2 x3 a b

/-- the update, -/
theorem out5_at :
    out0_5 x0 x1 x2 x3 (ix3 0 a b)
      = stepE (∑ q : Fin 8, x0 (ix3 q a b)) (x1 (ix3 0 a b)) (x2 (ix3 0 a b)) (x3 (ix3 0 a b)) := by
  unfold out0_5
  rw [View.canon_unit_zero Layout.hz3]
  simp only [View.ld_unit_zero (S := S1x256x256) Layout.hz3]
  rw [← sum_at x0 x1 x2 x3 a b]
  unfold k0_pay7 k0_pay5 k0_pay6
  generalize k0_pay8 x0 x1 x2 x3 = g
  pointwise
  rfl

/-- and the moments. -/
theorem out6_at :
    out0_6 x0 x1 x2 x3 (ix3 0 a b) = momE (∑ q : Fin 8, x0 (ix3 q a b)) (x2 (ix3 0 a b)) := by
  unfold out0_6
  rw [View.canon_unit_zero Layout.hz3]
  simp only [View.ld_unit_zero (S := S1x256x256) Layout.hz3]
  rw [← sum_at x0 x1 x2 x3 a b]
  unfold k0_pay1 k0_pay5
  generalize k0_pay8 x0 x1 x2 x3 = g
  pointwise
  rfl

theorem out7_at :
    out0_7 x0 x1 x2 x3 (ix3 0 a b) = varE (∑ q : Fin 8, x0 (ix3 q a b)) (x3 (ix3 0 a b)) := by
  unfold out0_7
  rw [View.canon_unit_zero Layout.hz3]
  simp only [View.ld_unit_zero (S := S1x256x256) Layout.hz3]
  rw [← sum_at x0 x1 x2 x3 a b]
  unfold k0_pay2 k0_pay6
  generalize k0_pay8 x0 x1 x2 x3 = g
  pointwise
  rfl

end Body

/-! ## The blocks -/

section Blocks

variable (m : (ℓ : Loc nD τ sig) → Buf (Elt Ideal) ℓ) (c : Dev nD)

/-- Row `a` of the block at point `t` is row `256 t + a` of the array. -/
def row (t : Fin cfg0.N) (a : Fin 256) : Fin 1024 := ⟨256 * t.val + a.val, by have : t.val < 4 := lt_of_lt_of_eq t.isLt N_0; have := a.isLt; omega⟩

/-- The parts' window and a result's take the same block of rows; so do the others, whose blocks are the result's. -/
theorem index_all : ∀ t : Fin cfg0.N, win0_0.index t 0 = 0 ∧ win0_0.index t 1 = t.val ∧ win0_0.index t 2 = 0 ∧ win0_4.index t 0 = 0 ∧ win0_4.index t 1 = t.val ∧ win0_4.index t 2 = 0 :=
  (by decide +kernel : ∀ t : Fin grid0.N, win0_0.index t 0 = 0 ∧ win0_0.index t 1 = t.val ∧ win0_0.index t 2 = 0 ∧ win0_4.index t 0 = 0 ∧ win0_4.index t 1 = t.val ∧ win0_4.index t 2 = 0)

theorem iblk_0 (t : Fin cfg0.N) (q : Fin 8) (a : Fin 256) (b : Fin 256) :
    (iblk m c 0 t : Vec Ideal S8x256x256 .bf16) (ix3 q a b) = V m c main_v0 (ix3 q (row t a) b) := by
  refine congrArg (V m c main_v0) (funext fun d => Fin.ext ?_)
  obtain ⟨h0, h1, h2, _⟩ := index_all t
  match d with
  | ⟨0, _⟩ => show win0_0.index t 0 * 8 + 1 * q.val = q.val; omega
  | ⟨1, _⟩ => show win0_0.index t 1 * 256 + 1 * a.val = 256 * t.val + a.val; omega
  | ⟨2, _⟩ => show win0_0.index t 2 * 256 + 1 * b.val = b.val; omega

theorem emb_4 (t : Fin cfg0.N) (a : Fin 256) (b : Fin 256) : ((cfg0.win 4).blk t).view.emb (ix3 0 a b) = ix3 0 (row t a) b := by
  obtain ⟨_, _, _, h0, h1, h2⟩ := index_all t
  exact at_eq _ _ _ (by show win0_4.index t 0 * 1 + 1 * 0 = 0; omega) (by show win0_4.index t 1 * 256 + 1 * a.val = 256 * t.val + a.val; omega)
    (by show win0_4.index t 2 * 256 + 1 * b.val = b.val; omega)

/-- The blocks fill a result. -/
theorem fill (i : S1x1024x256.Idx) : ∃ t : Fin cfg0.N, i ∈ ((cfg0.win 4).blk t).view.set := by
  obtain ⟨z, a, b, rfl⟩ : ∃ (z : Fin 1) (a : Fin 1024) (b : Fin 256), i = ix3 z a b := ⟨i 0, i 1, i 2, eq_ix3 _⟩
  obtain rfl : z = 0 := Subsingleton.elim _ _
  have ht : a.val / 256 < cfg0.N := by have := a.isLt; have : cfg0.N = 4 := N_0; omega
  have e := emb_4 ⟨a.val / 256, ht⟩ ⟨a.val % 256, Nat.mod_lt _ (by decide)⟩ b
  rw [show row ⟨a.val / 256, ht⟩ ⟨a.val % 256, Nat.mod_lt _ (by decide)⟩ = a from Fin.ext (Nat.div_add_mod _ _)] at e
  exact ⟨_, e ▸ View.emb_mem_set _ _⟩

/-- The parts as the kernel takes them. -/
theorem parts_at (q : Fin 8) (a : Fin 1024) (b : Fin 256) :
    V m c main_v0 (ix3 q a b) = m ((c : Thread nD τ).loc main_arg0) (ix3 q a b) := by
  unfold V
  after_reads_simp
  rfl

theorem iblk_1 (t : Fin cfg0.N) (a : Fin 256) (b : Fin 256) :
    (iblk m c 1 t : Vec Ideal S1x256x256 .f32) (ix3 0 a b) = m ((c : Thread nD τ).loc main_arg1) (ix3 0 (row t a) b) :=
  (congrArg (V m c main_arg1) (emb_4 t a b)).trans (congrFun (V_main_arg1 m c) _)

theorem iblk_2 (t : Fin cfg0.N) (a : Fin 256) (b : Fin 256) :
    (iblk m c 2 t : Vec Ideal S1x256x256 .f32) (ix3 0 a b) = m ((c : Thread nD τ).loc main_arg2) (ix3 0 (row t a) b) :=
  (congrArg (V m c main_arg2) (emb_4 t a b)).trans (congrFun (V_main_arg2 m c) _)

theorem iblk_3 (t : Fin cfg0.N) (a : Fin 256) (b : Fin 256) :
    (iblk m c 3 t : Vec Ideal S1x256x256 .f32) (ix3 0 a b) = m ((c : Thread nD τ).loc main_arg3) (ix3 0 (row t a) b) :=
  (congrArg (V m c main_arg3) (emb_4 t a b)).trans (congrFun (V_main_arg3 m c) _)

/-- The summed gradient, -/
def result4 : S1x1024x256.Idx → EReal := fun i => ∑ q : Fin 8, m ((c : Thread nD τ).loc main_arg0) (ix3 q (i 1) (i 2))

theorem sum_blk (t : Fin cfg0.N) (a : Fin 256) (b : Fin 256) :
    (Finset.sum (M := EReal) Finset.univ fun q : Fin 8 => (iblk m c 0 t : Vec Ideal S8x256x256 .bf16) (ix3 q a b)) = result4 m c (ix3 0 (row t a) b) :=
  Finset.sum_congr rfl fun q _ => (iblk_0 m c t q a _).trans (parts_at m c q (row t a) b)

/-- the update, -/
def result5 : S1x1024x256.Idx → EReal := fun i => stepE (result4 m c i) (m ((c : Thread nD τ).loc main_arg1) (ix3 0 (i 1) (i 2))) (m ((c : Thread nD τ).loc main_arg2) (ix3 0 (i 1) (i 2))) (m ((c : Thread nD τ).loc main_arg3) (ix3 0 (i 1) (i 2)))

/-- and the moments. -/
def result6 : S1x1024x256.Idx → EReal := fun i => momE (result4 m c i) (m ((c : Thread nD τ).loc main_arg2) (ix3 0 (i 1) (i 2)))

def result7 : S1x1024x256.Idx → EReal := fun i => varE (result4 m c i) (m ((c : Thread nD τ).loc main_arg3) (ix3 0 (i 1) (i 2)))

theorem final_4 : (dats m 0 c).arrAt 4 cfg0.N = result4 m c := by
  refine (dats m 0 c).arrAt_eq_of_cover 4 (result4 m c) (fun t _ => ?_) fun i => (fill i).imp fun t h => ⟨flush0_4 t, h⟩
  rw [Value.flushed4]
  refine ext_at fun a b => (out4_at (iblk m c 0 t) (iblk m c 1 t) (iblk m c 2 t) (iblk m c 3 t) a b).trans ?_
  rw [sum_blk]
  exact (congrArg (result4 m c) (emb_4 t a b)).symm

theorem final_5 : (dats m 0 c).arrAt 5 cfg0.N = result5 m c := by
  refine (dats m 0 c).arrAt_eq_of_cover 5 (result5 m c) (fun t _ => ?_) fun i => (fill i).imp fun t h => ⟨flush0_5 t, h⟩
  rw [Value.flushed5]
  refine ext_at fun a b => (out5_at (iblk m c 0 t) (iblk m c 1 t) (iblk m c 2 t) (iblk m c 3 t) a b).trans ?_
  rw [sum_blk, iblk_1, iblk_2, iblk_3]
  exact (congrArg (result5 m c) (emb_4 t a b)).symm

theorem final_6 : (dats m 0 c).arrAt 6 cfg0.N = result6 m c := by
  refine (dats m 0 c).arrAt_eq_of_cover 6 (result6 m c) (fun t _ => ?_) fun i => (fill i).imp fun t h => ⟨flush0_6 t, h⟩
  rw [Value.flushed6]
  refine ext_at fun a b => (out6_at (iblk m c 0 t) (iblk m c 1 t) (iblk m c 2 t) (iblk m c 3 t) a b).trans ?_
  rw [sum_blk, iblk_2]
  exact (congrArg (result6 m c) (emb_4 t a b)).symm

theorem final_7 : (dats m 0 c).arrAt 7 cfg0.N = result7 m c := by
  refine (dats m 0 c).arrAt_eq_of_cover 7 (result7 m c) (fun t _ => ?_) fun i => (fill i).imp fun t h => ⟨flush0_7 t, h⟩
  rw [Value.flushed7]
  refine ext_at fun a b => (out7_at (iblk m c 0 t) (iblk m c 1 t) (iblk m c 2 t) (iblk m c 3 t) a b).trans ?_
  rw [sum_blk, iblk_3]
  exact (congrArg (result7 m c) (emb_4 t a b)).symm

end Blocks

end Cert.AdamConvInIdeal.RealValue

end
-- ==== Proof.AdamConvIn.lean ====
/- The claims about `AdamConvIn`: the summed gradient, the update and the moments are the reference's. -/
module

public import proofs.«01_k».proof.Defs
public import proofs.«01_k».proof.Proof.AdamConvInKernel
public import proofs.«01_k».proof.Proof.Gen.AdamConvInRefIdeal.Run
public import proofs.«01_k».proof.Proof.Gen.AdamConvInRefIdeal.Read

@[expose] public section

noncomputable section

namespace Cert.AdamConvInClaim

open Idealize.ShloMosaic Idealize.ShloMosaic.TcCoe Idealize.SL.Sem Cert.AdamExt

section Reference

open Cert.AdamConvInRefIdeal Cert.AdamConvInRefIdeal.Read

variable (x0 : FVec Ideal S8x1024x256 .f32) (x1 x2 x3 : FVec Ideal S1x1024x256 .f32) (r : Fin 1024) (b : Fin 256)

/-- The reference's results at an entry: the sum of the parts, -/
theorem v1_entry : val_main_v1 (F := Ideal) x0 (ix3 0 r b) = ∑ q : Fin 8, x0 (ix3 q r b) := by
  unfold val_main_v1 val_main_v0 val_main_cst
  pointwise

/-- the moments, -/
theorem v6_entry : val_main_v6 (F := Ideal) x0 x2 (ix3 0 r b) = momE (∑ q : Fin 8, x0 (ix3 q r b)) (x2 (ix3 0 r b)) := by
  rw [← v1_entry]
  rfl

theorem v12_entry : val_main_v12 (F := Ideal) x0 x3 (ix3 0 r b) = varE (∑ q : Fin 8, x0 (ix3 q r b)) (x3 (ix3 0 r b)) := by
  rw [← v1_entry]
  rfl

/-- and the update. -/
theorem v25_entry :
    val_main_v25 (F := Ideal) x0 x1 x2 x3 (ix3 0 r b) = stepE (∑ q : Fin 8, x0 (ix3 q r b)) (x1 (ix3 0 r b)) (x2 (ix3 0 r b)) (x3 (ix3 0 r b)) := by
  rw [← v1_entry]
  rfl

end Reference

/-- The reference's frame, from its generated run. -/
theorem reference_frame : quiescent_AdamConvInRefIdeal := fun m ρ _ =>
  (θ_run AdamConvInRefIdeal.defs _ _).mono
    (fun r h => ⟨fun c => (h c).2.2.2.2, sem_eq_zero_of_no_sems (by decide) r.2⟩)
    (AdamConvInRefIdeal.Value.run (F := Ideal) m ρ)

/-- The value claim. -/
theorem algebraic : algebraic_AdamConvInIdeal_AdamConvInRefIdeal := by
  intro m ρ m' ρ' _ hag
  refine ⟨AdamConvInIdeal.RealValue.result4 m, AdamConvInIdeal.RealValue.result5 m, AdamConvInIdeal.RealValue.result6 m, AdamConvInIdeal.RealValue.result7 m, ?_, ?_⟩
  · exact (θ_run AdamConvInIdeal.defs _ _).mono (fun r h c => ⟨(h c).1.trans (AdamConvInIdeal.RealValue.final_4 m c), (h c).2.1.trans (AdamConvInIdeal.RealValue.final_5 m c),
      (h c).2.2.1.trans (AdamConvInIdeal.RealValue.final_6 m c), (h c).2.2.2.1.trans (AdamConvInIdeal.RealValue.final_7 m c), (h c).2.2.2.2⟩) (AdamConvInIdeal.Value.run_blocks m ρ)
  · refine (θ_run AdamConvInRefIdeal.defs _ _).mono (fun r h c => ⟨(h c).1.trans ?_, (h c).2.1.trans ?_, (h c).2.2.1.trans ?_, (h c).2.2.2.1.trans ?_, (h c).2.2.2.2⟩) (AdamConvInRefIdeal.Value.run (F := Ideal) m' ρ')
    · rw [(hag c).1]
      refine (AdamConvInRefIdeal.Read.val_main_v1_eq _).trans ?_
      exact ext_at fun r b => v1_entry _ r b
    · rw [(hag c).1, (hag c).2.1, (hag c).2.2.1, (hag c).2.2.2]
      refine (AdamConvInRefIdeal.Read.val_main_v25_eq _ _ _ _).trans ?_
      exact ext_at fun r b => v25_entry _ _ _ _ r b
    · rw [(hag c).1, (hag c).2.2.1]
      refine (AdamConvInRefIdeal.Read.val_main_v6_eq _ _).trans ?_
      exact ext_at fun r b => v6_entry _ _ r b
    · rw [(hag c).1, (hag c).2.2.2]
      refine (AdamConvInRefIdeal.Read.val_main_v12_eq _ _).trans ?_
      exact ext_at fun r b => v12_entry _ _ r b

end Cert.AdamConvInClaim

end
-- ==== Proof.AdamConvOutKernel.lean ====
/- What the kernel `AdamConvOutIdeal` leaves in its result arrays: the summed gradient of the second pointwise weight of the convolution block, its update and its moments. -/
module

public import proofs.«01_k».proof.Proof.AdamExt
public import proofs.«01_k».proof.Proof.Gen.AdamConvOutIdeal.Value
public import Idealize.ShloMosaic.Lib.StableHlo.RunRead

@[expose] public section

noncomputable section

namespace Cert.AdamConvOutIdeal.RealValue

open Cert.AdamConvOutIdeal Cert.AdamConvOutIdeal.Gen Cert.AdamExt
open Idealize.ShloMosaic Idealize.ShloMosaic.TcCoe Idealize.SL.Sem

/-! ## The body's results at an index -/

section Body

variable (x0 : Vec Ideal S8x128x1024 .bf16) (x1 x2 x3 : Vec Ideal S1x128x1024 .f32) (a : Fin 128) (b : Fin 1024)

/-- The gradient is the sum of the eight parts; -/
theorem sum_at :
    k0_pay8 x0 x1 x2 x3 (ix2 a b) = ∑ q : Fin 8, x0 (ix3 q a b) := by
  unfold k0_pay8 k0_pay3
  pointwise
  rw [Fin.sum_univ_eight]

theorem out4_at :
    out0_4 x0 x1 x2 x3 (ix3 0 a b) = ∑ q : Fin 8, x0 (ix3 q a b) := by
  unfold out0_4 k0_pay4
  rw [View.canon_unit_zero Layout.hz3]
  pointwise
  exact sum_at x0 x1 x2 x3 a b

/-- the update, -/
theorem out5_at :
    out0_5 x0 x1 x2 x3 (ix3 0 a b)
      = stepE (∑ q : Fin 8, x0 (ix3 q a b)) (x1 (ix3 0 a b)) (x2 (ix3 0 a b)) (x3 (ix3 0 a b)) := by
  unfold out0_5
  rw [View.canon_unit_zero Layout.hz3]
  simp only [View.ld_unit_zero (S := S1x128x1024) Layout.hz3]
  rw [← sum_at x0 x1 x2 x3 a b]
  unfold k0_pay7 k0_pay5 k0_pay6
  generalize k0_pay8 x0 x1 x2 x3 = g
  pointwise
  rfl

/-- and the moments. -/
theorem out6_at :
    out0_6 x0 x1 x2 x3 (ix3 0 a b) = momE (∑ q : Fin 8, x0 (ix3 q a b)) (x2 (ix3 0 a b)) := by
  unfold out0_6
  rw [View.canon_unit_zero Layout.hz3]
  simp only [View.ld_unit_zero (S := S1x128x1024) Layout.hz3]
  rw [← sum_at x0 x1 x2 x3 a b]
  unfold k0_pay1 k0_pay5
  generalize k0_pay8 x0 x1 x2 x3 = g
  pointwise
  rfl

theorem out7_at :
    out0_7 x0 x1 x2 x3 (ix3 0 a b) = varE (∑ q : Fin 8, x0 (ix3 q a b)) (x3 (ix3 0 a b)) := by
  unfold out0_7
  rw [View.canon_unit_zero Layout.hz3]
  simp only [View.ld_unit_zero (S := S1x128x1024) Layout.hz3]
  rw [← sum_at x0 x1 x2 x3 a b]
  unfold k0_pay2 k0_pay6
  generalize k0_pay8 x0 x1 x2 x3 = g
  pointwise
  rfl

end Body

/-! ## The blocks -/

section Blocks

variable (m : (ℓ : Loc nD τ sig) → Buf (Elt Ideal) ℓ) (c : Dev nD)

/-- Row `a` of the block at point `t` is row `128 t + a` of the array. -/
def row (t : Fin cfg0.N) (a : Fin 128) : Fin 128 := ⟨128 * t.val + a.val, by have : t.val < 1 := lt_of_lt_of_eq t.isLt N_0; have := a.isLt; omega⟩

/-- The parts' window and a result's take the same block of rows; so do the others, whose blocks are the result's. -/
theorem index_all : ∀ t : Fin cfg0.N, win0_0.index t 0 = 0 ∧ win0_0.index t 1 = t.val ∧ win0_0.index t 2 = 0 ∧ win0_4.index t 0 = 0 ∧ win0_4.index t 1 = t.val ∧ win0_4.index t 2 = 0 :=
  (by decide +kernel : ∀ t : Fin grid0.N, win0_0.index t 0 = 0 ∧ win0_0.index t 1 = t.val ∧ win0_0.index t 2 = 0 ∧ win0_4.index t 0 = 0 ∧ win0_4.index t 1 = t.val ∧ win0_4.index t 2 = 0)

theorem iblk_0 (t : Fin cfg0.N) (q : Fin 8) (a : Fin 128) (b : Fin 1024) :
    (iblk m c 0 t : Vec Ideal S8x128x1024 .bf16) (ix3 q a b) = V m c main_v0 (ix3 q (row t a) b) := by
  refine congrArg (V m c main_v0) (funext fun d => Fin.ext ?_)
  obtain ⟨h0, h1, h2, _⟩ := index_all t
  match d with
  | ⟨0, _⟩ => show win0_0.index t 0 * 8 + 1 * q.val = q.val; omega
  | ⟨1, _⟩ => show win0_0.index t 1 * 128 + 1 * a.val = 128 * t.val + a.val; omega
  | ⟨2, _⟩ => show win0_0.index t 2 * 1024 + 1 * b.val = b.val; omega

theorem emb_4 (t : Fin cfg0.N) (a : Fin 128) (b : Fin 1024) : ((cfg0.win 4).blk t).view.emb (ix3 0 a b) = ix3 0 (row t a) b := by
  obtain ⟨_, _, _, h0, h1, h2⟩ := index_all t
  exact at_eq _ _ _ (by show win0_4.index t 0 * 1 + 1 * 0 = 0; omega) (by show win0_4.index t 1 * 128 + 1 * a.val = 128 * t.val + a.val; omega)
    (by show win0_4.index t 2 * 1024 + 1 * b.val = b.val; omega)

/-- The blocks fill a result. -/
theorem fill (i : S1x128x1024.Idx) : ∃ t : Fin cfg0.N, i ∈ ((cfg0.win 4).blk t).view.set := by
  obtain ⟨z, a, b, rfl⟩ : ∃ (z : Fin 1) (a : Fin 128) (b : Fin 1024), i = ix3 z a b := ⟨i 0, i 1, i 2, eq_ix3 _⟩
  obtain rfl : z = 0 := Subsingleton.elim _ _
  have ht : a.val / 128 < cfg0.N := by have := a.isLt; have : cfg0.N = 1 := N_0; omega
  have e := emb_4 ⟨a.val / 128, ht⟩ ⟨a.val % 128, Nat.mod_lt _ (by decide)⟩ b
  rw [show row ⟨a.val / 128, ht⟩ ⟨a.val % 128, Nat.mod_lt _ (by decide)⟩ = a from Fin.ext (Nat.div_add_mod _ _)] at e
  exact ⟨_, e ▸ View.emb_mem_set _ _⟩

/-- The parts as the kernel takes them. -/
theorem parts_at (q : Fin 8) (a : Fin 128) (b : Fin 1024) :
    V m c main_v0 (ix3 q a b) = m ((c : Thread nD τ).loc main_arg0) (ix3 q a b) := by
  unfold V
  after_reads_simp
  rfl

theorem iblk_1 (t : Fin cfg0.N) (a : Fin 128) (b : Fin 1024) :
    (iblk m c 1 t : Vec Ideal S1x128x1024 .f32) (ix3 0 a b) = m ((c : Thread nD τ).loc main_arg1) (ix3 0 (row t a) b) :=
  (congrArg (V m c main_arg1) (emb_4 t a b)).trans (congrFun (V_main_arg1 m c) _)

theorem iblk_2 (t : Fin cfg0.N) (a : Fin 128) (b : Fin 1024) :
    (iblk m c 2 t : Vec Ideal S1x128x1024 .f32) (ix3 0 a b) = m ((c : Thread nD τ).loc main_arg2) (ix3 0 (row t a) b) :=
  (congrArg (V m c main_arg2) (emb_4 t a b)).trans (congrFun (V_main_arg2 m c) _)

theorem iblk_3 (t : Fin cfg0.N) (a : Fin 128) (b : Fin 1024) :
    (iblk m c 3 t : Vec Ideal S1x128x1024 .f32) (ix3 0 a b) = m ((c : Thread nD τ).loc main_arg3) (ix3 0 (row t a) b) :=
  (congrArg (V m c main_arg3) (emb_4 t a b)).trans (congrFun (V_main_arg3 m c) _)

/-- The summed gradient, -/
def result4 : S1x128x1024.Idx → EReal := fun i => ∑ q : Fin 8, m ((c : Thread nD τ).loc main_arg0) (ix3 q (i 1) (i 2))

theorem sum_blk (t : Fin cfg0.N) (a : Fin 128) (b : Fin 1024) :
    (Finset.sum (M := EReal) Finset.univ fun q : Fin 8 => (iblk m c 0 t : Vec Ideal S8x128x1024 .bf16) (ix3 q a b)) = result4 m c (ix3 0 (row t a) b) :=
  Finset.sum_congr rfl fun q _ => (iblk_0 m c t q a _).trans (parts_at m c q (row t a) b)

/-- the update, -/
def result5 : S1x128x1024.Idx → EReal := fun i => stepE (result4 m c i) (m ((c : Thread nD τ).loc main_arg1) (ix3 0 (i 1) (i 2))) (m ((c : Thread nD τ).loc main_arg2) (ix3 0 (i 1) (i 2))) (m ((c : Thread nD τ).loc main_arg3) (ix3 0 (i 1) (i 2)))

/-- and the moments. -/
def result6 : S1x128x1024.Idx → EReal := fun i => momE (result4 m c i) (m ((c : Thread nD τ).loc main_arg2) (ix3 0 (i 1) (i 2)))

def result7 : S1x128x1024.Idx → EReal := fun i => varE (result4 m c i) (m ((c : Thread nD τ).loc main_arg3) (ix3 0 (i 1) (i 2)))

theorem final_4 : (dats m 0 c).arrAt 4 cfg0.N = result4 m c := by
  refine (dats m 0 c).arrAt_eq_of_cover 4 (result4 m c) (fun t _ => ?_) fun i => (fill i).imp fun t h => ⟨flush0_4 t, h⟩
  rw [Value.flushed4]
  refine ext_at fun a b => (out4_at (iblk m c 0 t) (iblk m c 1 t) (iblk m c 2 t) (iblk m c 3 t) a b).trans ?_
  rw [sum_blk]
  exact (congrArg (result4 m c) (emb_4 t a b)).symm

theorem final_5 : (dats m 0 c).arrAt 5 cfg0.N = result5 m c := by
  refine (dats m 0 c).arrAt_eq_of_cover 5 (result5 m c) (fun t _ => ?_) fun i => (fill i).imp fun t h => ⟨flush0_5 t, h⟩
  rw [Value.flushed5]
  refine ext_at fun a b => (out5_at (iblk m c 0 t) (iblk m c 1 t) (iblk m c 2 t) (iblk m c 3 t) a b).trans ?_
  rw [sum_blk, iblk_1, iblk_2, iblk_3]
  exact (congrArg (result5 m c) (emb_4 t a b)).symm

theorem final_6 : (dats m 0 c).arrAt 6 cfg0.N = result6 m c := by
  refine (dats m 0 c).arrAt_eq_of_cover 6 (result6 m c) (fun t _ => ?_) fun i => (fill i).imp fun t h => ⟨flush0_6 t, h⟩
  rw [Value.flushed6]
  refine ext_at fun a b => (out6_at (iblk m c 0 t) (iblk m c 1 t) (iblk m c 2 t) (iblk m c 3 t) a b).trans ?_
  rw [sum_blk, iblk_2]
  exact (congrArg (result6 m c) (emb_4 t a b)).symm

theorem final_7 : (dats m 0 c).arrAt 7 cfg0.N = result7 m c := by
  refine (dats m 0 c).arrAt_eq_of_cover 7 (result7 m c) (fun t _ => ?_) fun i => (fill i).imp fun t h => ⟨flush0_7 t, h⟩
  rw [Value.flushed7]
  refine ext_at fun a b => (out7_at (iblk m c 0 t) (iblk m c 1 t) (iblk m c 2 t) (iblk m c 3 t) a b).trans ?_
  rw [sum_blk, iblk_3]
  exact (congrArg (result7 m c) (emb_4 t a b)).symm

end Blocks

end Cert.AdamConvOutIdeal.RealValue

end
-- ==== Proof.AdamConvOut.lean ====
/- The claims about `AdamConvOut`: the summed gradient, the update and the moments are the reference's. -/
module

public import proofs.«01_k».proof.Defs
public import proofs.«01_k».proof.Proof.AdamConvOutKernel
public import proofs.«01_k».proof.Proof.Gen.AdamConvOutRefIdeal.Run
public import proofs.«01_k».proof.Proof.Gen.AdamConvOutRefIdeal.Read

@[expose] public section

noncomputable section

namespace Cert.AdamConvOutClaim

open Idealize.ShloMosaic Idealize.ShloMosaic.TcCoe Idealize.SL.Sem Cert.AdamExt

section Reference

open Cert.AdamConvOutRefIdeal Cert.AdamConvOutRefIdeal.Read

variable (x0 : FVec Ideal S8x128x1024 .f32) (x1 x2 x3 : FVec Ideal S1x128x1024 .f32) (r : Fin 128) (b : Fin 1024)

/-- The reference's results at an entry: the sum of the parts, -/
theorem v1_entry : val_main_v1 (F := Ideal) x0 (ix3 0 r b) = ∑ q : Fin 8, x0 (ix3 q r b) := by
  unfold val_main_v1 val_main_v0 val_main_cst
  pointwise

/-- the moments, -/
theorem v6_entry : val_main_v6 (F := Ideal) x0 x2 (ix3 0 r b) = momE (∑ q : Fin 8, x0 (ix3 q r b)) (x2 (ix3 0 r b)) := by
  rw [← v1_entry]
  rfl

theorem v12_entry : val_main_v12 (F := Ideal) x0 x3 (ix3 0 r b) = varE (∑ q : Fin 8, x0 (ix3 q r b)) (x3 (ix3 0 r b)) := by
  rw [← v1_entry]
  rfl

/-- and the update. -/
theorem v25_entry :
    val_main_v25 (F := Ideal) x0 x1 x2 x3 (ix3 0 r b) = stepE (∑ q : Fin 8, x0 (ix3 q r b)) (x1 (ix3 0 r b)) (x2 (ix3 0 r b)) (x3 (ix3 0 r b)) := by
  rw [← v1_entry]
  rfl

end Reference

/-- The reference's frame, from its generated run. -/
theorem reference_frame : quiescent_AdamConvOutRefIdeal := fun m ρ _ =>
  (θ_run AdamConvOutRefIdeal.defs _ _).mono
    (fun r h => ⟨fun c => (h c).2.2.2.2, sem_eq_zero_of_no_sems (by decide) r.2⟩)
    (AdamConvOutRefIdeal.Value.run (F := Ideal) m ρ)

/-- The value claim. -/
theorem algebraic : algebraic_AdamConvOutIdeal_AdamConvOutRefIdeal := by
  intro m ρ m' ρ' _ hag
  refine ⟨AdamConvOutIdeal.RealValue.result4 m, AdamConvOutIdeal.RealValue.result5 m, AdamConvOutIdeal.RealValue.result6 m, AdamConvOutIdeal.RealValue.result7 m, ?_, ?_⟩
  · exact (θ_run AdamConvOutIdeal.defs _ _).mono (fun r h c => ⟨(h c).1.trans (AdamConvOutIdeal.RealValue.final_4 m c), (h c).2.1.trans (AdamConvOutIdeal.RealValue.final_5 m c),
      (h c).2.2.1.trans (AdamConvOutIdeal.RealValue.final_6 m c), (h c).2.2.2.1.trans (AdamConvOutIdeal.RealValue.final_7 m c), (h c).2.2.2.2⟩) (AdamConvOutIdeal.Value.run_blocks m ρ)
  · refine (θ_run AdamConvOutRefIdeal.defs _ _).mono (fun r h c => ⟨(h c).1.trans ?_, (h c).2.1.trans ?_, (h c).2.2.1.trans ?_, (h c).2.2.2.1.trans ?_, (h c).2.2.2.2⟩) (AdamConvOutRefIdeal.Value.run (F := Ideal) m' ρ')
    · rw [(hag c).1]
      refine (AdamConvOutRefIdeal.Read.val_main_v1_eq _).trans ?_
      exact ext_at fun r b => v1_entry _ r b
    · rw [(hag c).1, (hag c).2.1, (hag c).2.2.1, (hag c).2.2.2]
      refine (AdamConvOutRefIdeal.Read.val_main_v25_eq _ _ _ _).trans ?_
      exact ext_at fun r b => v25_entry _ _ _ _ r b
    · rw [(hag c).1, (hag c).2.2.1]
      refine (AdamConvOutRefIdeal.Read.val_main_v6_eq _ _).trans ?_
      exact ext_at fun r b => v6_entry _ _ r b
    · rw [(hag c).1, (hag c).2.2.2]
      refine (AdamConvOutRefIdeal.Read.val_main_v12_eq _ _).trans ?_
      exact ext_at fun r b => v12_entry _ _ r b

end Cert.AdamConvOutClaim

end
-- ==== Proof.AdamDownKernel.lean ====
/- What the kernel `AdamDownIdeal` leaves in its result arrays: the summed gradient of the downward projection's weight, its update and its moments. -/
module

public import proofs.«01_k».proof.Proof.AdamExt
public import proofs.«01_k».proof.Proof.Gen.AdamDownIdeal.Value
public import Idealize.ShloMosaic.Lib.StableHlo.RunRead

@[expose] public section

noncomputable section

namespace Cert.AdamDownIdeal.RealValue

open Cert.AdamDownIdeal Cert.AdamDownIdeal.Gen Cert.AdamExt
open Idealize.ShloMosaic Idealize.ShloMosaic.TcCoe Idealize.SL.Sem

/-! ## The body's results at an index -/

section Body

variable (x0 : Vec Ideal S8x128x896 .bf16) (x1 x2 x3 : Vec Ideal S1x128x832 .f32) (a : Fin 128) (b : Fin 832)

/-- The gradient is the sum of the eight parts; -/
theorem sum_at :
    k0_pay8 x0 x1 x2 x3 (ix2 a b) = ∑ q : Fin 8, x0 (ix3 q a ⟨b.val, by have := b.isLt; omega⟩) := by
  unfold k0_pay8 k0_pay3
  pointwise
  rw [Fin.sum_univ_eight]

theorem out4_at :
    out0_4 x0 x1 x2 x3 (ix3 0 a b) = ∑ q : Fin 8, x0 (ix3 q a ⟨b.val, by have := b.isLt; omega⟩) := by
  unfold out0_4 k0_pay4
  rw [View.canon_unit_zero Layout.hz3]
  pointwise
  exact sum_at x0 x1 x2 x3 a b

/-- the update, -/
theorem out5_at :
    out0_5 x0 x1 x2 x3 (ix3 0 a b)
      = stepE (∑ q : Fin 8, x0 (ix3 q a ⟨b.val, by have := b.isLt; omega⟩)) (x1 (ix3 0 a b)) (x2 (ix3 0 a b)) (x3 (ix3 0 a b)) := by
  unfold out0_5
  rw [View.canon_unit_zero Layout.hz3]
  simp only [View.ld_unit_zero (S := S1x128x832) Layout.hz3]
  rw [← sum_at x0 x1 x2 x3 a b]
  unfold k0_pay7 k0_pay5 k0_pay6
  generalize k0_pay8 x0 x1 x2 x3 = g
  pointwise
  rfl

/-- and the moments. -/
theorem out6_at :
    out0_6 x0 x1 x2 x3 (ix3 0 a b) = momE (∑ q : Fin 8, x0 (ix3 q a ⟨b.val, by have := b.isLt; omega⟩)) (x2 (ix3 0 a b)) := by
  unfold out0_6
  rw [View.canon_unit_zero Layout.hz3]
  simp only [View.ld_unit_zero (S := S1x128x832) Layout.hz3]
  rw [← sum_at x0 x1 x2 x3 a b]
  unfold k0_pay1 k0_pay5
  generalize k0_pay8 x0 x1 x2 x3 = g
  pointwise
  rfl

theorem out7_at :
    out0_7 x0 x1 x2 x3 (ix3 0 a b) = varE (∑ q : Fin 8, x0 (ix3 q a ⟨b.val, by have := b.isLt; omega⟩)) (x3 (ix3 0 a b)) := by
  unfold out0_7
  rw [View.canon_unit_zero Layout.hz3]
  simp only [View.ld_unit_zero (S := S1x128x832) Layout.hz3]
  rw [← sum_at x0 x1 x2 x3 a b]
  unfold k0_pay2 k0_pay6
  generalize k0_pay8 x0 x1 x2 x3 = g
  pointwise
  rfl

end Body

/-! ## The blocks -/

section Blocks

variable (m : (ℓ : Loc nD τ sig) → Buf (Elt Ideal) ℓ) (c : Dev nD)

/-- Row `a` of the block at point `t` is row `128 t + a` of the array. -/
def row (t : Fin cfg0.N) (a : Fin 128) : Fin 128 := ⟨128 * t.val + a.val, by have : t.val < 1 := lt_of_lt_of_eq t.isLt N_0; have := a.isLt; omega⟩

/-- The parts' window and a result's take the same block of rows; so do the others, whose blocks are the result's. -/
theorem index_all : ∀ t : Fin cfg0.N, win0_0.index t 0 = 0 ∧ win0_0.index t 1 = t.val ∧ win0_0.index t 2 = 0 ∧ win0_4.index t 0 = 0 ∧ win0_4.index t 1 = t.val ∧ win0_4.index t 2 = 0 :=
  (by decide +kernel : ∀ t : Fin grid0.N, win0_0.index t 0 = 0 ∧ win0_0.index t 1 = t.val ∧ win0_0.index t 2 = 0 ∧ win0_4.index t 0 = 0 ∧ win0_4.index t 1 = t.val ∧ win0_4.index t 2 = 0)

theorem iblk_0 (t : Fin cfg0.N) (q : Fin 8) (a : Fin 128) (b : Fin 896) :
    (iblk m c 0 t : Vec Ideal S8x128x896 .bf16) (ix3 q a b) = V m c main_v1 (ix3 q (row t a) b) := by
  refine congrArg (V m c main_v1) (funext fun d => Fin.ext ?_)
  obtain ⟨h0, h1, h2, _⟩ := index_all t
  match d with
  | ⟨0, _⟩ => show win0_0.index t 0 * 8 + 1 * q.val = q.val; omega
  | ⟨1, _⟩ => show win0_0.index t 1 * 128 + 1 * a.val = 128 * t.val + a.val; omega
  | ⟨2, _⟩ => show win0_0.index t 2 * 896 + 1 * b.val = b.val; omega

theorem emb_4 (t : Fin cfg0.N) (a : Fin 128) (b : Fin 832) : ((cfg0.win 4).blk t).view.emb (ix3 0 a b) = ix3 0 (row t a) b := by
  obtain ⟨_, _, _, h0, h1, h2⟩ := index_all t
  exact at_eq _ _ _ (by show win0_4.index t 0 * 1 + 1 * 0 = 0; omega) (by show win0_4.index t 1 * 128 + 1 * a.val = 128 * t.val + a.val; omega)
    (by show win0_4.index t 2 * 832 + 1 * b.val = b.val; omega)

/-- The blocks fill a result. -/
theorem fill (i : S1x128x832.Idx) : ∃ t : Fin cfg0.N, i ∈ ((cfg0.win 4).blk t).view.set := by
  obtain ⟨z, a, b, rfl⟩ : ∃ (z : Fin 1) (a : Fin 128) (b : Fin 832), i = ix3 z a b := ⟨i 0, i 1, i 2, eq_ix3 _⟩
  obtain rfl : z = 0 := Subsingleton.elim _ _
  have ht : a.val / 128 < cfg0.N := by have := a.isLt; have : cfg0.N = 1 := N_0; omega
  have e := emb_4 ⟨a.val / 128, ht⟩ ⟨a.val % 128, Nat.mod_lt _ (by decide)⟩ b
  rw [show row ⟨a.val / 128, ht⟩ ⟨a.val % 128, Nat.mod_lt _ (by decide)⟩ = a from Fin.ext (Nat.div_add_mod _ _)] at e
  exact ⟨_, e ▸ View.emb_mem_set _ _⟩

/-- The padded parts at a column of the weight. -/
theorem pad_at (x : FVec Ideal S8x128x832 .f32) (z : FVec Ideal S_ .f32) (q : Fin 8) (a : Fin 128) (b : Fin 832) :
    pad S8x128x896 ![0, 0, 0] ![0, 0, 64] ![0, 0, 0] x z pads_S8x128x832_S8x128x896_000_000_0640 h_S_ (ix3 q a ⟨b.val, by have := b.isLt; omega⟩) = x (ix3 q a b) := by
  pointwise

/-- The parts as the kernel takes them. -/
theorem parts_at (q : Fin 8) (a : Fin 128) (b : Fin 832) :
    V m c main_v1 (ix3 q a ⟨b.val, by have := b.isLt; omega⟩) = m ((c : Thread nD τ).loc main_arg0) (ix3 q a b) := by
  unfold V
  after_reads_simp
  exact pad_at _ _ q a b

theorem iblk_1 (t : Fin cfg0.N) (a : Fin 128) (b : Fin 832) :
    (iblk m c 1 t : Vec Ideal S1x128x832 .f32) (ix3 0 a b) = m ((c : Thread nD τ).loc main_arg1) (ix3 0 (row t a) b) :=
  (congrArg (V m c main_arg1) (emb_4 t a b)).trans (congrFun (V_main_arg1 m c) _)

theorem iblk_2 (t : Fin cfg0.N) (a : Fin 128) (b : Fin 832) :
    (iblk m c 2 t : Vec Ideal S1x128x832 .f32) (ix3 0 a b) = m ((c : Thread nD τ).loc main_arg2) (ix3 0 (row t a) b) :=
  (congrArg (V m c main_arg2) (emb_4 t a b)).trans (congrFun (V_main_arg2 m c) _)

theorem iblk_3 (t : Fin cfg0.N) (a : Fin 128) (b : Fin 832) :
    (iblk m c 3 t : Vec Ideal S1x128x832 .f32) (ix3 0 a b) = m ((c : Thread nD τ).loc main_arg3) (ix3 0 (row t a) b) :=
  (congrArg (V m c main_arg3) (emb_4 t a b)).trans (congrFun (V_main_arg3 m c) _)

/-- The summed gradient, -/
def result4 : S1x128x832.Idx → EReal := fun i => ∑ q : Fin 8, m ((c : Thread nD τ).loc main_arg0) (ix3 q (i 1) (i 2))

theorem sum_blk (t : Fin cfg0.N) (a : Fin 128) (b : Fin 832) :
    (Finset.sum (M := EReal) Finset.univ fun q : Fin 8 => (iblk m c 0 t : Vec Ideal S8x128x896 .bf16) (ix3 q a ⟨b.val, by have := b.isLt; omega⟩)) = result4 m c (ix3 0 (row t a) b) :=
  Finset.sum_congr rfl fun q _ => (iblk_0 m c t q a _).trans (parts_at m c q (row t a) b)

/-- the update, -/
def result5 : S1x128x832.Idx → EReal := fun i => stepE (result4 m c i) (m ((c : Thread nD τ).loc main_arg1) (ix3 0 (i 1) (i 2))) (m ((c : Thread nD τ).loc main_arg2) (ix3 0 (i 1) (i 2))) (m ((c : Thread nD τ).loc main_arg3) (ix3 0 (i 1) (i 2)))

/-- and the moments. -/
def result6 : S1x128x832.Idx → EReal := fun i => momE (result4 m c i) (m ((c : Thread nD τ).loc main_arg2) (ix3 0 (i 1) (i 2)))

def result7 : S1x128x832.Idx → EReal := fun i => varE (result4 m c i) (m ((c : Thread nD τ).loc main_arg3) (ix3 0 (i 1) (i 2)))

theorem final_4 : (dats m 0 c).arrAt 4 cfg0.N = result4 m c := by
  refine (dats m 0 c).arrAt_eq_of_cover 4 (result4 m c) (fun t _ => ?_) fun i => (fill i).imp fun t h => ⟨flush0_4 t, h⟩
  rw [Value.flushed4]
  refine ext_at fun a b => (out4_at (iblk m c 0 t) (iblk m c 1 t) (iblk m c 2 t) (iblk m c 3 t) a b).trans ?_
  rw [sum_blk]
  exact (congrArg (result4 m c) (emb_4 t a b)).symm

theorem final_5 : (dats m 0 c).arrAt 5 cfg0.N = result5 m c := by
  refine (dats m 0 c).arrAt_eq_of_cover 5 (result5 m c) (fun t _ => ?_) fun i => (fill i).imp fun t h => ⟨flush0_5 t, h⟩
  rw [Value.flushed5]
  refine ext_at fun a b => (out5_at (iblk m c 0 t) (iblk m c 1 t) (iblk m c 2 t) (iblk m c 3 t) a b).trans ?_
  rw [sum_blk, iblk_1, iblk_2, iblk_3]
  exact (congrArg (result5 m c) (emb_4 t a b)).symm

theorem final_6 : (dats m 0 c).arrAt 6 cfg0.N = result6 m c := by
  refine (dats m 0 c).arrAt_eq_of_cover 6 (result6 m c) (fun t _ => ?_) fun i => (fill i).imp fun t h => ⟨flush0_6 t, h⟩
  rw [Value.flushed6]
  refine ext_at fun a b => (out6_at (iblk m c 0 t) (iblk m c 1 t) (iblk m c 2 t) (iblk m c 3 t) a b).trans ?_
  rw [sum_blk, iblk_2]
  exact (congrArg (result6 m c) (emb_4 t a b)).symm

theorem final_7 : (dats m 0 c).arrAt 7 cfg0.N = result7 m c := by
  refine (dats m 0 c).arrAt_eq_of_cover 7 (result7 m c) (fun t _ => ?_) fun i => (fill i).imp fun t h => ⟨flush0_7 t, h⟩
  rw [Value.flushed7]
  refine ext_at fun a b => (out7_at (iblk m c 0 t) (iblk m c 1 t) (iblk m c 2 t) (iblk m c 3 t) a b).trans ?_
  rw [sum_blk, iblk_3]
  exact (congrArg (result7 m c) (emb_4 t a b)).symm

end Blocks

end Cert.AdamDownIdeal.RealValue

end
-- ==== Proof.AdamDown.lean ====
/- The claims about `AdamDown`: the summed gradient, the update and the moments are the reference's. -/
module

public import proofs.«01_k».proof.Defs
public import proofs.«01_k».proof.Proof.AdamDownKernel
public import proofs.«01_k».proof.Proof.Gen.AdamDownRefIdeal.Run
public import proofs.«01_k».proof.Proof.Gen.AdamDownRefIdeal.Read

@[expose] public section

noncomputable section

namespace Cert.AdamDownClaim

open Idealize.ShloMosaic Idealize.ShloMosaic.TcCoe Idealize.SL.Sem Cert.AdamExt

section Reference

open Cert.AdamDownRefIdeal Cert.AdamDownRefIdeal.Read

variable (x0 : FVec Ideal S8x128x832 .f32) (x1 x2 x3 : FVec Ideal S1x128x832 .f32) (r : Fin 128) (b : Fin 832)

/-- The reference's results at an entry: the sum of the parts, -/
theorem v1_entry : val_main_v1 (F := Ideal) x0 (ix3 0 r b) = ∑ q : Fin 8, x0 (ix3 q r b) := by
  unfold val_main_v1 val_main_v0 val_main_cst
  pointwise

/-- the moments, -/
theorem v6_entry : val_main_v6 (F := Ideal) x0 x2 (ix3 0 r b) = momE (∑ q : Fin 8, x0 (ix3 q r b)) (x2 (ix3 0 r b)) := by
  rw [← v1_entry]
  rfl

theorem v12_entry : val_main_v12 (F := Ideal) x0 x3 (ix3 0 r b) = varE (∑ q : Fin 8, x0 (ix3 q r b)) (x3 (ix3 0 r b)) := by
  rw [← v1_entry]
  rfl

/-- and the update. -/
theorem v25_entry :
    val_main_v25 (F := Ideal) x0 x1 x2 x3 (ix3 0 r b) = stepE (∑ q : Fin 8, x0 (ix3 q r b)) (x1 (ix3 0 r b)) (x2 (ix3 0 r b)) (x3 (ix3 0 r b)) := by
  rw [← v1_entry]
  rfl

end Reference

/-- The reference's frame, from its generated run. -/
theorem reference_frame : quiescent_AdamDownRefIdeal := fun m ρ _ =>
  (θ_run AdamDownRefIdeal.defs _ _).mono
    (fun r h => ⟨fun c => (h c).2.2.2.2, sem_eq_zero_of_no_sems (by decide) r.2⟩)
    (AdamDownRefIdeal.Value.run (F := Ideal) m ρ)

/-- The value claim. -/
theorem algebraic : algebraic_AdamDownIdeal_AdamDownRefIdeal := by
  intro m ρ m' ρ' _ hag
  refine ⟨AdamDownIdeal.RealValue.result4 m, AdamDownIdeal.RealValue.result5 m, AdamDownIdeal.RealValue.result6 m, AdamDownIdeal.RealValue.result7 m, ?_, ?_⟩
  · exact (θ_run AdamDownIdeal.defs _ _).mono (fun r h c => ⟨(h c).1.trans (AdamDownIdeal.RealValue.final_4 m c), (h c).2.1.trans (AdamDownIdeal.RealValue.final_5 m c),
      (h c).2.2.1.trans (AdamDownIdeal.RealValue.final_6 m c), (h c).2.2.2.1.trans (AdamDownIdeal.RealValue.final_7 m c), (h c).2.2.2.2⟩) (AdamDownIdeal.Value.run_blocks m ρ)
  · refine (θ_run AdamDownRefIdeal.defs _ _).mono (fun r h c => ⟨(h c).1.trans ?_, (h c).2.1.trans ?_, (h c).2.2.1.trans ?_, (h c).2.2.2.1.trans ?_, (h c).2.2.2.2⟩) (AdamDownRefIdeal.Value.run (F := Ideal) m' ρ')
    · rw [(hag c).1]
      refine (AdamDownRefIdeal.Read.val_main_v1_eq _).trans ?_
      exact ext_at fun r b => v1_entry _ r b
    · rw [(hag c).1, (hag c).2.1, (hag c).2.2.1, (hag c).2.2.2]
      refine (AdamDownRefIdeal.Read.val_main_v25_eq _ _ _ _).trans ?_
      exact ext_at fun r b => v25_entry _ _ _ _ r b
    · rw [(hag c).1, (hag c).2.2.1]
      refine (AdamDownRefIdeal.Read.val_main_v6_eq _ _).trans ?_
      exact ext_at fun r b => v6_entry _ _ r b
    · rw [(hag c).1, (hag c).2.2.2]
      refine (AdamDownRefIdeal.Read.val_main_v12_eq _ _).trans ?_
      exact ext_at fun r b => v12_entry _ _ r b

end Cert.AdamDownClaim

end
-- ==== Proof.AdamUpKvKernel.lean ====
/- What the kernel `AdamUpKvIdeal` leaves in its result arrays: the summed gradient of the upward projection's weight of the keys and values, its update and its moments. -/
module

public import proofs.«01_k».proof.Proof.AdamExt
public import proofs.«01_k».proof.Proof.Gen.AdamUpKvIdeal.Value
public import Idealize.ShloMosaic.Lib.StableHlo.RunRead

@[expose] public section

noncomputable section

namespace Cert.AdamUpKvIdeal.RealValue

open Cert.AdamUpKvIdeal Cert.AdamUpKvIdeal.Gen Cert.AdamExt
open Idealize.ShloMosaic Idealize.ShloMosaic.TcCoe Idealize.SL.Sem

/-! ## The body's results at an index -/

section Body

variable (x0 : Vec Ideal S8x32x2048 .bf16) (x1 x2 x3 : Vec Ideal S1x32x2048 .f32) (a : Fin 32) (b : Fin 2048)

/-- The gradient is the sum of the eight parts; -/
theorem sum_at :
    k0_pay8 x0 x1 x2 x3 (ix2 a b) = ∑ q : Fin 8, x0 (ix3 q a b) := by
  unfold k0_pay8 k0_pay3
  pointwise
  rw [Fin.sum_univ_eight]

theorem out4_at :
    out0_4 x0 x1 x2 x3 (ix3 0 a b) = ∑ q : Fin 8, x0 (ix3 q a b) := by
  unfold out0_4 k0_pay4
  rw [View.canon_unit_zero Layout.hz3]
  pointwise
  exact sum_at x0 x1 x2 x3 a b

/-- the update, -/
theorem out5_at :
    out0_5 x0 x1 x2 x3 (ix3 0 a b)
      = stepE (∑ q : Fin 8, x0 (ix3 q a b)) (x1 (ix3 0 a b)) (x2 (ix3 0 a b)) (x3 (ix3 0 a b)) := by
  unfold out0_5
  rw [View.canon_unit_zero Layout.hz3]
  simp only [View.ld_unit_zero (S := S1x32x2048) Layout.hz3]
  rw [← sum_at x0 x1 x2 x3 a b]
  unfold k0_pay7 k0_pay5 k0_pay6
  generalize k0_pay8 x0 x1 x2 x3 = g
  pointwise
  rfl

/-- and the moments. -/
theorem out6_at :
    out0_6 x0 x1 x2 x3 (ix3 0 a b) = momE (∑ q : Fin 8, x0 (ix3 q a b)) (x2 (ix3 0 a b)) := by
  unfold out0_6
  rw [View.canon_unit_zero Layout.hz3]
  simp only [View.ld_unit_zero (S := S1x32x2048) Layout.hz3]
  rw [← sum_at x0 x1 x2 x3 a b]
  unfold k0_pay1 k0_pay5
  generalize k0_pay8 x0 x1 x2 x3 = g
  pointwise
  rfl

theorem out7_at :
    out0_7 x0 x1 x2 x3 (ix3 0 a b) = varE (∑ q : Fin 8, x0 (ix3 q a b)) (x3 (ix3 0 a b)) := by
  unfold out0_7
  rw [View.canon_unit_zero Layout.hz3]
  simp only [View.ld_unit_zero (S := S1x32x2048) Layout.hz3]
  rw [← sum_at x0 x1 x2 x3 a b]
  unfold k0_pay2 k0_pay6
  generalize k0_pay8 x0 x1 x2 x3 = g
  pointwise
  rfl

end Body

/-! ## The blocks -/

section Blocks

variable (m : (ℓ : Loc nD τ sig) → Buf (Elt Ideal) ℓ) (c : Dev nD)

/-- Row `a` of the block at point `t` is row `32 t + a` of the array. -/
def row (t : Fin cfg0.N) (a : Fin 32) : Fin 32 := ⟨32 * t.val + a.val, by have : t.val < 1 := lt_of_lt_of_eq t.isLt N_0; have := a.isLt; omega⟩

/-- The parts' window and a result's take the same block of rows; so do the others, whose blocks are the result's. -/
theorem index_all : ∀ t : Fin cfg0.N, win0_0.index t 0 = 0 ∧ win0_0.index t 1 = t.val ∧ win0_0.index t 2 = 0 ∧ win0_4.index t 0 = 0 ∧ win0_4.index t 1 = t.val ∧ win0_4.index t 2 = 0 :=
  (by decide +kernel : ∀ t : Fin grid0.N, win0_0.index t 0 = 0 ∧ win0_0.index t 1 = t.val ∧ win0_0.index t 2 = 0 ∧ win0_4.index t 0 = 0 ∧ win0_4.index t 1 = t.val ∧ win0_4.index t 2 = 0)

theorem iblk_0 (t : Fin cfg0.N) (q : Fin 8) (a : Fin 32) (b : Fin 2048) :
    (iblk m c 0 t : Vec Ideal S8x32x2048 .bf16) (ix3 q a b) = V m c main_v1 (ix3 q (row t a) b) := by
  refine congrArg (V m c main_v1) (funext fun d => Fin.ext ?_)
  obtain ⟨h0, h1, h2, _⟩ := index_all t
  match d with
  | ⟨0, _⟩ => show win0_0.index t 0 * 8 + 1 * q.val = q.val; omega
  | ⟨1, _⟩ => show win0_0.index t 1 * 32 + 1 * a.val = 32 * t.val + a.val; omega
  | ⟨2, _⟩ => show win0_0.index t 2 * 2048 + 1 * b.val = b.val; omega

theorem emb_4 (t : Fin cfg0.N) (a : Fin 32) (b : Fin 2048) : ((cfg0.win 4).blk t).view.emb (ix3 0 a b) = ix3 0 (row t a) b := by
  obtain ⟨_, _, _, h0, h1, h2⟩ := index_all t
  exact at_eq _ _ _ (by show win0_4.index t 0 * 1 + 1 * 0 = 0; omega) (by show win0_4.index t 1 * 32 + 1 * a.val = 32 * t.val + a.val; omega)
    (by show win0_4.index t 2 * 2048 + 1 * b.val = b.val; omega)

/-- The blocks fill a result. -/
theorem fill (i : S1x32x2048.Idx) : ∃ t : Fin cfg0.N, i ∈ ((cfg0.win 4).blk t).view.set := by
  obtain ⟨z, a, b, rfl⟩ : ∃ (z : Fin 1) (a : Fin 32) (b : Fin 2048), i = ix3 z a b := ⟨i 0, i 1, i 2, eq_ix3 _⟩
  obtain rfl : z = 0 := Subsingleton.elim _ _
  have ht : a.val / 32 < cfg0.N := by have := a.isLt; have : cfg0.N = 1 := N_0; omega
  have e := emb_4 ⟨a.val / 32, ht⟩ ⟨a.val % 32, Nat.mod_lt _ (by decide)⟩ b
  rw [show row ⟨a.val / 32, ht⟩ ⟨a.val % 32, Nat.mod_lt _ (by decide)⟩ = a from Fin.ext (Nat.div_add_mod _ _)] at e
  exact ⟨_, e ▸ View.emb_mem_set _ _⟩

/-- The head and the entry in it that a column holds. -/
def head (b : Fin 2048) : Fin 8 := ⟨b.val / 256, by have := b.isLt; omega⟩

def entry (b : Fin 2048) : Fin 256 := ⟨b.val % 256, Nat.mod_lt _ (by decide)⟩

/-- The parts as the kernel takes them. -/
theorem parts_at (q : Fin 8) (a : Fin 32) (b : Fin 2048) :
    V m c main_v1 (ix3 q a b) = m ((c : Thread nD τ).loc main_arg0) (ix4 q a (head b) (entry b)) := by
  unfold V
  after_reads_simp
  show shapeCast S8x32x2048 (m (c, Proc.tc.devRef main_arg0) : FVec Ideal S8x32x8x256 .f32) _ _ = _
  pointwise
  rfl

theorem arg1_at (a : Fin 32) (b : Fin 2048) : V m c main_v2 (ix3 0 a b) = m ((c : Thread nD τ).loc main_arg1) (ix4 0 a (head b) (entry b)) := by
  unfold V
  after_reads_simp
  show shapeCast S1x32x2048 (m (c, Proc.tc.devRef main_arg1) : FVec Ideal S1x32x8x256 .f32) _ _ = _
  pointwise
  rfl

theorem iblk_1 (t : Fin cfg0.N) (a : Fin 32) (b : Fin 2048) :
    (iblk m c 1 t : Vec Ideal S1x32x2048 .f32) (ix3 0 a b) = m ((c : Thread nD τ).loc main_arg1) (ix4 0 (row t a) (head b) (entry b)) :=
  (congrArg (V m c main_v2) (emb_4 t a b)).trans (arg1_at m c (row t a) b)

theorem arg2_at (a : Fin 32) (b : Fin 2048) : V m c main_v3 (ix3 0 a b) = m ((c : Thread nD τ).loc main_arg2) (ix4 0 a (head b) (entry b)) := by
  unfold V
  after_reads_simp
  show shapeCast S1x32x2048 (m (c, Proc.tc.devRef main_arg2) : FVec Ideal S1x32x8x256 .f32) _ _ = _
  pointwise
  rfl

theorem iblk_2 (t : Fin cfg0.N) (a : Fin 32) (b : Fin 2048) :
    (iblk m c 2 t : Vec Ideal S1x32x2048 .f32) (ix3 0 a b) = m ((c : Thread nD τ).loc main_arg2) (ix4 0 (row t a) (head b) (entry b)) :=
  (congrArg (V m c main_v3) (emb_4 t a b)).trans (arg2_at m c (row t a) b)

theorem arg3_at (a : Fin 32) (b : Fin 2048) : V m c main_v4 (ix3 0 a b) = m ((c : Thread nD τ).loc main_arg3) (ix4 0 a (head b) (entry b)) := by
  unfold V
  after_reads_simp
  show shapeCast S1x32x2048 (m (c, Proc.tc.devRef main_arg3) : FVec Ideal S1x32x8x256 .f32) _ _ = _
  pointwise
  rfl

theorem iblk_3 (t : Fin cfg0.N) (a : Fin 32) (b : Fin 2048) :
    (iblk m c 3 t : Vec Ideal S1x32x2048 .f32) (ix3 0 a b) = m ((c : Thread nD τ).loc main_arg3) (ix4 0 (row t a) (head b) (entry b)) :=
  (congrArg (V m c main_v4) (emb_4 t a b)).trans (arg3_at m c (row t a) b)

/-- The summed gradient, -/
def result4 : S1x32x2048.Idx → EReal := fun i => ∑ q : Fin 8, m ((c : Thread nD τ).loc main_arg0) (ix4 q (i 1) (head (i 2)) (entry (i 2)))

theorem sum_blk (t : Fin cfg0.N) (a : Fin 32) (b : Fin 2048) :
    (Finset.sum (M := EReal) Finset.univ fun q : Fin 8 => (iblk m c 0 t : Vec Ideal S8x32x2048 .bf16) (ix3 q a b)) = result4 m c (ix3 0 (row t a) b) :=
  Finset.sum_congr rfl fun q _ => (iblk_0 m c t q a _).trans (parts_at m c q (row t a) b)

/-- the update, -/
def result5 : S1x32x2048.Idx → EReal := fun i => stepE (result4 m c i) (m ((c : Thread nD τ).loc main_arg1) (ix4 0 (i 1) (head (i 2)) (entry (i 2)))) (m ((c : Thread nD τ).loc main_arg2) (ix4 0 (i 1) (head (i 2)) (entry (i 2)))) (m ((c : Thread nD τ).loc main_arg3) (ix4 0 (i 1) (head (i 2)) (entry (i 2))))

/-- and the moments. -/
def result6 : S1x32x2048.Idx → EReal := fun i => momE (result4 m c i) (m ((c : Thread nD τ).loc main_arg2) (ix4 0 (i 1) (head (i 2)) (entry (i 2))))

def result7 : S1x32x2048.Idx → EReal := fun i => varE (result4 m c i) (m ((c : Thread nD τ).loc main_arg3) (ix4 0 (i 1) (head (i 2)) (entry (i 2))))

theorem final_4 : (dats m 0 c).arrAt 4 cfg0.N = result4 m c := by
  refine (dats m 0 c).arrAt_eq_of_cover 4 (result4 m c) (fun t _ => ?_) fun i => (fill i).imp fun t h => ⟨flush0_4 t, h⟩
  rw [Value.flushed4]
  refine ext_at fun a b => (out4_at (iblk m c 0 t) (iblk m c 1 t) (iblk m c 2 t) (iblk m c 3 t) a b).trans ?_
  rw [sum_blk]
  exact (congrArg (result4 m c) (emb_4 t a b)).symm

theorem final_5 : (dats m 0 c).arrAt 5 cfg0.N = result5 m c := by
  refine (dats m 0 c).arrAt_eq_of_cover 5 (result5 m c) (fun t _ => ?_) fun i => (fill i).imp fun t h => ⟨flush0_5 t, h⟩
  rw [Value.flushed5]
  refine ext_at fun a b => (out5_at (iblk m c 0 t) (iblk m c 1 t) (iblk m c 2 t) (iblk m c 3 t) a b).trans ?_
  rw [sum_blk, iblk_1, iblk_2, iblk_3]
  exact (congrArg (result5 m c) (emb_4 t a b)).symm

theorem final_6 : (dats m 0 c).arrAt 6 cfg0.N = result6 m c := by
  refine (dats m 0 c).arrAt_eq_of_cover 6 (result6 m c) (fun t _ => ?_) fun i => (fill i).imp fun t h => ⟨flush0_6 t, h⟩
  rw [Value.flushed6]
  refine ext_at fun a b => (out6_at (iblk m c 0 t) (iblk m c 1 t) (iblk m c 2 t) (iblk m c 3 t) a b).trans ?_
  rw [sum_blk, iblk_2]
  exact (congrArg (result6 m c) (emb_4 t a b)).symm

theorem final_7 : (dats m 0 c).arrAt 7 cfg0.N = result7 m c := by
  refine (dats m 0 c).arrAt_eq_of_cover 7 (result7 m c) (fun t _ => ?_) fun i => (fill i).imp fun t h => ⟨flush0_7 t, h⟩
  rw [Value.flushed7]
  refine ext_at fun a b => (out7_at (iblk m c 0 t) (iblk m c 1 t) (iblk m c 2 t) (iblk m c 3 t) a b).trans ?_
  rw [sum_blk, iblk_3]
  exact (congrArg (result7 m c) (emb_4 t a b)).symm

end Blocks

end Cert.AdamUpKvIdeal.RealValue

end
-- ==== Proof.AdamUpKv.lean ====
/- The claims about `AdamUpKv`: the summed gradient, the update and the moments are the reference's. -/
module

public import proofs.«01_k».proof.Defs
public import proofs.«01_k».proof.Proof.AdamUpKvKernel
public import proofs.«01_k».proof.Proof.Gen.AdamUpKvRefIdeal.Run
public import proofs.«01_k».proof.Proof.Gen.AdamUpKvRefIdeal.Read

@[expose] public section

noncomputable section

namespace Cert.AdamUpKvClaim

open Idealize.ShloMosaic Idealize.ShloMosaic.TcCoe Idealize.SL.Sem Cert.AdamExt

section Reference

open Cert.AdamUpKvRefIdeal Cert.AdamUpKvRefIdeal.Read

variable (x0 : FVec Ideal S8x32x8x256 .f32) (x1 x2 x3 : FVec Ideal S1x32x8x256 .f32) (r : Fin 32) (b : Fin 8) (d : Fin 256)

/-- The reference's results at an entry: the sum of the parts, -/
theorem v1_entry : val_main_v1 (F := Ideal) x0 (ix4 0 r b d) = ∑ q : Fin 8, x0 (ix4 q r b d) := by
  unfold val_main_v1 val_main_v0 val_main_cst
  pointwise

/-- the moments, -/
theorem v6_entry : val_main_v6 (F := Ideal) x0 x2 (ix4 0 r b d) = momE (∑ q : Fin 8, x0 (ix4 q r b d)) (x2 (ix4 0 r b d)) := by
  rw [← v1_entry]
  rfl

theorem v12_entry : val_main_v12 (F := Ideal) x0 x3 (ix4 0 r b d) = varE (∑ q : Fin 8, x0 (ix4 q r b d)) (x3 (ix4 0 r b d)) := by
  rw [← v1_entry]
  rfl

/-- and the update. -/
theorem v25_entry :
    val_main_v25 (F := Ideal) x0 x1 x2 x3 (ix4 0 r b d) = stepE (∑ q : Fin 8, x0 (ix4 q r b d)) (x1 (ix4 0 r b d)) (x2 (ix4 0 r b d)) (x3 (ix4 0 r b d)) := by
  rw [← v1_entry]
  rfl

/-- A result as it is packed: column `b` is entry `b % 256` of head `b / 256`. -/
theorem packed_entry (x : FVec Ideal S1x32x8x256 .f32) (b : Fin 2048) :
    shapeCast S1x32x2048 x Gen.shapeCasts_S1x32x8x256_S1x32x2048 (ix3 0 r b)
      = x (ix4 0 r ⟨b.val / 256, by have := b.isLt; omega⟩ ⟨b.val % 256, Nat.mod_lt _ (by decide)⟩) := by
  pointwise

end Reference

/-- The reference's frame, from its generated run. -/
theorem reference_frame : quiescent_AdamUpKvRefIdeal := fun m ρ _ =>
  (θ_run AdamUpKvRefIdeal.defs _ _).mono
    (fun r h => ⟨fun c => (h c).2.2.2.2, sem_eq_zero_of_no_sems (by decide) r.2⟩)
    (AdamUpKvRefIdeal.Value.run (F := Ideal) m ρ)

/-- The value claim. -/
theorem algebraic : algebraic_AdamUpKvIdeal_AdamUpKvRefIdeal := by
  intro m ρ m' ρ' _ hag
  refine ⟨AdamUpKvIdeal.RealValue.result4 m, AdamUpKvIdeal.RealValue.result5 m, AdamUpKvIdeal.RealValue.result6 m, AdamUpKvIdeal.RealValue.result7 m, ?_, ?_⟩
  · exact (θ_run AdamUpKvIdeal.defs _ _).mono (fun r h c => ⟨(h c).1.trans (AdamUpKvIdeal.RealValue.final_4 m c), (h c).2.1.trans (AdamUpKvIdeal.RealValue.final_5 m c),
      (h c).2.2.1.trans (AdamUpKvIdeal.RealValue.final_6 m c), (h c).2.2.2.1.trans (AdamUpKvIdeal.RealValue.final_7 m c), (h c).2.2.2.2⟩) (AdamUpKvIdeal.Value.run_blocks m ρ)
  · refine (θ_run AdamUpKvRefIdeal.defs _ _).mono (fun r h c => ⟨(h c).1.trans ?_, (h c).2.1.trans ?_, (h c).2.2.1.trans ?_, (h c).2.2.2.1.trans ?_, (h c).2.2.2.2⟩) (AdamUpKvRefIdeal.Value.run (F := Ideal) m' ρ')
    · rw [(hag c).1]
      refine (AdamUpKvRefIdeal.Read.val_main_v26_eq _).trans ?_
      exact ext_at fun r b => (packed_entry r _ b).trans (v1_entry _ r _ _)
    · rw [(hag c).1, (hag c).2.1, (hag c).2.2.1, (hag c).2.2.2]
      refine (AdamUpKvRefIdeal.Read.val_main_v27_eq _ _ _ _).trans ?_
      exact ext_at fun r b => (packed_entry r _ b).trans (v25_entry _ _ _ _ r _ _)
    · rw [(hag c).1, (hag c).2.2.1]
      refine (AdamUpKvRefIdeal.Read.val_main_v28_eq _ _).trans ?_
      exact ext_at fun r b => (packed_entry r _ b).trans (v6_entry _ _ r _ _)
    · rw [(hag c).1, (hag c).2.2.2]
      refine (AdamUpKvRefIdeal.Read.val_main_v29_eq _ _).trans ?_
      exact ext_at fun r b => (packed_entry r _ b).trans (v12_entry _ _ r _ _)

end Cert.AdamUpKvClaim

end
-- ==== Proof.AdamUpQKernel.lean ====
/- What the kernel `AdamUpQIdeal` leaves in its result arrays: the summed gradient of the upward projection's weight of the queries, its update and its moments. -/
module

public import proofs.«01_k».proof.Proof.AdamExt
public import proofs.«01_k».proof.Proof.Tails
public import proofs.«01_k».proof.Proof.Gen.AdamUpQIdeal.Value
public import Idealize.ShloMosaic.Lib.StableHlo.RunRead

@[expose] public section

noncomputable section

namespace Cert.AdamUpQIdeal.RealValue

open Cert.AdamUpQIdeal Cert.AdamUpQIdeal.Gen Cert.AdamExt Cert.Layout
open Idealize.ShloMosaic Idealize.ShloMosaic.TcCoe Idealize.SL.Sem

/-! ## The heads -/

/-- Heads of 192 entries, each with a zero tail to 256, side by side: of eight parts, -/
theorem heads_8 (x : FVec Ideal ⟨4, ![8, 64, 8, 192]⟩ .f32) (z : FVec Ideal ⟨0, ![]⟩ .f32) (hz : ∀ i, z i = 0) (h2) (h3) (h4)
    (q : Fin 8) (r : Fin 64) (j : Fin 2048) :
    shapeCast ⟨3, ![8, 64, 2048]⟩ (pad ⟨4, ![8, 64, 8, 256]⟩ ![0, 0, 0, 0] ![0, 0, 0, 64] ![0, 0, 0, 0] x z h2 h3) h4 (ix3 q r j)
      = headE (fun a d => x (ix4 q r a d)) j := by
  pointwise
  have := j.isLt
  unfold headE
  by_cases h : j.val % 256 < 192
  · rw [dif_pos ⟨by omega, h⟩, dif_pos h]
  · rw [dif_neg (fun e => h e.2), dif_neg h, hz]

/-- and of one array. -/
theorem heads_1 (x : FVec Ideal ⟨4, ![1, 64, 8, 192]⟩ .f32) (z : FVec Ideal ⟨0, ![]⟩ .f32) (hz : ∀ i, z i = 0) (h2) (h3) (h4)
    (q : Fin 1) (r : Fin 64) (j : Fin 2048) :
    shapeCast ⟨3, ![1, 64, 2048]⟩ (pad ⟨4, ![1, 64, 8, 256]⟩ ![0, 0, 0, 0] ![0, 0, 0, 64] ![0, 0, 0, 0] x z h2 h3) h4 (ix3 q r j)
      = headE (fun a d => x (ix4 q r a d)) j := by
  obtain rfl : q = 0 := Subsingleton.elim _ _
  pointwise
  have := j.isLt
  unfold headE
  by_cases h : j.val % 256 < 192
  · rw [dif_pos ⟨by omega, h⟩, dif_pos h]
  · rw [dif_neg (fun e => h e.2), dif_neg h, hz]

/-! ## The body's results at an index -/

section Body

variable (x0 : Vec Ideal S8x64x2048 .bf16) (x1 x2 x3 : Vec Ideal S1x64x2048 .f32) (a : Fin 64) (b : Fin 2048)

/-- The gradient is the sum of the eight parts; -/
theorem sum_at :
    k0_pay8 x0 x1 x2 x3 (ix2 a b) = ∑ q : Fin 8, x0 (ix3 q a b) := by
  unfold k0_pay8 k0_pay3
  pointwise
  rw [Fin.sum_univ_eight]

theorem out4_at :
    out0_4 x0 x1 x2 x3 (ix3 0 a b) = ∑ q : Fin 8, x0 (ix3 q a b) := by
  unfold out0_4 k0_pay4
  rw [View.canon_unit_zero Layout.hz3]
  pointwise
  exact sum_at x0 x1 x2 x3 a b

/-- the update, -/
theorem out5_at :
    out0_5 x0 x1 x2 x3 (ix3 0 a b)
      = stepE (∑ q : Fin 8, x0 (ix3 q a b)) (x1 (ix3 0 a b)) (x2 (ix3 0 a b)) (x3 (ix3 0 a b)) := by
  unfold out0_5
  rw [View.canon_unit_zero Layout.hz3]
  simp only [View.ld_unit_zero (S := S1x64x2048) Layout.hz3]
  rw [← sum_at x0 x1 x2 x3 a b]
  unfold k0_pay7 k0_pay5 k0_pay6
  generalize k0_pay8 x0 x1 x2 x3 = g
  pointwise
  rfl

/-- and the moments. -/
theorem out6_at :
    out0_6 x0 x1 x2 x3 (ix3 0 a b) = momE (∑ q : Fin 8, x0 (ix3 q a b)) (x2 (ix3 0 a b)) := by
  unfold out0_6
  rw [View.canon_unit_zero Layout.hz3]
  simp only [View.ld_unit_zero (S := S1x64x2048) Layout.hz3]
  rw [← sum_at x0 x1 x2 x3 a b]
  unfold k0_pay1 k0_pay5
  generalize k0_pay8 x0 x1 x2 x3 = g
  pointwise
  rfl

theorem out7_at :
    out0_7 x0 x1 x2 x3 (ix3 0 a b) = varE (∑ q : Fin 8, x0 (ix3 q a b)) (x3 (ix3 0 a b)) := by
  unfold out0_7
  rw [View.canon_unit_zero Layout.hz3]
  simp only [View.ld_unit_zero (S := S1x64x2048) Layout.hz3]
  rw [← sum_at x0 x1 x2 x3 a b]
  unfold k0_pay2 k0_pay6
  generalize k0_pay8 x0 x1 x2 x3 = g
  pointwise
  rfl

end Body

/-! ## The blocks -/

section Blocks

variable (m : (ℓ : Loc nD τ sig) → Buf (Elt Ideal) ℓ) (c : Dev nD)

/-- Row `a` of the block at point `t` is row `64 t + a` of the array. -/
def row (t : Fin cfg0.N) (a : Fin 64) : Fin 64 := ⟨64 * t.val + a.val, by have : t.val < 1 := lt_of_lt_of_eq t.isLt N_0; have := a.isLt; omega⟩

/-- The parts' window and a result's take the same block of rows; so do the others, whose blocks are the result's. -/
theorem index_all : ∀ t : Fin cfg0.N, win0_0.index t 0 = 0 ∧ win0_0.index t 1 = t.val ∧ win0_0.index t 2 = 0 ∧ win0_4.index t 0 = 0 ∧ win0_4.index t 1 = t.val ∧ win0_4.index t 2 = 0 :=
  (by decide +kernel : ∀ t : Fin grid0.N, win0_0.index t 0 = 0 ∧ win0_0.index t 1 = t.val ∧ win0_0.index t 2 = 0 ∧ win0_4.index t 0 = 0 ∧ win0_4.index t 1 = t.val ∧ win0_4.index t 2 = 0)

theorem iblk_0 (t : Fin cfg0.N) (q : Fin 8) (a : Fin 64) (b : Fin 2048) :
    (iblk m c 0 t : Vec Ideal S8x64x2048 .bf16) (ix3 q a b) = V m c main_v2 (ix3 q (row t a) b) := by
  refine congrArg (V m c main_v2) (funext fun d => Fin.ext ?_)
  obtain ⟨h0, h1, h2, _⟩ := index_all t
  match d with
  | ⟨0, _⟩ => show win0_0.index t 0 * 8 + 1 * q.val = q.val; omega
  | ⟨1, _⟩ => show win0_0.index t 1 * 64 + 1 * a.val = 64 * t.val + a.val; omega
  | ⟨2, _⟩ => show win0_0.index t 2 * 2048 + 1 * b.val = b.val; omega

theorem emb_4 (t : Fin cfg0.N) (a : Fin 64) (b : Fin 2048) : ((cfg0.win 4).blk t).view.emb (ix3 0 a b) = ix3 0 (row t a) b := by
  obtain ⟨_, _, _, h0, h1, h2⟩ := index_all t
  exact at_eq _ _ _ (by show win0_4.index t 0 * 1 + 1 * 0 = 0; omega) (by show win0_4.index t 1 * 64 + 1 * a.val = 64 * t.val + a.val; omega)
    (by show win0_4.index t 2 * 2048 + 1 * b.val = b.val; omega)

/-- The blocks fill a result. -/
theorem fill (i : S1x64x2048.Idx) : ∃ t : Fin cfg0.N, i ∈ ((cfg0.win 4).blk t).view.set := by
  obtain ⟨z, a, b, rfl⟩ : ∃ (z : Fin 1) (a : Fin 64) (b : Fin 2048), i = ix3 z a b := ⟨i 0, i 1, i 2, eq_ix3 _⟩
  obtain rfl : z = 0 := Subsingleton.elim _ _
  have ht : a.val / 64 < cfg0.N := by have := a.isLt; have : cfg0.N = 1 := N_0; omega
  have e := emb_4 ⟨a.val / 64, ht⟩ ⟨a.val % 64, Nat.mod_lt _ (by decide)⟩ b
  rw [show row ⟨a.val / 64, ht⟩ ⟨a.val % 64, Nat.mod_lt _ (by decide)⟩ = a from Fin.ext (Nat.div_add_mod _ _)] at e
  exact ⟨_, e ▸ View.emb_mem_set _ _⟩

/-- The parts as the kernel takes them: each head with its zero tail. -/
theorem parts_at (q : Fin 8) (a : Fin 64) (b : Fin 2048) :
    V m c main_v2 (ix3 q a b) = headE (fun h d => m ((c : Thread nD τ).loc main_arg0) (ix4 q a h d)) b := by
  unfold V
  after_reads_simp
  exact Eq.trans rfl (heads_8 (m ((c : Thread nD τ).loc main_arg0)) (sitofp (F := Ideal) .f32 (constantI S_ 32 0#32)) (fun _ => sitofp_zero)
    pads_S8x64x8x192_S8x64x8x256_000_000_000_0640 h_S_ shapeCasts_S8x64x8x256_S8x64x2048 q a b)

theorem arg1_at (a : Fin 64) (b : Fin 2048) : V m c main_v4 (ix3 0 a b) = headE (fun h d => m ((c : Thread nD τ).loc main_arg1) (ix4 0 a h d)) b := by
  unfold V
  after_reads_simp
  exact Eq.trans rfl (heads_1 (m ((c : Thread nD τ).loc main_arg1)) (sitofp (F := Ideal) .f32 (constantI S_ 32 0#32)) (fun _ => sitofp_zero)
    pads_S1x64x8x192_S1x64x8x256_000_000_000_0640 h_S_ shapeCasts_S1x64x8x256_S1x64x2048 0 a b)

theorem iblk_1 (t : Fin cfg0.N) (a : Fin 64) (b : Fin 2048) :
    (iblk m c 1 t : Vec Ideal S1x64x2048 .f32) (ix3 0 a b) = headE (fun h d => m ((c : Thread nD τ).loc main_arg1) (ix4 0 (row t a) h d)) b :=
  (congrArg (V m c main_v4) (emb_4 t a b)).trans (arg1_at m c (row t a) b)

theorem arg2_at (a : Fin 64) (b : Fin 2048) : V m c main_v6 (ix3 0 a b) = headE (fun h d => m ((c : Thread nD τ).loc main_arg2) (ix4 0 a h d)) b := by
  unfold V
  after_reads_simp
  exact Eq.trans rfl (heads_1 (m ((c : Thread nD τ).loc main_arg2)) (sitofp (F := Ideal) .f32 (constantI S_ 32 0#32)) (fun _ => sitofp_zero)
    pads_S1x64x8x192_S1x64x8x256_000_000_000_0640 h_S_ shapeCasts_S1x64x8x256_S1x64x2048 0 a b)

theorem iblk_2 (t : Fin cfg0.N) (a : Fin 64) (b : Fin 2048) :
    (iblk m c 2 t : Vec Ideal S1x64x2048 .f32) (ix3 0 a b) = headE (fun h d => m ((c : Thread nD τ).loc main_arg2) (ix4 0 (row t a) h d)) b :=
  (congrArg (V m c main_v6) (emb_4 t a b)).trans (arg2_at m c (row t a) b)

theorem arg3_at (a : Fin 64) (b : Fin 2048) : V m c main_v8 (ix3 0 a b) = headE (fun h d => m ((c : Thread nD τ).loc main_arg3) (ix4 0 a h d)) b := by
  unfold V
  after_reads_simp
  exact Eq.trans rfl (heads_1 (m ((c : Thread nD τ).loc main_arg3)) (sitofp (F := Ideal) .f32 (constantI S_ 32 0#32)) (fun _ => sitofp_zero)
    pads_S1x64x8x192_S1x64x8x256_000_000_000_0640 h_S_ shapeCasts_S1x64x8x256_S1x64x2048 0 a b)

theorem iblk_3 (t : Fin cfg0.N) (a : Fin 64) (b : Fin 2048) :
    (iblk m c 3 t : Vec Ideal S1x64x2048 .f32) (ix3 0 a b) = headE (fun h d => m ((c : Thread nD τ).loc main_arg3) (ix4 0 (row t a) h d)) b :=
  (congrArg (V m c main_v8) (emb_4 t a b)).trans (arg3_at m c (row t a) b)

/-- The summed gradient, -/
def result4 : S1x64x2048.Idx → EReal := fun i => ∑ q : Fin 8, headE (fun h d => m ((c : Thread nD τ).loc main_arg0) (ix4 q (i 1) h d)) (i 2)

theorem sum_blk (t : Fin cfg0.N) (a : Fin 64) (b : Fin 2048) :
    (Finset.sum (M := EReal) Finset.univ fun q : Fin 8 => (iblk m c 0 t : Vec Ideal S8x64x2048 .bf16) (ix3 q a b)) = result4 m c (ix3 0 (row t a) b) :=
  Finset.sum_congr rfl fun q _ => (iblk_0 m c t q a _).trans (parts_at m c q (row t a) b)

/-- the update, -/
def result5 : S1x64x2048.Idx → EReal := fun i => stepE (result4 m c i) (headE (fun h d => m ((c : Thread nD τ).loc main_arg1) (ix4 0 (i 1) h d)) (i 2)) (headE (fun h d => m ((c : Thread nD τ).loc main_arg2) (ix4 0 (i 1) h d)) (i 2)) (headE (fun h d => m ((c : Thread nD τ).loc main_arg3) (ix4 0 (i 1) h d)) (i 2))

/-- and the moments. -/
def result6 : S1x64x2048.Idx → EReal := fun i => momE (result4 m c i) (headE (fun h d => m ((c : Thread nD τ).loc main_arg2) (ix4 0 (i 1) h d)) (i 2))

def result7 : S1x64x2048.Idx → EReal := fun i => varE (result4 m c i) (headE (fun h d => m ((c : Thread nD τ).loc main_arg3) (ix4 0 (i 1) h d)) (i 2))

theorem final_4 : (dats m 0 c).arrAt 4 cfg0.N = result4 m c := by
  refine (dats m 0 c).arrAt_eq_of_cover 4 (result4 m c) (fun t _ => ?_) fun i => (fill i).imp fun t h => ⟨flush0_4 t, h⟩
  rw [Value.flushed4]
  refine ext_at fun a b => (out4_at (iblk m c 0 t) (iblk m c 1 t) (iblk m c 2 t) (iblk m c 3 t) a b).trans ?_
  rw [sum_blk]
  exact (congrArg (result4 m c) (emb_4 t a b)).symm

theorem final_5 : (dats m 0 c).arrAt 5 cfg0.N = result5 m c := by
  refine (dats m 0 c).arrAt_eq_of_cover 5 (result5 m c) (fun t _ => ?_) fun i => (fill i).imp fun t h => ⟨flush0_5 t, h⟩
  rw [Value.flushed5]
  refine ext_at fun a b => (out5_at (iblk m c 0 t) (iblk m c 1 t) (iblk m c 2 t) (iblk m c 3 t) a b).trans ?_
  rw [sum_blk, iblk_1, iblk_2, iblk_3]
  exact (congrArg (result5 m c) (emb_4 t a b)).symm

theorem final_6 : (dats m 0 c).arrAt 6 cfg0.N = result6 m c := by
  refine (dats m 0 c).arrAt_eq_of_cover 6 (result6 m c) (fun t _ => ?_) fun i => (fill i).imp fun t h => ⟨flush0_6 t, h⟩
  rw [Value.flushed6]
  refine ext_at fun a b => (out6_at (iblk m c 0 t) (iblk m c 1 t) (iblk m c 2 t) (iblk m c 3 t) a b).trans ?_
  rw [sum_blk, iblk_2]
  exact (congrArg (result6 m c) (emb_4 t a b)).symm

theorem final_7 : (dats m 0 c).arrAt 7 cfg0.N = result7 m c := by
  refine (dats m 0 c).arrAt_eq_of_cover 7 (result7 m c) (fun t _ => ?_) fun i => (fill i).imp fun t h => ⟨flush0_7 t, h⟩
  rw [Value.flushed7]
  refine ext_at fun a b => (out7_at (iblk m c 0 t) (iblk m c 1 t) (iblk m c 2 t) (iblk m c 3 t) a b).trans ?_
  rw [sum_blk, iblk_3]
  exact (congrArg (result7 m c) (emb_4 t a b)).symm

end Blocks

end Cert.AdamUpQIdeal.RealValue

end
-- ==== Proof.AdamUpQ.lean ====
/- The claims about `AdamUpQ`: the summed gradient, the update and the moments are the reference's. -/
module

public import proofs.«01_k».proof.Defs
public import proofs.«01_k».proof.Proof.AdamUpQKernel
public import proofs.«01_k».proof.Proof.Gen.AdamUpQRefIdeal.Run
public import proofs.«01_k».proof.Proof.Gen.AdamUpQRefIdeal.Read

@[expose] public section

noncomputable section

namespace Cert.AdamUpQClaim

open Idealize.ShloMosaic Idealize.ShloMosaic.TcCoe Idealize.SL.Sem Cert.AdamExt Cert.Layout

/-! ## The tails: the step leaves zeros where the gradient, the weight and the moments are zero -/

theorem momE_zero : momE 0 0 = 0 := by simp [momE]

theorem varE_zero : varE 0 0 = 0 := by simp [varE]

theorem zero_div {y : EReal} (h : y ≠ 0) : Ideal.div 0 y = 0 := by
  unfold Ideal.div
  rw [if_neg h, zero_mul]

theorem sqrt_zero : Ideal.sqrt 0 = 0 := by
  show (if (0 : ℝ) < 0 then (⊥ : EReal) else ((Real.sqrt 0 : ℝ) : EReal)) = 0
  rw [if_neg (lt_irrefl _), Real.sqrt_zero, EReal.coe_zero]

/-- The two corrections and the guard are not zero. -/
theorem mom_ne : Ideal.ofBits FTy.f32 0x3F26BD02#32 ≠ 0 := by
  simp [Ideal.ofBits, Ideal.ieee]
theorem var_ne : Ideal.ofBits FTy.f32 0x3C231ACC#32 ≠ 0 := by
  simp [Ideal.ofBits, Ideal.ieee]
theorem guard_ne : Ideal.ofBits FTy.f32 0x322BCC77#32 ≠ 0 := by
  simp [Ideal.ofBits, Ideal.ieee]

theorem stepE_zero : stepE 0 0 0 0 = 0 := by
  unfold stepE
  rw [momE_zero, varE_zero, zero_div mom_ne, zero_div var_ne, sqrt_zero, zero_add, zero_div guard_ne, mul_zero, zero_add, mul_zero]

variable (f : Fin 8 → Fin 8 → Fin 192 → EReal) (g w m v : Fin 8 → Fin 192 → EReal) (j : Fin 2048)

/-- So heads with their tails may be joined before the sum and the step or after them. -/
theorem sum_tail : ∑ q, headE (f q) j = headE (fun h d => ∑ q, f q h d) j := by
  unfold headE
  split
  · rfl
  · exact Finset.sum_const_zero

theorem mom_tail : momE (headE g j) (headE m j) = headE (fun h d => momE (g h d) (m h d)) j := by
  unfold headE
  split
  · rfl
  · exact momE_zero

theorem var_tail : varE (headE g j) (headE v j) = headE (fun h d => varE (g h d) (v h d)) j := by
  unfold headE
  split
  · rfl
  · exact varE_zero

theorem step_tail : stepE (headE g j) (headE w j) (headE m j) (headE v j) = headE (fun h d => stepE (g h d) (w h d) (m h d) (v h d)) j := by
  unfold headE
  split
  · rfl
  · exact stepE_zero

section Reference

open Cert.AdamUpQRefIdeal Cert.AdamUpQRefIdeal.Read

variable (x0 : FVec Ideal S8x64x8x192 .f32) (x1 x2 x3 : FVec Ideal S1x64x8x192 .f32) (r : Fin 64) (b : Fin 8) (d : Fin 192)

/-- The reference's results at an entry: the sum of the parts, -/
theorem v1_entry : val_main_v1 (F := Ideal) x0 (ix4 0 r b d) = ∑ q : Fin 8, x0 (ix4 q r b d) := by
  unfold val_main_v1 val_main_v0 val_main_cst
  pointwise

/-- the moments, -/
theorem v6_entry : val_main_v6 (F := Ideal) x0 x2 (ix4 0 r b d) = momE (∑ q : Fin 8, x0 (ix4 q r b d)) (x2 (ix4 0 r b d)) := by
  rw [← v1_entry]
  rfl

theorem v12_entry : val_main_v12 (F := Ideal) x0 x3 (ix4 0 r b d) = varE (∑ q : Fin 8, x0 (ix4 q r b d)) (x3 (ix4 0 r b d)) := by
  rw [← v1_entry]
  rfl

/-- and the update. -/
theorem v25_entry :
    val_main_v25 (F := Ideal) x0 x1 x2 x3 (ix4 0 r b d) = stepE (∑ q : Fin 8, x0 (ix4 q r b d)) (x1 (ix4 0 r b d)) (x2 (ix4 0 r b d)) (x3 (ix4 0 r b d)) := by
  rw [← v1_entry]
  rfl

end Reference

/-- The reference's frame, from its generated run. -/
theorem reference_frame : quiescent_AdamUpQRefIdeal := fun m ρ _ =>
  (θ_run AdamUpQRefIdeal.defs _ _).mono
    (fun r h => ⟨fun c => (h c).2.2.2.2, sem_eq_zero_of_no_sems (by decide) r.2⟩)
    (AdamUpQRefIdeal.Value.run (F := Ideal) m ρ)

/-- The value claim. -/
theorem algebraic : algebraic_AdamUpQIdeal_AdamUpQRefIdeal := by
  intro m ρ m' ρ' _ hag
  refine ⟨AdamUpQIdeal.RealValue.result4 m, AdamUpQIdeal.RealValue.result5 m, AdamUpQIdeal.RealValue.result6 m, AdamUpQIdeal.RealValue.result7 m, ?_, ?_⟩
  · exact (θ_run AdamUpQIdeal.defs _ _).mono (fun r h c => ⟨(h c).1.trans (AdamUpQIdeal.RealValue.final_4 m c), (h c).2.1.trans (AdamUpQIdeal.RealValue.final_5 m c),
      (h c).2.2.1.trans (AdamUpQIdeal.RealValue.final_6 m c), (h c).2.2.2.1.trans (AdamUpQIdeal.RealValue.final_7 m c), (h c).2.2.2.2⟩) (AdamUpQIdeal.Value.run_blocks m ρ)
  · refine (θ_run AdamUpQRefIdeal.defs _ _).mono (fun r h c => ⟨(h c).1.trans ?_, (h c).2.1.trans ?_, (h c).2.2.1.trans ?_, (h c).2.2.2.1.trans ?_, (h c).2.2.2.2⟩) (AdamUpQRefIdeal.Value.run (F := Ideal) m' ρ')
    · rw [(hag c).1]
      refine (AdamUpQRefIdeal.Read.val_main_v27_eq _).trans (ext_at fun r b => ?_)
      refine (AdamUpQIdeal.RealValue.heads_1 _ _ (fun _ => sitofp_zero) _ _ _ 0 r b).trans ?_
      refine (congrArg (headE · b) (funext fun h => funext fun d => v1_entry _ r h d)).trans ?_
      exact (sum_tail _ b).symm
    · rw [(hag c).1, (hag c).2.1, (hag c).2.2.1, (hag c).2.2.2]
      refine (AdamUpQRefIdeal.Read.val_main_v29_eq _ _ _ _).trans (ext_at fun r b => ?_)
      refine (AdamUpQIdeal.RealValue.heads_1 _ _ (fun _ => sitofp_zero) _ _ _ 0 r b).trans ?_
      refine (congrArg (headE · b) (funext fun h => funext fun d => v25_entry _ _ _ _ r h d)).trans ?_
      exact ((congrArg (stepE · _ _ _) (sum_tail _ b)).trans (step_tail _ _ _ _ b)).symm
    · rw [(hag c).1, (hag c).2.2.1]
      refine (AdamUpQRefIdeal.Read.val_main_v31_eq _ _).trans (ext_at fun r b => ?_)
      refine (AdamUpQIdeal.RealValue.heads_1 _ _ (fun _ => sitofp_zero) _ _ _ 0 r b).trans ?_
      refine (congrArg (headE · b) (funext fun h => funext fun d => v6_entry _ _ r h d)).trans ?_
      exact ((congrArg (momE · _) (sum_tail _ b)).trans (mom_tail _ _ b)).symm
    · rw [(hag c).1, (hag c).2.2.2]
      refine (AdamUpQRefIdeal.Read.val_main_v33_eq _ _).trans (ext_at fun r b => ?_)
      refine (AdamUpQIdeal.RealValue.heads_1 _ _ (fun _ => sitofp_zero) _ _ _ 0 r b).trans ?_
      refine (congrArg (headE · b) (funext fun h => funext fun d => v12_entry _ _ r h d)).trans ?_
      exact ((congrArg (varE · _) (sum_tail _ b)).trans (var_tail _ _ b)).symm

end Cert.AdamUpQClaim

end
-- ==== Proof.lean ====
module

public import proofs.«01_k».proof.Defs
public import proofs.«01_k».proof.Proof.Gen.ConvPost.Frame
public import proofs.«01_k».proof.Proof.Gen.GradIn.Frame
public import proofs.«01_k».proof.Proof.Gen.GradInOne.Frame
public import proofs.«01_k».proof.Proof.Gen.GradInThree.Frame
public import proofs.«01_k».proof.Proof.Gen.GradOut.Frame
public import proofs.«01_k».proof.Proof.Gen.FfnBack
public import proofs.«01_k».proof.Proof.Gen.FfnFwd
public import proofs.«01_k».proof.Proof.Gen.GradConvIn.Frame
public import proofs.«01_k».proof.Proof.Gen.GradConvOut.Frame
public import proofs.«01_k».proof.Proof.Gen.GradAttnOut.Frame
public import proofs.«01_k».proof.Proof.Gen.GradDown.Frame
public import proofs.«01_k».proof.Proof.Gen.GradUpQ.Frame
public import proofs.«01_k».proof.Proof.Gen.GradUpKv.Frame
public import proofs.«01_k».proof.Proof.Gen.AttnOut.Frame
public import proofs.«01_k».proof.Proof.Gen.AttnOutBack.Frame
public import proofs.«01_k».proof.Proof.Gen.ConvPre.Frame
public import proofs.«01_k».proof.Proof.Gen.MlaPre.Frame
public import proofs.«01_k».proof.Proof.Gen.AdamConvIn.Frame
public import proofs.«01_k».proof.Proof.Gen.AdamConvOut.Frame
public import proofs.«01_k».proof.Proof.Gen.AdamDown.Frame
public import proofs.«01_k».proof.Proof.Gen.AdamUpKv.Frame
public import proofs.«01_k».proof.Proof.Gen.AdamUpQ.Frame
public import proofs.«01_k».proof.Proof.Gen.Pre_conv_post_finite
public import proofs.«01_k».proof.Proof.Gen.Pre_ffn_back_finite
public import proofs.«01_k».proof.Proof.ConvPost
public import proofs.«01_k».proof.Proof.GradIn
public import proofs.«01_k».proof.Proof.GradInOne
public import proofs.«01_k».proof.Proof.GradInThree
public import proofs.«01_k».proof.Proof.GradOut
public import proofs.«01_k».proof.Proof.FfnBackBits
public import proofs.«01_k».proof.Proof.FfnBack
public import proofs.«01_k».proof.Proof.FfnFwdBits
public import proofs.«01_k».proof.Proof.FfnFwd
public import proofs.«01_k».proof.Proof.GradConvIn
public import proofs.«01_k».proof.Proof.GradConvOut
public import proofs.«01_k».proof.Proof.GradAttnOut
public import proofs.«01_k».proof.Proof.GradDown
public import proofs.«01_k».proof.Proof.GradUpQ
public import proofs.«01_k».proof.Proof.GradUpKv
public import proofs.«01_k».proof.Proof.AttnOut
public import proofs.«01_k».proof.Proof.AttnOutBack
public import proofs.«01_k».proof.Proof.ConvPre
public import proofs.«01_k».proof.Proof.MlaPre
public import proofs.«01_k».proof.Proof.AdamConvIn
public import proofs.«01_k».proof.Proof.AdamConvOut
public import proofs.«01_k».proof.Proof.AdamDown
public import proofs.«01_k».proof.Proof.AdamUpKv
public import proofs.«01_k».proof.Proof.AdamUpQ
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨ConvPost.Gen.facts, ConvPostIdeal.Gen.facts, ConvPostRefIdeal.Gen.facts, GradIn.Gen.facts, GradInIdeal.Gen.facts, GradInRefIdeal.Gen.facts, GradInOne.Gen.facts, GradInOneIdeal.Gen.facts, GradInOneRefIdeal.Gen.facts, GradInThree.Gen.facts, GradInThreeIdeal.Gen.facts, GradInThreeRefIdeal.Gen.facts, GradOut.Gen.facts, GradOutIdeal.Gen.facts, GradOutRefIdeal.Gen.facts, FfnBack.Gen.facts, FfnBackIdeal.Gen.facts, FfnBackRefIdeal.Gen.facts, FfnFwd.Gen.facts, FfnFwdIdeal.Gen.facts, FfnFwdRefIdeal.Gen.facts, GradConvIn.Gen.facts, GradConvInIdeal.Gen.facts, GradConvInRefIdeal.Gen.facts, GradConvOut.Gen.facts, GradConvOutIdeal.Gen.facts, GradConvOutRefIdeal.Gen.facts, GradAttnOut.Gen.facts, GradAttnOutIdeal.Gen.facts, GradAttnOutRefIdeal.Gen.facts, GradDown.Gen.facts, GradDownIdeal.Gen.facts, GradDownRefIdeal.Gen.facts, GradUpQ.Gen.facts, GradUpQIdeal.Gen.facts, GradUpQRefIdeal.Gen.facts, GradUpKv.Gen.facts, GradUpKvIdeal.Gen.facts, GradUpKvRefIdeal.Gen.facts, AttnOut.Gen.facts, AttnOutIdeal.Gen.facts, AttnOutRefIdeal.Gen.facts, AttnOutBack.Gen.facts, AttnOutBackIdeal.Gen.facts, AttnOutBackRefIdeal.Gen.facts, ConvPre.Gen.facts, ConvPreIdeal.Gen.facts, ConvPreRefIdeal.Gen.facts, MlaPre.Gen.facts, MlaPreIdeal.Gen.facts, MlaPreRefIdeal.Gen.facts, AdamConvIn.Gen.facts, AdamConvInIdeal.Gen.facts, AdamConvInRefIdeal.Gen.facts, AdamConvOut.Gen.facts, AdamConvOutIdeal.Gen.facts, AdamConvOutRefIdeal.Gen.facts, AdamDown.Gen.facts, AdamDownIdeal.Gen.facts, AdamDownRefIdeal.Gen.facts, AdamUpKv.Gen.facts, AdamUpKvIdeal.Gen.facts, AdamUpKvRefIdeal.Gen.facts, AdamUpQ.Gen.facts, AdamUpQIdeal.Gen.facts, AdamUpQRefIdeal.Gen.facts, Pre_conv_post_finite.Gen.facts, Pre_ffn_back_finite.Gen.facts,
  fun m ρ _ => ConvPost.Gen.frame m ρ,
  fun m ρ _ => ConvPostIdeal.Gen.frame m ρ,
  fun m ρ _ => ConvPostIdeal.Gen.frame m ρ,
  ConvPostClaim.reference_frame,
  fun m ρ _ => ConvPostClaim.reference_frame m ρ trivial,
  fun m ρ _ => GradIn.Gen.frame m ρ,
  fun m ρ _ => GradInIdeal.Gen.frame m ρ,
  GradInClaim.reference_frame,
  fun m ρ _ => GradInOne.Gen.frame m ρ,
  fun m ρ _ => GradInOneIdeal.Gen.frame m ρ,
  GradInOneClaim.reference_frame,
  fun m ρ _ => GradInThree.Gen.frame m ρ,
  fun m ρ _ => GradInThreeIdeal.Gen.frame m ρ,
  GradInThreeClaim.reference_frame,
  fun m ρ _ => GradOut.Gen.frame m ρ,
  fun m ρ _ => GradOutIdeal.Gen.frame m ρ,
  GradOutClaim.reference_frame,
  FfnBackClaim.kernel_frame,
  fun m ρ _ => FfnBackIdealRun.frame (F := Ideal) m ρ,
  fun m ρ _ => FfnBackIdealRun.frame (F := Ideal) m ρ,
  FfnBackClaim.reference_frame,
  fun m ρ _ => FfnBackClaim.reference_frame m ρ trivial,
  FfnFwdClaim.kernel_frame,
  fun m ρ _ => FfnFwdIdealRun.frame (F := Ideal) m ρ,
  FfnFwdClaim.reference_frame,
  fun m ρ _ => GradConvIn.Gen.frame m ρ,
  fun m ρ _ => GradConvInIdeal.Gen.frame m ρ,
  GradConvInClaim.reference_frame,
  fun m ρ _ => GradConvOut.Gen.frame m ρ,
  fun m ρ _ => GradConvOutIdeal.Gen.frame m ρ,
  GradConvOutClaim.reference_frame,
  fun m ρ _ => GradAttnOut.Gen.frame m ρ,
  fun m ρ _ => GradAttnOutIdeal.Gen.frame m ρ,
  GradAttnOutClaim.reference_frame,
  fun m ρ _ => GradDown.Gen.frame m ρ,
  fun m ρ _ => GradDownIdeal.Gen.frame m ρ,
  GradDownClaim.reference_frame,
  fun m ρ _ => GradUpQ.Gen.frame m ρ,
  fun m ρ _ => GradUpQIdeal.Gen.frame m ρ,
  GradUpQClaim.reference_frame,
  fun m ρ _ => GradUpKv.Gen.frame m ρ,
  fun m ρ _ => GradUpKvIdeal.Gen.frame m ρ,
  GradUpKvClaim.reference_frame,
  fun m ρ _ => AttnOut.Gen.frame m ρ,
  fun m ρ _ => AttnOutIdeal.Gen.frame m ρ,
  AttnOutClaim.reference_frame,
  fun m ρ _ => AttnOutBack.Gen.frame m ρ,
  fun m ρ _ => AttnOutBackIdeal.Gen.frame m ρ,
  AttnOutBackClaim.reference_frame,
  fun m ρ _ => ConvPre.Gen.frame m ρ,
  fun m ρ _ => ConvPreIdeal.Gen.frame m ρ,
  ConvPreClaim.reference_frame,
  fun m ρ _ => MlaPre.Gen.frame m ρ,
  fun m ρ _ => MlaPreIdeal.Gen.frame m ρ,
  MlaPreClaim.reference_frame,
  fun m ρ _ => AdamConvIn.Gen.frame m ρ,
  fun m ρ _ => AdamConvInIdeal.Gen.frame m ρ,
  AdamConvInClaim.reference_frame,
  fun m ρ _ => AdamConvOut.Gen.frame m ρ,
  fun m ρ _ => AdamConvOutIdeal.Gen.frame m ρ,
  AdamConvOutClaim.reference_frame,
  fun m ρ _ => AdamDown.Gen.frame m ρ,
  fun m ρ _ => AdamDownIdeal.Gen.frame m ρ,
  AdamDownClaim.reference_frame,
  fun m ρ _ => AdamUpKv.Gen.frame m ρ,
  fun m ρ _ => AdamUpKvIdeal.Gen.frame m ρ,
  AdamUpKvClaim.reference_frame,
  fun m ρ _ => AdamUpQ.Gen.frame m ρ,
  fun m ρ _ => AdamUpQIdeal.Gen.frame m ρ,
  AdamUpQClaim.reference_frame,
  trivial,
  ConvPostClaim.algebraic,
  trivial,
  GradInClaim.algebraic,
  trivial,
  GradInOneClaim.algebraic,
  trivial,
  GradInThreeClaim.algebraic,
  trivial,
  GradOutClaim.algebraic,
  trivial,
  FfnBackClaim.algebraic,
  trivial,
  FfnFwdClaim.algebraic,
  trivial,
  GradConvInClaim.algebraic,
  trivial,
  GradConvOutClaim.algebraic,
  trivial,
  GradAttnOutClaim.algebraic,
  trivial,
  GradDownClaim.algebraic,
  trivial,
  GradUpQClaim.algebraic,
  trivial,
  GradUpKvClaim.algebraic,
  trivial,
  AttnOutClaim.algebraic,
  trivial,
  AttnOutBackClaim.algebraic,
  trivial,
  ConvPreClaim.algebraic,
  trivial,
  MlaPreClaim.algebraic,
  trivial,
  AdamConvInClaim.algebraic,
  trivial,
  AdamConvOutClaim.algebraic,
  trivial,
  AdamDownClaim.algebraic,
  trivial,
  AdamUpKvClaim.algebraic,
  trivial,
  AdamUpQClaim.algebraic⟩

end Cert.Proof

end
